-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInReferenceIdeal (m : (ℓ : Loc Cert.GwInReferenceIdeal.nD Cert.GwInReferenceIdeal.τ Cert.GwInReferenceIdeal.sig) → Buf (Elt Ideal) ℓ) : Prop :=
  True

def Pre_DN (m : (ℓ : Loc Cert.DN.nD Cert.DN.τ Cert.DN.sig) → Buf (Elt Bits) ℓ) : Prop :=
  True

def Pre_DNIdeal (m : (ℓ : Loc Cert.DNIdeal.nD Cert.DNIdeal.τ Cert.DNIdeal.sig) → Buf (Elt Ideal) ℓ) : Prop :=
  True

def Pre_DNReferenceIdeal (m : (ℓ : Loc Cert.DNReferenceIdeal.nD Cert.DNReferenceIdeal.τ Cert.DNReferenceIdeal.sig) → Buf (Elt Ideal) ℓ) : Prop :=
  True

def Pre_GwUp (m : (ℓ : Loc Cert.GwUp.nD Cert.GwUp.τ Cert.GwUp.sig) → Buf (Elt Bits) ℓ) : Prop :=
  True

def Pre_GwUpIdeal (m : (ℓ : Loc Cert.GwUpIdeal.nD Cert.GwUpIdeal.τ Cert.GwUpIdeal.sig) → Buf (Elt Ideal) ℓ) : Prop :=
  True

def Pre_GwUpReferenceIdeal (m : (ℓ : Loc Cert.GwUpReferenceIdeal.nD Cert.GwUpReferenceIdeal.τ Cert.GwUpReferenceIdeal.sig) → Buf (Elt Ideal) ℓ) : Prop :=
  True

def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_GwDownReferenceIdeal (m : (ℓ : Loc Cert.GwDownReferenceIdeal.nD Cert.GwDownReferenceIdeal.τ Cert.GwDownReferenceIdeal.sig) → Buf (Elt Ideal) ℓ) : Prop :=
  True

def Pre_DUp (m : (ℓ : Loc Cert.DUp.nD Cert.DUp.τ Cert.DUp.sig) → Buf (Elt Bits) ℓ) : Prop :=
  True

def Pre_DUpIdeal (m : (ℓ : Loc Cert.DUpIdeal.nD Cert.DUpIdeal.τ Cert.DUpIdeal.sig) → Buf (Elt Ideal) ℓ) : Prop :=
  True

def Pre_DUpReferenceIdeal (m : (ℓ : Loc Cert.DUpReferenceIdeal.nD Cert.DUpReferenceIdeal.τ Cert.DUpReferenceIdeal.sig) → Buf (Elt Ideal) ℓ) : Prop :=
  True

def Pre_DNTwo (m : (ℓ : Loc Cert.DNTwo.nD Cert.DNTwo.τ Cert.DNTwo.sig) → Buf (Elt Bits) ℓ) : Prop :=
  True

def Pre_DNTwoIdeal (m : (ℓ : Loc Cert.DNTwoIdeal.nD Cert.DNTwoIdeal.τ Cert.DNTwoIdeal.sig) → Buf (Elt Ideal) ℓ) : Prop :=
  True

def Pre_DNTwoReferenceIdeal (m : (ℓ : Loc Cert.DNTwoReferenceIdeal.nD Cert.DNTwoReferenceIdeal.τ Cert.DNTwoReferenceIdeal.sig) → Buf (Elt Ideal) ℓ) : Prop :=
  True

def Pre_DM (m : (ℓ : Loc Cert.DM.nD Cert.DM.τ Cert.DM.sig) → Buf (Elt Bits) ℓ) : Prop :=
  True

def Pre_DMIdeal (m : (ℓ : Loc Cert.DMIdeal.nD Cert.DMIdeal.τ Cert.DMIdeal.sig) → Buf (Elt Ideal) ℓ) : Prop :=
  True

def Pre_DMReferenceIdeal (m : (ℓ : Loc Cert.DMReferenceIdeal.nD Cert.DMReferenceIdeal.τ Cert.DMReferenceIdeal.sig) → Buf (Elt Ideal) ℓ) : Prop :=
  True

def Pre_GwO (m : (ℓ : Loc Cert.GwO.nD Cert.GwO.τ Cert.GwO.sig) → Buf (Elt Bits) ℓ) : Prop :=
  True

def Pre_GwOIdeal (m : (ℓ : Loc Cert.GwOIdeal.nD Cert.GwOIdeal.τ Cert.GwOIdeal.sig) → Buf (Elt Ideal) ℓ) : Prop :=
  True

def Pre_GwOReferenceIdeal (m : (ℓ : Loc Cert.GwOReferenceIdeal.nD Cert.GwOReferenceIdeal.τ Cert.GwOReferenceIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActReferenceIdeal (m : (ℓ : Loc Cert.DActReferenceIdeal.nD Cert.DActReferenceIdeal.τ Cert.DActReferenceIdeal.sig) → Buf (Elt Ideal) ℓ) : Prop :=
  True

def Pre_GwPw (m : (ℓ : Loc Cert.GwPw.nD Cert.GwPw.τ Cert.GwPw.sig) → Buf (Elt Bits) ℓ) : Prop :=
  True

def Pre_GwPwIdeal (m : (ℓ : Loc Cert.GwPwIdeal.nD Cert.GwPwIdeal.τ Cert.GwPwIdeal.sig) → Buf (Elt Ideal) ℓ) : Prop :=
  True

def Pre_GwPwReferenceIdeal (m : (ℓ : Loc Cert.GwPwReferenceIdeal.nD Cert.GwPwReferenceIdeal.τ Cert.GwPwReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_YA (m : (ℓ : Loc Cert.YA.nD Cert.YA.τ Cert.YA.sig) → Buf (Elt Bits) ℓ) : Prop :=
  True

def Pre_YAIdeal (m : (ℓ : Loc Cert.YAIdeal.nD Cert.YAIdeal.τ Cert.YAIdeal.sig) → Buf (Elt Ideal) ℓ) : Prop :=
  True

def Pre_YAReferenceIdeal (m : (ℓ : Loc Cert.YAReferenceIdeal.nD Cert.YAReferenceIdeal.τ Cert.YAReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdReferenceIdeal (m : (ℓ : Loc Cert.GateBwdReferenceIdeal.nD Cert.GateBwdReferenceIdeal.τ Cert.GateBwdReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInReferenceIdeal (m : (ℓ : Loc Cert.NormInReferenceIdeal.nD Cert.NormInReferenceIdeal.τ Cert.NormInReferenceIdeal.sig) → Buf (Elt Ideal) ℓ) : Prop :=
  True

def Pre_PostMix (m : (ℓ : Loc Cert.PostMix.nD Cert.PostMix.τ Cert.PostMix.sig) → Buf (Elt Bits) ℓ) : Prop :=
  True

def Pre_PostMixIdeal (m : (ℓ : Loc Cert.PostMixIdeal.nD Cert.PostMixIdeal.τ Cert.PostMixIdeal.sig) → Buf (Elt Ideal) ℓ) : Prop :=
  True

def Pre_PostMixReferenceIdeal (m : (ℓ : Loc Cert.PostMixReferenceIdeal.nD Cert.PostMixReferenceIdeal.τ Cert.PostMixReferenceIdeal.sig) → Buf (Elt Ideal) ℓ) : Prop :=
  True

def Pre_BranchAct (m : (ℓ : Loc Cert.BranchAct.nD Cert.BranchAct.τ Cert.BranchAct.sig) → Buf (Elt Bits) ℓ) : Prop :=
  True

def Pre_BranchActIdeal (m : (ℓ : Loc Cert.BranchActIdeal.nD Cert.BranchActIdeal.τ Cert.BranchActIdeal.sig) → Buf (Elt Ideal) ℓ) : Prop :=
  True

def Pre_BranchActReferenceIdeal (m : (ℓ : Loc Cert.BranchActReferenceIdeal.nD Cert.BranchActReferenceIdeal.τ Cert.BranchActReferenceIdeal.sig) → Buf (Elt Ideal) ℓ) : Prop :=
  True

def Pre_BranchBwd (m : (ℓ : Loc Cert.BranchBwd.nD Cert.BranchBwd.τ Cert.BranchBwd.sig) → Buf (Elt Bits) ℓ) : Prop :=
  True

def Pre_BranchBwdIdeal (m : (ℓ : Loc Cert.BranchBwdIdeal.nD Cert.BranchBwdIdeal.τ Cert.BranchBwdIdeal.sig) → Buf (Elt Ideal) ℓ) : Prop :=
  True

def Pre_BranchBwdIdeal_finite_rows [hPre_finite_rows : Cert.Pre_finite_rows.Facts] (m : (ℓ : Loc Cert.BranchBwdIdeal.nD Cert.BranchBwdIdeal.τ Cert.BranchBwdIdeal.sig) → Buf (Elt Ideal) ℓ) : Prop :=
  ∀ c : Dev Cert.BranchBwdIdeal.nD,
    (Cert.Pre_finite_rows.fn (F := Ideal) (m ((c.tc : Thread Cert.BranchBwdIdeal.nD Cert.BranchBwdIdeal.τ).loc Cert.BranchBwdIdeal.main_arg0)) (m ((c.tc : Thread Cert.BranchBwdIdeal.nD Cert.BranchBwdIdeal.τ).loc Cert.BranchBwdIdeal.main_arg1)) (m ((c.tc : Thread Cert.BranchBwdIdeal.nD Cert.BranchBwdIdeal.τ).loc Cert.BranchBwdIdeal.main_arg2)) (m ((c.tc : Thread Cert.BranchBwdIdeal.nD Cert.BranchBwdIdeal.τ).loc Cert.BranchBwdIdeal.main_arg3)) (m ((c.tc : Thread Cert.BranchBwdIdeal.nD Cert.BranchBwdIdeal.τ).loc Cert.BranchBwdIdeal.main_arg4)) (m ((c.tc : Thread Cert.BranchBwdIdeal.nD Cert.BranchBwdIdeal.τ).loc Cert.BranchBwdIdeal.main_arg5)) (m ((c.tc : Thread Cert.BranchBwdIdeal.nD Cert.BranchBwdIdeal.τ).loc Cert.BranchBwdIdeal.main_arg6))) = (fun _ => 1#1)

def Pre_BranchBwdReferenceIdeal (m : (ℓ : Loc Cert.BranchBwdReferenceIdeal.nD Cert.BranchBwdReferenceIdeal.τ Cert.BranchBwdReferenceIdeal.sig) → Buf (Elt Ideal) ℓ) : Prop :=
  True

def Pre_BranchBwdReferenceIdeal_finite_rows [hPre_finite_rows : Cert.Pre_finite_rows.Facts] (m : (ℓ : Loc Cert.BranchBwdReferenceIdeal.nD Cert.BranchBwdReferenceIdeal.τ Cert.BranchBwdReferenceIdeal.sig) → Buf (Elt Ideal) ℓ) : Prop :=
  ∀ c : Dev Cert.BranchBwdReferenceIdeal.nD,
    (Cert.Pre_finite_rows.fn (F := Ideal) (m ((c.tc : Thread Cert.BranchBwdReferenceIdeal.nD Cert.BranchBwdReferenceIdeal.τ).loc Cert.BranchBwdReferenceIdeal.main_arg0)) (m ((c.tc : Thread Cert.BranchBwdReferenceIdeal.nD Cert.BranchBwdReferenceIdeal.τ).loc Cert.BranchBwdReferenceIdeal.main_arg1)) (m ((c.tc : Thread Cert.BranchBwdReferenceIdeal.nD Cert.BranchBwdReferenceIdeal.τ).loc Cert.BranchBwdReferenceIdeal.main_arg2)) (m ((c.tc : Thread Cert.BranchBwdReferenceIdeal.nD Cert.BranchBwdReferenceIdeal.τ).loc Cert.BranchBwdReferenceIdeal.main_arg3)) (m ((c.tc : Thread Cert.BranchBwdReferenceIdeal.nD Cert.BranchBwdReferenceIdeal.τ).loc Cert.BranchBwdReferenceIdeal.main_arg4)) (m ((c.tc : Thread Cert.BranchBwdReferenceIdeal.nD Cert.BranchBwdReferenceIdeal.τ).loc Cert.BranchBwdReferenceIdeal.main_arg5)) (m ((c.tc : Thread Cert.BranchBwdReferenceIdeal.nD Cert.BranchBwdReferenceIdeal.τ).loc Cert.BranchBwdReferenceIdeal.main_arg6))) = (fun _ => 1#1)

def Pre_BwdMid (m : (ℓ : Loc Cert.BwdMid.nD Cert.BwdMid.τ Cert.BwdMid.sig) → Buf (Elt Bits) ℓ) : Prop :=
  True

def Pre_BwdMidIdeal (m : (ℓ : Loc Cert.BwdMidIdeal.nD Cert.BwdMidIdeal.τ Cert.BwdMidIdeal.sig) → Buf (Elt Ideal) ℓ) : Prop :=
  True

def Pre_BwdMidReferenceIdeal (m : (ℓ : Loc Cert.BwdMidReferenceIdeal.nD Cert.BwdMidReferenceIdeal.τ Cert.BwdMidReferenceIdeal.sig) → Buf (Elt Ideal) ℓ) : Prop :=
  True

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInReferenceIdeal (m : (ℓ : Loc Cert.BwdInReferenceIdeal.nD Cert.BwdInReferenceIdeal.τ Cert.BwdInReferenceIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInReferenceIdeal [hGwInReferenceIdeal : Cert.GwInReferenceIdeal.Facts] : Prop :=
  ∀ (m : (ℓ : Loc Cert.GwInReferenceIdeal.nD Cert.GwInReferenceIdeal.τ Cert.GwInReferenceIdeal.sig) → Buf (Elt Ideal) ℓ) (g : Dev Cert.GwInReferenceIdeal.nD → PrngReg), Pre_GwInReferenceIdeal m →
    θ_run (Cert.GwInReferenceIdeal.defs (F := Ideal)) (onTc (τ := Cert.GwInReferenceIdeal.τ) (Cert.GwInReferenceIdeal.main (F := Ideal))) ⟨m, fun _ => 0, g⟩ (fun r => (∀ c : Dev Cert.GwInReferenceIdeal.nD,
      r.2.mem ((c.tc : Thread Cert.GwInReferenceIdeal.nD Cert.GwInReferenceIdeal.τ).loc Cert.GwInReferenceIdeal.main_arg0) = m ((c.tc : Thread Cert.GwInReferenceIdeal.nD Cert.GwInReferenceIdeal.τ).loc Cert.GwInReferenceIdeal.main_arg0)
      ∧ r.2.mem ((c.tc : Thread Cert.GwInReferenceIdeal.nD Cert.GwInReferenceIdeal.τ).loc Cert.GwInReferenceIdeal.main_arg1) = m ((c.tc : Thread Cert.GwInReferenceIdeal.nD Cert.GwInReferenceIdeal.τ).loc Cert.GwInReferenceIdeal.main_arg1))
      ∧ r.2.sem = fun _ => 0)

def quiescent_DN [hDN : Cert.DN.Facts] : Prop :=
  ∀ (m : (ℓ : Loc Cert.DN.nD Cert.DN.τ Cert.DN.sig) → Buf (Elt Bits) ℓ) (g : Dev Cert.DN.nD → PrngReg), Pre_DN m →
    θ_run (Cert.DN.defs (F := Bits)) (onTc (τ := Cert.DN.τ) (Cert.DN.main (F := Bits))) ⟨m, fun _ => 0, g⟩ (fun r => (∀ c : Dev Cert.DN.nD,
      r.2.mem ((c.tc : Thread Cert.DN.nD Cert.DN.τ).loc Cert.DN.main_arg0) = m ((c.tc : Thread Cert.DN.nD Cert.DN.τ).loc Cert.DN.main_arg0)
      ∧ r.2.mem ((c.tc : Thread Cert.DN.nD Cert.DN.τ).loc Cert.DN.main_arg1) = m ((c.tc : Thread Cert.DN.nD Cert.DN.τ).loc Cert.DN.main_arg1))
      ∧ r.2.sem = fun _ => 0)

def quiescent_DNIdeal [hDNIdeal : Cert.DNIdeal.Facts] : Prop :=
  ∀ (m : (ℓ : Loc Cert.DNIdeal.nD Cert.DNIdeal.τ Cert.DNIdeal.sig) → Buf (Elt Ideal) ℓ) (g : Dev Cert.DNIdeal.nD → PrngReg), Pre_DNIdeal m →
    θ_run (Cert.DNIdeal.defs (F := Ideal)) (onTc (τ := Cert.DNIdeal.τ) (Cert.DNIdeal.main (F := Ideal))) ⟨m, fun _ => 0, g⟩ (fun r => (∀ c : Dev Cert.DNIdeal.nD,
      r.2.mem ((c.tc : Thread Cert.DNIdeal.nD Cert.DNIdeal.τ).loc Cert.DNIdeal.main_arg0) = m ((c.tc : Thread Cert.DNIdeal.nD Cert.DNIdeal.τ).loc Cert.DNIdeal.main_arg0)
      ∧ r.2.mem ((c.tc : Thread Cert.DNIdeal.nD Cert.DNIdeal.τ).loc Cert.DNIdeal.main_arg1) = m ((c.tc : Thread Cert.DNIdeal.nD Cert.DNIdeal.τ).loc Cert.DNIdeal.main_arg1))
      ∧ r.2.sem = fun _ => 0)

def quiescent_DNReferenceIdeal [hDNReferenceIdeal : Cert.DNReferenceIdeal.Facts] : Prop :=
  ∀ (m : (ℓ : Loc Cert.DNReferenceIdeal.nD Cert.DNReferenceIdeal.τ Cert.DNReferenceIdeal.sig) → Buf (Elt Ideal) ℓ) (g : Dev Cert.DNReferenceIdeal.nD → PrngReg), Pre_DNReferenceIdeal m →
    θ_run (Cert.DNReferenceIdeal.defs (F := Ideal)) (onTc (τ := Cert.DNReferenceIdeal.τ) (Cert.DNReferenceIdeal.main (F := Ideal))) ⟨m, fun _ => 0, g⟩ (fun r => (∀ c : Dev Cert.DNReferenceIdeal.nD,
      r.2.mem ((c.tc : Thread Cert.DNReferenceIdeal.nD Cert.DNReferenceIdeal.τ).loc Cert.DNReferenceIdeal.main_arg0) = m ((c.tc : Thread Cert.DNReferenceIdeal.nD Cert.DNReferenceIdeal.τ).loc Cert.DNReferenceIdeal.main_arg0)
      ∧ r.2.mem ((c.tc : Thread Cert.DNReferenceIdeal.nD Cert.DNReferenceIdeal.τ).loc Cert.DNReferenceIdeal.main_arg1) = m ((c.tc : Thread Cert.DNReferenceIdeal.nD Cert.DNReferenceIdeal.τ).loc Cert.DNReferenceIdeal.main_arg1))
      ∧ r.2.sem = fun _ => 0)

def quiescent_GwUp [hGwUp : Cert.GwUp.Facts] : Prop :=
  ∀ (m : (ℓ : Loc Cert.GwUp.nD Cert.GwUp.τ Cert.GwUp.sig) → Buf (Elt Bits) ℓ) (g : Dev Cert.GwUp.nD → PrngReg), Pre_GwUp m →
    θ_run (Cert.GwUp.defs (F := Bits)) (onTc (τ := Cert.GwUp.τ) (Cert.GwUp.main (F := Bits))) ⟨m, fun _ => 0, g⟩ (fun r => (∀ c : Dev Cert.GwUp.nD,
      r.2.mem ((c.tc : Thread Cert.GwUp.nD Cert.GwUp.τ).loc Cert.GwUp.main_arg0) = m ((c.tc : Thread Cert.GwUp.nD Cert.GwUp.τ).loc Cert.GwUp.main_arg0)
      ∧ r.2.mem ((c.tc : Thread Cert.GwUp.nD Cert.GwUp.τ).loc Cert.GwUp.main_arg1) = m ((c.tc : Thread Cert.GwUp.nD Cert.GwUp.τ).loc Cert.GwUp.main_arg1))
      ∧ r.2.sem = fun _ => 0)

def quiescent_GwUpIdeal [hGwUpIdeal : Cert.GwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg), Pre_GwUpIdeal m →
    θ_run (Cert.GwUpIdeal.defs (F := Ideal)) (onTc (τ := Cert.GwUpIdeal.τ) (Cert.GwUpIdeal.main (F := Ideal))) ⟨m, fun _ => 0, g⟩ (fun r => (∀ c : Dev Cert.GwUpIdeal.nD,
      r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
      ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ r.2.sem = fun _ => 0)

def quiescent_GwUpReferenceIdeal [hGwUpReferenceIdeal : Cert.GwUpReferenceIdeal.Facts] : Prop :=
  ∀ (m : (ℓ : Loc Cert.GwUpReferenceIdeal.nD Cert.GwUpReferenceIdeal.τ Cert.GwUpReferenceIdeal.sig) → Buf (Elt Ideal) ℓ) (g : Dev Cert.GwUpReferenceIdeal.nD → PrngReg), Pre_GwUpReferenceIdeal m →
    θ_run (Cert.GwUpReferenceIdeal.defs (F := Ideal)) (onTc (τ := Cert.GwUpReferenceIdeal.τ) (Cert.GwUpReferenceIdeal.main (F := Ideal))) ⟨m, fun _ => 0, g⟩ (fun r => (∀ c : Dev Cert.GwUpReferenceIdeal.nD,
      r.2.mem ((c.tc : Thread Cert.GwUpReferenceIdeal.nD Cert.GwUpReferenceIdeal.τ).loc Cert.GwUpReferenceIdeal.main_arg0) = m ((c.tc : Thread Cert.GwUpReferenceIdeal.nD Cert.GwUpReferenceIdeal.τ).loc Cert.GwUpReferenceIdeal.main_arg0)
      ∧ r.2.mem ((c.tc : Thread Cert.GwUpReferenceIdeal.nD Cert.GwUpReferenceIdeal.τ).loc Cert.GwUpReferenceIdeal.main_arg1) = m ((c.tc : Thread Cert.GwUpReferenceIdeal.nD Cert.GwUpReferenceIdeal.τ).loc Cert.GwUpReferenceIdeal.main_arg1))
      ∧ r.2.sem = fun _ => 0)

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_GwDownReferenceIdeal [hGwDownReferenceIdeal : Cert.GwDownReferenceIdeal.Facts] : Prop :=
  ∀ (m : (ℓ : Loc Cert.GwDownReferenceIdeal.nD Cert.GwDownReferenceIdeal.τ Cert.GwDownReferenceIdeal.sig) → Buf (Elt Ideal) ℓ) (g : Dev Cert.GwDownReferenceIdeal.nD → PrngReg), Pre_GwDownReferenceIdeal m →
    θ_run (Cert.GwDownReferenceIdeal.defs (F := Ideal)) (onTc (τ := Cert.GwDownReferenceIdeal.τ) (Cert.GwDownReferenceIdeal.main (F := Ideal))) ⟨m, fun _ => 0, g⟩ (fun r => (∀ c : Dev Cert.GwDownReferenceIdeal.nD,
      r.2.mem ((c.tc : Thread Cert.GwDownReferenceIdeal.nD Cert.GwDownReferenceIdeal.τ).loc Cert.GwDownReferenceIdeal.main_arg0) = m ((c.tc : Thread Cert.GwDownReferenceIdeal.nD Cert.GwDownReferenceIdeal.τ).loc Cert.GwDownReferenceIdeal.main_arg0)
      ∧ r.2.mem ((c.tc : Thread Cert.GwDownReferenceIdeal.nD Cert.GwDownReferenceIdeal.τ).loc Cert.GwDownReferenceIdeal.main_arg1) = m ((c.tc : Thread Cert.GwDownReferenceIdeal.nD Cert.GwDownReferenceIdeal.τ).loc Cert.GwDownReferenceIdeal.main_arg1))
      ∧ r.2.sem = fun _ => 0)

def quiescent_DUp [hDUp : Cert.DUp.Facts] : Prop :=
  ∀ (m : (ℓ : Loc Cert.DUp.nD Cert.DUp.τ Cert.DUp.sig) → Buf (Elt Bits) ℓ) (g : Dev Cert.DUp.nD → PrngReg), Pre_DUp m →
    θ_run (Cert.DUp.defs (F := Bits)) (onTc (τ := Cert.DUp.τ) (Cert.DUp.main (F := Bits))) ⟨m, fun _ => 0, g⟩ (fun r => (∀ c : Dev Cert.DUp.nD,
      r.2.mem ((c.tc : Thread Cert.DUp.nD Cert.DUp.τ).loc Cert.DUp.main_arg0) = m ((c.tc : Thread Cert.DUp.nD Cert.DUp.τ).loc Cert.DUp.main_arg0)
      ∧ r.2.mem ((c.tc : Thread Cert.DUp.nD Cert.DUp.τ).loc Cert.DUp.main_arg1) = m ((c.tc : Thread Cert.DUp.nD Cert.DUp.τ).loc Cert.DUp.main_arg1)
      ∧ r.2.mem ((c.tc : Thread Cert.DUp.nD Cert.DUp.τ).loc Cert.DUp.main_arg2) = m ((c.tc : Thread Cert.DUp.nD Cert.DUp.τ).loc Cert.DUp.main_arg2))
      ∧ r.2.sem = fun _ => 0)

def quiescent_DUpIdeal [hDUpIdeal : Cert.DUpIdeal.Facts] : Prop :=
  ∀ (m : (ℓ : Loc Cert.DUpIdeal.nD Cert.DUpIdeal.τ Cert.DUpIdeal.sig) → Buf (Elt Ideal) ℓ) (g : Dev Cert.DUpIdeal.nD → PrngReg), Pre_DUpIdeal m →
    θ_run (Cert.DUpIdeal.defs (F := Ideal)) (onTc (τ := Cert.DUpIdeal.τ) (Cert.DUpIdeal.main (F := Ideal))) ⟨m, fun _ => 0, g⟩ (fun r => (∀ c : Dev Cert.DUpIdeal.nD,
      r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
      ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
      ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2))
      ∧ r.2.sem = fun _ => 0)

def quiescent_DUpReferenceIdeal [hDUpReferenceIdeal : Cert.DUpReferenceIdeal.Facts] : Prop :=
  ∀ (m : (ℓ : Loc Cert.DUpReferenceIdeal.nD Cert.DUpReferenceIdeal.τ Cert.DUpReferenceIdeal.sig) → Buf (Elt Ideal) ℓ) (g : Dev Cert.DUpReferenceIdeal.nD → PrngReg), Pre_DUpReferenceIdeal m →
    θ_run (Cert.DUpReferenceIdeal.defs (F := Ideal)) (onTc (τ := Cert.DUpReferenceIdeal.τ) (Cert.DUpReferenceIdeal.main (F := Ideal))) ⟨m, fun _ => 0, g⟩ (fun r => (∀ c : Dev Cert.DUpReferenceIdeal.nD,
      r.2.mem ((c.tc : Thread Cert.DUpReferenceIdeal.nD Cert.DUpReferenceIdeal.τ).loc Cert.DUpReferenceIdeal.main_arg0) = m ((c.tc : Thread Cert.DUpReferenceIdeal.nD Cert.DUpReferenceIdeal.τ).loc Cert.DUpReferenceIdeal.main_arg0)
      ∧ r.2.mem ((c.tc : Thread Cert.DUpReferenceIdeal.nD Cert.DUpReferenceIdeal.τ).loc Cert.DUpReferenceIdeal.main_arg1) = m ((c.tc : Thread Cert.DUpReferenceIdeal.nD Cert.DUpReferenceIdeal.τ).loc Cert.DUpReferenceIdeal.main_arg1)
      ∧ r.2.mem ((c.tc : Thread Cert.DUpReferenceIdeal.nD Cert.DUpReferenceIdeal.τ).loc Cert.DUpReferenceIdeal.main_arg2) = m ((c.tc : Thread Cert.DUpReferenceIdeal.nD Cert.DUpReferenceIdeal.τ).loc Cert.DUpReferenceIdeal.main_arg2))
      ∧ r.2.sem = fun _ => 0)

def quiescent_DNTwo [hDNTwo : Cert.DNTwo.Facts] : Prop :=
  ∀ (m : (ℓ : Loc Cert.DNTwo.nD Cert.DNTwo.τ Cert.DNTwo.sig) → Buf (Elt Bits) ℓ) (g : Dev Cert.DNTwo.nD → PrngReg), Pre_DNTwo m →
    θ_run (Cert.DNTwo.defs (F := Bits)) (onTc (τ := Cert.DNTwo.τ) (Cert.DNTwo.main (F := Bits))) ⟨m, fun _ => 0, g⟩ (fun r => (∀ c : Dev Cert.DNTwo.nD,
      r.2.mem ((c.tc : Thread Cert.DNTwo.nD Cert.DNTwo.τ).loc Cert.DNTwo.main_arg0) = m ((c.tc : Thread Cert.DNTwo.nD Cert.DNTwo.τ).loc Cert.DNTwo.main_arg0)
      ∧ r.2.mem ((c.tc : Thread Cert.DNTwo.nD Cert.DNTwo.τ).loc Cert.DNTwo.main_arg1) = m ((c.tc : Thread Cert.DNTwo.nD Cert.DNTwo.τ).loc Cert.DNTwo.main_arg1))
      ∧ r.2.sem = fun _ => 0)

def quiescent_DNTwoIdeal [hDNTwoIdeal : Cert.DNTwoIdeal.Facts] : Prop :=
  ∀ (m : (ℓ : Loc Cert.DNTwoIdeal.nD Cert.DNTwoIdeal.τ Cert.DNTwoIdeal.sig) → Buf (Elt Ideal) ℓ) (g : Dev Cert.DNTwoIdeal.nD → PrngReg), Pre_DNTwoIdeal m →
    θ_run (Cert.DNTwoIdeal.defs (F := Ideal)) (onTc (τ := Cert.DNTwoIdeal.τ) (Cert.DNTwoIdeal.main (F := Ideal))) ⟨m, fun _ => 0, g⟩ (fun r => (∀ c : Dev Cert.DNTwoIdeal.nD,
      r.2.mem ((c.tc : Thread Cert.DNTwoIdeal.nD Cert.DNTwoIdeal.τ).loc Cert.DNTwoIdeal.main_arg0) = m ((c.tc : Thread Cert.DNTwoIdeal.nD Cert.DNTwoIdeal.τ).loc Cert.DNTwoIdeal.main_arg0)
      ∧ r.2.mem ((c.tc : Thread Cert.DNTwoIdeal.nD Cert.DNTwoIdeal.τ).loc Cert.DNTwoIdeal.main_arg1) = m ((c.tc : Thread Cert.DNTwoIdeal.nD Cert.DNTwoIdeal.τ).loc Cert.DNTwoIdeal.main_arg1))
      ∧ r.2.sem = fun _ => 0)

def quiescent_DNTwoReferenceIdeal [hDNTwoReferenceIdeal : Cert.DNTwoReferenceIdeal.Facts] : Prop :=
  ∀ (m : (ℓ : Loc Cert.DNTwoReferenceIdeal.nD Cert.DNTwoReferenceIdeal.τ Cert.DNTwoReferenceIdeal.sig) → Buf (Elt Ideal) ℓ) (g : Dev Cert.DNTwoReferenceIdeal.nD → PrngReg), Pre_DNTwoReferenceIdeal m →
    θ_run (Cert.DNTwoReferenceIdeal.defs (F := Ideal)) (onTc (τ := Cert.DNTwoReferenceIdeal.τ) (Cert.DNTwoReferenceIdeal.main (F := Ideal))) ⟨m, fun _ => 0, g⟩ (fun r => (∀ c : Dev Cert.DNTwoReferenceIdeal.nD,
      r.2.mem ((c.tc : Thread Cert.DNTwoReferenceIdeal.nD Cert.DNTwoReferenceIdeal.τ).loc Cert.DNTwoReferenceIdeal.main_arg0) = m ((c.tc : Thread Cert.DNTwoReferenceIdeal.nD Cert.DNTwoReferenceIdeal.τ).loc Cert.DNTwoReferenceIdeal.main_arg0)
      ∧ r.2.mem ((c.tc : Thread Cert.DNTwoReferenceIdeal.nD Cert.DNTwoReferenceIdeal.τ).loc Cert.DNTwoReferenceIdeal.main_arg1) = m ((c.tc : Thread Cert.DNTwoReferenceIdeal.nD Cert.DNTwoReferenceIdeal.τ).loc Cert.DNTwoReferenceIdeal.main_arg1))
      ∧ r.2.sem = fun _ => 0)

def quiescent_DM [hDM : Cert.DM.Facts] : Prop :=
  ∀ (m : (ℓ : Loc Cert.DM.nD Cert.DM.τ Cert.DM.sig) → Buf (Elt Bits) ℓ) (g : Dev Cert.DM.nD → PrngReg), Pre_DM m →
    θ_run (Cert.DM.defs (F := Bits)) (onTc (τ := Cert.DM.τ) (Cert.DM.main (F := Bits))) ⟨m, fun _ => 0, g⟩ (fun r => (∀ c : Dev Cert.DM.nD,
      r.2.mem ((c.tc : Thread Cert.DM.nD Cert.DM.τ).loc Cert.DM.main_arg0) = m ((c.tc : Thread Cert.DM.nD Cert.DM.τ).loc Cert.DM.main_arg0)
      ∧ r.2.mem ((c.tc : Thread Cert.DM.nD Cert.DM.τ).loc Cert.DM.main_arg1) = m ((c.tc : Thread Cert.DM.nD Cert.DM.τ).loc Cert.DM.main_arg1))
      ∧ r.2.sem = fun _ => 0)

def quiescent_DMIdeal [hDMIdeal : Cert.DMIdeal.Facts] : Prop :=
  ∀ (m : (ℓ : Loc Cert.DMIdeal.nD Cert.DMIdeal.τ Cert.DMIdeal.sig) → Buf (Elt Ideal) ℓ) (g : Dev Cert.DMIdeal.nD → PrngReg), Pre_DMIdeal m →
    θ_run (Cert.DMIdeal.defs (F := Ideal)) (onTc (τ := Cert.DMIdeal.τ) (Cert.DMIdeal.main (F := Ideal))) ⟨m, fun _ => 0, g⟩ (fun r => (∀ c : Dev Cert.DMIdeal.nD,
      r.2.mem ((c.tc : Thread Cert.DMIdeal.nD Cert.DMIdeal.τ).loc Cert.DMIdeal.main_arg0) = m ((c.tc : Thread Cert.DMIdeal.nD Cert.DMIdeal.τ).loc Cert.DMIdeal.main_arg0)
      ∧ r.2.mem ((c.tc : Thread Cert.DMIdeal.nD Cert.DMIdeal.τ).loc Cert.DMIdeal.main_arg1) = m ((c.tc : Thread Cert.DMIdeal.nD Cert.DMIdeal.τ).loc Cert.DMIdeal.main_arg1))
      ∧ r.2.sem = fun _ => 0)

def quiescent_DMReferenceIdeal [hDMReferenceIdeal : Cert.DMReferenceIdeal.Facts] : Prop :=
  ∀ (m : (ℓ : Loc Cert.DMReferenceIdeal.nD Cert.DMReferenceIdeal.τ Cert.DMReferenceIdeal.sig) → Buf (Elt Ideal) ℓ) (g : Dev Cert.DMReferenceIdeal.nD → PrngReg), Pre_DMReferenceIdeal m →
    θ_run (Cert.DMReferenceIdeal.defs (F := Ideal)) (onTc (τ := Cert.DMReferenceIdeal.τ) (Cert.DMReferenceIdeal.main (F := Ideal))) ⟨m, fun _ => 0, g⟩ (fun r => (∀ c : Dev Cert.DMReferenceIdeal.nD,
      r.2.mem ((c.tc : Thread Cert.DMReferenceIdeal.nD Cert.DMReferenceIdeal.τ).loc Cert.DMReferenceIdeal.main_arg0) = m ((c.tc : Thread Cert.DMReferenceIdeal.nD Cert.DMReferenceIdeal.τ).loc Cert.DMReferenceIdeal.main_arg0)
      ∧ r.2.mem ((c.tc : Thread Cert.DMReferenceIdeal.nD Cert.DMReferenceIdeal.τ).loc Cert.DMReferenceIdeal.main_arg1) = m ((c.tc : Thread Cert.DMReferenceIdeal.nD Cert.DMReferenceIdeal.τ).loc Cert.DMReferenceIdeal.main_arg1))
      ∧ r.2.sem = fun _ => 0)

def quiescent_GwO [hGwO : Cert.GwO.Facts] : Prop :=
  ∀ (m : (ℓ : Loc Cert.GwO.nD Cert.GwO.τ Cert.GwO.sig) → Buf (Elt Bits) ℓ) (g : Dev Cert.GwO.nD → PrngReg), Pre_GwO m →
    θ_run (Cert.GwO.defs (F := Bits)) (onTc (τ := Cert.GwO.τ) (Cert.GwO.main (F := Bits))) ⟨m, fun _ => 0, g⟩ (fun r => (∀ c : Dev Cert.GwO.nD,
      r.2.mem ((c.tc : Thread Cert.GwO.nD Cert.GwO.τ).loc Cert.GwO.main_arg0) = m ((c.tc : Thread Cert.GwO.nD Cert.GwO.τ).loc Cert.GwO.main_arg0)
      ∧ r.2.mem ((c.tc : Thread Cert.GwO.nD Cert.GwO.τ).loc Cert.GwO.main_arg1) = m ((c.tc : Thread Cert.GwO.nD Cert.GwO.τ).loc Cert.GwO.main_arg1))
      ∧ r.2.sem = fun _ => 0)

def quiescent_GwOIdeal [hGwOIdeal : Cert.GwOIdeal.Facts] : Prop :=
  ∀ (m : (ℓ : Loc Cert.GwOIdeal.nD Cert.GwOIdeal.τ Cert.GwOIdeal.sig) → Buf (Elt Ideal) ℓ) (g : Dev Cert.GwOIdeal.nD → PrngReg), Pre_GwOIdeal m →
    θ_run (Cert.GwOIdeal.defs (F := Ideal)) (onTc (τ := Cert.GwOIdeal.τ) (Cert.GwOIdeal.main (F := Ideal))) ⟨m, fun _ => 0, g⟩ (fun r => (∀ c : Dev Cert.GwOIdeal.nD,
      r.2.mem ((c.tc : Thread Cert.GwOIdeal.nD Cert.GwOIdeal.τ).loc Cert.GwOIdeal.main_arg0) = m ((c.tc : Thread Cert.GwOIdeal.nD Cert.GwOIdeal.τ).loc Cert.GwOIdeal.main_arg0)
      ∧ r.2.mem ((c.tc : Thread Cert.GwOIdeal.nD Cert.GwOIdeal.τ).loc Cert.GwOIdeal.main_arg1) = m ((c.tc : Thread Cert.GwOIdeal.nD Cert.GwOIdeal.τ).loc Cert.GwOIdeal.main_arg1))
      ∧ r.2.sem = fun _ => 0)

def quiescent_GwOReferenceIdeal [hGwOReferenceIdeal : Cert.GwOReferenceIdeal.Facts] : Prop :=
  ∀ (m : (ℓ : Loc Cert.GwOReferenceIdeal.nD Cert.GwOReferenceIdeal.τ Cert.GwOReferenceIdeal.sig) → Buf (Elt Ideal) ℓ) (g : Dev Cert.GwOReferenceIdeal.nD → PrngReg), Pre_GwOReferenceIdeal m →
    θ_run (Cert.GwOReferenceIdeal.defs (F := Ideal)) (onTc (τ := Cert.GwOReferenceIdeal.τ) (Cert.GwOReferenceIdeal.main (F := Ideal))) ⟨m, fun _ => 0, g⟩ (fun r => (∀ c : Dev Cert.GwOReferenceIdeal.nD,
      r.2.mem ((c.tc : Thread Cert.GwOReferenceIdeal.nD Cert.GwOReferenceIdeal.τ).loc Cert.GwOReferenceIdeal.main_arg0) = m ((c.tc : Thread Cert.GwOReferenceIdeal.nD Cert.GwOReferenceIdeal.τ).loc Cert.GwOReferenceIdeal.main_arg0)
      ∧ r.2.mem ((c.tc : Thread Cert.GwOReferenceIdeal.nD Cert.GwOReferenceIdeal.τ).loc Cert.GwOReferenceIdeal.main_arg1) = m ((c.tc : Thread Cert.GwOReferenceIdeal.nD Cert.GwOReferenceIdeal.τ).loc Cert.GwOReferenceIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActReferenceIdeal [hDActReferenceIdeal : Cert.DActReferenceIdeal.Facts] : Prop :=
  ∀ (m : (ℓ : Loc Cert.DActReferenceIdeal.nD Cert.DActReferenceIdeal.τ Cert.DActReferenceIdeal.sig) → Buf (Elt Ideal) ℓ) (g : Dev Cert.DActReferenceIdeal.nD → PrngReg), Pre_DActReferenceIdeal m →
    θ_run (Cert.DActReferenceIdeal.defs (F := Ideal)) (onTc (τ := Cert.DActReferenceIdeal.τ) (Cert.DActReferenceIdeal.main (F := Ideal))) ⟨m, fun _ => 0, g⟩ (fun r => (∀ c : Dev Cert.DActReferenceIdeal.nD,
      r.2.mem ((c.tc : Thread Cert.DActReferenceIdeal.nD Cert.DActReferenceIdeal.τ).loc Cert.DActReferenceIdeal.main_arg0) = m ((c.tc : Thread Cert.DActReferenceIdeal.nD Cert.DActReferenceIdeal.τ).loc Cert.DActReferenceIdeal.main_arg0)
      ∧ r.2.mem ((c.tc : Thread Cert.DActReferenceIdeal.nD Cert.DActReferenceIdeal.τ).loc Cert.DActReferenceIdeal.main_arg1) = m ((c.tc : Thread Cert.DActReferenceIdeal.nD Cert.DActReferenceIdeal.τ).loc Cert.DActReferenceIdeal.main_arg1))
      ∧ r.2.sem = fun _ => 0)

def quiescent_GwPw [hGwPw : Cert.GwPw.Facts] : Prop :=
  ∀ (m : (ℓ : Loc Cert.GwPw.nD Cert.GwPw.τ Cert.GwPw.sig) → Buf (Elt Bits) ℓ) (g : Dev Cert.GwPw.nD → PrngReg), Pre_GwPw m →
    θ_run (Cert.GwPw.defs (F := Bits)) (onTc (τ := Cert.GwPw.τ) (Cert.GwPw.main (F := Bits))) ⟨m, fun _ => 0, g⟩ (fun r => (∀ c : Dev Cert.GwPw.nD,
      r.2.mem ((c.tc : Thread Cert.GwPw.nD Cert.GwPw.τ).loc Cert.GwPw.main_arg0) = m ((c.tc : Thread Cert.GwPw.nD Cert.GwPw.τ).loc Cert.GwPw.main_arg0)
      ∧ r.2.mem ((c.tc : Thread Cert.GwPw.nD Cert.GwPw.τ).loc Cert.GwPw.main_arg1) = m ((c.tc : Thread Cert.GwPw.nD Cert.GwPw.τ).loc Cert.GwPw.main_arg1))
      ∧ r.2.sem = fun _ => 0)

def quiescent_GwPwIdeal [hGwPwIdeal : Cert.GwPwIdeal.Facts] : Prop :=
  ∀ (m : (ℓ : Loc Cert.GwPwIdeal.nD Cert.GwPwIdeal.τ Cert.GwPwIdeal.sig) → Buf (Elt Ideal) ℓ) (g : Dev Cert.GwPwIdeal.nD → PrngReg), Pre_GwPwIdeal m →
    θ_run (Cert.GwPwIdeal.defs (F := Ideal)) (onTc (τ := Cert.GwPwIdeal.τ) (Cert.GwPwIdeal.main (F := Ideal))) ⟨m, fun _ => 0, g⟩ (fun r => (∀ c : Dev Cert.GwPwIdeal.nD,
      r.2.mem ((c.tc : Thread Cert.GwPwIdeal.nD Cert.GwPwIdeal.τ).loc Cert.GwPwIdeal.main_arg0) = m ((c.tc : Thread Cert.GwPwIdeal.nD Cert.GwPwIdeal.τ).loc Cert.GwPwIdeal.main_arg0)
      ∧ r.2.mem ((c.tc : Thread Cert.GwPwIdeal.nD Cert.GwPwIdeal.τ).loc Cert.GwPwIdeal.main_arg1) = m ((c.tc : Thread Cert.GwPwIdeal.nD Cert.GwPwIdeal.τ).loc Cert.GwPwIdeal.main_arg1))
      ∧ r.2.sem = fun _ => 0)

def quiescent_GwPwReferenceIdeal [hGwPwReferenceIdeal : Cert.GwPwReferenceIdeal.Facts] : Prop :=
  ∀ (m : (ℓ : Loc Cert.GwPwReferenceIdeal.nD Cert.GwPwReferenceIdeal.τ Cert.GwPwReferenceIdeal.sig) → Buf (Elt Ideal) ℓ) (g : Dev Cert.GwPwReferenceIdeal.nD → PrngReg), Pre_GwPwReferenceIdeal m →
    θ_run (Cert.GwPwReferenceIdeal.defs (F := Ideal)) (onTc (τ := Cert.GwPwReferenceIdeal.τ) (Cert.GwPwReferenceIdeal.main (F := Ideal))) ⟨m, fun _ => 0, g⟩ (fun r => (∀ c : Dev Cert.GwPwReferenceIdeal.nD,
      r.2.mem ((c.tc : Thread Cert.GwPwReferenceIdeal.nD Cert.GwPwReferenceIdeal.τ).loc Cert.GwPwReferenceIdeal.main_arg0) = m ((c.tc : Thread Cert.GwPwReferenceIdeal.nD Cert.GwPwReferenceIdeal.τ).loc Cert.GwPwReferenceIdeal.main_arg0)
      ∧ r.2.mem ((c.tc : Thread Cert.GwPwReferenceIdeal.nD Cert.GwPwReferenceIdeal.τ).loc Cert.GwPwReferenceIdeal.main_arg1) = m ((c.tc : Thread Cert.GwPwReferenceIdeal.nD Cert.GwPwReferenceIdeal.τ).loc Cert.GwPwReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_YA [hYA : Cert.YA.Facts] : Prop :=
  ∀ (m : (ℓ : Loc Cert.YA.nD Cert.YA.τ Cert.YA.sig) → Buf (Elt Bits) ℓ) (g : Dev Cert.YA.nD → PrngReg), Pre_YA m →
    θ_run (Cert.YA.defs (F := Bits)) (onTc (τ := Cert.YA.τ) (Cert.YA.main (F := Bits))) ⟨m, fun _ => 0, g⟩ (fun r => (∀ c : Dev Cert.YA.nD,
      r.2.mem ((c.tc : Thread Cert.YA.nD Cert.YA.τ).loc Cert.YA.main_arg0) = m ((c.tc : Thread Cert.YA.nD Cert.YA.τ).loc Cert.YA.main_arg0)
      ∧ r.2.mem ((c.tc : Thread Cert.YA.nD Cert.YA.τ).loc Cert.YA.main_arg1) = m ((c.tc : Thread Cert.YA.nD Cert.YA.τ).loc Cert.YA.main_arg1))
      ∧ r.2.sem = fun _ => 0)

def quiescent_YAIdeal [hYAIdeal : Cert.YAIdeal.Facts] : Prop :=
  ∀ (m : (ℓ : Loc Cert.YAIdeal.nD Cert.YAIdeal.τ Cert.YAIdeal.sig) → Buf (Elt Ideal) ℓ) (g : Dev Cert.YAIdeal.nD → PrngReg), Pre_YAIdeal m →
    θ_run (Cert.YAIdeal.defs (F := Ideal)) (onTc (τ := Cert.YAIdeal.τ) (Cert.YAIdeal.main (F := Ideal))) ⟨m, fun _ => 0, g⟩ (fun r => (∀ c : Dev Cert.YAIdeal.nD,
      r.2.mem ((c.tc : Thread Cert.YAIdeal.nD Cert.YAIdeal.τ).loc Cert.YAIdeal.main_arg0) = m ((c.tc : Thread Cert.YAIdeal.nD Cert.YAIdeal.τ).loc Cert.YAIdeal.main_arg0)
      ∧ r.2.mem ((c.tc : Thread Cert.YAIdeal.nD Cert.YAIdeal.τ).loc Cert.YAIdeal.main_arg1) = m ((c.tc : Thread Cert.YAIdeal.nD Cert.YAIdeal.τ).loc Cert.YAIdeal.main_arg1))
      ∧ r.2.sem = fun _ => 0)

def quiescent_YAReferenceIdeal [hYAReferenceIdeal : Cert.YAReferenceIdeal.Facts] : Prop :=
  ∀ (m : (ℓ : Loc Cert.YAReferenceIdeal.nD Cert.YAReferenceIdeal.τ Cert.YAReferenceIdeal.sig) → Buf (Elt Ideal) ℓ) (g : Dev Cert.YAReferenceIdeal.nD → PrngReg), Pre_YAReferenceIdeal m →
    θ_run (Cert.YAReferenceIdeal.defs (F := Ideal)) (onTc (τ := Cert.YAReferenceIdeal.τ) (Cert.YAReferenceIdeal.main (F := Ideal))) ⟨m, fun _ => 0, g⟩ (fun r => (∀ c : Dev Cert.YAReferenceIdeal.nD,
      r.2.mem ((c.tc : Thread Cert.YAReferenceIdeal.nD Cert.YAReferenceIdeal.τ).loc Cert.YAReferenceIdeal.main_arg0) = m ((c.tc : Thread Cert.YAReferenceIdeal.nD Cert.YAReferenceIdeal.τ).loc Cert.YAReferenceIdeal.main_arg0)
      ∧ r.2.mem ((c.tc : Thread Cert.YAReferenceIdeal.nD Cert.YAReferenceIdeal.τ).loc Cert.YAReferenceIdeal.main_arg1) = m ((c.tc : Thread Cert.YAReferenceIdeal.nD Cert.YAReferenceIdeal.τ).loc Cert.YAReferenceIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdReferenceIdeal [hGateBwdReferenceIdeal : Cert.GateBwdReferenceIdeal.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2)
      ∧ r.2.mem ((c.tc : Thread Cert.GateBwdReferenceIdeal.nD Cert.GateBwdReferenceIdeal.τ).loc Cert.GateBwdReferenceIdeal.main_arg3) = m ((c.tc : Thread Cert.GateBwdReferenceIdeal.nD Cert.GateBwdReferenceIdeal.τ).loc Cert.GateBwdReferenceIdeal.main_arg3)
      ∧ r.2.mem ((c.tc : Thread Cert.GateBwdReferenceIdeal.nD Cert.GateBwdReferenceIdeal.τ).loc Cert.GateBwdReferenceIdeal.main_arg4) = m ((c.tc : Thread Cert.GateBwdReferenceIdeal.nD Cert.GateBwdReferenceIdeal.τ).loc Cert.GateBwdReferenceIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ r.2.sem = fun _ => 0)

def quiescent_NormInReferenceIdeal [hNormInReferenceIdeal : Cert.NormInReferenceIdeal.Facts] : Prop :=
  ∀ (m : (ℓ : Loc Cert.NormInReferenceIdeal.nD Cert.NormInReferenceIdeal.τ Cert.NormInReferenceIdeal.sig) → Buf (Elt Ideal) ℓ) (g : Dev Cert.NormInReferenceIdeal.nD → PrngReg), Pre_NormInReferenceIdeal m →
    θ_run (Cert.NormInReferenceIdeal.defs (F := Ideal)) (onTc (τ := Cert.NormInReferenceIdeal.τ) (Cert.NormInReferenceIdeal.main (F := Ideal))) ⟨m, fun _ => 0, g⟩ (fun r => (∀ c : Dev Cert.NormInReferenceIdeal.nD,
      r.2.mem ((c.tc : Thread Cert.NormInReferenceIdeal.nD Cert.NormInReferenceIdeal.τ).loc Cert.NormInReferenceIdeal.main_arg0) = m ((c.tc : Thread Cert.NormInReferenceIdeal.nD Cert.NormInReferenceIdeal.τ).loc Cert.NormInReferenceIdeal.main_arg0)
      ∧ r.2.mem ((c.tc : Thread Cert.NormInReferenceIdeal.nD Cert.NormInReferenceIdeal.τ).loc Cert.NormInReferenceIdeal.main_arg1) = m ((c.tc : Thread Cert.NormInReferenceIdeal.nD Cert.NormInReferenceIdeal.τ).loc Cert.NormInReferenceIdeal.main_arg1))
      ∧ r.2.sem = fun _ => 0)

def quiescent_PostMix [hPostMix : Cert.PostMix.Facts] : Prop :=
  ∀ (m : (ℓ : Loc Cert.PostMix.nD Cert.PostMix.τ Cert.PostMix.sig) → Buf (Elt Bits) ℓ) (g : Dev Cert.PostMix.nD → PrngReg), Pre_PostMix m →
    θ_run (Cert.PostMix.defs (F := Bits)) (onTc (τ := Cert.PostMix.τ) (Cert.PostMix.main (F := Bits))) ⟨m, fun _ => 0, g⟩ (fun r => (∀ c : Dev Cert.PostMix.nD,
      r.2.mem ((c.tc : Thread Cert.PostMix.nD Cert.PostMix.τ).loc Cert.PostMix.main_arg0) = m ((c.tc : Thread Cert.PostMix.nD Cert.PostMix.τ).loc Cert.PostMix.main_arg0)
      ∧ r.2.mem ((c.tc : Thread Cert.PostMix.nD Cert.PostMix.τ).loc Cert.PostMix.main_arg1) = m ((c.tc : Thread Cert.PostMix.nD Cert.PostMix.τ).loc Cert.PostMix.main_arg1)
      ∧ r.2.mem ((c.tc : Thread Cert.PostMix.nD Cert.PostMix.τ).loc Cert.PostMix.main_arg2) = m ((c.tc : Thread Cert.PostMix.nD Cert.PostMix.τ).loc Cert.PostMix.main_arg2)
      ∧ r.2.mem ((c.tc : Thread Cert.PostMix.nD Cert.PostMix.τ).loc Cert.PostMix.main_arg3) = m ((c.tc : Thread Cert.PostMix.nD Cert.PostMix.τ).loc Cert.PostMix.main_arg3))
      ∧ r.2.sem = fun _ => 0)

def quiescent_PostMixIdeal [hPostMixIdeal : Cert.PostMixIdeal.Facts] : Prop :=
  ∀ (m : (ℓ : Loc Cert.PostMixIdeal.nD Cert.PostMixIdeal.τ Cert.PostMixIdeal.sig) → Buf (Elt Ideal) ℓ) (g : Dev Cert.PostMixIdeal.nD → PrngReg), Pre_PostMixIdeal m →
    θ_run (Cert.PostMixIdeal.defs (F := Ideal)) (onTc (τ := Cert.PostMixIdeal.τ) (Cert.PostMixIdeal.main (F := Ideal))) ⟨m, fun _ => 0, g⟩ (fun r => (∀ c : Dev Cert.PostMixIdeal.nD,
      r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
      ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
      ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
      ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3))
      ∧ r.2.sem = fun _ => 0)

def quiescent_PostMixReferenceIdeal [hPostMixReferenceIdeal : Cert.PostMixReferenceIdeal.Facts] : Prop :=
  ∀ (m : (ℓ : Loc Cert.PostMixReferenceIdeal.nD Cert.PostMixReferenceIdeal.τ Cert.PostMixReferenceIdeal.sig) → Buf (Elt Ideal) ℓ) (g : Dev Cert.PostMixReferenceIdeal.nD → PrngReg), Pre_PostMixReferenceIdeal m →
    θ_run (Cert.PostMixReferenceIdeal.defs (F := Ideal)) (onTc (τ := Cert.PostMixReferenceIdeal.τ) (Cert.PostMixReferenceIdeal.main (F := Ideal))) ⟨m, fun _ => 0, g⟩ (fun r => (∀ c : Dev Cert.PostMixReferenceIdeal.nD,
      r.2.mem ((c.tc : Thread Cert.PostMixReferenceIdeal.nD Cert.PostMixReferenceIdeal.τ).loc Cert.PostMixReferenceIdeal.main_arg0) = m ((c.tc : Thread Cert.PostMixReferenceIdeal.nD Cert.PostMixReferenceIdeal.τ).loc Cert.PostMixReferenceIdeal.main_arg0)
      ∧ r.2.mem ((c.tc : Thread Cert.PostMixReferenceIdeal.nD Cert.PostMixReferenceIdeal.τ).loc Cert.PostMixReferenceIdeal.main_arg1) = m ((c.tc : Thread Cert.PostMixReferenceIdeal.nD Cert.PostMixReferenceIdeal.τ).loc Cert.PostMixReferenceIdeal.main_arg1)
      ∧ r.2.mem ((c.tc : Thread Cert.PostMixReferenceIdeal.nD Cert.PostMixReferenceIdeal.τ).loc Cert.PostMixReferenceIdeal.main_arg2) = m ((c.tc : Thread Cert.PostMixReferenceIdeal.nD Cert.PostMixReferenceIdeal.τ).loc Cert.PostMixReferenceIdeal.main_arg2)
      ∧ r.2.mem ((c.tc : Thread Cert.PostMixReferenceIdeal.nD Cert.PostMixReferenceIdeal.τ).loc Cert.PostMixReferenceIdeal.main_arg3) = m ((c.tc : Thread Cert.PostMixReferenceIdeal.nD Cert.PostMixReferenceIdeal.τ).loc Cert.PostMixReferenceIdeal.main_arg3))
      ∧ r.2.sem = fun _ => 0)

def quiescent_BranchAct [hBranchAct : Cert.BranchAct.Facts] : Prop :=
  ∀ (m : (ℓ : Loc Cert.BranchAct.nD Cert.BranchAct.τ Cert.BranchAct.sig) → Buf (Elt Bits) ℓ) (g : Dev Cert.BranchAct.nD → PrngReg), Pre_BranchAct m →
    θ_run (Cert.BranchAct.defs (F := Bits)) (onTc (τ := Cert.BranchAct.τ) (Cert.BranchAct.main (F := Bits))) ⟨m, fun _ => 0, g⟩ (fun r => (∀ c : Dev Cert.BranchAct.nD,
      r.2.mem ((c.tc : Thread Cert.BranchAct.nD Cert.BranchAct.τ).loc Cert.BranchAct.main_arg0) = m ((c.tc : Thread Cert.BranchAct.nD Cert.BranchAct.τ).loc Cert.BranchAct.main_arg0)
      ∧ r.2.mem ((c.tc : Thread Cert.BranchAct.nD Cert.BranchAct.τ).loc Cert.BranchAct.main_arg1) = m ((c.tc : Thread Cert.BranchAct.nD Cert.BranchAct.τ).loc Cert.BranchAct.main_arg1)
      ∧ r.2.mem ((c.tc : Thread Cert.BranchAct.nD Cert.BranchAct.τ).loc Cert.BranchAct.main_arg2) = m ((c.tc : Thread Cert.BranchAct.nD Cert.BranchAct.τ).loc Cert.BranchAct.main_arg2)
      ∧ r.2.mem ((c.tc : Thread Cert.BranchAct.nD Cert.BranchAct.τ).loc Cert.BranchAct.main_arg3) = m ((c.tc : Thread Cert.BranchAct.nD Cert.BranchAct.τ).loc Cert.BranchAct.main_arg3)
      ∧ r.2.mem ((c.tc : Thread Cert.BranchAct.nD Cert.BranchAct.τ).loc Cert.BranchAct.main_arg4) = m ((c.tc : Thread Cert.BranchAct.nD Cert.BranchAct.τ).loc Cert.BranchAct.main_arg4))
      ∧ r.2.sem = fun _ => 0)

def quiescent_BranchActIdeal [hBranchActIdeal : Cert.BranchActIdeal.Facts] : Prop :=
  ∀ (m : (ℓ : Loc Cert.BranchActIdeal.nD Cert.BranchActIdeal.τ Cert.BranchActIdeal.sig) → Buf (Elt Ideal) ℓ) (g : Dev Cert.BranchActIdeal.nD → PrngReg), Pre_BranchActIdeal m →
    θ_run (Cert.BranchActIdeal.defs (F := Ideal)) (onTc (τ := Cert.BranchActIdeal.τ) (Cert.BranchActIdeal.main (F := Ideal))) ⟨m, fun _ => 0, g⟩ (fun r => (∀ c : Dev Cert.BranchActIdeal.nD,
      r.2.mem ((c.tc : Thread Cert.BranchActIdeal.nD Cert.BranchActIdeal.τ).loc Cert.BranchActIdeal.main_arg0) = m ((c.tc : Thread Cert.BranchActIdeal.nD Cert.BranchActIdeal.τ).loc Cert.BranchActIdeal.main_arg0)
      ∧ r.2.mem ((c.tc : Thread Cert.BranchActIdeal.nD Cert.BranchActIdeal.τ).loc Cert.BranchActIdeal.main_arg1) = m ((c.tc : Thread Cert.BranchActIdeal.nD Cert.BranchActIdeal.τ).loc Cert.BranchActIdeal.main_arg1)
      ∧ r.2.mem ((c.tc : Thread Cert.BranchActIdeal.nD Cert.BranchActIdeal.τ).loc Cert.BranchActIdeal.main_arg2) = m ((c.tc : Thread Cert.BranchActIdeal.nD Cert.BranchActIdeal.τ).loc Cert.BranchActIdeal.main_arg2)
      ∧ r.2.mem ((c.tc : Thread Cert.BranchActIdeal.nD Cert.BranchActIdeal.τ).loc Cert.BranchActIdeal.main_arg3) = m ((c.tc : Thread Cert.BranchActIdeal.nD Cert.BranchActIdeal.τ).loc Cert.BranchActIdeal.main_arg3)
      ∧ r.2.mem ((c.tc : Thread Cert.BranchActIdeal.nD Cert.BranchActIdeal.τ).loc Cert.BranchActIdeal.main_arg4) = m ((c.tc : Thread Cert.BranchActIdeal.nD Cert.BranchActIdeal.τ).loc Cert.BranchActIdeal.main_arg4))
      ∧ r.2.sem = fun _ => 0)

def quiescent_BranchActReferenceIdeal [hBranchActReferenceIdeal : Cert.BranchActReferenceIdeal.Facts] : Prop :=
  ∀ (m : (ℓ : Loc Cert.BranchActReferenceIdeal.nD Cert.BranchActReferenceIdeal.τ Cert.BranchActReferenceIdeal.sig) → Buf (Elt Ideal) ℓ) (g : Dev Cert.BranchActReferenceIdeal.nD → PrngReg), Pre_BranchActReferenceIdeal m →
    θ_run (Cert.BranchActReferenceIdeal.defs (F := Ideal)) (onTc (τ := Cert.BranchActReferenceIdeal.τ) (Cert.BranchActReferenceIdeal.main (F := Ideal))) ⟨m, fun _ => 0, g⟩ (fun r => (∀ c : Dev Cert.BranchActReferenceIdeal.nD,
      r.2.mem ((c.tc : Thread Cert.BranchActReferenceIdeal.nD Cert.BranchActReferenceIdeal.τ).loc Cert.BranchActReferenceIdeal.main_arg0) = m ((c.tc : Thread Cert.BranchActReferenceIdeal.nD Cert.BranchActReferenceIdeal.τ).loc Cert.BranchActReferenceIdeal.main_arg0)
      ∧ r.2.mem ((c.tc : Thread Cert.BranchActReferenceIdeal.nD Cert.BranchActReferenceIdeal.τ).loc Cert.BranchActReferenceIdeal.main_arg1) = m ((c.tc : Thread Cert.BranchActReferenceIdeal.nD Cert.BranchActReferenceIdeal.τ).loc Cert.BranchActReferenceIdeal.main_arg1)
      ∧ r.2.mem ((c.tc : Thread Cert.BranchActReferenceIdeal.nD Cert.BranchActReferenceIdeal.τ).loc Cert.BranchActReferenceIdeal.main_arg2) = m ((c.tc : Thread Cert.BranchActReferenceIdeal.nD Cert.BranchActReferenceIdeal.τ).loc Cert.BranchActReferenceIdeal.main_arg2)
      ∧ r.2.mem ((c.tc : Thread Cert.BranchActReferenceIdeal.nD Cert.BranchActReferenceIdeal.τ).loc Cert.BranchActReferenceIdeal.main_arg3) = m ((c.tc : Thread Cert.BranchActReferenceIdeal.nD Cert.BranchActReferenceIdeal.τ).loc Cert.BranchActReferenceIdeal.main_arg3)
      ∧ r.2.mem ((c.tc : Thread Cert.BranchActReferenceIdeal.nD Cert.BranchActReferenceIdeal.τ).loc Cert.BranchActReferenceIdeal.main_arg4) = m ((c.tc : Thread Cert.BranchActReferenceIdeal.nD Cert.BranchActReferenceIdeal.τ).loc Cert.BranchActReferenceIdeal.main_arg4))
      ∧ r.2.sem = fun _ => 0)

def quiescent_BranchBwd [hBranchBwd : Cert.BranchBwd.Facts] : Prop :=
  ∀ (m : (ℓ : Loc Cert.BranchBwd.nD Cert.BranchBwd.τ Cert.BranchBwd.sig) → Buf (Elt Bits) ℓ) (g : Dev Cert.BranchBwd.nD → PrngReg), Pre_BranchBwd m →
    θ_run (Cert.BranchBwd.defs (F := Bits)) (onTc (τ := Cert.BranchBwd.τ) (Cert.BranchBwd.main (F := Bits))) ⟨m, fun _ => 0, g⟩ (fun r => (∀ c : Dev Cert.BranchBwd.nD,
      r.2.mem ((c.tc : Thread Cert.BranchBwd.nD Cert.BranchBwd.τ).loc Cert.BranchBwd.main_arg0) = m ((c.tc : Thread Cert.BranchBwd.nD Cert.BranchBwd.τ).loc Cert.BranchBwd.main_arg0)
      ∧ r.2.mem ((c.tc : Thread Cert.BranchBwd.nD Cert.BranchBwd.τ).loc Cert.BranchBwd.main_arg1) = m ((c.tc : Thread Cert.BranchBwd.nD Cert.BranchBwd.τ).loc Cert.BranchBwd.main_arg1)
      ∧ r.2.mem ((c.tc : Thread Cert.BranchBwd.nD Cert.BranchBwd.τ).loc Cert.BranchBwd.main_arg2) = m ((c.tc : Thread Cert.BranchBwd.nD Cert.BranchBwd.τ).loc Cert.BranchBwd.main_arg2)
      ∧ r.2.mem ((c.tc : Thread Cert.BranchBwd.nD Cert.BranchBwd.τ).loc Cert.BranchBwd.main_arg3) = m ((c.tc : Thread Cert.BranchBwd.nD Cert.BranchBwd.τ).loc Cert.BranchBwd.main_arg3)
      ∧ r.2.mem ((c.tc : Thread Cert.BranchBwd.nD Cert.BranchBwd.τ).loc Cert.BranchBwd.main_arg4) = m ((c.tc : Thread Cert.BranchBwd.nD Cert.BranchBwd.τ).loc Cert.BranchBwd.main_arg4)
      ∧ r.2.mem ((c.tc : Thread Cert.BranchBwd.nD Cert.BranchBwd.τ).loc Cert.BranchBwd.main_arg5) = m ((c.tc : Thread Cert.BranchBwd.nD Cert.BranchBwd.τ).loc Cert.BranchBwd.main_arg5)
      ∧ r.2.mem ((c.tc : Thread Cert.BranchBwd.nD Cert.BranchBwd.τ).loc Cert.BranchBwd.main_arg6) = m ((c.tc : Thread Cert.BranchBwd.nD Cert.BranchBwd.τ).loc Cert.BranchBwd.main_arg6))
      ∧ r.2.sem = fun _ => 0)

def quiescent_BranchBwdIdeal [hBranchBwdIdeal : Cert.BranchBwdIdeal.Facts] : Prop :=
  ∀ (m : (ℓ : Loc Cert.BranchBwdIdeal.nD Cert.BranchBwdIdeal.τ Cert.BranchBwdIdeal.sig) → Buf (Elt Ideal) ℓ) (g : Dev Cert.BranchBwdIdeal.nD → PrngReg), Pre_BranchBwdIdeal m →
    θ_run (Cert.BranchBwdIdeal.defs (F := Ideal)) (onTc (τ := Cert.BranchBwdIdeal.τ) (Cert.BranchBwdIdeal.main (F := Ideal))) ⟨m, fun _ => 0, g⟩ (fun r => (∀ c : Dev Cert.BranchBwdIdeal.nD,
      r.2.mem ((c.tc : Thread Cert.BranchBwdIdeal.nD Cert.BranchBwdIdeal.τ).loc Cert.BranchBwdIdeal.main_arg0) = m ((c.tc : Thread Cert.BranchBwdIdeal.nD Cert.BranchBwdIdeal.τ).loc Cert.BranchBwdIdeal.main_arg0)
      ∧ r.2.mem ((c.tc : Thread Cert.BranchBwdIdeal.nD Cert.BranchBwdIdeal.τ).loc Cert.BranchBwdIdeal.main_arg1) = m ((c.tc : Thread Cert.BranchBwdIdeal.nD Cert.BranchBwdIdeal.τ).loc Cert.BranchBwdIdeal.main_arg1)
      ∧ r.2.mem ((c.tc : Thread Cert.BranchBwdIdeal.nD Cert.BranchBwdIdeal.τ).loc Cert.BranchBwdIdeal.main_arg2) = m ((c.tc : Thread Cert.BranchBwdIdeal.nD Cert.BranchBwdIdeal.τ).loc Cert.BranchBwdIdeal.main_arg2)
      ∧ r.2.mem ((c.tc : Thread Cert.BranchBwdIdeal.nD Cert.BranchBwdIdeal.τ).loc Cert.BranchBwdIdeal.main_arg3) = m ((c.tc : Thread Cert.BranchBwdIdeal.nD Cert.BranchBwdIdeal.τ).loc Cert.BranchBwdIdeal.main_arg3)
      ∧ r.2.mem ((c.tc : Thread Cert.BranchBwdIdeal.nD Cert.BranchBwdIdeal.τ).loc Cert.BranchBwdIdeal.main_arg4) = m ((c.tc : Thread Cert.BranchBwdIdeal.nD Cert.BranchBwdIdeal.τ).loc Cert.BranchBwdIdeal.main_arg4)
      ∧ r.2.mem ((c.tc : Thread Cert.BranchBwdIdeal.nD Cert.BranchBwdIdeal.τ).loc Cert.BranchBwdIdeal.main_arg5) = m ((c.tc : Thread Cert.BranchBwdIdeal.nD Cert.BranchBwdIdeal.τ).loc Cert.BranchBwdIdeal.main_arg5)
      ∧ r.2.mem ((c.tc : Thread Cert.BranchBwdIdeal.nD Cert.BranchBwdIdeal.τ).loc Cert.BranchBwdIdeal.main_arg6) = m ((c.tc : Thread Cert.BranchBwdIdeal.nD Cert.BranchBwdIdeal.τ).loc Cert.BranchBwdIdeal.main_arg6))
      ∧ r.2.sem = fun _ => 0)

def quiescent_BranchBwdIdeal_pre_finite_rows [hBranchBwdIdeal : Cert.BranchBwdIdeal.Facts] [hPre_finite_rows : Cert.Pre_finite_rows.Facts] : Prop :=
  ∀ (m : (ℓ : Loc Cert.BranchBwdIdeal.nD Cert.BranchBwdIdeal.τ Cert.BranchBwdIdeal.sig) → Buf (Elt Ideal) ℓ) (g : Dev Cert.BranchBwdIdeal.nD → PrngReg), Pre_BranchBwdIdeal_finite_rows m →
    θ_run (Cert.BranchBwdIdeal.defs (F := Ideal)) (onTc (τ := Cert.BranchBwdIdeal.τ) (Cert.BranchBwdIdeal.main (F := Ideal))) ⟨m, fun _ => 0, g⟩ (fun r => (∀ c : Dev Cert.BranchBwdIdeal.nD,
      r.2.mem ((c.tc : Thread Cert.BranchBwdIdeal.nD Cert.BranchBwdIdeal.τ).loc Cert.BranchBwdIdeal.main_arg0) = m ((c.tc : Thread Cert.BranchBwdIdeal.nD Cert.BranchBwdIdeal.τ).loc Cert.BranchBwdIdeal.main_arg0)
      ∧ r.2.mem ((c.tc : Thread Cert.BranchBwdIdeal.nD Cert.BranchBwdIdeal.τ).loc Cert.BranchBwdIdeal.main_arg1) = m ((c.tc : Thread Cert.BranchBwdIdeal.nD Cert.BranchBwdIdeal.τ).loc Cert.BranchBwdIdeal.main_arg1)
      ∧ r.2.mem ((c.tc : Thread Cert.BranchBwdIdeal.nD Cert.BranchBwdIdeal.τ).loc Cert.BranchBwdIdeal.main_arg2) = m ((c.tc : Thread Cert.BranchBwdIdeal.nD Cert.BranchBwdIdeal.τ).loc Cert.BranchBwdIdeal.main_arg2)
      ∧ r.2.mem ((c.tc : Thread Cert.BranchBwdIdeal.nD Cert.BranchBwdIdeal.τ).loc Cert.BranchBwdIdeal.main_arg3) = m ((c.tc : Thread Cert.BranchBwdIdeal.nD Cert.BranchBwdIdeal.τ).loc Cert.BranchBwdIdeal.main_arg3)
      ∧ r.2.mem ((c.tc : Thread Cert.BranchBwdIdeal.nD Cert.BranchBwdIdeal.τ).loc Cert.BranchBwdIdeal.main_arg4) = m ((c.tc : Thread Cert.BranchBwdIdeal.nD Cert.BranchBwdIdeal.τ).loc Cert.BranchBwdIdeal.main_arg4)
      ∧ r.2.mem ((c.tc : Thread Cert.BranchBwdIdeal.nD Cert.BranchBwdIdeal.τ).loc Cert.BranchBwdIdeal.main_arg5) = m ((c.tc : Thread Cert.BranchBwdIdeal.nD Cert.BranchBwdIdeal.τ).loc Cert.BranchBwdIdeal.main_arg5)
      ∧ r.2.mem ((c.tc : Thread Cert.BranchBwdIdeal.nD Cert.BranchBwdIdeal.τ).loc Cert.BranchBwdIdeal.main_arg6) = m ((c.tc : Thread Cert.BranchBwdIdeal.nD Cert.BranchBwdIdeal.τ).loc Cert.BranchBwdIdeal.main_arg6))
      ∧ r.2.sem = fun _ => 0)

def quiescent_BranchBwdReferenceIdeal [hBranchBwdReferenceIdeal : Cert.BranchBwdReferenceIdeal.Facts] : Prop :=
  ∀ (m : (ℓ : Loc Cert.BranchBwdReferenceIdeal.nD Cert.BranchBwdReferenceIdeal.τ Cert.BranchBwdReferenceIdeal.sig) → Buf (Elt Ideal) ℓ) (g : Dev Cert.BranchBwdReferenceIdeal.nD → PrngReg), Pre_BranchBwdReferenceIdeal m →
    θ_run (Cert.BranchBwdReferenceIdeal.defs (F := Ideal)) (onTc (τ := Cert.BranchBwdReferenceIdeal.τ) (Cert.BranchBwdReferenceIdeal.main (F := Ideal))) ⟨m, fun _ => 0, g⟩ (fun r => (∀ c : Dev Cert.BranchBwdReferenceIdeal.nD,
      r.2.mem ((c.tc : Thread Cert.BranchBwdReferenceIdeal.nD Cert.BranchBwdReferenceIdeal.τ).loc Cert.BranchBwdReferenceIdeal.main_arg0) = m ((c.tc : Thread Cert.BranchBwdReferenceIdeal.nD Cert.BranchBwdReferenceIdeal.τ).loc Cert.BranchBwdReferenceIdeal.main_arg0)
      ∧ r.2.mem ((c.tc : Thread Cert.BranchBwdReferenceIdeal.nD Cert.BranchBwdReferenceIdeal.τ).loc Cert.BranchBwdReferenceIdeal.main_arg1) = m ((c.tc : Thread Cert.BranchBwdReferenceIdeal.nD Cert.BranchBwdReferenceIdeal.τ).loc Cert.BranchBwdReferenceIdeal.main_arg1)
      ∧ r.2.mem ((c.tc : Thread Cert.BranchBwdReferenceIdeal.nD Cert.BranchBwdReferenceIdeal.τ).loc Cert.BranchBwdReferenceIdeal.main_arg2) = m ((c.tc : Thread Cert.BranchBwdReferenceIdeal.nD Cert.BranchBwdReferenceIdeal.τ).loc Cert.BranchBwdReferenceIdeal.main_arg2)
      ∧ r.2.mem ((c.tc : Thread Cert.BranchBwdReferenceIdeal.nD Cert.BranchBwdReferenceIdeal.τ).loc Cert.BranchBwdReferenceIdeal.main_arg3) = m ((c.tc : Thread Cert.BranchBwdReferenceIdeal.nD Cert.BranchBwdReferenceIdeal.τ).loc Cert.BranchBwdReferenceIdeal.main_arg3)
      ∧ r.2.mem ((c.tc : Thread Cert.BranchBwdReferenceIdeal.nD Cert.BranchBwdReferenceIdeal.τ).loc Cert.BranchBwdReferenceIdeal.main_arg4) = m ((c.tc : Thread Cert.BranchBwdReferenceIdeal.nD Cert.BranchBwdReferenceIdeal.τ).loc Cert.BranchBwdReferenceIdeal.main_arg4)
      ∧ r.2.mem ((c.tc : Thread Cert.BranchBwdReferenceIdeal.nD Cert.BranchBwdReferenceIdeal.τ).loc Cert.BranchBwdReferenceIdeal.main_arg5) = m ((c.tc : Thread Cert.BranchBwdReferenceIdeal.nD Cert.BranchBwdReferenceIdeal.τ).loc Cert.BranchBwdReferenceIdeal.main_arg5)
      ∧ r.2.mem ((c.tc : Thread Cert.BranchBwdReferenceIdeal.nD Cert.BranchBwdReferenceIdeal.τ).loc Cert.BranchBwdReferenceIdeal.main_arg6) = m ((c.tc : Thread Cert.BranchBwdReferenceIdeal.nD Cert.BranchBwdReferenceIdeal.τ).loc Cert.BranchBwdReferenceIdeal.main_arg6))
      ∧ r.2.sem = fun _ => 0)

def quiescent_BranchBwdReferenceIdeal_pre_finite_rows [hBranchBwdReferenceIdeal : Cert.BranchBwdReferenceIdeal.Facts] [hPre_finite_rows : Cert.Pre_finite_rows.Facts] : Prop :=
  ∀ (m : (ℓ : Loc Cert.BranchBwdReferenceIdeal.nD Cert.BranchBwdReferenceIdeal.τ Cert.BranchBwdReferenceIdeal.sig) → Buf (Elt Ideal) ℓ) (g : Dev Cert.BranchBwdReferenceIdeal.nD → PrngReg), Pre_BranchBwdReferenceIdeal_finite_rows m →
    θ_run (Cert.BranchBwdReferenceIdeal.defs (F := Ideal)) (onTc (τ := Cert.BranchBwdReferenceIdeal.τ) (Cert.BranchBwdReferenceIdeal.main (F := Ideal))) ⟨m, fun _ => 0, g⟩ (fun r => (∀ c : Dev Cert.BranchBwdReferenceIdeal.nD,
      r.2.mem ((c.tc : Thread Cert.BranchBwdReferenceIdeal.nD Cert.BranchBwdReferenceIdeal.τ).loc Cert.BranchBwdReferenceIdeal.main_arg0) = m ((c.tc : Thread Cert.BranchBwdReferenceIdeal.nD Cert.BranchBwdReferenceIdeal.τ).loc Cert.BranchBwdReferenceIdeal.main_arg0)
      ∧ r.2.mem ((c.tc : Thread Cert.BranchBwdReferenceIdeal.nD Cert.BranchBwdReferenceIdeal.τ).loc Cert.BranchBwdReferenceIdeal.main_arg1) = m ((c.tc : Thread Cert.BranchBwdReferenceIdeal.nD Cert.BranchBwdReferenceIdeal.τ).loc Cert.BranchBwdReferenceIdeal.main_arg1)
      ∧ r.2.mem ((c.tc : Thread Cert.BranchBwdReferenceIdeal.nD Cert.BranchBwdReferenceIdeal.τ).loc Cert.BranchBwdReferenceIdeal.main_arg2) = m ((c.tc : Thread Cert.BranchBwdReferenceIdeal.nD Cert.BranchBwdReferenceIdeal.τ).loc Cert.BranchBwdReferenceIdeal.main_arg2)
      ∧ r.2.mem ((c.tc : Thread Cert.BranchBwdReferenceIdeal.nD Cert.BranchBwdReferenceIdeal.τ).loc Cert.BranchBwdReferenceIdeal.main_arg3) = m ((c.tc : Thread Cert.BranchBwdReferenceIdeal.nD Cert.BranchBwdReferenceIdeal.τ).loc Cert.BranchBwdReferenceIdeal.main_arg3)
      ∧ r.2.mem ((c.tc : Thread Cert.BranchBwdReferenceIdeal.nD Cert.BranchBwdReferenceIdeal.τ).loc Cert.BranchBwdReferenceIdeal.main_arg4) = m ((c.tc : Thread Cert.BranchBwdReferenceIdeal.nD Cert.BranchBwdReferenceIdeal.τ).loc Cert.BranchBwdReferenceIdeal.main_arg4)
      ∧ r.2.mem ((c.tc : Thread Cert.BranchBwdReferenceIdeal.nD Cert.BranchBwdReferenceIdeal.τ).loc Cert.BranchBwdReferenceIdeal.main_arg5) = m ((c.tc : Thread Cert.BranchBwdReferenceIdeal.nD Cert.BranchBwdReferenceIdeal.τ).loc Cert.BranchBwdReferenceIdeal.main_arg5)
      ∧ r.2.mem ((c.tc : Thread Cert.BranchBwdReferenceIdeal.nD Cert.BranchBwdReferenceIdeal.τ).loc Cert.BranchBwdReferenceIdeal.main_arg6) = m ((c.tc : Thread Cert.BranchBwdReferenceIdeal.nD Cert.BranchBwdReferenceIdeal.τ).loc Cert.BranchBwdReferenceIdeal.main_arg6))
      ∧ r.2.sem = fun _ => 0)

def quiescent_BwdMid [hBwdMid : Cert.BwdMid.Facts] : Prop :=
  ∀ (m : (ℓ : Loc Cert.BwdMid.nD Cert.BwdMid.τ Cert.BwdMid.sig) → Buf (Elt Bits) ℓ) (g : Dev Cert.BwdMid.nD → PrngReg), Pre_BwdMid m →
    θ_run (Cert.BwdMid.defs (F := Bits)) (onTc (τ := Cert.BwdMid.τ) (Cert.BwdMid.main (F := Bits))) ⟨m, fun _ => 0, g⟩ (fun r => (∀ c : Dev Cert.BwdMid.nD,
      r.2.mem ((c.tc : Thread Cert.BwdMid.nD Cert.BwdMid.τ).loc Cert.BwdMid.main_arg0) = m ((c.tc : Thread Cert.BwdMid.nD Cert.BwdMid.τ).loc Cert.BwdMid.main_arg0)
      ∧ r.2.mem ((c.tc : Thread Cert.BwdMid.nD Cert.BwdMid.τ).loc Cert.BwdMid.main_arg1) = m ((c.tc : Thread Cert.BwdMid.nD Cert.BwdMid.τ).loc Cert.BwdMid.main_arg1)
      ∧ r.2.mem ((c.tc : Thread Cert.BwdMid.nD Cert.BwdMid.τ).loc Cert.BwdMid.main_arg2) = m ((c.tc : Thread Cert.BwdMid.nD Cert.BwdMid.τ).loc Cert.BwdMid.main_arg2)
      ∧ r.2.mem ((c.tc : Thread Cert.BwdMid.nD Cert.BwdMid.τ).loc Cert.BwdMid.main_arg3) = m ((c.tc : Thread Cert.BwdMid.nD Cert.BwdMid.τ).loc Cert.BwdMid.main_arg3)
      ∧ r.2.mem ((c.tc : Thread Cert.BwdMid.nD Cert.BwdMid.τ).loc Cert.BwdMid.main_arg4) = m ((c.tc : Thread Cert.BwdMid.nD Cert.BwdMid.τ).loc Cert.BwdMid.main_arg4)
      ∧ r.2.mem ((c.tc : Thread Cert.BwdMid.nD Cert.BwdMid.τ).loc Cert.BwdMid.main_arg5) = m ((c.tc : Thread Cert.BwdMid.nD Cert.BwdMid.τ).loc Cert.BwdMid.main_arg5))
      ∧ r.2.sem = fun _ => 0)

def quiescent_BwdMidIdeal [hBwdMidIdeal : Cert.BwdMidIdeal.Facts] : Prop :=
  ∀ (m : (ℓ : Loc Cert.BwdMidIdeal.nD Cert.BwdMidIdeal.τ Cert.BwdMidIdeal.sig) → Buf (Elt Ideal) ℓ) (g : Dev Cert.BwdMidIdeal.nD → PrngReg), Pre_BwdMidIdeal m →
    θ_run (Cert.BwdMidIdeal.defs (F := Ideal)) (onTc (τ := Cert.BwdMidIdeal.τ) (Cert.BwdMidIdeal.main (F := Ideal))) ⟨m, fun _ => 0, g⟩ (fun r => (∀ c : Dev Cert.BwdMidIdeal.nD,
      r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
      ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
      ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
      ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
      ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
      ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5))
      ∧ r.2.sem = fun _ => 0)

def quiescent_BwdMidReferenceIdeal [hBwdMidReferenceIdeal : Cert.BwdMidReferenceIdeal.Facts] : Prop :=
  ∀ (m : (ℓ : Loc Cert.BwdMidReferenceIdeal.nD Cert.BwdMidReferenceIdeal.τ Cert.BwdMidReferenceIdeal.sig) → Buf (Elt Ideal) ℓ) (g : Dev Cert.BwdMidReferenceIdeal.nD → PrngReg), Pre_BwdMidReferenceIdeal m →
    θ_run (Cert.BwdMidReferenceIdeal.defs (F := Ideal)) (onTc (τ := Cert.BwdMidReferenceIdeal.τ) (Cert.BwdMidReferenceIdeal.main (F := Ideal))) ⟨m, fun _ => 0, g⟩ (fun r => (∀ c : Dev Cert.BwdMidReferenceIdeal.nD,
      r.2.mem ((c.tc : Thread Cert.BwdMidReferenceIdeal.nD Cert.BwdMidReferenceIdeal.τ).loc Cert.BwdMidReferenceIdeal.main_arg0) = m ((c.tc : Thread Cert.BwdMidReferenceIdeal.nD Cert.BwdMidReferenceIdeal.τ).loc Cert.BwdMidReferenceIdeal.main_arg0)
      ∧ r.2.mem ((c.tc : Thread Cert.BwdMidReferenceIdeal.nD Cert.BwdMidReferenceIdeal.τ).loc Cert.BwdMidReferenceIdeal.main_arg1) = m ((c.tc : Thread Cert.BwdMidReferenceIdeal.nD Cert.BwdMidReferenceIdeal.τ).loc Cert.BwdMidReferenceIdeal.main_arg1)
      ∧ r.2.mem ((c.tc : Thread Cert.BwdMidReferenceIdeal.nD Cert.BwdMidReferenceIdeal.τ).loc Cert.BwdMidReferenceIdeal.main_arg2) = m ((c.tc : Thread Cert.BwdMidReferenceIdeal.nD Cert.BwdMidReferenceIdeal.τ).loc Cert.BwdMidReferenceIdeal.main_arg2)
      ∧ r.2.mem ((c.tc : Thread Cert.BwdMidReferenceIdeal.nD Cert.BwdMidReferenceIdeal.τ).loc Cert.BwdMidReferenceIdeal.main_arg3) = m ((c.tc : Thread Cert.BwdMidReferenceIdeal.nD Cert.BwdMidReferenceIdeal.τ).loc Cert.BwdMidReferenceIdeal.main_arg3)
      ∧ r.2.mem ((c.tc : Thread Cert.BwdMidReferenceIdeal.nD Cert.BwdMidReferenceIdeal.τ).loc Cert.BwdMidReferenceIdeal.main_arg4) = m ((c.tc : Thread Cert.BwdMidReferenceIdeal.nD Cert.BwdMidReferenceIdeal.τ).loc Cert.BwdMidReferenceIdeal.main_arg4)
      ∧ r.2.mem ((c.tc : Thread Cert.BwdMidReferenceIdeal.nD Cert.BwdMidReferenceIdeal.τ).loc Cert.BwdMidReferenceIdeal.main_arg5) = m ((c.tc : Thread Cert.BwdMidReferenceIdeal.nD Cert.BwdMidReferenceIdeal.τ).loc Cert.BwdMidReferenceIdeal.main_arg5))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3))
      ∧ r.2.sem = fun _ => 0)

def quiescent_BwdInReferenceIdeal [hBwdInReferenceIdeal : Cert.BwdInReferenceIdeal.Facts] : Prop :=
  ∀ (m : (ℓ : Loc Cert.BwdInReferenceIdeal.nD Cert.BwdInReferenceIdeal.τ Cert.BwdInReferenceIdeal.sig) → Buf (Elt Ideal) ℓ) (g : Dev Cert.BwdInReferenceIdeal.nD → PrngReg), Pre_BwdInReferenceIdeal m →
    θ_run (Cert.BwdInReferenceIdeal.defs (F := Ideal)) (onTc (τ := Cert.BwdInReferenceIdeal.τ) (Cert.BwdInReferenceIdeal.main (F := Ideal))) ⟨m, fun _ => 0, g⟩ (fun r => (∀ c : Dev Cert.BwdInReferenceIdeal.nD,
      r.2.mem ((c.tc : Thread Cert.BwdInReferenceIdeal.nD Cert.BwdInReferenceIdeal.τ).loc Cert.BwdInReferenceIdeal.main_arg0) = m ((c.tc : Thread Cert.BwdInReferenceIdeal.nD Cert.BwdInReferenceIdeal.τ).loc Cert.BwdInReferenceIdeal.main_arg0)
      ∧ r.2.mem ((c.tc : Thread Cert.BwdInReferenceIdeal.nD Cert.BwdInReferenceIdeal.τ).loc Cert.BwdInReferenceIdeal.main_arg1) = m ((c.tc : Thread Cert.BwdInReferenceIdeal.nD Cert.BwdInReferenceIdeal.τ).loc Cert.BwdInReferenceIdeal.main_arg1)
      ∧ r.2.mem ((c.tc : Thread Cert.BwdInReferenceIdeal.nD Cert.BwdInReferenceIdeal.τ).loc Cert.BwdInReferenceIdeal.main_arg2) = m ((c.tc : Thread Cert.BwdInReferenceIdeal.nD Cert.BwdInReferenceIdeal.τ).loc Cert.BwdInReferenceIdeal.main_arg2)
      ∧ r.2.mem ((c.tc : Thread Cert.BwdInReferenceIdeal.nD Cert.BwdInReferenceIdeal.τ).loc Cert.BwdInReferenceIdeal.main_arg3) = m ((c.tc : Thread Cert.BwdInReferenceIdeal.nD Cert.BwdInReferenceIdeal.τ).loc Cert.BwdInReferenceIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1)
      ∧ r.2.mem ((c.tc : Thread Cert.ConvFwdReferenceIdeal.nD Cert.ConvFwdReferenceIdeal.τ).loc Cert.ConvFwdReferenceIdeal.main_arg2) = m ((c.tc : Thread Cert.ConvFwdReferenceIdeal.nD Cert.ConvFwdReferenceIdeal.τ).loc Cert.ConvFwdReferenceIdeal.main_arg2)
      ∧ r.2.mem ((c.tc : Thread Cert.ConvFwdReferenceIdeal.nD Cert.ConvFwdReferenceIdeal.τ).loc Cert.ConvFwdReferenceIdeal.main_arg3) = m ((c.tc : Thread Cert.ConvFwdReferenceIdeal.nD Cert.ConvFwdReferenceIdeal.τ).loc Cert.ConvFwdReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v504) = v0 c
          ∧ r.2.mem ((c.tc : Thread Cert.ReferenceIdeal.nD Cert.ReferenceIdeal.τ).loc Cert.ReferenceIdeal.main_v505) = v1 c
          ∧ r.2.mem ((c.tc : Thread Cert.ReferenceIdeal.nD Cert.ReferenceIdeal.τ).loc Cert.ReferenceIdeal.main_v506) = v2 c
          ∧ r.2.mem ((c.tc : Thread Cert.ReferenceIdeal.nD Cert.ReferenceIdeal.τ).loc Cert.ReferenceIdeal.main_v507) = v3 c
          ∧ r.2.mem ((c.tc : Thread Cert.ReferenceIdeal.nD Cert.ReferenceIdeal.τ).loc Cert.ReferenceIdeal.main_v496) = v4 c
          ∧ r.2.mem ((c.tc : Thread Cert.ReferenceIdeal.nD Cert.ReferenceIdeal.τ).loc Cert.ReferenceIdeal.main_v213) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GwIn_GwInIdeal : Prop :=
  True

def algebraic_GwInIdeal_GwInReferenceIdeal [hGwInIdeal : Cert.GwInIdeal.Facts] [hGwInReferenceIdeal : Cert.GwInReferenceIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInReferenceIdeal.nD Cert.GwInReferenceIdeal.τ Cert.GwInReferenceIdeal.sig) → Buf (Elt Ideal) ℓ) (g' : Dev Cert.GwInReferenceIdeal.nD → PrngReg), Pre_GwInIdeal m →
    (∀ c : Dev Cert.GwInIdeal.nD,
      m' ((c.tc : Thread Cert.GwInReferenceIdeal.nD Cert.GwInReferenceIdeal.τ).loc Cert.GwInReferenceIdeal.main_arg0) = m ((c.tc : Thread Cert.GwInIdeal.nD Cert.GwInIdeal.τ).loc Cert.GwInIdeal.main_arg0)
      ∧ m' ((c.tc : Thread Cert.GwInReferenceIdeal.nD Cert.GwInReferenceIdeal.τ).loc Cert.GwInReferenceIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v2_0)) (v1 : (c : Dev Cert.GwInIdeal.nD) → Buf (Elt Ideal) ((c.tc : Thread Cert.GwInIdeal.nD Cert.GwInIdeal.τ).loc Cert.GwInIdeal.main_v2_1)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v2_0) = v0 c
          ∧ r.2.mem ((c.tc : Thread Cert.GwInIdeal.nD Cert.GwInIdeal.τ).loc Cert.GwInIdeal.main_v2_1) = v1 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInReferenceIdeal.defs (F := Ideal)) (onTc (τ := Cert.GwInReferenceIdeal.τ) (Cert.GwInReferenceIdeal.main (F := Ideal))) ⟨m', fun _ => 0, g'⟩ (fun r => ∀ c : Dev Cert.GwInReferenceIdeal.nD,
          r.2.mem ((c.tc : Thread Cert.GwInReferenceIdeal.nD Cert.GwInReferenceIdeal.τ).loc Cert.GwInReferenceIdeal.main_v5) = v0 c
          ∧ r.2.mem ((c.tc : Thread Cert.GwInReferenceIdeal.nD Cert.GwInReferenceIdeal.τ).loc Cert.GwInReferenceIdeal.main_v6) = v1 c
          ∧ r.2.mem ((c.tc : Thread Cert.GwInReferenceIdeal.nD Cert.GwInReferenceIdeal.τ).loc Cert.GwInReferenceIdeal.main_arg0) = m' ((c.tc : Thread Cert.GwInReferenceIdeal.nD Cert.GwInReferenceIdeal.τ).loc Cert.GwInReferenceIdeal.main_arg0)
          ∧ r.2.mem ((c.tc : Thread Cert.GwInReferenceIdeal.nD Cert.GwInReferenceIdeal.τ).loc Cert.GwInReferenceIdeal.main_arg1) = m' ((c.tc : Thread Cert.GwInReferenceIdeal.nD Cert.GwInReferenceIdeal.τ).loc Cert.GwInReferenceIdeal.main_arg1))

def preserves_DN_DNIdeal : Prop :=
  True

def algebraic_DNIdeal_DNReferenceIdeal [hDNIdeal : Cert.DNIdeal.Facts] [hDNReferenceIdeal : Cert.DNReferenceIdeal.Facts] : Prop :=
  ∀ (m : (ℓ : Loc Cert.DNIdeal.nD Cert.DNIdeal.τ Cert.DNIdeal.sig) → Buf (Elt Ideal) ℓ) (g : Dev Cert.DNIdeal.nD → PrngReg)
    (m' : (ℓ : Loc Cert.DNReferenceIdeal.nD Cert.DNReferenceIdeal.τ Cert.DNReferenceIdeal.sig) → Buf (Elt Ideal) ℓ) (g' : Dev Cert.DNReferenceIdeal.nD → PrngReg), Pre_DNIdeal m →
    (∀ c : Dev Cert.DNIdeal.nD,
      m' ((c.tc : Thread Cert.DNReferenceIdeal.nD Cert.DNReferenceIdeal.τ).loc Cert.DNReferenceIdeal.main_arg0) = m ((c.tc : Thread Cert.DNIdeal.nD Cert.DNIdeal.τ).loc Cert.DNIdeal.main_arg0)
      ∧ m' ((c.tc : Thread Cert.DNReferenceIdeal.nD Cert.DNReferenceIdeal.τ).loc Cert.DNReferenceIdeal.main_arg1) = m ((c.tc : Thread Cert.DNIdeal.nD Cert.DNIdeal.τ).loc Cert.DNIdeal.main_arg1)) →
    ∃ (v0 : (c : Dev Cert.DNIdeal.nD) → Buf (Elt Ideal) ((c.tc : Thread Cert.DNIdeal.nD Cert.DNIdeal.τ).loc Cert.DNIdeal.main_v4)),
      θ_run (Cert.DNIdeal.defs (F := Ideal)) (onTc (τ := Cert.DNIdeal.τ) (Cert.DNIdeal.main (F := Ideal))) ⟨m, fun _ => 0, g⟩ (fun r => ∀ c : Dev Cert.DNIdeal.nD,
          r.2.mem ((c.tc : Thread Cert.DNIdeal.nD Cert.DNIdeal.τ).loc Cert.DNIdeal.main_v4) = v0 c
          ∧ r.2.mem ((c.tc : Thread Cert.DNIdeal.nD Cert.DNIdeal.τ).loc Cert.DNIdeal.main_arg0) = m ((c.tc : Thread Cert.DNIdeal.nD Cert.DNIdeal.τ).loc Cert.DNIdeal.main_arg0)
          ∧ r.2.mem ((c.tc : Thread Cert.DNIdeal.nD Cert.DNIdeal.τ).loc Cert.DNIdeal.main_arg1) = m ((c.tc : Thread Cert.DNIdeal.nD Cert.DNIdeal.τ).loc Cert.DNIdeal.main_arg1))
      ∧ θ_run (Cert.DNReferenceIdeal.defs (F := Ideal)) (onTc (τ := Cert.DNReferenceIdeal.τ) (Cert.DNReferenceIdeal.main (F := Ideal))) ⟨m', fun _ => 0, g'⟩ (fun r => ∀ c : Dev Cert.DNReferenceIdeal.nD,
          r.2.mem ((c.tc : Thread Cert.DNReferenceIdeal.nD Cert.DNReferenceIdeal.τ).loc Cert.DNReferenceIdeal.main_v2) = v0 c
          ∧ r.2.mem ((c.tc : Thread Cert.DNReferenceIdeal.nD Cert.DNReferenceIdeal.τ).loc Cert.DNReferenceIdeal.main_arg0) = m' ((c.tc : Thread Cert.DNReferenceIdeal.nD Cert.DNReferenceIdeal.τ).loc Cert.DNReferenceIdeal.main_arg0)
          ∧ r.2.mem ((c.tc : Thread Cert.DNReferenceIdeal.nD Cert.DNReferenceIdeal.τ).loc Cert.DNReferenceIdeal.main_arg1) = m' ((c.tc : Thread Cert.DNReferenceIdeal.nD Cert.DNReferenceIdeal.τ).loc Cert.DNReferenceIdeal.main_arg1))

def preserves_GwUp_GwUpIdeal : Prop :=
  True

def algebraic_GwUpIdeal_GwUpReferenceIdeal [hGwUpIdeal : Cert.GwUpIdeal.Facts] [hGwUpReferenceIdeal : Cert.GwUpReferenceIdeal.Facts] : Prop :=
  ∀ (m : (ℓ : Loc Cert.GwUpIdeal.nD Cert.GwUpIdeal.τ Cert.GwUpIdeal.sig) → Buf (Elt Ideal) ℓ) (g : Dev Cert.GwUpIdeal.nD → PrngReg)
    (m' : (ℓ : Loc Cert.GwUpReferenceIdeal.nD Cert.GwUpReferenceIdeal.τ Cert.GwUpReferenceIdeal.sig) → Buf (Elt Ideal) ℓ) (g' : Dev Cert.GwUpReferenceIdeal.nD → PrngReg), Pre_GwUpIdeal m →
    (∀ c : Dev Cert.GwUpIdeal.nD,
      m' ((c.tc : Thread Cert.GwUpReferenceIdeal.nD Cert.GwUpReferenceIdeal.τ).loc Cert.GwUpReferenceIdeal.main_arg0) = m ((c.tc : Thread Cert.GwUpIdeal.nD Cert.GwUpIdeal.τ).loc Cert.GwUpIdeal.main_arg0)
      ∧ m' ((c.tc : Thread Cert.GwUpReferenceIdeal.nD Cert.GwUpReferenceIdeal.τ).loc Cert.GwUpReferenceIdeal.main_arg1) = m ((c.tc : Thread Cert.GwUpIdeal.nD Cert.GwUpIdeal.τ).loc Cert.GwUpIdeal.main_arg1)) →
    ∃ (v0 : (c : Dev Cert.GwUpIdeal.nD) → Buf (Elt Ideal) ((c.tc : Thread Cert.GwUpIdeal.nD Cert.GwUpIdeal.τ).loc Cert.GwUpIdeal.main_v2_0)) (v1 : (c : Dev Cert.GwUpIdeal.nD) → Buf (Elt Ideal) ((c.tc : Thread Cert.GwUpIdeal.nD Cert.GwUpIdeal.τ).loc Cert.GwUpIdeal.main_v2_1)),
      θ_run (Cert.GwUpIdeal.defs (F := Ideal)) (onTc (τ := Cert.GwUpIdeal.τ) (Cert.GwUpIdeal.main (F := Ideal))) ⟨m, fun _ => 0, g⟩ (fun r => ∀ c : Dev Cert.GwUpIdeal.nD,
          r.2.mem ((c.tc : Thread Cert.GwUpIdeal.nD Cert.GwUpIdeal.τ).loc Cert.GwUpIdeal.main_v2_0) = v0 c
          ∧ r.2.mem ((c.tc : Thread Cert.GwUpIdeal.nD Cert.GwUpIdeal.τ).loc Cert.GwUpIdeal.main_v2_1) = v1 c
          ∧ r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
          ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ θ_run (Cert.GwUpReferenceIdeal.defs (F := Ideal)) (onTc (τ := Cert.GwUpReferenceIdeal.τ) (Cert.GwUpReferenceIdeal.main (F := Ideal))) ⟨m', fun _ => 0, g'⟩ (fun r => ∀ c : Dev Cert.GwUpReferenceIdeal.nD,
          r.2.mem ((c.tc : Thread Cert.GwUpReferenceIdeal.nD Cert.GwUpReferenceIdeal.τ).loc Cert.GwUpReferenceIdeal.main_v5) = v0 c
          ∧ r.2.mem ((c.tc : Thread Cert.GwUpReferenceIdeal.nD Cert.GwUpReferenceIdeal.τ).loc Cert.GwUpReferenceIdeal.main_v6) = v1 c
          ∧ r.2.mem ((c.tc : Thread Cert.GwUpReferenceIdeal.nD Cert.GwUpReferenceIdeal.τ).loc Cert.GwUpReferenceIdeal.main_arg0) = m' ((c.tc : Thread Cert.GwUpReferenceIdeal.nD Cert.GwUpReferenceIdeal.τ).loc Cert.GwUpReferenceIdeal.main_arg0)
          ∧ r.2.mem ((c.tc : Thread Cert.GwUpReferenceIdeal.nD Cert.GwUpReferenceIdeal.τ).loc Cert.GwUpReferenceIdeal.main_arg1) = m' ((c.tc : Thread Cert.GwUpReferenceIdeal.nD Cert.GwUpReferenceIdeal.τ).loc Cert.GwUpReferenceIdeal.main_arg1))

def preserves_GwDown_GwDownIdeal : Prop :=
  True

def algebraic_GwDownIdeal_GwDownReferenceIdeal [hGwDownIdeal : Cert.GwDownIdeal.Facts] [hGwDownReferenceIdeal : Cert.GwDownReferenceIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.GwDownReferenceIdeal.nD Cert.GwDownReferenceIdeal.τ Cert.GwDownReferenceIdeal.sig) → Buf (Elt Ideal) ℓ) (g' : Dev Cert.GwDownReferenceIdeal.nD → PrngReg), Pre_GwDownIdeal m →
    (∀ c : Dev Cert.GwDownIdeal.nD,
      m' ((c.tc : Thread Cert.GwDownReferenceIdeal.nD Cert.GwDownReferenceIdeal.τ).loc Cert.GwDownReferenceIdeal.main_arg0) = m ((c.tc : Thread Cert.GwDownIdeal.nD Cert.GwDownIdeal.τ).loc Cert.GwDownIdeal.main_arg0)
      ∧ m' ((c.tc : Thread Cert.GwDownReferenceIdeal.nD Cert.GwDownReferenceIdeal.τ).loc Cert.GwDownReferenceIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v2_0)) (v1 : (c : Dev Cert.GwDownIdeal.nD) → Buf (Elt Ideal) ((c.tc : Thread Cert.GwDownIdeal.nD Cert.GwDownIdeal.τ).loc Cert.GwDownIdeal.main_v2_1)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v2_0) = v0 c
          ∧ r.2.mem ((c.tc : Thread Cert.GwDownIdeal.nD Cert.GwDownIdeal.τ).loc Cert.GwDownIdeal.main_v2_1) = v1 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.GwDownReferenceIdeal.defs (F := Ideal)) (onTc (τ := Cert.GwDownReferenceIdeal.τ) (Cert.GwDownReferenceIdeal.main (F := Ideal))) ⟨m', fun _ => 0, g'⟩ (fun r => ∀ c : Dev Cert.GwDownReferenceIdeal.nD,
          r.2.mem ((c.tc : Thread Cert.GwDownReferenceIdeal.nD Cert.GwDownReferenceIdeal.τ).loc Cert.GwDownReferenceIdeal.main_v3) = v0 c
          ∧ r.2.mem ((c.tc : Thread Cert.GwDownReferenceIdeal.nD Cert.GwDownReferenceIdeal.τ).loc Cert.GwDownReferenceIdeal.main_v4) = v1 c
          ∧ r.2.mem ((c.tc : Thread Cert.GwDownReferenceIdeal.nD Cert.GwDownReferenceIdeal.τ).loc Cert.GwDownReferenceIdeal.main_arg0) = m' ((c.tc : Thread Cert.GwDownReferenceIdeal.nD Cert.GwDownReferenceIdeal.τ).loc Cert.GwDownReferenceIdeal.main_arg0)
          ∧ r.2.mem ((c.tc : Thread Cert.GwDownReferenceIdeal.nD Cert.GwDownReferenceIdeal.τ).loc Cert.GwDownReferenceIdeal.main_arg1) = m' ((c.tc : Thread Cert.GwDownReferenceIdeal.nD Cert.GwDownReferenceIdeal.τ).loc Cert.GwDownReferenceIdeal.main_arg1))

def preserves_DUp_DUpIdeal : Prop :=
  True

def algebraic_DUpIdeal_DUpReferenceIdeal [hDUpIdeal : Cert.DUpIdeal.Facts] [hDUpReferenceIdeal : Cert.DUpReferenceIdeal.Facts] : Prop :=
  ∀ (m : (ℓ : Loc Cert.DUpIdeal.nD Cert.DUpIdeal.τ Cert.DUpIdeal.sig) → Buf (Elt Ideal) ℓ) (g : Dev Cert.DUpIdeal.nD → PrngReg)
    (m' : (ℓ : Loc Cert.DUpReferenceIdeal.nD Cert.DUpReferenceIdeal.τ Cert.DUpReferenceIdeal.sig) → Buf (Elt Ideal) ℓ) (g' : Dev Cert.DUpReferenceIdeal.nD → PrngReg), Pre_DUpIdeal m →
    (∀ c : Dev Cert.DUpIdeal.nD,
      m' ((c.tc : Thread Cert.DUpReferenceIdeal.nD Cert.DUpReferenceIdeal.τ).loc Cert.DUpReferenceIdeal.main_arg0) = m ((c.tc : Thread Cert.DUpIdeal.nD Cert.DUpIdeal.τ).loc Cert.DUpIdeal.main_arg0)
      ∧ m' ((c.tc : Thread Cert.DUpReferenceIdeal.nD Cert.DUpReferenceIdeal.τ).loc Cert.DUpReferenceIdeal.main_arg1) = m ((c.tc : Thread Cert.DUpIdeal.nD Cert.DUpIdeal.τ).loc Cert.DUpIdeal.main_arg1)
      ∧ m' ((c.tc : Thread Cert.DUpReferenceIdeal.nD Cert.DUpReferenceIdeal.τ).loc Cert.DUpReferenceIdeal.main_arg2) = m ((c.tc : Thread Cert.DUpIdeal.nD Cert.DUpIdeal.τ).loc Cert.DUpIdeal.main_arg2)) →
    ∃ (v0 : (c : Dev Cert.DUpIdeal.nD) → Buf (Elt Ideal) ((c.tc : Thread Cert.DUpIdeal.nD Cert.DUpIdeal.τ).loc Cert.DUpIdeal.main_v2)),
      θ_run (Cert.DUpIdeal.defs (F := Ideal)) (onTc (τ := Cert.DUpIdeal.τ) (Cert.DUpIdeal.main (F := Ideal))) ⟨m, fun _ => 0, g⟩ (fun r => ∀ c : Dev Cert.DUpIdeal.nD,
          r.2.mem ((c.tc : Thread Cert.DUpIdeal.nD Cert.DUpIdeal.τ).loc Cert.DUpIdeal.main_v2) = v0 c
          ∧ r.2.mem ((c.tc : Thread Cert.DUpIdeal.nD Cert.DUpIdeal.τ).loc Cert.DUpIdeal.main_arg0) = m ((c.tc : Thread Cert.DUpIdeal.nD Cert.DUpIdeal.τ).loc Cert.DUpIdeal.main_arg0)
          ∧ r.2.mem ((c.tc : Thread Cert.DUpIdeal.nD Cert.DUpIdeal.τ).loc Cert.DUpIdeal.main_arg1) = m ((c.tc : Thread Cert.DUpIdeal.nD Cert.DUpIdeal.τ).loc Cert.DUpIdeal.main_arg1)
          ∧ r.2.mem ((c.tc : Thread Cert.DUpIdeal.nD Cert.DUpIdeal.τ).loc Cert.DUpIdeal.main_arg2) = m ((c.tc : Thread Cert.DUpIdeal.nD Cert.DUpIdeal.τ).loc Cert.DUpIdeal.main_arg2))
      ∧ θ_run (Cert.DUpReferenceIdeal.defs (F := Ideal)) (onTc (τ := Cert.DUpReferenceIdeal.τ) (Cert.DUpReferenceIdeal.main (F := Ideal))) ⟨m', fun _ => 0, g'⟩ (fun r => ∀ c : Dev Cert.DUpReferenceIdeal.nD,
          r.2.mem ((c.tc : Thread Cert.DUpReferenceIdeal.nD Cert.DUpReferenceIdeal.τ).loc Cert.DUpReferenceIdeal.main_v12) = v0 c
          ∧ r.2.mem ((c.tc : Thread Cert.DUpReferenceIdeal.nD Cert.DUpReferenceIdeal.τ).loc Cert.DUpReferenceIdeal.main_arg0) = m' ((c.tc : Thread Cert.DUpReferenceIdeal.nD Cert.DUpReferenceIdeal.τ).loc Cert.DUpReferenceIdeal.main_arg0)
          ∧ r.2.mem ((c.tc : Thread Cert.DUpReferenceIdeal.nD Cert.DUpReferenceIdeal.τ).loc Cert.DUpReferenceIdeal.main_arg1) = m' ((c.tc : Thread Cert.DUpReferenceIdeal.nD Cert.DUpReferenceIdeal.τ).loc Cert.DUpReferenceIdeal.main_arg1)
          ∧ r.2.mem ((c.tc : Thread Cert.DUpReferenceIdeal.nD Cert.DUpReferenceIdeal.τ).loc Cert.DUpReferenceIdeal.main_arg2) = m' ((c.tc : Thread Cert.DUpReferenceIdeal.nD Cert.DUpReferenceIdeal.τ).loc Cert.DUpReferenceIdeal.main_arg2))

def preserves_DNTwo_DNTwoIdeal : Prop :=
  True

def algebraic_DNTwoIdeal_DNTwoReferenceIdeal [hDNTwoIdeal : Cert.DNTwoIdeal.Facts] [hDNTwoReferenceIdeal : Cert.DNTwoReferenceIdeal.Facts] : Prop :=
  ∀ (m : (ℓ : Loc Cert.DNTwoIdeal.nD Cert.DNTwoIdeal.τ Cert.DNTwoIdeal.sig) → Buf (Elt Ideal) ℓ) (g : Dev Cert.DNTwoIdeal.nD → PrngReg)
    (m' : (ℓ : Loc Cert.DNTwoReferenceIdeal.nD Cert.DNTwoReferenceIdeal.τ Cert.DNTwoReferenceIdeal.sig) → Buf (Elt Ideal) ℓ) (g' : Dev Cert.DNTwoReferenceIdeal.nD → PrngReg), Pre_DNTwoIdeal m →
    (∀ c : Dev Cert.DNTwoIdeal.nD,
      m' ((c.tc : Thread Cert.DNTwoReferenceIdeal.nD Cert.DNTwoReferenceIdeal.τ).loc Cert.DNTwoReferenceIdeal.main_arg0) = m ((c.tc : Thread Cert.DNTwoIdeal.nD Cert.DNTwoIdeal.τ).loc Cert.DNTwoIdeal.main_arg0)
      ∧ m' ((c.tc : Thread Cert.DNTwoReferenceIdeal.nD Cert.DNTwoReferenceIdeal.τ).loc Cert.DNTwoReferenceIdeal.main_arg1) = m ((c.tc : Thread Cert.DNTwoIdeal.nD Cert.DNTwoIdeal.τ).loc Cert.DNTwoIdeal.main_arg1)) →
    ∃ (v0 : (c : Dev Cert.DNTwoIdeal.nD) → Buf (Elt Ideal) ((c.tc : Thread Cert.DNTwoIdeal.nD Cert.DNTwoIdeal.τ).loc Cert.DNTwoIdeal.main_v4)),
      θ_run (Cert.DNTwoIdeal.defs (F := Ideal)) (onTc (τ := Cert.DNTwoIdeal.τ) (Cert.DNTwoIdeal.main (F := Ideal))) ⟨m, fun _ => 0, g⟩ (fun r => ∀ c : Dev Cert.DNTwoIdeal.nD,
          r.2.mem ((c.tc : Thread Cert.DNTwoIdeal.nD Cert.DNTwoIdeal.τ).loc Cert.DNTwoIdeal.main_v4) = v0 c
          ∧ r.2.mem ((c.tc : Thread Cert.DNTwoIdeal.nD Cert.DNTwoIdeal.τ).loc Cert.DNTwoIdeal.main_arg0) = m ((c.tc : Thread Cert.DNTwoIdeal.nD Cert.DNTwoIdeal.τ).loc Cert.DNTwoIdeal.main_arg0)
          ∧ r.2.mem ((c.tc : Thread Cert.DNTwoIdeal.nD Cert.DNTwoIdeal.τ).loc Cert.DNTwoIdeal.main_arg1) = m ((c.tc : Thread Cert.DNTwoIdeal.nD Cert.DNTwoIdeal.τ).loc Cert.DNTwoIdeal.main_arg1))
      ∧ θ_run (Cert.DNTwoReferenceIdeal.defs (F := Ideal)) (onTc (τ := Cert.DNTwoReferenceIdeal.τ) (Cert.DNTwoReferenceIdeal.main (F := Ideal))) ⟨m', fun _ => 0, g'⟩ (fun r => ∀ c : Dev Cert.DNTwoReferenceIdeal.nD,
          r.2.mem ((c.tc : Thread Cert.DNTwoReferenceIdeal.nD Cert.DNTwoReferenceIdeal.τ).loc Cert.DNTwoReferenceIdeal.main_v2) = v0 c
          ∧ r.2.mem ((c.tc : Thread Cert.DNTwoReferenceIdeal.nD Cert.DNTwoReferenceIdeal.τ).loc Cert.DNTwoReferenceIdeal.main_arg0) = m' ((c.tc : Thread Cert.DNTwoReferenceIdeal.nD Cert.DNTwoReferenceIdeal.τ).loc Cert.DNTwoReferenceIdeal.main_arg0)
          ∧ r.2.mem ((c.tc : Thread Cert.DNTwoReferenceIdeal.nD Cert.DNTwoReferenceIdeal.τ).loc Cert.DNTwoReferenceIdeal.main_arg1) = m' ((c.tc : Thread Cert.DNTwoReferenceIdeal.nD Cert.DNTwoReferenceIdeal.τ).loc Cert.DNTwoReferenceIdeal.main_arg1))

def preserves_DM_DMIdeal : Prop :=
  True

def algebraic_DMIdeal_DMReferenceIdeal [hDMIdeal : Cert.DMIdeal.Facts] [hDMReferenceIdeal : Cert.DMReferenceIdeal.Facts] : Prop :=
  ∀ (m : (ℓ : Loc Cert.DMIdeal.nD Cert.DMIdeal.τ Cert.DMIdeal.sig) → Buf (Elt Ideal) ℓ) (g : Dev Cert.DMIdeal.nD → PrngReg)
    (m' : (ℓ : Loc Cert.DMReferenceIdeal.nD Cert.DMReferenceIdeal.τ Cert.DMReferenceIdeal.sig) → Buf (Elt Ideal) ℓ) (g' : Dev Cert.DMReferenceIdeal.nD → PrngReg), Pre_DMIdeal m →
    (∀ c : Dev Cert.DMIdeal.nD,
      m' ((c.tc : Thread Cert.DMReferenceIdeal.nD Cert.DMReferenceIdeal.τ).loc Cert.DMReferenceIdeal.main_arg0) = m ((c.tc : Thread Cert.DMIdeal.nD Cert.DMIdeal.τ).loc Cert.DMIdeal.main_arg0)
      ∧ m' ((c.tc : Thread Cert.DMReferenceIdeal.nD Cert.DMReferenceIdeal.τ).loc Cert.DMReferenceIdeal.main_arg1) = m ((c.tc : Thread Cert.DMIdeal.nD Cert.DMIdeal.τ).loc Cert.DMIdeal.main_arg1)) →
    ∃ (v0 : (c : Dev Cert.DMIdeal.nD) → Buf (Elt Ideal) ((c.tc : Thread Cert.DMIdeal.nD Cert.DMIdeal.τ).loc Cert.DMIdeal.main_v2)),
      θ_run (Cert.DMIdeal.defs (F := Ideal)) (onTc (τ := Cert.DMIdeal.τ) (Cert.DMIdeal.main (F := Ideal))) ⟨m, fun _ => 0, g⟩ (fun r => ∀ c : Dev Cert.DMIdeal.nD,
          r.2.mem ((c.tc : Thread Cert.DMIdeal.nD Cert.DMIdeal.τ).loc Cert.DMIdeal.main_v2) = v0 c
          ∧ r.2.mem ((c.tc : Thread Cert.DMIdeal.nD Cert.DMIdeal.τ).loc Cert.DMIdeal.main_arg0) = m ((c.tc : Thread Cert.DMIdeal.nD Cert.DMIdeal.τ).loc Cert.DMIdeal.main_arg0)
          ∧ r.2.mem ((c.tc : Thread Cert.DMIdeal.nD Cert.DMIdeal.τ).loc Cert.DMIdeal.main_arg1) = m ((c.tc : Thread Cert.DMIdeal.nD Cert.DMIdeal.τ).loc Cert.DMIdeal.main_arg1))
      ∧ θ_run (Cert.DMReferenceIdeal.defs (F := Ideal)) (onTc (τ := Cert.DMReferenceIdeal.τ) (Cert.DMReferenceIdeal.main (F := Ideal))) ⟨m', fun _ => 0, g'⟩ (fun r => ∀ c : Dev Cert.DMReferenceIdeal.nD,
          r.2.mem ((c.tc : Thread Cert.DMReferenceIdeal.nD Cert.DMReferenceIdeal.τ).loc Cert.DMReferenceIdeal.main_v2) = v0 c
          ∧ r.2.mem ((c.tc : Thread Cert.DMReferenceIdeal.nD Cert.DMReferenceIdeal.τ).loc Cert.DMReferenceIdeal.main_arg0) = m' ((c.tc : Thread Cert.DMReferenceIdeal.nD Cert.DMReferenceIdeal.τ).loc Cert.DMReferenceIdeal.main_arg0)
          ∧ r.2.mem ((c.tc : Thread Cert.DMReferenceIdeal.nD Cert.DMReferenceIdeal.τ).loc Cert.DMReferenceIdeal.main_arg1) = m' ((c.tc : Thread Cert.DMReferenceIdeal.nD Cert.DMReferenceIdeal.τ).loc Cert.DMReferenceIdeal.main_arg1))

def preserves_GwO_GwOIdeal : Prop :=
  True

def algebraic_GwOIdeal_GwOReferenceIdeal [hGwOIdeal : Cert.GwOIdeal.Facts] [hGwOReferenceIdeal : Cert.GwOReferenceIdeal.Facts] : Prop :=
  ∀ (m : (ℓ : Loc Cert.GwOIdeal.nD Cert.GwOIdeal.τ Cert.GwOIdeal.sig) → Buf (Elt Ideal) ℓ) (g : Dev Cert.GwOIdeal.nD → PrngReg)
    (m' : (ℓ : Loc Cert.GwOReferenceIdeal.nD Cert.GwOReferenceIdeal.τ Cert.GwOReferenceIdeal.sig) → Buf (Elt Ideal) ℓ) (g' : Dev Cert.GwOReferenceIdeal.nD → PrngReg), Pre_GwOIdeal m →
    (∀ c : Dev Cert.GwOIdeal.nD,
      m' ((c.tc : Thread Cert.GwOReferenceIdeal.nD Cert.GwOReferenceIdeal.τ).loc Cert.GwOReferenceIdeal.main_arg0) = m ((c.tc : Thread Cert.GwOIdeal.nD Cert.GwOIdeal.τ).loc Cert.GwOIdeal.main_arg0)
      ∧ m' ((c.tc : Thread Cert.GwOReferenceIdeal.nD Cert.GwOReferenceIdeal.τ).loc Cert.GwOReferenceIdeal.main_arg1) = m ((c.tc : Thread Cert.GwOIdeal.nD Cert.GwOIdeal.τ).loc Cert.GwOIdeal.main_arg1)) →
    ∃ (v0 : (c : Dev Cert.GwOIdeal.nD) → Buf (Elt Ideal) ((c.tc : Thread Cert.GwOIdeal.nD Cert.GwOIdeal.τ).loc Cert.GwOIdeal.main_v2_0)) (v1 : (c : Dev Cert.GwOIdeal.nD) → Buf (Elt Ideal) ((c.tc : Thread Cert.GwOIdeal.nD Cert.GwOIdeal.τ).loc Cert.GwOIdeal.main_v2_1)),
      θ_run (Cert.GwOIdeal.defs (F := Ideal)) (onTc (τ := Cert.GwOIdeal.τ) (Cert.GwOIdeal.main (F := Ideal))) ⟨m, fun _ => 0, g⟩ (fun r => ∀ c : Dev Cert.GwOIdeal.nD,
          r.2.mem ((c.tc : Thread Cert.GwOIdeal.nD Cert.GwOIdeal.τ).loc Cert.GwOIdeal.main_v2_0) = v0 c
          ∧ r.2.mem ((c.tc : Thread Cert.GwOIdeal.nD Cert.GwOIdeal.τ).loc Cert.GwOIdeal.main_v2_1) = v1 c
          ∧ r.2.mem ((c.tc : Thread Cert.GwOIdeal.nD Cert.GwOIdeal.τ).loc Cert.GwOIdeal.main_arg0) = m ((c.tc : Thread Cert.GwOIdeal.nD Cert.GwOIdeal.τ).loc Cert.GwOIdeal.main_arg0)
          ∧ r.2.mem ((c.tc : Thread Cert.GwOIdeal.nD Cert.GwOIdeal.τ).loc Cert.GwOIdeal.main_arg1) = m ((c.tc : Thread Cert.GwOIdeal.nD Cert.GwOIdeal.τ).loc Cert.GwOIdeal.main_arg1))
      ∧ θ_run (Cert.GwOReferenceIdeal.defs (F := Ideal)) (onTc (τ := Cert.GwOReferenceIdeal.τ) (Cert.GwOReferenceIdeal.main (F := Ideal))) ⟨m', fun _ => 0, g'⟩ (fun r => ∀ c : Dev Cert.GwOReferenceIdeal.nD,
          r.2.mem ((c.tc : Thread Cert.GwOReferenceIdeal.nD Cert.GwOReferenceIdeal.τ).loc Cert.GwOReferenceIdeal.main_v3) = v0 c
          ∧ r.2.mem ((c.tc : Thread Cert.GwOReferenceIdeal.nD Cert.GwOReferenceIdeal.τ).loc Cert.GwOReferenceIdeal.main_v4) = v1 c
          ∧ r.2.mem ((c.tc : Thread Cert.GwOReferenceIdeal.nD Cert.GwOReferenceIdeal.τ).loc Cert.GwOReferenceIdeal.main_arg0) = m' ((c.tc : Thread Cert.GwOReferenceIdeal.nD Cert.GwOReferenceIdeal.τ).loc Cert.GwOReferenceIdeal.main_arg0)
          ∧ r.2.mem ((c.tc : Thread Cert.GwOReferenceIdeal.nD Cert.GwOReferenceIdeal.τ).loc Cert.GwOReferenceIdeal.main_arg1) = m' ((c.tc : Thread Cert.GwOReferenceIdeal.nD Cert.GwOReferenceIdeal.τ).loc Cert.GwOReferenceIdeal.main_arg1))

def preserves_DAct_DActIdeal : Prop :=
  True

def algebraic_DActIdeal_DActReferenceIdeal [hDActIdeal : Cert.DActIdeal.Facts] [hDActReferenceIdeal : Cert.DActReferenceIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActReferenceIdeal.nD Cert.DActReferenceIdeal.τ Cert.DActReferenceIdeal.sig) → Buf (Elt Ideal) ℓ) (g' : Dev Cert.DActReferenceIdeal.nD → PrngReg), Pre_DActIdeal m →
    (∀ c : Dev Cert.DActIdeal.nD,
      m' ((c.tc : Thread Cert.DActReferenceIdeal.nD Cert.DActReferenceIdeal.τ).loc Cert.DActReferenceIdeal.main_arg0) = m ((c.tc : Thread Cert.DActIdeal.nD Cert.DActIdeal.τ).loc Cert.DActIdeal.main_arg0)
      ∧ m' ((c.tc : Thread Cert.DActReferenceIdeal.nD Cert.DActReferenceIdeal.τ).loc Cert.DActReferenceIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v4)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v4) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActReferenceIdeal.defs (F := Ideal)) (onTc (τ := Cert.DActReferenceIdeal.τ) (Cert.DActReferenceIdeal.main (F := Ideal))) ⟨m', fun _ => 0, g'⟩ (fun r => ∀ c : Dev Cert.DActReferenceIdeal.nD,
          r.2.mem ((c.tc : Thread Cert.DActReferenceIdeal.nD Cert.DActReferenceIdeal.τ).loc Cert.DActReferenceIdeal.main_v2) = v0 c
          ∧ r.2.mem ((c.tc : Thread Cert.DActReferenceIdeal.nD Cert.DActReferenceIdeal.τ).loc Cert.DActReferenceIdeal.main_arg0) = m' ((c.tc : Thread Cert.DActReferenceIdeal.nD Cert.DActReferenceIdeal.τ).loc Cert.DActReferenceIdeal.main_arg0)
          ∧ r.2.mem ((c.tc : Thread Cert.DActReferenceIdeal.nD Cert.DActReferenceIdeal.τ).loc Cert.DActReferenceIdeal.main_arg1) = m' ((c.tc : Thread Cert.DActReferenceIdeal.nD Cert.DActReferenceIdeal.τ).loc Cert.DActReferenceIdeal.main_arg1))

def preserves_GwPw_GwPwIdeal : Prop :=
  True

def algebraic_GwPwIdeal_GwPwReferenceIdeal [hGwPwIdeal : Cert.GwPwIdeal.Facts] [hGwPwReferenceIdeal : Cert.GwPwReferenceIdeal.Facts] : Prop :=
  ∀ (m : (ℓ : Loc Cert.GwPwIdeal.nD Cert.GwPwIdeal.τ Cert.GwPwIdeal.sig) → Buf (Elt Ideal) ℓ) (g : Dev Cert.GwPwIdeal.nD → PrngReg)
    (m' : (ℓ : Loc Cert.GwPwReferenceIdeal.nD Cert.GwPwReferenceIdeal.τ Cert.GwPwReferenceIdeal.sig) → Buf (Elt Ideal) ℓ) (g' : Dev Cert.GwPwReferenceIdeal.nD → PrngReg), Pre_GwPwIdeal m →
    (∀ c : Dev Cert.GwPwIdeal.nD,
      m' ((c.tc : Thread Cert.GwPwReferenceIdeal.nD Cert.GwPwReferenceIdeal.τ).loc Cert.GwPwReferenceIdeal.main_arg0) = m ((c.tc : Thread Cert.GwPwIdeal.nD Cert.GwPwIdeal.τ).loc Cert.GwPwIdeal.main_arg0)
      ∧ m' ((c.tc : Thread Cert.GwPwReferenceIdeal.nD Cert.GwPwReferenceIdeal.τ).loc Cert.GwPwReferenceIdeal.main_arg1) = m ((c.tc : Thread Cert.GwPwIdeal.nD Cert.GwPwIdeal.τ).loc Cert.GwPwIdeal.main_arg1)) →
    ∃ (v0 : (c : Dev Cert.GwPwIdeal.nD) → Buf (Elt Ideal) ((c.tc : Thread Cert.GwPwIdeal.nD Cert.GwPwIdeal.τ).loc Cert.GwPwIdeal.main_v2_0)) (v1 : (c : Dev Cert.GwPwIdeal.nD) → Buf (Elt Ideal) ((c.tc : Thread Cert.GwPwIdeal.nD Cert.GwPwIdeal.τ).loc Cert.GwPwIdeal.main_v2_1)),
      θ_run (Cert.GwPwIdeal.defs (F := Ideal)) (onTc (τ := Cert.GwPwIdeal.τ) (Cert.GwPwIdeal.main (F := Ideal))) ⟨m, fun _ => 0, g⟩ (fun r => ∀ c : Dev Cert.GwPwIdeal.nD,
          r.2.mem ((c.tc : Thread Cert.GwPwIdeal.nD Cert.GwPwIdeal.τ).loc Cert.GwPwIdeal.main_v2_0) = v0 c
          ∧ r.2.mem ((c.tc : Thread Cert.GwPwIdeal.nD Cert.GwPwIdeal.τ).loc Cert.GwPwIdeal.main_v2_1) = v1 c
          ∧ r.2.mem ((c.tc : Thread Cert.GwPwIdeal.nD Cert.GwPwIdeal.τ).loc Cert.GwPwIdeal.main_arg0) = m ((c.tc : Thread Cert.GwPwIdeal.nD Cert.GwPwIdeal.τ).loc Cert.GwPwIdeal.main_arg0)
          ∧ r.2.mem ((c.tc : Thread Cert.GwPwIdeal.nD Cert.GwPwIdeal.τ).loc Cert.GwPwIdeal.main_arg1) = m ((c.tc : Thread Cert.GwPwIdeal.nD Cert.GwPwIdeal.τ).loc Cert.GwPwIdeal.main_arg1))
      ∧ θ_run (Cert.GwPwReferenceIdeal.defs (F := Ideal)) (onTc (τ := Cert.GwPwReferenceIdeal.τ) (Cert.GwPwReferenceIdeal.main (F := Ideal))) ⟨m', fun _ => 0, g'⟩ (fun r => ∀ c : Dev Cert.GwPwReferenceIdeal.nD,
          r.2.mem ((c.tc : Thread Cert.GwPwReferenceIdeal.nD Cert.GwPwReferenceIdeal.τ).loc Cert.GwPwReferenceIdeal.main_v5) = v0 c
          ∧ r.2.mem ((c.tc : Thread Cert.GwPwReferenceIdeal.nD Cert.GwPwReferenceIdeal.τ).loc Cert.GwPwReferenceIdeal.main_v6) = v1 c
          ∧ r.2.mem ((c.tc : Thread Cert.GwPwReferenceIdeal.nD Cert.GwPwReferenceIdeal.τ).loc Cert.GwPwReferenceIdeal.main_arg0) = m' ((c.tc : Thread Cert.GwPwReferenceIdeal.nD Cert.GwPwReferenceIdeal.τ).loc Cert.GwPwReferenceIdeal.main_arg0)
          ∧ r.2.mem ((c.tc : Thread Cert.GwPwReferenceIdeal.nD Cert.GwPwReferenceIdeal.τ).loc Cert.GwPwReferenceIdeal.main_arg1) = m' ((c.tc : Thread Cert.GwPwReferenceIdeal.nD Cert.GwPwReferenceIdeal.τ).loc Cert.GwPwReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_YA_YAIdeal : Prop :=
  True

def algebraic_YAIdeal_YAReferenceIdeal [hYAIdeal : Cert.YAIdeal.Facts] [hYAReferenceIdeal : Cert.YAReferenceIdeal.Facts] : Prop :=
  ∀ (m : (ℓ : Loc Cert.YAIdeal.nD Cert.YAIdeal.τ Cert.YAIdeal.sig) → Buf (Elt Ideal) ℓ) (g : Dev Cert.YAIdeal.nD → PrngReg)
    (m' : (ℓ : Loc Cert.YAReferenceIdeal.nD Cert.YAReferenceIdeal.τ Cert.YAReferenceIdeal.sig) → Buf (Elt Ideal) ℓ) (g' : Dev Cert.YAReferenceIdeal.nD → PrngReg), Pre_YAIdeal m →
    (∀ c : Dev Cert.YAIdeal.nD,
      m' ((c.tc : Thread Cert.YAReferenceIdeal.nD Cert.YAReferenceIdeal.τ).loc Cert.YAReferenceIdeal.main_arg0) = m ((c.tc : Thread Cert.YAIdeal.nD Cert.YAIdeal.τ).loc Cert.YAIdeal.main_arg0)
      ∧ m' ((c.tc : Thread Cert.YAReferenceIdeal.nD Cert.YAReferenceIdeal.τ).loc Cert.YAReferenceIdeal.main_arg1) = m ((c.tc : Thread Cert.YAIdeal.nD Cert.YAIdeal.τ).loc Cert.YAIdeal.main_arg1)) →
    ∃ (v0 : (c : Dev Cert.YAIdeal.nD) → Buf (Elt Ideal) ((c.tc : Thread Cert.YAIdeal.nD Cert.YAIdeal.τ).loc Cert.YAIdeal.main_v4)),
      θ_run (Cert.YAIdeal.defs (F := Ideal)) (onTc (τ := Cert.YAIdeal.τ) (Cert.YAIdeal.main (F := Ideal))) ⟨m, fun _ => 0, g⟩ (fun r => ∀ c : Dev Cert.YAIdeal.nD,
          r.2.mem ((c.tc : Thread Cert.YAIdeal.nD Cert.YAIdeal.τ).loc Cert.YAIdeal.main_v4) = v0 c
          ∧ r.2.mem ((c.tc : Thread Cert.YAIdeal.nD Cert.YAIdeal.τ).loc Cert.YAIdeal.main_arg0) = m ((c.tc : Thread Cert.YAIdeal.nD Cert.YAIdeal.τ).loc Cert.YAIdeal.main_arg0)
          ∧ r.2.mem ((c.tc : Thread Cert.YAIdeal.nD Cert.YAIdeal.τ).loc Cert.YAIdeal.main_arg1) = m ((c.tc : Thread Cert.YAIdeal.nD Cert.YAIdeal.τ).loc Cert.YAIdeal.main_arg1))
      ∧ θ_run (Cert.YAReferenceIdeal.defs (F := Ideal)) (onTc (τ := Cert.YAReferenceIdeal.τ) (Cert.YAReferenceIdeal.main (F := Ideal))) ⟨m', fun _ => 0, g'⟩ (fun r => ∀ c : Dev Cert.YAReferenceIdeal.nD,
          r.2.mem ((c.tc : Thread Cert.YAReferenceIdeal.nD Cert.YAReferenceIdeal.τ).loc Cert.YAReferenceIdeal.main_v0) = v0 c
          ∧ r.2.mem ((c.tc : Thread Cert.YAReferenceIdeal.nD Cert.YAReferenceIdeal.τ).loc Cert.YAReferenceIdeal.main_arg0) = m' ((c.tc : Thread Cert.YAReferenceIdeal.nD Cert.YAReferenceIdeal.τ).loc Cert.YAReferenceIdeal.main_arg0)
          ∧ r.2.mem ((c.tc : Thread Cert.YAReferenceIdeal.nD Cert.YAReferenceIdeal.τ).loc Cert.YAReferenceIdeal.main_arg1) = m' ((c.tc : Thread Cert.YAReferenceIdeal.nD Cert.YAReferenceIdeal.τ).loc Cert.YAReferenceIdeal.main_arg1))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v2) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v0) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v0) = v0 c
          ∧ r.2.mem ((c.tc : Thread Cert.UpReferenceIdeal.nD Cert.UpReferenceIdeal.τ).loc Cert.UpReferenceIdeal.main_v3) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_GateBwd_GateBwdIdeal : Prop :=
  True

def algebraic_GateBwdIdeal_GateBwdReferenceIdeal [hGateBwdIdeal : Cert.GateBwdIdeal.Facts] [hGateBwdReferenceIdeal : Cert.GateBwdReferenceIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdReferenceIdeal.nD Cert.GateBwdReferenceIdeal.τ Cert.GateBwdReferenceIdeal.sig) → Buf (Elt Ideal) ℓ) (g' : Dev Cert.GateBwdReferenceIdeal.nD → PrngReg), Pre_GateBwdIdeal m →
    (∀ c : Dev Cert.GateBwdIdeal.nD,
      m' ((c.tc : Thread Cert.GateBwdReferenceIdeal.nD Cert.GateBwdReferenceIdeal.τ).loc Cert.GateBwdReferenceIdeal.main_arg0) = m ((c.tc : Thread Cert.GateBwdIdeal.nD Cert.GateBwdIdeal.τ).loc Cert.GateBwdIdeal.main_arg0)
      ∧ m' ((c.tc : Thread Cert.GateBwdReferenceIdeal.nD Cert.GateBwdReferenceIdeal.τ).loc Cert.GateBwdReferenceIdeal.main_arg1) = m ((c.tc : Thread Cert.GateBwdIdeal.nD Cert.GateBwdIdeal.τ).loc Cert.GateBwdIdeal.main_arg1)
      ∧ m' ((c.tc : Thread Cert.GateBwdReferenceIdeal.nD Cert.GateBwdReferenceIdeal.τ).loc Cert.GateBwdReferenceIdeal.main_arg2) = m ((c.tc : Thread Cert.GateBwdIdeal.nD Cert.GateBwdIdeal.τ).loc Cert.GateBwdIdeal.main_arg2)
      ∧ m' ((c.tc : Thread Cert.GateBwdReferenceIdeal.nD Cert.GateBwdReferenceIdeal.τ).loc Cert.GateBwdReferenceIdeal.main_arg3) = m ((c.tc : Thread Cert.GateBwdIdeal.nD Cert.GateBwdIdeal.τ).loc Cert.GateBwdIdeal.main_arg3)
      ∧ m' ((c.tc : Thread Cert.GateBwdReferenceIdeal.nD Cert.GateBwdReferenceIdeal.τ).loc Cert.GateBwdReferenceIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)) (v3 : (c : Dev Cert.GateBwdIdeal.nD) → Buf (Elt Ideal) ((c.tc : Thread Cert.GateBwdIdeal.nD Cert.GateBwdIdeal.τ).loc Cert.GateBwdIdeal.main_v0_3)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_v0_3) = v3 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateBwdReferenceIdeal.defs (F := Ideal)) (onTc (τ := Cert.GateBwdReferenceIdeal.τ) (Cert.GateBwdReferenceIdeal.main (F := Ideal))) ⟨m', fun _ => 0, g'⟩ (fun r => ∀ c : Dev Cert.GateBwdReferenceIdeal.nD,
          r.2.mem ((c.tc : Thread Cert.GateBwdReferenceIdeal.nD Cert.GateBwdReferenceIdeal.τ).loc Cert.GateBwdReferenceIdeal.main_v29) = v0 c
          ∧ r.2.mem ((c.tc : Thread Cert.GateBwdReferenceIdeal.nD Cert.GateBwdReferenceIdeal.τ).loc Cert.GateBwdReferenceIdeal.main_v30) = v1 c
          ∧ r.2.mem ((c.tc : Thread Cert.GateBwdReferenceIdeal.nD Cert.GateBwdReferenceIdeal.τ).loc Cert.GateBwdReferenceIdeal.main_v31) = v2 c
          ∧ r.2.mem ((c.tc : Thread Cert.GateBwdReferenceIdeal.nD Cert.GateBwdReferenceIdeal.τ).loc Cert.GateBwdReferenceIdeal.main_v28) = v3 c
          ∧ r.2.mem ((c.tc : Thread Cert.GateBwdReferenceIdeal.nD Cert.GateBwdReferenceIdeal.τ).loc Cert.GateBwdReferenceIdeal.main_arg0) = m' ((c.tc : Thread Cert.GateBwdReferenceIdeal.nD Cert.GateBwdReferenceIdeal.τ).loc Cert.GateBwdReferenceIdeal.main_arg0)
          ∧ r.2.mem ((c.tc : Thread Cert.GateBwdReferenceIdeal.nD Cert.GateBwdReferenceIdeal.τ).loc Cert.GateBwdReferenceIdeal.main_arg1) = m' ((c.tc : Thread Cert.GateBwdReferenceIdeal.nD Cert.GateBwdReferenceIdeal.τ).loc Cert.GateBwdReferenceIdeal.main_arg1)
          ∧ r.2.mem ((c.tc : Thread Cert.GateBwdReferenceIdeal.nD Cert.GateBwdReferenceIdeal.τ).loc Cert.GateBwdReferenceIdeal.main_arg2) = m' ((c.tc : Thread Cert.GateBwdReferenceIdeal.nD Cert.GateBwdReferenceIdeal.τ).loc Cert.GateBwdReferenceIdeal.main_arg2)
          ∧ r.2.mem ((c.tc : Thread Cert.GateBwdReferenceIdeal.nD Cert.GateBwdReferenceIdeal.τ).loc Cert.GateBwdReferenceIdeal.main_arg3) = m' ((c.tc : Thread Cert.GateBwdReferenceIdeal.nD Cert.GateBwdReferenceIdeal.τ).loc Cert.GateBwdReferenceIdeal.main_arg3)
          ∧ r.2.mem ((c.tc : Thread Cert.GateBwdReferenceIdeal.nD Cert.GateBwdReferenceIdeal.τ).loc Cert.GateBwdReferenceIdeal.main_arg4) = m' ((c.tc : Thread Cert.GateBwdReferenceIdeal.nD Cert.GateBwdReferenceIdeal.τ).loc Cert.GateBwdReferenceIdeal.main_arg4))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)
      ∧ m' ((c.tc : Thread Cert.GateReferenceIdeal.nD Cert.GateReferenceIdeal.τ).loc Cert.GateReferenceIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v14) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_NormIn_NormInIdeal : Prop :=
  True

def algebraic_NormInIdeal_NormInReferenceIdeal [hNormInIdeal : Cert.NormInIdeal.Facts] [hNormInReferenceIdeal : Cert.NormInReferenceIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInReferenceIdeal.nD Cert.NormInReferenceIdeal.τ Cert.NormInReferenceIdeal.sig) → Buf (Elt Ideal) ℓ) (g' : Dev Cert.NormInReferenceIdeal.nD → PrngReg), Pre_NormInIdeal m →
    (∀ c : Dev Cert.NormInIdeal.nD,
      m' ((c.tc : Thread Cert.NormInReferenceIdeal.nD Cert.NormInReferenceIdeal.τ).loc Cert.NormInReferenceIdeal.main_arg0) = m ((c.tc : Thread Cert.NormInIdeal.nD Cert.NormInIdeal.τ).loc Cert.NormInIdeal.main_arg0)
      ∧ m' ((c.tc : Thread Cert.NormInReferenceIdeal.nD Cert.NormInReferenceIdeal.τ).loc Cert.NormInReferenceIdeal.main_arg1) = m ((c.tc : Thread Cert.NormInIdeal.nD Cert.NormInIdeal.τ).loc Cert.NormInIdeal.main_arg1)) →
    ∃ (v0 : (c : Dev Cert.NormInIdeal.nD) → Buf (Elt Ideal) ((c.tc : Thread Cert.NormInIdeal.nD Cert.NormInIdeal.τ).loc Cert.NormInIdeal.main_v0)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v0) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1))
      ∧ θ_run (Cert.NormInReferenceIdeal.defs (F := Ideal)) (onTc (τ := Cert.NormInReferenceIdeal.τ) (Cert.NormInReferenceIdeal.main (F := Ideal))) ⟨m', fun _ => 0, g'⟩ (fun r => ∀ c : Dev Cert.NormInReferenceIdeal.nD,
          r.2.mem ((c.tc : Thread Cert.NormInReferenceIdeal.nD Cert.NormInReferenceIdeal.τ).loc Cert.NormInReferenceIdeal.main_v12) = v0 c
          ∧ r.2.mem ((c.tc : Thread Cert.NormInReferenceIdeal.nD Cert.NormInReferenceIdeal.τ).loc Cert.NormInReferenceIdeal.main_arg0) = m' ((c.tc : Thread Cert.NormInReferenceIdeal.nD Cert.NormInReferenceIdeal.τ).loc Cert.NormInReferenceIdeal.main_arg0)
          ∧ r.2.mem ((c.tc : Thread Cert.NormInReferenceIdeal.nD Cert.NormInReferenceIdeal.τ).loc Cert.NormInReferenceIdeal.main_arg1) = m' ((c.tc : Thread Cert.NormInReferenceIdeal.nD Cert.NormInReferenceIdeal.τ).loc Cert.NormInReferenceIdeal.main_arg1))

def preserves_PostMix_PostMixIdeal : Prop :=
  True

def algebraic_PostMixIdeal_PostMixReferenceIdeal [hPostMixIdeal : Cert.PostMixIdeal.Facts] [hPostMixReferenceIdeal : Cert.PostMixReferenceIdeal.Facts] : Prop :=
  ∀ (m : (ℓ : Loc Cert.PostMixIdeal.nD Cert.PostMixIdeal.τ Cert.PostMixIdeal.sig) → Buf (Elt Ideal) ℓ) (g : Dev Cert.PostMixIdeal.nD → PrngReg)
    (m' : (ℓ : Loc Cert.PostMixReferenceIdeal.nD Cert.PostMixReferenceIdeal.τ Cert.PostMixReferenceIdeal.sig) → Buf (Elt Ideal) ℓ) (g' : Dev Cert.PostMixReferenceIdeal.nD → PrngReg), Pre_PostMixIdeal m →
    (∀ c : Dev Cert.PostMixIdeal.nD,
      m' ((c.tc : Thread Cert.PostMixReferenceIdeal.nD Cert.PostMixReferenceIdeal.τ).loc Cert.PostMixReferenceIdeal.main_arg0) = m ((c.tc : Thread Cert.PostMixIdeal.nD Cert.PostMixIdeal.τ).loc Cert.PostMixIdeal.main_arg0)
      ∧ m' ((c.tc : Thread Cert.PostMixReferenceIdeal.nD Cert.PostMixReferenceIdeal.τ).loc Cert.PostMixReferenceIdeal.main_arg1) = m ((c.tc : Thread Cert.PostMixIdeal.nD Cert.PostMixIdeal.τ).loc Cert.PostMixIdeal.main_arg1)
      ∧ m' ((c.tc : Thread Cert.PostMixReferenceIdeal.nD Cert.PostMixReferenceIdeal.τ).loc Cert.PostMixReferenceIdeal.main_arg2) = m ((c.tc : Thread Cert.PostMixIdeal.nD Cert.PostMixIdeal.τ).loc Cert.PostMixIdeal.main_arg2)
      ∧ m' ((c.tc : Thread Cert.PostMixReferenceIdeal.nD Cert.PostMixReferenceIdeal.τ).loc Cert.PostMixReferenceIdeal.main_arg3) = m ((c.tc : Thread Cert.PostMixIdeal.nD Cert.PostMixIdeal.τ).loc Cert.PostMixIdeal.main_arg3)) →
    ∃ (v0 : (c : Dev Cert.PostMixIdeal.nD) → Buf (Elt Ideal) ((c.tc : Thread Cert.PostMixIdeal.nD Cert.PostMixIdeal.τ).loc Cert.PostMixIdeal.main_v0_0)) (v1 : (c : Dev Cert.PostMixIdeal.nD) → Buf (Elt Ideal) ((c.tc : Thread Cert.PostMixIdeal.nD Cert.PostMixIdeal.τ).loc Cert.PostMixIdeal.main_v0_1)),
      θ_run (Cert.PostMixIdeal.defs (F := Ideal)) (onTc (τ := Cert.PostMixIdeal.τ) (Cert.PostMixIdeal.main (F := Ideal))) ⟨m, fun _ => 0, g⟩ (fun r => ∀ c : Dev Cert.PostMixIdeal.nD,
          r.2.mem ((c.tc : Thread Cert.PostMixIdeal.nD Cert.PostMixIdeal.τ).loc Cert.PostMixIdeal.main_v0_0) = v0 c
          ∧ r.2.mem ((c.tc : Thread Cert.PostMixIdeal.nD Cert.PostMixIdeal.τ).loc Cert.PostMixIdeal.main_v0_1) = v1 c
          ∧ r.2.mem ((c.tc : Thread Cert.PostMixIdeal.nD Cert.PostMixIdeal.τ).loc Cert.PostMixIdeal.main_arg0) = m ((c.tc : Thread Cert.PostMixIdeal.nD Cert.PostMixIdeal.τ).loc Cert.PostMixIdeal.main_arg0)
          ∧ r.2.mem ((c.tc : Thread Cert.PostMixIdeal.nD Cert.PostMixIdeal.τ).loc Cert.PostMixIdeal.main_arg1) = m ((c.tc : Thread Cert.PostMixIdeal.nD Cert.PostMixIdeal.τ).loc Cert.PostMixIdeal.main_arg1)
          ∧ r.2.mem ((c.tc : Thread Cert.PostMixIdeal.nD Cert.PostMixIdeal.τ).loc Cert.PostMixIdeal.main_arg2) = m ((c.tc : Thread Cert.PostMixIdeal.nD Cert.PostMixIdeal.τ).loc Cert.PostMixIdeal.main_arg2)
          ∧ r.2.mem ((c.tc : Thread Cert.PostMixIdeal.nD Cert.PostMixIdeal.τ).loc Cert.PostMixIdeal.main_arg3) = m ((c.tc : Thread Cert.PostMixIdeal.nD Cert.PostMixIdeal.τ).loc Cert.PostMixIdeal.main_arg3))
      ∧ θ_run (Cert.PostMixReferenceIdeal.defs (F := Ideal)) (onTc (τ := Cert.PostMixReferenceIdeal.τ) (Cert.PostMixReferenceIdeal.main (F := Ideal))) ⟨m', fun _ => 0, g'⟩ (fun r => ∀ c : Dev Cert.PostMixReferenceIdeal.nD,
          r.2.mem ((c.tc : Thread Cert.PostMixReferenceIdeal.nD Cert.PostMixReferenceIdeal.τ).loc Cert.PostMixReferenceIdeal.main_v12) = v0 c
          ∧ r.2.mem ((c.tc : Thread Cert.PostMixReferenceIdeal.nD Cert.PostMixReferenceIdeal.τ).loc Cert.PostMixReferenceIdeal.main_v25) = v1 c
          ∧ r.2.mem ((c.tc : Thread Cert.PostMixReferenceIdeal.nD Cert.PostMixReferenceIdeal.τ).loc Cert.PostMixReferenceIdeal.main_arg0) = m' ((c.tc : Thread Cert.PostMixReferenceIdeal.nD Cert.PostMixReferenceIdeal.τ).loc Cert.PostMixReferenceIdeal.main_arg0)
          ∧ r.2.mem ((c.tc : Thread Cert.PostMixReferenceIdeal.nD Cert.PostMixReferenceIdeal.τ).loc Cert.PostMixReferenceIdeal.main_arg1) = m' ((c.tc : Thread Cert.PostMixReferenceIdeal.nD Cert.PostMixReferenceIdeal.τ).loc Cert.PostMixReferenceIdeal.main_arg1)
          ∧ r.2.mem ((c.tc : Thread Cert.PostMixReferenceIdeal.nD Cert.PostMixReferenceIdeal.τ).loc Cert.PostMixReferenceIdeal.main_arg2) = m' ((c.tc : Thread Cert.PostMixReferenceIdeal.nD Cert.PostMixReferenceIdeal.τ).loc Cert.PostMixReferenceIdeal.main_arg2)
          ∧ r.2.mem ((c.tc : Thread Cert.PostMixReferenceIdeal.nD Cert.PostMixReferenceIdeal.τ).loc Cert.PostMixReferenceIdeal.main_arg3) = m' ((c.tc : Thread Cert.PostMixReferenceIdeal.nD Cert.PostMixReferenceIdeal.τ).loc Cert.PostMixReferenceIdeal.main_arg3))

def preserves_BranchAct_BranchActIdeal : Prop :=
  True

def algebraic_BranchActIdeal_BranchActReferenceIdeal [hBranchActIdeal : Cert.BranchActIdeal.Facts] [hBranchActReferenceIdeal : Cert.BranchActReferenceIdeal.Facts] : Prop :=
  ∀ (m : (ℓ : Loc Cert.BranchActIdeal.nD Cert.BranchActIdeal.τ Cert.BranchActIdeal.sig) → Buf (Elt Ideal) ℓ) (g : Dev Cert.BranchActIdeal.nD → PrngReg)
    (m' : (ℓ : Loc Cert.BranchActReferenceIdeal.nD Cert.BranchActReferenceIdeal.τ Cert.BranchActReferenceIdeal.sig) → Buf (Elt Ideal) ℓ) (g' : Dev Cert.BranchActReferenceIdeal.nD → PrngReg), Pre_BranchActIdeal m →
    (∀ c : Dev Cert.BranchActIdeal.nD,
      m' ((c.tc : Thread Cert.BranchActReferenceIdeal.nD Cert.BranchActReferenceIdeal.τ).loc Cert.BranchActReferenceIdeal.main_arg0) = m ((c.tc : Thread Cert.BranchActIdeal.nD Cert.BranchActIdeal.τ).loc Cert.BranchActIdeal.main_arg0)
      ∧ m' ((c.tc : Thread Cert.BranchActReferenceIdeal.nD Cert.BranchActReferenceIdeal.τ).loc Cert.BranchActReferenceIdeal.main_arg1) = m ((c.tc : Thread Cert.BranchActIdeal.nD Cert.BranchActIdeal.τ).loc Cert.BranchActIdeal.main_arg1)
      ∧ m' ((c.tc : Thread Cert.BranchActReferenceIdeal.nD Cert.BranchActReferenceIdeal.τ).loc Cert.BranchActReferenceIdeal.main_arg2) = m ((c.tc : Thread Cert.BranchActIdeal.nD Cert.BranchActIdeal.τ).loc Cert.BranchActIdeal.main_arg2)
      ∧ m' ((c.tc : Thread Cert.BranchActReferenceIdeal.nD Cert.BranchActReferenceIdeal.τ).loc Cert.BranchActReferenceIdeal.main_arg3) = m ((c.tc : Thread Cert.BranchActIdeal.nD Cert.BranchActIdeal.τ).loc Cert.BranchActIdeal.main_arg3)
      ∧ m' ((c.tc : Thread Cert.BranchActReferenceIdeal.nD Cert.BranchActReferenceIdeal.τ).loc Cert.BranchActReferenceIdeal.main_arg4) = m ((c.tc : Thread Cert.BranchActIdeal.nD Cert.BranchActIdeal.τ).loc Cert.BranchActIdeal.main_arg4)) →
    ∃ (v0 : (c : Dev Cert.BranchActIdeal.nD) → Buf (Elt Ideal) ((c.tc : Thread Cert.BranchActIdeal.nD Cert.BranchActIdeal.τ).loc Cert.BranchActIdeal.main_v0_0)) (v1 : (c : Dev Cert.BranchActIdeal.nD) → Buf (Elt Ideal) ((c.tc : Thread Cert.BranchActIdeal.nD Cert.BranchActIdeal.τ).loc Cert.BranchActIdeal.main_v0_1)),
      θ_run (Cert.BranchActIdeal.defs (F := Ideal)) (onTc (τ := Cert.BranchActIdeal.τ) (Cert.BranchActIdeal.main (F := Ideal))) ⟨m, fun _ => 0, g⟩ (fun r => ∀ c : Dev Cert.BranchActIdeal.nD,
          r.2.mem ((c.tc : Thread Cert.BranchActIdeal.nD Cert.BranchActIdeal.τ).loc Cert.BranchActIdeal.main_v0_0) = v0 c
          ∧ r.2.mem ((c.tc : Thread Cert.BranchActIdeal.nD Cert.BranchActIdeal.τ).loc Cert.BranchActIdeal.main_v0_1) = v1 c
          ∧ r.2.mem ((c.tc : Thread Cert.BranchActIdeal.nD Cert.BranchActIdeal.τ).loc Cert.BranchActIdeal.main_arg0) = m ((c.tc : Thread Cert.BranchActIdeal.nD Cert.BranchActIdeal.τ).loc Cert.BranchActIdeal.main_arg0)
          ∧ r.2.mem ((c.tc : Thread Cert.BranchActIdeal.nD Cert.BranchActIdeal.τ).loc Cert.BranchActIdeal.main_arg1) = m ((c.tc : Thread Cert.BranchActIdeal.nD Cert.BranchActIdeal.τ).loc Cert.BranchActIdeal.main_arg1)
          ∧ r.2.mem ((c.tc : Thread Cert.BranchActIdeal.nD Cert.BranchActIdeal.τ).loc Cert.BranchActIdeal.main_arg2) = m ((c.tc : Thread Cert.BranchActIdeal.nD Cert.BranchActIdeal.τ).loc Cert.BranchActIdeal.main_arg2)
          ∧ r.2.mem ((c.tc : Thread Cert.BranchActIdeal.nD Cert.BranchActIdeal.τ).loc Cert.BranchActIdeal.main_arg3) = m ((c.tc : Thread Cert.BranchActIdeal.nD Cert.BranchActIdeal.τ).loc Cert.BranchActIdeal.main_arg3)
          ∧ r.2.mem ((c.tc : Thread Cert.BranchActIdeal.nD Cert.BranchActIdeal.τ).loc Cert.BranchActIdeal.main_arg4) = m ((c.tc : Thread Cert.BranchActIdeal.nD Cert.BranchActIdeal.τ).loc Cert.BranchActIdeal.main_arg4))
      ∧ θ_run (Cert.BranchActReferenceIdeal.defs (F := Ideal)) (onTc (τ := Cert.BranchActReferenceIdeal.τ) (Cert.BranchActReferenceIdeal.main (F := Ideal))) ⟨m', fun _ => 0, g'⟩ (fun r => ∀ c : Dev Cert.BranchActReferenceIdeal.nD,
          r.2.mem ((c.tc : Thread Cert.BranchActReferenceIdeal.nD Cert.BranchActReferenceIdeal.τ).loc Cert.BranchActReferenceIdeal.main_v25) = v0 c
          ∧ r.2.mem ((c.tc : Thread Cert.BranchActReferenceIdeal.nD Cert.BranchActReferenceIdeal.τ).loc Cert.BranchActReferenceIdeal.main_v26) = v1 c
          ∧ r.2.mem ((c.tc : Thread Cert.BranchActReferenceIdeal.nD Cert.BranchActReferenceIdeal.τ).loc Cert.BranchActReferenceIdeal.main_arg0) = m' ((c.tc : Thread Cert.BranchActReferenceIdeal.nD Cert.BranchActReferenceIdeal.τ).loc Cert.BranchActReferenceIdeal.main_arg0)
          ∧ r.2.mem ((c.tc : Thread Cert.BranchActReferenceIdeal.nD Cert.BranchActReferenceIdeal.τ).loc Cert.BranchActReferenceIdeal.main_arg1) = m' ((c.tc : Thread Cert.BranchActReferenceIdeal.nD Cert.BranchActReferenceIdeal.τ).loc Cert.BranchActReferenceIdeal.main_arg1)
          ∧ r.2.mem ((c.tc : Thread Cert.BranchActReferenceIdeal.nD Cert.BranchActReferenceIdeal.τ).loc Cert.BranchActReferenceIdeal.main_arg2) = m' ((c.tc : Thread Cert.BranchActReferenceIdeal.nD Cert.BranchActReferenceIdeal.τ).loc Cert.BranchActReferenceIdeal.main_arg2)
          ∧ r.2.mem ((c.tc : Thread Cert.BranchActReferenceIdeal.nD Cert.BranchActReferenceIdeal.τ).loc Cert.BranchActReferenceIdeal.main_arg3) = m' ((c.tc : Thread Cert.BranchActReferenceIdeal.nD Cert.BranchActReferenceIdeal.τ).loc Cert.BranchActReferenceIdeal.main_arg3)
          ∧ r.2.mem ((c.tc : Thread Cert.BranchActReferenceIdeal.nD Cert.BranchActReferenceIdeal.τ).loc Cert.BranchActReferenceIdeal.main_arg4) = m' ((c.tc : Thread Cert.BranchActReferenceIdeal.nD Cert.BranchActReferenceIdeal.τ).loc Cert.BranchActReferenceIdeal.main_arg4))

def preserves_BranchBwd_BranchBwdIdeal : Prop :=
  True

def algebraic_BranchBwdIdeal_BranchBwdReferenceIdeal_pre_finite_rows [hBranchBwdIdeal : Cert.BranchBwdIdeal.Facts] [hBranchBwdReferenceIdeal : Cert.BranchBwdReferenceIdeal.Facts] [hPre_finite_rows : Cert.Pre_finite_rows.Facts] : Prop :=
  ∀ (m : (ℓ : Loc Cert.BranchBwdIdeal.nD Cert.BranchBwdIdeal.τ Cert.BranchBwdIdeal.sig) → Buf (Elt Ideal) ℓ) (g : Dev Cert.BranchBwdIdeal.nD → PrngReg)
    (m' : (ℓ : Loc Cert.BranchBwdReferenceIdeal.nD Cert.BranchBwdReferenceIdeal.τ Cert.BranchBwdReferenceIdeal.sig) → Buf (Elt Ideal) ℓ) (g' : Dev Cert.BranchBwdReferenceIdeal.nD → PrngReg), Pre_BranchBwdIdeal_finite_rows m →
    (∀ c : Dev Cert.BranchBwdIdeal.nD,
      m' ((c.tc : Thread Cert.BranchBwdReferenceIdeal.nD Cert.BranchBwdReferenceIdeal.τ).loc Cert.BranchBwdReferenceIdeal.main_arg0) = m ((c.tc : Thread Cert.BranchBwdIdeal.nD Cert.BranchBwdIdeal.τ).loc Cert.BranchBwdIdeal.main_arg0)
      ∧ m' ((c.tc : Thread Cert.BranchBwdReferenceIdeal.nD Cert.BranchBwdReferenceIdeal.τ).loc Cert.BranchBwdReferenceIdeal.main_arg1) = m ((c.tc : Thread Cert.BranchBwdIdeal.nD Cert.BranchBwdIdeal.τ).loc Cert.BranchBwdIdeal.main_arg1)
      ∧ m' ((c.tc : Thread Cert.BranchBwdReferenceIdeal.nD Cert.BranchBwdReferenceIdeal.τ).loc Cert.BranchBwdReferenceIdeal.main_arg2) = m ((c.tc : Thread Cert.BranchBwdIdeal.nD Cert.BranchBwdIdeal.τ).loc Cert.BranchBwdIdeal.main_arg2)
      ∧ m' ((c.tc : Thread Cert.BranchBwdReferenceIdeal.nD Cert.BranchBwdReferenceIdeal.τ).loc Cert.BranchBwdReferenceIdeal.main_arg3) = m ((c.tc : Thread Cert.BranchBwdIdeal.nD Cert.BranchBwdIdeal.τ).loc Cert.BranchBwdIdeal.main_arg3)
      ∧ m' ((c.tc : Thread Cert.BranchBwdReferenceIdeal.nD Cert.BranchBwdReferenceIdeal.τ).loc Cert.BranchBwdReferenceIdeal.main_arg4) = m ((c.tc : Thread Cert.BranchBwdIdeal.nD Cert.BranchBwdIdeal.τ).loc Cert.BranchBwdIdeal.main_arg4)
      ∧ m' ((c.tc : Thread Cert.BranchBwdReferenceIdeal.nD Cert.BranchBwdReferenceIdeal.τ).loc Cert.BranchBwdReferenceIdeal.main_arg5) = m ((c.tc : Thread Cert.BranchBwdIdeal.nD Cert.BranchBwdIdeal.τ).loc Cert.BranchBwdIdeal.main_arg5)
      ∧ m' ((c.tc : Thread Cert.BranchBwdReferenceIdeal.nD Cert.BranchBwdReferenceIdeal.τ).loc Cert.BranchBwdReferenceIdeal.main_arg6) = m ((c.tc : Thread Cert.BranchBwdIdeal.nD Cert.BranchBwdIdeal.τ).loc Cert.BranchBwdIdeal.main_arg6)) →
    ∃ (v0 : (c : Dev Cert.BranchBwdIdeal.nD) → Buf (Elt Ideal) ((c.tc : Thread Cert.BranchBwdIdeal.nD Cert.BranchBwdIdeal.τ).loc Cert.BranchBwdIdeal.main_v0_0)) (v1 : (c : Dev Cert.BranchBwdIdeal.nD) → Buf (Elt Ideal) ((c.tc : Thread Cert.BranchBwdIdeal.nD Cert.BranchBwdIdeal.τ).loc Cert.BranchBwdIdeal.main_v0_1)) (v2 : (c : Dev Cert.BranchBwdIdeal.nD) → Buf (Elt Ideal) ((c.tc : Thread Cert.BranchBwdIdeal.nD Cert.BranchBwdIdeal.τ).loc Cert.BranchBwdIdeal.main_v0_2)) (v3 : (c : Dev Cert.BranchBwdIdeal.nD) → Buf (Elt Ideal) ((c.tc : Thread Cert.BranchBwdIdeal.nD Cert.BranchBwdIdeal.τ).loc Cert.BranchBwdIdeal.main_v0_3)) (v4 : (c : Dev Cert.BranchBwdIdeal.nD) → Buf (Elt Ideal) ((c.tc : Thread Cert.BranchBwdIdeal.nD Cert.BranchBwdIdeal.τ).loc Cert.BranchBwdIdeal.main_v0_4)) (v5 : (c : Dev Cert.BranchBwdIdeal.nD) → Buf (Elt Ideal) ((c.tc : Thread Cert.BranchBwdIdeal.nD Cert.BranchBwdIdeal.τ).loc Cert.BranchBwdIdeal.main_v0_5)),
      θ_run (Cert.BranchBwdIdeal.defs (F := Ideal)) (onTc (τ := Cert.BranchBwdIdeal.τ) (Cert.BranchBwdIdeal.main (F := Ideal))) ⟨m, fun _ => 0, g⟩ (fun r => ∀ c : Dev Cert.BranchBwdIdeal.nD,
          r.2.mem ((c.tc : Thread Cert.BranchBwdIdeal.nD Cert.BranchBwdIdeal.τ).loc Cert.BranchBwdIdeal.main_v0_0) = v0 c
          ∧ r.2.mem ((c.tc : Thread Cert.BranchBwdIdeal.nD Cert.BranchBwdIdeal.τ).loc Cert.BranchBwdIdeal.main_v0_1) = v1 c
          ∧ r.2.mem ((c.tc : Thread Cert.BranchBwdIdeal.nD Cert.BranchBwdIdeal.τ).loc Cert.BranchBwdIdeal.main_v0_2) = v2 c
          ∧ r.2.mem ((c.tc : Thread Cert.BranchBwdIdeal.nD Cert.BranchBwdIdeal.τ).loc Cert.BranchBwdIdeal.main_v0_3) = v3 c
          ∧ r.2.mem ((c.tc : Thread Cert.BranchBwdIdeal.nD Cert.BranchBwdIdeal.τ).loc Cert.BranchBwdIdeal.main_v0_4) = v4 c
          ∧ r.2.mem ((c.tc : Thread Cert.BranchBwdIdeal.nD Cert.BranchBwdIdeal.τ).loc Cert.BranchBwdIdeal.main_v0_5) = v5 c
          ∧ r.2.mem ((c.tc : Thread Cert.BranchBwdIdeal.nD Cert.BranchBwdIdeal.τ).loc Cert.BranchBwdIdeal.main_arg0) = m ((c.tc : Thread Cert.BranchBwdIdeal.nD Cert.BranchBwdIdeal.τ).loc Cert.BranchBwdIdeal.main_arg0)
          ∧ r.2.mem ((c.tc : Thread Cert.BranchBwdIdeal.nD Cert.BranchBwdIdeal.τ).loc Cert.BranchBwdIdeal.main_arg1) = m ((c.tc : Thread Cert.BranchBwdIdeal.nD Cert.BranchBwdIdeal.τ).loc Cert.BranchBwdIdeal.main_arg1)
          ∧ r.2.mem ((c.tc : Thread Cert.BranchBwdIdeal.nD Cert.BranchBwdIdeal.τ).loc Cert.BranchBwdIdeal.main_arg2) = m ((c.tc : Thread Cert.BranchBwdIdeal.nD Cert.BranchBwdIdeal.τ).loc Cert.BranchBwdIdeal.main_arg2)
          ∧ r.2.mem ((c.tc : Thread Cert.BranchBwdIdeal.nD Cert.BranchBwdIdeal.τ).loc Cert.BranchBwdIdeal.main_arg3) = m ((c.tc : Thread Cert.BranchBwdIdeal.nD Cert.BranchBwdIdeal.τ).loc Cert.BranchBwdIdeal.main_arg3)
          ∧ r.2.mem ((c.tc : Thread Cert.BranchBwdIdeal.nD Cert.BranchBwdIdeal.τ).loc Cert.BranchBwdIdeal.main_arg4) = m ((c.tc : Thread Cert.BranchBwdIdeal.nD Cert.BranchBwdIdeal.τ).loc Cert.BranchBwdIdeal.main_arg4)
          ∧ r.2.mem ((c.tc : Thread Cert.BranchBwdIdeal.nD Cert.BranchBwdIdeal.τ).loc Cert.BranchBwdIdeal.main_arg5) = m ((c.tc : Thread Cert.BranchBwdIdeal.nD Cert.BranchBwdIdeal.τ).loc Cert.BranchBwdIdeal.main_arg5)
          ∧ r.2.mem ((c.tc : Thread Cert.BranchBwdIdeal.nD Cert.BranchBwdIdeal.τ).loc Cert.BranchBwdIdeal.main_arg6) = m ((c.tc : Thread Cert.BranchBwdIdeal.nD Cert.BranchBwdIdeal.τ).loc Cert.BranchBwdIdeal.main_arg6))
      ∧ θ_run (Cert.BranchBwdReferenceIdeal.defs (F := Ideal)) (onTc (τ := Cert.BranchBwdReferenceIdeal.τ) (Cert.BranchBwdReferenceIdeal.main (F := Ideal))) ⟨m', fun _ => 0, g'⟩ (fun r => ∀ c : Dev Cert.BranchBwdReferenceIdeal.nD,
          r.2.mem ((c.tc : Thread Cert.BranchBwdReferenceIdeal.nD Cert.BranchBwdReferenceIdeal.τ).loc Cert.BranchBwdReferenceIdeal.main_v63) = v0 c
          ∧ r.2.mem ((c.tc : Thread Cert.BranchBwdReferenceIdeal.nD Cert.BranchBwdReferenceIdeal.τ).loc Cert.BranchBwdReferenceIdeal.main_v30) = v1 c
          ∧ r.2.mem ((c.tc : Thread Cert.BranchBwdReferenceIdeal.nD Cert.BranchBwdReferenceIdeal.τ).loc Cert.BranchBwdReferenceIdeal.main_v66) = v2 c
          ∧ r.2.mem ((c.tc : Thread Cert.BranchBwdReferenceIdeal.nD Cert.BranchBwdReferenceIdeal.τ).loc Cert.BranchBwdReferenceIdeal.main_v37) = v3 c
          ∧ r.2.mem ((c.tc : Thread Cert.BranchBwdReferenceIdeal.nD Cert.BranchBwdReferenceIdeal.τ).loc Cert.BranchBwdReferenceIdeal.main_v34) = v4 c
          ∧ r.2.mem ((c.tc : Thread Cert.BranchBwdReferenceIdeal.nD Cert.BranchBwdReferenceIdeal.τ).loc Cert.BranchBwdReferenceIdeal.main_v65) = v5 c
          ∧ r.2.mem ((c.tc : Thread Cert.BranchBwdReferenceIdeal.nD Cert.BranchBwdReferenceIdeal.τ).loc Cert.BranchBwdReferenceIdeal.main_arg0) = m' ((c.tc : Thread Cert.BranchBwdReferenceIdeal.nD Cert.BranchBwdReferenceIdeal.τ).loc Cert.BranchBwdReferenceIdeal.main_arg0)
          ∧ r.2.mem ((c.tc : Thread Cert.BranchBwdReferenceIdeal.nD Cert.BranchBwdReferenceIdeal.τ).loc Cert.BranchBwdReferenceIdeal.main_arg1) = m' ((c.tc : Thread Cert.BranchBwdReferenceIdeal.nD Cert.BranchBwdReferenceIdeal.τ).loc Cert.BranchBwdReferenceIdeal.main_arg1)
          ∧ r.2.mem ((c.tc : Thread Cert.BranchBwdReferenceIdeal.nD Cert.BranchBwdReferenceIdeal.τ).loc Cert.BranchBwdReferenceIdeal.main_arg2) = m' ((c.tc : Thread Cert.BranchBwdReferenceIdeal.nD Cert.BranchBwdReferenceIdeal.τ).loc Cert.BranchBwdReferenceIdeal.main_arg2)
          ∧ r.2.mem ((c.tc : Thread Cert.BranchBwdReferenceIdeal.nD Cert.BranchBwdReferenceIdeal.τ).loc Cert.BranchBwdReferenceIdeal.main_arg3) = m' ((c.tc : Thread Cert.BranchBwdReferenceIdeal.nD Cert.BranchBwdReferenceIdeal.τ).loc Cert.BranchBwdReferenceIdeal.main_arg3)
          ∧ r.2.mem ((c.tc : Thread Cert.BranchBwdReferenceIdeal.nD Cert.BranchBwdReferenceIdeal.τ).loc Cert.BranchBwdReferenceIdeal.main_arg4) = m' ((c.tc : Thread Cert.BranchBwdReferenceIdeal.nD Cert.BranchBwdReferenceIdeal.τ).loc Cert.BranchBwdReferenceIdeal.main_arg4)
          ∧ r.2.mem ((c.tc : Thread Cert.BranchBwdReferenceIdeal.nD Cert.BranchBwdReferenceIdeal.τ).loc Cert.BranchBwdReferenceIdeal.main_arg5) = m' ((c.tc : Thread Cert.BranchBwdReferenceIdeal.nD Cert.BranchBwdReferenceIdeal.τ).loc Cert.BranchBwdReferenceIdeal.main_arg5)
          ∧ r.2.mem ((c.tc : Thread Cert.BranchBwdReferenceIdeal.nD Cert.BranchBwdReferenceIdeal.τ).loc Cert.BranchBwdReferenceIdeal.main_arg6) = m' ((c.tc : Thread Cert.BranchBwdReferenceIdeal.nD Cert.BranchBwdReferenceIdeal.τ).loc Cert.BranchBwdReferenceIdeal.main_arg6))

def preserves_BwdMid_BwdMidIdeal : Prop :=
  True

def algebraic_BwdMidIdeal_BwdMidReferenceIdeal [hBwdMidIdeal : Cert.BwdMidIdeal.Facts] [hBwdMidReferenceIdeal : Cert.BwdMidReferenceIdeal.Facts] : Prop :=
  ∀ (m : (ℓ : Loc Cert.BwdMidIdeal.nD Cert.BwdMidIdeal.τ Cert.BwdMidIdeal.sig) → Buf (Elt Ideal) ℓ) (g : Dev Cert.BwdMidIdeal.nD → PrngReg)
    (m' : (ℓ : Loc Cert.BwdMidReferenceIdeal.nD Cert.BwdMidReferenceIdeal.τ Cert.BwdMidReferenceIdeal.sig) → Buf (Elt Ideal) ℓ) (g' : Dev Cert.BwdMidReferenceIdeal.nD → PrngReg), Pre_BwdMidIdeal m →
    (∀ c : Dev Cert.BwdMidIdeal.nD,
      m' ((c.tc : Thread Cert.BwdMidReferenceIdeal.nD Cert.BwdMidReferenceIdeal.τ).loc Cert.BwdMidReferenceIdeal.main_arg0) = m ((c.tc : Thread Cert.BwdMidIdeal.nD Cert.BwdMidIdeal.τ).loc Cert.BwdMidIdeal.main_arg0)
      ∧ m' ((c.tc : Thread Cert.BwdMidReferenceIdeal.nD Cert.BwdMidReferenceIdeal.τ).loc Cert.BwdMidReferenceIdeal.main_arg1) = m ((c.tc : Thread Cert.BwdMidIdeal.nD Cert.BwdMidIdeal.τ).loc Cert.BwdMidIdeal.main_arg1)
      ∧ m' ((c.tc : Thread Cert.BwdMidReferenceIdeal.nD Cert.BwdMidReferenceIdeal.τ).loc Cert.BwdMidReferenceIdeal.main_arg2) = m ((c.tc : Thread Cert.BwdMidIdeal.nD Cert.BwdMidIdeal.τ).loc Cert.BwdMidIdeal.main_arg2)
      ∧ m' ((c.tc : Thread Cert.BwdMidReferenceIdeal.nD Cert.BwdMidReferenceIdeal.τ).loc Cert.BwdMidReferenceIdeal.main_arg3) = m ((c.tc : Thread Cert.BwdMidIdeal.nD Cert.BwdMidIdeal.τ).loc Cert.BwdMidIdeal.main_arg3)
      ∧ m' ((c.tc : Thread Cert.BwdMidReferenceIdeal.nD Cert.BwdMidReferenceIdeal.τ).loc Cert.BwdMidReferenceIdeal.main_arg4) = m ((c.tc : Thread Cert.BwdMidIdeal.nD Cert.BwdMidIdeal.τ).loc Cert.BwdMidIdeal.main_arg4)
      ∧ m' ((c.tc : Thread Cert.BwdMidReferenceIdeal.nD Cert.BwdMidReferenceIdeal.τ).loc Cert.BwdMidReferenceIdeal.main_arg5) = m ((c.tc : Thread Cert.BwdMidIdeal.nD Cert.BwdMidIdeal.τ).loc Cert.BwdMidIdeal.main_arg5)) →
    ∃ (v0 : (c : Dev Cert.BwdMidIdeal.nD) → Buf (Elt Ideal) ((c.tc : Thread Cert.BwdMidIdeal.nD Cert.BwdMidIdeal.τ).loc Cert.BwdMidIdeal.main_v0_0)) (v1 : (c : Dev Cert.BwdMidIdeal.nD) → Buf (Elt Ideal) ((c.tc : Thread Cert.BwdMidIdeal.nD Cert.BwdMidIdeal.τ).loc Cert.BwdMidIdeal.main_v0_1)) (v2 : (c : Dev Cert.BwdMidIdeal.nD) → Buf (Elt Ideal) ((c.tc : Thread Cert.BwdMidIdeal.nD Cert.BwdMidIdeal.τ).loc Cert.BwdMidIdeal.main_v0_2)) (v3 : (c : Dev Cert.BwdMidIdeal.nD) → Buf (Elt Ideal) ((c.tc : Thread Cert.BwdMidIdeal.nD Cert.BwdMidIdeal.τ).loc Cert.BwdMidIdeal.main_v0_3)),
      θ_run (Cert.BwdMidIdeal.defs (F := Ideal)) (onTc (τ := Cert.BwdMidIdeal.τ) (Cert.BwdMidIdeal.main (F := Ideal))) ⟨m, fun _ => 0, g⟩ (fun r => ∀ c : Dev Cert.BwdMidIdeal.nD,
          r.2.mem ((c.tc : Thread Cert.BwdMidIdeal.nD Cert.BwdMidIdeal.τ).loc Cert.BwdMidIdeal.main_v0_0) = v0 c
          ∧ r.2.mem ((c.tc : Thread Cert.BwdMidIdeal.nD Cert.BwdMidIdeal.τ).loc Cert.BwdMidIdeal.main_v0_1) = v1 c
          ∧ r.2.mem ((c.tc : Thread Cert.BwdMidIdeal.nD Cert.BwdMidIdeal.τ).loc Cert.BwdMidIdeal.main_v0_2) = v2 c
          ∧ r.2.mem ((c.tc : Thread Cert.BwdMidIdeal.nD Cert.BwdMidIdeal.τ).loc Cert.BwdMidIdeal.main_v0_3) = v3 c
          ∧ r.2.mem ((c.tc : Thread Cert.BwdMidIdeal.nD Cert.BwdMidIdeal.τ).loc Cert.BwdMidIdeal.main_arg0) = m ((c.tc : Thread Cert.BwdMidIdeal.nD Cert.BwdMidIdeal.τ).loc Cert.BwdMidIdeal.main_arg0)
          ∧ r.2.mem ((c.tc : Thread Cert.BwdMidIdeal.nD Cert.BwdMidIdeal.τ).loc Cert.BwdMidIdeal.main_arg1) = m ((c.tc : Thread Cert.BwdMidIdeal.nD Cert.BwdMidIdeal.τ).loc Cert.BwdMidIdeal.main_arg1)
          ∧ r.2.mem ((c.tc : Thread Cert.BwdMidIdeal.nD Cert.BwdMidIdeal.τ).loc Cert.BwdMidIdeal.main_arg2) = m ((c.tc : Thread Cert.BwdMidIdeal.nD Cert.BwdMidIdeal.τ).loc Cert.BwdMidIdeal.main_arg2)
          ∧ r.2.mem ((c.tc : Thread Cert.BwdMidIdeal.nD Cert.BwdMidIdeal.τ).loc Cert.BwdMidIdeal.main_arg3) = m ((c.tc : Thread Cert.BwdMidIdeal.nD Cert.BwdMidIdeal.τ).loc Cert.BwdMidIdeal.main_arg3)
          ∧ r.2.mem ((c.tc : Thread Cert.BwdMidIdeal.nD Cert.BwdMidIdeal.τ).loc Cert.BwdMidIdeal.main_arg4) = m ((c.tc : Thread Cert.BwdMidIdeal.nD Cert.BwdMidIdeal.τ).loc Cert.BwdMidIdeal.main_arg4)
          ∧ r.2.mem ((c.tc : Thread Cert.BwdMidIdeal.nD Cert.BwdMidIdeal.τ).loc Cert.BwdMidIdeal.main_arg5) = m ((c.tc : Thread Cert.BwdMidIdeal.nD Cert.BwdMidIdeal.τ).loc Cert.BwdMidIdeal.main_arg5))
      ∧ θ_run (Cert.BwdMidReferenceIdeal.defs (F := Ideal)) (onTc (τ := Cert.BwdMidReferenceIdeal.τ) (Cert.BwdMidReferenceIdeal.main (F := Ideal))) ⟨m', fun _ => 0, g'⟩ (fun r => ∀ c : Dev Cert.BwdMidReferenceIdeal.nD,
          r.2.mem ((c.tc : Thread Cert.BwdMidReferenceIdeal.nD Cert.BwdMidReferenceIdeal.τ).loc Cert.BwdMidReferenceIdeal.main_v34) = v0 c
          ∧ r.2.mem ((c.tc : Thread Cert.BwdMidReferenceIdeal.nD Cert.BwdMidReferenceIdeal.τ).loc Cert.BwdMidReferenceIdeal.main_v69) = v1 c
          ∧ r.2.mem ((c.tc : Thread Cert.BwdMidReferenceIdeal.nD Cert.BwdMidReferenceIdeal.τ).loc Cert.BwdMidReferenceIdeal.main_v17) = v2 c
          ∧ r.2.mem ((c.tc : Thread Cert.BwdMidReferenceIdeal.nD Cert.BwdMidReferenceIdeal.τ).loc Cert.BwdMidReferenceIdeal.main_v52) = v3 c
          ∧ r.2.mem ((c.tc : Thread Cert.BwdMidReferenceIdeal.nD Cert.BwdMidReferenceIdeal.τ).loc Cert.BwdMidReferenceIdeal.main_arg0) = m' ((c.tc : Thread Cert.BwdMidReferenceIdeal.nD Cert.BwdMidReferenceIdeal.τ).loc Cert.BwdMidReferenceIdeal.main_arg0)
          ∧ r.2.mem ((c.tc : Thread Cert.BwdMidReferenceIdeal.nD Cert.BwdMidReferenceIdeal.τ).loc Cert.BwdMidReferenceIdeal.main_arg1) = m' ((c.tc : Thread Cert.BwdMidReferenceIdeal.nD Cert.BwdMidReferenceIdeal.τ).loc Cert.BwdMidReferenceIdeal.main_arg1)
          ∧ r.2.mem ((c.tc : Thread Cert.BwdMidReferenceIdeal.nD Cert.BwdMidReferenceIdeal.τ).loc Cert.BwdMidReferenceIdeal.main_arg2) = m' ((c.tc : Thread Cert.BwdMidReferenceIdeal.nD Cert.BwdMidReferenceIdeal.τ).loc Cert.BwdMidReferenceIdeal.main_arg2)
          ∧ r.2.mem ((c.tc : Thread Cert.BwdMidReferenceIdeal.nD Cert.BwdMidReferenceIdeal.τ).loc Cert.BwdMidReferenceIdeal.main_arg3) = m' ((c.tc : Thread Cert.BwdMidReferenceIdeal.nD Cert.BwdMidReferenceIdeal.τ).loc Cert.BwdMidReferenceIdeal.main_arg3)
          ∧ r.2.mem ((c.tc : Thread Cert.BwdMidReferenceIdeal.nD Cert.BwdMidReferenceIdeal.τ).loc Cert.BwdMidReferenceIdeal.main_arg4) = m' ((c.tc : Thread Cert.BwdMidReferenceIdeal.nD Cert.BwdMidReferenceIdeal.τ).loc Cert.BwdMidReferenceIdeal.main_arg4)
          ∧ r.2.mem ((c.tc : Thread Cert.BwdMidReferenceIdeal.nD Cert.BwdMidReferenceIdeal.τ).loc Cert.BwdMidReferenceIdeal.main_arg5) = m' ((c.tc : Thread Cert.BwdMidReferenceIdeal.nD Cert.BwdMidReferenceIdeal.τ).loc Cert.BwdMidReferenceIdeal.main_arg5))

def preserves_BwdIn_BwdInIdeal : Prop :=
  True

def algebraic_BwdInIdeal_BwdInReferenceIdeal [hBwdInIdeal : Cert.BwdInIdeal.Facts] [hBwdInReferenceIdeal : Cert.BwdInReferenceIdeal.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInReferenceIdeal.nD Cert.BwdInReferenceIdeal.τ Cert.BwdInReferenceIdeal.sig) → Buf (Elt Ideal) ℓ) (g' : Dev Cert.BwdInReferenceIdeal.nD → PrngReg), Pre_BwdInIdeal m →
    (∀ c : Dev Cert.BwdInIdeal.nD,
      m' ((c.tc : Thread Cert.BwdInReferenceIdeal.nD Cert.BwdInReferenceIdeal.τ).loc Cert.BwdInReferenceIdeal.main_arg0) = m ((c.tc : Thread Cert.BwdInIdeal.nD Cert.BwdInIdeal.τ).loc Cert.BwdInIdeal.main_arg0)
      ∧ m' ((c.tc : Thread Cert.BwdInReferenceIdeal.nD Cert.BwdInReferenceIdeal.τ).loc Cert.BwdInReferenceIdeal.main_arg1) = m ((c.tc : Thread Cert.BwdInIdeal.nD Cert.BwdInIdeal.τ).loc Cert.BwdInIdeal.main_arg1)
      ∧ m' ((c.tc : Thread Cert.BwdInReferenceIdeal.nD Cert.BwdInReferenceIdeal.τ).loc Cert.BwdInReferenceIdeal.main_arg2) = m ((c.tc : Thread Cert.BwdInIdeal.nD Cert.BwdInIdeal.τ).loc Cert.BwdInIdeal.main_arg2)
      ∧ m' ((c.tc : Thread Cert.BwdInReferenceIdeal.nD Cert.BwdInReferenceIdeal.τ).loc Cert.BwdInReferenceIdeal.main_arg3) = m ((c.tc : Thread Cert.BwdInIdeal.nD Cert.BwdInIdeal.τ).loc Cert.BwdInIdeal.main_arg3)) →
    ∃ (v0 : (c : Dev Cert.BwdInIdeal.nD) → Buf (Elt Ideal) ((c.tc : Thread Cert.BwdInIdeal.nD Cert.BwdInIdeal.τ).loc Cert.BwdInIdeal.main_v0_0)) (v1 : (c : Dev Cert.BwdInIdeal.nD) → Buf (Elt Ideal) ((c.tc : Thread Cert.BwdInIdeal.nD Cert.BwdInIdeal.τ).loc Cert.BwdInIdeal.main_v0_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v0_0) = v0 c
          ∧ r.2.mem ((c.tc : Thread Cert.BwdInIdeal.nD Cert.BwdInIdeal.τ).loc Cert.BwdInIdeal.main_v0_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3))
      ∧ θ_run (Cert.BwdInReferenceIdeal.defs (F := Ideal)) (onTc (τ := Cert.BwdInReferenceIdeal.τ) (Cert.BwdInReferenceIdeal.main (F := Ideal))) ⟨m', fun _ => 0, g'⟩ (fun r => ∀ c : Dev Cert.BwdInReferenceIdeal.nD,
          r.2.mem ((c.tc : Thread Cert.BwdInReferenceIdeal.nD Cert.BwdInReferenceIdeal.τ).loc Cert.BwdInReferenceIdeal.main_v34) = v0 c
          ∧ r.2.mem ((c.tc : Thread Cert.BwdInReferenceIdeal.nD Cert.BwdInReferenceIdeal.τ).loc Cert.BwdInReferenceIdeal.main_v17) = v1 c
          ∧ r.2.mem ((c.tc : Thread Cert.BwdInReferenceIdeal.nD Cert.BwdInReferenceIdeal.τ).loc Cert.BwdInReferenceIdeal.main_arg0) = m' ((c.tc : Thread Cert.BwdInReferenceIdeal.nD Cert.BwdInReferenceIdeal.τ).loc Cert.BwdInReferenceIdeal.main_arg0)
          ∧ r.2.mem ((c.tc : Thread Cert.BwdInReferenceIdeal.nD Cert.BwdInReferenceIdeal.τ).loc Cert.BwdInReferenceIdeal.main_arg1) = m' ((c.tc : Thread Cert.BwdInReferenceIdeal.nD Cert.BwdInReferenceIdeal.τ).loc Cert.BwdInReferenceIdeal.main_arg1)
          ∧ r.2.mem ((c.tc : Thread Cert.BwdInReferenceIdeal.nD Cert.BwdInReferenceIdeal.τ).loc Cert.BwdInReferenceIdeal.main_arg2) = m' ((c.tc : Thread Cert.BwdInReferenceIdeal.nD Cert.BwdInReferenceIdeal.τ).loc Cert.BwdInReferenceIdeal.main_arg2)
          ∧ r.2.mem ((c.tc : Thread Cert.BwdInReferenceIdeal.nD Cert.BwdInReferenceIdeal.τ).loc Cert.BwdInReferenceIdeal.main_arg3) = m' ((c.tc : Thread Cert.BwdInReferenceIdeal.nD Cert.BwdInReferenceIdeal.τ).loc Cert.BwdInReferenceIdeal.main_arg3))

def preserves_ConvFwd_ConvFwdIdeal : Prop :=
  True

def algebraic_ConvFwdIdeal_ConvFwdReferenceIdeal [hConvFwdIdeal : Cert.ConvFwdIdeal.Facts] [hConvFwdReferenceIdeal : Cert.ConvFwdReferenceIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdIdeal m →
    (∀ c : Dev Cert.ConvFwdIdeal.nD,
      m' ((c.tc : Thread Cert.ConvFwdReferenceIdeal.nD Cert.ConvFwdReferenceIdeal.τ).loc Cert.ConvFwdReferenceIdeal.main_arg0) = m ((c.tc : Thread Cert.ConvFwdIdeal.nD Cert.ConvFwdIdeal.τ).loc Cert.ConvFwdIdeal.main_arg0)
      ∧ m' ((c.tc : Thread Cert.ConvFwdReferenceIdeal.nD Cert.ConvFwdReferenceIdeal.τ).loc Cert.ConvFwdReferenceIdeal.main_arg1) = m ((c.tc : Thread Cert.ConvFwdIdeal.nD Cert.ConvFwdIdeal.τ).loc Cert.ConvFwdIdeal.main_arg1)
      ∧ m' ((c.tc : Thread Cert.ConvFwdReferenceIdeal.nD Cert.ConvFwdReferenceIdeal.τ).loc Cert.ConvFwdReferenceIdeal.main_arg2) = m ((c.tc : Thread Cert.ConvFwdIdeal.nD Cert.ConvFwdIdeal.τ).loc Cert.ConvFwdIdeal.main_arg2)
      ∧ m' ((c.tc : Thread Cert.ConvFwdReferenceIdeal.nD Cert.ConvFwdReferenceIdeal.τ).loc Cert.ConvFwdReferenceIdeal.main_arg3) = m ((c.tc : Thread Cert.ConvFwdIdeal.nD Cert.ConvFwdIdeal.τ).loc Cert.ConvFwdIdeal.main_arg3)) →
    ∃ (v0 : (c : Dev Cert.ConvFwdIdeal.nD) → Buf (Elt Ideal) ((c.tc : Thread Cert.ConvFwdIdeal.nD Cert.ConvFwdIdeal.τ).loc Cert.ConvFwdIdeal.main_v0_0)) (v1 : (c : Dev Cert.ConvFwdIdeal.nD) → Buf (Elt Ideal) ((c.tc : Thread Cert.ConvFwdIdeal.nD Cert.ConvFwdIdeal.τ).loc Cert.ConvFwdIdeal.main_v0_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0_0) = v0 c
          ∧ r.2.mem ((c.tc : Thread Cert.ConvFwdIdeal.nD Cert.ConvFwdIdeal.τ).loc Cert.ConvFwdIdeal.main_v0_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v185) = v0 c
          ∧ r.2.mem ((c.tc : Thread Cert.ConvFwdReferenceIdeal.nD Cert.ConvFwdReferenceIdeal.τ).loc Cert.ConvFwdReferenceIdeal.main_v183) = v1 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1)
          ∧ r.2.mem ((c.tc : Thread Cert.ConvFwdReferenceIdeal.nD Cert.ConvFwdReferenceIdeal.τ).loc Cert.ConvFwdReferenceIdeal.main_arg2) = m' ((c.tc : Thread Cert.ConvFwdReferenceIdeal.nD Cert.ConvFwdReferenceIdeal.τ).loc Cert.ConvFwdReferenceIdeal.main_arg2)
          ∧ r.2.mem ((c.tc : Thread Cert.ConvFwdReferenceIdeal.nD Cert.ConvFwdReferenceIdeal.τ).loc Cert.ConvFwdReferenceIdeal.main_arg3) = m' ((c.tc : Thread Cert.ConvFwdReferenceIdeal.nD Cert.ConvFwdReferenceIdeal.τ).loc Cert.ConvFwdReferenceIdeal.main_arg3))

def Claim : Prop :=
  ∃ (hKernel : Cert.Kernel.Facts) (hKernelIdeal : Cert.KernelIdeal.Facts) (hReferenceIdeal : Cert.ReferenceIdeal.Facts) (hGwIn : Cert.GwIn.Facts) (hGwInIdeal : Cert.GwInIdeal.Facts) (hGwInReferenceIdeal : Cert.GwInReferenceIdeal.Facts) (hDN : Cert.DN.Facts) (hDNIdeal : Cert.DNIdeal.Facts) (hDNReferenceIdeal : Cert.DNReferenceIdeal.Facts) (hGwUp : Cert.GwUp.Facts) (hGwUpIdeal : Cert.GwUpIdeal.Facts) (hGwUpReferenceIdeal : Cert.GwUpReferenceIdeal.Facts) (hGwDown : Cert.GwDown.Facts) (hGwDownIdeal : Cert.GwDownIdeal.Facts) (hGwDownReferenceIdeal : Cert.GwDownReferenceIdeal.Facts) (hDUp : Cert.DUp.Facts) (hDUpIdeal : Cert.DUpIdeal.Facts) (hDUpReferenceIdeal : Cert.DUpReferenceIdeal.Facts) (hDNTwo : Cert.DNTwo.Facts) (hDNTwoIdeal : Cert.DNTwoIdeal.Facts) (hDNTwoReferenceIdeal : Cert.DNTwoReferenceIdeal.Facts) (hDM : Cert.DM.Facts) (hDMIdeal : Cert.DMIdeal.Facts) (hDMReferenceIdeal : Cert.DMReferenceIdeal.Facts) (hGwO : Cert.GwO.Facts) (hGwOIdeal : Cert.GwOIdeal.Facts) (hGwOReferenceIdeal : Cert.GwOReferenceIdeal.Facts) (hDAct : Cert.DAct.Facts) (hDActIdeal : Cert.DActIdeal.Facts) (hDActReferenceIdeal : Cert.DActReferenceIdeal.Facts) (hGwPw : Cert.GwPw.Facts) (hGwPwIdeal : Cert.GwPwIdeal.Facts) (hGwPwReferenceIdeal : Cert.GwPwReferenceIdeal.Facts) (hProj : Cert.Proj.Facts) (hProjIdeal : Cert.ProjIdeal.Facts) (hProjReferenceIdeal : Cert.ProjReferenceIdeal.Facts) (hYA : Cert.YA.Facts) (hYAIdeal : Cert.YAIdeal.Facts) (hYAReferenceIdeal : Cert.YAReferenceIdeal.Facts) (hMix : Cert.Mix.Facts) (hMixIdeal : Cert.MixIdeal.Facts) (hMixReferenceIdeal : Cert.MixReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hGateBwd : Cert.GateBwd.Facts) (hGateBwdIdeal : Cert.GateBwdIdeal.Facts) (hGateBwdReferenceIdeal : Cert.GateBwdReferenceIdeal.Facts) (hGate : Cert.Gate.Facts) (hGateIdeal : Cert.GateIdeal.Facts) (hGateReferenceIdeal : Cert.GateReferenceIdeal.Facts) (hNormIn : Cert.NormIn.Facts) (hNormInIdeal : Cert.NormInIdeal.Facts) (hNormInReferenceIdeal : Cert.NormInReferenceIdeal.Facts) (hPostMix : Cert.PostMix.Facts) (hPostMixIdeal : Cert.PostMixIdeal.Facts) (hPostMixReferenceIdeal : Cert.PostMixReferenceIdeal.Facts) (hBranchAct : Cert.BranchAct.Facts) (hBranchActIdeal : Cert.BranchActIdeal.Facts) (hBranchActReferenceIdeal : Cert.BranchActReferenceIdeal.Facts) (hBranchBwd : Cert.BranchBwd.Facts) (hBranchBwdIdeal : Cert.BranchBwdIdeal.Facts) (hBranchBwdReferenceIdeal : Cert.BranchBwdReferenceIdeal.Facts) (hBwdMid : Cert.BwdMid.Facts) (hBwdMidIdeal : Cert.BwdMidIdeal.Facts) (hBwdMidReferenceIdeal : Cert.BwdMidReferenceIdeal.Facts) (hBwdIn : Cert.BwdIn.Facts) (hBwdInIdeal : Cert.BwdInIdeal.Facts) (hBwdInReferenceIdeal : Cert.BwdInReferenceIdeal.Facts) (hConvFwd : Cert.ConvFwd.Facts) (hConvFwdIdeal : Cert.ConvFwdIdeal.Facts) (hConvFwdReferenceIdeal : Cert.ConvFwdReferenceIdeal.Facts) (hPre_finite_rows : Cert.Pre_finite_rows.Facts),
    quiescent_Kernel (hKernel := hKernel)
    ∧ quiescent_KernelIdeal (hKernelIdeal := hKernelIdeal)
    ∧ quiescent_ReferenceIdeal (hReferenceIdeal := hReferenceIdeal)
    ∧ quiescent_GwIn (hGwIn := hGwIn)
    ∧ quiescent_GwInIdeal (hGwInIdeal := hGwInIdeal)
    ∧ quiescent_GwInReferenceIdeal (hGwInReferenceIdeal := hGwInReferenceIdeal)
    ∧ quiescent_DN (hDN := hDN)
    ∧ quiescent_DNIdeal (hDNIdeal := hDNIdeal)
    ∧ quiescent_DNReferenceIdeal (hDNReferenceIdeal := hDNReferenceIdeal)
    ∧ quiescent_GwUp (hGwUp := hGwUp)
    ∧ quiescent_GwUpIdeal (hGwUpIdeal := hGwUpIdeal)
    ∧ quiescent_GwUpReferenceIdeal (hGwUpReferenceIdeal := hGwUpReferenceIdeal)
    ∧ quiescent_GwDown (hGwDown := hGwDown)
    ∧ quiescent_GwDownIdeal (hGwDownIdeal := hGwDownIdeal)
    ∧ quiescent_GwDownReferenceIdeal (hGwDownReferenceIdeal := hGwDownReferenceIdeal)
    ∧ quiescent_DUp (hDUp := hDUp)
    ∧ quiescent_DUpIdeal (hDUpIdeal := hDUpIdeal)
    ∧ quiescent_DUpReferenceIdeal (hDUpReferenceIdeal := hDUpReferenceIdeal)
    ∧ quiescent_DNTwo (hDNTwo := hDNTwo)
    ∧ quiescent_DNTwoIdeal (hDNTwoIdeal := hDNTwoIdeal)
    ∧ quiescent_DNTwoReferenceIdeal (hDNTwoReferenceIdeal := hDNTwoReferenceIdeal)
    ∧ quiescent_DM (hDM := hDM)
    ∧ quiescent_DMIdeal (hDMIdeal := hDMIdeal)
    ∧ quiescent_DMReferenceIdeal (hDMReferenceIdeal := hDMReferenceIdeal)
    ∧ quiescent_GwO (hGwO := hGwO)
    ∧ quiescent_GwOIdeal (hGwOIdeal := hGwOIdeal)
    ∧ quiescent_GwOReferenceIdeal (hGwOReferenceIdeal := hGwOReferenceIdeal)
    ∧ quiescent_DAct (hDAct := hDAct)
    ∧ quiescent_DActIdeal (hDActIdeal := hDActIdeal)
    ∧ quiescent_DActReferenceIdeal (hDActReferenceIdeal := hDActReferenceIdeal)
    ∧ quiescent_GwPw (hGwPw := hGwPw)
    ∧ quiescent_GwPwIdeal (hGwPwIdeal := hGwPwIdeal)
    ∧ quiescent_GwPwReferenceIdeal (hGwPwReferenceIdeal := hGwPwReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_YA (hYA := hYA)
    ∧ quiescent_YAIdeal (hYAIdeal := hYAIdeal)
    ∧ quiescent_YAReferenceIdeal (hYAReferenceIdeal := hYAReferenceIdeal)
    ∧ quiescent_Mix (hMix := hMix)
    ∧ quiescent_MixIdeal (hMixIdeal := hMixIdeal)
    ∧ quiescent_MixReferenceIdeal (hMixReferenceIdeal := hMixReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_GateBwd (hGateBwd := hGateBwd)
    ∧ quiescent_GateBwdIdeal (hGateBwdIdeal := hGateBwdIdeal)
    ∧ quiescent_GateBwdReferenceIdeal (hGateBwdReferenceIdeal := hGateBwdReferenceIdeal)
    ∧ quiescent_Gate (hGate := hGate)
    ∧ quiescent_GateIdeal (hGateIdeal := hGateIdeal)
    ∧ quiescent_GateReferenceIdeal (hGateReferenceIdeal := hGateReferenceIdeal)
    ∧ quiescent_NormIn (hNormIn := hNormIn)
    ∧ quiescent_NormInIdeal (hNormInIdeal := hNormInIdeal)
    ∧ quiescent_NormInReferenceIdeal (hNormInReferenceIdeal := hNormInReferenceIdeal)
    ∧ quiescent_PostMix (hPostMix := hPostMix)
    ∧ quiescent_PostMixIdeal (hPostMixIdeal := hPostMixIdeal)
    ∧ quiescent_PostMixReferenceIdeal (hPostMixReferenceIdeal := hPostMixReferenceIdeal)
    ∧ quiescent_BranchAct (hBranchAct := hBranchAct)
    ∧ quiescent_BranchActIdeal (hBranchActIdeal := hBranchActIdeal)
    ∧ quiescent_BranchActReferenceIdeal (hBranchActReferenceIdeal := hBranchActReferenceIdeal)
    ∧ quiescent_BranchBwd (hBranchBwd := hBranchBwd)
    ∧ quiescent_BranchBwdIdeal (hBranchBwdIdeal := hBranchBwdIdeal)
    ∧ quiescent_BranchBwdIdeal_pre_finite_rows (hBranchBwdIdeal := hBranchBwdIdeal) (hPre_finite_rows := hPre_finite_rows)
    ∧ quiescent_BranchBwdReferenceIdeal (hBranchBwdReferenceIdeal := hBranchBwdReferenceIdeal)
    ∧ quiescent_BranchBwdReferenceIdeal_pre_finite_rows (hBranchBwdReferenceIdeal := hBranchBwdReferenceIdeal) (hPre_finite_rows := hPre_finite_rows)
    ∧ quiescent_BwdMid (hBwdMid := hBwdMid)
    ∧ quiescent_BwdMidIdeal (hBwdMidIdeal := hBwdMidIdeal)
    ∧ quiescent_BwdMidReferenceIdeal (hBwdMidReferenceIdeal := hBwdMidReferenceIdeal)
    ∧ quiescent_BwdIn (hBwdIn := hBwdIn)
    ∧ quiescent_BwdInIdeal (hBwdInIdeal := hBwdInIdeal)
    ∧ quiescent_BwdInReferenceIdeal (hBwdInReferenceIdeal := hBwdInReferenceIdeal)
    ∧ quiescent_ConvFwd (hConvFwd := hConvFwd)
    ∧ quiescent_ConvFwdIdeal (hConvFwdIdeal := hConvFwdIdeal)
    ∧ quiescent_ConvFwdReferenceIdeal (hConvFwdReferenceIdeal := hConvFwdReferenceIdeal)
    ∧ preserves_Kernel_KernelIdeal
    ∧ algebraic_KernelIdeal_ReferenceIdeal (hKernelIdeal := hKernelIdeal) (hReferenceIdeal := hReferenceIdeal)
    ∧ preserves_GwIn_GwInIdeal
    ∧ algebraic_GwInIdeal_GwInReferenceIdeal (hGwInIdeal := hGwInIdeal) (hGwInReferenceIdeal := hGwInReferenceIdeal)
    ∧ preserves_DN_DNIdeal
    ∧ algebraic_DNIdeal_DNReferenceIdeal (hDNIdeal := hDNIdeal) (hDNReferenceIdeal := hDNReferenceIdeal)
    ∧ preserves_GwUp_GwUpIdeal
    ∧ algebraic_GwUpIdeal_GwUpReferenceIdeal (hGwUpIdeal := hGwUpIdeal) (hGwUpReferenceIdeal := hGwUpReferenceIdeal)
    ∧ preserves_GwDown_GwDownIdeal
    ∧ algebraic_GwDownIdeal_GwDownReferenceIdeal (hGwDownIdeal := hGwDownIdeal) (hGwDownReferenceIdeal := hGwDownReferenceIdeal)
    ∧ preserves_DUp_DUpIdeal
    ∧ algebraic_DUpIdeal_DUpReferenceIdeal (hDUpIdeal := hDUpIdeal) (hDUpReferenceIdeal := hDUpReferenceIdeal)
    ∧ preserves_DNTwo_DNTwoIdeal
    ∧ algebraic_DNTwoIdeal_DNTwoReferenceIdeal (hDNTwoIdeal := hDNTwoIdeal) (hDNTwoReferenceIdeal := hDNTwoReferenceIdeal)
    ∧ preserves_DM_DMIdeal
    ∧ algebraic_DMIdeal_DMReferenceIdeal (hDMIdeal := hDMIdeal) (hDMReferenceIdeal := hDMReferenceIdeal)
    ∧ preserves_GwO_GwOIdeal
    ∧ algebraic_GwOIdeal_GwOReferenceIdeal (hGwOIdeal := hGwOIdeal) (hGwOReferenceIdeal := hGwOReferenceIdeal)
    ∧ preserves_DAct_DActIdeal
    ∧ algebraic_DActIdeal_DActReferenceIdeal (hDActIdeal := hDActIdeal) (hDActReferenceIdeal := hDActReferenceIdeal)
    ∧ preserves_GwPw_GwPwIdeal
    ∧ algebraic_GwPwIdeal_GwPwReferenceIdeal (hGwPwIdeal := hGwPwIdeal) (hGwPwReferenceIdeal := hGwPwReferenceIdeal)
    ∧ preserves_Proj_ProjIdeal
    ∧ algebraic_ProjIdeal_ProjReferenceIdeal (hProjIdeal := hProjIdeal) (hProjReferenceIdeal := hProjReferenceIdeal)
    ∧ preserves_YA_YAIdeal
    ∧ algebraic_YAIdeal_YAReferenceIdeal (hYAIdeal := hYAIdeal) (hYAReferenceIdeal := hYAReferenceIdeal)
    ∧ preserves_Mix_MixIdeal
    ∧ algebraic_MixIdeal_MixReferenceIdeal (hMixIdeal := hMixIdeal) (hMixReferenceIdeal := hMixReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_GateBwd_GateBwdIdeal
    ∧ algebraic_GateBwdIdeal_GateBwdReferenceIdeal (hGateBwdIdeal := hGateBwdIdeal) (hGateBwdReferenceIdeal := hGateBwdReferenceIdeal)
    ∧ preserves_Gate_GateIdeal
    ∧ algebraic_GateIdeal_GateReferenceIdeal (hGateIdeal := hGateIdeal) (hGateReferenceIdeal := hGateReferenceIdeal)
    ∧ preserves_NormIn_NormInIdeal
    ∧ algebraic_NormInIdeal_NormInReferenceIdeal (hNormInIdeal := hNormInIdeal) (hNormInReferenceIdeal := hNormInReferenceIdeal)
    ∧ preserves_PostMix_PostMixIdeal
    ∧ algebraic_PostMixIdeal_PostMixReferenceIdeal (hPostMixIdeal := hPostMixIdeal) (hPostMixReferenceIdeal := hPostMixReferenceIdeal)
    ∧ preserves_BranchAct_BranchActIdeal
    ∧ algebraic_BranchActIdeal_BranchActReferenceIdeal (hBranchActIdeal := hBranchActIdeal) (hBranchActReferenceIdeal := hBranchActReferenceIdeal)
    ∧ preserves_BranchBwd_BranchBwdIdeal
    ∧ algebraic_BranchBwdIdeal_BranchBwdReferenceIdeal_pre_finite_rows (hBranchBwdIdeal := hBranchBwdIdeal) (hBranchBwdReferenceIdeal := hBranchBwdReferenceIdeal) (hPre_finite_rows := hPre_finite_rows)
    ∧ preserves_BwdMid_BwdMidIdeal
    ∧ algebraic_BwdMidIdeal_BwdMidReferenceIdeal (hBwdMidIdeal := hBwdMidIdeal) (hBwdMidReferenceIdeal := hBwdMidReferenceIdeal)
    ∧ preserves_BwdIn_BwdInIdeal
    ∧ algebraic_BwdInIdeal_BwdInReferenceIdeal (hBwdInIdeal := hBwdInIdeal) (hBwdInReferenceIdeal := hBwdInReferenceIdeal)
    ∧ preserves_ConvFwd_ConvFwdIdeal
    ∧ algebraic_ConvFwdIdeal_ConvFwdReferenceIdeal (hConvFwdIdeal := hConvFwdIdeal) (hConvFwdReferenceIdeal := hConvFwdReferenceIdeal)
-- ==== Pre_finite_rows.lean ====
abbrev S2176x1024 : Shape := ⟨2, ![2176, 1024]⟩
abbrev S2176x9216 : Shape := ⟨2, ![2176, 9216]⟩
abbrev S1x1024 : Shape := ⟨2, ![1, 1024]⟩
abbrev S_ : Shape := ⟨0, ![]⟩

class Facts : Prop where
  bcast_S_S2176x1024 : S_.BroadcastsInDim S2176x1024 (![] : Fin 0 → Fin S2176x1024.rank)
  bcast_S_S1x1024 : S_.BroadcastsInDim S1x1024 (![] : Fin 0 → Fin S1x1024.rank)
  bcast_S1x1024_S2176x1024_0_1 : S1x1024.BroadcastsInDim S2176x1024 (![0, 1] : Fin 2 → Fin S2176x1024.rank)

variable [Facts]

def fn {F : FTy → Type} [FloatOps F] (main_arg0 : FVec F S2176x1024 .f32) (main_arg1 : FVec F S2176x1024 .f32) (main_arg2 : FVec F S2176x1024 .f32) (main_arg3 : FVec F S2176x1024 .f32) (main_arg4 : FVec F S2176x9216 .f32) (main_arg5 : FVec F S1x1024 .f32) (main_arg6 : FVec F S1x1024 .f32) : IVec S2176x1024 1 :=
  let main_v0 : FVec F S2176x1024 .f32 := subf main_arg0 main_arg0
  let main_cst : FVec F S_ .f32 := constant S_ .f32 0x00000000#32
  let main_v1 : FVec F S2176x1024 .f32 := broadcastInDim S2176x1024 ![] bcast_S_S2176x1024 main_cst
  let main_v2 : IVec S2176x1024 1 := cmpf .oeq main_v0 main_v1
  let main_v3 : FVec F S1x1024 .f32 := subf main_arg5 main_arg5
  let main_cst_0 : FVec F S_ .f32 := constant S_ .f32 0x00000000#32
  let main_v4 : FVec F S1x1024 .f32 := broadcastInDim S1x1024 ![] bcast_S_S1x1024 main_cst_0
  let main_v5 : IVec S1x1024 1 := cmpf .oeq main_v3 main_v4
  let main_v6 : IVec S2176x1024 1 := broadcastInDim S2176x1024 ![0, 1] bcast_S1x1024_S2176x1024_0_1 main_v5
  let main_v7 : IVec S2176x1024 1 := andi main_v2 main_v6
  main_v7
-- ==== Kernel.lean ====
abbrev S2176x9216 : Shape := ⟨2, ![2176, 9216]⟩
abbrev S2176x1024 : Shape := ⟨2, ![2176, 1024]⟩
abbrev S31x1024 : Shape := ⟨2, ![31, 1024]⟩
abbrev S3x1024 : Shape := ⟨2, ![3, 1024]⟩
abbrev S2176x128 : Shape := ⟨2, ![2176, 128]⟩
abbrev S31x128 : Shape := ⟨2, ![31, 128]⟩
abbrev S3x128 : Shape := ⟨2, ![3, 128]⟩
abbrev S2208x128 : Shape := ⟨2, ![2208, 128]⟩
abbrev S32x128 : Shape := ⟨2, ![32, 128]⟩
abbrev S8x128 : Shape := ⟨2, ![8, 128]⟩
abbrev S64x128 : Shape := ⟨2, ![64, 128]⟩
abbrev S1x128 : Shape := ⟨2, ![1, 128]⟩
abbrev S128 : Shape := ⟨1, ![128]⟩

abbrev nBuf : Space → Nat
  | .hbm => 11
  | .vmem => 32
  | .smem => 0
  | _ => 0

abbrev bufTy : (tb : Table) → Fin (tcTables nBuf tb) → BufTy
  | .hbm, ⟨0, _⟩ => ⟨S2176x9216, .f32⟩
  | .hbm, ⟨1, _⟩ => ⟨S2176x1024, .f32⟩
  | .hbm, ⟨2, _⟩ => ⟨S2176x1024, .f32⟩
  | .hbm, ⟨3, _⟩ => ⟨S31x1024, .f32⟩
  | .hbm, ⟨4, _⟩ => ⟨S3x1024, .f32⟩
  | .hbm, ⟨5, _⟩ => ⟨S2176x1024, .bf16⟩
  | .hbm, ⟨6, _⟩ => ⟨S2176x1024, .bf16⟩
  | .hbm, ⟨7, _⟩ => ⟨S2176x1024, .bf16⟩
  | .hbm, ⟨8, _⟩ => ⟨S2176x1024, .bf16⟩
  | .hbm, ⟨9, _⟩ => ⟨S31x1024, .f32⟩
  | .hbm, ⟨10, _⟩ => ⟨S3x1024, .f32⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S2176x128, .f32⟩
  | .local _ .vmem, ⟨7, _⟩ => ⟨S2176x128, .f32⟩
  | .local _ .vmem, ⟨8, _⟩ => ⟨S2176x128, .f32⟩
  | .local _ .vmem, ⟨9, _⟩ => ⟨S2176x128, .f32⟩
  | .local _ .vmem, ⟨10, _⟩ => ⟨S2176x128, .f32⟩
  | .local _ .vmem, ⟨11, _⟩ => ⟨S2176x128, .f32⟩
  | .local _ .vmem, ⟨12, _⟩ => ⟨S31x128, .f32⟩
  | .local _ .vmem, ⟨13, _⟩ => ⟨S31x128, .f32⟩
  | .local _ .vmem, ⟨14, _⟩ => ⟨S3x128, .f32⟩
  | .local _ .vmem, ⟨15, _⟩ => ⟨S3x128, .f32⟩
  | .local _ .vmem, ⟨16, _⟩ => ⟨S2176x128, .bf16⟩
  | .local _ .vmem, ⟨17, _⟩ => ⟨S2176x128, .bf16⟩
  | .local _ .vmem, ⟨18, _⟩ => ⟨S2176x128, .bf16⟩
  | .local _ .vmem, ⟨19, _⟩ => ⟨S2176x128, .bf16⟩
  | .local _ .vmem, ⟨20, _⟩ => ⟨S2176x128, .bf16⟩
  | .local _ .vmem, ⟨21, _⟩ => ⟨S2176x128, .bf16⟩
  | .local _ .vmem, ⟨22, _⟩ => ⟨S2176x128, .bf16⟩
  | .local _ .vmem, ⟨23, _⟩ => ⟨S2176x128, .bf16⟩
  | .local _ .vmem, ⟨24, _⟩ => ⟨S31x128, .f32⟩
  | .local _ .vmem, ⟨25, _⟩ => ⟨S31x128, .f32⟩
  | .local _ .vmem, ⟨26, _⟩ => ⟨S3x128, .f32⟩
  | .local _ .vmem, ⟨27, _⟩ => ⟨S3x128, .f32⟩
  | .local _ .vmem, ⟨28, _⟩ => ⟨S2208x128, .f32⟩
  | .local _ .vmem, ⟨29, _⟩ => ⟨S2208x128, .f32⟩
  | .local _ .vmem, ⟨30, _⟩ => ⟨S2208x128, .f32⟩
  | .local _ .vmem, ⟨31, _⟩ => ⟨S2208x128, .f32⟩
  | _, _ => ⟨S2176x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c34_i32 : BitVec 32 := 34#32
  let v74 : BitVec 32 := Scalar.addi c0_i32 c34_i32
  let c1_i32 : BitVec 32 := 1#32
  ⟨c0_i32, v74, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c64_i32 : BitVec 32 := 64#32
  let v178 : BitVec 32 := Scalar.muli arg19 c64_i32
  v178
def k0_off1 (k0_t1 : Fin k0_t1_loop.trips) (c30_i32 : BitVec 32) : Fin 2 → Nat :=
  let c0_i32 : BitVec 32 := 0#32
  let c1_i32 : BitVec 32 := 1#32
  let arg19 : BitVec 32 := Scf.iv c0_i32 c1_i32 k0_t1
  let c64_i32 : BitVec 32 := 64#32
  let v178 : BitVec 32 := Scalar.muli arg19 c64_i32
  let v179 : BitVec 32 := v178
  let v181 : BitVec 32 := Scalar.addi v179 c30_i32
  let v182 : Index := Scalar.indexCast v181
  let c0_136 : Index := 0#32
  ![v182.toNat, 0]
def k0_off2 (k0_t1 : Fin k0_t1_loop.trips) : Fin 2 → Nat :=
  let c0_i32 : BitVec 32 := 0#32
  let c1_i32 : BitVec 32 := 1#32
  let arg19 : BitVec 32 := Scf.iv c0_i32 c1_i32 k0_t1
  let c64_i32 : BitVec 32 := 64#32
  let v178 : BitVec 32 := Scalar.muli arg19 c64_i32
  let v179 : BitVec 32 := v178
  let v420 : Index := Scalar.indexCast v179
  let c0_244 : Index := 0#32
  ![v420.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S31x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2176x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2176x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2176x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2176x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S31x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S2176x9216 : Shape := ⟨2, ![2176, 9216]⟩
abbrev S2176x1024 : Shape := ⟨2, ![2176, 1024]⟩
abbrev S31x1024 : Shape := ⟨2, ![31, 1024]⟩
abbrev S3x1024 : Shape := ⟨2, ![3, 1024]⟩
abbrev S_ : Shape := ⟨0, ![]⟩
abbrev S30x1024 : Shape := ⟨2, ![30, 1024]⟩
abbrev S2206x1024 : Shape := ⟨2, ![2206, 1024]⟩
abbrev S1x1024 : Shape := ⟨2, ![1, 1024]⟩
abbrev S2x1024 : Shape := ⟨2, ![2, 1024]⟩
abbrev S2178x1024 : Shape := ⟨2, ![2178, 1024]⟩
abbrev S1024 : Shape := ⟨1, ![1024]⟩

abbrev nBuf : Space → Nat
  | .hbm => 622
  | .vmem => 0
  | .smem => 0
  | _ => 0

abbrev hbmTy0_0 (i : Nat) : BufTy := match i % 128 with
  | 0 => ⟨S2176x9216, .f32⟩
  | 1 => ⟨S2176x1024, .f32⟩
  | 2 => ⟨S2176x1024, .f32⟩
  | 3 => ⟨S31x1024, .f32⟩
  | 4 => ⟨S3x1024, .f32⟩
  | 5 => ⟨S2176x1024, .f32⟩
  | 6 => ⟨S2176x1024, .f32⟩
  | 7 => ⟨S2176x1024, .f32⟩
  | 8 => ⟨S2176x1024, .f32⟩
  | 9 => ⟨S2176x1024, .f32⟩
  | 10 => ⟨S2176x1024, .f32⟩
  | 11 => ⟨S_, .f32⟩
  | 12 => ⟨S2176x1024, .f32⟩
  | 13 => ⟨S2176x1024, .f32⟩
  | 14 => ⟨S_, .f32⟩
  | 15 => ⟨S2176x1024, .f32⟩
  | 16 => ⟨S2176x1024, .f32⟩
  | 17 => ⟨S_, .f32⟩
  | 18 => ⟨S2176x1024, .f32⟩
  | 19 => ⟨S2176x1024, .f32⟩
  | 20 => ⟨S2176x1024, .f32⟩
  | 21 => ⟨S2176x1024, .f32⟩
  | 22 => ⟨S_, .f32⟩
  | 23 => ⟨S30x1024, .f32⟩
  | 24 => ⟨S2206x1024, .f32⟩
  | 25 => ⟨S_, .f32⟩
  | 26 => ⟨S30x1024, .f32⟩
  | 27 => ⟨S2176x1024, .f32⟩
  | 28 => ⟨S1x1024, .f32⟩
  | 29 => ⟨S2176x1024, .f32⟩
  | 30 => ⟨S2176x1024, .f32⟩
  | 31 => ⟨S2176x1024, .f32⟩
  | 32 => ⟨S1x1024, .f32⟩
  | 33 => ⟨S2176x1024, .f32⟩
  | 34 => ⟨S2176x1024, .f32⟩
  | 35 => ⟨S2176x1024, .f32⟩
  | 36 => ⟨S2176x1024, .f32⟩
  | 37 => ⟨S1x1024, .f32⟩
  | 38 => ⟨S2176x1024, .f32⟩
  | 39 => ⟨S2176x1024, .f32⟩
  | 40 => ⟨S2176x1024, .f32⟩
  | 41 => ⟨S2176x1024, .f32⟩
  | 42 => ⟨S1x1024, .f32⟩
  | 43 => ⟨S2176x1024, .f32⟩
  | 44 => ⟨S2176x1024, .f32⟩
  | 45 => ⟨S2176x1024, .f32⟩
  | 46 => ⟨S2176x1024, .f32⟩
  | 47 => ⟨S1x1024, .f32⟩
  | 48 => ⟨S2176x1024, .f32⟩
  | 49 => ⟨S2176x1024, .f32⟩
  | 50 => ⟨S2176x1024, .f32⟩
  | 51 => ⟨S2176x1024, .f32⟩
  | 52 => ⟨S1x1024, .f32⟩
  | 53 => ⟨S2176x1024, .f32⟩
  | 54 => ⟨S2176x1024, .f32⟩
  | 55 => ⟨S2176x1024, .f32⟩
  | 56 => ⟨S2176x1024, .f32⟩
  | 57 => ⟨S1x1024, .f32⟩
  | 58 => ⟨S2176x1024, .f32⟩
  | 59 => ⟨S2176x1024, .f32⟩
  | 60 => ⟨S2176x1024, .f32⟩
  | 61 => ⟨S2176x1024, .f32⟩
  | 62 => ⟨S1x1024, .f32⟩
  | 63 => ⟨S2176x1024, .f32⟩
  | 64 => ⟨S2176x1024, .f32⟩
  | 65 => ⟨S2176x1024, .f32⟩
  | 66 => ⟨S2176x1024, .f32⟩
  | 67 => ⟨S1x1024, .f32⟩
  | 68 => ⟨S2176x1024, .f32⟩
  | 69 => ⟨S2176x1024, .f32⟩
  | 70 => ⟨S2176x1024, .f32⟩
  | 71 => ⟨S2176x1024, .f32⟩
  | 72 => ⟨S1x1024, .f32⟩
  | 73 => ⟨S2176x1024, .f32⟩
  | 74 => ⟨S2176x1024, .f32⟩
  | 75 => ⟨S2176x1024, .f32⟩
  | 76 => ⟨S2176x1024, .f32⟩
  | 77 => ⟨S1x1024, .f32⟩
  | 78 => ⟨S2176x1024, .f32⟩
  | 79 => ⟨S2176x1024, .f32⟩
  | 80 => ⟨S2176x1024, .f32⟩
  | 81 => ⟨S2176x1024, .f32⟩
  | 82 => ⟨S1x1024, .f32⟩
  | 83 => ⟨S2176x1024, .f32⟩
  | 84 => ⟨S2176x1024, .f32⟩
  | 85 => ⟨S2176x1024, .f32⟩
  | 86 => ⟨S2176x1024, .f32⟩
  | 87 => ⟨S1x1024, .f32⟩
  | 88 => ⟨S2176x1024, .f32⟩
  | 89 => ⟨S2176x1024, .f32⟩
  | 90 => ⟨S2176x1024, .f32⟩
  | 91 => ⟨S2176x1024, .f32⟩
  | 92 => ⟨S1x1024, .f32⟩
  | 93 => ⟨S2176x1024, .f32⟩
  | 94 => ⟨S2176x1024, .f32⟩
  | 95 => ⟨S2176x1024, .f32⟩
  | 96 => ⟨S2176x1024, .f32⟩
  | 97 => ⟨S1x1024, .f32⟩
  | 98 => ⟨S2176x1024, .f32⟩
  | 99 => ⟨S2176x1024, .f32⟩
  | 100 => ⟨S2176x1024, .f32⟩
  | 101 => ⟨S2176x1024, .f32⟩
  | 102 => ⟨S1x1024, .f32⟩
  | 103 => ⟨S2176x1024, .f32⟩
  | 104 => ⟨S2176x1024, .f32⟩
  | 105 => ⟨S2176x1024, .f32⟩
  | 106 => ⟨S2176x1024, .f32⟩
  | 107 => ⟨S1x1024, .f32⟩
  | 108 => ⟨S2176x1024, .f32⟩
  | 109 => ⟨S2176x1024, .f32⟩
  | 110 => ⟨S2176x1024, .f32⟩
  | 111 => ⟨S2176x1024, .f32⟩
  | 112 => ⟨S1x1024, .f32⟩
  | 113 => ⟨S2176x1024, .f32⟩
  | 114 => ⟨S2176x1024, .f32⟩
  | 115 => ⟨S2176x1024, .f32⟩
  | 116 => ⟨S2176x1024, .f32⟩
  | 117 => ⟨S1x1024, .f32⟩
  | 118 => ⟨S2176x1024, .f32⟩
  | 119 => ⟨S2176x1024, .f32⟩
  | 120 => ⟨S2176x1024, .f32⟩
  | 121 => ⟨S2176x1024, .f32⟩
  | 122 => ⟨S1x1024, .f32⟩
  | 123 => ⟨S2176x1024, .f32⟩
  | 124 => ⟨S2176x1024, .f32⟩
  | 125 => ⟨S2176x1024, .f32⟩
  | 126 => ⟨S2176x1024, .f32⟩
  | 127 => ⟨S1x1024, .f32⟩
  | _ => ⟨S2176x9216, .f32⟩

abbrev hbmTy0_1 (i : Nat) : BufTy := match i % 128 with
  | 0 => ⟨S2176x1024, .f32⟩
  | 1 => ⟨S2176x1024, .f32⟩
  | 2 => ⟨S2176x1024, .f32⟩
  | 3 => ⟨S2176x1024, .f32⟩
  | 4 => ⟨S1x1024, .f32⟩
  | 5 => ⟨S2176x1024, .f32⟩
  | 6 => ⟨S2176x1024, .f32⟩
  | 7 => ⟨S2176x1024, .f32⟩
  | 8 => ⟨S2176x1024, .f32⟩
  | 9 => ⟨S1x1024, .f32⟩
  | 10 => ⟨S2176x1024, .f32⟩
  | 11 => ⟨S2176x1024, .f32⟩
  | 12 => ⟨S2176x1024, .f32⟩
  | 13 => ⟨S2176x1024, .f32⟩
  | 14 => ⟨S1x1024, .f32⟩
  | 15 => ⟨S2176x1024, .f32⟩
  | 16 => ⟨S2176x1024, .f32⟩
  | 17 => ⟨S2176x1024, .f32⟩
  | 18 => ⟨S2176x1024, .f32⟩
  | 19 => ⟨S1x1024, .f32⟩
  | 20 => ⟨S2176x1024, .f32⟩
  | 21 => ⟨S2176x1024, .f32⟩
  | 22 => ⟨S2176x1024, .f32⟩
  | 23 => ⟨S2176x1024, .f32⟩
  | 24 => ⟨S1x1024, .f32⟩
  | 25 => ⟨S2176x1024, .f32⟩
  | 26 => ⟨S2176x1024, .f32⟩
  | 27 => ⟨S2176x1024, .f32⟩
  | 28 => ⟨S2176x1024, .f32⟩
  | 29 => ⟨S1x1024, .f32⟩
  | 30 => ⟨S2176x1024, .f32⟩
  | 31 => ⟨S2176x1024, .f32⟩
  | 32 => ⟨S2176x1024, .f32⟩
  | 33 => ⟨S2176x1024, .f32⟩
  | 34 => ⟨S1x1024, .f32⟩
  | 35 => ⟨S2176x1024, .f32⟩
  | 36 => ⟨S2176x1024, .f32⟩
  | 37 => ⟨S2176x1024, .f32⟩
  | 38 => ⟨S2176x1024, .f32⟩
  | 39 => ⟨S1x1024, .f32⟩
  | 40 => ⟨S2176x1024, .f32⟩
  | 41 => ⟨S2176x1024, .f32⟩
  | 42 => ⟨S2176x1024, .f32⟩
  | 43 => ⟨S2176x1024, .f32⟩
  | 44 => ⟨S1x1024, .f32⟩
  | 45 => ⟨S2176x1024, .f32⟩
  | 46 => ⟨S2176x1024, .f32⟩
  | 47 => ⟨S2176x1024, .f32⟩
  | 48 => ⟨S2176x1024, .f32⟩
  | 49 => ⟨S1x1024, .f32⟩
  | 50 => ⟨S2176x1024, .f32⟩
  | 51 => ⟨S2176x1024, .f32⟩
  | 52 => ⟨S2176x1024, .f32⟩
  | 53 => ⟨S2176x1024, .f32⟩
  | 54 => ⟨S_, .f32⟩
  | 55 => ⟨S2x1024, .f32⟩
  | 56 => ⟨S2178x1024, .f32⟩
  | 57 => ⟨S_, .f32⟩
  | 58 => ⟨S2x1024, .f32⟩
  | 59 => ⟨S2176x1024, .f32⟩
  | 60 => ⟨S1x1024, .f32⟩
  | 61 => ⟨S2176x1024, .f32⟩
  | 62 => ⟨S2176x1024, .f32⟩
  | 63 => ⟨S2176x1024, .f32⟩
  | 64 => ⟨S1x1024, .f32⟩
  | 65 => ⟨S2176x1024, .f32⟩
  | 66 => ⟨S2176x1024, .f32⟩
  | 67 => ⟨S2176x1024, .f32⟩
  | 68 => ⟨S2176x1024, .f32⟩
  | 69 => ⟨S1x1024, .f32⟩
  | 70 => ⟨S2176x1024, .f32⟩
  | 71 => ⟨S2176x1024, .f32⟩
  | 72 => ⟨S2176x1024, .f32⟩
  | 73 => ⟨S2176x1024, .f32⟩
  | 74 => ⟨S2176x1024, .f32⟩
  | 75 => ⟨S2176x1024, .f32⟩
  | 76 => ⟨S_, .f32⟩
  | 77 => ⟨S1024, .f32⟩
  | 78 => ⟨S1x1024, .f32⟩
  | 79 => ⟨S2176x1024, .f32⟩
  | 80 => ⟨S2176x1024, .f32⟩
  | 81 => ⟨S_, .f32⟩
  | 82 => ⟨S3x1024, .f32⟩
  | 83 => ⟨S_, .f32⟩
  | 84 => ⟨S2178x1024, .f32⟩
  | 85 => ⟨S2176x1024, .f32⟩
  | 86 => ⟨S_, .f32⟩
  | 87 => ⟨S1024, .f32⟩
  | 88 => ⟨S1x1024, .f32⟩
  | 89 => ⟨S2176x1024, .f32⟩
  | 90 => ⟨S2176x1024, .f32⟩
  | 91 => ⟨S_, .f32⟩
  | 92 => ⟨S3x1024, .f32⟩
  | 93 => ⟨S3x1024, .f32⟩
  | 94 => ⟨S_, .f32⟩
  | 95 => ⟨S2178x1024, .f32⟩
  | 96 => ⟨S2178x1024, .f32⟩
  | 97 => ⟨S2176x1024, .f32⟩
  | 98 => ⟨S_, .f32⟩
  | 99 => ⟨S1024, .f32⟩
  | 100 => ⟨S1x1024, .f32⟩
  | 101 => ⟨S2176x1024, .f32⟩
  | 102 => ⟨S2176x1024, .f32⟩
  | 103 => ⟨S_, .f32⟩
  | 104 => ⟨S3x1024, .f32⟩
  | 105 => ⟨S3x1024, .f32⟩
  | 106 => ⟨S_, .f32⟩
  | 107 => ⟨S2178x1024, .f32⟩
  | 108 => ⟨S2178x1024, .f32⟩
  | 109 => ⟨S2x1024, .f32⟩
  | 110 => ⟨S2176x1024, .f32⟩
  | 111 => ⟨S2176x1024, .f32⟩
  | 112 => ⟨S2176x1024, .f32⟩
  | 113 => ⟨S2176x1024, .f32⟩
  | 114 => ⟨S2176x1024, .f32⟩
  | 115 => ⟨S2176x1024, .f32⟩
  | 116 => ⟨S_, .f32⟩
  | 117 => ⟨S1024, .f32⟩
  | 118 => ⟨S1x1024, .f32⟩
  | 119 => ⟨S2176x1024, .f32⟩
  | 120 => ⟨S2176x1024, .f32⟩
  | 121 => ⟨S_, .f32⟩
  | 122 => ⟨S31x1024, .f32⟩
  | 123 => ⟨S_, .f32⟩
  | 124 => ⟨S2206x1024, .f32⟩
  | 125 => ⟨S2176x1024, .f32⟩
  | 126 => ⟨S_, .f32⟩
  | 127 => ⟨S1024, .f32⟩
  | _ => ⟨S2176x9216, .f32⟩

abbrev hbmTy0_2 (i : Nat) : BufTy := match i % 128 with
  | 0 => ⟨S1x1024, .f32⟩
  | 1 => ⟨S2176x1024, .f32⟩
  | 2 => ⟨S2176x1024, .f32⟩
  | 3 => ⟨S_, .f32⟩
  | 4 => ⟨S31x1024, .f32⟩
  | 5 => ⟨S31x1024, .f32⟩
  | 6 => ⟨S_, .f32⟩
  | 7 => ⟨S2206x1024, .f32⟩
  | 8 => ⟨S2206x1024, .f32⟩
  | 9 => ⟨S2176x1024, .f32⟩
  | 10 => ⟨S_, .f32⟩
  | 11 => ⟨S1024, .f32⟩
  | 12 => ⟨S1x1024, .f32⟩
  | 13 => ⟨S2176x1024, .f32⟩
  | 14 => ⟨S2176x1024, .f32⟩
  | 15 => ⟨S_, .f32⟩
  | 16 => ⟨S31x1024, .f32⟩
  | 17 => ⟨S31x1024, .f32⟩
  | 18 => ⟨S_, .f32⟩
  | 19 => ⟨S2206x1024, .f32⟩
  | 20 => ⟨S2206x1024, .f32⟩
  | 21 => ⟨S2176x1024, .f32⟩
  | 22 => ⟨S_, .f32⟩
  | 23 => ⟨S1024, .f32⟩
  | 24 => ⟨S1x1024, .f32⟩
  | 25 => ⟨S2176x1024, .f32⟩
  | 26 => ⟨S2176x1024, .f32⟩
  | 27 => ⟨S_, .f32⟩
  | 28 => ⟨S31x1024, .f32⟩
  | 29 => ⟨S31x1024, .f32⟩
  | 30 => ⟨S_, .f32⟩
  | 31 => ⟨S2206x1024, .f32⟩
  | 32 => ⟨S2206x1024, .f32⟩
  | 33 => ⟨S2176x1024, .f32⟩
  | 34 => ⟨S_, .f32⟩
  | 35 => ⟨S1024, .f32⟩
  | 36 => ⟨S1x1024, .f32⟩
  | 37 => ⟨S2176x1024, .f32⟩
  | 38 => ⟨S2176x1024, .f32⟩
  | 39 => ⟨S_, .f32⟩
  | 40 => ⟨S31x1024, .f32⟩
  | 41 => ⟨S31x1024, .f32⟩
  | 42 => ⟨S_, .f32⟩
  | 43 => ⟨S2206x1024, .f32⟩
  | 44 => ⟨S2206x1024, .f32⟩
  | 45 => ⟨S2176x1024, .f32⟩
  | 46 => ⟨S_, .f32⟩
  | 47 => ⟨S1024, .f32⟩
  | 48 => ⟨S1x1024, .f32⟩
  | 49 => ⟨S2176x1024, .f32⟩
  | 50 => ⟨S2176x1024, .f32⟩
  | 51 => ⟨S_, .f32⟩
  | 52 => ⟨S31x1024, .f32⟩
  | 53 => ⟨S31x1024, .f32⟩
  | 54 => ⟨S_, .f32⟩
  | 55 => ⟨S2206x1024, .f32⟩
  | 56 => ⟨S2206x1024, .f32⟩
  | 57 => ⟨S2176x1024, .f32⟩
  | 58 => ⟨S_, .f32⟩
  | 59 => ⟨S1024, .f32⟩
  | 60 => ⟨S1x1024, .f32⟩
  | 61 => ⟨S2176x1024, .f32⟩
  | 62 => ⟨S2176x1024, .f32⟩
  | 63 => ⟨S_, .f32⟩
  | 64 => ⟨S31x1024, .f32⟩
  | 65 => ⟨S31x1024, .f32⟩
  | 66 => ⟨S_, .f32⟩
  | 67 => ⟨S2206x1024, .f32⟩
  | 68 => ⟨S2206x1024, .f32⟩
  | 69 => ⟨S2176x1024, .f32⟩
  | 70 => ⟨S_, .f32⟩
  | 71 => ⟨S1024, .f32⟩
  | 72 => ⟨S1x1024, .f32⟩
  | 73 => ⟨S2176x1024, .f32⟩
  | 74 => ⟨S2176x1024, .f32⟩
  | 75 => ⟨S_, .f32⟩
  | 76 => ⟨S31x1024, .f32⟩
  | 77 => ⟨S31x1024, .f32⟩
  | 78 => ⟨S_, .f32⟩
  | 79 => ⟨S2206x1024, .f32⟩
  | 80 => ⟨S2206x1024, .f32⟩
  | 81 => ⟨S2176x1024, .f32⟩
  | 82 => ⟨S_, .f32⟩
  | 83 => ⟨S1024, .f32⟩
  | 84 => ⟨S1x1024, .f32⟩
  | 85 => ⟨S2176x1024, .f32⟩
  | 86 => ⟨S2176x1024, .f32⟩
  | 87 => ⟨S_, .f32⟩
  | 88 => ⟨S31x1024, .f32⟩
  | 89 => ⟨S31x1024, .f32⟩
  | 90 => ⟨S_, .f32⟩
  | 91 => ⟨S2206x1024, .f32⟩
  | 92 => ⟨S2206x1024, .f32⟩
  | 93 => ⟨S2176x1024, .f32⟩
  | 94 => ⟨S_, .f32⟩
  | 95 => ⟨S1024, .f32⟩
  | 96 => ⟨S1x1024, .f32⟩
  | 97 => ⟨S2176x1024, .f32⟩
  | 98 => ⟨S2176x1024, .f32⟩
  | 99 => ⟨S_, .f32⟩
  | 100 => ⟨S31x1024, .f32⟩
  | 101 => ⟨S31x1024, .f32⟩
  | 102 => ⟨S_, .f32⟩
  | 103 => ⟨S2206x1024, .f32⟩
  | 104 => ⟨S2206x1024, .f32⟩
  | 105 => ⟨S2176x1024, .f32⟩
  | 106 => ⟨S_, .f32⟩
  | 107 => ⟨S1024, .f32⟩
  | 108 => ⟨S1x1024, .f32⟩
  | 109 => ⟨S2176x1024, .f32⟩
  | 110 => ⟨S2176x1024, .f32⟩
  | 111 => ⟨S_, .f32⟩
  | 112 => ⟨S31x1024, .f32⟩
  | 113 => ⟨S31x1024, .f32⟩
  | 114 => ⟨S_, .f32⟩
  | 115 => ⟨S2206x1024, .f32⟩
  | 116 => ⟨S2206x1024, .f32⟩
  | 117 => ⟨S2176x1024, .f32⟩
  | 118 => ⟨S_, .f32⟩
  | 119 => ⟨S1024, .f32⟩
  | 120 => ⟨S1x1024, .f32⟩
  | 121 => ⟨S2176x1024, .f32⟩
  | 122 => ⟨S2176x1024, .f32⟩
  | 123 => ⟨S_, .f32⟩
  | 124 => ⟨S31x1024, .f32⟩
  | 125 => ⟨S31x1024, .f32⟩
  | 126 => ⟨S_, .f32⟩
  | 127 => ⟨S2206x1024, .f32⟩
  | _ => ⟨S2176x9216, .f32⟩

abbrev hbmTy0_3 (i : Nat) : BufTy := match i % 128 with
  | 0 => ⟨S2206x1024, .f32⟩
  | 1 => ⟨S2176x1024, .f32⟩
  | 2 => ⟨S_, .f32⟩
  | 3 => ⟨S1024, .f32⟩
  | 4 => ⟨S1x1024, .f32⟩
  | 5 => ⟨S2176x1024, .f32⟩
  | 6 => ⟨S2176x1024, .f32⟩
  | 7 => ⟨S_, .f32⟩
  | 8 => ⟨S31x1024, .f32⟩
  | 9 => ⟨S31x1024, .f32⟩
  | 10 => ⟨S_, .f32⟩
  | 11 => ⟨S2206x1024, .f32⟩
  | 12 => ⟨S2206x1024, .f32⟩
  | 13 => ⟨S2176x1024, .f32⟩
  | 14 => ⟨S_, .f32⟩
  | 15 => ⟨S1024, .f32⟩
  | 16 => ⟨S1x1024, .f32⟩
  | 17 => ⟨S2176x1024, .f32⟩
  | 18 => ⟨S2176x1024, .f32⟩
  | 19 => ⟨S_, .f32⟩
  | 20 => ⟨S31x1024, .f32⟩
  | 21 => ⟨S31x1024, .f32⟩
  | 22 => ⟨S_, .f32⟩
  | 23 => ⟨S2206x1024, .f32⟩
  | 24 => ⟨S2206x1024, .f32⟩
  | 25 => ⟨S2176x1024, .f32⟩
  | 26 => ⟨S_, .f32⟩
  | 27 => ⟨S1024, .f32⟩
  | 28 => ⟨S1x1024, .f32⟩
  | 29 => ⟨S2176x1024, .f32⟩
  | 30 => ⟨S2176x1024, .f32⟩
  | 31 => ⟨S_, .f32⟩
  | 32 => ⟨S31x1024, .f32⟩
  | 33 => ⟨S31x1024, .f32⟩
  | 34 => ⟨S_, .f32⟩
  | 35 => ⟨S2206x1024, .f32⟩
  | 36 => ⟨S2206x1024, .f32⟩
  | 37 => ⟨S2176x1024, .f32⟩
  | 38 => ⟨S_, .f32⟩
  | 39 => ⟨S1024, .f32⟩
  | 40 => ⟨S1x1024, .f32⟩
  | 41 => ⟨S2176x1024, .f32⟩
  | 42 => ⟨S2176x1024, .f32⟩
  | 43 => ⟨S_, .f32⟩
  | 44 => ⟨S31x1024, .f32⟩
  | 45 => ⟨S31x1024, .f32⟩
  | 46 => ⟨S_, .f32⟩
  | 47 => ⟨S2206x1024, .f32⟩
  | 48 => ⟨S2206x1024, .f32⟩
  | 49 => ⟨S2176x1024, .f32⟩
  | 50 => ⟨S_, .f32⟩
  | 51 => ⟨S1024, .f32⟩
  | 52 => ⟨S1x1024, .f32⟩
  | 53 => ⟨S2176x1024, .f32⟩
  | 54 => ⟨S2176x1024, .f32⟩
  | 55 => ⟨S_, .f32⟩
  | 56 => ⟨S31x1024, .f32⟩
  | 57 => ⟨S31x1024, .f32⟩
  | 58 => ⟨S_, .f32⟩
  | 59 => ⟨S2206x1024, .f32⟩
  | 60 => ⟨S2206x1024, .f32⟩
  | 61 => ⟨S2176x1024, .f32⟩
  | 62 => ⟨S_, .f32⟩
  | 63 => ⟨S1024, .f32⟩
  | 64 => ⟨S1x1024, .f32⟩
  | 65 => ⟨S2176x1024, .f32⟩
  | 66 => ⟨S2176x1024, .f32⟩
  | 67 => ⟨S_, .f32⟩
  | 68 => ⟨S31x1024, .f32⟩
  | 69 => ⟨S31x1024, .f32⟩
  | 70 => ⟨S_, .f32⟩
  | 71 => ⟨S2206x1024, .f32⟩
  | 72 => ⟨S2206x1024, .f32⟩
  | 73 => ⟨S2176x1024, .f32⟩
  | 74 => ⟨S_, .f32⟩
  | 75 => ⟨S1024, .f32⟩
  | 76 => ⟨S1x1024, .f32⟩
  | 77 => ⟨S2176x1024, .f32⟩
  | 78 => ⟨S2176x1024, .f32⟩
  | 79 => ⟨S_, .f32⟩
  | 80 => ⟨S31x1024, .f32⟩
  | 81 => ⟨S31x1024, .f32⟩
  | 82 => ⟨S_, .f32⟩
  | 83 => ⟨S2206x1024, .f32⟩
  | 84 => ⟨S2206x1024, .f32⟩
  | 85 => ⟨S2176x1024, .f32⟩
  | 86 => ⟨S_, .f32⟩
  | 87 => ⟨S1024, .f32⟩
  | 88 => ⟨S1x1024, .f32⟩
  | 89 => ⟨S2176x1024, .f32⟩
  | 90 => ⟨S2176x1024, .f32⟩
  | 91 => ⟨S_, .f32⟩
  | 92 => ⟨S31x1024, .f32⟩
  | 93 => ⟨S31x1024, .f32⟩
  | 94 => ⟨S_, .f32⟩
  | 95 => ⟨S2206x1024, .f32⟩
  | 96 => ⟨S2206x1024, .f32⟩
  | 97 => ⟨S2176x1024, .f32⟩
  | 98 => ⟨S_, .f32⟩
  | 99 => ⟨S1024, .f32⟩
  | 100 => ⟨S1x1024, .f32⟩
  | 101 => ⟨S2176x1024, .f32⟩
  | 102 => ⟨S2176x1024, .f32⟩
  | 103 => ⟨S_, .f32⟩
  | 104 => ⟨S31x1024, .f32⟩
  | 105 => ⟨S31x1024, .f32⟩
  | 106 => ⟨S_, .f32⟩
  | 107 => ⟨S2206x1024, .f32⟩
  | 108 => ⟨S2206x1024, .f32⟩
  | 109 => ⟨S2176x1024, .f32⟩
  | 110 => ⟨S_, .f32⟩
  | 111 => ⟨S1024, .f32⟩
  | 112 => ⟨S1x1024, .f32⟩
  | 113 => ⟨S2176x1024, .f32⟩
  | 114 => ⟨S2176x1024, .f32⟩
  | 115 => ⟨S_, .f32⟩
  | 116 => ⟨S31x1024, .f32⟩
  | 117 => ⟨S31x1024, .f32⟩
  | 118 => ⟨S_, .f32⟩
  | 119 => ⟨S2206x1024, .f32⟩
  | 120 => ⟨S2206x1024, .f32⟩
  | 121 => ⟨S2176x1024, .f32⟩
  | 122 => ⟨S_, .f32⟩
  | 123 => ⟨S1024, .f32⟩
  | 124 => ⟨S1x1024, .f32⟩
  | 125 => ⟨S2176x1024, .f32⟩
  | 126 => ⟨S2176x1024, .f32⟩
  | 127 => ⟨S_, .f32⟩
  | _ => ⟨S2176x9216, .f32⟩

abbrev hbmTy0_4 (i : Nat) : BufTy := match i % 128 with
  | 0 => ⟨S31x1024, .f32⟩
  | 1 => ⟨S31x1024, .f32⟩
  | 2 => ⟨S_, .f32⟩
  | 3 => ⟨S2206x1024, .f32⟩
  | 4 => ⟨S2206x1024, .f32⟩
  | 5 => ⟨S2176x1024, .f32⟩
  | 6 => ⟨S_, .f32⟩
  | 7 => ⟨S1024, .f32⟩
  | 8 => ⟨S1x1024, .f32⟩
  | 9 => ⟨S2176x1024, .f32⟩
  | 10 => ⟨S2176x1024, .f32⟩
  | 11 => ⟨S_, .f32⟩
  | 12 => ⟨S31x1024, .f32⟩
  | 13 => ⟨S31x1024, .f32⟩
  | 14 => ⟨S_, .f32⟩
  | 15 => ⟨S2206x1024, .f32⟩
  | 16 => ⟨S2206x1024, .f32⟩
  | 17 => ⟨S2176x1024, .f32⟩
  | 18 => ⟨S_, .f32⟩
  | 19 => ⟨S1024, .f32⟩
  | 20 => ⟨S1x1024, .f32⟩
  | 21 => ⟨S2176x1024, .f32⟩
  | 22 => ⟨S2176x1024, .f32⟩
  | 23 => ⟨S_, .f32⟩
  | 24 => ⟨S31x1024, .f32⟩
  | 25 => ⟨S31x1024, .f32⟩
  | 26 => ⟨S_, .f32⟩
  | 27 => ⟨S2206x1024, .f32⟩
  | 28 => ⟨S2206x1024, .f32⟩
  | 29 => ⟨S2176x1024, .f32⟩
  | 30 => ⟨S_, .f32⟩
  | 31 => ⟨S1024, .f32⟩
  | 32 => ⟨S1x1024, .f32⟩
  | 33 => ⟨S2176x1024, .f32⟩
  | 34 => ⟨S2176x1024, .f32⟩
  | 35 => ⟨S_, .f32⟩
  | 36 => ⟨S31x1024, .f32⟩
  | 37 => ⟨S31x1024, .f32⟩
  | 38 => ⟨S_, .f32⟩
  | 39 => ⟨S2206x1024, .f32⟩
  | 40 => ⟨S2206x1024, .f32⟩
  | 41 => ⟨S2176x1024, .f32⟩
  | 42 => ⟨S_, .f32⟩
  | 43 => ⟨S1024, .f32⟩
  | 44 => ⟨S1x1024, .f32⟩
  | 45 => ⟨S2176x1024, .f32⟩
  | 46 => ⟨S2176x1024, .f32⟩
  | 47 => ⟨S_, .f32⟩
  | 48 => ⟨S31x1024, .f32⟩
  | 49 => ⟨S31x1024, .f32⟩
  | 50 => ⟨S_, .f32⟩
  | 51 => ⟨S2206x1024, .f32⟩
  | 52 => ⟨S2206x1024, .f32⟩
  | 53 => ⟨S2176x1024, .f32⟩
  | 54 => ⟨S_, .f32⟩
  | 55 => ⟨S1024, .f32⟩
  | 56 => ⟨S1x1024, .f32⟩
  | 57 => ⟨S2176x1024, .f32⟩
  | 58 => ⟨S2176x1024, .f32⟩
  | 59 => ⟨S_, .f32⟩
  | 60 => ⟨S31x1024, .f32⟩
  | 61 => ⟨S31x1024, .f32⟩
  | 62 => ⟨S_, .f32⟩
  | 63 => ⟨S2206x1024, .f32⟩
  | 64 => ⟨S2206x1024, .f32⟩
  | 65 => ⟨S2176x1024, .f32⟩
  | 66 => ⟨S_, .f32⟩
  | 67 => ⟨S1024, .f32⟩
  | 68 => ⟨S1x1024, .f32⟩
  | 69 => ⟨S2176x1024, .f32⟩
  | 70 => ⟨S2176x1024, .f32⟩
  | 71 => ⟨S_, .f32⟩
  | 72 => ⟨S31x1024, .f32⟩
  | 73 => ⟨S31x1024, .f32⟩
  | 74 => ⟨S_, .f32⟩
  | 75 => ⟨S2206x1024, .f32⟩
  | 76 => ⟨S2206x1024, .f32⟩
  | 77 => ⟨S2176x1024, .f32⟩
  | 78 => ⟨S_, .f32⟩
  | 79 => ⟨S1024, .f32⟩
  | 80 => ⟨S1x1024, .f32⟩
  | 81 => ⟨S2176x1024, .f32⟩
  | 82 => ⟨S2176x1024, .f32⟩
  | 83 => ⟨S_, .f32⟩
  | 84 => ⟨S31x1024, .f32⟩
  | 85 => ⟨S31x1024, .f32⟩
  | 86 => ⟨S_, .f32⟩
  | 87 => ⟨S2206x1024, .f32⟩
  | 88 => ⟨S2206x1024, .f32⟩
  | 89 => ⟨S2176x1024, .f32⟩
  | 90 => ⟨S_, .f32⟩
  | 91 => ⟨S1024, .f32⟩
  | 92 => ⟨S1x1024, .f32⟩
  | 93 => ⟨S2176x1024, .f32⟩
  | 94 => ⟨S2176x1024, .f32⟩
  | 95 => ⟨S_, .f32⟩
  | 96 => ⟨S31x1024, .f32⟩
  | 97 => ⟨S31x1024, .f32⟩
  | 98 => ⟨S_, .f32⟩
  | 99 => ⟨S2206x1024, .f32⟩
  | 100 => ⟨S2206x1024, .f32⟩
  | 101 => ⟨S30x1024, .f32⟩
  | 102 => ⟨S2176x1024, .f32⟩
  | 103 => ⟨S2176x1024, .f32⟩
  | 104 => ⟨S2176x1024, .f32⟩
  | 105 => ⟨S2176x1024, .f32⟩
  | 106 => ⟨S2176x1024, .bf16⟩
  | 107 => ⟨S2176x1024, .bf16⟩
  | 108 => ⟨S2176x1024, .bf16⟩
  | 109 => ⟨S2176x1024, .bf16⟩
  | _ => ⟨S2176x9216, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2176x9216, .f32⟩

abbrev bufTy : (tb : Table) → Fin (tcTables nBuf tb) → BufTy
  | .hbm, ⟨i, _⟩ => hbmTy i
  | _, _ => ⟨S2176x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_cst_4 : Ref sig .tc := ⟨.hbm, 182, rfl⟩
abbrev main_v172 : Ref sig .tc := ⟨.hbm, 183, rfl⟩
abbrev main_v173 : Ref sig .tc := ⟨.hbm, 184, rfl⟩
abbrev main_cst_5 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_cst_6 : Ref sig .tc := ⟨.hbm, 204, rfl⟩
abbrev main_v192 : Ref sig .tc := ⟨.hbm, 205, rfl⟩
abbrev main_v193 : Ref sig .tc := ⟨.hbm, 206, rfl⟩
abbrev main_v194 : Ref sig .tc := ⟨.hbm, 207, rfl⟩
abbrev main_v195 : Ref sig .tc := ⟨.hbm, 208, rfl⟩
abbrev main_cst_7 : Ref sig .tc := ⟨.hbm, 209, rfl⟩
abbrev main_v196 : Ref sig .tc := ⟨.hbm, 210, rfl⟩
abbrev main_cst_8 : Ref sig .tc := ⟨.hbm, 211, rfl⟩
abbrev main_v197 : Ref sig .tc := ⟨.hbm, 212, rfl⟩
abbrev main_v198 : Ref sig .tc := ⟨.hbm, 213, rfl⟩
abbrev main_cst_9 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_cst_10 : Ref sig .tc := ⟨.hbm, 219, rfl⟩
abbrev main_v203 : Ref sig .tc := ⟨.hbm, 220, rfl⟩
abbrev main_v204 : Ref sig .tc := ⟨.hbm, 221, rfl⟩
abbrev main_cst_11 : Ref sig .tc := ⟨.hbm, 222, rfl⟩
abbrev main_v205 : Ref sig .tc := ⟨.hbm, 223, rfl⟩
abbrev main_v206 : Ref sig .tc := ⟨.hbm, 224, rfl⟩
abbrev main_v207 : Ref sig .tc := ⟨.hbm, 225, rfl⟩
abbrev main_cst_12 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_cst_13 : Ref sig .tc := ⟨.hbm, 231, rfl⟩
abbrev main_v212 : Ref sig .tc := ⟨.hbm, 232, rfl⟩
abbrev main_v213 : Ref sig .tc := ⟨.hbm, 233, rfl⟩
abbrev main_cst_14 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_cst_15 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev main_v226 : Ref sig .tc := ⟨.hbm, 248, rfl⟩
abbrev main_cst_16 : Ref sig .tc := ⟨.hbm, 249, rfl⟩
abbrev main_v227 : Ref sig .tc := ⟨.hbm, 250, rfl⟩
abbrev main_cst_17 : Ref sig .tc := ⟨.hbm, 251, rfl⟩
abbrev main_v228 : Ref sig .tc := ⟨.hbm, 252, rfl⟩
abbrev main_v229 : Ref sig .tc := ⟨.hbm, 253, rfl⟩
abbrev main_cst_18 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_cst_19 : Ref sig .tc := ⟨.hbm, 259, rfl⟩
abbrev main_v234 : Ref sig .tc := ⟨.hbm, 260, rfl⟩
abbrev main_v235 : Ref sig .tc := ⟨.hbm, 261, rfl⟩
abbrev main_cst_20 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_cst_21 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_cst_22 : Ref sig .tc := ⟨.hbm, 271, rfl⟩
abbrev main_v243 : Ref sig .tc := ⟨.hbm, 272, rfl⟩
abbrev main_v244 : Ref sig .tc := ⟨.hbm, 273, rfl⟩
abbrev main_cst_23 : Ref sig .tc := ⟨.hbm, 274, rfl⟩
abbrev main_v245 : Ref sig .tc := ⟨.hbm, 275, rfl⟩
abbrev main_v246 : Ref sig .tc := ⟨.hbm, 276, rfl⟩
abbrev main_v247 : Ref sig .tc := ⟨.hbm, 277, rfl⟩
abbrev main_cst_24 : Ref sig .tc := ⟨.hbm, 278, rfl⟩
abbrev main_v248 : Ref sig .tc := ⟨.hbm, 279, rfl⟩
abbrev main_v249 : Ref sig .tc := ⟨.hbm, 280, rfl⟩
abbrev main_v250 : Ref sig .tc := ⟨.hbm, 281, rfl⟩
abbrev main_v251 : Ref sig .tc := ⟨.hbm, 282, rfl⟩
abbrev main_cst_25 : Ref sig .tc := ⟨.hbm, 283, rfl⟩
abbrev main_v252 : Ref sig .tc := ⟨.hbm, 284, rfl⟩
abbrev main_v253 : Ref sig .tc := ⟨.hbm, 285, rfl⟩
abbrev main_cst_26 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_cst_27 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_cst_28 : Ref sig .tc := ⟨.hbm, 295, rfl⟩
abbrev main_v261 : Ref sig .tc := ⟨.hbm, 296, rfl⟩
abbrev main_v262 : Ref sig .tc := ⟨.hbm, 297, rfl⟩
abbrev main_cst_29 : Ref sig .tc := ⟨.hbm, 298, rfl⟩
abbrev main_v263 : Ref sig .tc := ⟨.hbm, 299, rfl⟩
abbrev main_v264 : Ref sig .tc := ⟨.hbm, 300, rfl⟩
abbrev main_v265 : Ref sig .tc := ⟨.hbm, 301, rfl⟩
abbrev main_cst_30 : Ref sig .tc := ⟨.hbm, 302, rfl⟩
abbrev main_v266 : Ref sig .tc := ⟨.hbm, 303, rfl⟩
abbrev main_v267 : Ref sig .tc := ⟨.hbm, 304, rfl⟩
abbrev main_v268 : Ref sig .tc := ⟨.hbm, 305, rfl⟩
abbrev main_v269 : Ref sig .tc := ⟨.hbm, 306, rfl⟩
abbrev main_cst_31 : Ref sig .tc := ⟨.hbm, 307, rfl⟩
abbrev main_v270 : Ref sig .tc := ⟨.hbm, 308, rfl⟩
abbrev main_v271 : Ref sig .tc := ⟨.hbm, 309, rfl⟩
abbrev main_cst_32 : Ref sig .tc := ⟨.hbm, 310, rfl⟩
abbrev main_v272 : Ref sig .tc := ⟨.hbm, 311, rfl⟩
abbrev main_v273 : Ref sig .tc := ⟨.hbm, 312, rfl⟩
abbrev main_v274 : Ref sig .tc := ⟨.hbm, 313, rfl⟩
abbrev main_cst_33 : Ref sig .tc := ⟨.hbm, 314, rfl⟩
abbrev main_v275 : Ref sig .tc := ⟨.hbm, 315, rfl⟩
abbrev main_v276 : Ref sig .tc := ⟨.hbm, 316, rfl⟩
abbrev main_v277 : Ref sig .tc := ⟨.hbm, 317, rfl⟩
abbrev main_v278 : Ref sig .tc := ⟨.hbm, 318, rfl⟩
abbrev main_cst_34 : Ref sig .tc := ⟨.hbm, 319, rfl⟩
abbrev main_v279 : Ref sig .tc := ⟨.hbm, 320, rfl⟩
abbrev main_v280 : Ref sig .tc := ⟨.hbm, 321, rfl⟩
abbrev main_cst_35 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩
abbrev main_cst_36 : Ref sig .tc := ⟨.hbm, 326, rfl⟩
abbrev main_v284 : Ref sig .tc := ⟨.hbm, 327, rfl⟩
abbrev main_v285 : Ref sig .tc := ⟨.hbm, 328, rfl⟩
abbrev main_v286 : Ref sig .tc := ⟨.hbm, 329, rfl⟩
abbrev main_v287 : Ref sig .tc := ⟨.hbm, 330, rfl⟩
abbrev main_cst_37 : Ref sig .tc := ⟨.hbm, 331, rfl⟩
abbrev main_v288 : Ref sig .tc := ⟨.hbm, 332, rfl⟩
abbrev main_v289 : Ref sig .tc := ⟨.hbm, 333, rfl⟩
abbrev main_cst_38 : Ref sig .tc := ⟨.hbm, 334, rfl⟩
abbrev main_v290 : Ref sig .tc := ⟨.hbm, 335, rfl⟩
abbrev main_v291 : Ref sig .tc := ⟨.hbm, 336, rfl⟩
abbrev main_v292 : Ref sig .tc := ⟨.hbm, 337, rfl⟩
abbrev main_cst_39 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_cst_40 : Ref sig .tc := ⟨.hbm, 343, rfl⟩
abbrev main_v297 : Ref sig .tc := ⟨.hbm, 344, rfl⟩
abbrev main_v298 : Ref sig .tc := ⟨.hbm, 345, rfl⟩
abbrev main_cst_41 : Ref sig .tc := ⟨.hbm, 346, rfl⟩
abbrev main_v299 : Ref sig .tc := ⟨.hbm, 347, rfl⟩
abbrev main_v300 : Ref sig .tc := ⟨.hbm, 348, rfl⟩
abbrev main_v301 : Ref sig .tc := ⟨.hbm, 349, rfl⟩
abbrev main_cst_42 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_cst_43 : Ref sig .tc := ⟨.hbm, 355, rfl⟩
abbrev main_v306 : Ref sig .tc := ⟨.hbm, 356, rfl⟩
abbrev main_v307 : Ref sig .tc := ⟨.hbm, 357, rfl⟩
abbrev main_cst_44 : Ref sig .tc := ⟨.hbm, 358, rfl⟩
abbrev main_v308 : Ref sig .tc := ⟨.hbm, 359, rfl⟩
abbrev main_v309 : Ref sig .tc := ⟨.hbm, 360, rfl⟩
abbrev main_v310 : Ref sig .tc := ⟨.hbm, 361, rfl⟩
abbrev main_cst_45 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_cst_46 : Ref sig .tc := ⟨.hbm, 367, rfl⟩
abbrev main_v315 : Ref sig .tc := ⟨.hbm, 368, rfl⟩
abbrev main_v316 : Ref sig .tc := ⟨.hbm, 369, rfl⟩
abbrev main_cst_47 : Ref sig .tc := ⟨.hbm, 370, rfl⟩
abbrev main_v317 : Ref sig .tc := ⟨.hbm, 371, rfl⟩
abbrev main_v318 : Ref sig .tc := ⟨.hbm, 372, rfl⟩
abbrev main_v319 : Ref sig .tc := ⟨.hbm, 373, rfl⟩
abbrev main_cst_48 : Ref sig .tc := ⟨.hbm, 374, rfl⟩
abbrev main_v320 : Ref sig .tc := ⟨.hbm, 375, rfl⟩
abbrev main_v321 : Ref sig .tc := ⟨.hbm, 376, rfl⟩
abbrev main_v322 : Ref sig .tc := ⟨.hbm, 377, rfl⟩
abbrev main_v323 : Ref sig .tc := ⟨.hbm, 378, rfl⟩
abbrev main_cst_49 : Ref sig .tc := ⟨.hbm, 379, rfl⟩
abbrev main_v324 : Ref sig .tc := ⟨.hbm, 380, rfl⟩
abbrev main_v325 : Ref sig .tc := ⟨.hbm, 381, rfl⟩
abbrev main_cst_50 : Ref sig .tc := ⟨.hbm, 382, rfl⟩
abbrev main_v326 : Ref sig .tc := ⟨.hbm, 383, rfl⟩
abbrev main_v327 : Ref sig .tc := ⟨.hbm, 384, rfl⟩
abbrev main_v328 : Ref sig .tc := ⟨.hbm, 385, rfl⟩
abbrev main_cst_51 : Ref sig .tc := ⟨.hbm, 386, rfl⟩
abbrev main_v329 : Ref sig .tc := ⟨.hbm, 387, rfl⟩
abbrev main_v330 : Ref sig .tc := ⟨.hbm, 388, rfl⟩
abbrev main_v331 : Ref sig .tc := ⟨.hbm, 389, rfl⟩
abbrev main_v332 : Ref sig .tc := ⟨.hbm, 390, rfl⟩
abbrev main_cst_52 : Ref sig .tc := ⟨.hbm, 391, rfl⟩
abbrev main_v333 : Ref sig .tc := ⟨.hbm, 392, rfl⟩
abbrev main_v334 : Ref sig .tc := ⟨.hbm, 393, rfl⟩
abbrev main_cst_53 : Ref sig .tc := ⟨.hbm, 394, rfl⟩
abbrev main_v335 : Ref sig .tc := ⟨.hbm, 395, rfl⟩
abbrev main_v336 : Ref sig .tc := ⟨.hbm, 396, rfl⟩
abbrev main_v337 : Ref sig .tc := ⟨.hbm, 397, rfl⟩
abbrev main_cst_54 : Ref sig .tc := ⟨.hbm, 398, rfl⟩
abbrev main_v338 : Ref sig .tc := ⟨.hbm, 399, rfl⟩
abbrev main_v339 : Ref sig .tc := ⟨.hbm, 400, rfl⟩
abbrev main_v340 : Ref sig .tc := ⟨.hbm, 401, rfl⟩
abbrev main_v341 : Ref sig .tc := ⟨.hbm, 402, rfl⟩
abbrev main_cst_55 : Ref sig .tc := ⟨.hbm, 403, rfl⟩
abbrev main_v342 : Ref sig .tc := ⟨.hbm, 404, rfl⟩
abbrev main_v343 : Ref sig .tc := ⟨.hbm, 405, rfl⟩
abbrev main_cst_56 : Ref sig .tc := ⟨.hbm, 406, rfl⟩
abbrev main_v344 : Ref sig .tc := ⟨.hbm, 407, rfl⟩
abbrev main_v345 : Ref sig .tc := ⟨.hbm, 408, rfl⟩
abbrev main_v346 : Ref sig .tc := ⟨.hbm, 409, rfl⟩
abbrev main_cst_57 : Ref sig .tc := ⟨.hbm, 410, rfl⟩
abbrev main_v347 : Ref sig .tc := ⟨.hbm, 411, rfl⟩
abbrev main_v348 : Ref sig .tc := ⟨.hbm, 412, rfl⟩
abbrev main_v349 : Ref sig .tc := ⟨.hbm, 413, rfl⟩
abbrev main_v350 : Ref sig .tc := ⟨.hbm, 414, rfl⟩
abbrev main_cst_58 : Ref sig .tc := ⟨.hbm, 415, rfl⟩
abbrev main_v351 : Ref sig .tc := ⟨.hbm, 416, rfl⟩
abbrev main_v352 : Ref sig .tc := ⟨.hbm, 417, rfl⟩
abbrev main_cst_59 : Ref sig .tc := ⟨.hbm, 418, rfl⟩
abbrev main_v353 : Ref sig .tc := ⟨.hbm, 419, rfl⟩
abbrev main_v354 : Ref sig .tc := ⟨.hbm, 420, rfl⟩
abbrev main_v355 : Ref sig .tc := ⟨.hbm, 421, rfl⟩
abbrev main_cst_60 : Ref sig .tc := ⟨.hbm, 422, rfl⟩
abbrev main_v356 : Ref sig .tc := ⟨.hbm, 423, rfl⟩
abbrev main_v357 : Ref sig .tc := ⟨.hbm, 424, rfl⟩
abbrev main_v358 : Ref sig .tc := ⟨.hbm, 425, rfl⟩
abbrev main_v359 : Ref sig .tc := ⟨.hbm, 426, rfl⟩
abbrev main_cst_61 : Ref sig .tc := ⟨.hbm, 427, rfl⟩
abbrev main_v360 : Ref sig .tc := ⟨.hbm, 428, rfl⟩
abbrev main_v361 : Ref sig .tc := ⟨.hbm, 429, rfl⟩
abbrev main_cst_62 : Ref sig .tc := ⟨.hbm, 430, rfl⟩
abbrev main_v362 : Ref sig .tc := ⟨.hbm, 431, rfl⟩
abbrev main_v363 : Ref sig .tc := ⟨.hbm, 432, rfl⟩
abbrev main_v364 : Ref sig .tc := ⟨.hbm, 433, rfl⟩
abbrev main_cst_63 : Ref sig .tc := ⟨.hbm, 434, rfl⟩
abbrev main_v365 : Ref sig .tc := ⟨.hbm, 435, rfl⟩
abbrev main_v366 : Ref sig .tc := ⟨.hbm, 436, rfl⟩
abbrev main_v367 : Ref sig .tc := ⟨.hbm, 437, rfl⟩
abbrev main_v368 : Ref sig .tc := ⟨.hbm, 438, rfl⟩
abbrev main_cst_64 : Ref sig .tc := ⟨.hbm, 439, rfl⟩
abbrev main_v369 : Ref sig .tc := ⟨.hbm, 440, rfl⟩
abbrev main_v370 : Ref sig .tc := ⟨.hbm, 441, rfl⟩
abbrev main_cst_65 : Ref sig .tc := ⟨.hbm, 442, rfl⟩
abbrev main_v371 : Ref sig .tc := ⟨.hbm, 443, rfl⟩
abbrev main_v372 : Ref sig .tc := ⟨.hbm, 444, rfl⟩
abbrev main_v373 : Ref sig .tc := ⟨.hbm, 445, rfl⟩
abbrev main_cst_66 : Ref sig .tc := ⟨.hbm, 446, rfl⟩
abbrev main_v374 : Ref sig .tc := ⟨.hbm, 447, rfl⟩
abbrev main_v375 : Ref sig .tc := ⟨.hbm, 448, rfl⟩
abbrev main_v376 : Ref sig .tc := ⟨.hbm, 449, rfl⟩
abbrev main_v377 : Ref sig .tc := ⟨.hbm, 450, rfl⟩
abbrev main_cst_67 : Ref sig .tc := ⟨.hbm, 451, rfl⟩
abbrev main_v378 : Ref sig .tc := ⟨.hbm, 452, rfl⟩
abbrev main_v379 : Ref sig .tc := ⟨.hbm, 453, rfl⟩
abbrev main_cst_68 : Ref sig .tc := ⟨.hbm, 454, rfl⟩
abbrev main_v380 : Ref sig .tc := ⟨.hbm, 455, rfl⟩
abbrev main_v381 : Ref sig .tc := ⟨.hbm, 456, rfl⟩
abbrev main_v382 : Ref sig .tc := ⟨.hbm, 457, rfl⟩
abbrev main_cst_69 : Ref sig .tc := ⟨.hbm, 458, rfl⟩
abbrev main_v383 : Ref sig .tc := ⟨.hbm, 459, rfl⟩
abbrev main_v384 : Ref sig .tc := ⟨.hbm, 460, rfl⟩
abbrev main_v385 : Ref sig .tc := ⟨.hbm, 461, rfl⟩
abbrev main_v386 : Ref sig .tc := ⟨.hbm, 462, rfl⟩
abbrev main_cst_70 : Ref sig .tc := ⟨.hbm, 463, rfl⟩
abbrev main_v387 : Ref sig .tc := ⟨.hbm, 464, rfl⟩
abbrev main_v388 : Ref sig .tc := ⟨.hbm, 465, rfl⟩
abbrev main_cst_71 : Ref sig .tc := ⟨.hbm, 466, rfl⟩
abbrev main_v389 : Ref sig .tc := ⟨.hbm, 467, rfl⟩
abbrev main_v390 : Ref sig .tc := ⟨.hbm, 468, rfl⟩
abbrev main_v391 : Ref sig .tc := ⟨.hbm, 469, rfl⟩
abbrev main_cst_72 : Ref sig .tc := ⟨.hbm, 470, rfl⟩
abbrev main_v392 : Ref sig .tc := ⟨.hbm, 471, rfl⟩
abbrev main_v393 : Ref sig .tc := ⟨.hbm, 472, rfl⟩
abbrev main_v394 : Ref sig .tc := ⟨.hbm, 473, rfl⟩
abbrev main_v395 : Ref sig .tc := ⟨.hbm, 474, rfl⟩
abbrev main_cst_73 : Ref sig .tc := ⟨.hbm, 475, rfl⟩
abbrev main_v396 : Ref sig .tc := ⟨.hbm, 476, rfl⟩
abbrev main_v397 : Ref sig .tc := ⟨.hbm, 477, rfl⟩
abbrev main_cst_74 : Ref sig .tc := ⟨.hbm, 478, rfl⟩
abbrev main_v398 : Ref sig .tc := ⟨.hbm, 479, rfl⟩
abbrev main_v399 : Ref sig .tc := ⟨.hbm, 480, rfl⟩
abbrev main_v400 : Ref sig .tc := ⟨.hbm, 481, rfl⟩
abbrev main_cst_75 : Ref sig .tc := ⟨.hbm, 482, rfl⟩
abbrev main_v401 : Ref sig .tc := ⟨.hbm, 483, rfl⟩
abbrev main_v402 : Ref sig .tc := ⟨.hbm, 484, rfl⟩
abbrev main_v403 : Ref sig .tc := ⟨.hbm, 485, rfl⟩
abbrev main_v404 : Ref sig .tc := ⟨.hbm, 486, rfl⟩
abbrev main_cst_76 : Ref sig .tc := ⟨.hbm, 487, rfl⟩
abbrev main_v405 : Ref sig .tc := ⟨.hbm, 488, rfl⟩
abbrev main_v406 : Ref sig .tc := ⟨.hbm, 489, rfl⟩
abbrev main_cst_77 : Ref sig .tc := ⟨.hbm, 490, rfl⟩
abbrev main_v407 : Ref sig .tc := ⟨.hbm, 491, rfl⟩
abbrev main_v408 : Ref sig .tc := ⟨.hbm, 492, rfl⟩
abbrev main_v409 : Ref sig .tc := ⟨.hbm, 493, rfl⟩
abbrev main_cst_78 : Ref sig .tc := ⟨.hbm, 494, rfl⟩
abbrev main_v410 : Ref sig .tc := ⟨.hbm, 495, rfl⟩
abbrev main_v411 : Ref sig .tc := ⟨.hbm, 496, rfl⟩
abbrev main_v412 : Ref sig .tc := ⟨.hbm, 497, rfl⟩
abbrev main_v413 : Ref sig .tc := ⟨.hbm, 498, rfl⟩
abbrev main_cst_79 : Ref sig .tc := ⟨.hbm, 499, rfl⟩
abbrev main_v414 : Ref sig .tc := ⟨.hbm, 500, rfl⟩
abbrev main_v415 : Ref sig .tc := ⟨.hbm, 501, rfl⟩
abbrev main_cst_80 : Ref sig .tc := ⟨.hbm, 502, rfl⟩
abbrev main_v416 : Ref sig .tc := ⟨.hbm, 503, rfl⟩
abbrev main_v417 : Ref sig .tc := ⟨.hbm, 504, rfl⟩
abbrev main_v418 : Ref sig .tc := ⟨.hbm, 505, rfl⟩
abbrev main_cst_81 : Ref sig .tc := ⟨.hbm, 506, rfl⟩
abbrev main_v419 : Ref sig .tc := ⟨.hbm, 507, rfl⟩
abbrev main_v420 : Ref sig .tc := ⟨.hbm, 508, rfl⟩
abbrev main_v421 : Ref sig .tc := ⟨.hbm, 509, rfl⟩
abbrev main_v422 : Ref sig .tc := ⟨.hbm, 510, rfl⟩
abbrev main_cst_82 : Ref sig .tc := ⟨.hbm, 511, rfl⟩
abbrev main_v423 : Ref sig .tc := ⟨.hbm, 512, rfl⟩
abbrev main_v424 : Ref sig .tc := ⟨.hbm, 513, rfl⟩
abbrev main_cst_83 : Ref sig .tc := ⟨.hbm, 514, rfl⟩
abbrev main_v425 : Ref sig .tc := ⟨.hbm, 515, rfl⟩
abbrev main_v426 : Ref sig .tc := ⟨.hbm, 516, rfl⟩
abbrev main_v427 : Ref sig .tc := ⟨.hbm, 517, rfl⟩
abbrev main_cst_84 : Ref sig .tc := ⟨.hbm, 518, rfl⟩
abbrev main_v428 : Ref sig .tc := ⟨.hbm, 519, rfl⟩
abbrev main_v429 : Ref sig .tc := ⟨.hbm, 520, rfl⟩
abbrev main_v430 : Ref sig .tc := ⟨.hbm, 521, rfl⟩
abbrev main_v431 : Ref sig .tc := ⟨.hbm, 522, rfl⟩
abbrev main_cst_85 : Ref sig .tc := ⟨.hbm, 523, rfl⟩
abbrev main_v432 : Ref sig .tc := ⟨.hbm, 524, rfl⟩
abbrev main_v433 : Ref sig .tc := ⟨.hbm, 525, rfl⟩
abbrev main_cst_86 : Ref sig .tc := ⟨.hbm, 526, rfl⟩
abbrev main_v434 : Ref sig .tc := ⟨.hbm, 527, rfl⟩
abbrev main_v435 : Ref sig .tc := ⟨.hbm, 528, rfl⟩
abbrev main_v436 : Ref sig .tc := ⟨.hbm, 529, rfl⟩
abbrev main_cst_87 : Ref sig .tc := ⟨.hbm, 530, rfl⟩
abbrev main_v437 : Ref sig .tc := ⟨.hbm, 531, rfl⟩
abbrev main_v438 : Ref sig .tc := ⟨.hbm, 532, rfl⟩
abbrev main_v439 : Ref sig .tc := ⟨.hbm, 533, rfl⟩
abbrev main_v440 : Ref sig .tc := ⟨.hbm, 534, rfl⟩
abbrev main_cst_88 : Ref sig .tc := ⟨.hbm, 535, rfl⟩
abbrev main_v441 : Ref sig .tc := ⟨.hbm, 536, rfl⟩
abbrev main_v442 : Ref sig .tc := ⟨.hbm, 537, rfl⟩
abbrev main_cst_89 : Ref sig .tc := ⟨.hbm, 538, rfl⟩
abbrev main_v443 : Ref sig .tc := ⟨.hbm, 539, rfl⟩
abbrev main_v444 : Ref sig .tc := ⟨.hbm, 540, rfl⟩
abbrev main_v445 : Ref sig .tc := ⟨.hbm, 541, rfl⟩
abbrev main_cst_90 : Ref sig .tc := ⟨.hbm, 542, rfl⟩
abbrev main_v446 : Ref sig .tc := ⟨.hbm, 543, rfl⟩
abbrev main_v447 : Ref sig .tc := ⟨.hbm, 544, rfl⟩
abbrev main_v448 : Ref sig .tc := ⟨.hbm, 545, rfl⟩
abbrev main_v449 : Ref sig .tc := ⟨.hbm, 546, rfl⟩
abbrev main_cst_91 : Ref sig .tc := ⟨.hbm, 547, rfl⟩
abbrev main_v450 : Ref sig .tc := ⟨.hbm, 548, rfl⟩
abbrev main_v451 : Ref sig .tc := ⟨.hbm, 549, rfl⟩
abbrev main_cst_92 : Ref sig .tc := ⟨.hbm, 550, rfl⟩
abbrev main_v452 : Ref sig .tc := ⟨.hbm, 551, rfl⟩
abbrev main_v453 : Ref sig .tc := ⟨.hbm, 552, rfl⟩
abbrev main_v454 : Ref sig .tc := ⟨.hbm, 553, rfl⟩
abbrev main_cst_93 : Ref sig .tc := ⟨.hbm, 554, rfl⟩
abbrev main_v455 : Ref sig .tc := ⟨.hbm, 555, rfl⟩
abbrev main_v456 : Ref sig .tc := ⟨.hbm, 556, rfl⟩
abbrev main_v457 : Ref sig .tc := ⟨.hbm, 557, rfl⟩
abbrev main_v458 : Ref sig .tc := ⟨.hbm, 558, rfl⟩
abbrev main_cst_94 : Ref sig .tc := ⟨.hbm, 559, rfl⟩
abbrev main_v459 : Ref sig .tc := ⟨.hbm, 560, rfl⟩
abbrev main_v460 : Ref sig .tc := ⟨.hbm, 561, rfl⟩
abbrev main_cst_95 : Ref sig .tc := ⟨.hbm, 562, rfl⟩
abbrev main_v461 : Ref sig .tc := ⟨.hbm, 563, rfl⟩
abbrev main_v462 : Ref sig .tc := ⟨.hbm, 564, rfl⟩
abbrev main_v463 : Ref sig .tc := ⟨.hbm, 565, rfl⟩
abbrev main_cst_96 : Ref sig .tc := ⟨.hbm, 566, rfl⟩
abbrev main_v464 : Ref sig .tc := ⟨.hbm, 567, rfl⟩
abbrev main_v465 : Ref sig .tc := ⟨.hbm, 568, rfl⟩
abbrev main_v466 : Ref sig .tc := ⟨.hbm, 569, rfl⟩
abbrev main_v467 : Ref sig .tc := ⟨.hbm, 570, rfl⟩
abbrev main_cst_97 : Ref sig .tc := ⟨.hbm, 571, rfl⟩
abbrev main_v468 : Ref sig .tc := ⟨.hbm, 572, rfl⟩
abbrev main_v469 : Ref sig .tc := ⟨.hbm, 573, rfl⟩
abbrev main_cst_98 : Ref sig .tc := ⟨.hbm, 574, rfl⟩
abbrev main_v470 : Ref sig .tc := ⟨.hbm, 575, rfl⟩
abbrev main_v471 : Ref sig .tc := ⟨.hbm, 576, rfl⟩
abbrev main_v472 : Ref sig .tc := ⟨.hbm, 577, rfl⟩
abbrev main_cst_99 : Ref sig .tc := ⟨.hbm, 578, rfl⟩
abbrev main_v473 : Ref sig .tc := ⟨.hbm, 579, rfl⟩
abbrev main_v474 : Ref sig .tc := ⟨.hbm, 580, rfl⟩
abbrev main_v475 : Ref sig .tc := ⟨.hbm, 581, rfl⟩
abbrev main_v476 : Ref sig .tc := ⟨.hbm, 582, rfl⟩
abbrev main_cst_100 : Ref sig .tc := ⟨.hbm, 583, rfl⟩
abbrev main_v477 : Ref sig .tc := ⟨.hbm, 584, rfl⟩
abbrev main_v478 : Ref sig .tc := ⟨.hbm, 585, rfl⟩
abbrev main_cst_101 : Ref sig .tc := ⟨.hbm, 586, rfl⟩
abbrev main_v479 : Ref sig .tc := ⟨.hbm, 587, rfl⟩
abbrev main_v480 : Ref sig .tc := ⟨.hbm, 588, rfl⟩
abbrev main_v481 : Ref sig .tc := ⟨.hbm, 589, rfl⟩
abbrev main_cst_102 : Ref sig .tc := ⟨.hbm, 590, rfl⟩
abbrev main_v482 : Ref sig .tc := ⟨.hbm, 591, rfl⟩
abbrev main_v483 : Ref sig .tc := ⟨.hbm, 592, rfl⟩
abbrev main_v484 : Ref sig .tc := ⟨.hbm, 593, rfl⟩
abbrev main_v485 : Ref sig .tc := ⟨.hbm, 594, rfl⟩
abbrev main_cst_103 : Ref sig .tc := ⟨.hbm, 595, rfl⟩
abbrev main_v486 : Ref sig .tc := ⟨.hbm, 596, rfl⟩
abbrev main_v487 : Ref sig .tc := ⟨.hbm, 597, rfl⟩
abbrev main_cst_104 : Ref sig .tc := ⟨.hbm, 598, rfl⟩
abbrev main_v488 : Ref sig .tc := ⟨.hbm, 599, rfl⟩
abbrev main_v489 : Ref sig .tc := ⟨.hbm, 600, rfl⟩
abbrev main_v490 : Ref sig .tc := ⟨.hbm, 601, rfl⟩
abbrev main_cst_105 : Ref sig .tc := ⟨.hbm, 602, rfl⟩
abbrev main_v491 : Ref sig .tc := ⟨.hbm, 603, rfl⟩
abbrev main_v492 : Ref sig .tc := ⟨.hbm, 604, rfl⟩
abbrev main_v493 : Ref sig .tc := ⟨.hbm, 605, rfl⟩
abbrev main_v494 : Ref sig .tc := ⟨.hbm, 606, rfl⟩
abbrev main_cst_106 : Ref sig .tc := ⟨.hbm, 607, rfl⟩
abbrev main_v495 : Ref sig .tc := ⟨.hbm, 608, rfl⟩
abbrev main_v496 : Ref sig .tc := ⟨.hbm, 609, rfl⟩
abbrev main_cst_107 : Ref sig .tc := ⟨.hbm, 610, rfl⟩
abbrev main_v497 : Ref sig .tc := ⟨.hbm, 611, rfl⟩
abbrev main_v498 : Ref sig .tc := ⟨.hbm, 612, rfl⟩
abbrev main_v499 : Ref sig .tc := ⟨.hbm, 613, rfl⟩
abbrev main_v500 : Ref sig .tc := ⟨.hbm, 614, rfl⟩
abbrev main_v501 : Ref sig .tc := ⟨.hbm, 615, rfl⟩
abbrev main_v502 : Ref sig .tc := ⟨.hbm, 616, rfl⟩
abbrev main_v503 : Ref sig .tc := ⟨.hbm, 617, rfl⟩
abbrev main_v504 : Ref sig .tc := ⟨.hbm, 618, rfl⟩
abbrev main_v505 : Ref sig .tc := ⟨.hbm, 619, rfl⟩
abbrev main_v506 : Ref sig .tc := ⟨.hbm, 620, rfl⟩
abbrev main_v507 : Ref sig .tc := ⟨.hbm, 621, rfl⟩

abbrev nD : Nat := 1
abbrev τ : Topo := Topo.v7x

variable {F : FTy → Type} [FloatOps F]
-- ==== GwIn.lean ====
abbrev S2176x2048 : Shape := ⟨2, ![2176, 2048]⟩
abbrev S2176x9216 : Shape := ⟨2, ![2176, 9216]⟩
abbrev S4x2048x2304 : Shape := ⟨3, ![4, 2048, 2304]⟩
abbrev S2176x768 : Shape := ⟨2, ![2176, 768]⟩
abbrev S1x2048x768 : Shape := ⟨3, ![1, 2048, 768]⟩
abbrev S2048x768 : Shape := ⟨2, ![2048, 768]⟩

abbrev nBuf : Space → Nat
  | .hbm => 6
  | .vmem => 7
  | .smem => 0
  | _ => 0

abbrev bufTy : (tb : Table) → Fin (tcTables nBuf tb) → BufTy
  | .hbm, ⟨0, _⟩ => ⟨S2176x2048, .f32⟩
  | .hbm, ⟨1, _⟩ => ⟨S2176x9216, .f32⟩
  | .hbm, ⟨2, _⟩ => ⟨S2176x2048, .bf16⟩
  | .hbm, ⟨3, _⟩ => ⟨S2176x9216, .bf16⟩
  | .hbm, ⟨4, _⟩ => ⟨S4x2048x2304, .f32⟩
  | .hbm, ⟨5, _⟩ => ⟨S4x2048x2304, .bf16⟩
  | .local _ .vmem, ⟨0, _⟩ => ⟨S2176x2048, .bf16⟩
  | .local _ .vmem, ⟨1, _⟩ => ⟨S2176x768, .bf16⟩
  | .local _ .vmem, ⟨2, _⟩ => ⟨S2176x768, .bf16⟩
  | .local _ .vmem, ⟨3, _⟩ => ⟨S1x2048x768, .f32⟩
  | .local _ .vmem, ⟨4, _⟩ => ⟨S1x2048x768, .f32⟩
  | .local _ .vmem, ⟨5, _⟩ => ⟨S1x2048x768, .bf16⟩
  | .local _ .vmem, ⟨6, _⟩ => ⟨S1x2048x768, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2176x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GwInReferenceIdeal.lean ====
abbrev S2176x2048 : Shape := ⟨2, ![2176, 2048]⟩
abbrev S2176x9216 : Shape := ⟨2, ![2176, 9216]⟩
abbrev S_ : Shape := ⟨0, ![]⟩
abbrev S2048x9216 : Shape := ⟨2, ![2048, 9216]⟩
abbrev S9216x2048 : Shape := ⟨2, ![9216, 2048]⟩
abbrev S2048x4x2304 : Shape := ⟨3, ![2048, 4, 2304]⟩
abbrev S4x2048x2304 : Shape := ⟨3, ![4, 2048, 2304]⟩

abbrev nBuf : Space → Nat
  | .hbm => 10
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x9216, .f32⟩
  | .hbm, ⟨2, _⟩ => ⟨S_, .f32⟩
  | .hbm, ⟨3, _⟩ => ⟨S2048x9216, .f32⟩
  | .hbm, ⟨4, _⟩ => ⟨S2176x9216, .f32⟩
  | .hbm, ⟨5, _⟩ => ⟨S9216x2048, .f32⟩
  | .hbm, ⟨6, _⟩ => ⟨S2048x9216, .f32⟩
  | .hbm, ⟨7, _⟩ => ⟨S2048x4x2304, .f32⟩
  | .hbm, ⟨8, _⟩ => ⟨S4x2048x2304, .f32⟩
  | .hbm, ⟨9, _⟩ => ⟨S4x2048x2304, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DN.lean ====
abbrev S2176x9216 : Shape := ⟨2, ![2176, 9216]⟩
abbrev S2048x9216 : Shape := ⟨2, ![2048, 9216]⟩
abbrev S2048x4x2304 : Shape := ⟨3, ![2048, 4, 2304]⟩
abbrev S4x2048x2304 : Shape := ⟨3, ![4, 2048, 2304]⟩
abbrev S2176x2048 : Shape := ⟨2, ![2176, 2048]⟩
abbrev S2176x2304 : Shape := ⟨2, ![2176, 2304]⟩
abbrev S1x512x2304 : Shape := ⟨3, ![1, 512, 2304]⟩
abbrev S2176x512 : Shape := ⟨2, ![2176, 512]⟩
abbrev S512x2304 : Shape := ⟨2, ![512, 2304]⟩

abbrev nBuf : Space → Nat
  | .hbm => 7
  | .vmem => 7
  | .smem => 0
  | _ => 0

abbrev bufTy : (tb : Table) → Fin (tcTables nBuf tb) → BufTy
  | .hbm, ⟨0, _⟩ => ⟨S2176x9216, .f32⟩
  | .hbm, ⟨1, _⟩ => ⟨S2048x9216, .f32⟩
  | .hbm, ⟨2, _⟩ => ⟨S2176x9216, .bf16⟩
  | .hbm, ⟨3, _⟩ => ⟨S2048x9216, .bf16⟩
  | .hbm, ⟨4, _⟩ => ⟨S2048x4x2304, .bf16⟩
  | .hbm, ⟨5, _⟩ => ⟨S4x2048x2304, .bf16⟩
  | .hbm, ⟨6, _⟩ => ⟨S2176x2048, .f32⟩
  | .local _ .vmem, ⟨0, _⟩ => ⟨S2176x2304, .bf16⟩
  | .local _ .vmem, ⟨1, _⟩ => ⟨S2176x2304, .bf16⟩
  | .local _ .vmem, ⟨2, _⟩ => ⟨S1x512x2304, .bf16⟩
  | .local _ .vmem, ⟨3, _⟩ => ⟨S1x512x2304, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S2176x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DNReferenceIdeal.lean ====
abbrev S2176x9216 : Shape := ⟨2, ![2176, 9216]⟩
abbrev S2048x9216 : Shape := ⟨2, ![2048, 9216]⟩
abbrev S_ : Shape := ⟨0, ![]⟩
abbrev S2176x2048 : Shape := ⟨2, ![2176, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2176x9216, .f32⟩
  | .hbm, ⟨1, _⟩ => ⟨S2048x9216, .f32⟩
  | .hbm, ⟨2, _⟩ => ⟨S_, .f32⟩
  | .hbm, ⟨3, _⟩ => ⟨S2176x2048, .f32⟩
  | .hbm, ⟨4, _⟩ => ⟨S2176x9216, .f32⟩
  | .hbm, ⟨5, _⟩ => ⟨S2176x2048, .f32⟩
  | _, _ => ⟨S2176x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GwUp.lean ====
abbrev S2176x2048 : Shape := ⟨2, ![2176, 2048]⟩
abbrev S2176x8192 : Shape := ⟨2, ![2176, 8192]⟩
abbrev S4x2048x2048 : Shape := ⟨3, ![4, 2048, 2048]⟩
abbrev S2176x512 : Shape := ⟨2, ![2176, 512]⟩
abbrev S1x2048x512 : Shape := ⟨3, ![1, 2048, 512]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S2176x2048, .f32⟩
  | .hbm, ⟨1, _⟩ => ⟨S2176x8192, .f32⟩
  | .hbm, ⟨2, _⟩ => ⟨S2176x2048, .bf16⟩
  | .hbm, ⟨3, _⟩ => ⟨S2176x8192, .bf16⟩
  | .hbm, ⟨4, _⟩ => ⟨S4x2048x2048, .f32⟩
  | .hbm, ⟨5, _⟩ => ⟨S4x2048x2048, .bf16⟩
  | .local _ .vmem, ⟨0, _⟩ => ⟨S2176x2048, .bf16⟩
  | .local _ .vmem, ⟨1, _⟩ => ⟨S2176x512, .bf16⟩
  | .local _ .vmem, ⟨2, _⟩ => ⟨S2176x512, .bf16⟩
  | .local _ .vmem, ⟨3, _⟩ => ⟨S1x2048x512, .f32⟩
  | .local _ .vmem, ⟨4, _⟩ => ⟨S1x2048x512, .f32⟩
  | .local _ .vmem, ⟨5, _⟩ => ⟨S1x2048x512, .bf16⟩
  | .local _ .vmem, ⟨6, _⟩ => ⟨S1x2048x512, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GwUpReferenceIdeal.lean ====
abbrev S2176x2048 : Shape := ⟨2, ![2176, 2048]⟩
abbrev S2176x8192 : Shape := ⟨2, ![2176, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x8192, .f32⟩
  | .hbm, ⟨2, _⟩ => ⟨S_, .f32⟩
  | .hbm, ⟨3, _⟩ => ⟨S2048x8192, .f32⟩
  | .hbm, ⟨4, _⟩ => ⟨S2176x8192, .f32⟩
  | .hbm, ⟨5, _⟩ => ⟨S8192x2048, .f32⟩
  | .hbm, ⟨6, _⟩ => ⟨S2048x8192, .f32⟩
  | .hbm, ⟨7, _⟩ => ⟨S2048x4x2048, .f32⟩
  | .hbm, ⟨8, _⟩ => ⟨S4x2048x2048, .f32⟩
  | .hbm, ⟨9, _⟩ => ⟨S4x2048x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwDown.lean ====
abbrev S2176x8192 : Shape := ⟨2, ![2176, 8192]⟩
abbrev S2176x2048 : Shape := ⟨2, ![2176, 2048]⟩
abbrev S8192x2048 : Shape := ⟨2, ![8192, 2048]⟩
abbrev S2176x512 : Shape := ⟨2, ![2176, 512]⟩
abbrev S2048x512 : Shape := ⟨2, ![2048, 512]⟩

abbrev nBuf : Space → Nat
  | .hbm => 6
  | .vmem => 8
  | .smem => 0
  | _ => 0

abbrev bufTy : (tb : Table) → Fin (tcTables nBuf tb) → BufTy
  | .hbm, ⟨0, _⟩ => ⟨S2176x8192, .f32⟩
  | .hbm, ⟨1, _⟩ => ⟨S2176x2048, .f32⟩
  | .hbm, ⟨2, _⟩ => ⟨S2176x8192, .bf16⟩
  | .hbm, ⟨3, _⟩ => ⟨S2176x2048, .bf16⟩
  | .hbm, ⟨4, _⟩ => ⟨S8192x2048, .f32⟩
  | .hbm, ⟨5, _⟩ => ⟨S8192x2048, .bf16⟩
  | .local _ .vmem, ⟨0, _⟩ => ⟨S2176x2048, .bf16⟩
  | .local _ .vmem, ⟨1, _⟩ => ⟨S2176x2048, .bf16⟩
  | .local _ .vmem, ⟨2, _⟩ => ⟨S2176x512, .bf16⟩
  | .local _ .vmem, ⟨3, _⟩ => ⟨S2176x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | _, _ => ⟨S2176x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GwDownReferenceIdeal.lean ====
abbrev S2176x8192 : Shape := ⟨2, ![2176, 8192]⟩
abbrev S2176x2048 : Shape := ⟨2, ![2176, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 8
  | .vmem => 0
  | .smem => 0
  | _ => 0

abbrev bufTy : (tb : Table) → Fin (tcTables nBuf tb) → BufTy
  | .hbm, ⟨0, _⟩ => ⟨S2176x8192, .f32⟩
  | .hbm, ⟨1, _⟩ => ⟨S2176x2048, .f32⟩
  | .hbm, ⟨2, _⟩ => ⟨S_, .f32⟩
  | .hbm, ⟨3, _⟩ => ⟨S8192x2048, .f32⟩
  | .hbm, ⟨4, _⟩ => ⟨S2176x2048, .f32⟩
  | .hbm, ⟨5, _⟩ => ⟨S2048x8192, .f32⟩
  | .hbm, ⟨6, _⟩ => ⟨S8192x2048, .f32⟩
  | .hbm, ⟨7, _⟩ => ⟨S8192x2048, .bf16⟩
  | _, _ => ⟨S2176x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DUp.lean ====
abbrev S2176x2048 : Shape := ⟨2, ![2176, 2048]⟩
abbrev S8192x2048 : Shape := ⟨2, ![8192, 2048]⟩
abbrev S2176x8192 : Shape := ⟨2, ![2176, 8192]⟩
abbrev S512x2048 : Shape := ⟨2, ![512, 2048]⟩
abbrev S2176x512 : Shape := ⟨2, ![2176, 512]⟩

abbrev nBuf : Space → Nat
  | .hbm => 6
  | .vmem => 7
  | .smem => 0
  | _ => 0

abbrev bufTy : (tb : Table) → Fin (tcTables nBuf tb) → BufTy
  | .hbm, ⟨0, _⟩ => ⟨S2176x2048, .f32⟩
  | .hbm, ⟨1, _⟩ => ⟨S8192x2048, .f32⟩
  | .hbm, ⟨2, _⟩ => ⟨S2176x8192, .f32⟩
  | .hbm, ⟨3, _⟩ => ⟨S2176x2048, .bf16⟩
  | .hbm, ⟨4, _⟩ => ⟨S8192x2048, .bf16⟩
  | .hbm, ⟨5, _⟩ => ⟨S2176x8192, .bf16⟩
  | .local _ .vmem, ⟨0, _⟩ => ⟨S2176x2048, .bf16⟩
  | .local _ .vmem, ⟨1, _⟩ => ⟨S512x2048, .bf16⟩
  | .local _ .vmem, ⟨2, _⟩ => ⟨S512x2048, .bf16⟩
  | .local _ .vmem, ⟨3, _⟩ => ⟨S2176x512, .f32⟩
  | .local _ .vmem, ⟨4, _⟩ => ⟨S2176x512, .f32⟩
  | .local _ .vmem, ⟨5, _⟩ => ⟨S2176x512, .bf16⟩
  | .local _ .vmem, ⟨6, _⟩ => ⟨S2176x512, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DUpReferenceIdeal.lean ====
abbrev S2176x2048 : Shape := ⟨2, ![2176, 2048]⟩
abbrev S8192x2048 : Shape := ⟨2, ![8192, 2048]⟩
abbrev S2176x8192 : Shape := ⟨2, ![2176, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S8192x2048, .f32⟩
  | .hbm, ⟨2, _⟩ => ⟨S2176x8192, .f32⟩
  | .hbm, ⟨3, _⟩ => ⟨S_, .f32⟩
  | .hbm, ⟨4, _⟩ => ⟨S2176x8192, .f32⟩
  | .hbm, ⟨5, _⟩ => ⟨S2176x8192, .f32⟩
  | .hbm, ⟨6, _⟩ => ⟨S_, .f32⟩
  | .hbm, ⟨7, _⟩ => ⟨S2176x8192, .f32⟩
  | .hbm, ⟨8, _⟩ => ⟨S2176x8192, .i1⟩
  | .hbm, ⟨9, _⟩ => ⟨S_, .f32⟩
  | .hbm, ⟨10, _⟩ => ⟨S2176x8192, .f32⟩
  | .hbm, ⟨11, _⟩ => ⟨S2176x8192, .f32⟩
  | .hbm, ⟨12, _⟩ => ⟨S_, .f32⟩
  | .hbm, ⟨13, _⟩ => ⟨S2176x8192, .f32⟩
  | .hbm, ⟨14, _⟩ => ⟨S2176x8192, .f32⟩
  | .hbm, ⟨15, _⟩ => ⟨S2176x2048, .f32⟩
  | .hbm, ⟨16, _⟩ => ⟨S2176x8192, .f32⟩
  | .hbm, ⟨17, _⟩ => ⟨S2176x8192, .f32⟩
  | .hbm, ⟨18, _⟩ => ⟨S_, .f32⟩
  | .hbm, ⟨19, _⟩ => ⟨S2176x8192, .f32⟩
  | .hbm, ⟨20, _⟩ => ⟨S2176x8192, .f32⟩
  | .hbm, ⟨21, _⟩ => ⟨S2176x8192, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== DNTwo.lean ====
abbrev S2176x8192 : Shape := ⟨2, ![2176, 8192]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S2176x2048 : Shape := ⟨2, ![2176, 2048]⟩
abbrev S1x512x2048 : Shape := ⟨3, ![1, 512, 2048]⟩
abbrev S2176x512 : Shape := ⟨2, ![2176, 512]⟩
abbrev S512x2048 : Shape := ⟨2, ![512, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2176x8192, .f32⟩
  | .hbm, ⟨1, _⟩ => ⟨S2048x8192, .f32⟩
  | .hbm, ⟨2, _⟩ => ⟨S2176x8192, .bf16⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S2176x2048, .f32⟩
  | .local _ .vmem, ⟨0, _⟩ => ⟨S2176x2048, .bf16⟩
  | .local _ .vmem, ⟨1, _⟩ => ⟨S2176x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S2176x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DNTwoReferenceIdeal.lean ====
abbrev S2176x8192 : Shape := ⟨2, ![2176, 8192]⟩
abbrev S2048x8192 : Shape := ⟨2, ![2048, 8192]⟩
abbrev S_ : Shape := ⟨0, ![]⟩
abbrev S2176x2048 : Shape := ⟨2, ![2176, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2176x8192, .f32⟩
  | .hbm, ⟨1, _⟩ => ⟨S2048x8192, .f32⟩
  | .hbm, ⟨2, _⟩ => ⟨S_, .f32⟩
  | .hbm, ⟨3, _⟩ => ⟨S2176x2048, .f32⟩
  | .hbm, ⟨4, _⟩ => ⟨S2176x8192, .f32⟩
  | .hbm, ⟨5, _⟩ => ⟨S2176x2048, .f32⟩
  | _, _ => ⟨S2176x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DM.lean ====
abbrev S2176x2048 : Shape := ⟨2, ![2176, 2048]⟩
abbrev S2048x2048 : Shape := ⟨2, ![2048, 2048]⟩
abbrev S512x2048 : Shape := ⟨2, ![512, 2048]⟩
abbrev S2176x512 : Shape := ⟨2, ![2176, 512]⟩

abbrev nBuf : Space → Nat
  | .hbm => 5
  | .vmem => 5
  | .smem => 0
  | _ => 0

abbrev bufTy : (tb : Table) → Fin (tcTables nBuf tb) → BufTy
  | .hbm, ⟨0, _⟩ => ⟨S2176x2048, .f32⟩
  | .hbm, ⟨1, _⟩ => ⟨S2048x2048, .f32⟩
  | .hbm, ⟨2, _⟩ => ⟨S2176x2048, .bf16⟩
  | .hbm, ⟨3, _⟩ => ⟨S2048x2048, .bf16⟩
  | .hbm, ⟨4, _⟩ => ⟨S2176x2048, .f32⟩
  | .local _ .vmem, ⟨0, _⟩ => ⟨S2176x2048, .bf16⟩
  | .local _ .vmem, ⟨1, _⟩ => ⟨S512x2048, .bf16⟩
  | .local _ .vmem, ⟨2, _⟩ => ⟨S512x2048, .bf16⟩
  | .local _ .vmem, ⟨3, _⟩ => ⟨S2176x512, .f32⟩
  | .local _ .vmem, ⟨4, _⟩ => ⟨S2176x512, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMReferenceIdeal.lean ====
abbrev S2176x2048 : Shape := ⟨2, ![2176, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2048x2048, .f32⟩
  | .hbm, ⟨2, _⟩ => ⟨S_, .f32⟩
  | .hbm, ⟨3, _⟩ => ⟨S2176x2048, .f32⟩
  | .hbm, ⟨4, _⟩ => ⟨S2176x2048, .f32⟩
  | .hbm, ⟨5, _⟩ => ⟨S2176x2048, .f32⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GwO.lean ====
abbrev S2176x2048 : Shape := ⟨2, ![2176, 2048]⟩
abbrev S2048x2048 : Shape := ⟨2, ![2048, 2048]⟩
abbrev S2176x512 : Shape := ⟨2, ![2176, 512]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2176x2048, .bf16⟩
  | .hbm, ⟨3, _⟩ => ⟨S2176x2048, .bf16⟩
  | .hbm, ⟨4, _⟩ => ⟨S2048x2048, .f32⟩
  | .hbm, ⟨5, _⟩ => ⟨S2048x2048, .bf16⟩
  | .local _ .vmem, ⟨0, _⟩ => ⟨S2176x2048, .bf16⟩
  | .local _ .vmem, ⟨1, _⟩ => ⟨S2176x512, .bf16⟩
  | .local _ .vmem, ⟨2, _⟩ => ⟨S2176x512, .bf16⟩
  | .local _ .vmem, ⟨3, _⟩ => ⟨S2048x512, .f32⟩
  | .local _ .vmem, ⟨4, _⟩ => ⟨S2048x512, .f32⟩
  | .local _ .vmem, ⟨5, _⟩ => ⟨S2048x512, .bf16⟩
  | .local _ .vmem, ⟨6, _⟩ => ⟨S2048x512, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GwOReferenceIdeal.lean ====
abbrev S2176x2048 : Shape := ⟨2, ![2176, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S_, .f32⟩
  | .hbm, ⟨3, _⟩ => ⟨S2048x2048, .f32⟩
  | .hbm, ⟨4, _⟩ => ⟨S2176x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DAct.lean ====
abbrev S2176x2048 : Shape := ⟨2, ![2176, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S2176x1024 : Shape := ⟨2, ![2176, 1024]⟩
abbrev S2176x512 : Shape := ⟨2, ![2176, 512]⟩
abbrev S1x512x512 : Shape := ⟨3, ![1, 512, 512]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S2176x2048, .f32⟩
  | .hbm, ⟨1, _⟩ => ⟨S1024x2048, .f32⟩
  | .hbm, ⟨2, _⟩ => ⟨S2176x2048, .bf16⟩
  | .hbm, ⟨3, _⟩ => ⟨S1024x2048, .bf16⟩
  | .hbm, ⟨4, _⟩ => ⟨S1024x4x512, .bf16⟩
  | .hbm, ⟨5, _⟩ => ⟨S4x1024x512, .bf16⟩
  | .hbm, ⟨6, _⟩ => ⟨S2176x1024, .f32⟩
  | .local _ .vmem, ⟨0, _⟩ => ⟨S2176x512, .bf16⟩
  | .local _ .vmem, ⟨1, _⟩ => ⟨S2176x512, .bf16⟩
  | .local _ .vmem, ⟨2, _⟩ => ⟨S1x512x512, .bf16⟩
  | .local _ .vmem, ⟨3, _⟩ => ⟨S1x512x512, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActReferenceIdeal.lean ====
abbrev S2176x2048 : Shape := ⟨2, ![2176, 2048]⟩
abbrev S1024x2048 : Shape := ⟨2, ![1024, 2048]⟩
abbrev S_ : Shape := ⟨0, ![]⟩
abbrev S2176x1024 : Shape := ⟨2, ![2176, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S1024x2048, .f32⟩
  | .hbm, ⟨2, _⟩ => ⟨S_, .f32⟩
  | .hbm, ⟨3, _⟩ => ⟨S2176x1024, .f32⟩
  | .hbm, ⟨4, _⟩ => ⟨S2176x2048, .f32⟩
  | .hbm, ⟨5, _⟩ => ⟨S2176x1024, .f32⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GwPw.lean ====
abbrev S2176x1024 : Shape := ⟨2, ![2176, 1024]⟩
abbrev S2176x2048 : Shape := ⟨2, ![2176, 2048]⟩
abbrev S4x1024x512 : Shape := ⟨3, ![4, 1024, 512]⟩
abbrev S2176x512 : Shape := ⟨2, ![2176, 512]⟩
abbrev S1x1024x512 : Shape := ⟨3, ![1, 1024, 512]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S2176x1024, .f32⟩
  | .hbm, ⟨1, _⟩ => ⟨S2176x2048, .f32⟩
  | .hbm, ⟨2, _⟩ => ⟨S2176x1024, .bf16⟩
  | .hbm, ⟨3, _⟩ => ⟨S2176x2048, .bf16⟩
  | .hbm, ⟨4, _⟩ => ⟨S4x1024x512, .f32⟩
  | .hbm, ⟨5, _⟩ => ⟨S4x1024x512, .bf16⟩
  | .local _ .vmem, ⟨0, _⟩ => ⟨S2176x1024, .bf16⟩
  | .local _ .vmem, ⟨1, _⟩ => ⟨S2176x512, .bf16⟩
  | .local _ .vmem, ⟨2, _⟩ => ⟨S2176x512, .bf16⟩
  | .local _ .vmem, ⟨3, _⟩ => ⟨S1x1024x512, .f32⟩
  | .local _ .vmem, ⟨4, _⟩ => ⟨S1x1024x512, .f32⟩
  | .local _ .vmem, ⟨5, _⟩ => ⟨S1x1024x512, .bf16⟩
  | .local _ .vmem, ⟨6, _⟩ => ⟨S1x1024x512, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GwPwReferenceIdeal.lean ====
abbrev S2176x1024 : Shape := ⟨2, ![2176, 1024]⟩
abbrev S2176x2048 : Shape := ⟨2, ![2176, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x2048, .f32⟩
  | .hbm, ⟨2, _⟩ => ⟨S_, .f32⟩
  | .hbm, ⟨3, _⟩ => ⟨S1024x2048, .f32⟩
  | .hbm, ⟨4, _⟩ => ⟨S2176x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S2176x2048 : Shape := ⟨2, ![2176, 2048]⟩
abbrev S2048x9216 : Shape := ⟨2, ![2048, 9216]⟩
abbrev S2048x4x2304 : Shape := ⟨3, ![2048, 4, 2304]⟩
abbrev S4x2048x2304 : Shape := ⟨3, ![4, 2048, 2304]⟩
abbrev S2176x9216 : Shape := ⟨2, ![2176, 9216]⟩
abbrev S1x2048x768 : Shape := ⟨3, ![1, 2048, 768]⟩
abbrev S2176x768 : Shape := ⟨2, ![2176, 768]⟩
abbrev S2048x768 : Shape := ⟨2, ![2048, 768]⟩

abbrev nBuf : Space → Nat
  | .hbm => 7
  | .vmem => 5
  | .smem => 0
  | _ => 0

abbrev bufTy : (tb : Table) → Fin (tcTables nBuf tb) → BufTy
  | .hbm, ⟨0, _⟩ => ⟨S2176x2048, .f32⟩
  | .hbm, ⟨1, _⟩ => ⟨S2048x9216, .f32⟩
  | .hbm, ⟨2, _⟩ => ⟨S2176x2048, .bf16⟩
  | .hbm, ⟨3, _⟩ => ⟨S2048x9216, .bf16⟩
  | .hbm, ⟨4, _⟩ => ⟨S2048x4x2304, .bf16⟩
  | .hbm, ⟨5, _⟩ => ⟨S4x2048x2304, .bf16⟩
  | .hbm, ⟨6, _⟩ => ⟨S2176x9216, .f32⟩
  | .local _ .vmem, ⟨0, _⟩ => ⟨S2176x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2176x768, .f32⟩
  | .local _ .vmem, ⟨4, _⟩ => ⟨S2176x768, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S2176x2048 : Shape := ⟨2, ![2176, 2048]⟩
abbrev S2048x9216 : Shape := ⟨2, ![2048, 9216]⟩
abbrev S2176x9216 : Shape := ⟨2, ![2176, 9216]⟩

abbrev nBuf : Space → Nat
  | .hbm => 3
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2048x9216, .f32⟩
  | .hbm, ⟨2, _⟩ => ⟨S2176x9216, .f32⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== YA.lean ====
abbrev S2176x1024 : Shape := ⟨2, ![2176, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S2176x2048 : Shape := ⟨2, ![2176, 2048]⟩
abbrev S1x1024x512 : Shape := ⟨3, ![1, 1024, 512]⟩
abbrev S2176x512 : Shape := ⟨2, ![2176, 512]⟩
abbrev S1024x512 : Shape := ⟨2, ![1024, 512]⟩

abbrev nBuf : Space → Nat
  | .hbm => 7
  | .vmem => 5
  | .smem => 0
  | _ => 0

abbrev bufTy : (tb : Table) → Fin (tcTables nBuf tb) → BufTy
  | .hbm, ⟨0, _⟩ => ⟨S2176x1024, .f32⟩
  | .hbm, ⟨1, _⟩ => ⟨S1024x2048, .f32⟩
  | .hbm, ⟨2, _⟩ => ⟨S2176x1024, .bf16⟩
  | .hbm, ⟨3, _⟩ => ⟨S1024x2048, .bf16⟩
  | .hbm, ⟨4, _⟩ => ⟨S1024x4x512, .bf16⟩
  | .hbm, ⟨5, _⟩ => ⟨S4x1024x512, .bf16⟩
  | .hbm, ⟨6, _⟩ => ⟨S2176x2048, .f32⟩
  | .local _ .vmem, ⟨0, _⟩ => ⟨S2176x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2176x512, .f32⟩
  | .local _ .vmem, ⟨4, _⟩ => ⟨S2176x512, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== YAReferenceIdeal.lean ====
abbrev S2176x1024 : Shape := ⟨2, ![2176, 1024]⟩
abbrev S1024x2048 : Shape := ⟨2, ![1024, 2048]⟩
abbrev S2176x2048 : Shape := ⟨2, ![2176, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S1024x2048, .f32⟩
  | .hbm, ⟨2, _⟩ => ⟨S2176x2048, .f32⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Mix.lean ====
abbrev S2176x2048 : Shape := ⟨2, ![2176, 2048]⟩
abbrev S2048x2048 : Shape := ⟨2, ![2048, 2048]⟩
abbrev S2048x1024 : Shape := ⟨2, ![2048, 1024]⟩
abbrev S2176x1024 : Shape := ⟨2, ![2176, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2176x2048, .f32⟩
  | .hbm, ⟨1, _⟩ => ⟨S2048x2048, .f32⟩
  | .hbm, ⟨2, _⟩ => ⟨S2176x2048, .bf16⟩
  | .hbm, ⟨3, _⟩ => ⟨S2048x2048, .bf16⟩
  | .hbm, ⟨4, _⟩ => ⟨S2176x2048, .f32⟩
  | .local _ .vmem, ⟨0, _⟩ => ⟨S2176x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2176x1024, .f32⟩
  | .local _ .vmem, ⟨4, _⟩ => ⟨S2176x1024, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixReferenceIdeal.lean ====
abbrev S2176x2048 : Shape := ⟨2, ![2176, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2048x2048, .f32⟩
  | .hbm, ⟨2, _⟩ => ⟨S2176x2048, .f32⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Up.lean ====
abbrev S2176x2048 : Shape := ⟨2, ![2176, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S2176x8192 : Shape := ⟨2, ![2176, 8192]⟩
abbrev S1x2048x512 : Shape := ⟨3, ![1, 2048, 512]⟩
abbrev S2176x512 : Shape := ⟨2, ![2176, 512]⟩
abbrev S2048x512 : Shape := ⟨2, ![2048, 512]⟩

abbrev nBuf : Space → Nat
  | .hbm => 8
  | .vmem => 7
  | .smem => 0
  | _ => 0

abbrev bufTy : (tb : Table) → Fin (tcTables nBuf tb) → BufTy
  | .hbm, ⟨0, _⟩ => ⟨S2176x2048, .f32⟩
  | .hbm, ⟨1, _⟩ => ⟨S2048x8192, .f32⟩
  | .hbm, ⟨2, _⟩ => ⟨S2176x2048, .bf16⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S2176x8192, .f32⟩
  | .hbm, ⟨7, _⟩ => ⟨S2176x8192, .bf16⟩
  | .local _ .vmem, ⟨0, _⟩ => ⟨S2176x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S2176x512, .f32⟩
  | .local _ .vmem, ⟨4, _⟩ => ⟨S2176x512, .f32⟩
  | .local _ .vmem, ⟨5, _⟩ => ⟨S2176x512, .bf16⟩
  | .local _ .vmem, ⟨6, _⟩ => ⟨S2176x512, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2176x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S2176x2048 : Shape := ⟨2, ![2176, 2048]⟩
abbrev S2048x8192 : Shape := ⟨2, ![2048, 8192]⟩
abbrev S2176x8192 : Shape := ⟨2, ![2176, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2048x8192, .f32⟩
  | .hbm, ⟨2, _⟩ => ⟨S2176x8192, .f32⟩
  | .hbm, ⟨3, _⟩ => ⟨S_, .f32⟩
  | .hbm, ⟨4, _⟩ => ⟨S2176x8192, .f32⟩
  | .hbm, ⟨5, _⟩ => ⟨S2176x8192, .f32⟩
  | .hbm, ⟨6, _⟩ => ⟨S2176x8192, .f32⟩
  | .hbm, ⟨7, _⟩ => ⟨S2176x8192, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Down.lean ====
abbrev S2176x8192 : Shape := ⟨2, ![2176, 8192]⟩
abbrev S8192x2048 : Shape := ⟨2, ![8192, 2048]⟩
abbrev S2176x2048 : Shape := ⟨2, ![2176, 2048]⟩
abbrev S2048x512 : Shape := ⟨2, ![2048, 512]⟩
abbrev S2176x512 : Shape := ⟨2, ![2176, 512]⟩

abbrev nBuf : Space → Nat
  | .hbm => 5
  | .vmem => 7
  | .smem => 0
  | _ => 0

abbrev bufTy : (tb : Table) → Fin (tcTables nBuf tb) → BufTy
  | .hbm, ⟨0, _⟩ => ⟨S2176x8192, .f32⟩
  | .hbm, ⟨1, _⟩ => ⟨S8192x2048, .f32⟩
  | .hbm, ⟨2, _⟩ => ⟨S2176x8192, .bf16⟩
  | .hbm, ⟨3, _⟩ => ⟨S8192x2048, .bf16⟩
  | .hbm, ⟨4, _⟩ => ⟨S2176x2048, .f32⟩
  | .local _ .vmem, ⟨0, _⟩ => ⟨S2176x2048, .bf16⟩
  | .local _ .vmem, ⟨1, _⟩ => ⟨S2176x2048, .bf16⟩
  | .local _ .vmem, ⟨2, _⟩ => ⟨S2048x512, .bf16⟩
  | .local _ .vmem, ⟨3, _⟩ => ⟨S2048x512, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S2176x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S2176x8192 : Shape := ⟨2, ![2176, 8192]⟩
abbrev S8192x2048 : Shape := ⟨2, ![8192, 2048]⟩
abbrev S2176x2048 : Shape := ⟨2, ![2176, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2176x8192, .f32⟩
  | .hbm, ⟨1, _⟩ => ⟨S8192x2048, .f32⟩
  | .hbm, ⟨2, _⟩ => ⟨S2176x2048, .f32⟩
  | _, _ => ⟨S2176x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GateBwd.lean ====
abbrev S2176x2048 : Shape := ⟨2, ![2176, 2048]⟩
abbrev S2176x9216 : Shape := ⟨2, ![2176, 9216]⟩
abbrev S1x4096 : Shape := ⟨2, ![1, 4096]⟩
abbrev S2176x4096 : Shape := ⟨2, ![2176, 4096]⟩
abbrev S272x2048 : Shape := ⟨2, ![272, 2048]⟩
abbrev S272x1024 : Shape := ⟨2, ![272, 1024]⟩
abbrev S272x4096 : Shape := ⟨2, ![272, 4096]⟩
abbrev S8x4096 : Shape := ⟨2, ![8, 4096]⟩
abbrev S16x2048 : Shape := ⟨2, ![16, 2048]⟩
abbrev S16x1024 : Shape := ⟨2, ![16, 1024]⟩
abbrev S1x2048 : Shape := ⟨2, ![1, 2048]⟩
abbrev S16x4096 : Shape := ⟨2, ![16, 4096]⟩
abbrev S4096 : Shape := ⟨1, ![4096]⟩

abbrev nBuf : Space → Nat
  | .hbm => 9
  | .vmem => 23
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2176x2048, .f32⟩
  | .hbm, ⟨3, _⟩ => ⟨S2176x9216, .f32⟩
  | .hbm, ⟨4, _⟩ => ⟨S1x4096, .f32⟩
  | .hbm, ⟨5, _⟩ => ⟨S2176x2048, .bf16⟩
  | .hbm, ⟨6, _⟩ => ⟨S2176x2048, .bf16⟩
  | .hbm, ⟨7, _⟩ => ⟨S2176x4096, .bf16⟩
  | .hbm, ⟨8, _⟩ => ⟨S1x4096, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S272x2048, .f32⟩
  | .local _ .vmem, ⟨5, _⟩ => ⟨S272x2048, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S272x1024, .f32⟩
  | .local _ .vmem, ⟨10, _⟩ => ⟨S272x1024, .f32⟩
  | .local _ .vmem, ⟨11, _⟩ => ⟨S272x1024, .f32⟩
  | .local _ .vmem, ⟨12, _⟩ => ⟨S272x1024, .f32⟩
  | .local _ .vmem, ⟨13, _⟩ => ⟨S272x1024, .f32⟩
  | .local _ .vmem, ⟨14, _⟩ => ⟨S1x4096, .f32⟩
  | .local _ .vmem, ⟨15, _⟩ => ⟨S272x2048, .bf16⟩
  | .local _ .vmem, ⟨16, _⟩ => ⟨S272x2048, .bf16⟩
  | .local _ .vmem, ⟨17, _⟩ => ⟨S272x2048, .bf16⟩
  | .local _ .vmem, ⟨18, _⟩ => ⟨S272x2048, .bf16⟩
  | .local _ .vmem, ⟨19, _⟩ => ⟨S272x4096, .bf16⟩
  | .local _ .vmem, ⟨20, _⟩ => ⟨S272x4096, .bf16⟩
  | .local _ .vmem, ⟨21, _⟩ => ⟨S1x4096, .f32⟩
  | .local _ .vmem, ⟨22, _⟩ => ⟨S8x4096, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v972 : BitVec 1 := Scalar.cmpi .eq arg0 c7_i32
  let v973 : BitVec 32 := Scalar.extui v972
  let c0_i32_561 : BitVec 32 := 0#32
  let v974 : BitVec 1 := Scalar.cmpi .ne v973 c0_i32_561
  v974

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S272x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S272x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S272x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GateBwdReferenceIdeal.lean ====
abbrev S2176x2048 : Shape := ⟨2, ![2176, 2048]⟩
abbrev S2176x9216 : Shape := ⟨2, ![2176, 9216]⟩
abbrev S1x4096 : Shape := ⟨2, ![1, 4096]⟩
abbrev S2176x4096 : Shape := ⟨2, ![2176, 4096]⟩
abbrev S_ : Shape := ⟨0, ![]⟩
abbrev S4096 : Shape := ⟨1, ![4096]⟩

abbrev nBuf : Space → Nat
  | .hbm => 43
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2176x2048, .f32⟩
  | .hbm, ⟨3, _⟩ => ⟨S2176x9216, .f32⟩
  | .hbm, ⟨4, _⟩ => ⟨S1x4096, .f32⟩
  | .hbm, ⟨5, _⟩ => ⟨S2176x4096, .f32⟩
  | .hbm, ⟨6, _⟩ => ⟨S2176x4096, .f32⟩
  | .hbm, ⟨7, _⟩ => ⟨S2176x4096, .f32⟩
  | .hbm, ⟨8, _⟩ => ⟨S2176x4096, .f32⟩
  | .hbm, ⟨9, _⟩ => ⟨S2176x4096, .f32⟩
  | .hbm, ⟨10, _⟩ => ⟨S_, .f32⟩
  | .hbm, ⟨11, _⟩ => ⟨S2176x4096, .f32⟩
  | .hbm, ⟨12, _⟩ => ⟨S2176x4096, .f32⟩
  | .hbm, ⟨13, _⟩ => ⟨S_, .f32⟩
  | .hbm, ⟨14, _⟩ => ⟨S2176x4096, .f32⟩
  | .hbm, ⟨15, _⟩ => ⟨S2176x4096, .f32⟩
  | .hbm, ⟨16, _⟩ => ⟨S_, .f32⟩
  | .hbm, ⟨17, _⟩ => ⟨S2176x4096, .f32⟩
  | .hbm, ⟨18, _⟩ => ⟨S2176x4096, .f32⟩
  | .hbm, ⟨19, _⟩ => ⟨S2176x4096, .f32⟩
  | .hbm, ⟨20, _⟩ => ⟨S2176x2048, .f32⟩
  | .hbm, ⟨21, _⟩ => ⟨S2176x2048, .f32⟩
  | .hbm, ⟨22, _⟩ => ⟨S2176x2048, .f32⟩
  | .hbm, ⟨23, _⟩ => ⟨S2176x2048, .f32⟩
  | .hbm, ⟨24, _⟩ => ⟨S2176x2048, .f32⟩
  | .hbm, ⟨25, _⟩ => ⟨S2176x2048, .f32⟩
  | .hbm, ⟨26, _⟩ => ⟨S2176x2048, .f32⟩
  | .hbm, ⟨27, _⟩ => ⟨S2176x2048, .f32⟩
  | .hbm, ⟨28, _⟩ => ⟨S2176x2048, .f32⟩
  | .hbm, ⟨29, _⟩ => ⟨S_, .f32⟩
  | .hbm, ⟨30, _⟩ => ⟨S2176x4096, .f32⟩
  | .hbm, ⟨31, _⟩ => ⟨S2176x2048, .f32⟩
  | .hbm, ⟨32, _⟩ => ⟨S2176x2048, .f32⟩
  | .hbm, ⟨33, _⟩ => ⟨S_, .f32⟩
  | .hbm, ⟨34, _⟩ => ⟨S2176x4096, .f32⟩
  | .hbm, ⟨35, _⟩ => ⟨S2176x4096, .f32⟩
  | .hbm, ⟨36, _⟩ => ⟨S2176x4096, .f32⟩
  | .hbm, ⟨37, _⟩ => ⟨S_, .f32⟩
  | .hbm, ⟨38, _⟩ => ⟨S4096, .f32⟩
  | .hbm, ⟨39, _⟩ => ⟨S1x4096, .f32⟩
  | .hbm, ⟨40, _⟩ => ⟨S2176x2048, .bf16⟩
  | .hbm, ⟨41, _⟩ => ⟨S2176x2048, .bf16⟩
  | .hbm, ⟨42, _⟩ => ⟨S2176x4096, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Gate.lean ====
abbrev S2176x2048 : Shape := ⟨2, ![2176, 2048]⟩
abbrev S2176x9216 : Shape := ⟨2, ![2176, 9216]⟩
abbrev S1x4096 : Shape := ⟨2, ![1, 4096]⟩
abbrev S272x2048 : Shape := ⟨2, ![272, 2048]⟩
abbrev S272x1024 : Shape := ⟨2, ![272, 1024]⟩
abbrev S16x2048 : Shape := ⟨2, ![16, 2048]⟩
abbrev S16x1024 : Shape := ⟨2, ![16, 1024]⟩
abbrev S1x2048 : Shape := ⟨2, ![1, 2048]⟩

abbrev nBuf : Space → Nat
  | .hbm => 5
  | .vmem => 15
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2176x9216, .f32⟩
  | .hbm, ⟨3, _⟩ => ⟨S1x4096, .f32⟩
  | .hbm, ⟨4, _⟩ => ⟨S2176x2048, .bf16⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S272x1024, .f32⟩
  | .local _ .vmem, ⟨10, _⟩ => ⟨S272x1024, .f32⟩
  | .local _ .vmem, ⟨11, _⟩ => ⟨S272x1024, .f32⟩
  | .local _ .vmem, ⟨12, _⟩ => ⟨S1x4096, .f32⟩
  | .local _ .vmem, ⟨13, _⟩ => ⟨S272x2048, .bf16⟩
  | .local _ .vmem, ⟨14, _⟩ => ⟨S272x2048, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S272x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateReferenceIdeal.lean ====
abbrev S2176x2048 : Shape := ⟨2, ![2176, 2048]⟩
abbrev S2176x9216 : Shape := ⟨2, ![2176, 9216]⟩
abbrev S1x4096 : Shape := ⟨2, ![1, 4096]⟩
abbrev S2176x4096 : Shape := ⟨2, ![2176, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2176x9216, .f32⟩
  | .hbm, ⟨3, _⟩ => ⟨S1x4096, .f32⟩
  | .hbm, ⟨4, _⟩ => ⟨S2176x4096, .f32⟩
  | .hbm, ⟨5, _⟩ => ⟨S2176x4096, .f32⟩
  | .hbm, ⟨6, _⟩ => ⟨S2176x4096, .f32⟩
  | .hbm, ⟨7, _⟩ => ⟨S2176x4096, .f32⟩
  | .hbm, ⟨8, _⟩ => ⟨S2176x4096, .f32⟩
  | .hbm, ⟨9, _⟩ => ⟨S_, .f32⟩
  | .hbm, ⟨10, _⟩ => ⟨S2176x4096, .f32⟩
  | .hbm, ⟨11, _⟩ => ⟨S2176x4096, .f32⟩
  | .hbm, ⟨12, _⟩ => ⟨S_, .f32⟩
  | .hbm, ⟨13, _⟩ => ⟨S2176x4096, .f32⟩
  | .hbm, ⟨14, _⟩ => ⟨S2176x4096, .f32⟩
  | .hbm, ⟨15, _⟩ => ⟨S2176x2048, .f32⟩
  | .hbm, ⟨16, _⟩ => ⟨S2176x2048, .f32⟩
  | .hbm, ⟨17, _⟩ => ⟨S2176x2048, .f32⟩
  | .hbm, ⟨18, _⟩ => ⟨S2176x2048, .f32⟩
  | .hbm, ⟨19, _⟩ => ⟨S2176x2048, .f32⟩
  | .hbm, ⟨20, _⟩ => ⟨S2176x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== NormIn.lean ====
abbrev S2176x2048 : Shape := ⟨2, ![2176, 2048]⟩
abbrev S1x2048 : Shape := ⟨2, ![1, 2048]⟩
abbrev S272x2048 : Shape := ⟨2, ![272, 2048]⟩
abbrev S16x2048 : Shape := ⟨2, ![16, 2048]⟩
abbrev S16 : Shape := ⟨1, ![16]⟩
abbrev S16x1 : Shape := ⟨2, ![16, 1]⟩

abbrev nBuf : Space → Nat
  | .hbm => 3
  | .vmem => 5
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2176x2048, .bf16⟩
  | .local _ .vmem, ⟨0, _⟩ => ⟨S272x2048, .f32⟩
  | .local _ .vmem, ⟨1, _⟩ => ⟨S272x2048, .f32⟩
  | .local _ .vmem, ⟨2, _⟩ => ⟨S1x2048, .f32⟩
  | .local _ .vmem, ⟨3, _⟩ => ⟨S272x2048, .bf16⟩
  | .local _ .vmem, ⟨4, _⟩ => ⟨S272x2048, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S272x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormInReferenceIdeal.lean ====
abbrev S2176x2048 : Shape := ⟨2, ![2176, 2048]⟩
abbrev S1x2048 : Shape := ⟨2, ![1, 2048]⟩
abbrev S_ : Shape := ⟨0, ![]⟩
abbrev S2176 : Shape := ⟨1, ![2176]⟩
abbrev S2176x1 : Shape := ⟨2, ![2176, 1]⟩

abbrev nBuf : Space → Nat
  | .hbm => 18
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2176x2048, .f32⟩
  | .hbm, ⟨3, _⟩ => ⟨S_, .f32⟩
  | .hbm, ⟨4, _⟩ => ⟨S2176, .f32⟩
  | .hbm, ⟨5, _⟩ => ⟨S2176x1, .f32⟩
  | .hbm, ⟨6, _⟩ => ⟨S_, .f32⟩
  | .hbm, ⟨7, _⟩ => ⟨S2176x1, .f32⟩
  | .hbm, ⟨8, _⟩ => ⟨S2176x1, .f32⟩
  | .hbm, ⟨9, _⟩ => ⟨S_, .f32⟩
  | .hbm, ⟨10, _⟩ => ⟨S2176x1, .f32⟩
  | .hbm, ⟨11, _⟩ => ⟨S2176x1, .f32⟩
  | .hbm, ⟨12, _⟩ => ⟨S2176x1, .f32⟩
  | .hbm, ⟨13, _⟩ => ⟨S2176x2048, .f32⟩
  | .hbm, ⟨14, _⟩ => ⟨S2176x2048, .f32⟩
  | .hbm, ⟨15, _⟩ => ⟨S2176x2048, .f32⟩
  | .hbm, ⟨16, _⟩ => ⟨S2176x2048, .f32⟩
  | .hbm, ⟨17, _⟩ => ⟨S2176x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== PostMix.lean ====
abbrev S2176x2048 : Shape := ⟨2, ![2176, 2048]⟩
abbrev S1x2048 : Shape := ⟨2, ![1, 2048]⟩
abbrev S272x2048 : Shape := ⟨2, ![272, 2048]⟩
abbrev S16x2048 : Shape := ⟨2, ![16, 2048]⟩
abbrev S16 : Shape := ⟨1, ![16]⟩
abbrev S16x1 : Shape := ⟨2, ![16, 1]⟩

abbrev nBuf : Space → Nat
  | .hbm => 6
  | .vmem => 10
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S1x2048, .f32⟩
  | .hbm, ⟨3, _⟩ => ⟨S1x2048, .f32⟩
  | .hbm, ⟨4, _⟩ => ⟨S2176x2048, .f32⟩
  | .hbm, ⟨5, _⟩ => ⟨S2176x2048, .bf16⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S1x2048, .f32⟩
  | .local _ .vmem, ⟨5, _⟩ => ⟨S1x2048, .f32⟩
  | .local _ .vmem, ⟨6, _⟩ => ⟨S272x2048, .f32⟩
  | .local _ .vmem, ⟨7, _⟩ => ⟨S272x2048, .f32⟩
  | .local _ .vmem, ⟨8, _⟩ => ⟨S272x2048, .bf16⟩
  | .local _ .vmem, ⟨9, _⟩ => ⟨S272x2048, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostMixReferenceIdeal.lean ====
abbrev S2176x2048 : Shape := ⟨2, ![2176, 2048]⟩
abbrev S1x2048 : Shape := ⟨2, ![1, 2048]⟩
abbrev S_ : Shape := ⟨0, ![]⟩
abbrev S2176 : Shape := ⟨1, ![2176]⟩
abbrev S2176x1 : Shape := ⟨2, ![2176, 1]⟩

abbrev nBuf : Space → Nat
  | .hbm => 36
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S1x2048, .f32⟩
  | .hbm, ⟨3, _⟩ => ⟨S1x2048, .f32⟩
  | .hbm, ⟨4, _⟩ => ⟨S2176x2048, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x2048, .f32⟩
  | .hbm, ⟨16, _⟩ => ⟨S2176x2048, .f32⟩
  | .hbm, ⟨17, _⟩ => ⟨S2176x2048, .f32⟩
  | .hbm, ⟨18, _⟩ => ⟨S2176x2048, .f32⟩
  | .hbm, ⟨19, _⟩ => ⟨S2176x2048, .f32⟩
  | .hbm, ⟨20, _⟩ => ⟨S2176x2048, .f32⟩
  | .hbm, ⟨21, _⟩ => ⟨S_, .f32⟩
  | .hbm, ⟨22, _⟩ => ⟨S2176, .f32⟩
  | .hbm, ⟨23, _⟩ => ⟨S2176x1, .f32⟩
  | .hbm, ⟨24, _⟩ => ⟨S_, .f32⟩
  | .hbm, ⟨25, _⟩ => ⟨S2176x1, .f32⟩
  | .hbm, ⟨26, _⟩ => ⟨S2176x1, .f32⟩
  | .hbm, ⟨27, _⟩ => ⟨S_, .f32⟩
  | .hbm, ⟨28, _⟩ => ⟨S2176x1, .f32⟩
  | .hbm, ⟨29, _⟩ => ⟨S2176x1, .f32⟩
  | .hbm, ⟨30, _⟩ => ⟨S2176x1, .f32⟩
  | .hbm, ⟨31, _⟩ => ⟨S2176x2048, .f32⟩
  | .hbm, ⟨32, _⟩ => ⟨S2176x2048, .f32⟩
  | .hbm, ⟨33, _⟩ => ⟨S2176x2048, .f32⟩
  | .hbm, ⟨34, _⟩ => ⟨S2176x2048, .f32⟩
  | .hbm, ⟨35, _⟩ => ⟨S2176x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== BranchAct.lean ====
abbrev S2176x1024 : Shape := ⟨2, ![2176, 1024]⟩
abbrev S2176x9216 : Shape := ⟨2, ![2176, 9216]⟩
abbrev S1x1024 : Shape := ⟨2, ![1, 1024]⟩
abbrev S272x1024 : Shape := ⟨2, ![272, 1024]⟩
abbrev S16x1024 : Shape := ⟨2, ![16, 1024]⟩
abbrev S16 : Shape := ⟨1, ![16]⟩
abbrev S16x1 : Shape := ⟨2, ![16, 1]⟩

abbrev nBuf : Space → Nat
  | .hbm => 7
  | .vmem => 12
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x9216, .f32⟩
  | .hbm, ⟨3, _⟩ => ⟨S1x1024, .f32⟩
  | .hbm, ⟨4, _⟩ => ⟨S1x1024, .f32⟩
  | .hbm, ⟨5, _⟩ => ⟨S2176x1024, .bf16⟩
  | .hbm, ⟨6, _⟩ => ⟨S2176x1024, .bf16⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S1x1024, .f32⟩
  | .local _ .vmem, ⟨7, _⟩ => ⟨S1x1024, .f32⟩
  | .local _ .vmem, ⟨8, _⟩ => ⟨S272x1024, .bf16⟩
  | .local _ .vmem, ⟨9, _⟩ => ⟨S272x1024, .bf16⟩
  | .local _ .vmem, ⟨10, _⟩ => ⟨S272x1024, .bf16⟩
  | .local _ .vmem, ⟨11, _⟩ => ⟨S272x1024, .bf16⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S272x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== BranchActReferenceIdeal.lean ====
abbrev S2176x1024 : Shape := ⟨2, ![2176, 1024]⟩
abbrev S2176x9216 : Shape := ⟨2, ![2176, 9216]⟩
abbrev S1x1024 : Shape := ⟨2, ![1, 1024]⟩
abbrev S_ : Shape := ⟨0, ![]⟩
abbrev S2176 : Shape := ⟨1, ![2176]⟩
abbrev S2176x1 : Shape := ⟨2, ![2176, 1]⟩

abbrev nBuf : Space → Nat
  | .hbm => 45
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x9216, .f32⟩
  | .hbm, ⟨3, _⟩ => ⟨S1x1024, .f32⟩
  | .hbm, ⟨4, _⟩ => ⟨S1x1024, .f32⟩
  | .hbm, ⟨5, _⟩ => ⟨S2176x1024, .f32⟩
  | .hbm, ⟨6, _⟩ => ⟨S_, .f32⟩
  | .hbm, ⟨7, _⟩ => ⟨S2176, .f32⟩
  | .hbm, ⟨8, _⟩ => ⟨S2176x1, .f32⟩
  | .hbm, ⟨9, _⟩ => ⟨S_, .f32⟩
  | .hbm, ⟨10, _⟩ => ⟨S2176x1, .f32⟩
  | .hbm, ⟨11, _⟩ => ⟨S2176x1, .f32⟩
  | .hbm, ⟨12, _⟩ => ⟨S2176x1024, .f32⟩
  | .hbm, ⟨13, _⟩ => ⟨S2176x1024, .f32⟩
  | .hbm, ⟨14, _⟩ => ⟨S2176x1024, .f32⟩
  | .hbm, ⟨15, _⟩ => ⟨S_, .f32⟩
  | .hbm, ⟨16, _⟩ => ⟨S2176, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S2176x1024, .f32⟩
  | .hbm, ⟨22, _⟩ => ⟨S2176x1024, .f32⟩
  | .hbm, ⟨23, _⟩ => ⟨S_, .f32⟩
  | .hbm, ⟨24, _⟩ => ⟨S2176x1, .f32⟩
  | .hbm, ⟨25, _⟩ => ⟨S2176x1, .f32⟩
  | .hbm, ⟨26, _⟩ => ⟨S2176x1, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S2176x1024, .f32⟩
  | .hbm, ⟨31, _⟩ => ⟨S2176x1024, .f32⟩
  | .hbm, ⟨32, _⟩ => ⟨S2176x1024, .f32⟩
  | .hbm, ⟨33, _⟩ => ⟨S2176x1024, .f32⟩
  | .hbm, ⟨34, _⟩ => ⟨S2176x1024, .f32⟩
  | .hbm, ⟨35, _⟩ => ⟨S_, .f32⟩
  | .hbm, ⟨36, _⟩ => ⟨S2176x1024, .f32⟩
  | .hbm, ⟨37, _⟩ => ⟨S2176x1024, .f32⟩
  | .hbm, ⟨38, _⟩ => ⟨S_, .f32⟩
  | .hbm, ⟨39, _⟩ => ⟨S2176x1024, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S2176x1024, .bf16⟩
  | .hbm, ⟨44, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== BranchBwd.lean ====
abbrev S2176x1024 : Shape := ⟨2, ![2176, 1024]⟩
abbrev S2176x9216 : Shape := ⟨2, ![2176, 9216]⟩
abbrev S1x1024 : Shape := ⟨2, ![1, 1024]⟩
abbrev S272x1024 : Shape := ⟨2, ![272, 1024]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1024 : Shape := ⟨1, ![1024]⟩

abbrev nBuf : Space → Nat
  | .hbm => 13
  | .vmem => 24
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S2176x1024, .f32⟩
  | .hbm, ⟨4, _⟩ => ⟨S2176x9216, .f32⟩
  | .hbm, ⟨5, _⟩ => ⟨S1x1024, .f32⟩
  | .hbm, ⟨6, _⟩ => ⟨S1x1024, .f32⟩
  | .hbm, ⟨7, _⟩ => ⟨S2176x1024, .f32⟩
  | .hbm, ⟨8, _⟩ => ⟨S2176x1024, .f32⟩
  | .hbm, ⟨9, _⟩ => ⟨S2176x1024, .bf16⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S272x1024, .f32⟩
  | .local _ .vmem, ⟨1, _⟩ => ⟨S272x1024, .f32⟩
  | .local _ .vmem, ⟨2, _⟩ => ⟨S272x1024, .f32⟩
  | .local _ .vmem, ⟨3, _⟩ => ⟨S272x1024, .f32⟩
  | .local _ .vmem, ⟨4, _⟩ => ⟨S272x1024, .f32⟩
  | .local _ .vmem, ⟨5, _⟩ => ⟨S272x1024, .f32⟩
  | .local _ .vmem, ⟨6, _⟩ => ⟨S272x1024, .f32⟩
  | .local _ .vmem, ⟨7, _⟩ => ⟨S272x1024, .f32⟩
  | .local _ .vmem, ⟨8, _⟩ => ⟨S272x1024, .f32⟩
  | .local _ .vmem, ⟨9, _⟩ => ⟨S272x1024, .f32⟩
  | .local _ .vmem, ⟨10, _⟩ => ⟨S1x1024, .f32⟩
  | .local _ .vmem, ⟨11, _⟩ => ⟨S1x1024, .f32⟩
  | .local _ .vmem, ⟨12, _⟩ => ⟨S272x1024, .f32⟩
  | .local _ .vmem, ⟨13, _⟩ => ⟨S272x1024, .f32⟩
  | .local _ .vmem, ⟨14, _⟩ => ⟨S272x1024, .f32⟩
  | .local _ .vmem, ⟨15, _⟩ => ⟨S272x1024, .f32⟩
  | .local _ .vmem, ⟨16, _⟩ => ⟨S272x1024, .bf16⟩
  | .local _ .vmem, ⟨17, _⟩ => ⟨S272x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S8x1024, .f32⟩
  | .local _ .vmem, ⟨22, _⟩ => ⟨S8x1024, .f32⟩
  | .local _ .vmem, ⟨23, _⟩ => ⟨S8x1024, .f32⟩
  | _, _ => ⟨S2176x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v1533 : BitVec 1 := Scalar.cmpi .eq arg0 c7_i32
  let v1534 : BitVec 32 := Scalar.extui v1533
  let c0_i32_765 : BitVec 32 := 0#32
  let v1535 : BitVec 1 := Scalar.cmpi .ne v1534 c0_i32_765
  v1535

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S272x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S272x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S272x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== BranchBwdReferenceIdeal.lean ====
abbrev S2176x1024 : Shape := ⟨2, ![2176, 1024]⟩
abbrev S2176x9216 : Shape := ⟨2, ![2176, 9216]⟩
abbrev S1x1024 : Shape := ⟨2, ![1, 1024]⟩
abbrev S_ : Shape := ⟨0, ![]⟩
abbrev S2176 : Shape := ⟨1, ![2176]⟩
abbrev S2176x1 : Shape := ⟨2, ![2176, 1]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S2176x1024, .f32⟩
  | .hbm, ⟨1, _⟩ => ⟨S2176x1024, .f32⟩
  | .hbm, ⟨2, _⟩ => ⟨S2176x1024, .f32⟩
  | .hbm, ⟨3, _⟩ => ⟨S2176x1024, .f32⟩
  | .hbm, ⟨4, _⟩ => ⟨S2176x9216, .f32⟩
  | .hbm, ⟨5, _⟩ => ⟨S1x1024, .f32⟩
  | .hbm, ⟨6, _⟩ => ⟨S1x1024, .f32⟩
  | .hbm, ⟨7, _⟩ => ⟨S2176x1024, .f32⟩
  | .hbm, ⟨8, _⟩ => ⟨S_, .f32⟩
  | .hbm, ⟨9, _⟩ => ⟨S2176, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1024, .f32⟩
  | .hbm, ⟨15, _⟩ => ⟨S2176x1024, .f32⟩
  | .hbm, ⟨16, _⟩ => ⟨S2176x1024, .f32⟩
  | .hbm, ⟨17, _⟩ => ⟨S_, .f32⟩
  | .hbm, ⟨18, _⟩ => ⟨S2176x1024, .f32⟩
  | .hbm, ⟨19, _⟩ => ⟨S2176x1024, .f32⟩
  | .hbm, ⟨20, _⟩ => ⟨S_, .f32⟩
  | .hbm, ⟨21, _⟩ => ⟨S2176, .f32⟩
  | .hbm, ⟨22, _⟩ => ⟨S2176x1, .f32⟩
  | .hbm, ⟨23, _⟩ => ⟨S_, .f32⟩
  | .hbm, ⟨24, _⟩ => ⟨S2176x1, .f32⟩
  | .hbm, ⟨25, _⟩ => ⟨S2176x1, .f32⟩
  | .hbm, ⟨26, _⟩ => ⟨S2176x1024, .f32⟩
  | .hbm, ⟨27, _⟩ => ⟨S2176x1024, .f32⟩
  | .hbm, ⟨28, _⟩ => ⟨S_, .f32⟩
  | .hbm, ⟨29, _⟩ => ⟨S2176x1, .f32⟩
  | .hbm, ⟨30, _⟩ => ⟨S2176x1, .f32⟩
  | .hbm, ⟨31, _⟩ => ⟨S2176x1, .f32⟩
  | .hbm, ⟨32, _⟩ => ⟨S2176x1, .f32⟩
  | .hbm, ⟨33, _⟩ => ⟨S_, .f32⟩
  | .hbm, ⟨34, _⟩ => ⟨S2176x1, .f32⟩
  | .hbm, ⟨35, _⟩ => ⟨S2176x1, .f32⟩
  | .hbm, ⟨36, _⟩ => ⟨S2176x1024, .f32⟩
  | .hbm, ⟨37, _⟩ => ⟨S2176x1024, .f32⟩
  | .hbm, ⟨38, _⟩ => ⟨S2176x1024, .f32⟩
  | .hbm, ⟨39, _⟩ => ⟨S2176x1024, .f32⟩
  | .hbm, ⟨40, _⟩ => ⟨S2176x1024, .f32⟩
  | .hbm, ⟨41, _⟩ => ⟨S2176x1024, .f32⟩
  | .hbm, ⟨42, _⟩ => ⟨S2176x1024, .f32⟩
  | .hbm, ⟨43, _⟩ => ⟨S2176x1024, .f32⟩
  | .hbm, ⟨44, _⟩ => ⟨S_, .f32⟩
  | .hbm, ⟨45, _⟩ => ⟨S2176x1024, .f32⟩
  | .hbm, ⟨46, _⟩ => ⟨S2176x1024, .f32⟩
  | .hbm, ⟨47, _⟩ => ⟨S_, .f32⟩
  | .hbm, ⟨48, _⟩ => ⟨S2176x1024, .f32⟩
  | .hbm, ⟨49, _⟩ => ⟨S2176x1024, .f32⟩
  | .hbm, ⟨50, _⟩ => ⟨S_, .f32⟩
  | .hbm, ⟨51, _⟩ => ⟨S2176x1024, .f32⟩
  | .hbm, ⟨52, _⟩ => ⟨S2176x1024, .f32⟩
  | .hbm, ⟨53, _⟩ => ⟨S2176x1024, .f32⟩
  | .hbm, ⟨54, _⟩ => ⟨S2176x1024, .f32⟩
  | .hbm, ⟨55, _⟩ => ⟨S2176x1024, .f32⟩
  | .hbm, ⟨56, _⟩ => ⟨S2176x1024, .f32⟩
  | .hbm, ⟨57, _⟩ => ⟨S2176x1024, .f32⟩
  | .hbm, ⟨58, _⟩ => ⟨S2176x1024, .f32⟩
  | .hbm, ⟨59, _⟩ => ⟨S2176x1024, .f32⟩
  | .hbm, ⟨60, _⟩ => ⟨S2176x1024, .f32⟩
  | .hbm, ⟨61, _⟩ => ⟨S2176x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S2176x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S2176x1024, .f32⟩
  | .hbm, ⟨70, _⟩ => ⟨S2176x1024, .f32⟩
  | .hbm, ⟨71, _⟩ => ⟨S2176x1024, .f32⟩
  | .hbm, ⟨72, _⟩ => ⟨S_, .f32⟩
  | .hbm, ⟨73, _⟩ => ⟨S2176, .f32⟩
  | .hbm, ⟨74, _⟩ => ⟨S2176x1, .f32⟩
  | .hbm, ⟨75, _⟩ => ⟨S2176x1024, .f32⟩
  | .hbm, ⟨76, _⟩ => ⟨S2176x1024, .f32⟩
  | .hbm, ⟨77, _⟩ => ⟨S2176x1, .f32⟩
  | .hbm, ⟨78, _⟩ => ⟨S2176x1024, .f32⟩
  | .hbm, ⟨79, _⟩ => ⟨S_, .f32⟩
  | .hbm, ⟨80, _⟩ => ⟨S2176, .f32⟩
  | .hbm, ⟨81, _⟩ => ⟨S2176x1, .f32⟩
  | .hbm, ⟨82, _⟩ => ⟨S_, .f32⟩
  | .hbm, ⟨83, _⟩ => ⟨S2176x1, .f32⟩
  | .hbm, ⟨84, _⟩ => ⟨S2176x1, .f32⟩
  | .hbm, ⟨85, _⟩ => ⟨S_, .f32⟩
  | .hbm, ⟨86, _⟩ => ⟨S2176, .f32⟩
  | .hbm, ⟨87, _⟩ => ⟨S2176x1024, .f32⟩
  | .hbm, ⟨88, _⟩ => ⟨S2176x1024, .f32⟩
  | .hbm, ⟨89, _⟩ => ⟨S2176x1024, .f32⟩
  | .hbm, ⟨90, _⟩ => ⟨S_, .f32⟩
  | .hbm, ⟨91, _⟩ => ⟨S2176, .f32⟩
  | .hbm, ⟨92, _⟩ => ⟨S2176x1, .f32⟩
  | .hbm, ⟨93, _⟩ => ⟨S2176x1024, .f32⟩
  | .hbm, ⟨94, _⟩ => ⟨S2176x1, .f32⟩
  | .hbm, ⟨95, _⟩ => ⟨S_, .f32⟩
  | .hbm, ⟨96, _⟩ => ⟨S2176x1, .f32⟩
  | .hbm, ⟨97, _⟩ => ⟨S2176x1, .f32⟩
  | .hbm, ⟨98, _⟩ => ⟨S_, .f32⟩
  | .hbm, ⟨99, _⟩ => ⟨S2176, .f32⟩
  | .hbm, ⟨100, _⟩ => ⟨S2176x1024, .f32⟩
  | .hbm, ⟨101, _⟩ => ⟨S2176x1024, .f32⟩
  | .hbm, ⟨102, _⟩ => ⟨S_, .f32⟩
  | .hbm, ⟨103, _⟩ => ⟨S1024, .f32⟩
  | .hbm, ⟨104, _⟩ => ⟨S1x1024, .f32⟩
  | .hbm, ⟨105, _⟩ => ⟨S2176x1024, .bf16⟩
  | _, _ => ⟨S2176x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v28_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v28_1 : Ref sig .tc := ⟨.hbm, 53, rfl⟩
abbrev main_v28_0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v32 : Ref sig .tc := ⟨.hbm, 61, rfl⟩
abbrev main_cst_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_9 : Ref sig .tc := ⟨.hbm, 79, rfl⟩
abbrev main_v47 : Ref sig .tc := ⟨.hbm, 80, rfl⟩
abbrev main_v48 : Ref sig .tc := ⟨.hbm, 81, rfl⟩
abbrev main_cst_10 : Ref sig .tc := ⟨.hbm, 82, rfl⟩
abbrev main_v49 : Ref sig .tc := ⟨.hbm, 83, rfl⟩
abbrev main_v50 : Ref sig .tc := ⟨.hbm, 84, rfl⟩
abbrev main_cst_11 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_12 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_13 : Ref sig .tc := ⟨.hbm, 95, rfl⟩
abbrev main_v59 : Ref sig .tc := ⟨.hbm, 96, rfl⟩
abbrev main_v60 : Ref sig .tc := ⟨.hbm, 97, rfl⟩
abbrev main_cst_14 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_15 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩

abbrev nD : Nat := 1
abbrev τ : Topo := Topo.v7x

variable {F : FTy → Type} [FloatOps F]
-- ==== BwdMid.lean ====
abbrev S2176x2048 : Shape := ⟨2, ![2176, 2048]⟩
abbrev S1x2048 : Shape := ⟨2, ![1, 2048]⟩
abbrev S272x2048 : Shape := ⟨2, ![272, 2048]⟩
abbrev S8x2048 : Shape := ⟨2, ![8, 2048]⟩
abbrev S16x2048 : Shape := ⟨2, ![16, 2048]⟩
abbrev S16 : Shape := ⟨1, ![16]⟩
abbrev S16x1 : Shape := ⟨2, ![16, 1]⟩
abbrev S2048 : Shape := ⟨1, ![2048]⟩

abbrev nBuf : Space → Nat
  | .hbm => 10
  | .vmem => 18
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2176x2048, .f32⟩
  | .hbm, ⟨3, _⟩ => ⟨S2176x2048, .f32⟩
  | .hbm, ⟨4, _⟩ => ⟨S1x2048, .f32⟩
  | .hbm, ⟨5, _⟩ => ⟨S1x2048, .f32⟩
  | .hbm, ⟨6, _⟩ => ⟨S2176x2048, .f32⟩
  | .hbm, ⟨7, _⟩ => ⟨S2176x2048, .bf16⟩
  | .hbm, ⟨8, _⟩ => ⟨S1x2048, .f32⟩
  | .hbm, ⟨9, _⟩ => ⟨S1x2048, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S272x2048, .f32⟩
  | .local _ .vmem, ⟨5, _⟩ => ⟨S272x2048, .f32⟩
  | .local _ .vmem, ⟨6, _⟩ => ⟨S272x2048, .f32⟩
  | .local _ .vmem, ⟨7, _⟩ => ⟨S272x2048, .f32⟩
  | .local _ .vmem, ⟨8, _⟩ => ⟨S1x2048, .f32⟩
  | .local _ .vmem, ⟨9, _⟩ => ⟨S1x2048, .f32⟩
  | .local _ .vmem, ⟨10, _⟩ => ⟨S272x2048, .f32⟩
  | .local _ .vmem, ⟨11, _⟩ => ⟨S272x2048, .f32⟩
  | .local _ .vmem, ⟨12, _⟩ => ⟨S272x2048, .bf16⟩
  | .local _ .vmem, ⟨13, _⟩ => ⟨S272x2048, .bf16⟩
  | .local _ .vmem, ⟨14, _⟩ => ⟨S1x2048, .f32⟩
  | .local _ .vmem, ⟨15, _⟩ => ⟨S1x2048, .f32⟩
  | .local _ .vmem, ⟨16, _⟩ => ⟨S8x2048, .f32⟩
  | .local _ .vmem, ⟨17, _⟩ => ⟨S8x2048, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v1227 : BitVec 1 := Scalar.cmpi .eq arg0 c7_i32
  let v1228 : BitVec 32 := Scalar.extui v1227
  let c0_i32_561 : BitVec 32 := 0#32
  let v1229 : BitVec 1 := Scalar.cmpi .ne v1228 c0_i32_561
  v1229

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S272x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S272x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BwdMidReferenceIdeal.lean ====
abbrev S2176x2048 : Shape := ⟨2, ![2176, 2048]⟩
abbrev S1x2048 : Shape := ⟨2, ![1, 2048]⟩
abbrev S_ : Shape := ⟨0, ![]⟩
abbrev S2176 : Shape := ⟨1, ![2176]⟩
abbrev S2176x1 : Shape := ⟨2, ![2176, 1]⟩
abbrev S2048 : Shape := ⟨1, ![2048]⟩

abbrev nBuf : Space → Nat
  | .hbm => 92
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2176x2048, .f32⟩
  | .hbm, ⟨3, _⟩ => ⟨S2176x2048, .f32⟩
  | .hbm, ⟨4, _⟩ => ⟨S1x2048, .f32⟩
  | .hbm, ⟨5, _⟩ => ⟨S1x2048, .f32⟩
  | .hbm, ⟨6, _⟩ => ⟨S2176x2048, .f32⟩
  | .hbm, ⟨7, _⟩ => ⟨S_, .f32⟩
  | .hbm, ⟨8, _⟩ => ⟨S2176, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S_, .f32⟩
  | .hbm, ⟨14, _⟩ => ⟨S2176x1, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S2176x2048, .f32⟩
  | .hbm, ⟨22, _⟩ => ⟨S2176x2048, .f32⟩
  | .hbm, ⟨23, _⟩ => ⟨S2176x2048, .f32⟩
  | .hbm, ⟨24, _⟩ => ⟨S2176x2048, .f32⟩
  | .hbm, ⟨25, _⟩ => ⟨S2176x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2176x2048, .f32⟩
  | .hbm, ⟨30, _⟩ => ⟨S2176x2048, .f32⟩
  | .hbm, ⟨31, _⟩ => ⟨S2176x2048, .f32⟩
  | .hbm, ⟨32, _⟩ => ⟨S_, .f32⟩
  | .hbm, ⟨33, _⟩ => ⟨S2176, .f32⟩
  | .hbm, ⟨34, _⟩ => ⟨S2176x1, .f32⟩
  | .hbm, ⟨35, _⟩ => ⟨S2176x2048, .f32⟩
  | .hbm, ⟨36, _⟩ => ⟨S2176x2048, .f32⟩
  | .hbm, ⟨37, _⟩ => ⟨S2176x2048, .f32⟩
  | .hbm, ⟨38, _⟩ => ⟨S2176x1, .f32⟩
  | .hbm, ⟨39, _⟩ => ⟨S_, .f32⟩
  | .hbm, ⟨40, _⟩ => ⟨S2176x1, .f32⟩
  | .hbm, ⟨41, _⟩ => ⟨S2176x1, .f32⟩
  | .hbm, ⟨42, _⟩ => ⟨S_, .f32⟩
  | .hbm, ⟨43, _⟩ => ⟨S2176, .f32⟩
  | .hbm, ⟨44, _⟩ => ⟨S2176x2048, .f32⟩
  | .hbm, ⟨45, _⟩ => ⟨S2176x2048, .f32⟩
  | .hbm, ⟨46, _⟩ => ⟨S2176x2048, .f32⟩
  | .hbm, ⟨47, _⟩ => ⟨S2176x2048, .f32⟩
  | .hbm, ⟨48, _⟩ => ⟨S2176x2048, .f32⟩
  | .hbm, ⟨49, _⟩ => ⟨S2176x2048, .f32⟩
  | .hbm, ⟨50, _⟩ => ⟨S_, .f32⟩
  | .hbm, ⟨51, _⟩ => ⟨S2176, .f32⟩
  | .hbm, ⟨52, _⟩ => ⟨S2176x1, .f32⟩
  | .hbm, ⟨53, _⟩ => ⟨S_, .f32⟩
  | .hbm, ⟨54, _⟩ => ⟨S2176x1, .f32⟩
  | .hbm, ⟨55, _⟩ => ⟨S2176x1, .f32⟩
  | .hbm, ⟨56, _⟩ => ⟨S_, .f32⟩
  | .hbm, ⟨57, _⟩ => ⟨S2176x1, .f32⟩
  | .hbm, ⟨58, _⟩ => ⟨S2176x1, .f32⟩
  | .hbm, ⟨59, _⟩ => ⟨S2176x1, .f32⟩
  | .hbm, ⟨60, _⟩ => ⟨S2176x1, .f32⟩
  | .hbm, ⟨61, _⟩ => ⟨S_, .f32⟩
  | .hbm, ⟨62, _⟩ => ⟨S2176x1, .f32⟩
  | .hbm, ⟨63, _⟩ => ⟨S2176x1, .f32⟩
  | .hbm, ⟨64, _⟩ => ⟨S2176x2048, .f32⟩
  | .hbm, ⟨65, _⟩ => ⟨S2176x2048, .f32⟩
  | .hbm, ⟨66, _⟩ => ⟨S2176x2048, .f32⟩
  | .hbm, ⟨67, _⟩ => ⟨S2176x2048, .f32⟩
  | .hbm, ⟨68, _⟩ => ⟨S2176x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S2176x2048, .f32⟩
  | .hbm, ⟨73, _⟩ => ⟨S2176x2048, .f32⟩
  | .hbm, ⟨74, _⟩ => ⟨S2176x2048, .f32⟩
  | .hbm, ⟨75, _⟩ => ⟨S_, .f32⟩
  | .hbm, ⟨76, _⟩ => ⟨S2176, .f32⟩
  | .hbm, ⟨77, _⟩ => ⟨S2176x1, .f32⟩
  | .hbm, ⟨78, _⟩ => ⟨S2176x2048, .f32⟩
  | .hbm, ⟨79, _⟩ => ⟨S2176x2048, .f32⟩
  | .hbm, ⟨80, _⟩ => ⟨S2176x1, .f32⟩
  | .hbm, ⟨81, _⟩ => ⟨S_, .f32⟩
  | .hbm, ⟨82, _⟩ => ⟨S2176x1, .f32⟩
  | .hbm, ⟨83, _⟩ => ⟨S2176x1, .f32⟩
  | .hbm, ⟨84, _⟩ => ⟨S_, .f32⟩
  | .hbm, ⟨85, _⟩ => ⟨S2176, .f32⟩
  | .hbm, ⟨86, _⟩ => ⟨S2176x2048, .f32⟩
  | .hbm, ⟨87, _⟩ => ⟨S2176x2048, .f32⟩
  | .hbm, ⟨88, _⟩ => ⟨S2176x2048, .f32⟩
  | .hbm, ⟨89, _⟩ => ⟨S2176x2048, .f32⟩
  | .hbm, ⟨90, _⟩ => ⟨S2176x2048, .f32⟩
  | .hbm, ⟨91, _⟩ => ⟨S2176x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== BwdIn.lean ====
abbrev S2176x2048 : Shape := ⟨2, ![2176, 2048]⟩
abbrev S1x2048 : Shape := ⟨2, ![1, 2048]⟩
abbrev S272x2048 : Shape := ⟨2, ![272, 2048]⟩
abbrev S8x2048 : Shape := ⟨2, ![8, 2048]⟩
abbrev S16x2048 : Shape := ⟨2, ![16, 2048]⟩
abbrev S16 : Shape := ⟨1, ![16]⟩
abbrev S16x1 : Shape := ⟨2, ![16, 1]⟩
abbrev S2048 : Shape := ⟨1, ![2048]⟩

abbrev nBuf : Space → Nat
  | .hbm => 6
  | .vmem => 11
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2176x2048, .f32⟩
  | .hbm, ⟨3, _⟩ => ⟨S1x2048, .f32⟩
  | .hbm, ⟨4, _⟩ => ⟨S2176x2048, .f32⟩
  | .hbm, ⟨5, _⟩ => ⟨S1x2048, .f32⟩
  | .local _ .vmem, ⟨0, _⟩ => ⟨S272x2048, .f32⟩
  | .local _ .vmem, ⟨1, _⟩ => ⟨S272x2048, .f32⟩
  | .local _ .vmem, ⟨2, _⟩ => ⟨S272x2048, .f32⟩
  | .local _ .vmem, ⟨3, _⟩ => ⟨S272x2048, .f32⟩
  | .local _ .vmem, ⟨4, _⟩ => ⟨S272x2048, .f32⟩
  | .local _ .vmem, ⟨5, _⟩ => ⟨S272x2048, .f32⟩
  | .local _ .vmem, ⟨6, _⟩ => ⟨S1x2048, .f32⟩
  | .local _ .vmem, ⟨7, _⟩ => ⟨S272x2048, .f32⟩
  | .local _ .vmem, ⟨8, _⟩ => ⟨S272x2048, .f32⟩
  | .local _ .vmem, ⟨9, _⟩ => ⟨S1x2048, .f32⟩
  | .local _ .vmem, ⟨10, _⟩ => ⟨S8x2048, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v632 : BitVec 1 := Scalar.cmpi .eq arg0 c7_i32
  let v633 : BitVec 32 := Scalar.extui v632
  let c0_i32_306 : BitVec 32 := 0#32
  let v634 : BitVec 1 := Scalar.cmpi .ne v633 c0_i32_306
  v634

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S272x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S272x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== BwdInReferenceIdeal.lean ====
abbrev S2176x2048 : Shape := ⟨2, ![2176, 2048]⟩
abbrev S1x2048 : Shape := ⟨2, ![1, 2048]⟩
abbrev S_ : Shape := ⟨0, ![]⟩
abbrev S2176 : Shape := ⟨1, ![2176]⟩
abbrev S2176x1 : Shape := ⟨2, ![2176, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2048, .f32⟩
  | .hbm, ⟨2, _⟩ => ⟨S2176x2048, .f32⟩
  | .hbm, ⟨3, _⟩ => ⟨S1x2048, .f32⟩
  | .hbm, ⟨4, _⟩ => ⟨S2176x2048, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x2048, .f32⟩
  | .hbm, ⟨20, _⟩ => ⟨S2176x2048, .f32⟩
  | .hbm, ⟨21, _⟩ => ⟨S2176x2048, .f32⟩
  | .hbm, ⟨22, _⟩ => ⟨S2176x2048, .f32⟩
  | .hbm, ⟨23, _⟩ => ⟨S2176x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2176x2048, .f32⟩
  | .hbm, ⟨28, _⟩ => ⟨S2176x2048, .f32⟩
  | .hbm, ⟨29, _⟩ => ⟨S2176x2048, .f32⟩
  | .hbm, ⟨30, _⟩ => ⟨S_, .f32⟩
  | .hbm, ⟨31, _⟩ => ⟨S2176, .f32⟩
  | .hbm, ⟨32, _⟩ => ⟨S2176x1, .f32⟩
  | .hbm, ⟨33, _⟩ => ⟨S2176x2048, .f32⟩
  | .hbm, ⟨34, _⟩ => ⟨S2176x2048, .f32⟩
  | .hbm, ⟨35, _⟩ => ⟨S2176x2048, .f32⟩
  | .hbm, ⟨36, _⟩ => ⟨S2176x1, .f32⟩
  | .hbm, ⟨37, _⟩ => ⟨S_, .f32⟩
  | .hbm, ⟨38, _⟩ => ⟨S2176x1, .f32⟩
  | .hbm, ⟨39, _⟩ => ⟨S2176x1, .f32⟩
  | .hbm, ⟨40, _⟩ => ⟨S_, .f32⟩
  | .hbm, ⟨41, _⟩ => ⟨S2176, .f32⟩
  | .hbm, ⟨42, _⟩ => ⟨S2176x2048, .f32⟩
  | .hbm, ⟨43, _⟩ => ⟨S2176x2048, .f32⟩
  | .hbm, ⟨44, _⟩ => ⟨S2176x2048, .f32⟩
  | .hbm, ⟨45, _⟩ => ⟨S2176x2048, .f32⟩
  | .hbm, ⟨46, _⟩ => ⟨S2176x2048, .f32⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== ConvFwd.lean ====
abbrev S2176x9216 : Shape := ⟨2, ![2176, 9216]⟩
abbrev S31x1024 : Shape := ⟨2, ![31, 1024]⟩
abbrev S1x1024 : Shape := ⟨2, ![1, 1024]⟩
abbrev S3x1024 : Shape := ⟨2, ![3, 1024]⟩
abbrev S2176x1024 : Shape := ⟨2, ![2176, 1024]⟩
abbrev S2176x128 : Shape := ⟨2, ![2176, 128]⟩
abbrev S31x128 : Shape := ⟨2, ![31, 128]⟩
abbrev S1x128 : Shape := ⟨2, ![1, 128]⟩
abbrev S3x128 : Shape := ⟨2, ![3, 128]⟩
abbrev S2208x128 : Shape := ⟨2, ![2208, 128]⟩
abbrev S32x128 : Shape := ⟨2, ![32, 128]⟩
abbrev S64x128 : Shape := ⟨2, ![64, 128]⟩

abbrev nBuf : Space → Nat
  | .hbm => 6
  | .vmem => 20
  | .smem => 0
  | _ => 0

abbrev bufTy : (tb : Table) → Fin (tcTables nBuf tb) → BufTy
  | .hbm, ⟨0, _⟩ => ⟨S2176x9216, .f32⟩
  | .hbm, ⟨1, _⟩ => ⟨S31x1024, .f32⟩
  | .hbm, ⟨2, _⟩ => ⟨S1x1024, .f32⟩
  | .hbm, ⟨3, _⟩ => ⟨S3x1024, .f32⟩
  | .hbm, ⟨4, _⟩ => ⟨S2176x1024, .f32⟩
  | .hbm, ⟨5, _⟩ => ⟨S2176x1024, .f32⟩
  | .local _ .vmem, ⟨0, _⟩ => ⟨S2176x128, .f32⟩
  | .local _ .vmem, ⟨1, _⟩ => ⟨S2176x128, .f32⟩
  | .local _ .vmem, ⟨2, _⟩ => ⟨S2176x128, .f32⟩
  | .local _ .vmem, ⟨3, _⟩ => ⟨S2176x128, .f32⟩
  | .local _ .vmem, ⟨4, _⟩ => ⟨S2176x128, .f32⟩
  | .local _ .vmem, ⟨5, _⟩ => ⟨S2176x128, .f32⟩
  | .local _ .vmem, ⟨6, _⟩ => ⟨S2176x128, .f32⟩
  | .local _ .vmem, ⟨7, _⟩ => ⟨S2176x128, .f32⟩
  | .local _ .vmem, ⟨8, _⟩ => ⟨S31x128, .f32⟩
  | .local _ .vmem, ⟨9, _⟩ => ⟨S31x128, .f32⟩
  | .local _ .vmem, ⟨10, _⟩ => ⟨S1x128, .f32⟩
  | .local _ .vmem, ⟨11, _⟩ => ⟨S1x128, .f32⟩
  | .local _ .vmem, ⟨12, _⟩ => ⟨S3x128, .f32⟩
  | .local _ .vmem, ⟨13, _⟩ => ⟨S3x128, .f32⟩
  | .local _ .vmem, ⟨14, _⟩ => ⟨S2176x128, .f32⟩
  | .local _ .vmem, ⟨15, _⟩ => ⟨S2176x128, .f32⟩
  | .local _ .vmem, ⟨16, _⟩ => ⟨S2176x128, .f32⟩
  | .local _ .vmem, ⟨17, _⟩ => ⟨S2176x128, .f32⟩
  | .local _ .vmem, ⟨18, _⟩ => ⟨S2208x128, .f32⟩
  | .local _ .vmem, ⟨19, _⟩ => ⟨S2208x128, .f32⟩
  | _, _ => ⟨S2176x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c34_i32 : BitVec 32 := 34#32
  let v26 : BitVec 32 := Scalar.addi c0_i32 c34_i32
  let c1_i32 : BitVec 32 := 1#32
  ⟨c0_i32, v26, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c64_i32 : BitVec 32 := 64#32
  let v27 : BitVec 32 := Scalar.muli arg12 c64_i32
  v27
def k0_off1 (k0_t1 : Fin k0_t1_loop.trips) (c2_i32 : BitVec 32) : Fin 2 → Nat :=
  let c0_i32 : BitVec 32 := 0#32
  let c1_i32 : BitVec 32 := 1#32
  let arg12 : BitVec 32 := Scf.iv c0_i32 c1_i32 k0_t1
  let c64_i32 : BitVec 32 := 64#32
  let v27 : BitVec 32 := Scalar.muli arg12 c64_i32
  let v28 : BitVec 32 := v27
  let v33 : BitVec 32 := Scalar.addi v28 c2_i32
  let v34 : Index := Scalar.indexCast v33
  let c0_21 : Index := 0#32
  ![v34.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c64_i32 : BitVec 32 := 64#32
  let v27 : BitVec 32 := Scalar.muli arg12 c64_i32
  let v28 : BitVec 32 := v27
  let v250 : Index := Scalar.indexCast v28
  let c0_84 : Index := 0#32
  ![v250.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S31x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2176x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2176x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvFwdReferenceIdeal.lean ====
abbrev S2176x9216 : Shape := ⟨2, ![2176, 9216]⟩
abbrev S31x1024 : Shape := ⟨2, ![31, 1024]⟩
abbrev S1x1024 : Shape := ⟨2, ![1, 1024]⟩
abbrev S3x1024 : Shape := ⟨2, ![3, 1024]⟩
abbrev S2176x1024 : Shape := ⟨2, ![2176, 1024]⟩
abbrev S_ : Shape := ⟨0, ![]⟩
abbrev S30x1024 : Shape := ⟨2, ![30, 1024]⟩
abbrev S2206x1024 : Shape := ⟨2, ![2206, 1024]⟩
abbrev S2x1024 : Shape := ⟨2, ![2, 1024]⟩
abbrev S2178x1024 : Shape := ⟨2, ![2178, 1024]⟩

abbrev nBuf : Space → Nat
  | .hbm => 194
  | .vmem => 0
  | .smem => 0
  | _ => 0

abbrev hbmTy0_0 (i : Nat) : BufTy := match i % 128 with
  | 0 => ⟨S2176x9216, .f32⟩
  | 1 => ⟨S31x1024, .f32⟩
  | 2 => ⟨S1x1024, .f32⟩
  | 3 => ⟨S3x1024, .f32⟩
  | 4 => ⟨S2176x1024, .f32⟩
  | 5 => ⟨S2176x1024, .f32⟩
  | 6 => ⟨S2176x1024, .f32⟩
  | 7 => ⟨S2176x1024, .f32⟩
  | 8 => ⟨S2176x1024, .f32⟩
  | 9 => ⟨S2176x1024, .f32⟩
  | 10 => ⟨S_, .f32⟩
  | 11 => ⟨S2176x1024, .f32⟩
  | 12 => ⟨S2176x1024, .f32⟩
  | 13 => ⟨S_, .f32⟩
  | 14 => ⟨S2176x1024, .f32⟩
  | 15 => ⟨S2176x1024, .f32⟩
  | 16 => ⟨S2176x1024, .f32⟩
  | 17 => ⟨S_, .f32⟩
  | 18 => ⟨S30x1024, .f32⟩
  | 19 => ⟨S2206x1024, .f32⟩
  | 20 => ⟨S2176x1024, .f32⟩
  | 21 => ⟨S1x1024, .f32⟩
  | 22 => ⟨S2176x1024, .f32⟩
  | 23 => ⟨S2176x1024, .f32⟩
  | 24 => ⟨S2176x1024, .f32⟩
  | 25 => ⟨S1x1024, .f32⟩
  | 26 => ⟨S2176x1024, .f32⟩
  | 27 => ⟨S2176x1024, .f32⟩
  | 28 => ⟨S2176x1024, .f32⟩
  | 29 => ⟨S2176x1024, .f32⟩
  | 30 => ⟨S1x1024, .f32⟩
  | 31 => ⟨S2176x1024, .f32⟩
  | 32 => ⟨S2176x1024, .f32⟩
  | 33 => ⟨S2176x1024, .f32⟩
  | 34 => ⟨S2176x1024, .f32⟩
  | 35 => ⟨S1x1024, .f32⟩
  | 36 => ⟨S2176x1024, .f32⟩
  | 37 => ⟨S2176x1024, .f32⟩
  | 38 => ⟨S2176x1024, .f32⟩
  | 39 => ⟨S2176x1024, .f32⟩
  | 40 => ⟨S1x1024, .f32⟩
  | 41 => ⟨S2176x1024, .f32⟩
  | 42 => ⟨S2176x1024, .f32⟩
  | 43 => ⟨S2176x1024, .f32⟩
  | 44 => ⟨S2176x1024, .f32⟩
  | 45 => ⟨S1x1024, .f32⟩
  | 46 => ⟨S2176x1024, .f32⟩
  | 47 => ⟨S2176x1024, .f32⟩
  | 48 => ⟨S2176x1024, .f32⟩
  | 49 => ⟨S2176x1024, .f32⟩
  | 50 => ⟨S1x1024, .f32⟩
  | 51 => ⟨S2176x1024, .f32⟩
  | 52 => ⟨S2176x1024, .f32⟩
  | 53 => ⟨S2176x1024, .f32⟩
  | 54 => ⟨S2176x1024, .f32⟩
  | 55 => ⟨S1x1024, .f32⟩
  | 56 => ⟨S2176x1024, .f32⟩
  | 57 => ⟨S2176x1024, .f32⟩
  | 58 => ⟨S2176x1024, .f32⟩
  | 59 => ⟨S2176x1024, .f32⟩
  | 60 => ⟨S1x1024, .f32⟩
  | 61 => ⟨S2176x1024, .f32⟩
  | 62 => ⟨S2176x1024, .f32⟩
  | 63 => ⟨S2176x1024, .f32⟩
  | 64 => ⟨S2176x1024, .f32⟩
  | 65 => ⟨S1x1024, .f32⟩
  | 66 => ⟨S2176x1024, .f32⟩
  | 67 => ⟨S2176x1024, .f32⟩
  | 68 => ⟨S2176x1024, .f32⟩
  | 69 => ⟨S2176x1024, .f32⟩
  | 70 => ⟨S1x1024, .f32⟩
  | 71 => ⟨S2176x1024, .f32⟩
  | 72 => ⟨S2176x1024, .f32⟩
  | 73 => ⟨S2176x1024, .f32⟩
  | 74 => ⟨S2176x1024, .f32⟩
  | 75 => ⟨S1x1024, .f32⟩
  | 76 => ⟨S2176x1024, .f32⟩
  | 77 => ⟨S2176x1024, .f32⟩
  | 78 => ⟨S2176x1024, .f32⟩
  | 79 => ⟨S2176x1024, .f32⟩
  | 80 => ⟨S1x1024, .f32⟩
  | 81 => ⟨S2176x1024, .f32⟩
  | 82 => ⟨S2176x1024, .f32⟩
  | 83 => ⟨S2176x1024, .f32⟩
  | 84 => ⟨S2176x1024, .f32⟩
  | 85 => ⟨S1x1024, .f32⟩
  | 86 => ⟨S2176x1024, .f32⟩
  | 87 => ⟨S2176x1024, .f32⟩
  | 88 => ⟨S2176x1024, .f32⟩
  | 89 => ⟨S2176x1024, .f32⟩
  | 90 => ⟨S1x1024, .f32⟩
  | 91 => ⟨S2176x1024, .f32⟩
  | 92 => ⟨S2176x1024, .f32⟩
  | 93 => ⟨S2176x1024, .f32⟩
  | 94 => ⟨S2176x1024, .f32⟩
  | 95 => ⟨S1x1024, .f32⟩
  | 96 => ⟨S2176x1024, .f32⟩
  | 97 => ⟨S2176x1024, .f32⟩
  | 98 => ⟨S2176x1024, .f32⟩
  | 99 => ⟨S2176x1024, .f32⟩
  | 100 => ⟨S1x1024, .f32⟩
  | 101 => ⟨S2176x1024, .f32⟩
  | 102 => ⟨S2176x1024, .f32⟩
  | 103 => ⟨S2176x1024, .f32⟩
  | 104 => ⟨S2176x1024, .f32⟩
  | 105 => ⟨S1x1024, .f32⟩
  | 106 => ⟨S2176x1024, .f32⟩
  | 107 => ⟨S2176x1024, .f32⟩
  | 108 => ⟨S2176x1024, .f32⟩
  | 109 => ⟨S2176x1024, .f32⟩
  | 110 => ⟨S1x1024, .f32⟩
  | 111 => ⟨S2176x1024, .f32⟩
  | 112 => ⟨S2176x1024, .f32⟩
  | 113 => ⟨S2176x1024, .f32⟩
  | 114 => ⟨S2176x1024, .f32⟩
  | 115 => ⟨S1x1024, .f32⟩
  | 116 => ⟨S2176x1024, .f32⟩
  | 117 => ⟨S2176x1024, .f32⟩
  | 118 => ⟨S2176x1024, .f32⟩
  | 119 => ⟨S2176x1024, .f32⟩
  | 120 => ⟨S1x1024, .f32⟩
  | 121 => ⟨S2176x1024, .f32⟩
  | 122 => ⟨S2176x1024, .f32⟩
  | 123 => ⟨S2176x1024, .f32⟩
  | 124 => ⟨S2176x1024, .f32⟩
  | 125 => ⟨S1x1024, .f32⟩
  | 126 => ⟨S2176x1024, .f32⟩
  | 127 => ⟨S2176x1024, .f32⟩
  | _ => ⟨S2176x9216, .f32⟩

abbrev hbmTy0_1 (i : Nat) : BufTy := match i % 128 with
  | 0 => ⟨S2176x1024, .f32⟩
  | 1 => ⟨S2176x1024, .f32⟩
  | 2 => ⟨S1x1024, .f32⟩
  | 3 => ⟨S2176x1024, .f32⟩
  | 4 => ⟨S2176x1024, .f32⟩
  | 5 => ⟨S2176x1024, .f32⟩
  | 6 => ⟨S2176x1024, .f32⟩
  | 7 => ⟨S1x1024, .f32⟩
  | 8 => ⟨S2176x1024, .f32⟩
  | 9 => ⟨S2176x1024, .f32⟩
  | 10 => ⟨S2176x1024, .f32⟩
  | 11 => ⟨S2176x1024, .f32⟩
  | 12 => ⟨S1x1024, .f32⟩
  | 13 => ⟨S2176x1024, .f32⟩
  | 14 => ⟨S2176x1024, .f32⟩
  | 15 => ⟨S2176x1024, .f32⟩
  | 16 => ⟨S2176x1024, .f32⟩
  | 17 => ⟨S1x1024, .f32⟩
  | 18 => ⟨S2176x1024, .f32⟩
  | 19 => ⟨S2176x1024, .f32⟩
  | 20 => ⟨S2176x1024, .f32⟩
  | 21 => ⟨S2176x1024, .f32⟩
  | 22 => ⟨S1x1024, .f32⟩
  | 23 => ⟨S2176x1024, .f32⟩
  | 24 => ⟨S2176x1024, .f32⟩
  | 25 => ⟨S2176x1024, .f32⟩
  | 26 => ⟨S2176x1024, .f32⟩
  | 27 => ⟨S1x1024, .f32⟩
  | 28 => ⟨S2176x1024, .f32⟩
  | 29 => ⟨S2176x1024, .f32⟩
  | 30 => ⟨S2176x1024, .f32⟩
  | 31 => ⟨S2176x1024, .f32⟩
  | 32 => ⟨S1x1024, .f32⟩
  | 33 => ⟨S2176x1024, .f32⟩
  | 34 => ⟨S2176x1024, .f32⟩
  | 35 => ⟨S2176x1024, .f32⟩
  | 36 => ⟨S2176x1024, .f32⟩
  | 37 => ⟨S1x1024, .f32⟩
  | 38 => ⟨S2176x1024, .f32⟩
  | 39 => ⟨S2176x1024, .f32⟩
  | 40 => ⟨S2176x1024, .f32⟩
  | 41 => ⟨S2176x1024, .f32⟩
  | 42 => ⟨S1x1024, .f32⟩
  | 43 => ⟨S2176x1024, .f32⟩
  | 44 => ⟨S2176x1024, .f32⟩
  | 45 => ⟨S2176x1024, .f32⟩
  | 46 => ⟨S2176x1024, .f32⟩
  | 47 => ⟨S_, .f32⟩
  | 48 => ⟨S2x1024, .f32⟩
  | 49 => ⟨S2178x1024, .f32⟩
  | 50 => ⟨S2176x1024, .f32⟩
  | 51 => ⟨S1x1024, .f32⟩
  | 52 => ⟨S2176x1024, .f32⟩
  | 53 => ⟨S2176x1024, .f32⟩
  | 54 => ⟨S2176x1024, .f32⟩
  | 55 => ⟨S1x1024, .f32⟩
  | 56 => ⟨S2176x1024, .f32⟩
  | 57 => ⟨S2176x1024, .f32⟩
  | 58 => ⟨S2176x1024, .f32⟩
  | 59 => ⟨S2176x1024, .f32⟩
  | 60 => ⟨S1x1024, .f32⟩
  | 61 => ⟨S2176x1024, .f32⟩
  | 62 => ⟨S2176x1024, .f32⟩
  | 63 => ⟨S2176x1024, .f32⟩
  | 64 => ⟨S2176x1024, .f32⟩
  | 65 => ⟨S2176x1024, .f32⟩
  | _ => ⟨S2176x9216, .f32⟩

abbrev hbmTy (i : Nat) : BufTy := match i / 128 with
  | 0 => hbmTy0_0 i
  | 1 => hbmTy0_1 i
  | _ => ⟨S2176x9216, .f32⟩

abbrev bufTy : (tb : Table) → Fin (tcTables nBuf tb) → BufTy
  | .hbm, ⟨i, _⟩ => hbmTy i
  | _, _ => ⟨S2176x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_cst_2 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩

abbrev nD : Nat := 1
abbrev τ : Topo := Topo.v7x

variable {F : FTy → Type} [FloatOps F]
-- ==== Proof.ConvTrip.lean ====
/- One trip of the convolution's backward loop, read: the running sums of the weights' gradients after a trip are those before it plus the
   trip's 64 rows, and the loop over the 34 trips sums all 2176 rows. -/
module

public import proofs.«01_k».proof.Proof.Gen.KernelIdeal.Loops
public import Idealize.ShloMosaic.Lib.Pointwise
public import Idealize.ShloMosaic.Lib.Pipeline.Value

@[expose] public section

set_option maxRecDepth 16384

noncomputable section

namespace Cert.KernelIdeal.Gen

open Idealize.ShloMosaic Idealize.ShloMosaic.TcCoe Idealize.SL.Sem

/-- An array of 128 lanes read at any row, zero past its rows. -/
def ext {n : ℕ} (f : (⟨2, ![n, 128]⟩ : Shape).Idx → EReal) (r : ℕ) (l : Fin 128) : EReal :=
  if h : r < n then f (ix2 ⟨r, h⟩ l) else 0

/-- Inside its rows the array itself. -/
theorem ext_of_lt {n : ℕ} (f : (⟨2, ![n, 128]⟩ : Shape).Idx → EReal) {r : ℕ} (l : Fin 128) (h : r < n) : ext f r l = f (ix2 ⟨r, h⟩ l) := dif_pos h

/-- Past its rows zero. -/
theorem ext_of_ge {n : ℕ} (f : (⟨2, ![n, 128]⟩ : Shape).Idx → EReal) {r : ℕ} (l : Fin 128) (h : ¬ r < n) : ext f r l = 0 := dif_neg h

/-- At an index of the array, its rows and lanes given. -/
theorem ext_apply {n : ℕ} (f : (⟨2, ![n, 128]⟩ : Shape).Idx → EReal) (i : (⟨2, ![n, 128]⟩ : Shape).Idx) {r : ℕ} {l : Fin 128} (hr : (i 0).val = r) (hl : (i 1).val = l.val) : f i = ext f r l := by
  subst hr
  rw [ext_of_lt f l (i 0).isLt]
  congr 1
  funext a
  match a with
  | ⟨0, _⟩ => rfl
  | ⟨1, _⟩ => exact Fin.ext hl

/-- A running sum after 64 rows: eight rows of its sublane are added. -/
theorem pay21_apply (a : FVec Ideal S8x128 .f32) (d x : Vec Ideal S64x128 .f32) (y : S8x128.Idx) :
    k0_pay21 a d x y = a y + ∑ q ∈ Finset.range 8, ext d (8 * q + (y 0).val) (y 1) * ext x (8 * q + (y 0).val) (y 1) := by
  have hy : (y 0).val < 8 := (y 0).isLt
  have hl : (y 1).val < 128 := (y 1).isLt
  unfold k0_pay21
  simp only [Finset.sum_range_succ, Finset.sum_range_zero, zero_add]
  rw [ext_of_lt d (y 1) (show 8 * 0 + (y 0).val < 64 by omega), ext_of_lt x (y 1) (show 8 * 0 + (y 0).val < 64 by omega)]
  rw [ext_of_lt d (y 1) (show 8 * 1 + (y 0).val < 64 by omega), ext_of_lt x (y 1) (show 8 * 1 + (y 0).val < 64 by omega)]
  rw [ext_of_lt d (y 1) (show 8 * 2 + (y 0).val < 64 by omega), ext_of_lt x (y 1) (show 8 * 2 + (y 0).val < 64 by omega)]
  rw [ext_of_lt d (y 1) (show 8 * 3 + (y 0).val < 64 by omega), ext_of_lt x (y 1) (show 8 * 3 + (y 0).val < 64 by omega)]
  rw [ext_of_lt d (y 1) (show 8 * 4 + (y 0).val < 64 by omega), ext_of_lt x (y 1) (show 8 * 4 + (y 0).val < 64 by omega)]
  rw [ext_of_lt d (y 1) (show 8 * 5 + (y 0).val < 64 by omega), ext_of_lt x (y 1) (show 8 * 5 + (y 0).val < 64 by omega)]
  rw [ext_of_lt d (y 1) (show 8 * 6 + (y 0).val < 64 by omega), ext_of_lt x (y 1) (show 8 * 6 + (y 0).val < 64 by omega)]
  rw [ext_of_lt d (y 1) (show 8 * 7 + (y 0).val < 64 by omega), ext_of_lt x (y 1) (show 8 * 7 + (y 0).val < 64 by omega)]
  pointwise

/-- The rectangle of the 64 rows one trip reads. -/
abbrev rectD (k : Fin k0_t1_loop.trips) : Rect S2176x128 := Rect.unit (k0_off2 k) S64x128.size (k0_off2_inb k)

/-- The rectangle of the 64 rows one trip reads, shifted by `o` rows. -/
abbrev rectP (k : Fin k0_t1_loop.trips) (o : Fin 33) : Rect S2208x128 := Rect.unit (k0_off1 k (BitVec.ofNat 32 o.val)) S64x128.size (k0_off1_inb k o)

/-- The 64 rows of an operand one trip reads. -/
def ldD (A : Memref sig .tc .vmem S2176x128 .f32) (X : BufTy.Contents (Elt Ideal) A.view.ty) (k : Fin k0_t1_loop.trips) : Vec Ideal S64x128 .f32 :=
  View.readAt (Elt Ideal) A.view (rectD k).toLoadRect X

/-- The 64 rows of a padded operand one trip reads, shifted by `o` rows. -/
def ldP (A : Memref sig .tc .vmem S2208x128 .f32) (X : BufTy.Contents (Elt Ideal) A.view.ty) (k : Fin k0_t1_loop.trips) (o : Fin 33) : Vec Ideal S64x128 .f32 :=
  View.readAt (Elt Ideal) A.view (rectP k o).toLoadRect X

/-- What the loop carries: thirty-one sums for the long convolution's weights and three for the short one's. -/
abbrev Carried := FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32

/-- The carried sums of the long convolution's 31 rows. -/
def accA (t : Carried) : Fin 31 → FVec Ideal S8x128 .f32 :=
  ![t.1, t.2.1, t.2.2.1, t.2.2.2.1, t.2.2.2.2.1, t.2.2.2.2.2.1, t.2.2.2.2.2.2.1, t.2.2.2.2.2.2.2.1, t.2.2.2.2.2.2.2.2.1, t.2.2.2.2.2.2.2.2.2.1, t.2.2.2.2.2.2.2.2.2.2.1, t.2.2.2.2.2.2.2.2.2.2.2.1, t.2.2.2.2.2.2.2.2.2.2.2.2.1, t.2.2.2.2.2.2.2.2.2.2.2.2.2.1, t.2.2.2.2.2.2.2.2.2.2.2.2.2.2.1, t.2.2.2.2.2.2.2.2.2.2.2.2.2.2.2.1, t.2.2.2.2.2.2.2.2.2.2.2.2.2.2.2.2.1, t.2.2.2.2.2.2.2.2.2.2.2.2.2.2.2.2.2.1, t.2.2.2.2.2.2.2.2.2.2.2.2.2.2.2.2.2.2.1, t.2.2.2.2.2.2.2.2.2.2.2.2.2.2.2.2.2.2.2.1, t.2.2.2.2.2.2.2.2.2.2.2.2.2.2.2.2.2.2.2.2.1, t.2.2.2.2.2.2.2.2.2.2.2.2.2.2.2.2.2.2.2.2.2.1, t.2.2.2.2.2.2.2.2.2.2.2.2.2.2.2.2.2.2.2.2.2.2.1, t.2.2.2.2.2.2.2.2.2.2.2.2.2.2.2.2.2.2.2.2.2.2.2.1, t.2.2.2.2.2.2.2.2.2.2.2.2.2.2.2.2.2.2.2.2.2.2.2.2.1, t.2.2.2.2.2.2.2.2.2.2.2.2.2.2.2.2.2.2.2.2.2.2.2.2.2.1, t.2.2.2.2.2.2.2.2.2.2.2.2.2.2.2.2.2.2.2.2.2.2.2.2.2.2.1, t.2.2.2.2.2.2.2.2.2.2.2.2.2.2.2.2.2.2.2.2.2.2.2.2.2.2.2.1, t.2.2.2.2.2.2.2.2.2.2.2.2.2.2.2.2.2.2.2.2.2.2.2.2.2.2.2.2.1, t.2.2.2.2.2.2.2.2.2.2.2.2.2.2.2.2.2.2.2.2.2.2.2.2.2.2.2.2.2.1, t.2.2.2.2.2.2.2.2.2.2.2.2.2.2.2.2.2.2.2.2.2.2.2.2.2.2.2.2.2.2.1]

/-- The carried sums of the short convolution's 3 rows. -/
def accC (t : Carried) : Fin 3 → FVec Ideal S8x128 .f32 :=
  ![t.2.2.2.2.2.2.2.2.2.2.2.2.2.2.2.2.2.2.2.2.2.2.2.2.2.2.2.2.2.2.2.1, t.2.2.2.2.2.2.2.2.2.2.2.2.2.2.2.2.2.2.2.2.2.2.2.2.2.2.2.2.2.2.2.2.1, t.2.2.2.2.2.2.2.2.2.2.2.2.2.2.2.2.2.2.2.2.2.2.2.2.2.2.2.2.2.2.2.2.2]

variable (𝒱 : Variants) (c : Dev nD) (bd : Option 𝒱.V) (i : grid0.Coords) (arg1 : Memref sig .tc .vmem S2176x128 .f32) (harg1 : arg1.IsWhole) (arg2 : Memref sig .tc .vmem S2176x128 .f32) (harg2 : arg2.IsWhole) (arg3 : Memref sig .tc .vmem S2176x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S31x128 .f32) (harg7 : arg7.IsWhole) (arg8 : Memref sig .tc .vmem S3x128 .f32) (harg8 : arg8.IsWhole) (arg9 : Memref sig .tc .vmem S2176x128 .bf16) (harg9 : arg9.IsWhole) (arg10 : Memref sig .tc .vmem S2176x128 .bf16) (harg10 : arg10.IsWhole) (arg11 : Memref sig .tc .vmem S2176x128 .bf16) (harg11 : arg11.IsWhole) (arg12 : Memref sig .tc .vmem S2176x128 .bf16) (harg12 : arg12.IsWhole) (arg13 : Memref sig .tc .vmem S31x128 .f32) (harg13 : arg13.IsWhole) (arg14 : Memref sig .tc .vmem S3x128 .f32) (harg14 : arg14.IsWhole) (arg15 : Memref sig .tc .vmem S2208x128 .f32) (harg15 : arg15.IsWhole) (arg16 : Memref sig .tc .vmem S2208x128 .f32) (harg16 : arg16.IsWhole) (arg17 : Memref sig .tc .vmem S2208x128 .f32) (harg17 : arg17.IsWhole) (arg18 : Memref sig .tc .vmem S2208x128 .f32) (harg18 : arg18.IsWhole) (v40 : FVec Ideal S8x128 .f32) (v41 : FVec Ideal S8x128 .f32) (v42 : FVec Ideal S8x128 .f32) (v43 : FVec Ideal S8x128 .f32) (v44 : FVec Ideal S8x128 .f32) (v45 : FVec Ideal S8x128 .f32) (v46 : FVec Ideal S8x128 .f32) (v47 : FVec Ideal S8x128 .f32) (v48 : FVec Ideal S8x128 .f32) (v49 : FVec Ideal S8x128 .f32) (v50 : FVec Ideal S8x128 .f32) (v51 : FVec Ideal S8x128 .f32) (v52 : FVec Ideal S8x128 .f32) (v53 : FVec Ideal S8x128 .f32) (v54 : FVec Ideal S8x128 .f32) (v55 : FVec Ideal S8x128 .f32) (v56 : FVec Ideal S8x128 .f32) (v57 : FVec Ideal S8x128 .f32) (v58 : FVec Ideal S8x128 .f32) (cst_47 : Ideal .f32) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg15 : BufTy.Contents (Elt Ideal) arg15.view.ty) (X_arg16 : BufTy.Contents (Elt Ideal) arg16.view.ty) (X_arg17 : BufTy.Contents (Elt Ideal) arg17.view.ty) (X_arg18 : BufTy.Contents (Elt Ideal) arg18.view.ty)

/-- One trip on the carried sums. -/
theorem trip_acc (k : Fin k0_t1_loop.trips) (acc : Carried) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v40 v41 v42 v43 v44 v45 v46 v47 v48 v49 v50 v51 v52 v53 v54 v55 v56 v57 v58 cst_47 X_arg1 X_arg2 X_arg3 X_arg4 X_arg5 X_arg6 X_arg7 X_arg8 X_arg15 X_arg16 X_arg17 X_arg18 k acc
      = (k0_pay21 acc.1 (ldD arg5 X_arg5 k) (ldP arg15 X_arg15 k 2),
          k0_pay21 acc.2.1 (ldD arg5 X_arg5 k) (ldP arg15 X_arg15 k 3),
          k0_pay21 acc.2.2.1 (ldD arg5 X_arg5 k) (ldP arg15 X_arg15 k 4),
          k0_pay21 acc.2.2.2.1 (ldD arg5 X_arg5 k) (ldP arg15 X_arg15 k 5),
          k0_pay21 acc.2.2.2.2.1 (ldD arg5 X_arg5 k) (ldP arg15 X_arg15 k 6),
          k0_pay21 acc.2.2.2.2.2.1 (ldD arg5 X_arg5 k) (ldP arg15 X_arg15 k 7),
          k0_pay21 acc.2.2.2.2.2.2.1 (ldD arg5 X_arg5 k) (ldP arg15 X_arg15 k 8),
          k0_pay21 acc.2.2.2.2.2.2.2.1 (ldD arg5 X_arg5 k) (ldP arg15 X_arg15 k 9),
          k0_pay21 acc.2.2.2.2.2.2.2.2.1 (ldD arg5 X_arg5 k) (ldP arg15 X_arg15 k 10),
          k0_pay21 acc.2.2.2.2.2.2.2.2.2.1 (ldD arg5 X_arg5 k) (ldP arg15 X_arg15 k 11),
          k0_pay21 acc.2.2.2.2.2.2.2.2.2.2.1 (ldD arg5 X_arg5 k) (ldP arg15 X_arg15 k 12),
          k0_pay21 acc.2.2.2.2.2.2.2.2.2.2.2.1 (ldD arg5 X_arg5 k) (ldP arg15 X_arg15 k 13),
          k0_pay21 acc.2.2.2.2.2.2.2.2.2.2.2.2.1 (ldD arg5 X_arg5 k) (ldP arg15 X_arg15 k 14),
          k0_pay21 acc.2.2.2.2.2.2.2.2.2.2.2.2.2.1 (ldD arg5 X_arg5 k) (ldP arg15 X_arg15 k 15),
          k0_pay21 acc.2.2.2.2.2.2.2.2.2.2.2.2.2.2.1 (ldD arg5 X_arg5 k) (ldP arg15 X_arg15 k 16),
          k0_pay21 acc.2.2.2.2.2.2.2.2.2.2.2.2.2.2.2.1 (ldD arg5 X_arg5 k) (ldP arg15 X_arg15 k 17),
          k0_pay21 acc.2.2.2.2.2.2.2.2.2.2.2.2.2.2.2.2.1 (ldD arg5 X_arg5 k) (ldP arg15 X_arg15 k 18),
          k0_pay21 acc.2.2.2.2.2.2.2.2.2.2.2.2.2.2.2.2.2.1 (ldD arg5 X_arg5 k) (ldP arg15 X_arg15 k 19),
          k0_pay21 acc.2.2.2.2.2.2.2.2.2.2.2.2.2.2.2.2.2.2.1 (ldD arg5 X_arg5 k) (ldP arg15 X_arg15 k 20),
          k0_pay21 acc.2.2.2.2.2.2.2.2.2.2.2.2.2.2.2.2.2.2.2.1 (ldD arg5 X_arg5 k) (ldP arg15 X_arg15 k 21),
          k0_pay21 acc.2.2.2.2.2.2.2.2.2.2.2.2.2.2.2.2.2.2.2.2.1 (ldD arg5 X_arg5 k) (ldP arg15 X_arg15 k 22),
          k0_pay21 acc.2.2.2.2.2.2.2.2.2.2.2.2.2.2.2.2.2.2.2.2.2.1 (ldD arg5 X_arg5 k) (ldP arg15 X_arg15 k 23),
          k0_pay21 acc.2.2.2.2.2.2.2.2.2.2.2.2.2.2.2.2.2.2.2.2.2.2.1 (ldD arg5 X_arg5 k) (ldP arg15 X_arg15 k 24),
          k0_pay21 acc.2.2.2.2.2.2.2.2.2.2.2.2.2.2.2.2.2.2.2.2.2.2.2.1 (ldD arg5 X_arg5 k) (ldP arg15 X_arg15 k 25),
          k0_pay21 acc.2.2.2.2.2.2.2.2.2.2.2.2.2.2.2.2.2.2.2.2.2.2.2.2.1 (ldD arg5 X_arg5 k) (ldP arg15 X_arg15 k 26),
          k0_pay21 acc.2.2.2.2.2.2.2.2.2.2.2.2.2.2.2.2.2.2.2.2.2.2.2.2.2.1 (ldD arg5 X_arg5 k) (ldP arg15 X_arg15 k 27),
          k0_pay21 acc.2.2.2.2.2.2.2.2.2.2.2.2.2.2.2.2.2.2.2.2.2.2.2.2.2.2.1 (ldD arg5 X_arg5 k) (ldP arg15 X_arg15 k 28),
          k0_pay21 acc.2.2.2.2.2.2.2.2.2.2.2.2.2.2.2.2.2.2.2.2.2.2.2.2.2.2.2.1 (ldD arg5 X_arg5 k) (ldP arg15 X_arg15 k 29),
          k0_pay21 acc.2.2.2.2.2.2.2.2.2.2.2.2.2.2.2.2.2.2.2.2.2.2.2.2.2.2.2.2.1 (ldD arg5 X_arg5 k) (ldP arg15 X_arg15 k 30),
          k0_pay21 acc.2.2.2.2.2.2.2.2.2.2.2.2.2.2.2.2.2.2.2.2.2.2.2.2.2.2.2.2.2.1 (ldD arg5 X_arg5 k) (ldP arg15 X_arg15 k 31),
          k0_pay21 acc.2.2.2.2.2.2.2.2.2.2.2.2.2.2.2.2.2.2.2.2.2.2.2.2.2.2.2.2.2.2.1 (ldD arg5 X_arg5 k) (ldP arg15 X_arg15 k 32),
          k0_pay21 acc.2.2.2.2.2.2.2.2.2.2.2.2.2.2.2.2.2.2.2.2.2.2.2.2.2.2.2.2.2.2.2.1 (ldD arg6 X_arg6 k) (ldP arg16 X_arg16 k 30),
          k0_pay21 acc.2.2.2.2.2.2.2.2.2.2.2.2.2.2.2.2.2.2.2.2.2.2.2.2.2.2.2.2.2.2.2.2.1 (ldD arg6 X_arg6 k) (ldP arg16 X_arg16 k 31),
          k0_pay21 acc.2.2.2.2.2.2.2.2.2.2.2.2.2.2.2.2.2.2.2.2.2.2.2.2.2.2.2.2.2.2.2.2.2 (ldD arg6 X_arg6 k) (ldP arg16 X_arg16 k 32)) := by
  unfold tripR_k0_t1 trip_k0_t1
  dsimp only
  rfl

/-- One trip on the long convolution's sums. -/
theorem trip_accA (k : Fin k0_t1_loop.trips) (acc : Carried) (j : Fin 31) :
    accA (tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v40 v41 v42 v43 v44 v45 v46 v47 v48 v49 v50 v51 v52 v53 v54 v55 v56 v57 v58 cst_47 X_arg1 X_arg2 X_arg3 X_arg4 X_arg5 X_arg6 X_arg7 X_arg8 X_arg15 X_arg16 X_arg17 X_arg18 k acc) j
      = k0_pay21 (accA acc j) (ldD arg5 X_arg5 k) (ldP arg15 X_arg15 k ⟨j.val + 2, by omega⟩) := by
  rw [trip_acc]
  fin_cases j <;> rfl

/-- One trip on the short convolution's sums. -/
theorem trip_accC (k : Fin k0_t1_loop.trips) (acc : Carried) (j : Fin 3) :
    accC (tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v40 v41 v42 v43 v44 v45 v46 v47 v48 v49 v50 v51 v52 v53 v54 v55 v56 v57 v58 cst_47 X_arg1 X_arg2 X_arg3 X_arg4 X_arg5 X_arg6 X_arg7 X_arg8 X_arg15 X_arg16 X_arg17 X_arg18 k acc) j
      = k0_pay21 (accC acc j) (ldD arg6 X_arg6 k) (ldP arg16 X_arg16 k ⟨j.val + 30, by omega⟩) := by
  rw [trip_acc]
  fin_cases j <;> rfl

end Cert.KernelIdeal.Gen
-- ==== Proof.ConvLoop.lean ====
/- The convolution's backward loop, read: what each trip writes into the four gradients of the gates' operands, at an index. -/
module

public import proofs.«01_k».proof.Proof.ConvTrip

@[expose] public section

set_option maxRecDepth 16384

noncomputable section

namespace Cert.KernelIdeal.Gen

open Idealize.ShloMosaic Idealize.ShloMosaic.TcCoe Idealize.SL.Sem

/-- The gradient before the long convolution: 31 shifted products. -/
def daF (P : (⟨2, ![2208, 128]⟩ : Shape).Idx → EReal) (W : (⟨2, ![31, 128]⟩ : Shape).Idx → EReal) (r : ℕ) (l : Fin 128) : EReal :=
  ∑ j ∈ Finset.range 31, ext P (r + (30 - j)) l * ext W j l

/-- The gradient before the short convolution: 3 shifted products. -/
def dcF (P : (⟨2, ![2208, 128]⟩ : Shape).Idx → EReal) (W : (⟨2, ![3, 128]⟩ : Shape).Idx → EReal) (r : ℕ) (l : Fin 128) : EReal :=
  ∑ j ∈ Finset.range 3, ext P (r + (2 - j)) l * ext W j l

/-- The logistic function as the kernel writes it. -/
def sg (x : EReal) : EReal := Ideal.div 1 (1 + Ideal.exp (0 - x))

/-- The rectangle of a row of the long weights. -/
abbrev rectWA (j : Fin 31) : Rect S31x128 := Rect.unit (s := S31x128) ![j.val, 0] S1x128.size (by have hj := j.isLt; intro a; match a with | ⟨0, _⟩ => exact (by omega : j.val + 1 ≤ 31) | ⟨1, _⟩ => exact (by omega : 0 + 128 ≤ 128))

/-- The rectangle of a row of the short weights. -/
abbrev rectWC (j : Fin 3) : Rect S3x128 := Rect.unit (s := S3x128) ![j.val, 0] S1x128.size (by have hj := j.isLt; intro a; match a with | ⟨0, _⟩ => exact (by omega : j.val + 1 ≤ 3) | ⟨1, _⟩ => exact (by omega : 0 + 128 ≤ 128))

/-- A row of the long weights. -/
def ldWA (A : Memref sig .tc .vmem S31x128 .f32) (X : BufTy.Contents (Elt Ideal) A.view.ty) (j : Fin 31) : Vec Ideal S1x128 .f32 :=
  View.readAt (Elt Ideal) A.view (rectWA j).toLoadRect X

/-- A row of the long weights, at an index. -/
theorem ldWA_apply (A : Memref sig .tc .vmem S31x128 .f32) (X : BufTy.Contents (Elt Ideal) A.view.ty) (j : Fin 31) (z : S1x128.Idx) (l : Fin 128) (hl : (z 1).val = l.val) :
    ldWA A X j z = ext (A.view.read (Elt Ideal) X) j.val l := by
  have hz : (z 0).val < 1 := (z 0).isLt
  refine ext_apply (A.view.read (Elt Ideal) X) _ ?_ ?_
  · show j.val + 1 * (z 0).val = j.val
    omega
  · show 0 + 1 * (z 1).val = l.val
    omega

/-- A row of the short weights. -/
def ldWC (A : Memref sig .tc .vmem S3x128 .f32) (X : BufTy.Contents (Elt Ideal) A.view.ty) (j : Fin 3) : Vec Ideal S1x128 .f32 :=
  View.readAt (Elt Ideal) A.view (rectWC j).toLoadRect X

/-- A row of the short weights, at an index. -/
theorem ldWC_apply (A : Memref sig .tc .vmem S3x128 .f32) (X : BufTy.Contents (Elt Ideal) A.view.ty) (j : Fin 3) (z : S1x128.Idx) (l : Fin 128) (hl : (z 1).val = l.val) :
    ldWC A X j z = ext (A.view.read (Elt Ideal) X) j.val l := by
  have hz : (z 0).val < 1 := (z 0).isLt
  refine ext_apply (A.view.read (Elt Ideal) X) _ ?_ ?_
  · show j.val + 1 * (z 0).val = j.val
    omega
  · show 0 + 1 * (z 1).val = l.val
    omega

/-- A trip's 64 rows of an operand, at an index. -/
theorem ldD_apply (A : Memref sig .tc .vmem S2176x128 .f32) (X : BufTy.Contents (Elt Ideal) A.view.ty) (k : Fin k0_t1_loop.trips) (y : S64x128.Idx) :
    ldD A X k y = ext (A.view.read (Elt Ideal) X) (64 * k.val + (y 0).val) (y 1) := by
  refine ext_apply (A.view.read (Elt Ideal) X) _ ?_ ?_
  · show k0_off2 k 0 + 1 * (y 0).val = _
    rw [k0_off2_eq]
    show 64 * k.val + 1 * (y 0).val = _
    omega
  · show k0_off2 k 1 + 1 * (y 1).val = _
    rw [k0_off2_eq]
    show 0 + 1 * (y 1).val = _
    omega

/-- A trip's 64 shifted rows of a padded operand, at an index. -/
theorem ldP_apply (A : Memref sig .tc .vmem S2208x128 .f32) (X : BufTy.Contents (Elt Ideal) A.view.ty) (k : Fin k0_t1_loop.trips) (o : Fin 33) (y : S64x128.Idx) :
    ldP A X k o y = ext (A.view.read (Elt Ideal) X) (64 * k.val + (y 0).val + o.val) (y 1) := by
  refine ext_apply (A.view.read (Elt Ideal) X) _ ?_ ?_
  · show k0_off1 k (BitVec.ofNat 32 o.val) 0 + 1 * (y 0).val = _
    rw [k0_off1_eq]
    show 64 * k.val + o.val + 1 * (y 0).val = _
    omega
  · show k0_off1 k (BitVec.ofNat 32 o.val) 1 + 1 * (y 1).val = _
    rw [k0_off1_eq]
    show 0 + 1 * (y 1).val = _
    omega

/-- The same over the rows of a trip. -/
theorem ext_ldD (A : Memref sig .tc .vmem S2176x128 .f32) (X : BufTy.Contents (Elt Ideal) A.view.ty) (k : Fin k0_t1_loop.trips) (r : ℕ) (l : Fin 128) (h : r < 64) :
    ext (ldD A X k) r l = ext (A.view.read (Elt Ideal) X) (64 * k.val + r) l := by
  rw [ext_of_lt _ l h, ldD_apply]
  rfl

/-- The same over the rows of a trip, shifted. -/
theorem ext_ldP (A : Memref sig .tc .vmem S2208x128 .f32) (X : BufTy.Contents (Elt Ideal) A.view.ty) (k : Fin k0_t1_loop.trips) (o : Fin 33) (r : ℕ) (l : Fin 128) (h : r < 64) :
    ext (ldP A X k o) r l = ext (A.view.read (Elt Ideal) X) (64 * k.val + r + o.val) l := by
  rw [ext_of_lt _ l h, ldP_apply]
  rfl

/-- The payloads of the gradient before the long convolution, at an index. -/
theorem da_pay (P : Fin 31 → Vec Ideal S64x128 .f32) (W : Fin 31 → Vec Ideal S1x128 .f32) (y : S64x128.Idx) :
    k0_pay13 (k0_pay12 (k0_pay11 (k0_pay9 (k0_pay8 (k0_pay6 (P 30) (W 0) (P 29) (W 1) (P 28) (W 2) (P 27) (W 3)) (k0_pay7 (P 26) (W 4)) (P 25) (W 5) (P 24) (W 6) (P 23) (W 7) (P 22) (W 8) (P 21) (W 9)) (P 20) (W 10) (P 19) (W 11) (P 18) (W 12) (P 17) (W 13) (P 16) (W 14)) (P 15) (k0_pay10 (W 15)) (P 14) (W 16) (P 13) (W 17) (P 12) (W 18) (P 11) (W 19) (P 10) (W 20)) (P 9) (W 21) (P 8) (W 22) (P 7) (W 23) (P 6) (W 24) (P 5) (W 25)) (P 4) (W 26) (P 3) (W 27) (P 2) (W 28) (P 1) (W 29) (P 0) (W 30) y
      = P 30 y * W 0 (ix2 (n0 := 1) (n1 := 128) 0 (y 1)) + P 29 y * W 1 (ix2 (n0 := 1) (n1 := 128) 0 (y 1)) + P 28 y * W 2 (ix2 (n0 := 1) (n1 := 128) 0 (y 1)) + P 27 y * W 3 (ix2 (n0 := 1) (n1 := 128) 0 (y 1)) + P 26 y * W 4 (ix2 (n0 := 1) (n1 := 128) 0 (y 1)) + P 25 y * W 5 (ix2 (n0 := 1) (n1 := 128) 0 (y 1)) + P 24 y * W 6 (ix2 (n0 := 1) (n1 := 128) 0 (y 1)) + P 23 y * W 7 (ix2 (n0 := 1) (n1 := 128) 0 (y 1)) + P 22 y * W 8 (ix2 (n0 := 1) (n1 := 128) 0 (y 1)) + P 21 y * W 9 (ix2 (n0 := 1) (n1 := 128) 0 (y 1)) + P 20 y * W 10 (ix2 (n0 := 1) (n1 := 128) 0 (y 1)) + P 19 y * W 11 (ix2 (n0 := 1) (n1 := 128) 0 (y 1)) + P 18 y * W 12 (ix2 (n0 := 1) (n1 := 128) 0 (y 1)) + P 17 y * W 13 (ix2 (n0 := 1) (n1 := 128) 0 (y 1)) + P 16 y * W 14 (ix2 (n0 := 1) (n1 := 128) 0 (y 1)) + P 15 y * W 15 (ix2 (n0 := 1) (n1 := 128) 0 (y 1)) + P 14 y * W 16 (ix2 (n0 := 1) (n1 := 128) 0 (y 1)) + P 13 y * W 17 (ix2 (n0 := 1) (n1 := 128) 0 (y 1)) + P 12 y * W 18 (ix2 (n0 := 1) (n1 := 128) 0 (y 1)) + P 11 y * W 19 (ix2 (n0 := 1) (n1 := 128) 0 (y 1)) + P 10 y * W 20 (ix2 (n0 := 1) (n1 := 128) 0 (y 1)) + P 9 y * W 21 (ix2 (n0 := 1) (n1 := 128) 0 (y 1)) + P 8 y * W 22 (ix2 (n0 := 1) (n1 := 128) 0 (y 1)) + P 7 y * W 23 (ix2 (n0 := 1) (n1 := 128) 0 (y 1)) + P 6 y * W 24 (ix2 (n0 := 1) (n1 := 128) 0 (y 1)) + P 5 y * W 25 (ix2 (n0 := 1) (n1 := 128) 0 (y 1)) + P 4 y * W 26 (ix2 (n0 := 1) (n1 := 128) 0 (y 1)) + P 3 y * W 27 (ix2 (n0 := 1) (n1 := 128) 0 (y 1)) + P 2 y * W 28 (ix2 (n0 := 1) (n1 := 128) 0 (y 1)) + P 1 y * W 29 (ix2 (n0 := 1) (n1 := 128) 0 (y 1)) + P 0 y * W 30 (ix2 (n0 := 1) (n1 := 128) 0 (y 1)) := by
  unfold k0_pay13 k0_pay12 k0_pay11 k0_pay10 k0_pay9 k0_pay8 k0_pay7 k0_pay6
  pointwise

/-- The gradient before the long convolution in a trip, at an index: 31 shifted products. -/
theorem da_apply (A : Memref sig .tc .vmem S31x128 .f32) (B : Memref sig .tc .vmem S2208x128 .f32) (X : BufTy.Contents (Elt Ideal) A.view.ty) (Y : BufTy.Contents (Elt Ideal) B.view.ty) (k : Fin k0_t1_loop.trips) (y : S64x128.Idx) :
    trip_k0_t1.sl.r_10 (F := Ideal) A B X Y k y = daF (B.view.read (Elt Ideal) Y) (A.view.read (Elt Ideal) X) (64 * k.val + (y 0).val) (y 1) := by
  have h : trip_k0_t1.sl.r_10 (F := Ideal) A B X Y k y = k0_pay13 (k0_pay12 (k0_pay11 (k0_pay9 (k0_pay8 (k0_pay6 (ldP B Y k 30) (ldWA A X 0) (ldP B Y k 29) (ldWA A X 1) (ldP B Y k 28) (ldWA A X 2) (ldP B Y k 27) (ldWA A X 3)) (k0_pay7 (ldP B Y k 26) (ldWA A X 4)) (ldP B Y k 25) (ldWA A X 5) (ldP B Y k 24) (ldWA A X 6) (ldP B Y k 23) (ldWA A X 7) (ldP B Y k 22) (ldWA A X 8) (ldP B Y k 21) (ldWA A X 9)) (ldP B Y k 20) (ldWA A X 10) (ldP B Y k 19) (ldWA A X 11) (ldP B Y k 18) (ldWA A X 12) (ldP B Y k 17) (ldWA A X 13) (ldP B Y k 16) (ldWA A X 14)) (ldP B Y k 15) (k0_pay10 (ldWA A X 15)) (ldP B Y k 14) (ldWA A X 16) (ldP B Y k 13) (ldWA A X 17) (ldP B Y k 12) (ldWA A X 18) (ldP B Y k 11) (ldWA A X 19) (ldP B Y k 10) (ldWA A X 20)) (ldP B Y k 9) (ldWA A X 21) (ldP B Y k 8) (ldWA A X 22) (ldP B Y k 7) (ldWA A X 23) (ldP B Y k 6) (ldWA A X 24) (ldP B Y k 5) (ldWA A X 25)) (ldP B Y k 4) (ldWA A X 26) (ldP B Y k 3) (ldWA A X 27) (ldP B Y k 2) (ldWA A X 28) (ldP B Y k 1) (ldWA A X 29) (ldP B Y k 0) (ldWA A X 30) y := rfl
  refine h.trans ((da_pay (fun o => ldP B Y k ⟨o.val, by omega⟩) (fun j => ldWA A X j) y).trans ?_)
  have hw : ∀ j : Fin 31, ldWA A X j (ix2 (n0 := 1) (n1 := 128) 0 (y 1)) = ext (A.view.read (Elt Ideal) X) j.val (y 1) := fun j => ldWA_apply A X j _ (y 1) rfl
  unfold daF
  simp only [ldP_apply, hw, Finset.sum_range_succ, Finset.sum_range_zero, zero_add]
  rfl

/-- The payloads of the gradient before the short convolution, at an index. -/
theorem dc_pay (P : Fin 3 → Vec Ideal S64x128 .f32) (W : Fin 3 → Vec Ideal S1x128 .f32) (y : S64x128.Idx) :
    k0_pay15 (k0_pay14 (P 2) (W 0)) (P 1) (W 1) (P 0) (W 2) y
      = P 2 y * W 0 (ix2 (n0 := 1) (n1 := 128) 0 (y 1)) + P 1 y * W 1 (ix2 (n0 := 1) (n1 := 128) 0 (y 1)) + P 0 y * W 2 (ix2 (n0 := 1) (n1 := 128) 0 (y 1)) := by
  unfold k0_pay15 k0_pay14
  pointwise

/-- The gradient before the short convolution in a trip, at an index: 3 shifted products. -/
theorem dc_apply (A : Memref sig .tc .vmem S3x128 .f32) (B : Memref sig .tc .vmem S2208x128 .f32) (X : BufTy.Contents (Elt Ideal) A.view.ty) (Y : BufTy.Contents (Elt Ideal) B.view.ty) (k : Fin k0_t1_loop.trips) (y : S64x128.Idx) :
    trip_k0_t1.sl.r_12 (F := Ideal) A B X Y k y = dcF (B.view.read (Elt Ideal) Y) (A.view.read (Elt Ideal) X) (64 * k.val + (y 0).val) (y 1) := by
  have h : trip_k0_t1.sl.r_12 (F := Ideal) A B X Y k y = k0_pay15 (k0_pay14 (ldP B Y k 2) (ldWC A X 0)) (ldP B Y k 1) (ldWC A X 1) (ldP B Y k 0) (ldWC A X 2) y := rfl
  refine h.trans ((dc_pay (fun o => ldP B Y k ⟨o.val, by omega⟩) (fun j => ldWC A X j) y).trans ?_)
  have hw : ∀ j : Fin 3, ldWC A X j (ix2 (n0 := 1) (n1 := 128) 0 (y 1)) = ext (A.view.read (Elt Ideal) X) j.val (y 1) := fun j => ldWC_apply A X j _ (y 1) rfl
  unfold dcF
  simp only [ldP_apply, hw, Finset.sum_range_succ, Finset.sum_range_zero, zero_add]
  rfl

/-- The logistic function in a trip, at an index. -/
theorem pay16_apply (g : Vec Ideal S64x128 .f32) (y : S64x128.Idx) : k0_pay16 g y = sg (g y) := by
  unfold k0_pay16 sg
  pointwise

/-- The gradient of the first factor of the long convolution's gate, at an index. -/
theorem pay17_apply (d g : Vec Ideal S64x128 .f32) (y : S64x128.Idx) : k0_pay17 (F := Ideal) d g y = d y * sg (g y) := by
  rw [← pay16_apply]
  unfold k0_pay17
  pointwise

/-- The gradient of the gate of the long convolution, at an index. -/
theorem pay18_apply (d a g : Vec Ideal S64x128 .f32) (y : S64x128.Idx) : k0_pay18 (F := Ideal) d a g y = d y * a y * sg (g y) * (1 - sg (g y)) := by
  rw [← pay16_apply]
  unfold k0_pay18
  pointwise

/-- The gradient of a factor of the short convolution's operand, at an index. -/
theorem pay20_apply (d g : Vec Ideal S64x128 .f32) (y : S64x128.Idx) : k0_pay20 (F := Ideal) d g y = d y * g y := by
  unfold k0_pay20
  pointwise

/-- The gradient of the first factor of the long convolution's gate. -/
def gAv (g : (⟨2, ![2176, 128]⟩ : Shape).Idx → EReal) (W : (⟨2, ![31, 128]⟩ : Shape).Idx → EReal) (P : (⟨2, ![2208, 128]⟩ : Shape).Idx → EReal) (r : ℕ) (l : Fin 128) : EReal :=
  daF P W r l * sg (ext g r l)

/-- The gradient of the gate of the long convolution. -/
def gAg (a g : (⟨2, ![2176, 128]⟩ : Shape).Idx → EReal) (W : (⟨2, ![31, 128]⟩ : Shape).Idx → EReal) (P : (⟨2, ![2208, 128]⟩ : Shape).Idx → EReal) (r : ℕ) (l : Fin 128) : EReal :=
  daF P W r l * ext a r l * sg (ext g r l) * (1 - sg (ext g r l))

/-- The gradient of a factor of the short convolution's operand, the other factor given. -/
def gC (g : (⟨2, ![2176, 128]⟩ : Shape).Idx → EReal) (W : (⟨2, ![3, 128]⟩ : Shape).Idx → EReal) (P : (⟨2, ![2208, 128]⟩ : Shape).Idx → EReal) (r : ℕ) (l : Fin 128) : EReal :=
  dcF P W r l * ext g r l

/-- A function of a row and a lane, as an array. -/
def arr (f : ℕ → Fin 128 → EReal) : S2176x128.Idx → EReal := fun i => f (i 0).val (i 1)

/-- An array of rows and lanes at the index a trip's piece lands on. -/
theorem arr_emb (f : ℕ → Fin 128 → EReal) (k : Fin k0_t1_loop.trips) (x : S64x128.Idx) : arr f ((rectD k).emb x) = f (64 * k.val + (x 0).val) (x 1) := by
  unfold arr
  have h0 : ((rectD k).emb x 0).val = 64 * k.val + (x 0).val := by
    show k0_off2 k 0 + 1 * (x 0).val = _
    rw [k0_off2_eq]
    show 64 * k.val + 1 * (x 0).val = _
    omega
  have h1 : (rectD k).emb x 1 = x 1 := Fin.ext (by
    show k0_off2 k 1 + 1 * (x 1).val = _
    rw [k0_off2_eq]
    show 0 + 1 * (x 1).val = _
    omega)
  rw [h0, h1]

/-- Every piece of a list holds one array's values. -/
def Holds (f : ℕ → Fin 128 → EReal) (L : List (View.Piece (Elt Ideal) S2176x128 .bf16)) : Prop :=
  ∀ p ∈ L, ∀ x : p.1.shape.Idx, p.2 x = arr f (p.1.emb x)

/-- All four gradients hold their values in every piece written. -/
def AllHold (f₁ f₂ f₃ f₄ : ℕ → Fin 128 → EReal) (L : List (View.Piece (Elt Ideal) S2176x128 .bf16) × List (View.Piece (Elt Ideal) S2176x128 .bf16) × List (View.Piece (Elt Ideal) S2176x128 .bf16) × List (View.Piece (Elt Ideal) S2176x128 .bf16)) : Prop :=
  Holds f₁ L.1 ∧ Holds f₂ L.2.1 ∧ Holds f₃ L.2.2.1 ∧ Holds f₄ L.2.2.2

/-- One more piece. -/
theorem Holds.cons {f : ℕ → Fin 128 → EReal} {L : List (View.Piece (Elt Ideal) S2176x128 .bf16)} (h : Holds f L) (k : Fin k0_t1_loop.trips) (w : Vec Ideal S64x128 .bf16)
    (hw : ∀ x : S64x128.Idx, w x = f (64 * k.val + (x 0).val) (x 1)) : Holds f ([⟨rectD k, w⟩] ++ L) := by
  intro p hp x
  rcases List.mem_append.mp hp with hp | hp
  · obtain rfl := List.mem_singleton.mp hp
    exact (hw x).trans (arr_emb f k x).symm
  · exact h p hp x

variable (𝒱 : Variants) (c : Dev nD) (bd : Option 𝒱.V) (i : grid0.Coords) (arg1 : Memref sig .tc .vmem S2176x128 .f32) (harg1 : arg1.IsWhole) (arg2 : Memref sig .tc .vmem S2176x128 .f32) (harg2 : arg2.IsWhole) (arg3 : Memref sig .tc .vmem S2176x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S31x128 .f32) (harg7 : arg7.IsWhole) (arg8 : Memref sig .tc .vmem S3x128 .f32) (harg8 : arg8.IsWhole) (arg9 : Memref sig .tc .vmem S2176x128 .bf16) (harg9 : arg9.IsWhole) (arg10 : Memref sig .tc .vmem S2176x128 .bf16) (harg10 : arg10.IsWhole) (arg11 : Memref sig .tc .vmem S2176x128 .bf16) (harg11 : arg11.IsWhole) (arg12 : Memref sig .tc .vmem S2176x128 .bf16) (harg12 : arg12.IsWhole) (arg13 : Memref sig .tc .vmem S31x128 .f32) (harg13 : arg13.IsWhole) (arg14 : Memref sig .tc .vmem S3x128 .f32) (harg14 : arg14.IsWhole) (arg15 : Memref sig .tc .vmem S2208x128 .f32) (harg15 : arg15.IsWhole) (arg16 : Memref sig .tc .vmem S2208x128 .f32) (harg16 : arg16.IsWhole) (arg17 : Memref sig .tc .vmem S2208x128 .f32) (harg17 : arg17.IsWhole) (arg18 : Memref sig .tc .vmem S2208x128 .f32) (harg18 : arg18.IsWhole) (v40 : FVec Ideal S8x128 .f32) (v41 : FVec Ideal S8x128 .f32) (v42 : FVec Ideal S8x128 .f32) (v43 : FVec Ideal S8x128 .f32) (v44 : FVec Ideal S8x128 .f32) (v45 : FVec Ideal S8x128 .f32) (v46 : FVec Ideal S8x128 .f32) (v47 : FVec Ideal S8x128 .f32) (v48 : FVec Ideal S8x128 .f32) (v49 : FVec Ideal S8x128 .f32) (v50 : FVec Ideal S8x128 .f32) (v51 : FVec Ideal S8x128 .f32) (v52 : FVec Ideal S8x128 .f32) (v53 : FVec Ideal S8x128 .f32) (v54 : FVec Ideal S8x128 .f32) (v55 : FVec Ideal S8x128 .f32) (v56 : FVec Ideal S8x128 .f32) (v57 : FVec Ideal S8x128 .f32) (v58 : FVec Ideal S8x128 .f32) (cst_47 : Ideal .f32) (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg15 : BufTy.Contents (Elt Ideal) arg15.view.ty) (X_arg16 : BufTy.Contents (Elt Ideal) arg16.view.ty) (X_arg17 : BufTy.Contents (Elt Ideal) arg17.view.ty) (X_arg18 : BufTy.Contents (Elt Ideal) arg18.view.ty)

/-- What a trip writes into the four gradients. -/
theorem trip_pieces (k : Fin k0_t1_loop.trips) (acc : Carried) :
    (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v40 v41 v42 v43 v44 v45 v46 v47 v48 v49 v50 v51 v52 v53 v54 v55 v56 v57 v58 cst_47 X_arg1 X_arg2 X_arg3 X_arg4 X_arg5 X_arg6 X_arg7 X_arg8 X_arg15 X_arg16 X_arg17 X_arg18 k acc) = ([⟨rectD k, k0_pay17 (trip_k0_t1.sl.r_10 (F := Ideal) arg7 arg17 X_arg7 X_arg17 k) (ldD arg2 X_arg2 k)⟩], [⟨rectD k, k0_pay18 (trip_k0_t1.sl.r_10 (F := Ideal) arg7 arg17 X_arg7 X_arg17 k) (ldD arg1 X_arg1 k) (ldD arg2 X_arg2 k)⟩], [⟨rectD k, k0_pay20 (trip_k0_t1.sl.r_12 (F := Ideal) arg8 arg18 X_arg8 X_arg18 k) (ldD arg4 X_arg4 k)⟩], [⟨rectD k, k0_pay20 (trip_k0_t1.sl.r_12 (F := Ideal) arg8 arg18 X_arg8 X_arg18 k) (ldD arg3 X_arg3 k)⟩]) := by
  unfold tripL_k0_t1 trip_k0_t1
  dsimp only
  rfl

/-- Before trip `n` the four gradients hold their values in every piece written. -/
theorem st_holds (init : Carried) : ∀ n : ℕ, n ≤ 34 →
    AllHold (gAv (arg2.view.read (Elt Ideal) X_arg2) (arg7.view.read (Elt Ideal) X_arg7) (arg17.view.read (Elt Ideal) X_arg17)) (gAg (arg1.view.read (Elt Ideal) X_arg1) (arg2.view.read (Elt Ideal) X_arg2) (arg7.view.read (Elt Ideal) X_arg7) (arg17.view.read (Elt Ideal) X_arg17)) (gC (arg4.view.read (Elt Ideal) X_arg4) (arg8.view.read (Elt Ideal) X_arg8) (arg18.view.read (Elt Ideal) X_arg18)) (gC (arg3.view.read (Elt Ideal) X_arg3) (arg8.view.read (Elt Ideal) X_arg8) (arg18.view.read (Elt Ideal) X_arg18))
      (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v40 v41 v42 v43 v44 v45 v46 v47 v48 v49 v50 v51 v52 v53 v54 v55 v56 v57 v58 cst_47 X_arg1 X_arg2 X_arg3 X_arg4 X_arg5 X_arg6 X_arg7 X_arg8 X_arg15 X_arg16 X_arg17 X_arg18 init n).2
  | 0, _ => ⟨fun p hp => absurd hp List.not_mem_nil, fun p hp => absurd hp List.not_mem_nil, fun p hp => absurd hp List.not_mem_nil, fun p hp => absurd hp List.not_mem_nil⟩
  | n + 1, hn => by
    obtain ⟨h1, h2, h3, h4⟩ := st_holds init n (Nat.le_of_succ_le hn)
    rw [st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v40 v41 v42 v43 v44 v45 v46 v47 v48 v49 v50 v51 v52 v53 v54 v55 v56 v57 v58 cst_47 X_arg1 X_arg2 X_arg3 X_arg4 X_arg5 X_arg6 X_arg7 X_arg8 X_arg15 X_arg16 X_arg17 X_arg18 init (⟨n, hn⟩ : Fin k0_t1_loop.trips), trip_pieces]
    refine ⟨h1.cons ⟨n, hn⟩ _ fun x => ?_, h2.cons ⟨n, hn⟩ _ fun x => ?_, h3.cons ⟨n, hn⟩ _ fun x => ?_, h4.cons ⟨n, hn⟩ _ fun x => ?_⟩
    · rw [pay17_apply, da_apply, ldD_apply]; rfl
    · rw [pay18_apply, da_apply, ldD_apply, ldD_apply]; rfl
    · rw [pay20_apply, dc_apply, ldD_apply]; rfl
    · rw [pay20_apply, dc_apply, ldD_apply]; rfl

/-- Before trip `n` a running sum of the long convolution's weights holds the rows of the trips before. -/
theorem st_accA (init : Carried) (j : Fin 31) (y : S8x128.Idx) : ∀ n : ℕ, n ≤ 34 →
    accA (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v40 v41 v42 v43 v44 v45 v46 v47 v48 v49 v50 v51 v52 v53 v54 v55 v56 v57 v58 cst_47 X_arg1 X_arg2 X_arg3 X_arg4 X_arg5 X_arg6 X_arg7 X_arg8 X_arg15 X_arg16 X_arg17 X_arg18 init n).1 j y
      = accA init j y + ∑ k ∈ Finset.range n, ∑ q ∈ Finset.range 8, ext (arg5.view.read (Elt Ideal) X_arg5) (64 * k + (8 * q + (y 0).val)) (y 1) * ext (arg15.view.read (Elt Ideal) X_arg15) (64 * k + (8 * q + (y 0).val) + (j.val + 2)) (y 1)
  | 0, _ => by rw [Finset.sum_range_zero, add_zero]; rfl
  | n + 1, hn => by
    have hy : (y 0).val < 8 := (y 0).isLt
    rw [st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v40 v41 v42 v43 v44 v45 v46 v47 v48 v49 v50 v51 v52 v53 v54 v55 v56 v57 v58 cst_47 X_arg1 X_arg2 X_arg3 X_arg4 X_arg5 X_arg6 X_arg7 X_arg8 X_arg15 X_arg16 X_arg17 X_arg18 init (⟨n, hn⟩ : Fin k0_t1_loop.trips), trip_accA, pay21_apply, st_accA init j y n (Nat.le_of_succ_le hn), Finset.sum_range_succ _ n, add_assoc]
    refine congrArg₂ HAdd.hAdd rfl (congrArg₂ HAdd.hAdd rfl (Finset.sum_congr (M := EReal) rfl fun q hq => ?_))
    have hq8 := Finset.mem_range.mp hq
    exact congrArg₂ HMul.hMul (ext_ldD arg5 X_arg5 ⟨n, hn⟩ _ _ (by omega)) (ext_ldP arg15 X_arg15 ⟨n, hn⟩ ⟨j.val + 2, by omega⟩ _ _ (by omega))

/-- Before trip `n` a running sum of the short convolution's weights holds the rows of the trips before. -/
theorem st_accC (init : Carried) (j : Fin 3) (y : S8x128.Idx) : ∀ n : ℕ, n ≤ 34 →
    accC (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v40 v41 v42 v43 v44 v45 v46 v47 v48 v49 v50 v51 v52 v53 v54 v55 v56 v57 v58 cst_47 X_arg1 X_arg2 X_arg3 X_arg4 X_arg5 X_arg6 X_arg7 X_arg8 X_arg15 X_arg16 X_arg17 X_arg18 init n).1 j y
      = accC init j y + ∑ k ∈ Finset.range n, ∑ q ∈ Finset.range 8, ext (arg6.view.read (Elt Ideal) X_arg6) (64 * k + (8 * q + (y 0).val)) (y 1) * ext (arg16.view.read (Elt Ideal) X_arg16) (64 * k + (8 * q + (y 0).val) + (j.val + 30)) (y 1)
  | 0, _ => by rw [Finset.sum_range_zero, add_zero]; rfl
  | n + 1, hn => by
    have hy : (y 0).val < 8 := (y 0).isLt
    rw [st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v40 v41 v42 v43 v44 v45 v46 v47 v48 v49 v50 v51 v52 v53 v54 v55 v56 v57 v58 cst_47 X_arg1 X_arg2 X_arg3 X_arg4 X_arg5 X_arg6 X_arg7 X_arg8 X_arg15 X_arg16 X_arg17 X_arg18 init (⟨n, hn⟩ : Fin k0_t1_loop.trips), trip_accC, pay21_apply, st_accC init j y n (Nat.le_of_succ_le hn), Finset.sum_range_succ _ n, add_assoc]
    refine congrArg₂ HAdd.hAdd rfl (congrArg₂ HAdd.hAdd rfl (Finset.sum_congr (M := EReal) rfl fun q hq => ?_))
    have hq8 := Finset.mem_range.mp hq
    exact congrArg₂ HMul.hMul (ext_ldD arg6 X_arg6 ⟨n, hn⟩ _ _ (by omega)) (ext_ldP arg16 X_arg16 ⟨n, hn⟩ ⟨j.val + 30, by omega⟩ _ _ (by omega))

end Cert.KernelIdeal.Gen
-- ==== Proof.ConvPad.lean ====
/- The convolution's backward body, read: what it stores before its loop, and its last sums. -/
module

public import proofs.«01_k».proof.Proof.Gen.KernelIdeal.Frame
public import proofs.«01_k».proof.Proof.ConvLoop
public import Idealize.ShloMosaic.Lib.Pointwise
public import Idealize.ShloMosaic.Lib.Pipeline.Value

@[expose] public section

set_option maxRecDepth 16384

noncomputable section

namespace Cert.KernelIdeal.Gen

open Idealize.ShloMosaic Idealize.ShloMosaic.TcCoe Idealize.SL.Sem

/-- The array with 32 rows of zeros before it. -/
def padTop (f : ℕ → Fin 128 → EReal) : (⟨2, ![2208, 128]⟩ : Shape).Idx → EReal := fun i => if (i 0).val < 32 then 0 else f ((i 0).val - 32) (i 1)

/-- The array with 32 rows of zeros after it. -/
def padBot (f : (⟨2, ![2176, 128]⟩ : Shape).Idx → EReal) : (⟨2, ![2208, 128]⟩ : Shape).Idx → EReal := fun i => ext f (i 0).val (i 1)

/-- What the body stores before its loop: zeros, in the small block. -/
theorem pay74_apply (y : S32x128.Idx) : k0_pay74 (F := Ideal) y = 0 := by
  unfold k0_pay74
  pointwise

/-- The zeros at the head of a padded operand. -/
theorem pay75_apply (y : S32x128.Idx) : k0_pay75 (F := Ideal) y = 0 := by
  rw [← pay74_apply y]
  unfold k0_pay75
  pointwise

/-- The zeros at the tail of a padded operand. -/
theorem pay81_apply (v : Vec Ideal S32x128 .f32) (y : S32x128.Idx) : k0_pay81 (F := Ideal) v y = v y := by
  unfold k0_pay81
  pointwise

/-- The gated operand of the long convolution. -/
theorem pay77_apply (a g : Vec Ideal S2176x128 .f32) (y : S2176x128.Idx) : k0_pay77 (F := Ideal) a g y = a y * sg (g y) := by
  unfold k0_pay77 sg
  pointwise

/-- The operand of the short convolution. -/
theorem pay78_apply (a g : Vec Ideal S2176x128 .f32) (y : S2176x128.Idx) : k0_pay78 (F := Ideal) a g y = a y * g y := by
  unfold k0_pay78
  pointwise

/-- An operand copied. -/
theorem pay79_apply (a : Vec Ideal S2176x128 .f32) (y : S2176x128.Idx) : k0_pay79 (F := Ideal) a y = a y := by
  unfold k0_pay79
  pointwise

/-- The last reduction: eight sublanes summed. -/
theorem pay118_apply (v : FVec Ideal S8x128 .f32) (y : S1x128.Idx) : k0_pay118 (F := Ideal) v y = ∑ q : Fin 8, v (ix2 q (y 1)) := by
  unfold k0_pay118
  pointwise

/-- A block of whole rows holds the indices of its rows. -/
theorem mem_rows (o n : ℕ) (h : ∀ a, (![o, 0] : Fin 2 → ℕ) a + (![n, 128] : Fin 2 → ℕ) a ≤ S2208x128.size a) (i : S2208x128.Idx) (h1 : o ≤ (i 0).val) (h2 : (i 0).val < o + n) :
    i ∈ (Rect.unit (s := S2208x128) ![o, 0] ![n, 128] h).set := by
  have hl : (i 1).val < 128 := (i 1).isLt
  refine Rect.mem_set_unit.mpr fun a => ?_
  match a with
  | ⟨0, _⟩ => exact ⟨h1, h2⟩
  | ⟨1, _⟩ => exact ⟨Nat.zero_le _, (by omega : (i 1).val < 0 + 128)⟩

/-- A padded operand written in two pieces, zeros first. -/
theorem canon_top (f : ℕ → Fin 128 → EReal) (w : Vec Ideal S2176x128 .f32) (z : Vec Ideal S32x128 .f32) (hw : ∀ y : S2176x128.Idx, w y = f (y 0).val (y 1)) (hz : ∀ y, z y = 0) :
    View.canon (Val := Elt Ideal) (e := .f32) [⟨Rect.unit (s := S2208x128) ![32, 0] S2176x128.size inb_S2208x128_S2176x128_32_0, w⟩, ⟨Rect.unit (s := S2208x128) ![0, 0] S32x128.size inb_S2208x128_S32x128_0_0, z⟩] = padTop f := by
  funext i
  have hi : (i 0).val < 2208 := (i 0).isLt
  have hl : (i 1).val < 128 := (i 1).isLt
  refine View.canon_apply_of_pieces (Val := Elt Ideal) (e := .f32) (padTop f) _ ?_ i ?_
  · intro p hp x
    rcases List.mem_cons.mp hp with rfl | hp
    · have h0 : ((Rect.unit (s := S2208x128) ![32, 0] S2176x128.size inb_S2208x128_S2176x128_32_0).emb x 0).val = (x 0).val + 32 := by
        show 32 + 1 * (x 0).val = _
        omega
      have h1 : (Rect.unit (s := S2208x128) ![32, 0] S2176x128.size inb_S2208x128_S2176x128_32_0).emb x 1 = x 1 := Fin.ext (by
        show 0 + 1 * (x 1).val = _
        omega)
      unfold padTop
      rw [h0, h1, if_neg (by omega), Nat.add_sub_cancel]
      exact hw x
    · obtain rfl := List.mem_singleton.mp hp
      have hx : (x 0).val < 32 := (x 0).isLt
      have h0 : ((Rect.unit (s := S2208x128) ![0, 0] S32x128.size inb_S2208x128_S32x128_0_0).emb x 0).val = (x 0).val := by
        show 0 + 1 * (x 0).val = _
        omega
      unfold padTop
      rw [h0, if_pos hx]
      exact hz x
  · by_cases h : (i 0).val < 32
    · refine ⟨_, List.mem_cons_of_mem _ (List.mem_singleton.mpr rfl), mem_rows _ _ inb_S2208x128_S32x128_0_0 i (Nat.zero_le _) (by omega : (i 0).val < 0 + 32)⟩
    · refine ⟨_, List.mem_cons_self, mem_rows _ _ inb_S2208x128_S2176x128_32_0 i (by omega : 32 ≤ (i 0).val) (by omega : (i 0).val < 32 + 2176)⟩

/-- A padded operand written in two pieces, zeros last. -/
theorem canon_bot (f : Vec Ideal S2176x128 .f32) (w : Vec Ideal S2176x128 .f32) (z : Vec Ideal S32x128 .f32) (hw : ∀ y : S2176x128.Idx, w y = f y) (hz : ∀ y, z y = 0) :
    View.canon (Val := Elt Ideal) (e := .f32) [⟨Rect.unit (s := S2208x128) ![2176, 0] S32x128.size inb_S2208x128_S32x128_2176_0, z⟩, ⟨Rect.unit (s := S2208x128) ![0, 0] S2176x128.size inb_S2208x128_S2176x128_0_0, w⟩] = padBot f := by
  funext i
  have hi : (i 0).val < 2208 := (i 0).isLt
  have hl : (i 1).val < 128 := (i 1).isLt
  refine View.canon_apply_of_pieces (Val := Elt Ideal) (e := .f32) (padBot f) _ ?_ i ?_
  · intro p hp x
    rcases List.mem_cons.mp hp with rfl | hp
    · have h0 : ((Rect.unit (s := S2208x128) ![2176, 0] S32x128.size inb_S2208x128_S32x128_2176_0).emb x 0).val = 2176 + (x 0).val := by
        show 2176 + 1 * (x 0).val = _
        omega
      unfold padBot
      rw [h0]
      exact (hz x).trans (ext_of_ge f _ (Nat.not_lt.mpr (Nat.le_add_right _ _))).symm
    · obtain rfl := List.mem_singleton.mp hp
      have h0 : ((Rect.unit (s := S2208x128) ![0, 0] S2176x128.size inb_S2208x128_S2176x128_0_0).emb x 0).val = (x 0).val := by
        show 0 + 1 * (x 0).val = _
        omega
      have h1 : (Rect.unit (s := S2208x128) ![0, 0] S2176x128.size inb_S2208x128_S2176x128_0_0).emb x 1 = x 1 := Fin.ext (by
        show 0 + 1 * (x 1).val = _
        omega)
      unfold padBot
      rw [h0, h1]
      exact (hw x).trans (ext_apply f x rfl rfl)
  · by_cases h : (i 0).val < 2176
    · refine ⟨_, List.mem_cons_of_mem _ (List.mem_singleton.mpr rfl), mem_rows _ _ inb_S2208x128_S2176x128_0_0 i (Nat.zero_le _) (by omega : (i 0).val < 0 + 2176)⟩
    · refine ⟨_, List.mem_cons_self, mem_rows _ _ inb_S2208x128_S32x128_2176_0 i (by omega : 2176 ≤ (i 0).val) (by omega : (i 0).val < 2176 + 32)⟩

/-- A whole block read back is the block. -/
theorem whole_read (A : Memref sig .tc .vmem S2176x128 .f32) (hA : A.IsWhole) (x : Vec Ideal S2176x128 .f32) :
    View.readAt (Elt Ideal) A.view (Rect.unit (s := S2176x128) ![0, 0] S2176x128.size inb_S2176x128_S2176x128_0_0).toLoadRect (hA.unread x) = x := by
  funext y
  have h : A.view.read (Elt Ideal) (hA.unread x) = x := hA.read_unread x
  refine Eq.trans (b := A.view.read (Elt Ideal) (hA.unread x) y) ?_ (congrFun h y)
  show A.view.read (Elt Ideal) (hA.unread x) _ = _
  congr 1
  funext a
  apply Fin.ext
  match a with
  | ⟨0, _⟩ =>
    show 0 + 1 * (y 0).val = (y 0).val
    omega
  | ⟨1, _⟩ =>
    show 0 + 1 * (y 1).val = (y 1).val
    omega

/-- A sum over rows, by trips of 64 rows, eight rows to a sublane. -/
theorem sum_rows (f : ℕ → EReal) : ∑ s : Fin 8, ∑ k ∈ Finset.range 34, ∑ q ∈ Finset.range 8, f (64 * k + (8 * q + s.val)) = ∑ t ∈ Finset.range 2176, f t := by
  have blocks : ∀ (b : ℕ) (g : ℕ → EReal) (n : ℕ), ∑ t ∈ Finset.range (b * n), g t = ∑ k ∈ Finset.range n, ∑ r ∈ Finset.range b, g (b * k + r) := by
    intro b g n
    induction n with
    | zero => simp
    | succ n ih => rw [Nat.mul_succ, Finset.sum_range_add, ih, Finset.sum_range_succ]
  rw [Finset.sum_comm, show (2176 : ℕ) = 64 * 34 from rfl, blocks 64 f 34]
  refine Finset.sum_congr rfl fun k _ => ?_
  rw [Finset.sum_comm, show (64 : ℕ) = 8 * 8 from rfl, blocks 8 (fun r => f (8 * 8 * k + r)) 8]
  refine Finset.sum_congr rfl fun q _ => ?_
  exact (Finset.sum_range (fun r => f (8 * 8 * k + (8 * q + r)))).symm

end Cert.KernelIdeal.Gen
-- ==== Proof.ConvOut.lean ====
/- The convolution's backward body, read: its six outputs at an index, as functions of the blocks it is handed. -/
module

public import proofs.«01_k».proof.Proof.Gen.KernelIdeal.Frame
public import proofs.«01_k».proof.Proof.ConvPad
public import Idealize.ShloMosaic.Lib.Pointwise
public import Idealize.ShloMosaic.Lib.Pipeline.Value

@[expose] public section

set_option maxRecDepth 16384

noncomputable section

namespace Cert.KernelIdeal.Gen

open Idealize.ShloMosaic Idealize.ShloMosaic.TcCoe Idealize.SL.Sem

variable (c : Dev nD) (i : grid0.Coords) (arg1 : Memref sig .tc .vmem S2176x128 .f32) (harg1 : arg1.IsWhole) (arg2 : Memref sig .tc .vmem S2176x128 .f32) (harg2 : arg2.IsWhole) (arg3 : Memref sig .tc .vmem S2176x128 .f32) (harg3 : arg3.IsWhole) (arg4 : Memref sig .tc .vmem S2176x128 .f32) (harg4 : arg4.IsWhole) (arg5 : Memref sig .tc .vmem S2176x128 .f32) (harg5 : arg5.IsWhole) (arg6 : Memref sig .tc .vmem S2176x128 .f32) (harg6 : arg6.IsWhole) (arg7 : Memref sig .tc .vmem S31x128 .f32) (harg7 : arg7.IsWhole) (arg8 : Memref sig .tc .vmem S3x128 .f32) (harg8 : arg8.IsWhole) (arg9 : Memref sig .tc .vmem S2176x128 .bf16) (harg9 : arg9.IsWhole) (arg10 : Memref sig .tc .vmem S2176x128 .bf16) (harg10 : arg10.IsWhole) (arg11 : Memref sig .tc .vmem S2176x128 .bf16) (harg11 : arg11.IsWhole) (arg12 : Memref sig .tc .vmem S2176x128 .bf16) (harg12 : arg12.IsWhole) (arg13 : Memref sig .tc .vmem S31x128 .f32) (harg13 : arg13.IsWhole) (arg14 : Memref sig .tc .vmem S3x128 .f32) (harg14 : arg14.IsWhole) (arg15 : Memref sig .tc .vmem S2208x128 .f32) (harg15 : arg15.IsWhole) (arg16 : Memref sig .tc .vmem S2208x128 .f32) (harg16 : arg16.IsWhole) (arg17 : Memref sig .tc .vmem S2208x128 .f32) (harg17 : arg17.IsWhole) (arg18 : Memref sig .tc .vmem S2208x128 .f32) (harg18 : arg18.IsWhole) (x0 : Vec Ideal S2176x128 .f32) (x1 : Vec Ideal S2176x128 .f32) (x2 : Vec Ideal S2176x128 .f32) (x3 : Vec Ideal S2176x128 .f32) (x4 : Vec Ideal S2176x128 .f32) (x5 : Vec Ideal S2176x128 .f32) (x6 : Vec Ideal S31x128 .f32) (x7 : Vec Ideal S3x128 .f32)

/-- The sums as the loop starts with them. -/
def carried0 : Carried := (k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102 (kernelRun0_A.sl.cst_47 (F := Ideal)), k0_pay103, k0_pay104, k0_pay105, k0_pay106, k0_pay107, k0_pay108, k0_pay109, k0_pay110, k0_pay111, k0_pay112, k0_pay113, k0_pay114, k0_pay115, k0_pay116)

/-- The loop's state after its last trip. -/
def lastSt := (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 kernelRun0_A.sl.cst_47 (harg1.unread x0) (harg2.unread x1) (harg3.unread x2) (harg4.unread x3) (harg5.unread x4) (harg6.unread x5) (harg7.unread x6) (harg8.unread x7) (arg15.view.writes (Elt Ideal) arg15.view.junk (kernelRun0_A.sl.HS0_2 c arg1 harg1 arg2 harg2 x0 x1)) (arg16.view.writes (Elt Ideal) arg16.view.junk (kernelRun0_A.sl.HS1_2 c arg3 harg3 arg4 harg4 x2 x3)) (arg17.view.writes (Elt Ideal) arg17.view.junk (kernelRun0_A.sl.HS2_2 c arg5 harg5 x4)) (arg18.view.writes (Elt Ideal) arg18.view.junk (kernelRun0_A.sl.HS3_2 c arg6 harg6 x5)) carried0 34)

/-- Padded operand 0 as the loop reads it. -/
theorem pad0_eq : arg15.view.read (Elt Ideal) (arg15.view.writes (Elt Ideal) arg15.view.junk (kernelRun0_A.sl.HS0_2 c arg1 harg1 arg2 harg2 x0 x1)) = padTop (fun r l => ext x0 r l * sg (ext x1 r l)) := by
  rw [View.read_writes_junk_eq_canon]
  unfold kernelRun0_A.sl.HS0_2
  rw [whole_read arg1 harg1 x0, whole_read arg2 harg2 x1]
  exact canon_top _ _ _ (fun y => (pay77_apply _ _ y).trans (congrArg₂ HMul.hMul (ext_apply x0 y rfl rfl) (congrArg sg (ext_apply x1 y rfl rfl)))) (fun y => pay75_apply y)

/-- Padded operand 1 as the loop reads it. -/
theorem pad1_eq : arg16.view.read (Elt Ideal) (arg16.view.writes (Elt Ideal) arg16.view.junk (kernelRun0_A.sl.HS1_2 c arg3 harg3 arg4 harg4 x2 x3)) = padTop (fun r l => ext x2 r l * ext x3 r l) := by
  rw [View.read_writes_junk_eq_canon]
  unfold kernelRun0_A.sl.HS1_2
  rw [whole_read arg3 harg3 x2, whole_read arg4 harg4 x3]
  exact canon_top _ _ _ (fun y => (pay78_apply _ _ y).trans (congrArg₂ HMul.hMul (ext_apply x2 y rfl rfl) (ext_apply x3 y rfl rfl))) (fun y => pay75_apply y)

/-- Padded operand 2 as the loop reads it. -/
theorem pad2_eq : arg17.view.read (Elt Ideal) (arg17.view.writes (Elt Ideal) arg17.view.junk (kernelRun0_A.sl.HS2_2 c arg5 harg5 x4)) = padBot x4 := by
  rw [View.read_writes_junk_eq_canon]
  unfold kernelRun0_A.sl.HS2_2
  rw [whole_read arg5 harg5 x4]
  exact canon_bot _ _ _ (fun y => pay79_apply _ y) (fun y => (pay81_apply _ y).trans (pay74_apply y))

/-- Padded operand 3 as the loop reads it. -/
theorem pad3_eq : arg18.view.read (Elt Ideal) (arg18.view.writes (Elt Ideal) arg18.view.junk (kernelRun0_A.sl.HS3_2 c arg6 harg6 x5)) = padBot x5 := by
  rw [View.read_writes_junk_eq_canon]
  unfold kernelRun0_A.sl.HS3_2
  rw [whole_read arg6 harg6 x5]
  exact canon_bot _ _ _ (fun y => pay79_apply _ y) (fun y => (pay81_apply _ y).trans (pay74_apply y))

/-- The four gradients after the last trip: every piece written holds its values. -/
theorem last_holds : AllHold (gAv x1 x6 (padBot x4)) (gAg x0 x1 x6 (padBot x4)) (gC x3 x7 (padBot x5)) (gC x2 x7 (padBot x5)) (lastSt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7).2 := by
  have h := st_holds Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 kernelRun0_A.sl.cst_47 (harg1.unread x0) (harg2.unread x1) (harg3.unread x2) (harg4.unread x3) (harg5.unread x4) (harg6.unread x5) (harg7.unread x6) (harg8.unread x7) (arg15.view.writes (Elt Ideal) arg15.view.junk (kernelRun0_A.sl.HS0_2 c arg1 harg1 arg2 harg2 x0 x1)) (arg16.view.writes (Elt Ideal) arg16.view.junk (kernelRun0_A.sl.HS1_2 c arg3 harg3 arg4 harg4 x2 x3)) (arg17.view.writes (Elt Ideal) arg17.view.junk (kernelRun0_A.sl.HS2_2 c arg5 harg5 x4)) (arg18.view.writes (Elt Ideal) arg18.view.junk (kernelRun0_A.sl.HS3_2 c arg6 harg6 x5)) carried0 34 (le_refl _)
  rw [harg1.read_unread, harg2.read_unread, harg3.read_unread, harg4.read_unread, harg7.read_unread, harg8.read_unread, pad2_eq c arg5 harg5 arg17 x4, pad3_eq c arg6 harg6 arg18 x5] at h
  exact h

/-- Output 0, at an index. -/
theorem out0_apply (y : S2176x128.Idx) : out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = arr (gAv x1 x6 (padBot x4)) y := by
  unfold out0_A_8
  rw [View.read_writes_junk_eq_canon]
  exact View.canon_apply_of_pieces (Val := Elt Ideal) (e := .bf16) (arr (gAv x1 x6 (padBot x4))) _ (last_holds ..).1 y (cover0_A_8 ..)

/-- Output 1, at an index. -/
theorem out1_apply (y : S2176x128.Idx) : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = arr (gAg x0 x1 x6 (padBot x4)) y := by
  unfold out0_A_9
  rw [View.read_writes_junk_eq_canon]
  exact View.canon_apply_of_pieces (Val := Elt Ideal) (e := .bf16) (arr (gAg x0 x1 x6 (padBot x4))) _ (last_holds ..).2.1 y (cover0_A_9 ..)

/-- Output 2, at an index. -/
theorem out2_apply (y : S2176x128.Idx) : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = arr (gC x3 x7 (padBot x5)) y := by
  unfold out0_A_10
  rw [View.read_writes_junk_eq_canon]
  exact View.canon_apply_of_pieces (Val := Elt Ideal) (e := .bf16) (arr (gC x3 x7 (padBot x5))) _ (last_holds ..).2.2.1 y (cover0_A_10 ..)

/-- Output 3, at an index. -/
theorem out3_apply (y : S2176x128.Idx) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = arr (gC x2 x7 (padBot x5)) y := by
  unfold out0_A_11
  rw [View.read_writes_junk_eq_canon]
  exact View.canon_apply_of_pieces (Val := Elt Ideal) (e := .bf16) (arr (gC x2 x7 (padBot x5))) _ (last_holds ..).2.2.2 y (cover0_A_11 ..)

/-- The carried sums start at zero. -/
theorem initA (j : Fin 31) (y : S8x128.Idx) : accA carried0 j y = 0 := by
  have h : accA carried0 j = k0_pay83 (F := Ideal) := by fin_cases j <;> rfl
  rw [h]
  unfold k0_pay83
  pointwise

/-- The carried sums after the last trip. -/
theorem lastA (j : Fin 31) (y : S8x128.Idx) : accA (lastSt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7).1 j y
    = ∑ k ∈ Finset.range 34, ∑ q ∈ Finset.range 8, ext x4 (64 * k + (8 * q + (y 0).val)) (y 1) * ext (padTop (fun r l => ext x0 r l * sg (ext x1 r l))) (64 * k + (8 * q + (y 0).val) + (j.val + 2)) (y 1) := by
  have h := st_accA Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 kernelRun0_A.sl.cst_47 (harg1.unread x0) (harg2.unread x1) (harg3.unread x2) (harg4.unread x3) (harg5.unread x4) (harg6.unread x5) (harg7.unread x6) (harg8.unread x7) (arg15.view.writes (Elt Ideal) arg15.view.junk (kernelRun0_A.sl.HS0_2 c arg1 harg1 arg2 harg2 x0 x1)) (arg16.view.writes (Elt Ideal) arg16.view.junk (kernelRun0_A.sl.HS1_2 c arg3 harg3 arg4 harg4 x2 x3)) (arg17.view.writes (Elt Ideal) arg17.view.junk (kernelRun0_A.sl.HS2_2 c arg5 harg5 x4)) (arg18.view.writes (Elt Ideal) arg18.view.junk (kernelRun0_A.sl.HS3_2 c arg6 harg6 x5)) carried0 j y 34 (le_refl _)
  rw [initA, zero_add, harg5.read_unread, pad0_eq c arg1 harg1 arg2 harg2 arg15 x0 x1] at h
  exact h

/-- A row of the weights' gradient, as the body stores it. -/
def rowPieceA (S : Fin 31 → FVec Ideal S8x128 .f32) (j : Fin 31) : View.Piece (Elt Ideal) S31x128 .f32 := ⟨rectWA j, k0_pay118 (F := Ideal) (S j)⟩

/-- The rows of the weights' gradient, the last one first. -/
def rowsA (S : Fin 31 → FVec Ideal S8x128 .f32) : List (View.Piece (Elt Ideal) S31x128 .f32) := [rowPieceA S 30, rowPieceA S 29, rowPieceA S 28, rowPieceA S 27, rowPieceA S 26, rowPieceA S 25, rowPieceA S 24, rowPieceA S 23, rowPieceA S 22, rowPieceA S 21, rowPieceA S 20, rowPieceA S 19, rowPieceA S 18, rowPieceA S 17, rowPieceA S 16, rowPieceA S 15, rowPieceA S 14, rowPieceA S 13, rowPieceA S 12, rowPieceA S 11, rowPieceA S 10, rowPieceA S 9, rowPieceA S 8, rowPieceA S 7, rowPieceA S 6, rowPieceA S 5, rowPieceA S 4, rowPieceA S 3, rowPieceA S 2, rowPieceA S 1, rowPieceA S 0]

/-- A row stored holds the sum over all rows of the operands, if the carried sums are the sums over the rows of one place in a block. -/
theorem rowsA_read (S : Fin 31 → FVec Ideal S8x128 .f32) (f g : ℕ → Fin 128 → EReal)
    (hS : ∀ j y, S j y = ∑ k ∈ Finset.range 34, ∑ q ∈ Finset.range 8, f (64 * k + (8 * q + (y 0).val)) (y 1) * g (64 * k + (8 * q + (y 0).val) + (j.val + 2)) (y 1)) :
    ∀ p ∈ rowsA S, ∀ x : p.1.shape.Idx, p.2 x = (fun z : S31x128.Idx => ∑ t ∈ Finset.range 2176, f t (z 1) * g (t + ((z 0).val + 2)) (z 1)) (p.1.emb x) := by
  have hrow : ∀ (j : Fin 31) (x : (rowPieceA S j).1.shape.Idx), (rowPieceA S j).2 x
      = (fun z : S31x128.Idx => ∑ t ∈ Finset.range 2176, f t (z 1) * g (t + ((z 0).val + 2)) (z 1)) ((rowPieceA S j).1.emb x) := by
    intro j x
    have hx : (x 0).val < 1 := (x 0).isLt
    have h0 : ((rowPieceA S j).1.emb x 0).val = j.val := by
      show j.val + 1 * (x 0).val = _
      omega
    have h1 : (rowPieceA S j).1.emb x 1 = x 1 := Fin.ext (by
      show 0 + 1 * (x 1).val = _
      omega)
    dsimp only
    rw [h0, h1]
    refine (pay118_apply _ x).trans ?_
    refine Eq.trans ?_ (sum_rows (fun t => f t (x 1) * g (t + (j.val + 2)) (x 1)))
    exact Finset.sum_congr (M := EReal) rfl fun s _ => hS j (ix2 s (x 1))
  intro p hp
  simp only [rowsA, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact hrow _

/-- The weights' gradient, at an index: the sum over all rows. -/
theorem outWA_apply (y : S31x128.Idx) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = ∑ t ∈ Finset.range 2176, ext x4 t (y 1) * ext (padTop (fun r l => ext x0 r l * sg (ext x1 r l))) (t + ((y 0).val + 2)) (y 1) := by
  unfold out0_A_12
  rw [View.read_writes_junk_eq_canon]
  exact View.canon_apply_of_pieces (Val := Elt Ideal) (e := .f32) (fun z : S31x128.Idx => ∑ t ∈ Finset.range 2176, ext x4 t (z 1) * ext (padTop (fun r l => ext x0 r l * sg (ext x1 r l))) (t + ((z 0).val + 2)) (z 1)) _ (rowsA_read _ (ext x4) (ext (padTop (fun r l => ext x0 r l * sg (ext x1 r l)))) (lastA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7)) y (cover0_A_12 ..)

/-- The carried sums start at zero. -/
theorem initC (j : Fin 3) (y : S8x128.Idx) : accC carried0 j y = 0 := by
  have h : accC carried0 j = k0_pay83 (F := Ideal) := by fin_cases j <;> rfl
  rw [h]
  unfold k0_pay83
  pointwise

/-- The carried sums after the last trip. -/
theorem lastC (j : Fin 3) (y : S8x128.Idx) : accC (lastSt c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7).1 j y
    = ∑ k ∈ Finset.range 34, ∑ q ∈ Finset.range 8, ext x5 (64 * k + (8 * q + (y 0).val)) (y 1) * ext (padTop (fun r l => ext x2 r l * ext x3 r l)) (64 * k + (8 * q + (y 0).val) + (j.val + 30)) (y 1) := by
  have h := st_accC Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_pay83 k0_pay84 k0_pay85 k0_pay86 k0_pay87 k0_pay88 k0_pay89 k0_pay90 k0_pay91 k0_pay92 k0_pay93 k0_pay94 k0_pay95 k0_pay96 k0_pay97 k0_pay98 k0_pay99 k0_pay100 k0_pay101 kernelRun0_A.sl.cst_47 (harg1.unread x0) (harg2.unread x1) (harg3.unread x2) (harg4.unread x3) (harg5.unread x4) (harg6.unread x5) (harg7.unread x6) (harg8.unread x7) (arg15.view.writes (Elt Ideal) arg15.view.junk (kernelRun0_A.sl.HS0_2 c arg1 harg1 arg2 harg2 x0 x1)) (arg16.view.writes (Elt Ideal) arg16.view.junk (kernelRun0_A.sl.HS1_2 c arg3 harg3 arg4 harg4 x2 x3)) (arg17.view.writes (Elt Ideal) arg17.view.junk (kernelRun0_A.sl.HS2_2 c arg5 harg5 x4)) (arg18.view.writes (Elt Ideal) arg18.view.junk (kernelRun0_A.sl.HS3_2 c arg6 harg6 x5)) carried0 j y 34 (le_refl _)
  rw [initC, zero_add, harg6.read_unread, pad1_eq c arg3 harg3 arg4 harg4 arg16 x2 x3] at h
  exact h

/-- A row of the weights' gradient, as the body stores it. -/
def rowPieceC (S : Fin 3 → FVec Ideal S8x128 .f32) (j : Fin 3) : View.Piece (Elt Ideal) S3x128 .f32 := ⟨rectWC j, k0_pay118 (F := Ideal) (S j)⟩

/-- The rows of the weights' gradient, the last one first. -/
def rowsC (S : Fin 3 → FVec Ideal S8x128 .f32) : List (View.Piece (Elt Ideal) S3x128 .f32) := [rowPieceC S 2, rowPieceC S 1, rowPieceC S 0]

/-- A row stored holds the sum over all rows of the operands, if the carried sums are the sums over the rows of one place in a block. -/
theorem rowsC_read (S : Fin 3 → FVec Ideal S8x128 .f32) (f g : ℕ → Fin 128 → EReal)
    (hS : ∀ j y, S j y = ∑ k ∈ Finset.range 34, ∑ q ∈ Finset.range 8, f (64 * k + (8 * q + (y 0).val)) (y 1) * g (64 * k + (8 * q + (y 0).val) + (j.val + 30)) (y 1)) :
    ∀ p ∈ rowsC S, ∀ x : p.1.shape.Idx, p.2 x = (fun z : S3x128.Idx => ∑ t ∈ Finset.range 2176, f t (z 1) * g (t + ((z 0).val + 30)) (z 1)) (p.1.emb x) := by
  have hrow : ∀ (j : Fin 3) (x : (rowPieceC S j).1.shape.Idx), (rowPieceC S j).2 x
      = (fun z : S3x128.Idx => ∑ t ∈ Finset.range 2176, f t (z 1) * g (t + ((z 0).val + 30)) (z 1)) ((rowPieceC S j).1.emb x) := by
    intro j x
    have hx : (x 0).val < 1 := (x 0).isLt
    have h0 : ((rowPieceC S j).1.emb x 0).val = j.val := by
      show j.val + 1 * (x 0).val = _
      omega
    have h1 : (rowPieceC S j).1.emb x 1 = x 1 := Fin.ext (by
      show 0 + 1 * (x 1).val = _
      omega)
    dsimp only
    rw [h0, h1]
    refine (pay118_apply _ x).trans ?_
    refine Eq.trans ?_ (sum_rows (fun t => f t (x 1) * g (t + (j.val + 30)) (x 1)))
    exact Finset.sum_congr (M := EReal) rfl fun s _ => hS j (ix2 s (x 1))
  intro p hp
  simp only [rowsC, List.mem_cons, List.not_mem_nil, or_false] at hp
  rcases hp with rfl | rfl | rfl <;> exact hrow _

/-- The weights' gradient, at an index: the sum over all rows. -/
theorem outWC_apply (y : S3x128.Idx) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 y = ∑ t ∈ Finset.range 2176, ext x5 t (y 1) * ext (padTop (fun r l => ext x2 r l * ext x3 r l)) (t + ((y 0).val + 30)) (y 1) := by
  unfold out0_A_13
  rw [View.read_writes_junk_eq_canon]
  exact View.canon_apply_of_pieces (Val := Elt Ideal) (e := .f32) (fun z : S3x128.Idx => ∑ t ∈ Finset.range 2176, ext x5 t (z 1) * ext (padTop (fun r l => ext x2 r l * ext x3 r l)) (t + ((z 0).val + 30)) (z 1)) _ (rowsC_read _ (ext x5) (ext (padTop (fun r l => ext x2 r l * ext x3 r l))) (lastC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7)) y (cover0_A_13 ..)

end Cert.KernelIdeal.Gen
-- ==== Proof.ConvValue.lean ====
/- The convolution's backward pass as formulas: the six gradients at an index, by sums of shifted products. -/
module

public import proofs.«01_k».proof.Proof.Gen.KernelIdeal.Value
public import proofs.«01_k».proof.Proof.ConvOut

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

/-- An array read at any row, zero past its rows. -/
def ex {n C : ℕ} (f : (⟨2, ![n, C]⟩ : Shape).Idx → EReal) (r : ℕ) (c : Fin C) : EReal :=
  if h : r < n then f (ix2 ⟨r, h⟩ c) else 0

/-- The gradient before the long convolution. -/
def hDa (D : (⟨2, ![2176, 1024]⟩ : Shape).Idx → EReal) (W : (⟨2, ![31, 1024]⟩ : Shape).Idx → EReal) (r : ℕ) (c : Fin 1024) : EReal :=
  ∑ j ∈ Finset.range 31, ex D (r + (30 - j)) c * ex W j c

/-- The gradient before the short convolution. -/
def hDc (D : (⟨2, ![2176, 1024]⟩ : Shape).Idx → EReal) (W : (⟨2, ![3, 1024]⟩ : Shape).Idx → EReal) (r : ℕ) (c : Fin 1024) : EReal :=
  ∑ j ∈ Finset.range 3, ex D (r + (2 - j)) c * ex W j c

/-- The column of the projection that holds a branch's column. -/
def col (o : ℕ) (ho : o ≤ 4096) (c : Fin 1024) : Fin 9216 := ⟨o + c.val, by have hc := c.isLt; omega⟩

/-- The four gates' operands in the projection: the first factor, its gate, and the two factors of the short branch. -/
def pAv (P : (⟨2, ![2176, 9216]⟩ : Shape).Idx → EReal) (r : ℕ) (c : Fin 1024) : EReal := ex P r (col 0 (by omega) c)
/-- The gate. -/
def pAg (P : (⟨2, ![2176, 9216]⟩ : Shape).Idx → EReal) (r : ℕ) (c : Fin 1024) : EReal := ex P r (col 1024 (by omega) c)
/-- The short branch's first factor. -/
def pCg (P : (⟨2, ![2176, 9216]⟩ : Shape).Idx → EReal) (r : ℕ) (c : Fin 1024) : EReal := ex P r (col 3072 (by omega) c)
/-- The short branch's second factor. -/
def pV (P : (⟨2, ![2176, 9216]⟩ : Shape).Idx → EReal) (r : ℕ) (c : Fin 1024) : EReal := ex P r (col 4096 (by omega) c)

/-- The gradient of the gated factor. -/
def hAv (P : (⟨2, ![2176, 9216]⟩ : Shape).Idx → EReal) (D : (⟨2, ![2176, 1024]⟩ : Shape).Idx → EReal) (W : (⟨2, ![31, 1024]⟩ : Shape).Idx → EReal) (i : S2176x1024.Idx) : EReal :=
  hDa D W (i 0).val (i 1) * sg (pAg P (i 0).val (i 1))

/-- The gradient of the gate. -/
def hAg (P : (⟨2, ![2176, 9216]⟩ : Shape).Idx → EReal) (D : (⟨2, ![2176, 1024]⟩ : Shape).Idx → EReal) (W : (⟨2, ![31, 1024]⟩ : Shape).Idx → EReal) (i : S2176x1024.Idx) : EReal :=
  hDa D W (i 0).val (i 1) * pAv P (i 0).val (i 1) * sg (pAg P (i 0).val (i 1)) * (1 - sg (pAg P (i 0).val (i 1)))

/-- The gradient of the short branch's first factor. -/
def hCg (P : (⟨2, ![2176, 9216]⟩ : Shape).Idx → EReal) (D : (⟨2, ![2176, 1024]⟩ : Shape).Idx → EReal) (W : (⟨2, ![3, 1024]⟩ : Shape).Idx → EReal) (i : S2176x1024.Idx) : EReal :=
  hDc D W (i 0).val (i 1) * pV P (i 0).val (i 1)

/-- The gradient of the short branch's second factor. -/
def hV (P : (⟨2, ![2176, 9216]⟩ : Shape).Idx → EReal) (D : (⟨2, ![2176, 1024]⟩ : Shape).Idx → EReal) (W : (⟨2, ![3, 1024]⟩ : Shape).Idx → EReal) (i : S2176x1024.Idx) : EReal :=
  hDc D W (i 0).val (i 1) * pCg P (i 0).val (i 1)

/-- The gradient of the long convolution's weights. -/
def hWA (P : (⟨2, ![2176, 9216]⟩ : Shape).Idx → EReal) (D : (⟨2, ![2176, 1024]⟩ : Shape).Idx → EReal) (i : S31x1024.Idx) : EReal :=
  ∑ t ∈ Finset.range 2176, ex D t (i 1) * (if t + ((i 0).val + 2) < 32 then 0 else pAv P (t + ((i 0).val + 2) - 32) (i 1) * sg (pAg P (t + ((i 0).val + 2) - 32) (i 1)))

/-- The gradient of the short convolution's weights. -/
def hWC (P : (⟨2, ![2176, 9216]⟩ : Shape).Idx → EReal) (D : (⟨2, ![2176, 1024]⟩ : Shape).Idx → EReal) (i : S3x1024.Idx) : EReal :=
  ∑ t ∈ Finset.range 2176, ex D t (i 1) * (if t + ((i 0).val + 30) < 32 then 0 else pCg P (t + ((i 0).val + 30) - 32) (i 1) * pV P (t + ((i 0).val + 30) - 32) (i 1))

/-- A padded array at a row: zero in its first 32 rows, the array after. -/
theorem ext_padTop (f : ℕ → Fin 128 → EReal) (r : ℕ) (l : Fin 128) (h : r < 2208) : ext (padTop f) r l = if r < 32 then 0 else f (r - 32) l := by
  rw [ext_of_lt _ l h]
  rfl

/-- An array with zeros after it, at a row. -/
theorem ext_padBot (f : (⟨2, ![2176, 128]⟩ : Shape).Idx → EReal) (r : ℕ) (l : Fin 128) : ext (padBot f) r l = ext f r l := by
  by_cases h : r < 2208
  · rw [ext_of_lt _ l h]
    rfl
  · rw [ext_of_ge _ l h, ext_of_ge _ l (by omega)]

variable (m : (ℓ : Loc nD τ sig) → Buf (Elt Ideal) ℓ) (ρ : Dev nD → PrngReg)

/-- The printed index maps, decided over the grid: point `t` takes the `t`-th block of columns of every operand and result. -/
theorem maps : ∀ t : Fin cfg0.N, (win0_0.index t (0 : Fin 2) = 0 ∧ win0_0.index t (1 : Fin 2) = 0 + win0_8.index t (1 : Fin 2))
    ∧ (win0_1.index t (0 : Fin 2) = 0 ∧ win0_1.index t (1 : Fin 2) = 8 + win0_8.index t (1 : Fin 2))
    ∧ (win0_2.index t (0 : Fin 2) = 0 ∧ win0_2.index t (1 : Fin 2) = 24 + win0_8.index t (1 : Fin 2))
    ∧ (win0_3.index t (0 : Fin 2) = 0 ∧ win0_3.index t (1 : Fin 2) = 32 + win0_8.index t (1 : Fin 2))
    ∧ (win0_4.index t (0 : Fin 2) = 0 ∧ win0_4.index t (1 : Fin 2) = 0 + win0_8.index t (1 : Fin 2))
    ∧ (win0_5.index t (0 : Fin 2) = 0 ∧ win0_5.index t (1 : Fin 2) = 0 + win0_8.index t (1 : Fin 2))
    ∧ (win0_6.index t (0 : Fin 2) = 0 ∧ win0_6.index t (1 : Fin 2) = 0 + win0_8.index t (1 : Fin 2))
    ∧ (win0_7.index t (0 : Fin 2) = 0 ∧ win0_7.index t (1 : Fin 2) = 0 + win0_8.index t (1 : Fin 2))
    ∧ (win0_8.index t (0 : Fin 2) = 0 ∧ win0_8.index t (1 : Fin 2) = 0 + win0_8.index t (1 : Fin 2))
    ∧ (win0_9.index t (0 : Fin 2) = 0 ∧ win0_9.index t (1 : Fin 2) = 0 + win0_8.index t (1 : Fin 2))
    ∧ (win0_10.index t (0 : Fin 2) = 0 ∧ win0_10.index t (1 : Fin 2) = 0 + win0_8.index t (1 : Fin 2))
    ∧ (win0_11.index t (0 : Fin 2) = 0 ∧ win0_11.index t (1 : Fin 2) = 0 + win0_8.index t (1 : Fin 2))
    ∧ (win0_12.index t (0 : Fin 2) = 0 ∧ win0_12.index t (1 : Fin 2) = 0 + win0_8.index t (1 : Fin 2))
    ∧ (win0_13.index t (0 : Fin 2) = 0 ∧ win0_13.index t (1 : Fin 2) = 0 + win0_8.index t (1 : Fin 2))
    ∧ win0_8.index t (1 : Fin 2) ≤ 7 :=
  (by decide +kernel : ∀ t : Fin grid0.N, _)

/-- Every block of columns is some point's, and that point writes every result back. -/
theorem onto : ∀ q : Fin 8, ∃ t : Fin cfg0.N, (cfg0.win 8).flush t = true ∧ (cfg0.win 9).flush t = true ∧ (cfg0.win 10).flush t = true ∧ (cfg0.win 11).flush t = true ∧ (cfg0.win 12).flush t = true ∧ (cfg0.win 13).flush t = true ∧ win0_8.index t (1 : Fin 2) = q.val :=
  (by decide +kernel : ∀ q : Fin 8, ∃ t : Fin grid0.N, win0_8.flush t = true ∧ win0_9.flush t = true ∧ win0_10.flush t = true ∧ win0_11.flush t = true ∧ win0_12.flush t = true ∧ win0_13.flush t = true ∧ win0_8.index t (1 : Fin 2) = q.val)

/-- The column of the arrays a point's lane stands for. -/
def lane (t : Fin cfg0.N) (l : Fin 128) : Fin 1024 := ⟨win0_8.index t (1 : Fin 2) * 128 + l.val, by
  obtain ⟨-, -, -, -, -, -, -, -, -, -, -, -, -, -, h⟩ := maps t
  have hl := l.isLt
  omega⟩

/-- A block of columns read at a row and a lane is the array read at the row and the lane's column. -/
theorem ext_ex {n C : ℕ} (X : (⟨2, ![n, C]⟩ : Shape).Idx → EReal) (e : (⟨2, ![n, 128]⟩ : Shape).Idx → (⟨2, ![n, C]⟩ : Shape).Idx) (c : Fin C) (l : Fin 128) (r : ℕ)
    (h0 : ∀ y, (e y 0).val = (y 0).val) (h1 : ∀ y, y 1 = l → (e y 1).val = c.val) : ext (fun y => X (e y)) r l = ex X r c := by
  unfold ex
  by_cases h : r < n
  · rw [ext_of_lt _ l h, dif_pos h]
    refine congrArg X (funext fun a => Fin.ext ?_)
    match a with
    | ⟨0, _⟩ => exact h0 _
    | ⟨1, _⟩ => exact h1 _ rfl
  · rw [ext_of_ge _ l h, dif_neg h]

/-- Operand 0's block at a point, read at a row and a lane. -/
theorem blk0 (c : Dev nD) (t : Fin cfg0.N) (r : ℕ) (l : Fin 128) : ext (n := 2176) (iblk m c 0 t) r l = pAv (m ((c : Thread nD τ).loc main_arg0)) r (lane t l) := by
  obtain ⟨⟨e0, e1⟩, -⟩ := maps t
  exact ext_ex (n := 2176) (V m c main_arg0) ((cfg0.win 0).blk t).view.emb _ l r (fun y => by show win0_0.index t (0 : Fin 2) * 2176 + 1 * (y 0).val = _; omega)
    (fun y hy => by subst hy; show win0_0.index t (1 : Fin 2) * 128 + 1 * (y 1).val = 0 + (win0_8.index t (1 : Fin 2) * 128 + (y 1).val); omega)

/-- Operand 1's block at a point, read at a row and a lane. -/
theorem blk1 (c : Dev nD) (t : Fin cfg0.N) (r : ℕ) (l : Fin 128) : ext (n := 2176) (iblk m c 1 t) r l = pAg (m ((c : Thread nD τ).loc main_arg0)) r (lane t l) := by
  obtain ⟨-, ⟨e0, e1⟩, -⟩ := maps t
  exact ext_ex (n := 2176) (V m c main_arg0) ((cfg0.win 1).blk t).view.emb _ l r (fun y => by show win0_1.index t (0 : Fin 2) * 2176 + 1 * (y 0).val = _; omega)
    (fun y hy => by subst hy; show win0_1.index t (1 : Fin 2) * 128 + 1 * (y 1).val = 1024 + (win0_8.index t (1 : Fin 2) * 128 + (y 1).val); omega)

/-- Operand 2's block at a point, read at a row and a lane. -/
theorem blk2 (c : Dev nD) (t : Fin cfg0.N) (r : ℕ) (l : Fin 128) : ext (n := 2176) (iblk m c 2 t) r l = pCg (m ((c : Thread nD τ).loc main_arg0)) r (lane t l) := by
  obtain ⟨-, -, ⟨e0, e1⟩, -⟩ := maps t
  exact ext_ex (n := 2176) (V m c main_arg0) ((cfg0.win 2).blk t).view.emb _ l r (fun y => by show win0_2.index t (0 : Fin 2) * 2176 + 1 * (y 0).val = _; omega)
    (fun y hy => by subst hy; show win0_2.index t (1 : Fin 2) * 128 + 1 * (y 1).val = 3072 + (win0_8.index t (1 : Fin 2) * 128 + (y 1).val); omega)

/-- Operand 3's block at a point, read at a row and a lane. -/
theorem blk3 (c : Dev nD) (t : Fin cfg0.N) (r : ℕ) (l : Fin 128) : ext (n := 2176) (iblk m c 3 t) r l = pV (m ((c : Thread nD τ).loc main_arg0)) r (lane t l) := by
  obtain ⟨-, -, -, ⟨e0, e1⟩, -⟩ := maps t
  exact ext_ex (n := 2176) (V m c main_arg0) ((cfg0.win 3).blk t).view.emb _ l r (fun y => by show win0_3.index t (0 : Fin 2) * 2176 + 1 * (y 0).val = _; omega)
    (fun y hy => by subst hy; show win0_3.index t (1 : Fin 2) * 128 + 1 * (y 1).val = 4096 + (win0_8.index t (1 : Fin 2) * 128 + (y 1).val); omega)

/-- Operand 4's block at a point, read at a row and a lane. -/
theorem blk4 (c : Dev nD) (t : Fin cfg0.N) (r : ℕ) (l : Fin 128) : ext (n := 2176) (iblk m c 4 t) r l = ex (m ((c : Thread nD τ).loc main_arg1)) r (lane t l) := by
  obtain ⟨-, -, -, -, ⟨e0, e1⟩, -⟩ := maps t
  exact ext_ex (n := 2176) (V m c main_arg1) ((cfg0.win 4).blk t).view.emb _ l r (fun y => by show win0_4.index t (0 : Fin 2) * 2176 + 1 * (y 0).val = _; omega)
    (fun y hy => by subst hy; show win0_4.index t (1 : Fin 2) * 128 + 1 * (y 1).val = win0_8.index t (1 : Fin 2) * 128 + (y 1).val; omega)

/-- Operand 5's block at a point, read at a row and a lane. -/
theorem blk5 (c : Dev nD) (t : Fin cfg0.N) (r : ℕ) (l : Fin 128) : ext (n := 2176) (iblk m c 5 t) r l = ex (m ((c : Thread nD τ).loc main_arg2)) r (lane t l) := by
  obtain ⟨-, -, -, -, -, ⟨e0, e1⟩, -⟩ := maps t
  exact ext_ex (n := 2176) (V m c main_arg2) ((cfg0.win 5).blk t).view.emb _ l r (fun y => by show win0_5.index t (0 : Fin 2) * 2176 + 1 * (y 0).val = _; omega)
    (fun y hy => by subst hy; show win0_5.index t (1 : Fin 2) * 128 + 1 * (y 1).val = win0_8.index t (1 : Fin 2) * 128 + (y 1).val; omega)

/-- Operand 6's block at a point, read at a row and a lane. -/
theorem blk6 (c : Dev nD) (t : Fin cfg0.N) (r : ℕ) (l : Fin 128) : ext (n := 31) (iblk m c 6 t) r l = ex (m ((c : Thread nD τ).loc main_arg3)) r (lane t l) := by
  obtain ⟨-, -, -, -, -, -, ⟨e0, e1⟩, -⟩ := maps t
  exact ext_ex (n := 31) (V m c main_arg3) ((cfg0.win 6).blk t).view.emb _ l r (fun y => by show win0_6.index t (0 : Fin 2) * 31 + 1 * (y 0).val = _; omega)
    (fun y hy => by subst hy; show win0_6.index t (1 : Fin 2) * 128 + 1 * (y 1).val = win0_8.index t (1 : Fin 2) * 128 + (y 1).val; omega)

/-- Operand 7's block at a point, read at a row and a lane. -/
theorem blk7 (c : Dev nD) (t : Fin cfg0.N) (r : ℕ) (l : Fin 128) : ext (n := 3) (iblk m c 7 t) r l = ex (m ((c : Thread nD τ).loc main_arg4)) r (lane t l) := by
  obtain ⟨-, -, -, -, -, -, -, ⟨e0, e1⟩, -⟩ := maps t
  exact ext_ex (n := 3) (V m c main_arg4) ((cfg0.win 7).blk t).view.emb _ l r (fun y => by show win0_7.index t (0 : Fin 2) * 3 + 1 * (y 0).val = _; omega)
    (fun y hy => by subst hy; show win0_7.index t (1 : Fin 2) * 128 + 1 * (y 1).val = win0_8.index t (1 : Fin 2) * 128 + (y 1).val; omega)

/-- The gradient before the long convolution, at a point's lane. -/
theorem da_blk (c : Dev nD) (t : Fin cfg0.N) (r : ℕ) (l : Fin 128) :
    daF (padBot (iblk m c 4 t)) (iblk m c 6 t) r l = hDa (m ((c : Thread nD τ).loc main_arg1)) (m ((c : Thread nD τ).loc main_arg3)) r (lane t l) := by
  unfold daF hDa
  refine Finset.sum_congr rfl fun j _ => ?_
  rw [ext_padBot]
  exact congrArg₂ HMul.hMul (blk4 m c t _ l) (blk6 m c t _ l)

/-- The gradient before the short convolution, at a point's lane. -/
theorem dc_blk (c : Dev nD) (t : Fin cfg0.N) (r : ℕ) (l : Fin 128) :
    dcF (padBot (iblk m c 5 t)) (iblk m c 7 t) r l = hDc (m ((c : Thread nD τ).loc main_arg2)) (m ((c : Thread nD τ).loc main_arg4)) r (lane t l) := by
  unfold dcF hDc
  refine Finset.sum_congr rfl fun j _ => ?_
  rw [ext_padBot]
  exact congrArg₂ HMul.hMul (blk5 m c t _ l) (blk7 m c t _ l)

/-- The gated factor's gradient at a point's lane. -/
theorem av_blk (c : Dev nD) (t : Fin cfg0.N) (r : ℕ) (l : Fin 128) :
    gAv (iblk m c 1 t) (iblk m c 6 t) (padBot (iblk m c 4 t)) r l = hDa (m ((c : Thread nD τ).loc main_arg1)) (m ((c : Thread nD τ).loc main_arg3)) r (lane t l) * sg (pAg (m ((c : Thread nD τ).loc main_arg0)) r (lane t l)) := by
  unfold gAv; rw [da_blk, blk1]

/-- The gate's gradient at a point's lane. -/
theorem ag_blk (c : Dev nD) (t : Fin cfg0.N) (r : ℕ) (l : Fin 128) :
    gAg (iblk m c 0 t) (iblk m c 1 t) (iblk m c 6 t) (padBot (iblk m c 4 t)) r l = hDa (m ((c : Thread nD τ).loc main_arg1)) (m ((c : Thread nD τ).loc main_arg3)) r (lane t l) * pAv (m ((c : Thread nD τ).loc main_arg0)) r (lane t l) * sg (pAg (m ((c : Thread nD τ).loc main_arg0)) r (lane t l)) * (1 - sg (pAg (m ((c : Thread nD τ).loc main_arg0)) r (lane t l))) := by
  unfold gAg; rw [da_blk, blk0, blk1]

/-- The short branch's first gradient at a point's lane. -/
theorem cg_blk (c : Dev nD) (t : Fin cfg0.N) (r : ℕ) (l : Fin 128) :
    gC (iblk m c 3 t) (iblk m c 7 t) (padBot (iblk m c 5 t)) r l = hDc (m ((c : Thread nD τ).loc main_arg2)) (m ((c : Thread nD τ).loc main_arg4)) r (lane t l) * pV (m ((c : Thread nD τ).loc main_arg0)) r (lane t l) := by
  unfold gC; rw [dc_blk, blk3]

/-- The short branch's second gradient at a point's lane. -/
theorem v_blk (c : Dev nD) (t : Fin cfg0.N) (r : ℕ) (l : Fin 128) :
    gC (iblk m c 2 t) (iblk m c 7 t) (padBot (iblk m c 5 t)) r l = hDc (m ((c : Thread nD τ).loc main_arg2)) (m ((c : Thread nD τ).loc main_arg4)) r (lane t l) * pCg (m ((c : Thread nD τ).loc main_arg0)) r (lane t l) := by
  unfold gC; rw [dc_blk, blk2]

/-- The padded long branch at a point's lane. -/
theorem awin_blk (c : Dev nD) (t : Fin cfg0.N) (r : ℕ) (l : Fin 128) (h : r < 2208) :
    ext (padTop (fun r l => ext (n := 2176) (iblk m c 0 t) r l * sg (ext (n := 2176) (iblk m c 1 t) r l))) r l = if r < 32 then 0 else pAv (m ((c : Thread nD τ).loc main_arg0)) (r - 32) (lane t l) * sg (pAg (m ((c : Thread nD τ).loc main_arg0)) (r - 32) (lane t l)) := by
  rw [ext_padTop _ _ _ h, blk0, blk1]

/-- The padded short branch at a point's lane. -/
theorem cwin_blk (c : Dev nD) (t : Fin cfg0.N) (r : ℕ) (l : Fin 128) (h : r < 2208) :
    ext (padTop (fun r l => ext (n := 2176) (iblk m c 2 t) r l * ext (n := 2176) (iblk m c 3 t) r l)) r l = if r < 32 then 0 else pCg (m ((c : Thread nD τ).loc main_arg0)) (r - 32) (lane t l) * pV (m ((c : Thread nD τ).loc main_arg0)) (r - 32) (lane t l) := by
  rw [ext_padTop _ _ _ h, blk2, blk3]

/-- What a point writes back of result 0 is its block of the formula. -/
theorem flushed8_eq (c : Dev nD) (t : Fin cfg0.N) :
    (dats m 0 c).flushed 8 t = ((cfg0.win 8).blk t).view.read (Elt Ideal) (hAv (m ((c : Thread nD τ).loc main_arg0)) (m ((c : Thread nD τ).loc main_arg1)) (m ((c : Thread nD τ).loc main_arg3))) := by
  rw [flushed8_A]
  obtain ⟨-, -, -, -, -, -, -, -, ⟨e0, e1⟩, -⟩ := maps t
  funext y
  show _ = (hAv (m ((c : Thread nD τ).loc main_arg0)) (m ((c : Thread nD τ).loc main_arg1)) (m ((c : Thread nD τ).loc main_arg3))) (((cfg0.win 8).blk t).view.emb y)
  have h0 : (((cfg0.win 8).blk t).view.emb y 0).val = (y 0).val := by
    show win0_8.index t (0 : Fin 2) * 2176 + 1 * (y 0).val = (y 0).val
    omega
  have h1 : ((cfg0.win 8).blk t).view.emb y 1 = lane t (y 1) := Fin.ext (by
    show win0_8.index t (1 : Fin 2) * 128 + 1 * (y 1).val = win0_8.index t (1 : Fin 2) * 128 + (y 1).val
    omega)
  unfold hAv
  rw [h0, h1]
  refine (out0_apply (y := y) ..).trans ?_
  exact av_blk m c t _ _

/-- Result 0 after the run. -/
theorem final8 (c : Dev nD) : (dats m 0 c).arrAt 8 cfg0.N = (hAv (m ((c : Thread nD τ).loc main_arg0)) (m ((c : Thread nD τ).loc main_arg1)) (m ((c : Thread nD τ).loc main_arg3))) := by
  refine (dats m 0 c).arrAt_eq_of_cover 8 _ (fun t _ => flushed8_eq m c t) (fun (i : S2176x1024.Idx) => ?_)
  have hi0 : (i 0).val < 2176 := (i 0).isLt
  have hi1 : (i 1).val < 1024 := (i 1).isLt
  obtain ⟨t, hf, -, -, -, -, -, ht⟩ := onto ⟨(i 1).val / 128, by omega⟩
  obtain ⟨-, -, -, -, -, -, -, -, ⟨e0, e1⟩, -⟩ := maps t
  have ht' : win0_8.index t (1 : Fin 2) = (i 1).val / 128 := ht
  refine ⟨t, hf, ?_⟩
  show i ∈ ((View.whole main_v0_0).slice (win0_8.rect t)).set
  rw [View.set_slice_whole, Rect.mem_set_unit]
  intro a
  match a with
  | ⟨0, _⟩ => show win0_8.index t (0 : Fin 2) * 2176 ≤ (i 0).val ∧ (i 0).val < win0_8.index t (0 : Fin 2) * 2176 + 2176; omega
  | ⟨1, _⟩ => show win0_8.index t (1 : Fin 2) * 128 ≤ (i 1).val ∧ (i 1).val < win0_8.index t (1 : Fin 2) * 128 + 128; omega

/-- What a point writes back of result 1 is its block of the formula. -/
theorem flushed9_eq (c : Dev nD) (t : Fin cfg0.N) :
    (dats m 0 c).flushed 9 t = ((cfg0.win 9).blk t).view.read (Elt Ideal) (hAg (m ((c : Thread nD τ).loc main_arg0)) (m ((c : Thread nD τ).loc main_arg1)) (m ((c : Thread nD τ).loc main_arg3))) := by
  rw [flushed9_A]
  obtain ⟨-, -, -, -, -, -, -, -, -, ⟨e0, e1⟩, -⟩ := maps t
  funext y
  show _ = (hAg (m ((c : Thread nD τ).loc main_arg0)) (m ((c : Thread nD τ).loc main_arg1)) (m ((c : Thread nD τ).loc main_arg3))) (((cfg0.win 9).blk t).view.emb y)
  have h0 : (((cfg0.win 9).blk t).view.emb y 0).val = (y 0).val := by
    show win0_9.index t (0 : Fin 2) * 2176 + 1 * (y 0).val = (y 0).val
    omega
  have h1 : ((cfg0.win 9).blk t).view.emb y 1 = lane t (y 1) := Fin.ext (by
    show win0_9.index t (1 : Fin 2) * 128 + 1 * (y 1).val = win0_8.index t (1 : Fin 2) * 128 + (y 1).val
    omega)
  unfold hAg
  rw [h0, h1]
  refine (out1_apply (y := y) ..).trans ?_
  exact ag_blk m c t _ _

/-- Result 1 after the run. -/
theorem final9 (c : Dev nD) : (dats m 0 c).arrAt 9 cfg0.N = (hAg (m ((c : Thread nD τ).loc main_arg0)) (m ((c : Thread nD τ).loc main_arg1)) (m ((c : Thread nD τ).loc main_arg3))) := by
  refine (dats m 0 c).arrAt_eq_of_cover 9 _ (fun t _ => flushed9_eq m c t) (fun (i : S2176x1024.Idx) => ?_)
  have hi0 : (i 0).val < 2176 := (i 0).isLt
  have hi1 : (i 1).val < 1024 := (i 1).isLt
  obtain ⟨t, -, hf, -, -, -, -, ht⟩ := onto ⟨(i 1).val / 128, by omega⟩
  obtain ⟨-, -, -, -, -, -, -, -, -, ⟨e0, e1⟩, -⟩ := maps t
  have ht' : win0_8.index t (1 : Fin 2) = (i 1).val / 128 := ht
  refine ⟨t, hf, ?_⟩
  show i ∈ ((View.whole main_v0_1).slice (win0_9.rect t)).set
  rw [View.set_slice_whole, Rect.mem_set_unit]
  intro a
  match a with
  | ⟨0, _⟩ => show win0_9.index t (0 : Fin 2) * 2176 ≤ (i 0).val ∧ (i 0).val < win0_9.index t (0 : Fin 2) * 2176 + 2176; omega
  | ⟨1, _⟩ => show win0_9.index t (1 : Fin 2) * 128 ≤ (i 1).val ∧ (i 1).val < win0_9.index t (1 : Fin 2) * 128 + 128; omega

/-- What a point writes back of result 2 is its block of the formula. -/
theorem flushed10_eq (c : Dev nD) (t : Fin cfg0.N) :
    (dats m 0 c).flushed 10 t = ((cfg0.win 10).blk t).view.read (Elt Ideal) (hCg (m ((c : Thread nD τ).loc main_arg0)) (m ((c : Thread nD τ).loc main_arg2)) (m ((c : Thread nD τ).loc main_arg4))) := by
  rw [flushed10_A]
  obtain ⟨-, -, -, -, -, -, -, -, -, -, ⟨e0, e1⟩, -⟩ := maps t
  funext y
  show _ = (hCg (m ((c : Thread nD τ).loc main_arg0)) (m ((c : Thread nD τ).loc main_arg2)) (m ((c : Thread nD τ).loc main_arg4))) (((cfg0.win 10).blk t).view.emb y)
  have h0 : (((cfg0.win 10).blk t).view.emb y 0).val = (y 0).val := by
    show win0_10.index t (0 : Fin 2) * 2176 + 1 * (y 0).val = (y 0).val
    omega
  have h1 : ((cfg0.win 10).blk t).view.emb y 1 = lane t (y 1) := Fin.ext (by
    show win0_10.index t (1 : Fin 2) * 128 + 1 * (y 1).val = win0_8.index t (1 : Fin 2) * 128 + (y 1).val
    omega)
  unfold hCg
  rw [h0, h1]
  refine (out2_apply (y := y) ..).trans ?_
  exact cg_blk m c t _ _

/-- Result 2 after the run. -/
theorem final10 (c : Dev nD) : (dats m 0 c).arrAt 10 cfg0.N = (hCg (m ((c : Thread nD τ).loc main_arg0)) (m ((c : Thread nD τ).loc main_arg2)) (m ((c : Thread nD τ).loc main_arg4))) := by
  refine (dats m 0 c).arrAt_eq_of_cover 10 _ (fun t _ => flushed10_eq m c t) (fun (i : S2176x1024.Idx) => ?_)
  have hi0 : (i 0).val < 2176 := (i 0).isLt
  have hi1 : (i 1).val < 1024 := (i 1).isLt
  obtain ⟨t, -, -, hf, -, -, -, ht⟩ := onto ⟨(i 1).val / 128, by omega⟩
  obtain ⟨-, -, -, -, -, -, -, -, -, -, ⟨e0, e1⟩, -⟩ := maps t
  have ht' : win0_8.index t (1 : Fin 2) = (i 1).val / 128 := ht
  refine ⟨t, hf, ?_⟩
  show i ∈ ((View.whole main_v0_2).slice (win0_10.rect t)).set
  rw [View.set_slice_whole, Rect.mem_set_unit]
  intro a
  match a with
  | ⟨0, _⟩ => show win0_10.index t (0 : Fin 2) * 2176 ≤ (i 0).val ∧ (i 0).val < win0_10.index t (0 : Fin 2) * 2176 + 2176; omega
  | ⟨1, _⟩ => show win0_10.index t (1 : Fin 2) * 128 ≤ (i 1).val ∧ (i 1).val < win0_10.index t (1 : Fin 2) * 128 + 128; omega

/-- What a point writes back of result 3 is its block of the formula. -/
theorem flushed11_eq (c : Dev nD) (t : Fin cfg0.N) :
    (dats m 0 c).flushed 11 t = ((cfg0.win 11).blk t).view.read (Elt Ideal) (hV (m ((c : Thread nD τ).loc main_arg0)) (m ((c : Thread nD τ).loc main_arg2)) (m ((c : Thread nD τ).loc main_arg4))) := by
  rw [flushed11_A]
  obtain ⟨-, -, -, -, -, -, -, -, -, -, -, ⟨e0, e1⟩, -⟩ := maps t
  funext y
  show _ = (hV (m ((c : Thread nD τ).loc main_arg0)) (m ((c : Thread nD τ).loc main_arg2)) (m ((c : Thread nD τ).loc main_arg4))) (((cfg0.win 11).blk t).view.emb y)
  have h0 : (((cfg0.win 11).blk t).view.emb y 0).val = (y 0).val := by
    show win0_11.index t (0 : Fin 2) * 2176 + 1 * (y 0).val = (y 0).val
    omega
  have h1 : ((cfg0.win 11).blk t).view.emb y 1 = lane t (y 1) := Fin.ext (by
    show win0_11.index t (1 : Fin 2) * 128 + 1 * (y 1).val = win0_8.index t (1 : Fin 2) * 128 + (y 1).val
    omega)
  unfold hV
  rw [h0, h1]
  refine (out3_apply (y := y) ..).trans ?_
  exact v_blk m c t _ _

/-- Result 3 after the run. -/
theorem final11 (c : Dev nD) : (dats m 0 c).arrAt 11 cfg0.N = (hV (m ((c : Thread nD τ).loc main_arg0)) (m ((c : Thread nD τ).loc main_arg2)) (m ((c : Thread nD τ).loc main_arg4))) := by
  refine (dats m 0 c).arrAt_eq_of_cover 11 _ (fun t _ => flushed11_eq m c t) (fun (i : S2176x1024.Idx) => ?_)
  have hi0 : (i 0).val < 2176 := (i 0).isLt
  have hi1 : (i 1).val < 1024 := (i 1).isLt
  obtain ⟨t, -, -, -, hf, -, -, ht⟩ := onto ⟨(i 1).val / 128, by omega⟩
  obtain ⟨-, -, -, -, -, -, -, -, -, -, -, ⟨e0, e1⟩, -⟩ := maps t
  have ht' : win0_8.index t (1 : Fin 2) = (i 1).val / 128 := ht
  refine ⟨t, hf, ?_⟩
  show i ∈ ((View.whole main_v0_3).slice (win0_11.rect t)).set
  rw [View.set_slice_whole, Rect.mem_set_unit]
  intro a
  match a with
  | ⟨0, _⟩ => show win0_11.index t (0 : Fin 2) * 2176 ≤ (i 0).val ∧ (i 0).val < win0_11.index t (0 : Fin 2) * 2176 + 2176; omega
  | ⟨1, _⟩ => show win0_11.index t (1 : Fin 2) * 128 ≤ (i 1).val ∧ (i 1).val < win0_11.index t (1 : Fin 2) * 128 + 128; omega

/-- What a point writes back of result 4 is its block of the formula. -/
theorem flushed12_eq (c : Dev nD) (t : Fin cfg0.N) :
    (dats m 0 c).flushed 12 t = ((cfg0.win 12).blk t).view.read (Elt Ideal) (hWA (m ((c : Thread nD τ).loc main_arg0)) (m ((c : Thread nD τ).loc main_arg1))) := by
  rw [flushed12_A]
  obtain ⟨-, -, -, -, -, -, -, -, -, -, -, -, ⟨e0, e1⟩, -⟩ := maps t
  funext y
  show _ = (hWA (m ((c : Thread nD τ).loc main_arg0)) (m ((c : Thread nD τ).loc main_arg1))) (((cfg0.win 12).blk t).view.emb y)
  have h0 : (((cfg0.win 12).blk t).view.emb y 0).val = (y 0).val := by
    show win0_12.index t (0 : Fin 2) * 31 + 1 * (y 0).val = (y 0).val
    omega
  have h1 : ((cfg0.win 12).blk t).view.emb y 1 = lane t (y 1) := Fin.ext (by
    show win0_12.index t (1 : Fin 2) * 128 + 1 * (y 1).val = win0_8.index t (1 : Fin 2) * 128 + (y 1).val
    omega)
  unfold hWA
  rw [h0, h1]
  refine (outWA_apply (y := y) ..).trans ?_
  have hy : (y 0).val < 31 := (y 0).isLt
  refine Finset.sum_congr rfl fun r hr => ?_
  have hr' := Finset.mem_range.mp hr
  refine congrArg₂ HMul.hMul (blk4 m c t r (y 1)) ?_
  exact awin_blk m c t _ (y 1) (by omega)

/-- Result 4 after the run. -/
theorem final12 (c : Dev nD) : (dats m 0 c).arrAt 12 cfg0.N = (hWA (m ((c : Thread nD τ).loc main_arg0)) (m ((c : Thread nD τ).loc main_arg1))) := by
  refine (dats m 0 c).arrAt_eq_of_cover 12 _ (fun t _ => flushed12_eq m c t) (fun (i : S31x1024.Idx) => ?_)
  have hi0 : (i 0).val < 31 := (i 0).isLt
  have hi1 : (i 1).val < 1024 := (i 1).isLt
  obtain ⟨t, -, -, -, -, hf, -, ht⟩ := onto ⟨(i 1).val / 128, by omega⟩
  obtain ⟨-, -, -, -, -, -, -, -, -, -, -, -, ⟨e0, e1⟩, -⟩ := maps t
  have ht' : win0_8.index t (1 : Fin 2) = (i 1).val / 128 := ht
  refine ⟨t, hf, ?_⟩
  show i ∈ ((View.whole main_v0_4).slice (win0_12.rect t)).set
  rw [View.set_slice_whole, Rect.mem_set_unit]
  intro a
  match a with
  | ⟨0, _⟩ => show win0_12.index t (0 : Fin 2) * 31 ≤ (i 0).val ∧ (i 0).val < win0_12.index t (0 : Fin 2) * 31 + 31; omega
  | ⟨1, _⟩ => show win0_12.index t (1 : Fin 2) * 128 ≤ (i 1).val ∧ (i 1).val < win0_12.index t (1 : Fin 2) * 128 + 128; omega

/-- What a point writes back of result 5 is its block of the formula. -/
theorem flushed13_eq (c : Dev nD) (t : Fin cfg0.N) :
    (dats m 0 c).flushed 13 t = ((cfg0.win 13).blk t).view.read (Elt Ideal) (hWC (m ((c : Thread nD τ).loc main_arg0)) (m ((c : Thread nD τ).loc main_arg2))) := by
  rw [flushed13_A]
  obtain ⟨-, -, -, -, -, -, -, -, -, -, -, -, -, ⟨e0, e1⟩, -⟩ := maps t
  funext y
  show _ = (hWC (m ((c : Thread nD τ).loc main_arg0)) (m ((c : Thread nD τ).loc main_arg2))) (((cfg0.win 13).blk t).view.emb y)
  have h0 : (((cfg0.win 13).blk t).view.emb y 0).val = (y 0).val := by
    show win0_13.index t (0 : Fin 2) * 3 + 1 * (y 0).val = (y 0).val
    omega
  have h1 : ((cfg0.win 13).blk t).view.emb y 1 = lane t (y 1) := Fin.ext (by
    show win0_13.index t (1 : Fin 2) * 128 + 1 * (y 1).val = win0_8.index t (1 : Fin 2) * 128 + (y 1).val
    omega)
  unfold hWC
  rw [h0, h1]
  refine (outWC_apply (y := y) ..).trans ?_
  have hy : (y 0).val < 3 := (y 0).isLt
  refine Finset.sum_congr rfl fun r hr => ?_
  have hr' := Finset.mem_range.mp hr
  refine congrArg₂ HMul.hMul (blk5 m c t r (y 1)) ?_
  exact cwin_blk m c t _ (y 1) (by omega)

/-- Result 5 after the run. -/
theorem final13 (c : Dev nD) : (dats m 0 c).arrAt 13 cfg0.N = (hWC (m ((c : Thread nD τ).loc main_arg0)) (m ((c : Thread nD τ).loc main_arg2))) := by
  refine (dats m 0 c).arrAt_eq_of_cover 13 _ (fun t _ => flushed13_eq m c t) (fun (i : S3x1024.Idx) => ?_)
  have hi0 : (i 0).val < 3 := (i 0).isLt
  have hi1 : (i 1).val < 1024 := (i 1).isLt
  obtain ⟨t, -, -, -, -, -, hf, ht⟩ := onto ⟨(i 1).val / 128, by omega⟩
  obtain ⟨-, -, -, -, -, -, -, -, -, -, -, -, -, ⟨e0, e1⟩, -⟩ := maps t
  have ht' : win0_8.index t (1 : Fin 2) = (i 1).val / 128 := ht
  refine ⟨t, hf, ?_⟩
  show i ∈ ((View.whole main_v0_5).slice (win0_13.rect t)).set
  rw [View.set_slice_whole, Rect.mem_set_unit]
  intro a
  match a with
  | ⟨0, _⟩ => show win0_13.index t (0 : Fin 2) * 3 ≤ (i 0).val ∧ (i 0).val < win0_13.index t (0 : Fin 2) * 3 + 3; omega
  | ⟨1, _⟩ => show win0_13.index t (1 : Fin 2) * 128 ≤ (i 1).val ∧ (i 1).val < win0_13.index t (1 : Fin 2) * 128 + 128; omega

end Cert.KernelIdeal.Value
-- ==== Proof.ConvRef.lean ====
/- The reference's backward pass of the two convolutions, read at an index: the same sums of shifted products as the kernel's. -/
module

public import proofs.«01_k».proof.Proof.ConvValue
public import proofs.«01_k».proof.Proof.Gen.ReferenceIdeal.Run
public import proofs.«01_k».proof.Proof.Gen.ReferenceIdeal.Read
public import Idealize.ShloMosaic.Lib.KernelVsHost

@[expose] public section

set_option maxRecDepth 16384

noncomputable section

namespace Cert.ReferenceIdeal.Read

open Cert.ReferenceIdeal Cert.ReferenceIdeal.Gen Idealize.ShloMosaic Idealize.ShloMosaic.TcCoe
open Idealize.ShloMosaic.ValueIdx hiding ix2
open Cert.KernelIdeal.Value (ex hDa hDc col pAv pAg pCg pV hAv hAg hCg hV hWA hWC)
open Cert.KernelIdeal.Gen (sg)

/-- Reading in range is reading. -/
theorem ex_lt {n C : ℕ} (f : (⟨2, ![n, C]⟩ : Shape).Idx → EReal) (r : ℕ) (c : Fin C) (h : r < n) : ex f r c = f (ix2 ⟨r, h⟩ c) := dif_pos h

/-- Reading past the rows gives zero. -/
theorem ex_ge {n C : ℕ} (f : (⟨2, ![n, C]⟩ : Shape).Idx → EReal) (r : ℕ) (c : Fin C) (h : ¬ r < n) : ex f r c = 0 := dif_neg h

/-- An array at an index is its reading at the index's coordinates. -/
theorem ex_at {n C : ℕ} (f : (⟨2, ![n, C]⟩ : Shape).Idx → EReal) (r : ℕ) (c : Fin C) (i : (⟨2, ![n, C]⟩ : Shape).Idx) (h0 : (i 0).val = r) (h1 : (i 1).val = c.val) : f i = ex f r c := by
  have hr : r < n := h0 ▸ (i 0).isLt
  rw [ex_lt f r c hr]
  refine congrArg f (funext fun a => ?_)
  match a with
  | ⟨0, _⟩ => exact Fin.ext h0
  | ⟨1, _⟩ => exact Fin.ext h1

/-- A product with a row's weights, read anywhere. -/
theorem ex_mul {n : ℕ} (X D : (⟨2, ![n, 1024]⟩ : Shape).Idx → EReal) (w : Fin 1024 → EReal) (h : ∀ (r : Fin n) (c : Fin 1024), X (ix2 r c) = D (ix2 r c) * w c) (r : ℕ) (c : Fin 1024) :
    ex X r c = ex D r c * w c := by
  by_cases hr : r < n
  · rw [ex_lt _ _ _ hr, ex_lt _ _ _ hr, h]
  · rw [ex_ge _ _ _ hr, ex_ge _ _ _ hr, zero_mul]

/-- The zero pattern. -/
theorem zbits : (FloatOps.ofBits .f32 0x00000000#32 : Ideal .f32) = (0 : EReal) := by
  show Ideal.ofBits .f32 0x00000000#32 = 0
  simp [Ideal.ofBits, Ideal.ieee]

/-- Rows moved down by `k`, read `L` rows down: the row `L - k` further on. -/
theorem pad_shift {N L : ℕ} (k : ℕ) (hk : k ≤ L) (hi : Fin 2 → ℕ) (X : S2176x1024.Idx → EReal) (z : S_.Idx → EReal) (hz : z (Shape.Idx.first h_S_) = 0)
    (hp : Shape.Pads S2176x1024 ![k, 0] hi ![0, 0] (⟨2, ![N, 1024]⟩ : Shape)) (i : (⟨2, ![N, 1024]⟩ : Shape).Idx) (r : ℕ) (c : Fin 1024) (h0 : (i 0).val = L + r) (h1 : i 1 = c) :
    pad (⟨2, ![N, 1024]⟩ : Shape) ![k, 0] hi ![0, 0] X z hp h_S_ i = ex X (r + (L - k)) c := by
  by_cases h : r + (L - k) < 2176
  · rw [ex_lt _ _ _ h]
    refine pad_apply_of_inside _ _ _ X z hp h_S_ i (ix2 ⟨r + (L - k), h⟩ c) (fun a => ?_)
    match a with
    | ⟨0, _⟩ => show (i 0).val = k + (r + (L - k)) * (0 + 1); omega
    | ⟨1, _⟩ => show (i 1).val = 0 + c.val * (0 + 1); rw [h1]; omega
  · rw [ex_ge _ _ _ h]
    refine (pad_apply_of_not_inside _ _ _ X z hp h_S_ i (0 : Fin 2) ?_).trans hz
    rintro ⟨-, -, h2⟩
    have h3 : ((i 0).val - k) / (0 + 1) < 2176 := h2
    rw [Nat.zero_add, Nat.div_one] at h3
    omega

/-- One row put at row `k`. -/
theorem pad_row {N : ℕ} (k : ℕ) (hi : Fin 2 → ℕ) (X : S1x1024.Idx → EReal) (z : S_.Idx → EReal) (hz : z (Shape.Idx.first h_S_) = 0)
    (hp : Shape.Pads S1x1024 ![k, 0] hi ![0, 0] (⟨2, ![N, 1024]⟩ : Shape)) (i : (⟨2, ![N, 1024]⟩ : Shape).Idx) :
    pad (⟨2, ![N, 1024]⟩ : Shape) ![k, 0] hi ![0, 0] X z hp h_S_ i = if (i 0).val = k then X (ix2 0 (i 1)) else 0 := by
  by_cases h : (i 0).val = k
  · rw [if_pos h]
    refine pad_apply_of_inside _ _ _ X z hp h_S_ i (ix2 0 (i 1)) (fun a => ?_)
    match a with
    | ⟨0, _⟩ => show (i 0).val = k + 0 * (0 + 1); omega
    | ⟨1, _⟩ => show (i 1).val = 0 + (i 1).val * (0 + 1); omega
  · rw [if_neg h]
    refine (pad_apply_of_not_inside _ _ _ X z hp h_S_ i (0 : Fin 2) ?_).trans hz
    rintro ⟨h1, -, h2⟩
    have h3 : ((i 0).val - k) / (0 + 1) < 1 := h2
    have h4 : k ≤ (i 0).val := h1
    rw [Nat.zero_add, Nat.div_one] at h3
    omega

/-- A row of weights, put beside every row. -/
theorem wrow {n : ℕ} (k : ℕ) (hk : k < n) (W : (⟨2, ![n, 1024]⟩ : Shape).Idx → EReal) (hw : Shape.Slices (⟨2, ![n, 1024]⟩ : Shape) ![k, 0] S1x1024) (hb : S1x1024.BroadcastsInDim S2176x1024 ![0, 1]) (i : S2176x1024.Idx) :
    broadcastInDim S2176x1024 ![0, 1] hb (extractStridedSlice S1x1024 ![k, 0] W hw) i = ex W k (i 1) := by
  refine ((broadcastInDim_apply _ hb (extractStridedSlice S1x1024 ![k, 0] W hw) i (ix2 (n0 := 1) (n1 := 1024) 0 (i 1)) (fun a => ?_)).trans
    (extractStridedSlice_apply ![k, 0] W hw _ (ix2 (n0 := n) (n1 := 1024) ⟨k, hk⟩ (i 1)) (fun a => ?_))).trans (ex_at W _ _ _ rfl rfl)
  · match a with
    | ⟨0, _⟩ => rfl
    | ⟨1, _⟩ => rfl
  · match a with
    | ⟨0, _⟩ => rfl
    | ⟨1, _⟩ => show (i 1).val = 0 + (i 1).val; omega

/-- Rows from the `k`-th on. -/
theorem rows {N : ℕ} (k : ℕ) (X : (⟨2, ![N, 1024]⟩ : Shape).Idx → EReal) (hx : Shape.Slices (⟨2, ![N, 1024]⟩ : Shape) ![k, 0] S2176x1024) (i : S2176x1024.Idx) :
    extractStridedSlice S2176x1024 ![k, 0] X hx i = ex X (k + (i 0).val) (i 1) :=
  ex_at X _ _ _ rfl (by show 0 + (i 1).val = (i 1).val; omega)

/-- A cast to the same shape changes nothing. -/
theorem same (X : S2176x1024.Idx → EReal) (h : S2176x1024.ShapeCasts S2176x1024) (i : S2176x1024.Idx) : shapeCast S2176x1024 X h i = X i :=
  shapeCast_apply X h i i rfl

/-- The first of a sum's terms. -/
theorem addFirst (f : ℕ → EReal) {a : EReal} (h : a = f 0) : a = ∑ j ∈ Finset.range 1, f j := h.trans (Finset.sum_range_one f).symm

/-- One more term. -/
theorem addStep (f : ℕ → EReal) (n : ℕ) {a t : EReal} (ha : a = ∑ j ∈ Finset.range n, f j) (ht : t = f n) : FloatOps.addf (F := Ideal) (φ := .f32) a t = ∑ j ∈ Finset.range (n + 1), f j := by
  rw [Finset.sum_range_succ, ← ha, ← ht]
  rfl

/-- One term of the gradient before a convolution: the rows times a row of weights, moved. -/
theorem term {N n : ℕ} (L k : ℕ) (hk : k ≤ L) (hn : k < n) (D : S2176x1024.Idx → EReal) (W : (⟨2, ![n, 1024]⟩ : Shape).Idx → EReal) (hi : Fin 2 → ℕ) (z : S_.Idx → EReal) (hz : z (Shape.Idx.first h_S_) = 0)
    (hp : Shape.Pads S2176x1024 ![k, 0] hi ![0, 0] (⟨2, ![N, 1024]⟩ : Shape)) (hc : S2176x1024.ShapeCasts S2176x1024) (hw : Shape.Slices (⟨2, ![n, 1024]⟩ : Shape) ![k, 0] S1x1024) (hb : S1x1024.BroadcastsInDim S2176x1024 ![0, 1])
    (i : (⟨2, ![N, 1024]⟩ : Shape).Idx) (r : ℕ) (c : Fin 1024) (h0 : (i 0).val = L + r) (h1 : i 1 = c) :
    pad (⟨2, ![N, 1024]⟩ : Shape) ![k, 0] hi ![0, 0] (mulf (F := Ideal) (φ := .f32) (shapeCast S2176x1024 D hc) (broadcastInDim S2176x1024 ![0, 1] hb (extractStridedSlice S1x1024 ![k, 0] W hw))) z hp h_S_ i
      = ex D (r + (L - k)) c * ex W k c :=
  (pad_shift k hk _ _ _ hz _ i r c h0 h1).trans (ex_mul _ D (ex W k) (fun r c => congrArg₂ HMul.hMul (same D hc _) (wrow k hn W hw hb _)) _ _)

/-- The sums over the rows, as a row. -/
theorem colsum (y : S2176x1024.Idx → EReal) (z : S_.Idx → EReal) (hz : z (Shape.Idx.first h_S_) = 0) (c : Fin 1024) :
    shapeCast S1x1024 (Host.reduceAdd (F := Ideal) (φ := .f32) y z reducesTo_S2176x1024_S1024_d0 h_S_) shapeCasts_S1024_S1x1024 (ix2 0 c) = ∑ t : Fin 2176, y (ix2 t c) := by
  refine (shapeCast_apply _ _ _ (Idealize.ShloMosaic.ix1 c) (by rewrite [Shape.rowMajor_val_one, Shape.rowMajor_val_two]; show c.val = 0 * 1024 + c.val; omega)).trans ?_
  simp only [Host.reduceAdd, Ideal.hostReduceAdd_def]
  rw [Ideal.hostReduceAdd_single reducesTo_S2176x1024_S1024_d0 (by decide), hz, zero_add]
  refine Finset.sum_congr rfl fun k _ => ?_
  exact congrArg y (funext fun a => Fin.ext (by match a with | ⟨0, _⟩ => rfl | ⟨1, _⟩ => rfl))

/-- One row of the gradient of the weights: a sum of products, put at its row. -/
theorem rowAt {N n : ℕ} (k : ℕ) (A : (⟨2, ![N, 1024]⟩ : Shape).Idx → EReal) (D : S2176x1024.Idx → EReal) (hi : Fin 2 → ℕ) (z z' : S_.Idx → EReal) (hz : z (Shape.Idx.first h_S_) = 0) (hz' : z' (Shape.Idx.first h_S_) = 0)
    (hp : Shape.Pads S1x1024 ![k, 0] hi ![0, 0] (⟨2, ![n, 1024]⟩ : Shape)) (hx : Shape.Slices (⟨2, ![N, 1024]⟩ : Shape) ![k, 0] S2176x1024) (hc : S2176x1024.ShapeCasts S2176x1024) (i : (⟨2, ![n, 1024]⟩ : Shape).Idx) :
    pad (⟨2, ![n, 1024]⟩ : Shape) ![k, 0] hi ![0, 0] (shapeCast S1x1024 (Host.reduceAdd (F := Ideal) (φ := .f32) (mulf (F := Ideal) (φ := .f32) (extractStridedSlice S2176x1024 ![k, 0] A hx) (shapeCast S2176x1024 D hc)) z reducesTo_S2176x1024_S1024_d0 h_S_) shapeCasts_S1024_S1x1024) z' hp h_S_ i
      = if (i 0).val = k then ∑ t ∈ Finset.range 2176, ex D t (i 1) * ex A (k + t) (i 1) else 0 := by
  refine (pad_row k _ _ _ hz' _ i).trans (if_congr Iff.rfl ((colsum _ z hz (i 1)).trans ?_) rfl)
  rw [Finset.sum_range (M := EReal)]
  exact Finset.sum_congr (M := EReal) rfl fun t _ => (congrArg₂ HMul.hMul (rows k A hx _) ((same D hc _).trans (ex_at D t.val (i 1) _ rfl rfl))).trans (mul_comm _ _)

/-- One of the terms is in its row and the others are zero there. -/
theorem pick (q : ℕ → EReal) (n r : ℕ) (h : r < n) : ∑ j ∈ Finset.range n, (if r = n - 1 - j then q (n - 1 - j) else 0) = q r := by
  rw [Finset.sum_range_reflect (fun j => if r = j then q j else 0) n, Finset.sum_ite_eq, if_pos (Finset.mem_range.mpr h)]

/-- The logistic of the gate. -/
theorem sig_at (x0 : (⟨S2176x9216, .f32⟩ : BufTy).Contents (Elt Ideal)) (i : S2176x1024.Idx) : val_main_v9 (F := Ideal) x0 i = sg (pAg x0 (i 0).val (i 1)) := by
  rw [val_main_v9_apply, val_main_v8_apply, val_main_cst_0_apply, val_main_v7_apply, val_main_v6_apply, val_main_cst_apply, val_main_v5_apply, val_main_v4_apply, val_main_v1_apply,
    ex_at x0 (i 0).val (col 1024 (by omega) (i 1)) (idx_main_v1 i) rfl rfl]
  show Ideal.div (Ideal.ofBits .f32 0x3F800000#32) (Ideal.ofBits .f32 0x3F800000#32 + Ideal.exp (-(pAg x0 (i 0).val (i 1)))) = _
  unfold sg
  rw [Ideal.ofBits_one_f32, zero_sub]

/-- The long branch's input. -/
theorem a_at (x0 : (⟨S2176x9216, .f32⟩ : BufTy).Contents (Elt Ideal)) (i : S2176x1024.Idx) : val_main_v13 (F := Ideal) x0 i = pAv x0 (i 0).val (i 1) * sg (pAg x0 (i 0).val (i 1)) := by
  rw [val_main_v13_apply, sig_at, val_main_v0_apply, ex_at x0 (i 0).val (col 0 (by omega) (i 1)) (idx_main_v0 i) rfl (by show (i 1).val = 0 + (i 1).val; omega)]
  rfl

/-- The short branch's input. -/
theorem c_at (x0 : (⟨S2176x9216, .f32⟩ : BufTy).Contents (Elt Ideal)) (i : S2176x1024.Idx) : val_main_v171 (F := Ideal) x0 i = pCg x0 (i 0).val (i 1) * pV x0 (i 0).val (i 1) := by
  rw [val_main_v171_apply, val_main_v2_apply, val_main_v3_apply, ex_at x0 (i 0).val (col 3072 (by omega) (i 1)) (idx_main_v2 i) rfl rfl, ex_at x0 (i 0).val (col 4096 (by omega) (i 1)) (idx_main_v3 i) rfl rfl]
  rfl

/-- The long branch's input after 30 rows of zeros. -/
theorem catA (x0 : (⟨S2176x9216, .f32⟩ : BufTy).Contents (Elt Ideal)) (j : ℕ) (r : ℕ) (c : Fin 1024) (hi : r < 2176) (hj : j ≤ 30) :
    ex (val_main_v15 (F := Ideal) x0) (j + r) c = if r + (j + 2) < 32 then 0 else pAv x0 (r + (j + 2) - 32) c * sg (pAg x0 (r + (j + 2) - 32) c) := by
  refine (ex_lt _ _ _ (by omega : j + r < 2206)).trans ?_
  unfold val_main_v15
  by_cases h : j + r < 30
  · rw [if_pos (by omega)]
    refine (concatenate_pair_apply_left 0 _ _ concatenates_S30x1024_S2176x1024_S2206x1024_d0 _ rfl (ix2 ⟨j + r, h⟩ c) (fun b => ?_)).trans ?_
    · match b with
      | ⟨0, _⟩ => rfl
      | ⟨1, _⟩ => rfl
    · rw [val_main_v14_apply, val_main_cst_2_apply]
      exact zbits
  · rw [if_neg (by omega), show r + (j + 2) - 32 = j + r - 30 by omega]
    refine (concatenate_pair_apply_right 0 _ _ concatenates_S30x1024_S2176x1024_S2206x1024_d0 _ rfl rfl (ix2 ⟨j + r - 30, by omega⟩ c) (fun b hb => ?_) ?_).trans (a_at x0 _)
    · match b with
      | ⟨0, _⟩ => exact absurd rfl hb
      | ⟨1, _⟩ => rfl
    · show j + r - 30 + 30 = j + r
      omega

/-- The short branch's input after 2 rows of zeros. -/
theorem catC (x0 : (⟨S2176x9216, .f32⟩ : BufTy).Contents (Elt Ideal)) (j : ℕ) (r : ℕ) (c : Fin 1024) (hi : r < 2176) (hj : j ≤ 2) :
    ex (val_main_v173 (F := Ideal) x0) (j + r) c = if r + (j + 30) < 32 then 0 else pCg x0 (r + (j + 30) - 32) c * pV x0 (r + (j + 30) - 32) c := by
  refine (ex_lt _ _ _ (by omega : j + r < 2178)).trans ?_
  unfold val_main_v173
  by_cases h : j + r < 2
  · rw [if_pos (by omega)]
    refine (concatenate_pair_apply_left 0 _ _ concatenates_S2x1024_S2176x1024_S2178x1024_d0 _ rfl (ix2 ⟨j + r, h⟩ c) (fun b => ?_)).trans ?_
    · match b with
      | ⟨0, _⟩ => rfl
      | ⟨1, _⟩ => rfl
    · rw [val_main_v172_apply, val_main_cst_4_apply]
      exact zbits
  · rw [if_neg (by omega), show r + (j + 30) - 32 = j + r - 2 by omega]
    refine (concatenate_pair_apply_right 0 _ _ concatenates_S2x1024_S2176x1024_S2178x1024_d0 _ rfl rfl (ix2 ⟨j + r - 2, by omega⟩ c) (fun b hb => ?_) ?_).trans (c_at x0 _)
    · match b with
      | ⟨0, _⟩ => exact absurd rfl hb
      | ⟨1, _⟩ => rfl
    · show j + r - 2 + 2 = j + r
      omega

/-- The gradient before the long convolution. -/
theorem dA_at (x1 : (⟨S2176x1024, .f32⟩ : BufTy).Contents (Elt Ideal)) (x3 : (⟨S31x1024, .f32⟩ : BufTy).Contents (Elt Ideal)) (i : S2176x1024.Idx) : val_main_v500 (F := Ideal) x1 x3 i = hDa x1 x3 (i 0).val (i 1) := by
  have h : val_main_v498 (F := Ideal) x1 x3 (idx_main_v500 i) = ∑ j ∈ Finset.range 31, ex x1 ((i 0).val + (30 - (31 - 1 - j))) (i 1) * ex x3 (31 - 1 - j) (i 1) :=
    addStep _ 30 (addStep _ 29 (addStep _ 28 (addStep _ 27 (addStep _ 26 (addStep _ 25 (addStep _ 24 (addStep _ 23 (addStep _ 22 (addStep _ 21 (addStep _ 20 (addStep _ 19 (addStep _ 18 (addStep _ 17 (addStep _ 16 (addStep _ 15 (addStep _ 14 (addStep _ 13 (addStep _ 12 (addStep _ 11 (addStep _ 10 (addStep _ 9 (addStep _ 8 (addStep _ 7 (addStep _ 6 (addStep _ 5 (addStep _ 4 (addStep _ 3 (addStep _ 2 (addStep _ 1 (addFirst _ (term 30 30 (by omega) (by omega : 30 < 31) _ _ _ _ zbits _ _ _ _ _ _ _ rfl rfl)) (term 30 29 (by omega) (by omega : 29 < 31) _ _ _ _ zbits _ _ _ _ _ _ _ rfl rfl)) (term 30 28 (by omega) (by omega : 28 < 31) _ _ _ _ zbits _ _ _ _ _ _ _ rfl rfl)) (term 30 27 (by omega) (by omega : 27 < 31) _ _ _ _ zbits _ _ _ _ _ _ _ rfl rfl)) (term 30 26 (by omega) (by omega : 26 < 31) _ _ _ _ zbits _ _ _ _ _ _ _ rfl rfl)) (term 30 25 (by omega) (by omega : 25 < 31) _ _ _ _ zbits _ _ _ _ _ _ _ rfl rfl)) (term 30 24 (by omega) (by omega : 24 < 31) _ _ _ _ zbits _ _ _ _ _ _ _ rfl rfl)) (term 30 23 (by omega) (by omega : 23 < 31) _ _ _ _ zbits _ _ _ _ _ _ _ rfl rfl)) (term 30 22 (by omega) (by omega : 22 < 31) _ _ _ _ zbits _ _ _ _ _ _ _ rfl rfl)) (term 30 21 (by omega) (by omega : 21 < 31) _ _ _ _ zbits _ _ _ _ _ _ _ rfl rfl)) (term 30 20 (by omega) (by omega : 20 < 31) _ _ _ _ zbits _ _ _ _ _ _ _ rfl rfl)) (term 30 19 (by omega) (by omega : 19 < 31) _ _ _ _ zbits _ _ _ _ _ _ _ rfl rfl)) (term 30 18 (by omega) (by omega : 18 < 31) _ _ _ _ zbits _ _ _ _ _ _ _ rfl rfl)) (term 30 17 (by omega) (by omega : 17 < 31) _ _ _ _ zbits _ _ _ _ _ _ _ rfl rfl)) (term 30 16 (by omega) (by omega : 16 < 31) _ _ _ _ zbits _ _ _ _ _ _ _ rfl rfl)) (term 30 15 (by omega) (by omega : 15 < 31) _ _ _ _ zbits _ _ _ _ _ _ _ rfl rfl)) (term 30 14 (by omega) (by omega : 14 < 31) _ _ _ _ zbits _ _ _ _ _ _ _ rfl rfl)) (term 30 13 (by omega) (by omega : 13 < 31) _ _ _ _ zbits _ _ _ _ _ _ _ rfl rfl)) (term 30 12 (by omega) (by omega : 12 < 31) _ _ _ _ zbits _ _ _ _ _ _ _ rfl rfl)) (term 30 11 (by omega) (by omega : 11 < 31) _ _ _ _ zbits _ _ _ _ _ _ _ rfl rfl)) (term 30 10 (by omega) (by omega : 10 < 31) _ _ _ _ zbits _ _ _ _ _ _ _ rfl rfl)) (term 30 9 (by omega) (by omega : 9 < 31) _ _ _ _ zbits _ _ _ _ _ _ _ rfl rfl)) (term 30 8 (by omega) (by omega : 8 < 31) _ _ _ _ zbits _ _ _ _ _ _ _ rfl rfl)) (term 30 7 (by omega) (by omega : 7 < 31) _ _ _ _ zbits _ _ _ _ _ _ _ rfl rfl)) (term 30 6 (by omega) (by omega : 6 < 31) _ _ _ _ zbits _ _ _ _ _ _ _ rfl rfl)) (term 30 5 (by omega) (by omega : 5 < 31) _ _ _ _ zbits _ _ _ _ _ _ _ rfl rfl)) (term 30 4 (by omega) (by omega : 4 < 31) _ _ _ _ zbits _ _ _ _ _ _ _ rfl rfl)) (term 30 3 (by omega) (by omega : 3 < 31) _ _ _ _ zbits _ _ _ _ _ _ _ rfl rfl)) (term 30 2 (by omega) (by omega : 2 < 31) _ _ _ _ zbits _ _ _ _ _ _ _ rfl rfl)) (term 30 1 (by omega) (by omega : 1 < 31) _ _ _ _ zbits _ _ _ _ _ _ _ rfl rfl)) (term 30 0 (by omega) (by omega : 0 < 31) _ _ _ _ zbits _ _ _ _ _ _ _ rfl rfl)
  rw [val_main_v500_apply, h]
  exact Finset.sum_range_reflect (fun j => ex x1 ((i 0).val + (30 - j)) (i 1) * ex x3 j (i 1)) 31

/-- The gradient before the short convolution. -/
theorem dC_at (x2 : (⟨S2176x1024, .f32⟩ : BufTy).Contents (Elt Ideal)) (x4 : (⟨S3x1024, .f32⟩ : BufTy).Contents (Elt Ideal)) (i : S2176x1024.Idx) : val_main_v217 (F := Ideal) x2 x4 i = hDc x2 x4 (i 0).val (i 1) := by
  have h : val_main_v215 (F := Ideal) x2 x4 (idx_main_v217 i) = ∑ j ∈ Finset.range 3, ex x2 ((i 0).val + (2 - (3 - 1 - j))) (i 1) * ex x4 (3 - 1 - j) (i 1) :=
    addStep _ 2 (addStep _ 1 (addFirst _ (term 2 2 (by omega) (by omega : 2 < 3) _ _ _ _ zbits _ _ _ _ _ _ _ rfl rfl)) (term 2 1 (by omega) (by omega : 1 < 3) _ _ _ _ zbits _ _ _ _ _ _ _ rfl rfl)) (term 2 0 (by omega) (by omega : 0 < 3) _ _ _ _ zbits _ _ _ _ _ _ _ rfl rfl)
  rw [val_main_v217_apply, h]
  exact Finset.sum_range_reflect (fun j => ex x2 ((i 0).val + (2 - j)) (i 1) * ex x4 j (i 1)) 3

/-- The gradient of the long convolution's weights. -/
theorem dWA_at (x0 : (⟨S2176x9216, .f32⟩ : BufTy).Contents (Elt Ideal)) (x1 : (⟨S2176x1024, .f32⟩ : BufTy).Contents (Elt Ideal)) (i : S31x1024.Idx) : val_main_v496 (F := Ideal) x0 x1 i = hWA x0 x1 i := by
  have hi : (i 0).val < 31 := (i 0).isLt
  have h : val_main_v496 (F := Ideal) x0 x1 i = ∑ j ∈ Finset.range 31, (if (i 0).val = 31 - 1 - j then ∑ t ∈ Finset.range 2176, ex x1 t (i 1) * ex (val_main_v15 (F := Ideal) x0) (31 - 1 - j + t) (i 1) else 0) :=
    addStep _ 30 (addStep _ 29 (addStep _ 28 (addStep _ 27 (addStep _ 26 (addStep _ 25 (addStep _ 24 (addStep _ 23 (addStep _ 22 (addStep _ 21 (addStep _ 20 (addStep _ 19 (addStep _ 18 (addStep _ 17 (addStep _ 16 (addStep _ 15 (addStep _ 14 (addStep _ 13 (addStep _ 12 (addStep _ 11 (addStep _ 10 (addStep _ 9 (addStep _ 8 (addStep _ 7 (addStep _ 6 (addStep _ 5 (addStep _ 4 (addStep _ 3 (addStep _ 2 (addStep _ 1 (addFirst _ (rowAt 30 _ _ _ _ _ zbits zbits _ _ _ i)) (rowAt 29 _ _ _ _ _ zbits zbits _ _ _ i)) (rowAt 28 _ _ _ _ _ zbits zbits _ _ _ i)) (rowAt 27 _ _ _ _ _ zbits zbits _ _ _ i)) (rowAt 26 _ _ _ _ _ zbits zbits _ _ _ i)) (rowAt 25 _ _ _ _ _ zbits zbits _ _ _ i)) (rowAt 24 _ _ _ _ _ zbits zbits _ _ _ i)) (rowAt 23 _ _ _ _ _ zbits zbits _ _ _ i)) (rowAt 22 _ _ _ _ _ zbits zbits _ _ _ i)) (rowAt 21 _ _ _ _ _ zbits zbits _ _ _ i)) (rowAt 20 _ _ _ _ _ zbits zbits _ _ _ i)) (rowAt 19 _ _ _ _ _ zbits zbits _ _ _ i)) (rowAt 18 _ _ _ _ _ zbits zbits _ _ _ i)) (rowAt 17 _ _ _ _ _ zbits zbits _ _ _ i)) (rowAt 16 _ _ _ _ _ zbits zbits _ _ _ i)) (rowAt 15 _ _ _ _ _ zbits zbits _ _ _ i)) (rowAt 14 _ _ _ _ _ zbits zbits _ _ _ i)) (rowAt 13 _ _ _ _ _ zbits zbits _ _ _ i)) (rowAt 12 _ _ _ _ _ zbits zbits _ _ _ i)) (rowAt 11 _ _ _ _ _ zbits zbits _ _ _ i)) (rowAt 10 _ _ _ _ _ zbits zbits _ _ _ i)) (rowAt 9 _ _ _ _ _ zbits zbits _ _ _ i)) (rowAt 8 _ _ _ _ _ zbits zbits _ _ _ i)) (rowAt 7 _ _ _ _ _ zbits zbits _ _ _ i)) (rowAt 6 _ _ _ _ _ zbits zbits _ _ _ i)) (rowAt 5 _ _ _ _ _ zbits zbits _ _ _ i)) (rowAt 4 _ _ _ _ _ zbits zbits _ _ _ i)) (rowAt 3 _ _ _ _ _ zbits zbits _ _ _ i)) (rowAt 2 _ _ _ _ _ zbits zbits _ _ _ i)) (rowAt 1 _ _ _ _ _ zbits zbits _ _ _ i)) (rowAt 0 _ _ _ _ _ zbits zbits _ _ _ i)
  rw [h, pick (fun k => ∑ t ∈ Finset.range 2176, ex x1 t (i 1) * ex (val_main_v15 (F := Ideal) x0) (k + t) (i 1)) 31 _ hi]
  exact Finset.sum_congr rfl fun t ht => congrArg (ex x1 t (i 1) * ·) (catA x0 _ t (i 1) (Finset.mem_range.mp ht) (by omega))

/-- The gradient of the short convolution's weights. -/
theorem dWC_at (x0 : (⟨S2176x9216, .f32⟩ : BufTy).Contents (Elt Ideal)) (x2 : (⟨S2176x1024, .f32⟩ : BufTy).Contents (Elt Ideal)) (i : S3x1024.Idx) : val_main_v213 (F := Ideal) x0 x2 i = hWC x0 x2 i := by
  have hi : (i 0).val < 3 := (i 0).isLt
  have h : val_main_v213 (F := Ideal) x0 x2 i = ∑ j ∈ Finset.range 3, (if (i 0).val = 3 - 1 - j then ∑ t ∈ Finset.range 2176, ex x2 t (i 1) * ex (val_main_v173 (F := Ideal) x0) (3 - 1 - j + t) (i 1) else 0) :=
    addStep _ 2 (addStep _ 1 (addFirst _ (rowAt 2 _ _ _ _ _ zbits zbits _ _ _ i)) (rowAt 1 _ _ _ _ _ zbits zbits _ _ _ i)) (rowAt 0 _ _ _ _ _ zbits zbits _ _ _ i)
  rw [h, pick (fun k => ∑ t ∈ Finset.range 2176, ex x2 t (i 1) * ex (val_main_v173 (F := Ideal) x0) (k + t) (i 1)) 3 _ hi]
  exact Finset.sum_congr rfl fun t ht => congrArg (ex x2 t (i 1) * ·) (catC x0 _ t (i 1) (Finset.mem_range.mp ht) (by omega))

/-- The gradient of the gated factor. -/
theorem rAv (x0 : (⟨S2176x9216, .f32⟩ : BufTy).Contents (Elt Ideal)) (x1 : (⟨S2176x1024, .f32⟩ : BufTy).Contents (Elt Ideal)) (x3 : (⟨S31x1024, .f32⟩ : BufTy).Contents (Elt Ideal)) :
    val_main_v504 (F := Ideal) x0 x1 x3 = hAv x0 x1 x3 := by
  funext i
  rw [val_main_v504_apply, val_main_v502_apply, dA_at, sig_at]
  rfl

/-- The gradient of the gate. -/
theorem rAg (x0 : (⟨S2176x9216, .f32⟩ : BufTy).Contents (Elt Ideal)) (x1 : (⟨S2176x1024, .f32⟩ : BufTy).Contents (Elt Ideal)) (x3 : (⟨S31x1024, .f32⟩ : BufTy).Contents (Elt Ideal)) :
    val_main_v505 (F := Ideal) x0 x1 x3 = hAg x0 x1 x3 := by
  funext i
  rw [val_main_v505_apply, val_main_v503_apply, val_main_v501_apply, val_main_v12_apply, val_main_v11_apply, val_main_v10_apply, val_main_cst_1_apply, dA_at, sig_at, val_main_v0_apply,
    ex_at x0 (i 0).val (col 0 (by omega) (i 1)) (idx_main_v0 i) rfl (by show (i 1).val = 0 + (i 1).val; omega)]
  show (pAv x0 (i 0).val (i 1) * hDa x1 x3 (i 0).val (i 1)) * (sg (pAg x0 (i 0).val (i 1)) * (Ideal.ofBits .f32 0x3F800000#32 - sg (pAg x0 (i 0).val (i 1)))) = _
  rw [Ideal.ofBits_one_f32, mul_comm (pAv x0 (i 0).val (i 1)), ← mul_assoc]
  rfl

/-- The gradient of the short branch's first factor. -/
theorem rCg (x0 : (⟨S2176x9216, .f32⟩ : BufTy).Contents (Elt Ideal)) (x2 : (⟨S2176x1024, .f32⟩ : BufTy).Contents (Elt Ideal)) (x4 : (⟨S3x1024, .f32⟩ : BufTy).Contents (Elt Ideal)) :
    val_main_v506 (F := Ideal) x0 x2 x4 = hCg x0 x2 x4 := by
  funext i
  rw [val_main_v506_apply, val_main_v219_apply, dC_at, val_main_v3_apply, ex_at x0 (i 0).val (col 4096 (by omega) (i 1)) (idx_main_v3 i) rfl rfl]
  rfl

/-- The gradient of the short branch's second factor. -/
theorem rV (x0 : (⟨S2176x9216, .f32⟩ : BufTy).Contents (Elt Ideal)) (x2 : (⟨S2176x1024, .f32⟩ : BufTy).Contents (Elt Ideal)) (x4 : (⟨S3x1024, .f32⟩ : BufTy).Contents (Elt Ideal)) :
    val_main_v507 (F := Ideal) x0 x2 x4 = hV x0 x2 x4 := by
  funext i
  rw [val_main_v507_apply, val_main_v218_apply, dC_at, val_main_v2_apply, ex_at x0 (i 0).val (col 3072 (by omega) (i 1)) (idx_main_v2 i) rfl rfl]
  exact mul_comm _ _

/-- The gradient of the long convolution's weights. -/
theorem rWA (x0 : (⟨S2176x9216, .f32⟩ : BufTy).Contents (Elt Ideal)) (x1 : (⟨S2176x1024, .f32⟩ : BufTy).Contents (Elt Ideal)) :
    val_main_v496 (F := Ideal) x0 x1 = hWA x0 x1 := funext fun i => dWA_at x0 x1 i

/-- The gradient of the short convolution's weights. -/
theorem rWC (x0 : (⟨S2176x9216, .f32⟩ : BufTy).Contents (Elt Ideal)) (x2 : (⟨S2176x1024, .f32⟩ : BufTy).Contents (Elt Ideal)) :
    val_main_v213 (F := Ideal) x0 x2 = hWC x0 x2 := funext fun i => dWC_at x0 x2 i

end Cert.ReferenceIdeal.Read
-- ==== Proof.ConvEq.lean ====
/- The convolutions' backward pass against its reference: the two runs leave the same six gradients. -/
module

public import proofs.«01_k».proof.Defs
public import proofs.«01_k».proof.Proof.ConvRef

@[expose] public section

set_option maxRecDepth 16384

noncomputable section

namespace Cert.ConvEq

open Idealize.ShloMosaic Idealize.ShloMosaic.TcCoe Idealize.SL.Sem

/-- The kernel of the convolutions' backward pass and its reference leave equal results and keep their arguments. -/
theorem algebraic : Cert.algebraic_KernelIdeal_ReferenceIdeal := by
  intro m g m' g' _ hagree
  refine ⟨fun c => Cert.KernelIdeal.Value.hAv (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)),
    fun c => Cert.KernelIdeal.Value.hAg (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg3)),
    fun c => Cert.KernelIdeal.Value.hCg (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg4)),
    fun c => Cert.KernelIdeal.Value.hV (m ((c : Thread Cert.KernelIdeal.nD Cert.KernelIdeal.τ).loc Cert.KernelIdeal.main_arg0)) (m ((c : Thread Cert.KernelIdeal.nD Cert.KernelIdeal.τ).loc Cert.KernelIdeal.main_arg2)) (m ((c : Thread Cert.KernelIdeal.nD Cert.KernelIdeal.τ).loc Cert.KernelIdeal.main_arg4)),
    fun c => Cert.KernelIdeal.Value.hWA (m ((c : Thread Cert.KernelIdeal.nD Cert.KernelIdeal.τ).loc Cert.KernelIdeal.main_arg0)) (m ((c : Thread Cert.KernelIdeal.nD Cert.KernelIdeal.τ).loc Cert.KernelIdeal.main_arg1)),
    fun c => Cert.KernelIdeal.Value.hWC (m ((c : Thread Cert.KernelIdeal.nD Cert.KernelIdeal.τ).loc Cert.KernelIdeal.main_arg0)) (m ((c : Thread Cert.KernelIdeal.nD Cert.KernelIdeal.τ).loc Cert.KernelIdeal.main_arg2)),
    (θ_run Cert.KernelIdeal.defs _ _).mono (fun r h c => ?_) (Cert.KernelIdeal.Value.run_blocks m g),
    (θ_run Cert.ReferenceIdeal.defs _ _).mono (fun r h c => ?_) (Cert.ReferenceIdeal.Value.run m' g')⟩
  · obtain ⟨h0, h1, h2, h3, h4, h5, k⟩ := h c
    exact ⟨h0.trans (Cert.KernelIdeal.Value.final8 m c), h1.trans (Cert.KernelIdeal.Value.final9 m c), h2.trans (Cert.KernelIdeal.Value.final10 m c), h3.trans (Cert.KernelIdeal.Value.final11 m c), h4.trans (Cert.KernelIdeal.Value.final12 m c), h5.trans (Cert.KernelIdeal.Value.final13 m c), k⟩
  · obtain ⟨h0, h1, h2, h3, h4, h5, k⟩ := h c
    obtain ⟨a0, a1, a2, a3, a4⟩ := hagree c
    refine ⟨(h0.trans (Cert.ReferenceIdeal.Read.val_main_v504_eq _)).trans ((Cert.ReferenceIdeal.Read.rAv _ _ _ ).trans ?_), (h1.trans (Cert.ReferenceIdeal.Read.val_main_v505_eq _)).trans ((Cert.ReferenceIdeal.Read.rAg _ _ _ ).trans ?_), (h2.trans (Cert.ReferenceIdeal.Read.val_main_v506_eq _)).trans ((Cert.ReferenceIdeal.Read.rCg _ _ _ ).trans ?_), (h3.trans (Cert.ReferenceIdeal.Read.val_main_v507_eq _)).trans ((Cert.ReferenceIdeal.Read.rV _ _ _ ).trans ?_), (h4.trans (Cert.ReferenceIdeal.Read.val_main_v496_eq _)).trans ((Cert.ReferenceIdeal.Read.rWA _ _ ).trans ?_), (h5.trans (Cert.ReferenceIdeal.Read.val_main_v213_eq _)).trans ((Cert.ReferenceIdeal.Read.rWC _ _ ).trans ?_), k⟩
    · show Cert.KernelIdeal.Value.hAv (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg3)) = _
      rw [a0, a1, a3]
    · show Cert.KernelIdeal.Value.hAg (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) (m' ((c : Thread Cert.ReferenceIdeal.nD Cert.ReferenceIdeal.τ).loc Cert.ReferenceIdeal.main_arg3)) = _
      rw [a0, a1, a3]
    · show Cert.KernelIdeal.Value.hCg (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg4)) = _
      rw [a0, a2, a4]
    · show Cert.KernelIdeal.Value.hV (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg4)) = _
      rw [a0, a2, a4]
    · show Cert.KernelIdeal.Value.hWA (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg1)) = _
      rw [a0, a1]
    · show Cert.KernelIdeal.Value.hWC (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg2)) = _
      rw [a0, a2]

end Cert.ConvEq
-- ==== Proof.GwInValue.lean ====
/- The gradient of the input projection's weights, read: every element of the two result arrays of the kernel is the sum
   over the 2176 positions of the product of the activation and of the incoming gradient. -/
module

public import proofs.«01_k».proof.Proof.Gen.GwInIdeal.Value
public import Idealize.ShloMosaic.Lib.StableHlo.ReadAt
public import Idealize.ShloMosaic.Lib.Pointwise

@[expose] public section

set_option maxRecDepth 16384

noncomputable section

namespace Cert.GwInIdeal.Value

open Cert.GwInIdeal Cert.GwInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The body's product at a row and a column: the sum over the positions. -/
theorem pay1_apply (P0 : Vec Ideal S2176x2048 .bf16) (P1 : Vec Ideal S2176x768 .bf16) (j : S2048x768.Idx) :
    k0_pay1 P0 P1 j = ∑ k : Fin 2176, P0 (ix2 k (j 0)) * P1 (ix2 k (j 1)) := by
  unfold k0_pay1
  pointwise

/-- The first result: element `(p, r, q)` sums over the positions the activation's column `r` times the gradient's column `2304 p + q`. -/
def G (A : S2176x2048.Idx → EReal) (B : S2176x9216.Idx → EReal) (i : S4x2048x2304.Idx) : EReal :=
  ∑ k : Fin 2176, A (ix2 k (i 1)) * B (ix2 k ⟨(i 0).val * 2304 + (i 2).val, by
    have h0 : (i 0).val < 4 := (i 0).isLt
    have h2 : (i 2).val < 2304 := (i 2).isLt
    omega⟩)

/-- The first operand at the region's entry: the activations. -/
theorem V_v0 (c : Dev nD) (i : S2176x2048.Idx) : V m c main_v0 i = m ((c : Thread nD τ).loc main_arg0) i := by
  unfold V
  after_reads_at

/-- The second operand at the region's entry: the incoming gradient. -/
theorem V_v1 (c : Dev nD) (i : S2176x9216.Idx) : V m c main_v1 i = m ((c : Thread nD τ).loc main_arg1) i := by
  unfold V
  after_reads_at

/-- The printed index maps, decided over the grid: the activation's block is the whole array; the gradient's block of columns is
    the block of the result's piece. -/
theorem maps : ∀ t : Fin cfg0.N, win0_0.index t (0 : Fin 2) = 0 ∧ win0_0.index t (1 : Fin 2) = 0 ∧ win0_1.index t (0 : Fin 2) = 0
    ∧ win0_1.index t (1 : Fin 2) = 3 * win0_2.index t (0 : Fin 3) + win0_2.index t (2 : Fin 3) ∧ win0_2.index t (1 : Fin 3) = 0 ∧ win0_2.index t (2 : Fin 3) ≤ 2
    ∧ win0_2.index t (0 : Fin 3) ≤ 3 ∧ win0_3.index t = win0_2.index t :=
  (by decide +kernel : ∀ t : Fin grid0.N, _)

/-- Every block of the result is some point's, and that point writes it back. -/
theorem onto : ∀ (q0 : Fin 4) (q2 : Fin 3), ∃ t : Fin cfg0.N, (cfg0.win 2).flush t = true ∧ (cfg0.win 3).flush t = true ∧ win0_2.index t = ![q0.val, 0, q2.val] :=
  (by decide +kernel : ∀ (q0 : Fin 4) (q2 : Fin 3), ∃ t : Fin grid0.N, win0_2.flush t = true ∧ win0_3.flush t = true ∧ win0_2.index t = ![q0.val, 0, q2.val])

/-- The activation's block at a point, read. -/
theorem iblk0_apply (c : Dev nD) (t : Fin cfg0.N) (y : S2176x2048.Idx) :
    iblk m c 0 t y = m ((c : Thread nD τ).loc main_arg0) y := by
  obtain ⟨e0, e1, -⟩ := maps t
  show V m c main_v0 (((cfg0.win 0).blk t).view.emb y) = _
  rw [V_v0]
  congr 1
  funext a
  apply Fin.ext
  match a with
  | ⟨0, _⟩ => show win0_0.index t (0 : Fin 2) * 2176 + 1 * (y 0).val = (y 0).val; omega
  | ⟨1, _⟩ => show win0_0.index t (1 : Fin 2) * 2048 + 1 * (y 1).val = (y 1).val; omega

/-- What the body leaves of a point's blocks, read: the sum over the positions at the place the block has in the array. -/
theorem block_apply (c : Dev nD) (t : Fin cfg0.N) (y : S1x2048x768.Idx) (i : S4x2048x2304.Idx)
    (h0 : (i 0).val = win0_2.index t (0 : Fin 3) * 1 + 1 * (y 0).val) (h1 : (i 1).val = win0_2.index t (1 : Fin 3) * 2048 + 1 * (y 1).val)
    (h2 : (i 2).val = win0_2.index t (2 : Fin 3) * 768 + 1 * (y 2).val) :
    k0_pay1 (iblk m c 0 t) (iblk m c 1 t) (ix2_0 y) = G (m ((c : Thread nD τ).loc main_arg0)) (m ((c : Thread nD τ).loc main_arg1)) i := by
  obtain ⟨-, -, e0, e1, e2, -⟩ := maps t
  have hy0 : (y 0).val < 1 := (y 0).isLt
  rw [pay1_apply]
  refine Finset.sum_congr rfl fun k _ => ?_
  congr 1
  · rw [iblk0_apply]
    congr 1
    funext a
    apply Fin.ext
    match a with
    | ⟨0, _⟩ => rfl
    | ⟨1, _⟩ => show (y 1).val = (i 1).val; omega
  · show V m c main_v1 (((cfg0.win 1).blk t).view.emb _) = _
    rw [V_v1]
    congr 1
    funext a
    apply Fin.ext
    match a with
    | ⟨0, _⟩ => show win0_1.index t (0 : Fin 2) * 2176 + 1 * k.val = k.val; omega
    | ⟨1, _⟩ => show win0_1.index t (1 : Fin 2) * 768 + 1 * (y 2).val = (i 0).val * 2304 + (i 2).val; omega

/-- What a point writes back of the first result is its block of `G`. -/
theorem flushed2_eq (c : Dev nD) (t : Fin cfg0.N) :
    (dats m 0 c).flushed 2 t = ((cfg0.win 2).blk t).view.read (Elt Ideal) (G (m ((c : Thread nD τ).loc main_arg0)) (m ((c : Thread nD τ).loc main_arg1))) := by
  rw [flushed2]
  funext y
  have hz0 : (![0, 0] : Fin S2176x2048.rank → Nat) = fun _ => 0 := funext fun a => by fin_cases a <;> rfl
  have hz1 : (![0, 0] : Fin S2176x768.rank → Nat) = fun _ => 0 := funext fun a => by fin_cases a <;> rfl
  show out0_2 (iblk m c 0 t) (iblk m c 1 t) y = G _ _ (((cfg0.win 2).blk t).view.emb y)
  unfold out0_2
  rw [View.ld_unit_zero hz0, View.ld_unit_zero hz1, canon2_eq]
  exact block_apply m c t y _ rfl rfl rfl

/-- What a point writes back of the second result is its block of `G`: the format's change is the identity on the extended reals. -/
theorem flushed3_eq (c : Dev nD) (t : Fin cfg0.N) :
    (dats m 0 c).flushed 3 t = ((cfg0.win 3).blk t).view.read (Elt Ideal) (G (m ((c : Thread nD τ).loc main_arg0)) (m ((c : Thread nD τ).loc main_arg1))) := by
  rw [flushed3]
  funext y
  have hz0 : (![0, 0] : Fin S2176x2048.rank → Nat) = fun _ => 0 := funext fun a => by fin_cases a <;> rfl
  have hz1 : (![0, 0] : Fin S2176x768.rank → Nat) = fun _ => 0 := funext fun a => by fin_cases a <;> rfl
  show out0_3 (iblk m c 0 t) (iblk m c 1 t) y = G _ _ (((cfg0.win 3).blk t).view.emb y)
  unfold out0_3
  rw [View.ld_unit_zero hz0, View.ld_unit_zero hz1, canon3_eq]
  obtain ⟨-, -, -, -, -, -, -, e3⟩ := maps t
  refine block_apply m c t y _ ?_ ?_ ?_
  · show win0_3.index t (0 : Fin 3) * 1 + 1 * (y 0).val = _; rw [e3]
  · show win0_3.index t (1 : Fin 3) * 2048 + 1 * (y 1).val = _; rw [e3]
  · show win0_3.index t (2 : Fin 3) * 768 + 1 * (y 2).val = _; rw [e3]

/-- The first result after the run. -/
theorem final2 (c : Dev nD) : (dats m 0 c).arrAt 2 cfg0.N = G (m ((c : Thread nD τ).loc main_arg0)) (m ((c : Thread nD τ).loc main_arg1)) := by
  refine (dats m 0 c).arrAt_eq_of_cover 2 _ (fun t _ => flushed2_eq m c t) (fun (i : S4x2048x2304.Idx) => ?_)
  have hi0 : (i 0).val < 4 := (i 0).isLt
  have hi1 : (i 1).val < 2048 := (i 1).isLt
  have hi2 : (i 2).val < 2304 := (i 2).isLt
  obtain ⟨t, hf, -, ht⟩ := onto ⟨(i 0).val, hi0⟩ ⟨(i 2).val / 768, by omega⟩
  have q0 : win0_2.index t (0 : Fin 3) = (i 0).val := congrFun ht 0
  have q1 : win0_2.index t (1 : Fin 3) = 0 := congrFun ht 1
  have q2 : win0_2.index t (2 : Fin 3) = (i 2).val / 768 := congrFun ht 2
  refine ⟨t, hf, ?_⟩
  show i ∈ ((View.whole main_v2_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 768 ≤ (i 2).val ∧ (i 2).val < win0_2.index t (2 : Fin 3) * 768 + 768; omega

/-- The second result after the run. -/
theorem final3 (c : Dev nD) : (dats m 0 c).arrAt 3 cfg0.N = G (m ((c : Thread nD τ).loc main_arg0)) (m ((c : Thread nD τ).loc main_arg1)) := by
  refine (dats m 0 c).arrAt_eq_of_cover 3 _ (fun t _ => flushed3_eq m c t) (fun (i : S4x2048x2304.Idx) => ?_)
  have hi0 : (i 0).val < 4 := (i 0).isLt
  have hi1 : (i 1).val < 2048 := (i 1).isLt
  have hi2 : (i 2).val < 2304 := (i 2).isLt
  obtain ⟨t, -, hf, ht⟩ := onto ⟨(i 0).val, hi0⟩ ⟨(i 2).val / 768, by omega⟩
  obtain ⟨-, -, -, -, -, -, -, e3⟩ := maps t
  rw [← e3] at ht
  have q0 : win0_3.index t (0 : Fin 3) = (i 0).val := congrFun ht 0
  have q1 : win0_3.index t (1 : Fin 3) = 0 := congrFun ht 1
  have q2 : win0_3.index t (2 : Fin 3) = (i 2).val / 768 := congrFun ht 2
  refine ⟨t, hf, ?_⟩
  show i ∈ ((View.whole main_v2_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 768 ≤ (i 2).val ∧ (i 2).val < win0_3.index t (2 : Fin 3) * 768 + 768; omega

end Cert.GwInIdeal.Value
-- ==== Proof.GwInEq.lean ====
/- The gradient of the input projection's weights against its reference: the two runs, and the equality of the sums they leave. -/
module

public import proofs.«01_k».proof.Defs
public import proofs.«01_k».proof.Proof.GwInValue
public import proofs.«01_k».proof.Proof.Gen.GwInReferenceIdeal.Run
public import proofs.«01_k».proof.Proof.Gen.GwInReferenceIdeal.Read

@[expose] public section

set_option maxRecDepth 16384

noncomputable section

namespace Cert.GwInReferenceIdeal.Read

open Idealize.ShloMosaic Idealize.ShloMosaic.TcCoe

/-- The reference's gradient, read: the same sum over the positions, its factors in the other order. -/
theorem val_eq (A : (⟨S2176x2048, .f32⟩ : BufTy).Contents (Elt Ideal)) (B : (⟨S2176x9216, .f32⟩ : BufTy).Contents (Elt Ideal)) :
    val_main_v5 (F := Ideal) A B = Cert.GwInIdeal.Value.G A B := by
  funext i
  have h0 : (i 0).val < 4 := (i 0).isLt
  have h1 : (i 1).val < 2048 := (i 1).isLt
  have h2 : (i 2).val < 2304 := (i 2).isLt
  rw [val_main_v5_apply, val_main_v4_apply, val_main_v3_apply, val_main_v2_apply]
  refine Finset.sum_congr rfl fun k _ => ?_
  rw [mul_comm]
  congr 1
  · congr 1
    funext a
    apply Fin.ext
    match a with
    | ⟨0, _⟩ => rfl
    | ⟨1, _⟩ => show (((i 1).val * 4 + (i 0).val) * 2304 + (i 2).val) / 9216 = (i 1).val; omega
  · congr 1
    funext a
    apply Fin.ext
    match a with
    | ⟨0, _⟩ => rfl
    | ⟨1, _⟩ => show (((i 1).val * 4 + (i 0).val) * 2304 + (i 2).val) % 9216 = (i 0).val * 2304 + (i 2).val; omega

end Cert.GwInReferenceIdeal.Read

namespace Cert.GwInEq

open Idealize.ShloMosaic Idealize.ShloMosaic.TcCoe Idealize.SL.Sem

/-- The kernel of the weights' gradient and its reference leave equal results and keep their arguments. -/
theorem algebraic : Cert.algebraic_GwInIdeal_GwInReferenceIdeal := by
  intro m g m' g' _ hagree
  refine ⟨fun c => Cert.GwInIdeal.Value.G (m ((c : Thread Cert.GwInIdeal.nD Cert.GwInIdeal.τ).loc Cert.GwInIdeal.main_arg0)) (m ((c : Thread Cert.GwInIdeal.nD Cert.GwInIdeal.τ).loc Cert.GwInIdeal.main_arg1)),
    fun c => Cert.GwInIdeal.Value.G (m ((c : Thread Cert.GwInIdeal.nD Cert.GwInIdeal.τ).loc Cert.GwInIdeal.main_arg0)) (m ((c : Thread Cert.GwInIdeal.nD Cert.GwInIdeal.τ).loc Cert.GwInIdeal.main_arg1)),
    (θ_run Cert.GwInIdeal.defs _ _).mono (fun r h c => ?_) (Cert.GwInIdeal.Value.run_blocks m g),
    (θ_run Cert.GwInReferenceIdeal.defs _ _).mono (fun r h c => ?_) (Cert.GwInReferenceIdeal.Value.run m' g')⟩
  · obtain ⟨h0, h1, k0, k1⟩ := h c
    exact ⟨h0.trans (Cert.GwInIdeal.Value.final2 m c), h1.trans (Cert.GwInIdeal.Value.final3 m c), k0, k1⟩
  · obtain ⟨h0, h1, k0, k1⟩ := h c
    obtain ⟨a0, a1⟩ := hagree c
    rw [a0, a1] at h0 h1
    have e := Cert.GwInReferenceIdeal.Read.val_eq (m ((c : Thread Cert.GwInIdeal.nD Cert.GwInIdeal.τ).loc Cert.GwInIdeal.main_arg0)) (m ((c : Thread Cert.GwInIdeal.nD Cert.GwInIdeal.τ).loc Cert.GwInIdeal.main_arg1))
    exact ⟨h0.trans ((Cert.GwInReferenceIdeal.Read.val_main_v5_eq _ _).trans e), h1.trans ((Cert.GwInReferenceIdeal.Read.val_main_v6_eq _ _).trans (funext fun i => congrFun e i)), k0, k1⟩

end Cert.GwInEq
-- ==== Proof.Blocks.lean ====
/- Whole blocks read and written, and sums over a long axis cut into equal pieces: shared by the matrix products. -/
module

public import Idealize.ShloMosaic.Lib.StableHlo.ReadAt
public import Idealize.ShloMosaic.Lib.Pointwise
public import Idealize.ShloMosaic.Lib.Pipeline

@[expose] public section

noncomputable section

namespace Cert.Blocks

open Idealize.ShloMosaic Idealize.ShloMosaic.TcCoe Idealize.SL.Sem

/-- The whole rectangle moves no index. -/
theorem emb_whole {S : Shape} {o : Fin S.rank → ℕ} (ho : ∀ a, o a = 0) (inb) (y : S.Idx) : (Rect.unit (s := S) o S.size inb).emb y = y := by
  funext a
  apply Fin.ext
  show o a + 1 * (y a).val = (y a).val
  rw [ho a]
  omega

/-- A whole buffer read whole gives what it holds. -/
theorem whole_read {sig : _} {S : Shape} {e : _} (A : Memref sig .tc .vmem S e) (hA : A.IsWhole) (x : Vec Ideal S e) {o : Fin S.rank → ℕ} (ho : ∀ a, o a = 0) (inb) :
    View.readAt (Elt Ideal) A.view (Rect.unit (s := S) o S.size inb).toLoadRect (hA.unread x) = x := by
  funext y
  have h : A.view.read (Elt Ideal) (hA.unread x) = x := hA.read_unread x
  refine Eq.trans (b := A.view.read (Elt Ideal) (hA.unread x) y) ?_ (congrFun h y)
  show A.view.read (Elt Ideal) (hA.unread x) ((Rect.unit (s := S) o S.size inb).emb y) = _
  rw [emb_whole ho]

/-- One whole piece read back is the piece. -/
theorem canon_whole {S : Shape} {e : _} (w : Vec Ideal S e) {o : Fin S.rank → ℕ} (ho : ∀ a, o a = 0) (inb) :
    View.canon (Val := Elt Ideal) (e := e) [(⟨Rect.unit (s := S) o S.size inb, w⟩ : View.Piece (Elt Ideal) S e)] = w := by
  funext y
  refine View.canon_apply_of_pieces (Val := Elt Ideal) (e := e) w _ ?_ y ?_
  · intro p hp x
    obtain rfl := List.mem_singleton.mp hp
    show w x = w ((Rect.unit (s := S) o S.size inb).emb x)
    rw [emb_whole ho]
  · refine ⟨_, List.mem_singleton.mpr rfl, ?_⟩
    show y ∈ (Rect.unit (s := S) o S.size inb).set
    rw [Rect.mem_set_unit]
    intro a
    have := (y a).isLt
    rw [ho a]
    omega

/-- Two places of an array with two axes agree if their coordinates do. -/
theorem idx2_ext {a b : ℕ} (x y : (⟨2, ![a, b]⟩ : Shape).Idx) (h0 : (x 0).val = (y 0).val) (h1 : (x 1).val = (y 1).val) : x = y := by
  funext k
  apply Fin.ext
  match k with
  | ⟨0, _⟩ => exact h0
  | ⟨1, _⟩ => exact h1

/-- The element `(r, q)` of the product of the first matrix's transpose with the second. -/
def tn {K a b : ℕ} (A : (⟨2, ![K, a]⟩ : Shape).Idx → EReal) (W : (⟨2, ![K, b]⟩ : Shape).Idx → EReal) (r : Fin a) (q : Fin b) : EReal :=
  ∑ k : Fin K, A (ix2 k r) * W (ix2 k q)

/-- The element `(r, q)` of the product of the first matrix with the second's transpose. -/
def nt {K a b : ℕ} (A : (⟨2, ![a, K]⟩ : Shape).Idx → EReal) (W : (⟨2, ![b, K]⟩ : Shape).Idx → EReal) (r : Fin a) (q : Fin b) : EReal :=
  ∑ k : Fin K, A (ix2 r k) * W (ix2 q k)

/-- The element `(r, q)` of the product of two matrices. -/
def nn {K a b : ℕ} (A : (⟨2, ![a, K]⟩ : Shape).Idx → EReal) (W : (⟨2, ![K, b]⟩ : Shape).Idx → EReal) (r : Fin a) (q : Fin b) : EReal :=
  ∑ k : Fin K, A (ix2 r k) * W (ix2 k q)

/-- A sum of products is another if its factors are. -/
theorem sum_mul_congr {K : ℕ} {f f' g g' : Fin K → EReal} (hf : ∀ k, f k = f' k) (hg : ∀ k, g k = g' k) : ∑ k, f k * g k = ∑ k, f' k * g' k :=
  Finset.sum_congr (M := EReal) rfl fun k _ => congrArg₂ HMul.hMul (hf k) (hg k)

/-- The same with the factors in the other order. -/
theorem sum_mul_comm_congr {K : ℕ} {f f' g g' : Fin K → EReal} (hf : ∀ k, f k = f' k) (hg : ∀ k, g k = g' k) : ∑ k, g k * f k = ∑ k, f' k * g' k :=
  Finset.sum_congr (M := EReal) rfl fun k _ => (mul_comm _ _).trans (congrArg₂ HMul.hMul (hf k) (hg k))

/-- A column of a matrix whose columns are kept in four pieces of `b`. -/
def col {a b n : ℕ} (hn : n = 4 * b) (i : (⟨3, ![4, a, b]⟩ : Shape).Idx) : Fin n :=
  ⟨(i 0).val * b + (i 2).val, by
    have h0 : (i 0).val < 4 := (i 0).isLt
    have h2 : (i 2).val < b := (i 2).isLt
    have : (i 0).val * b ≤ 3 * b := Nat.mul_le_mul_right b (by omega)
    omega⟩

/-- A block with one piece, as a matrix. -/
def one {K b : ℕ} (P : (⟨3, ![1, K, b]⟩ : Shape).Idx → EReal) (j : (⟨2, ![K, b]⟩ : Shape).Idx) : EReal := P (ix3 0 (j 0) (j 1))

/-- Offsets of zero on two axes. -/
theorem zero2 : (![0, 0] : Fin 2 → ℕ) = fun _ => 0 := funext fun a => by fin_cases a <;> rfl

/-- Offsets of zero on three axes. -/
theorem zero3 : (![0, 0, 0] : Fin 3 → ℕ) = fun _ => 0 := funext fun a => by fin_cases a <;> rfl

/-- An array's row read at any position, zero past its end. -/
def at0 (n : ℕ) (f : Fin n → EReal) (k : ℕ) : EReal := if h : k < n then f ⟨k, h⟩ else 0

/-- A sum over an axis is the sum of its positions. -/
theorem sum_at0 (n : ℕ) (f : Fin n → EReal) : ∑ k : Fin n, f k = ∑ k ∈ Finset.range n, at0 n f k := by
  rw [Finset.sum_range (M := EReal)]
  refine Finset.sum_congr (M := EReal) rfl fun k _ => ?_
  unfold at0
  rw [dif_pos k.isLt]

/-- A sum over four pieces of an axis, one after the other, is the sum over the axis. -/
theorem sum_four (b n : ℕ) (hn : n = 4 * b) (f : Fin n → EReal) (g : ℕ → Fin b → EReal) (h : ∀ (p : Fin 4) (k : Fin b), g p.val k = at0 n f (b * p.val + k.val)) :
    (∑ k : Fin b, g 0 k + ∑ k : Fin b, g 1 k) + ∑ k : Fin b, g 2 k + ∑ k : Fin b, g 3 k = ∑ k : Fin n, f k := by
  have e : ∀ p : Fin 4, ∑ k : Fin b, g p.val k = ∑ k ∈ Finset.range b, at0 n f (b * p.val + k) := fun p => by
    rw [Finset.sum_range (M := EReal)]
    exact Finset.sum_congr (M := EReal) rfl fun k _ => h p k
  subst hn
  rw [sum_at0 (4 * b) f, show Finset.range (4 * b) = Finset.range (b + b + b + b) from congrArg _ (by omega), Finset.sum_range_add, Finset.sum_range_add, Finset.sum_range_add]
  refine congrArg₂ HAdd.hAdd (congrArg₂ HAdd.hAdd (congrArg₂ HAdd.hAdd ?_ ?_) ?_) ?_
  · exact (e 0).trans (Finset.sum_congr (M := EReal) rfl fun k _ => by congr 1; simp)
  · exact (e 1).trans (Finset.sum_congr (M := EReal) rfl fun k _ => by congr 1; simp)
  · exact (e 2).trans (Finset.sum_congr (M := EReal) rfl fun k _ => by congr 1; simp; omega)
  · exact (e 3).trans (Finset.sum_congr (M := EReal) rfl fun k _ => by congr 1; simp; omega)

/-- The same for four steps numbered by their piece. -/
theorem sum_four_fin (b n : ℕ) (hn : n = 4 * b) (f : Fin n → EReal) (g : Fin 4 → Fin b → EReal) (h : ∀ (p : Fin 4) (k : Fin b), g p k = at0 n f (b * p.val + k.val)) :
    (∑ k : Fin b, g 0 k + ∑ k : Fin b, g 1 k) + ∑ k : Fin b, g 2 k + ∑ k : Fin b, g 3 k = ∑ k : Fin n, f k :=
  sum_four b n hn f (fun p => g (Fin.ofNat 4 p)) fun p k => (congrArg (fun q => g q k) (by apply Fin.ext; show p.val % 4 = p.val; have := p.isLt; omega)).trans (h p k)

end Cert.Blocks
-- ==== Proof.DNEq.lean ====
/- The gradient of the normalised input and its reference, read: every element of the kernel's result is the sum over the contracted axis, gathered in four steps. -/
module

public import proofs.«01_k».proof.Defs
public import proofs.«01_k».proof.Proof.Gen.DNIdeal.Value
public import proofs.«01_k».proof.Proof.Gen.DNReferenceIdeal.Run
public import proofs.«01_k».proof.Proof.Gen.DNReferenceIdeal.Read
public import proofs.«01_k».proof.Proof.Blocks

@[expose] public section

set_option maxRecDepth 16384

noncomputable section

namespace Cert.DNIdeal.Value

open Cert.DNIdeal Cert.DNIdeal.Gen Idealize.ShloMosaic Idealize.ShloMosaic.TcCoe Idealize.SL.Sem Cert.Blocks
open Idealize.ShloMosaic.Pipeline (Dat)

variable (m : (ℓ : Loc nD τ sig) → Buf (Elt Ideal) ℓ) (ρ : Dev nD → PrngReg)

/-- One product of the sum. -/
def prodAt (A : S2176x9216.Idx → EReal) (W : S2048x9216.Idx → EReal) (i : S2176x2048.Idx) (k : Fin 9216) : EReal :=
  A (ix2 (i 0) k) * W (ix2 (i 1) k)

/-- The gradient of the normalised input: element `(r, d)` sums over the 9216 projected columns the incoming gradient times the weight. -/
def G (A : S2176x9216.Idx → EReal) (W : S2048x9216.Idx → EReal) (i : S2176x2048.Idx) : EReal :=
  ∑ k : Fin 9216, prodAt A W i k

/-- The first step's product. -/
theorem pay2_apply (x0 : Vec Ideal S2176x2304 .bf16) (x1 : Vec Ideal S1x512x2304 .bf16) (y : S2176x512.Idx) :
    k0_pay2 x0 x1 y = ∑ k : Fin 2304, x0 (ix2 (y 0) k) * x1 (ix3 0 (y 1) k) := by
  unfold k0_pay2 k0_pay1
  pointwise

/-- A middle step's product added to what was gathered. -/
theorem pay3_apply (x0 : Vec Ideal S2176x2304 .bf16) (x1 : Vec Ideal S1x512x2304 .bf16) (v : Vec Ideal S2176x512 .f32) (y : S2176x512.Idx) :
    k0_pay3 x0 x1 v y = v y + ∑ k : Fin 2304, x0 (ix2 (y 0) k) * x1 (ix3 0 (y 1) k) := by
  unfold k0_pay3 k0_pay1
  pointwise

/-- The last step's product added to what was gathered. -/
theorem pay4_apply (x0 : Vec Ideal S2176x2304 .bf16) (x1 : Vec Ideal S1x512x2304 .bf16) (v : Vec Ideal S2176x512 .f32) (y : S2176x512.Idx) :
    k0_pay4 x0 x1 v y = v y + ∑ k : Fin 2304, x0 (ix2 (y 0) k) * x1 (ix3 0 (y 1) k) := by
  unfold k0_pay4 k0_pay1
  pointwise

/-- What the body leaves, case A: one whole block. -/
theorem leftA (c : Dev nD) (i : grid0.Coords) (arg3 : Memref sig .tc .vmem S2176x2304 .bf16) (harg3 : arg3.IsWhole) (arg4 : Memref sig .tc .vmem S1x512x2304 .bf16) (harg4 : arg4.IsWhole) (arg5 : Memref sig .tc .vmem S2176x512 .f32) (harg5 : arg5.IsWhole) (arg6 : Memref sig .tc .vmem S2176x512 .f32) (harg6 : arg6.IsWhole) (hc0 : cond0_0 i) (hc1 : ¬cond0_1 i) (hc2 : ¬cond0_2 i) (x0 : Vec Ideal S2176x2304 .bf16) (x1 : Vec Ideal S1x512x2304 .bf16) :
    sout0_A_0 (F := Ideal) c i arg3 harg3 arg4 harg4 arg5 harg5 arg6 harg6 hc0 hc1 hc2 x0 x1 = k0_pay2 x0 x1 := by
  unfold sout0_A_0
  rw [View.read_writes_junk_eq_canon]
  unfold kernelRun0_A
  dsimp only
  refine (canon_whole _ (congrFun zero2) _).trans ?_
  rw [whole_read arg3 harg3 x0 (congrFun zero2), whole_read arg4 harg4 x1 (congrFun zero3)]

/-- What the body leaves, case B: one whole block. -/
theorem leftB (c : Dev nD) (i : grid0.Coords) (arg3 : Memref sig .tc .vmem S2176x2304 .bf16) (harg3 : arg3.IsWhole) (arg4 : Memref sig .tc .vmem S1x512x2304 .bf16) (harg4 : arg4.IsWhole) (arg5 : Memref sig .tc .vmem S2176x512 .f32) (harg5 : arg5.IsWhole) (arg6 : Memref sig .tc .vmem S2176x512 .f32) (harg6 : arg6.IsWhole) (hc0 : ¬cond0_0 i) (hc1 : cond0_1 i) (hc2 : ¬cond0_2 i) (x0 : Vec Ideal S2176x2304 .bf16) (x1 : Vec Ideal S1x512x2304 .bf16) (xs0 : Vec Ideal S2176x512 .f32) :
    sout0_B_0 (F := Ideal) c i arg3 harg3 arg4 harg4 arg5 harg5 arg6 harg6 hc0 hc1 hc2 x0 x1 xs0 = k0_pay3 x0 x1 xs0 := by
  unfold sout0_B_0
  rw [View.read_writes_junk_eq_canon]
  unfold kernelRun0_B
  dsimp only
  refine (canon_whole _ (congrFun zero2) _).trans ?_
  rw [whole_read arg3 harg3 x0 (congrFun zero2), whole_read arg4 harg4 x1 (congrFun zero3), whole_read arg6 harg6 xs0 (congrFun zero2)]

/-- What the body leaves, case C: one whole block. -/
theorem leftC (c : Dev nD) (i : grid0.Coords) (arg3 : Memref sig .tc .vmem S2176x2304 .bf16) (harg3 : arg3.IsWhole) (arg4 : Memref sig .tc .vmem S1x512x2304 .bf16) (harg4 : arg4.IsWhole) (arg5 : Memref sig .tc .vmem S2176x512 .f32) (harg5 : arg5.IsWhole) (arg6 : Memref sig .tc .vmem S2176x512 .f32) (harg6 : arg6.IsWhole) (hc0 : ¬cond0_0 i) (hc1 : ¬cond0_1 i) (hc2 : cond0_2 i) (x0 : Vec Ideal S2176x2304 .bf16) (x1 : Vec Ideal S1x512x2304 .bf16) (xs0 : Vec Ideal S2176x512 .f32) :
    out0_C_2 (F := Ideal) c i arg3 harg3 arg4 harg4 arg5 harg5 arg6 harg6 hc0 hc1 hc2 x0 x1 xs0 = k0_pay4 x0 x1 xs0 := by
  unfold out0_C_2
  rw [View.read_writes_junk_eq_canon]
  unfold kernelRun0_C
  dsimp only
  refine (canon_whole _ (congrFun zero2) _).trans ?_
  rw [whole_read arg3 harg3 x0 (congrFun zero2), whole_read arg4 harg4 x1 (congrFun zero3), whole_read arg6 harg6 xs0 (congrFun zero2)]

/-- One step's product at a point. -/
def part (c : Dev nD) (t : Fin cfg0.N) (y : S2176x512.Idx) (k : Fin 2304) : EReal :=
  let x0 : Vec Ideal S2176x2304 .bf16 := iblk m c 0 t
  let x1 : Vec Ideal S1x512x2304 .bf16 := iblk m c 1 t
  x0 (ix2 (y 0) k) * x1 (ix3 0 (y 1) k)

/-- The scratch after a first step. -/
theorem first (c : Dev nD) (t : Fin cfg0.N) (h : t.val % 4 = 0) (y : S2176x512.Idx) :
    (outsAt0 m c t.val t.isLt).2 y = ∑ k : Fin 2304, part m c t y k := by
  rw [outsAt0_A m c t h (by omega) (by omega)]
  dsimp only
  rw [leftA]
  exact pay2_apply _ _ y

/-- The scratch after a middle step. -/
theorem middle (c : Dev nD) (t : Fin cfg0.N) (h : 1 ≤ t.val % 4 ∧ t.val % 4 ≤ 2) (y : S2176x512.Idx) :
    (outsAt0 m c t.val t.isLt).2 y = (outsAt0 m c (t.val - 1) (Nat.lt_of_le_of_lt (Nat.sub_le _ _) t.isLt)).2 y + ∑ k : Fin 2304, part m c t y k := by
  rw [outsAt0_B m c t (by omega) h (by omega)]
  dsimp only
  rw [leftB]
  exact pay3_apply _ _ _ y

/-- The result's block after a last step. -/
theorem last (c : Dev nD) (t : Fin cfg0.N) (h : t.val % 4 = 3) (y : S2176x512.Idx) :
    (outsAt0 m c t.val t.isLt).1 y = (outsAt0 m c (t.val - 1) (Nat.lt_of_le_of_lt (Nat.sub_le _ _) t.isLt)).2 y + ∑ k : Fin 2304, part m c t y k := by
  rw [outsAt0_C m c t (by omega) (by omega) h]
  dsimp only
  rw [leftC]
  exact pay4_apply _ _ _ y

/-- The four steps of a block, added up. -/
theorem steps (c : Dev nD) (q : ℕ) (h3 : 4 * q + 3 < cfg0.N) (y : S2176x512.Idx) :
    (outsAt0 m c (4 * q + 3) h3).1 y = (∑ k : Fin 2304, part m c ⟨4 * q, by omega⟩ y k + ∑ k : Fin 2304, part m c ⟨4 * q + 1, by omega⟩ y k) + ∑ k : Fin 2304, part m c ⟨4 * q + 2, by omega⟩ y k + ∑ k : Fin 2304, part m c ⟨4 * q + 3, h3⟩ y k := by
  have e3 := last m c ⟨4 * q + 3, h3⟩ (by show (4 * q + 3) % 4 = 3; omega) y
  have e2 := middle m c ⟨4 * q + 2, by omega⟩ (by show 1 ≤ (4 * q + 2) % 4 ∧ (4 * q + 2) % 4 ≤ 2; omega) y
  have e1 := middle m c ⟨4 * q + 1, by omega⟩ (by show 1 ≤ (4 * q + 1) % 4 ∧ (4 * q + 1) % 4 ≤ 2; omega) y
  have e0 := first m c ⟨4 * q, by omega⟩ (by show (4 * q) % 4 = 0; omega) y
  exact e3.trans (congrArg (· + _) (e2.trans (congrArg (· + _) (e1.trans (congrArg (· + _) e0)))))

/-- The first operand at the region's entry. -/
theorem V_l (c : Dev nD) (i : S2176x9216.Idx) : V m c main_v0 i = m ((c : Thread nD τ).loc main_arg0) i := by
  unfold V
  after_reads_at

/-- The second operand at the region's entry: the weights cut into four pieces of columns. -/
theorem V_r (c : Dev nD) (i : S4x2048x2304.Idx) : V m c main_v3 i = m ((c : Thread nD τ).loc main_arg1) (ix2 (i 1) (col rfl i)) := by
  unfold V
  after_reads_at
  rfl

/-- The printed index maps, decided over the grid: point `t` takes piece `t % 4` of the contracted axis and block `t / 4` of the result's columns. -/
theorem maps : ∀ t : Fin cfg0.N, win0_2.index t (0 : Fin 2) = 0 ∧ win0_2.index t (1 : Fin 2) = t.val / 4 ∧ win0_0.index t (0 : Fin 2) = 0 ∧ win0_0.index t (1 : Fin 2) = t.val % 4
    ∧ win0_1.index t (0 : Fin 3) = t.val % 4 ∧ win0_1.index t (1 : Fin 3) = win0_2.index t (1 : Fin 2) ∧ win0_1.index t (2 : Fin 3) = 0 :=
  (by decide +kernel : ∀ t : Fin grid0.N, _)

/-- Every block of the result is some point's, and that point writes it back. -/
theorem onto : ∀ q : Fin 4, ∃ t : Fin cfg0.N, (cfg0.win 2).flush t = true ∧ win0_2.index t (1 : Fin 2) = q.val :=
  (by decide +kernel : ∀ q : Fin 4, ∃ t : Fin grid0.N, win0_2.flush t = true ∧ win0_2.index t (1 : Fin 2) = q.val)

/-- One step's product, in the arrays. -/
theorem part_eq (c : Dev nD) (t : Fin cfg0.N) (y : S2176x512.Idx) (k : Fin 2304) (i : S2176x2048.Idx) (h0 : (i 0).val = (y 0).val) (h1 : (i 1).val = (t.val / 4) * 512 + (y 1).val) :
    part m c t y k = at0 9216 (prodAt (m ((c : Thread nD τ).loc main_arg0)) (m ((c : Thread nD τ).loc main_arg1)) i) (2304 * (t.val % 4) + k.val) := by
  obtain ⟨-, e1, e2, e3, e4, e5, e6⟩ := maps t
  have hk : k.val < 2304 := k.isLt
  have h4 : t.val % 4 < 4 := Nat.mod_lt _ (by omega)
  unfold at0
  rw [dif_pos (by omega)]
  unfold part prodAt
  refine congrArg₂ HMul.hMul ?_ ?_
  · exact (V_l m c _).trans (congrArg (m ((c : Thread nD τ).loc main_arg0)) (idx2_ext _ _
      (show win0_0.index t (0 : Fin 2) * 2176 + 1 * (y 0).val = (i 0).val by omega)
      (show win0_0.index t (1 : Fin 2) * 2304 + 1 * k.val = 2304 * (t.val % 4) + k.val by omega)))
  · exact (V_r m c _).trans (congrArg (m ((c : Thread nD τ).loc main_arg1)) (idx2_ext _ _
      (show win0_1.index t (1 : Fin 3) * 512 + 1 * (y 1).val = (i 1).val by omega)
      (show (win0_1.index t (0 : Fin 3) * 1 + 1 * 0) * 2304 + (win0_1.index t (2 : Fin 3) * 2304 + 1 * k.val) = 2304 * (t.val % 4) + k.val by omega)))

/-- What a last step writes back is its block of the products. -/
theorem flushedG_eq (c : Dev nD) (t : Fin cfg0.N) (hf : (cfg0.win 2).flush t = true) :
    (dats m 0 c).flushed 2 t = ((cfg0.win 2).blk t).view.read (Elt Ideal) (G (m ((c : Thread nD τ).loc main_arg0)) (m ((c : Thread nD τ).loc main_arg1))) := by
  have h3 : t.val % 4 = 3 := (flush0_2 t).mp hf
  obtain ⟨e0, e1, -⟩ := maps t
  obtain ⟨n, hn⟩ := t
  obtain ⟨q, rfl⟩ : ∃ q, n = 4 * q + 3 := ⟨n / 4, by have h3' : n % 4 = 3 := h3; omega⟩
  have hq : (4 * q + 3) / 4 = q := by omega
  have e1' : win0_2.index ⟨4 * q + 3, hn⟩ (1 : Fin 2) = q := e1.trans hq
  show (cfg0.win 2).cut (grid0.coords ⟨4 * q + 3, hn⟩) ((dats m 0 c).after 2 ⟨4 * q + 3, hn⟩) = _
  rw [after0_2]
  funext y
  show (outsAt0 m c (4 * q + 3) hn).1 y = (G (m ((c : Thread nD τ).loc main_arg0)) (m ((c : Thread nD τ).loc main_arg1))) (((cfg0.win 2).blk ⟨4 * q + 3, hn⟩).view.emb y)
  refine (steps m c q hn y).trans ?_
  have i0 : (((cfg0.win 2).blk ⟨4 * q + 3, hn⟩).view.emb y 0).val = (y 0).val := by
    show win0_2.index ⟨4 * q + 3, hn⟩ (0 : Fin 2) * 2176 + 1 * (y 0).val = (y 0).val
    omega
  have i1 : (((cfg0.win 2).blk ⟨4 * q + 3, hn⟩).view.emb y 1).val = q * 512 + (y 1).val := by
    show win0_2.index ⟨4 * q + 3, hn⟩ (1 : Fin 2) * 512 + 1 * (y 1).val = _
    omega
  have hp : ∀ (p : Fin 4), 4 * q + p.val < cfg0.N := fun p => by have := p.isLt; omega
  refine sum_four_fin 2304 9216 rfl (prodAt (m ((c : Thread nD τ).loc main_arg0)) (m ((c : Thread nD τ).loc main_arg1)) (((cfg0.win 2).blk ⟨4 * q + 3, hn⟩).view.emb y))
    (fun p => part m c ⟨4 * q + p.val, hp p⟩ y) (fun p k => ?_)
  have hp4 := p.isLt
  have hd : (4 * q + p.val) / 4 = q := by omega
  have hm : (4 * q + p.val) % 4 = p.val := by omega
  refine (part_eq m c ⟨4 * q + p.val, hp p⟩ y k (((cfg0.win 2).blk ⟨4 * q + 3, hn⟩).view.emb y) i0 ?_).trans ?_
  · exact i1.trans (congrArg (fun n => n * 512 + (y 1).val) hd.symm)
  · exact congrArg (fun n => at0 9216 (prodAt (m ((c : Thread nD τ).loc main_arg0)) (m ((c : Thread nD τ).loc main_arg1)) (((cfg0.win 2).blk ⟨4 * q + 3, hn⟩).view.emb y)) (2304 * n + k.val)) hm

/-- The result after the run. -/
theorem finalG (c : Dev nD) : (dats m 0 c).arrAt 2 cfg0.N = (G (m ((c : Thread nD τ).loc main_arg0)) (m ((c : Thread nD τ).loc main_arg1))) := by
  refine (dats m 0 c).arrAt_eq_of_cover 2 _ (fun t hf => flushedG_eq m c t hf) (fun (i : S2176x2048.Idx) => ?_)
  have hi0 : (i 0).val < 2176 := (i 0).isLt
  have hi1 : (i 1).val < 2048 := (i 1).isLt
  obtain ⟨t, hf, ht⟩ := onto ⟨(i 1).val / 512, by omega⟩
  obtain ⟨e0, -⟩ := maps t
  have ht' : win0_2.index t (1 : Fin 2) = (i 1).val / 512 := ht
  refine ⟨t, hf, ?_⟩
  show i ∈ ((View.whole main_v4).slice (win0_2.rect t)).set
  rw [View.set_slice_whole, Rect.mem_set_unit]
  intro a
  match a with
  | ⟨0, _⟩ => show win0_2.index t (0 : Fin 2) * 2176 ≤ (i 0).val ∧ (i 0).val < win0_2.index t (0 : Fin 2) * 2176 + 2176; omega
  | ⟨1, _⟩ => show win0_2.index t (1 : Fin 2) * 512 ≤ (i 1).val ∧ (i 1).val < win0_2.index t (1 : Fin 2) * 512 + 512; omega

end Cert.DNIdeal.Value

namespace Cert.DNReferenceIdeal.Read

open Cert.Blocks Idealize.ShloMosaic Idealize.ShloMosaic.TcCoe

/-- The reference's product, read: the same sum. -/
theorem val_eq (A : (⟨S2176x9216, .f32⟩ : BufTy).Contents (Elt Ideal)) (B : (⟨S2048x9216, .f32⟩ : BufTy).Contents (Elt Ideal)) :
    val_main_v2 (F := Ideal) A B = Cert.DNIdeal.Value.G A B := by
  funext i
  rw [val_main_v2_apply]
  unfold Cert.DNIdeal.Value.G Cert.DNIdeal.Value.prodAt
  exact sum_mul_congr (fun k => congrArg A (idx2_ext _ _ rfl rfl)) (fun k => congrArg B (idx2_ext _ _ rfl rfl))

end Cert.DNReferenceIdeal.Read

namespace Cert.DNEq

open Idealize.ShloMosaic Idealize.ShloMosaic.TcCoe Idealize.SL.Sem

/-- The kernel and its reference leave equal results and keep their arguments. -/
theorem algebraic : Cert.algebraic_DNIdeal_DNReferenceIdeal := by
  intro m g m' g' _ hagree
  refine ⟨fun c => Cert.DNIdeal.Value.G (m ((c : Thread Cert.DNIdeal.nD Cert.DNIdeal.τ).loc Cert.DNIdeal.main_arg0)) (m ((c : Thread Cert.DNIdeal.nD Cert.DNIdeal.τ).loc Cert.DNIdeal.main_arg1)),
    (θ_run Cert.DNIdeal.defs _ _).mono (fun r h c => ?_) (Cert.DNIdeal.Value.run_blocks m g),
    (θ_run Cert.DNReferenceIdeal.defs _ _).mono (fun r h c => ?_) (Cert.DNReferenceIdeal.Value.run m' g')⟩
  · obtain ⟨h0, k0, k1⟩ := h c
    exact ⟨h0.trans (Cert.DNIdeal.Value.finalG m c), k0, k1⟩
  · obtain ⟨h0, k0, k1⟩ := h c
    obtain ⟨a0, a1⟩ := hagree c
    rw [a0, a1] at h0
    exact ⟨h0.trans ((Cert.DNReferenceIdeal.Read.val_main_v2_eq _ _).trans (Cert.DNReferenceIdeal.Read.val_eq (m ((c : Thread Cert.DNIdeal.nD Cert.DNIdeal.τ).loc Cert.DNIdeal.main_arg0)) (m ((c : Thread Cert.DNIdeal.nD Cert.DNIdeal.τ).loc Cert.DNIdeal.main_arg1)))), k0, k1⟩

end Cert.DNEq
-- ==== Proof.GwUpEq.lean ====
/- The gradient of the first MLP weights: what the kernel leaves, what its reference leaves, and their equality over the extended reals. -/
module

public import proofs.«01_k».proof.Defs
public import proofs.«01_k».proof.Proof.Blocks
public import proofs.«01_k».proof.Proof.Gen.GwUpIdeal.Value
public import proofs.«01_k».proof.Proof.Gen.GwUpReferenceIdeal.Run
public import proofs.«01_k».proof.Proof.Gen.GwUpReferenceIdeal.Read
public import Idealize.ShloMosaic.Lib.StableHlo.ReadAt
public import Idealize.ShloMosaic.Lib.Pointwise

@[expose] public section

set_option maxRecDepth 16384

noncomputable section

namespace Cert.GwUpIdeal.Value

open Cert.GwUpIdeal Cert.GwUpIdeal.Gen Cert.Blocks Idealize.ShloMosaic Idealize.ShloMosaic.TcCoe Idealize.SL.Sem
open Idealize.ShloMosaic.Pipeline (Dat)

variable (m : (ℓ : Loc nD τ sig) → Buf (Elt Ideal) ℓ)

/-- The gradient of the first MLP weights, in four pieces of columns: the sum over the positions of the activation times the incoming gradient. -/
def G (A : S2176x2048.Idx → EReal) (W : S2176x8192.Idx → EReal) (i : S4x2048x2048.Idx) : EReal :=
  tn A W (i 1) (col (n := 8192) rfl i)

/-- The body's product at an element of the result's block. -/
theorem prod_apply (P0 : Vec Ideal S2176x2048 .bf16) (P1 : Vec Ideal S2176x512 .bf16) (y : S2048x512.Idx) :
    k0_pay1 P0 P1 y = tn (K := 2176) P0 P1 (y 0) (y 1) := by
  unfold k0_pay1 tn
  pointwise

/-- The first operand at the region's entry: the first argument. -/
theorem V_l (c : Dev nD) (i : S2176x2048.Idx) : V m c main_v0 i = m ((c : Thread nD τ).loc main_arg0) i := by
  unfold V
  after_reads_at

/-- The second operand at the region's entry: the second argument. -/
theorem V_r (c : Dev nD) (i : S2176x8192.Idx) : V m c main_v1 i = m ((c : Thread nD τ).loc main_arg1) i := by
  unfold V
  after_reads_at

/-- The printed index maps, decided over the grid. -/
theorem maps : ∀ t : Fin cfg0.N, win0_0.index t (0 : Fin 2) = 0
    ∧ win0_0.index t (1 : Fin 2) = 0
    ∧ win0_1.index t (0 : Fin 2) = 0
    ∧ win0_1.index t (1 : Fin 2) = t.val
    ∧ win0_2.index t (0 : Fin 3) = t.val / 4
    ∧ win0_2.index t (1 : Fin 3) = 0
    ∧ win0_2.index t (2 : Fin 3) = t.val % 4
    ∧ win0_3.index t (0 : Fin 3) = t.val / 4
    ∧ win0_3.index t (1 : Fin 3) = 0
    ∧ win0_3.index t (2 : Fin 3) = t.val % 4 :=
  (by decide +kernel : ∀ t : Fin grid0.N, _)

/-- Every point writes its blocks back. -/
theorem writes : ∀ t : Fin cfg0.N, (cfg0.win 2).flush t = true ∧ (cfg0.win 3).flush t = true :=
  (by decide +kernel : ∀ t : Fin grid0.N, win0_2.flush t = true ∧ win0_3.flush t = true)

/-- One point's sum, read at the place that its block has in the result. -/
theorem sum_block (c : Dev nD) (t : Fin cfg0.N) (y : S1x2048x512.Idx) (i : S4x2048x2048.Idx) (h0 : (i 0).val = (t.val / 4) * 1 + 1 * (y 0).val) (h1 : (i 1).val = (0) * 2048 + 1 * (y 1).val) (h2 : (i 2).val = (t.val % 4) * 512 + 1 * (y 2).val) :
    tn (K := 2176) (iblk m c 0 t : Vec Ideal S2176x2048 .bf16) (iblk m c 1 t : Vec Ideal S2176x512 .bf16) (y 1) (y 2) = G (m ((c : Thread nD τ).loc main_arg0)) (m ((c : Thread nD τ).loc main_arg1)) i := by
  obtain ⟨e0, e1, e2, e3, e4, e5, e6, e7, e8, e9⟩ := maps t
  have hy0 : (y 0).val < 1 := (y 0).isLt
  have hy1 : (y 1).val < 2048 := (y 1).isLt
  have hy2 : (y 2).val < 512 := (y 2).isLt
  unfold G tn
  refine sum_mul_congr (fun k => ?_) (fun k => ?_)
  · exact (V_l m c _).trans (congrArg (m ((c : Thread nD τ).loc main_arg0)) (idx2_ext _ _
      (show win0_0.index t (0 : Fin 2) * 2176 + 1 * k.val = k.val by omega)
      (show win0_0.index t (1 : Fin 2) * 2048 + 1 * (y 1).val = (i 1).val by omega)))
  · exact (V_r m c _).trans (congrArg (m ((c : Thread nD τ).loc main_arg1)) (idx2_ext _ _
      (show win0_1.index t (0 : Fin 2) * 2176 + 1 * k.val = k.val by omega)
      (show win0_1.index t (1 : Fin 2) * 512 + 1 * (y 2).val = ((i 0).val * 2048 + (i 2).val) by omega)))

/-- What a point writes back of output 2 is its block of the sums. -/
theorem flushed2_block (c : Dev nD) (t : Fin cfg0.N) : (dats m 0 c).flushed 2 t = ((cfg0.win 2).blk t).view.read (Elt Ideal) (G (m ((c : Thread nD τ).loc main_arg0)) (m ((c : Thread nD τ).loc main_arg1))) := by
  rw [flushed2]
  funext y
  obtain ⟨e0, e1, e2, e3, e4, e5, e6, e7, e8, e9⟩ := maps t
  show out0_2 (iblk m c 0 t) (iblk m c 1 t) y = (G (m ((c : Thread nD τ).loc main_arg0)) (m ((c : Thread nD τ).loc main_arg1))) (((cfg0.win 2).blk t).view.emb y)
  unfold out0_2
  rw [View.ld_unit_zero (zero2 : (_ : Fin S2176x2048.rank → ℕ) = _), View.ld_unit_zero (zero2 : (_ : Fin S2176x512.rank → ℕ) = _)]
  rw [canon2_eq]
  exact (prod_apply _ _ (ix2_0 y)).trans (sum_block m c t y (((cfg0.win 2).blk t).view.emb y) (congrArg (fun n => n * 1 + 1 * (y 0).val) (show win0_2.index t (0 : Fin 3) = t.val / 4 from e4)) (congrArg (fun n => n * 2048 + 1 * (y 1).val) (show win0_2.index t (1 : Fin 3) = 0 from e5)) (congrArg (fun n => n * 512 + 1 * (y 2).val) (show win0_2.index t (2 : Fin 3) = t.val % 4 from e6)))

/-- Output 2 after the run. -/
theorem final2_block (c : Dev nD) : (dats m 0 c).arrAt 2 cfg0.N = (G (m ((c : Thread nD τ).loc main_arg0)) (m ((c : Thread nD τ).loc main_arg1))) := by
  refine (dats m 0 c).arrAt_eq_of_cover 2 _ (fun t _ => flushed2_block m c t) (fun (i : S4x2048x2048.Idx) => ?_)
  have hi0 : (i 0).val < 4 := (i 0).isLt
  have hi1 : (i 1).val < 2048 := (i 1).isLt
  have hi2 : (i 2).val < 2048 := (i 2).isLt
  have hN : cfg0.N = 16 := rfl
  obtain ⟨t, ht⟩ : ∃ t : Fin cfg0.N, t.val = (i 0).val * 4 + (i 2).val / 512 := ⟨⟨(i 0).val * 4 + (i 2).val / 512, by omega⟩, rfl⟩
  obtain ⟨e0, e1, e2, e3, e4, e5, e6, e7, e8, e9⟩ := maps t
  refine ⟨t, (writes t).1, ?_⟩
  show i ∈ ((View.whole main_v2_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 512 ≤ (i 2).val ∧ (i 2).val < win0_2.index t (2 : Fin 3) * 512 + 512; omega

/-- What a point writes back of output 3 is its block of the sums. -/
theorem flushed3_block (c : Dev nD) (t : Fin cfg0.N) : (dats m 0 c).flushed 3 t = ((cfg0.win 3).blk t).view.read (Elt Ideal) (G (m ((c : Thread nD τ).loc main_arg0)) (m ((c : Thread nD τ).loc main_arg1))) := by
  rw [flushed3]
  funext y
  obtain ⟨e0, e1, e2, e3, e4, e5, e6, e7, e8, e9⟩ := maps t
  show out0_3 (iblk m c 0 t) (iblk m c 1 t) y = (G (m ((c : Thread nD τ).loc main_arg0)) (m ((c : Thread nD τ).loc main_arg1))) (((cfg0.win 3).blk t).view.emb y)
  unfold out0_3
  rw [View.ld_unit_zero (zero2 : (_ : Fin S2176x2048.rank → ℕ) = _), View.ld_unit_zero (zero2 : (_ : Fin S2176x512.rank → ℕ) = _)]
  rw [canon3_eq]
  exact (prod_apply _ _ (ix2_0 y)).trans (sum_block m c t y (((cfg0.win 3).blk t).view.emb y) (congrArg (fun n => n * 1 + 1 * (y 0).val) (show win0_3.index t (0 : Fin 3) = t.val / 4 from e7)) (congrArg (fun n => n * 2048 + 1 * (y 1).val) (show win0_3.index t (1 : Fin 3) = 0 from e8)) (congrArg (fun n => n * 512 + 1 * (y 2).val) (show win0_3.index t (2 : Fin 3) = t.val % 4 from e9)))

/-- Output 3 after the run. -/
theorem final3_block (c : Dev nD) : (dats m 0 c).arrAt 3 cfg0.N = (G (m ((c : Thread nD τ).loc main_arg0)) (m ((c : Thread nD τ).loc main_arg1))) := by
  refine (dats m 0 c).arrAt_eq_of_cover 3 _ (fun t _ => flushed3_block m c t) (fun (i : S4x2048x2048.Idx) => ?_)
  have hi0 : (i 0).val < 4 := (i 0).isLt
  have hi1 : (i 1).val < 2048 := (i 1).isLt
  have hi2 : (i 2).val < 2048 := (i 2).isLt
  have hN : cfg0.N = 16 := rfl
  obtain ⟨t, ht⟩ : ∃ t : Fin cfg0.N, t.val = (i 0).val * 4 + (i 2).val / 512 := ⟨⟨(i 0).val * 4 + (i 2).val / 512, by omega⟩, rfl⟩
  obtain ⟨e0, e1, e2, e3, e4, e5, e6, e7, e8, e9⟩ := maps t
  refine ⟨t, (writes t).2, ?_⟩
  show i ∈ ((View.whole main_v2_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 512 ≤ (i 2).val ∧ (i 2).val < win0_3.index t (2 : Fin 3) * 512 + 512; omega

end Cert.GwUpIdeal.Value

namespace Cert.GwUpReferenceIdeal.Read

open Cert.GwUpReferenceIdeal Cert.GwUpReferenceIdeal.Gen Cert.Blocks Idealize.ShloMosaic Idealize.ShloMosaic.TcCoe

/-- The reference's product, read: the same sum. -/
theorem prod_eq (A : (⟨S2176x2048, .f32⟩ : BufTy).Contents (Elt Ideal)) (W : (⟨S2176x8192, .f32⟩ : BufTy).Contents (Elt Ideal)) (i : S4x2048x2048.Idx) :
    val_main_v5 (F := Ideal) A W i = Cert.GwUpIdeal.Value.G A W i := by
  have h0 : (i 0).val < 4 := (i 0).isLt
  have h1 : (i 1).val < 2048 := (i 1).isLt
  have h2 : (i 2).val < 2048 := (i 2).isLt
  rw [val_main_v5_apply, val_main_v4_apply, val_main_v3_apply, val_main_v2_apply]
  unfold Cert.GwUpIdeal.Value.G tn
  refine sum_mul_comm_congr (fun k => congrArg A (idx2_ext _ _ rfl (show (((i 1).val * 4 + (i 0).val) * 2048 + (i 2).val) / 8192 = (i 1).val by omega))) (fun k => congrArg W (idx2_ext _ _ rfl (show (((i 1).val * 4 + (i 0).val) * 2048 + (i 2).val) % 8192 = (i 0).val * 2048 + (i 2).val by omega)))

end Cert.GwUpReferenceIdeal.Read

namespace Cert.GwUpEq

open Idealize.ShloMosaic Idealize.ShloMosaic.TcCoe Idealize.SL.Sem

/-- The kernel and its reference leave equal results and keep their arguments. -/
theorem algebraic : Cert.algebraic_GwUpIdeal_GwUpReferenceIdeal := by
  intro m g m' g' _ hagree
  refine ⟨fun c => Cert.GwUpIdeal.Value.G (m ((c : Thread Cert.GwUpIdeal.nD Cert.GwUpIdeal.τ).loc Cert.GwUpIdeal.main_arg0)) (m ((c : Thread Cert.GwUpIdeal.nD Cert.GwUpIdeal.τ).loc Cert.GwUpIdeal.main_arg1)),
    fun c => Cert.GwUpIdeal.Value.G (m ((c : Thread Cert.GwUpIdeal.nD Cert.GwUpIdeal.τ).loc Cert.GwUpIdeal.main_arg0)) (m ((c : Thread Cert.GwUpIdeal.nD Cert.GwUpIdeal.τ).loc Cert.GwUpIdeal.main_arg1)),
    (θ_run Cert.GwUpIdeal.defs _ _).mono (fun r h c => ?_) (Cert.GwUpIdeal.Value.run_blocks m g),
    (θ_run Cert.GwUpReferenceIdeal.defs _ _).mono (fun r h c => ?_) (Cert.GwUpReferenceIdeal.Value.run m' g')⟩
  · obtain ⟨h0, h1, k0, k1⟩ := h c
    exact ⟨h0.trans (Cert.GwUpIdeal.Value.final2_block m c), h1.trans (Cert.GwUpIdeal.Value.final3_block m c), k0, k1⟩
  · obtain ⟨h0, h1, k0, k1⟩ := h c
    obtain ⟨a0, a1⟩ := hagree c
    rw [a0, a1] at h0 h1
    exact ⟨h0.trans ((Cert.GwUpReferenceIdeal.Read.val_main_v5_eq _ _).trans ((funext fun i => Cert.GwUpReferenceIdeal.Read.prod_eq (m ((c : Thread Cert.GwUpIdeal.nD Cert.GwUpIdeal.τ).loc Cert.GwUpIdeal.main_arg0)) (m ((c : Thread Cert.GwUpIdeal.nD Cert.GwUpIdeal.τ).loc Cert.GwUpIdeal.main_arg1)) i))),
      h1.trans ((Cert.GwUpReferenceIdeal.Read.val_main_v6_eq _ _).trans ((funext fun i => Cert.GwUpReferenceIdeal.Read.prod_eq (m ((c : Thread Cert.GwUpIdeal.nD Cert.GwUpIdeal.τ).loc Cert.GwUpIdeal.main_arg0)) (m ((c : Thread Cert.GwUpIdeal.nD Cert.GwUpIdeal.τ).loc Cert.GwUpIdeal.main_arg1)) i))), k0, k1⟩

end Cert.GwUpEq
-- ==== Proof.GwDownEq.lean ====
/- The gradient of the second MLP weights: what the kernel leaves, what its reference leaves, and their equality over the extended reals. -/
module

public import proofs.«01_k».proof.Defs
public import proofs.«01_k».proof.Proof.Blocks
public import proofs.«01_k».proof.Proof.Gen.GwDownIdeal.Value
public import proofs.«01_k».proof.Proof.Gen.GwDownReferenceIdeal.Run
public import proofs.«01_k».proof.Proof.Gen.GwDownReferenceIdeal.Read
public import Idealize.ShloMosaic.Lib.StableHlo.ReadAt
public import Idealize.ShloMosaic.Lib.Pointwise

@[expose] public section

set_option maxRecDepth 16384

noncomputable section

namespace Cert.GwDownIdeal.Value

open Cert.GwDownIdeal Cert.GwDownIdeal.Gen Cert.Blocks Idealize.ShloMosaic Idealize.ShloMosaic.TcCoe Idealize.SL.Sem
open Idealize.ShloMosaic.Pipeline (Dat)

variable (m : (ℓ : Loc nD τ sig) → Buf (Elt Ideal) ℓ)

/-- The gradient of the second MLP weights: the sum over the positions of the activation times the incoming gradient. -/
def G (A : S2176x8192.Idx → EReal) (W : S2176x2048.Idx → EReal) (i : S8192x2048.Idx) : EReal :=
  tn A W (i 0) (i 1)

/-- The body's product at an element of the result's block. -/
theorem prod_apply (P0 : Vec Ideal S2176x2048 .bf16) (P1 : Vec Ideal S2176x512 .bf16) (y : S2048x512.Idx) :
    k0_pay1 P0 P1 y = tn (K := 2176) P0 P1 (y 0) (y 1) := by
  unfold k0_pay1 tn
  pointwise

/-- The first operand at the region's entry: the first argument. -/
theorem V_l (c : Dev nD) (i : S2176x8192.Idx) : V m c main_v0 i = m ((c : Thread nD τ).loc main_arg0) i := by
  unfold V
  after_reads_at

/-- The second operand at the region's entry: the second argument. -/
theorem V_r (c : Dev nD) (i : S2176x2048.Idx) : V m c main_v1 i = m ((c : Thread nD τ).loc main_arg1) i := by
  unfold V
  after_reads_at

/-- The printed index maps, decided over the grid. -/
theorem maps : ∀ t : Fin cfg0.N, win0_0.index t (0 : Fin 2) = 0
    ∧ win0_0.index t (1 : Fin 2) = t.val / 4
    ∧ win0_1.index t (0 : Fin 2) = 0
    ∧ win0_1.index t (1 : Fin 2) = t.val % 4
    ∧ win0_2.index t (0 : Fin 2) = t.val / 4
    ∧ win0_2.index t (1 : Fin 2) = t.val % 4
    ∧ win0_3.index t (0 : Fin 2) = t.val / 4
    ∧ win0_3.index t (1 : Fin 2) = t.val % 4 :=
  (by decide +kernel : ∀ t : Fin grid0.N, _)

/-- Every point writes its blocks back. -/
theorem writes : ∀ t : Fin cfg0.N, (cfg0.win 2).flush t = true ∧ (cfg0.win 3).flush t = true :=
  (by decide +kernel : ∀ t : Fin grid0.N, win0_2.flush t = true ∧ win0_3.flush t = true)

/-- One point's sum, read at the place that its block has in the result. -/
theorem sum_block (c : Dev nD) (t : Fin cfg0.N) (y : S2048x512.Idx) (i : S8192x2048.Idx) (h0 : (i 0).val = (t.val / 4) * 2048 + 1 * (y 0).val) (h1 : (i 1).val = (t.val % 4) * 512 + 1 * (y 1).val) :
    tn (K := 2176) (iblk m c 0 t : Vec Ideal S2176x2048 .bf16) (iblk m c 1 t : Vec Ideal S2176x512 .bf16) (y 0) (y 1) = G (m ((c : Thread nD τ).loc main_arg0)) (m ((c : Thread nD τ).loc main_arg1)) i := by
  obtain ⟨e0, e1, e2, e3, e4, e5, e6, e7⟩ := maps t
  have hy0 : (y 0).val < 2048 := (y 0).isLt
  have hy1 : (y 1).val < 512 := (y 1).isLt
  unfold G tn
  refine sum_mul_congr (fun k => ?_) (fun k => ?_)
  · exact (V_l m c _).trans (congrArg (m ((c : Thread nD τ).loc main_arg0)) (idx2_ext _ _
      (show win0_0.index t (0 : Fin 2) * 2176 + 1 * k.val = k.val by omega)
      (show win0_0.index t (1 : Fin 2) * 2048 + 1 * (y 0).val = (i 0).val by omega)))
  · exact (V_r m c _).trans (congrArg (m ((c : Thread nD τ).loc main_arg1)) (idx2_ext _ _
      (show win0_1.index t (0 : Fin 2) * 2176 + 1 * k.val = k.val by omega)
      (show win0_1.index t (1 : Fin 2) * 512 + 1 * (y 1).val = (i 1).val by omega)))

/-- What a point writes back of output 2 is its block of the sums. -/
theorem flushed2_block (c : Dev nD) (t : Fin cfg0.N) : (dats m 0 c).flushed 2 t = ((cfg0.win 2).blk t).view.read (Elt Ideal) (G (m ((c : Thread nD τ).loc main_arg0)) (m ((c : Thread nD τ).loc main_arg1))) := by
  rw [flushed2]
  funext y
  obtain ⟨e0, e1, e2, e3, e4, e5, e6, e7⟩ := maps t
  show out0_2 (iblk m c 0 t) (iblk m c 1 t) y = (G (m ((c : Thread nD τ).loc main_arg0)) (m ((c : Thread nD τ).loc main_arg1))) (((cfg0.win 2).blk t).view.emb y)
  unfold out0_2
  rw [View.ld_unit_zero (zero2 : (_ : Fin S2176x2048.rank → ℕ) = _), View.ld_unit_zero (zero2 : (_ : Fin S2176x512.rank → ℕ) = _)]
  refine (congrFun (canon_whole (S := S2048x512) (e := .f32) (o := ![0, 0]) (k0_pay1 (iblk m c 0 t) (iblk m c 1 t)) (fun a => congrFun zero2 a) _) y).trans ?_
  exact (prod_apply _ _ y).trans (sum_block m c t y (((cfg0.win 2).blk t).view.emb y) (congrArg (fun n => n * 2048 + 1 * (y 0).val) (show win0_2.index t (0 : Fin 2) = t.val / 4 from e4)) (congrArg (fun n => n * 512 + 1 * (y 1).val) (show win0_2.index t (1 : Fin 2) = t.val % 4 from e5)))

/-- Output 2 after the run. -/
theorem final2_block (c : Dev nD) : (dats m 0 c).arrAt 2 cfg0.N = (G (m ((c : Thread nD τ).loc main_arg0)) (m ((c : Thread nD τ).loc main_arg1))) := by
  refine (dats m 0 c).arrAt_eq_of_cover 2 _ (fun t _ => flushed2_block m c t) (fun (i : S8192x2048.Idx) => ?_)
  have hi0 : (i 0).val < 8192 := (i 0).isLt
  have hi1 : (i 1).val < 2048 := (i 1).isLt
  have hN : cfg0.N = 16 := rfl
  obtain ⟨t, ht⟩ : ∃ t : Fin cfg0.N, t.val = (i 0).val / 2048 * 4 + (i 1).val / 512 := ⟨⟨(i 0).val / 2048 * 4 + (i 1).val / 512, by omega⟩, rfl⟩
  obtain ⟨e0, e1, e2, e3, e4, e5, e6, e7⟩ := maps t
  refine ⟨t, (writes t).1, ?_⟩
  show i ∈ ((View.whole main_v2_0).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- What a point writes back of output 3 is its block of the sums. -/
theorem flushed3_block (c : Dev nD) (t : Fin cfg0.N) : (dats m 0 c).flushed 3 t = ((cfg0.win 3).blk t).view.read (Elt Ideal) (G (m ((c : Thread nD τ).loc main_arg0)) (m ((c : Thread nD τ).loc main_arg1))) := by
  rw [flushed3]
  funext y
  obtain ⟨e0, e1, e2, e3, e4, e5, e6, e7⟩ := maps t
  show out0_3 (iblk m c 0 t) (iblk m c 1 t) y = (G (m ((c : Thread nD τ).loc main_arg0)) (m ((c : Thread nD τ).loc main_arg1))) (((cfg0.win 3).blk t).view.emb y)
  unfold out0_3
  rw [View.ld_unit_zero (zero2 : (_ : Fin S2176x2048.rank → ℕ) = _), View.ld_unit_zero (zero2 : (_ : Fin S2176x512.rank → ℕ) = _)]
  refine (congrFun (canon_whole (S := S2048x512) (e := .bf16) (o := ![0, 0]) (k0_pay2 (iblk m c 0 t) (iblk m c 1 t)) (fun a => congrFun zero2 a) _) y).trans ?_
  exact (prod_apply _ _ y).trans (sum_block m c t y (((cfg0.win 3).blk t).view.emb y) (congrArg (fun n => n * 2048 + 1 * (y 0).val) (show win0_3.index t (0 : Fin 2) = t.val / 4 from e6)) (congrArg (fun n => n * 512 + 1 * (y 1).val) (show win0_3.index t (1 : Fin 2) = t.val % 4 from e7)))

/-- Output 3 after the run. -/
theorem final3_block (c : Dev nD) : (dats m 0 c).arrAt 3 cfg0.N = (G (m ((c : Thread nD τ).loc main_arg0)) (m ((c : Thread nD τ).loc main_arg1))) := by
  refine (dats m 0 c).arrAt_eq_of_cover 3 _ (fun t _ => flushed3_block m c t) (fun (i : S8192x2048.Idx) => ?_)
  have hi0 : (i 0).val < 8192 := (i 0).isLt
  have hi1 : (i 1).val < 2048 := (i 1).isLt
  have hN : cfg0.N = 16 := rfl
  obtain ⟨t, ht⟩ : ∃ t : Fin cfg0.N, t.val = (i 0).val / 2048 * 4 + (i 1).val / 512 := ⟨⟨(i 0).val / 2048 * 4 + (i 1).val / 512, by omega⟩, rfl⟩
  obtain ⟨e0, e1, e2, e3, e4, e5, e6, e7⟩ := maps t
  refine ⟨t, (writes t).2, ?_⟩
  show i ∈ ((View.whole main_v2_1).slice (win0_3.rect t)).set
  rw [View.set_slice_whole, Rect.mem_set_unit]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

end Cert.GwDownIdeal.Value

namespace Cert.GwDownReferenceIdeal.Read

open Cert.GwDownReferenceIdeal Cert.GwDownReferenceIdeal.Gen Cert.Blocks Idealize.ShloMosaic Idealize.ShloMosaic.TcCoe

/-- The reference's product, read: the same sum. -/
theorem prod_eq (A : (⟨S2176x8192, .f32⟩ : BufTy).Contents (Elt Ideal)) (W : (⟨S2176x2048, .f32⟩ : BufTy).Contents (Elt Ideal)) (i : S8192x2048.Idx) :
    val_main_v3 (F := Ideal) A W i = Cert.GwDownIdeal.Value.G A W i := by
  rw [val_main_v3_apply, val_main_v2_apply]
  unfold Cert.GwDownIdeal.Value.G tn
  refine sum_mul_comm_congr (fun k => congrArg A (idx2_ext _ _ rfl rfl)) (fun k => congrArg W (idx2_ext _ _ rfl rfl))

end Cert.GwDownReferenceIdeal.Read

namespace Cert.GwDownEq

open Idealize.ShloMosaic Idealize.ShloMosaic.TcCoe Idealize.SL.Sem

/-- The kernel and its reference leave equal results and keep their arguments. -/
theorem algebraic : Cert.algebraic_GwDownIdeal_GwDownReferenceIdeal := by
  intro m g m' g' _ hagree
  refine ⟨fun c => Cert.GwDownIdeal.Value.G (m ((c : Thread Cert.GwDownIdeal.nD Cert.GwDownIdeal.τ).loc Cert.GwDownIdeal.main_arg0)) (m ((c : Thread Cert.GwDownIdeal.nD Cert.GwDownIdeal.τ).loc Cert.GwDownIdeal.main_arg1)),
    fun c => Cert.GwDownIdeal.Value.G (m ((c : Thread Cert.GwDownIdeal.nD Cert.GwDownIdeal.τ).loc Cert.GwDownIdeal.main_arg0)) (m ((c : Thread Cert.GwDownIdeal.nD Cert.GwDownIdeal.τ).loc Cert.GwDownIdeal.main_arg1)),
    (θ_run Cert.GwDownIdeal.defs _ _).mono (fun r h c => ?_) (Cert.GwDownIdeal.Value.run_blocks m g),
    (θ_run Cert.GwDownReferenceIdeal.defs _ _).mono (fun r h c => ?_) (Cert.GwDownReferenceIdeal.Value.run m' g')⟩
  · obtain ⟨h0, h1, k0, k1⟩ := h c
    exact ⟨h0.trans (Cert.GwDownIdeal.Value.final2_block m c), h1.trans (Cert.GwDownIdeal.Value.final3_block m c), k0, k1⟩
  · obtain ⟨h0, h1, k0, k1⟩ := h c
    obtain ⟨a0, a1⟩ := hagree c
    rw [a0, a1] at h0 h1
    exact ⟨h0.trans ((Cert.GwDownReferenceIdeal.Read.val_main_v3_eq _ _).trans ((funext fun i => Cert.GwDownReferenceIdeal.Read.prod_eq (m ((c : Thread Cert.GwDownIdeal.nD Cert.GwDownIdeal.τ).loc Cert.GwDownIdeal.main_arg0)) (m ((c : Thread Cert.GwDownIdeal.nD Cert.GwDownIdeal.τ).loc Cert.GwDownIdeal.main_arg1)) i))),
      h1.trans ((Cert.GwDownReferenceIdeal.Read.val_main_v4_eq _ _).trans ((funext fun i => Cert.GwDownReferenceIdeal.Read.prod_eq (m ((c : Thread Cert.GwDownIdeal.nD Cert.GwDownIdeal.τ).loc Cert.GwDownIdeal.main_arg0)) (m ((c : Thread Cert.GwDownIdeal.nD Cert.GwDownIdeal.τ).loc Cert.GwDownIdeal.main_arg1)) i))), k0, k1⟩

end Cert.GwDownEq
-- ==== Proof.DUpEq.lean ====
/- The gradient before the squared positive part: what the kernel leaves, what its reference leaves, and their equality over the extended reals. -/
module

public import proofs.«01_k».proof.Defs
public import proofs.«01_k».proof.Proof.Blocks
public import proofs.«01_k».proof.Proof.Gen.DUpIdeal.Value
public import proofs.«01_k».proof.Proof.Gen.DUpReferenceIdeal.Run
public import proofs.«01_k».proof.Proof.Gen.DUpReferenceIdeal.Read
public import Idealize.ShloMosaic.Lib.StableHlo.ReadAt
public import Idealize.ShloMosaic.Lib.Pointwise

@[expose] public section

set_option maxRecDepth 16384

noncomputable section

namespace Cert.DUpIdeal.Value

open Cert.DUpIdeal Cert.DUpIdeal.Gen Cert.Blocks Idealize.ShloMosaic Idealize.ShloMosaic.TcCoe Idealize.SL.Sem
open Idealize.ShloMosaic.Pipeline (Dat)

variable (m : (ℓ : Loc nD τ sig) → Buf (Elt Ideal) ℓ)

/-- The incoming gradient times the second MLP weights: the sum over the output channels. -/
def G (A : S2176x2048.Idx → EReal) (W : S8192x2048.Idx → EReal) (i : S2176x8192.Idx) : EReal :=
  nt A W (i 0) (i 1)

/-- The kernel's result: the sum, times twice the positive part. -/
def GX (A : S2176x2048.Idx → EReal) (W : S8192x2048.Idx → EReal) (X : S2176x8192.Idx → EReal) (i : S2176x8192.Idx) : EReal :=
  G A W i * (FloatOps.ofBits (F := Ideal) .f32 0x40000000#32 * max (X i) (FloatOps.ofBits (F := Ideal) .f32 0x00000000#32))

/-- The body's result at an element of its block. -/
theorem pay_apply (P0 : Vec Ideal S2176x2048 .bf16) (P1 : Vec Ideal S512x2048 .bf16) (P2 : Vec Ideal S2176x512 .f32) (y : S2176x512.Idx) :
    k0_pay1 P0 P1 P2 y = nt (K := 2048) P0 P1 (y 0) (y 1) * (FloatOps.ofBits (F := Ideal) .f32 0x40000000#32 * max (P2 y) (FloatOps.ofBits (F := Ideal) .f32 0x00000000#32)) := by
  unfold k0_pay1 nt
  pointwise

/-- The first operand at the region's entry: the first argument. -/
theorem V_l (c : Dev nD) (i : S2176x2048.Idx) : V m c main_v0 i = m ((c : Thread nD τ).loc main_arg0) i := by
  unfold V
  after_reads_at

/-- The second operand at the region's entry: the second argument. -/
theorem V_r (c : Dev nD) (i : S8192x2048.Idx) : V m c main_v1 i = m ((c : Thread nD τ).loc main_arg1) i := by
  unfold V
  after_reads_at

/-- The third operand at the region's entry: the third argument. -/
theorem V_x (c : Dev nD) (i : S2176x8192.Idx) : V m c main_arg2 i = m ((c : Thread nD τ).loc main_arg2) i := by
  unfold V
  after_reads_at

/-- The printed index maps, decided over the grid. -/
theorem maps : ∀ t : Fin cfg0.N, win0_0.index t (0 : Fin 2) = 0
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = t.val
    ∧ win0_3.index t (0 : Fin 2) = 0
    ∧ win0_3.index t (1 : Fin 2) = t.val :=
  (by decide +kernel : ∀ t : Fin grid0.N, _)

/-- Every point writes its blocks back. -/
theorem writes : ∀ t : Fin cfg0.N, (cfg0.win 3).flush t = true :=
  (by decide +kernel : ∀ t : Fin grid0.N, win0_3.flush t = true)

/-- One point's sum, read at the place that its block has in the result. -/
theorem sum_block (c : Dev nD) (t : Fin cfg0.N) (y : S2176x512.Idx) (i : S2176x8192.Idx) (h0 : (i 0).val = (0) * 2176 + 1 * (y 0).val) (h1 : (i 1).val = (t.val) * 512 + 1 * (y 1).val) :
    nt (K := 2048) (iblk m c 0 t : Vec Ideal S2176x2048 .bf16) (iblk m c 1 t : Vec Ideal S512x2048 .bf16) (y 0) (y 1) = G (m ((c : Thread nD τ).loc main_arg0)) (m ((c : Thread nD τ).loc main_arg1)) i := by
  obtain ⟨e0, e1, e2, e3, e4, e5, e6, e7⟩ := maps t
  have hy0 : (y 0).val < 2176 := (y 0).isLt
  have hy1 : (y 1).val < 512 := (y 1).isLt
  unfold G nt
  refine sum_mul_congr (fun k => ?_) (fun k => ?_)
  · exact (V_l m c _).trans (congrArg (m ((c : Thread nD τ).loc main_arg0)) (idx2_ext _ _
      (show win0_0.index t (0 : Fin 2) * 2176 + 1 * (y 0).val = (i 0).val by omega)
      (show win0_0.index t (1 : Fin 2) * 2048 + 1 * k.val = k.val by omega)))
  · exact (V_r m c _).trans (congrArg (m ((c : Thread nD τ).loc main_arg1)) (idx2_ext _ _
      (show win0_1.index t (0 : Fin 2) * 512 + 1 * (y 1).val = (i 1).val by omega)
      (show win0_1.index t (1 : Fin 2) * 2048 + 1 * k.val = k.val by omega)))

/-- What a point writes back of output 3 is its block of the sums. -/
theorem flushed3_block (c : Dev nD) (t : Fin cfg0.N) : (dats m 0 c).flushed 3 t = ((cfg0.win 3).blk t).view.read (Elt Ideal) (GX (m ((c : Thread nD τ).loc main_arg0)) (m ((c : Thread nD τ).loc main_arg1)) (m ((c : Thread nD τ).loc main_arg2))) := by
  rw [flushed3]
  funext y
  obtain ⟨e0, e1, e2, e3, e4, e5, e6, e7⟩ := maps t
  show out0_3 (iblk m c 0 t) (iblk m c 1 t) (iblk m c 2 t) y = (GX (m ((c : Thread nD τ).loc main_arg0)) (m ((c : Thread nD τ).loc main_arg1)) (m ((c : Thread nD τ).loc main_arg2))) (((cfg0.win 3).blk t).view.emb y)
  unfold out0_3
  rw [View.ld_unit_zero (zero2 : (_ : Fin S2176x2048.rank → ℕ) = _), View.ld_unit_zero (zero2 : (_ : Fin S512x2048.rank → ℕ) = _), View.ld_unit_zero (zero2 : (_ : Fin S2176x512.rank → ℕ) = _)]
  refine (congrFun (canon_whole (S := S2176x512) (e := .bf16) (o := ![0, 0]) (k0_pay1 (iblk m c 0 t) (iblk m c 1 t) (iblk m c 2 t)) (fun a => congrFun zero2 a) _) y).trans ?_
  refine (pay_apply _ _ _ y).trans (congrArg₂ HMul.hMul (sum_block m c t y (((cfg0.win 3).blk t).view.emb y) (congrArg (fun n => n * 2176 + 1 * (y 0).val) (show win0_3.index t (0 : Fin 2) = 0 from e6)) (congrArg (fun n => n * 512 + 1 * (y 1).val) (show win0_3.index t (1 : Fin 2) = t.val from e7))) ?_)
  refine congrArg (fun z => FloatOps.ofBits (F := Ideal) .f32 0x40000000#32 * max z (FloatOps.ofBits (F := Ideal) .f32 0x00000000#32)) ?_
  show V m c main_arg2 (((cfg0.win 2).blk t).view.emb _) = _
  rw [V_x]
  refine congrArg (m ((c : Thread nD τ).loc main_arg2)) ?_
  funext a
  apply Fin.ext
  match a with
  | ⟨0, _⟩ => show win0_2.index t (0 : Fin 2) * 2176 + 1 * (y 0).val = win0_3.index t (0 : Fin 2) * 2176 + 1 * (y 0).val; omega
  | ⟨1, _⟩ => show win0_2.index t (1 : Fin 2) * 512 + 1 * (y 1).val = win0_3.index t (1 : Fin 2) * 512 + 1 * (y 1).val; omega

/-- Output 3 after the run. -/
theorem final3_block (c : Dev nD) : (dats m 0 c).arrAt 3 cfg0.N = (GX (m ((c : Thread nD τ).loc main_arg0)) (m ((c : Thread nD τ).loc main_arg1)) (m ((c : Thread nD τ).loc main_arg2))) := by
  refine (dats m 0 c).arrAt_eq_of_cover 3 _ (fun t _ => flushed3_block m c t) (fun (i : S2176x8192.Idx) => ?_)
  have hi0 : (i 0).val < 2176 := (i 0).isLt
  have hi1 : (i 1).val < 8192 := (i 1).isLt
  have hN : cfg0.N = 16 := rfl
  obtain ⟨t, ht⟩ : ∃ t : Fin cfg0.N, t.val = (i 1).val / 512 := ⟨⟨(i 1).val / 512, by omega⟩, rfl⟩
  obtain ⟨e0, e1, e2, e3, e4, e5, e6, e7⟩ := maps t
  refine ⟨t, writes t, ?_⟩
  show i ∈ ((View.whole main_v2).slice (win0_3.rect t)).set
  rw [View.set_slice_whole, Rect.mem_set_unit]
  intro a
  match a with
  | ⟨0, _⟩ => show win0_3.index t (0 : Fin 2) * 2176 ≤ (i 0).val ∧ (i 0).val < win0_3.index t (0 : Fin 2) * 2176 + 2176; omega
  | ⟨1, _⟩ => show win0_3.index t (1 : Fin 2) * 512 ≤ (i 1).val ∧ (i 1).val < win0_3.index t (1 : Fin 2) * 512 + 512; omega

end Cert.DUpIdeal.Value

namespace Cert.DUpReferenceIdeal.Read

open Cert.DUpReferenceIdeal Cert.DUpReferenceIdeal.Gen Cert.Blocks Idealize.ShloMosaic Idealize.ShloMosaic.TcCoe

/-- The reference's product, read: the same sum. -/
theorem prod_eq (A : (⟨S2176x2048, .f32⟩ : BufTy).Contents (Elt Ideal)) (W : (⟨S8192x2048, .f32⟩ : BufTy).Contents (Elt Ideal)) (i : S2176x8192.Idx) :
    val_main_v8 (F := Ideal) A W i = Cert.DUpIdeal.Value.G A W i := by
  rw [val_main_v8_apply]
  unfold Cert.DUpIdeal.Value.G nt
  refine sum_mul_congr (fun k => congrArg A (idx2_ext _ _ rfl rfl)) (fun k => congrArg W (idx2_ext _ _ rfl rfl))

/-- The reference's result: where the argument is positive both factors are the kernel's; elsewhere both results are zero. -/
theorem res_eq (A : (⟨S2176x2048, .f32⟩ : BufTy).Contents (Elt Ideal)) (W : (⟨S8192x2048, .f32⟩ : BufTy).Contents (Elt Ideal)) (X : (⟨S2176x8192, .f32⟩ : BufTy).Contents (Elt Ideal)) :
    val_main_v12 (F := Ideal) A W X = Cert.DUpIdeal.Value.GX A W X := by
  funext i
  have z : (FloatOps.ofBits (F := Ideal) .f32 0x00000000#32) = (0 : EReal) := Ideal.ofBits_zero_f32
  show Scalar.select (val_main_v2 (F := Ideal) X i) (val_main_v8 (F := Ideal) A W i * val_main_v6 (F := Ideal) X i) (val_main_v10 (F := Ideal) i) = _
  have e6 : val_main_v6 (F := Ideal) X i = FloatOps.ofBits (F := Ideal) .f32 0x40000000#32 * max (X i) (FloatOps.ofBits (F := Ideal) .f32 0x00000000#32) := by
    rw [val_main_v6_apply, val_main_v5_apply, val_main_cst_1_apply, val_main_v0_apply, val_main_call0_v0_apply, val_main_call0_cst_apply]
    rfl
  rw [prod_eq, e6, val_main_v10_apply, val_main_cst_2_apply, val_main_v2_apply, val_main_v1_apply, val_main_cst_apply]
  unfold Cert.DUpIdeal.Value.GX
  rw [z]
  by_cases h : (0 : EReal) < X i
  · have hc : FloatOps.cmpf (F := Ideal) (φ := .f32) .ogt (X i) (0 : EReal) = 1#1 := by
      show Ideal.cmp .ogt (X i) 0 = _
      simp [Ideal.cmp, h]
    rw [hc]
    rfl
  · have hc : FloatOps.cmpf (F := Ideal) (φ := .f32) .ogt (X i) (0 : EReal) = 0#1 := by
      show Ideal.cmp .ogt (X i) 0 = _
      simp [Ideal.cmp, h]
    rw [hc, max_eq_right (not_lt.mp h), mul_zero, mul_zero]
    rfl

end Cert.DUpReferenceIdeal.Read

namespace Cert.DUpEq

open Idealize.ShloMosaic Idealize.ShloMosaic.TcCoe Idealize.SL.Sem

/-- The kernel and its reference leave equal results and keep their arguments. -/
theorem algebraic : Cert.algebraic_DUpIdeal_DUpReferenceIdeal := by
  intro m g m' g' _ hagree
  refine ⟨fun c => Cert.DUpIdeal.Value.GX (m ((c : Thread Cert.DUpIdeal.nD Cert.DUpIdeal.τ).loc Cert.DUpIdeal.main_arg0)) (m ((c : Thread Cert.DUpIdeal.nD Cert.DUpIdeal.τ).loc Cert.DUpIdeal.main_arg1)) (m ((c : Thread Cert.DUpIdeal.nD Cert.DUpIdeal.τ).loc Cert.DUpIdeal.main_arg2)),
    (θ_run Cert.DUpIdeal.defs _ _).mono (fun r h c => ?_) (Cert.DUpIdeal.Value.run_blocks m g),
    (θ_run Cert.DUpReferenceIdeal.defs _ _).mono (fun r h c => ?_) (Cert.DUpReferenceIdeal.Value.run m' g')⟩
  · obtain ⟨h0, k0, k1, k2⟩ := h c
    exact ⟨h0.trans (Cert.DUpIdeal.Value.final3_block m c), k0, k1, k2⟩
  · obtain ⟨h0, k0, k1, k2⟩ := h c
    obtain ⟨a0, a1, a2⟩ := hagree c
    rw [a0, a1, a2] at h0
    exact ⟨h0.trans ((Cert.DUpReferenceIdeal.Read.val_main_v12_eq _ _ _).trans (Cert.DUpReferenceIdeal.Read.res_eq (m ((c : Thread Cert.DUpIdeal.nD Cert.DUpIdeal.τ).loc Cert.DUpIdeal.main_arg0)) (m ((c : Thread Cert.DUpIdeal.nD Cert.DUpIdeal.τ).loc Cert.DUpIdeal.main_arg1)) (m ((c : Thread Cert.DUpIdeal.nD Cert.DUpIdeal.τ).loc Cert.DUpIdeal.main_arg2)))), k0, k1, k2⟩

end Cert.DUpEq
-- ==== Proof.DNTwoEq.lean ====
/- The gradient of the second normalised input and its reference, read: every element of the kernel's result is the sum over the contracted axis, gathered in four steps. -/
module

public import proofs.«01_k».proof.Defs
public import proofs.«01_k».proof.Proof.Gen.DNTwoIdeal.Value
public import proofs.«01_k».proof.Proof.Gen.DNTwoReferenceIdeal.Run
public import proofs.«01_k».proof.Proof.Gen.DNTwoReferenceIdeal.Read
public import proofs.«01_k».proof.Proof.Blocks

@[expose] public section

set_option maxRecDepth 16384

noncomputable section

namespace Cert.DNTwoIdeal.Value

open Cert.DNTwoIdeal Cert.DNTwoIdeal.Gen Idealize.ShloMosaic Idealize.ShloMosaic.TcCoe Idealize.SL.Sem Cert.Blocks
open Idealize.ShloMosaic.Pipeline (Dat)

variable (m : (ℓ : Loc nD τ sig) → Buf (Elt Ideal) ℓ) (ρ : Dev nD → PrngReg)

/-- One product of the sum. -/
def prodAt (A : S2176x8192.Idx → EReal) (W : S2048x8192.Idx → EReal) (i : S2176x2048.Idx) (k : Fin 8192) : EReal :=
  A (ix2 (i 0) k) * W (ix2 (i 1) k)

/-- The gradient of the second normalised input: element `(r, d)` sums over the 8192 hidden channels the incoming gradient times the weight. -/
def G (A : S2176x8192.Idx → EReal) (W : S2048x8192.Idx → EReal) (i : S2176x2048.Idx) : EReal :=
  ∑ k : Fin 8192, prodAt A W i k

/-- The first step's product. -/
theorem pay2_apply (x0 : Vec Ideal S2176x2048 .bf16) (x1 : Vec Ideal S1x512x2048 .bf16) (y : S2176x512.Idx) :
    k0_pay2 x0 x1 y = ∑ k : Fin 2048, x0 (ix2 (y 0) k) * x1 (ix3 0 (y 1) k) := by
  unfold k0_pay2 k0_pay1
  pointwise

/-- A middle step's product added to what was gathered. -/
theorem pay3_apply (x0 : Vec Ideal S2176x2048 .bf16) (x1 : Vec Ideal S1x512x2048 .bf16) (v : Vec Ideal S2176x512 .f32) (y : S2176x512.Idx) :
    k0_pay3 x0 x1 v y = v y + ∑ k : Fin 2048, x0 (ix2 (y 0) k) * x1 (ix3 0 (y 1) k) := by
  unfold k0_pay3 k0_pay1
  pointwise

/-- The last step's product added to what was gathered. -/
theorem pay4_apply (x0 : Vec Ideal S2176x2048 .bf16) (x1 : Vec Ideal S1x512x2048 .bf16) (v : Vec Ideal S2176x512 .f32) (y : S2176x512.Idx) :
    k0_pay4 x0 x1 v y = v y + ∑ k : Fin 2048, x0 (ix2 (y 0) k) * x1 (ix3 0 (y 1) k) := by
  unfold k0_pay4 k0_pay1
  pointwise

/-- What the body leaves, case A: one whole block. -/
theorem leftA (c : Dev nD) (i : grid0.Coords) (arg3 : Memref sig .tc .vmem S2176x2048 .bf16) (harg3 : arg3.IsWhole) (arg4 : Memref sig .tc .vmem S1x512x2048 .bf16) (harg4 : arg4.IsWhole) (arg5 : Memref sig .tc .vmem S2176x512 .f32) (harg5 : arg5.IsWhole) (arg6 : Memref sig .tc .vmem S2176x512 .f32) (harg6 : arg6.IsWhole) (hc0 : cond0_0 i) (hc1 : ¬cond0_1 i) (hc2 : ¬cond0_2 i) (x0 : Vec Ideal S2176x2048 .bf16) (x1 : Vec Ideal S1x512x2048 .bf16) :
    sout0_A_0 (F := Ideal) c i arg3 harg3 arg4 harg4 arg5 harg5 arg6 harg6 hc0 hc1 hc2 x0 x1 = k0_pay2 x0 x1 := by
  unfold sout0_A_0
  rw [View.read_writes_junk_eq_canon]
  unfold kernelRun0_A
  dsimp only
  refine (canon_whole _ (congrFun zero2) _).trans ?_
  rw [whole_read arg3 harg3 x0 (congrFun zero2), whole_read arg4 harg4 x1 (congrFun zero3)]

/-- What the body leaves, case B: one whole block. -/
theorem leftB (c : Dev nD) (i : grid0.Coords) (arg3 : Memref sig .tc .vmem S2176x2048 .bf16) (harg3 : arg3.IsWhole) (arg4 : Memref sig .tc .vmem S1x512x2048 .bf16) (harg4 : arg4.IsWhole) (arg5 : Memref sig .tc .vmem S2176x512 .f32) (harg5 : arg5.IsWhole) (arg6 : Memref sig .tc .vmem S2176x512 .f32) (harg6 : arg6.IsWhole) (hc0 : ¬cond0_0 i) (hc1 : cond0_1 i) (hc2 : ¬cond0_2 i) (x0 : Vec Ideal S2176x2048 .bf16) (x1 : Vec Ideal S1x512x2048 .bf16) (xs0 : Vec Ideal S2176x512 .f32) :
    sout0_B_0 (F := Ideal) c i arg3 harg3 arg4 harg4 arg5 harg5 arg6 harg6 hc0 hc1 hc2 x0 x1 xs0 = k0_pay3 x0 x1 xs0 := by
  unfold sout0_B_0
  rw [View.read_writes_junk_eq_canon]
  unfold kernelRun0_B
  dsimp only
  refine (canon_whole _ (congrFun zero2) _).trans ?_
  rw [whole_read arg3 harg3 x0 (congrFun zero2), whole_read arg4 harg4 x1 (congrFun zero3), whole_read arg6 harg6 xs0 (congrFun zero2)]

/-- What the body leaves, case C: one whole block. -/
theorem leftC (c : Dev nD) (i : grid0.Coords) (arg3 : Memref sig .tc .vmem S2176x2048 .bf16) (harg3 : arg3.IsWhole) (arg4 : Memref sig .tc .vmem S1x512x2048 .bf16) (harg4 : arg4.IsWhole) (arg5 : Memref sig .tc .vmem S2176x512 .f32) (harg5 : arg5.IsWhole) (arg6 : Memref sig .tc .vmem S2176x512 .f32) (harg6 : arg6.IsWhole) (hc0 : ¬cond0_0 i) (hc1 : ¬cond0_1 i) (hc2 : cond0_2 i) (x0 : Vec Ideal S2176x2048 .bf16) (x1 : Vec Ideal S1x512x2048 .bf16) (xs0 : Vec Ideal S2176x512 .f32) :
    out0_C_2 (F := Ideal) c i arg3 harg3 arg4 harg4 arg5 harg5 arg6 harg6 hc0 hc1 hc2 x0 x1 xs0 = k0_pay4 x0 x1 xs0 := by
  unfold out0_C_2
  rw [View.read_writes_junk_eq_canon]
  unfold kernelRun0_C
  dsimp only
  refine (canon_whole _ (congrFun zero2) _).trans ?_
  rw [whole_read arg3 harg3 x0 (congrFun zero2), whole_read arg4 harg4 x1 (congrFun zero3), whole_read arg6 harg6 xs0 (congrFun zero2)]

/-- One step's product at a point. -/
def part (c : Dev nD) (t : Fin cfg0.N) (y : S2176x512.Idx) (k : Fin 2048) : EReal :=
  let x0 : Vec Ideal S2176x2048 .bf16 := iblk m c 0 t
  let x1 : Vec Ideal S1x512x2048 .bf16 := iblk m c 1 t
  x0 (ix2 (y 0) k) * x1 (ix3 0 (y 1) k)

/-- The scratch after a first step. -/
theorem first (c : Dev nD) (t : Fin cfg0.N) (h : t.val % 4 = 0) (y : S2176x512.Idx) :
    (outsAt0 m c t.val t.isLt).2 y = ∑ k : Fin 2048, part m c t y k := by
  rw [outsAt0_A m c t h (by omega) (by omega)]
  dsimp only
  rw [leftA]
  exact pay2_apply _ _ y

/-- The scratch after a middle step. -/
theorem middle (c : Dev nD) (t : Fin cfg0.N) (h : 1 ≤ t.val % 4 ∧ t.val % 4 ≤ 2) (y : S2176x512.Idx) :
    (outsAt0 m c t.val t.isLt).2 y = (outsAt0 m c (t.val - 1) (Nat.lt_of_le_of_lt (Nat.sub_le _ _) t.isLt)).2 y + ∑ k : Fin 2048, part m c t y k := by
  rw [outsAt0_B m c t (by omega) h (by omega)]
  dsimp only
  rw [leftB]
  exact pay3_apply _ _ _ y

/-- The result's block after a last step. -/
theorem last (c : Dev nD) (t : Fin cfg0.N) (h : t.val % 4 = 3) (y : S2176x512.Idx) :
    (outsAt0 m c t.val t.isLt).1 y = (outsAt0 m c (t.val - 1) (Nat.lt_of_le_of_lt (Nat.sub_le _ _) t.isLt)).2 y + ∑ k : Fin 2048, part m c t y k := by
  rw [outsAt0_C m c t (by omega) (by omega) h]
  dsimp only
  rw [leftC]
  exact pay4_apply _ _ _ y

/-- The four steps of a block, added up. -/
theorem steps (c : Dev nD) (q : ℕ) (h3 : 4 * q + 3 < cfg0.N) (y : S2176x512.Idx) :
    (outsAt0 m c (4 * q + 3) h3).1 y = (∑ k : Fin 2048, part m c ⟨4 * q, by omega⟩ y k + ∑ k : Fin 2048, part m c ⟨4 * q + 1, by omega⟩ y k) + ∑ k : Fin 2048, part m c ⟨4 * q + 2, by omega⟩ y k + ∑ k : Fin 2048, part m c ⟨4 * q + 3, h3⟩ y k := by
  have e3 := last m c ⟨4 * q + 3, h3⟩ (by show (4 * q + 3) % 4 = 3; omega) y
  have e2 := middle m c ⟨4 * q + 2, by omega⟩ (by show 1 ≤ (4 * q + 2) % 4 ∧ (4 * q + 2) % 4 ≤ 2; omega) y
  have e1 := middle m c ⟨4 * q + 1, by omega⟩ (by show 1 ≤ (4 * q + 1) % 4 ∧ (4 * q + 1) % 4 ≤ 2; omega) y
  have e0 := first m c ⟨4 * q, by omega⟩ (by show (4 * q) % 4 = 0; omega) y
  exact e3.trans (congrArg (· + _) (e2.trans (congrArg (· + _) (e1.trans (congrArg (· + _) e0)))))

/-- The first operand at the region's entry. -/
theorem V_l (c : Dev nD) (i : S2176x8192.Idx) : V m c main_v0 i = m ((c : Thread nD τ).loc main_arg0) i := by
  unfold V
  after_reads_at

/-- The second operand at the region's entry: the weights cut into four pieces of columns. -/
theorem V_r (c : Dev nD) (i : S4x2048x2048.Idx) : V m c main_v3 i = m ((c : Thread nD τ).loc main_arg1) (ix2 (i 1) (col rfl i)) := by
  unfold V
  after_reads_at
  rfl

/-- The printed index maps, decided over the grid: point `t` takes piece `t % 4` of the contracted axis and block `t / 4` of the result's columns. -/
theorem maps : ∀ t : Fin cfg0.N, win0_2.index t (0 : Fin 2) = 0 ∧ win0_2.index t (1 : Fin 2) = t.val / 4 ∧ win0_0.index t (0 : Fin 2) = 0 ∧ win0_0.index t (1 : Fin 2) = t.val % 4
    ∧ win0_1.index t (0 : Fin 3) = t.val % 4 ∧ win0_1.index t (1 : Fin 3) = win0_2.index t (1 : Fin 2) ∧ win0_1.index t (2 : Fin 3) = 0 :=
  (by decide +kernel : ∀ t : Fin grid0.N, _)

/-- Every block of the result is some point's, and that point writes it back. -/
theorem onto : ∀ q : Fin 4, ∃ t : Fin cfg0.N, (cfg0.win 2).flush t = true ∧ win0_2.index t (1 : Fin 2) = q.val :=
  (by decide +kernel : ∀ q : Fin 4, ∃ t : Fin grid0.N, win0_2.flush t = true ∧ win0_2.index t (1 : Fin 2) = q.val)

/-- One step's product, in the arrays. -/
theorem part_eq (c : Dev nD) (t : Fin cfg0.N) (y : S2176x512.Idx) (k : Fin 2048) (i : S2176x2048.Idx) (h0 : (i 0).val = (y 0).val) (h1 : (i 1).val = (t.val / 4) * 512 + (y 1).val) :
    part m c t y k = at0 8192 (prodAt (m ((c : Thread nD τ).loc main_arg0)) (m ((c : Thread nD τ).loc main_arg1)) i) (2048 * (t.val % 4) + k.val) := by
  obtain ⟨-, e1, e2, e3, e4, e5, e6⟩ := maps t
  have hk : k.val < 2048 := k.isLt
  have h4 : t.val % 4 < 4 := Nat.mod_lt _ (by omega)
  unfold at0
  rw [dif_pos (by omega)]
  unfold part prodAt
  refine congrArg₂ HMul.hMul ?_ ?_
  · exact (V_l m c _).trans (congrArg (m ((c : Thread nD τ).loc main_arg0)) (idx2_ext _ _
      (show win0_0.index t (0 : Fin 2) * 2176 + 1 * (y 0).val = (i 0).val by omega)
      (show win0_0.index t (1 : Fin 2) * 2048 + 1 * k.val = 2048 * (t.val % 4) + k.val by omega)))
  · exact (V_r m c _).trans (congrArg (m ((c : Thread nD τ).loc main_arg1)) (idx2_ext _ _
      (show win0_1.index t (1 : Fin 3) * 512 + 1 * (y 1).val = (i 1).val by omega)
      (show (win0_1.index t (0 : Fin 3) * 1 + 1 * 0) * 2048 + (win0_1.index t (2 : Fin 3) * 2048 + 1 * k.val) = 2048 * (t.val % 4) + k.val by omega)))

/-- What a last step writes back is its block of the products. -/
theorem flushedG_eq (c : Dev nD) (t : Fin cfg0.N) (hf : (cfg0.win 2).flush t = true) :
    (dats m 0 c).flushed 2 t = ((cfg0.win 2).blk t).view.read (Elt Ideal) (G (m ((c : Thread nD τ).loc main_arg0)) (m ((c : Thread nD τ).loc main_arg1))) := by
  have h3 : t.val % 4 = 3 := (flush0_2 t).mp hf
  obtain ⟨e0, e1, -⟩ := maps t
  obtain ⟨n, hn⟩ := t
  obtain ⟨q, rfl⟩ : ∃ q, n = 4 * q + 3 := ⟨n / 4, by have h3' : n % 4 = 3 := h3; omega⟩
  have hq : (4 * q + 3) / 4 = q := by omega
  have e1' : win0_2.index ⟨4 * q + 3, hn⟩ (1 : Fin 2) = q := e1.trans hq
  show (cfg0.win 2).cut (grid0.coords ⟨4 * q + 3, hn⟩) ((dats m 0 c).after 2 ⟨4 * q + 3, hn⟩) = _
  rw [after0_2]
  funext y
  show (outsAt0 m c (4 * q + 3) hn).1 y = (G (m ((c : Thread nD τ).loc main_arg0)) (m ((c : Thread nD τ).loc main_arg1))) (((cfg0.win 2).blk ⟨4 * q + 3, hn⟩).view.emb y)
  refine (steps m c q hn y).trans ?_
  have i0 : (((cfg0.win 2).blk ⟨4 * q + 3, hn⟩).view.emb y 0).val = (y 0).val := by
    show win0_2.index ⟨4 * q + 3, hn⟩ (0 : Fin 2) * 2176 + 1 * (y 0).val = (y 0).val
    omega
  have i1 : (((cfg0.win 2).blk ⟨4 * q + 3, hn⟩).view.emb y 1).val = q * 512 + (y 1).val := by
    show win0_2.index ⟨4 * q + 3, hn⟩ (1 : Fin 2) * 512 + 1 * (y 1).val = _
    omega
  have hp : ∀ (p : Fin 4), 4 * q + p.val < cfg0.N := fun p => by have := p.isLt; omega
  refine sum_four_fin 2048 8192 rfl (prodAt (m ((c : Thread nD τ).loc main_arg0)) (m ((c : Thread nD τ).loc main_arg1)) (((cfg0.win 2).blk ⟨4 * q + 3, hn⟩).view.emb y))
    (fun p => part m c ⟨4 * q + p.val, hp p⟩ y) (fun p k => ?_)
  have hp4 := p.isLt
  have hd : (4 * q + p.val) / 4 = q := by omega
  have hm : (4 * q + p.val) % 4 = p.val := by omega
  refine (part_eq m c ⟨4 * q + p.val, hp p⟩ y k (((cfg0.win 2).blk ⟨4 * q + 3, hn⟩).view.emb y) i0 ?_).trans ?_
  · exact i1.trans (congrArg (fun n => n * 512 + (y 1).val) hd.symm)
  · exact congrArg (fun n => at0 8192 (prodAt (m ((c : Thread nD τ).loc main_arg0)) (m ((c : Thread nD τ).loc main_arg1)) (((cfg0.win 2).blk ⟨4 * q + 3, hn⟩).view.emb y)) (2048 * n + k.val)) hm

/-- The result after the run. -/
theorem finalG (c : Dev nD) : (dats m 0 c).arrAt 2 cfg0.N = (G (m ((c : Thread nD τ).loc main_arg0)) (m ((c : Thread nD τ).loc main_arg1))) := by
  refine (dats m 0 c).arrAt_eq_of_cover 2 _ (fun t hf => flushedG_eq m c t hf) (fun (i : S2176x2048.Idx) => ?_)
  have hi0 : (i 0).val < 2176 := (i 0).isLt
  have hi1 : (i 1).val < 2048 := (i 1).isLt
  obtain ⟨t, hf, ht⟩ := onto ⟨(i 1).val / 512, by omega⟩
  obtain ⟨e0, -⟩ := maps t
  have ht' : win0_2.index t (1 : Fin 2) = (i 1).val / 512 := ht
  refine ⟨t, hf, ?_⟩
  show i ∈ ((View.whole main_v4).slice (win0_2.rect t)).set
  rw [View.set_slice_whole, Rect.mem_set_unit]
  intro a
  match a with
  | ⟨0, _⟩ => show win0_2.index t (0 : Fin 2) * 2176 ≤ (i 0).val ∧ (i 0).val < win0_2.index t (0 : Fin 2) * 2176 + 2176; omega
  | ⟨1, _⟩ => show win0_2.index t (1 : Fin 2) * 512 ≤ (i 1).val ∧ (i 1).val < win0_2.index t (1 : Fin 2) * 512 + 512; omega

end Cert.DNTwoIdeal.Value

namespace Cert.DNTwoReferenceIdeal.Read

open Cert.Blocks Idealize.ShloMosaic Idealize.ShloMosaic.TcCoe

/-- The reference's product, read: the same sum. -/
theorem val_eq (A : (⟨S2176x8192, .f32⟩ : BufTy).Contents (Elt Ideal)) (B : (⟨S2048x8192, .f32⟩ : BufTy).Contents (Elt Ideal)) :
    val_main_v2 (F := Ideal) A B = Cert.DNTwoIdeal.Value.G A B := by
  funext i
  rw [val_main_v2_apply]
  unfold Cert.DNTwoIdeal.Value.G Cert.DNTwoIdeal.Value.prodAt
  exact sum_mul_congr (fun k => congrArg A (idx2_ext _ _ rfl rfl)) (fun k => congrArg B (idx2_ext _ _ rfl rfl))

end Cert.DNTwoReferenceIdeal.Read

namespace Cert.DNTwoEq

open Idealize.ShloMosaic Idealize.ShloMosaic.TcCoe Idealize.SL.Sem

/-- The kernel and its reference leave equal results and keep their arguments. -/
theorem algebraic : Cert.algebraic_DNTwoIdeal_DNTwoReferenceIdeal := by
  intro m g m' g' _ hagree
  refine ⟨fun c => Cert.DNTwoIdeal.Value.G (m ((c : Thread Cert.DNTwoIdeal.nD Cert.DNTwoIdeal.τ).loc Cert.DNTwoIdeal.main_arg0)) (m ((c : Thread Cert.DNTwoIdeal.nD Cert.DNTwoIdeal.τ).loc Cert.DNTwoIdeal.main_arg1)),
    (θ_run Cert.DNTwoIdeal.defs _ _).mono (fun r h c => ?_) (Cert.DNTwoIdeal.Value.run_blocks m g),
    (θ_run Cert.DNTwoReferenceIdeal.defs _ _).mono (fun r h c => ?_) (Cert.DNTwoReferenceIdeal.Value.run m' g')⟩
  · obtain ⟨h0, k0, k1⟩ := h c
    exact ⟨h0.trans (Cert.DNTwoIdeal.Value.finalG m c), k0, k1⟩
  · obtain ⟨h0, k0, k1⟩ := h c
    obtain ⟨a0, a1⟩ := hagree c
    rw [a0, a1] at h0
    exact ⟨h0.trans ((Cert.DNTwoReferenceIdeal.Read.val_main_v2_eq _ _).trans (Cert.DNTwoReferenceIdeal.Read.val_eq (m ((c : Thread Cert.DNTwoIdeal.nD Cert.DNTwoIdeal.τ).loc Cert.DNTwoIdeal.main_arg0)) (m ((c : Thread Cert.DNTwoIdeal.nD Cert.DNTwoIdeal.τ).loc Cert.DNTwoIdeal.main_arg1)))), k0, k1⟩

end Cert.DNTwoEq
-- ==== Proof.DMEq.lean ====
/- The gradient of the merged branches: what the kernel leaves, what its reference leaves, and their equality over the extended reals. -/
module

public import proofs.«01_k».proof.Defs
public import proofs.«01_k».proof.Proof.Blocks
public import proofs.«01_k».proof.Proof.Gen.DMIdeal.Value
public import proofs.«01_k».proof.Proof.Gen.DMReferenceIdeal.Run
public import proofs.«01_k».proof.Proof.Gen.DMReferenceIdeal.Read
public import Idealize.ShloMosaic.Lib.StableHlo.ReadAt
public import Idealize.ShloMosaic.Lib.Pointwise

@[expose] public section

set_option maxRecDepth 16384

noncomputable section

namespace Cert.DMIdeal.Value

open Cert.DMIdeal Cert.DMIdeal.Gen Cert.Blocks Idealize.ShloMosaic Idealize.ShloMosaic.TcCoe Idealize.SL.Sem
open Idealize.ShloMosaic.Pipeline (Dat)

variable (m : (ℓ : Loc nD τ sig) → Buf (Elt Ideal) ℓ)

/-- The gradient of the merged branches: the sum over the output channels of the incoming gradient times the weight. -/
def G (A : S2176x2048.Idx → EReal) (W : S2048x2048.Idx → EReal) (i : S2176x2048.Idx) : EReal :=
  nt A W (i 0) (i 1)

/-- The body's product at an element of the result's block. -/
theorem prod_apply (P0 : Vec Ideal S2176x2048 .bf16) (P1 : Vec Ideal S512x2048 .bf16) (y : S2176x512.Idx) :
    k0_pay1 P0 P1 y = nt (K := 2048) P0 P1 (y 0) (y 1) := by
  unfold k0_pay1 nt
  pointwise

/-- The first operand at the region's entry: the first argument. -/
theorem V_l (c : Dev nD) (i : S2176x2048.Idx) : V m c main_v0 i = m ((c : Thread nD τ).loc main_arg0) i := by
  unfold V
  after_reads_at

/-- The second operand at the region's entry: the second argument. -/
theorem V_r (c : Dev nD) (i : S2048x2048.Idx) : V m c main_v1 i = m ((c : Thread nD τ).loc main_arg1) i := by
  unfold V
  after_reads_at

/-- The printed index maps, decided over the grid. -/
theorem maps : ∀ t : Fin cfg0.N, win0_0.index t (0 : Fin 2) = 0
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = t.val :=
  (by decide +kernel : ∀ t : Fin grid0.N, _)

/-- Every point writes its blocks back. -/
theorem writes : ∀ t : Fin cfg0.N, (cfg0.win 2).flush t = true :=
  (by decide +kernel : ∀ t : Fin grid0.N, win0_2.flush t = true)

/-- One point's sum, read at the place that its block has in the result. -/
theorem sum_block (c : Dev nD) (t : Fin cfg0.N) (y : S2176x512.Idx) (i : S2176x2048.Idx) (h0 : (i 0).val = (0) * 2176 + 1 * (y 0).val) (h1 : (i 1).val = (t.val) * 512 + 1 * (y 1).val) :
    nt (K := 2048) (iblk m c 0 t : Vec Ideal S2176x2048 .bf16) (iblk m c 1 t : Vec Ideal S512x2048 .bf16) (y 0) (y 1) = G (m ((c : Thread nD τ).loc main_arg0)) (m ((c : Thread nD τ).loc main_arg1)) i := by
  obtain ⟨e0, e1, e2, e3, e4, e5⟩ := maps t
  have hy0 : (y 0).val < 2176 := (y 0).isLt
  have hy1 : (y 1).val < 512 := (y 1).isLt
  unfold G nt
  refine sum_mul_congr (fun k => ?_) (fun k => ?_)
  · exact (V_l m c _).trans (congrArg (m ((c : Thread nD τ).loc main_arg0)) (idx2_ext _ _
      (show win0_0.index t (0 : Fin 2) * 2176 + 1 * (y 0).val = (i 0).val by omega)
      (show win0_0.index t (1 : Fin 2) * 2048 + 1 * k.val = k.val by omega)))
  · exact (V_r m c _).trans (congrArg (m ((c : Thread nD τ).loc main_arg1)) (idx2_ext _ _
      (show win0_1.index t (0 : Fin 2) * 512 + 1 * (y 1).val = (i 1).val by omega)
      (show win0_1.index t (1 : Fin 2) * 2048 + 1 * k.val = k.val by omega)))

/-- What a point writes back of output 2 is its block of the sums. -/
theorem flushed2_block (c : Dev nD) (t : Fin cfg0.N) : (dats m 0 c).flushed 2 t = ((cfg0.win 2).blk t).view.read (Elt Ideal) (G (m ((c : Thread nD τ).loc main_arg0)) (m ((c : Thread nD τ).loc main_arg1))) := by
  rw [flushed2]
  funext y
  obtain ⟨e0, e1, e2, e3, e4, e5⟩ := maps t
  show out0_2 (iblk m c 0 t) (iblk m c 1 t) y = (G (m ((c : Thread nD τ).loc main_arg0)) (m ((c : Thread nD τ).loc main_arg1))) (((cfg0.win 2).blk t).view.emb y)
  unfold out0_2
  rw [View.ld_unit_zero (zero2 : (_ : Fin S2176x2048.rank → ℕ) = _), View.ld_unit_zero (zero2 : (_ : Fin S512x2048.rank → ℕ) = _)]
  refine (congrFun (canon_whole (S := S2176x512) (e := .f32) (o := ![0, 0]) (k0_pay1 (iblk m c 0 t) (iblk m c 1 t)) (fun a => congrFun zero2 a) _) y).trans ?_
  exact (prod_apply _ _ y).trans (sum_block m c t y (((cfg0.win 2).blk t).view.emb y) (congrArg (fun n => n * 2176 + 1 * (y 0).val) (show win0_2.index t (0 : Fin 2) = 0 from e4)) (congrArg (fun n => n * 512 + 1 * (y 1).val) (show win0_2.index t (1 : Fin 2) = t.val from e5)))

/-- Output 2 after the run. -/
theorem final2_block (c : Dev nD) : (dats m 0 c).arrAt 2 cfg0.N = (G (m ((c : Thread nD τ).loc main_arg0)) (m ((c : Thread nD τ).loc main_arg1))) := by
  refine (dats m 0 c).arrAt_eq_of_cover 2 _ (fun t _ => flushed2_block m c t) (fun (i : S2176x2048.Idx) => ?_)
  have hi0 : (i 0).val < 2176 := (i 0).isLt
  have hi1 : (i 1).val < 2048 := (i 1).isLt
  have hN : cfg0.N = 4 := rfl
  obtain ⟨t, ht⟩ : ∃ t : Fin cfg0.N, t.val = (i 1).val / 512 := ⟨⟨(i 1).val / 512, by omega⟩, rfl⟩
  obtain ⟨e0, e1, e2, e3, e4, e5⟩ := maps t
  refine ⟨t, writes t, ?_⟩
  show i ∈ ((View.whole main_v2).slice (win0_2.rect t)).set
  rw [View.set_slice_whole, Rect.mem_set_unit]
  intro a
  match a with
  | ⟨0, _⟩ => show win0_2.index t (0 : Fin 2) * 2176 ≤ (i 0).val ∧ (i 0).val < win0_2.index t (0 : Fin 2) * 2176 + 2176; omega
  | ⟨1, _⟩ => show win0_2.index t (1 : Fin 2) * 512 ≤ (i 1).val ∧ (i 1).val < win0_2.index t (1 : Fin 2) * 512 + 512; omega

end Cert.DMIdeal.Value

namespace Cert.DMReferenceIdeal.Read

open Cert.DMReferenceIdeal Cert.DMReferenceIdeal.Gen Cert.Blocks Idealize.ShloMosaic Idealize.ShloMosaic.TcCoe

/-- The reference's product, read: the same sum. -/
theorem prod_eq (A : (⟨S2176x2048, .f32⟩ : BufTy).Contents (Elt Ideal)) (W : (⟨S2048x2048, .f32⟩ : BufTy).Contents (Elt Ideal)) (i : S2176x2048.Idx) :
    val_main_v2 (F := Ideal) A W i = Cert.DMIdeal.Value.G A W i := by
  rw [val_main_v2_apply]
  unfold Cert.DMIdeal.Value.G nt
  refine sum_mul_congr (fun k => congrArg A (idx2_ext _ _ rfl rfl)) (fun k => congrArg W (idx2_ext _ _ rfl rfl))

end Cert.DMReferenceIdeal.Read

namespace Cert.DMEq

open Idealize.ShloMosaic Idealize.ShloMosaic.TcCoe Idealize.SL.Sem

/-- The kernel and its reference leave equal results and keep their arguments. -/
theorem algebraic : Cert.algebraic_DMIdeal_DMReferenceIdeal := by
  intro m g m' g' _ hagree
  refine ⟨fun c => Cert.DMIdeal.Value.G (m ((c : Thread Cert.DMIdeal.nD Cert.DMIdeal.τ).loc Cert.DMIdeal.main_arg0)) (m ((c : Thread Cert.DMIdeal.nD Cert.DMIdeal.τ).loc Cert.DMIdeal.main_arg1)),
    (θ_run Cert.DMIdeal.defs _ _).mono (fun r h c => ?_) (Cert.DMIdeal.Value.run_blocks m g),
    (θ_run Cert.DMReferenceIdeal.defs _ _).mono (fun r h c => ?_) (Cert.DMReferenceIdeal.Value.run m' g')⟩
  · obtain ⟨h0, k0, k1⟩ := h c
    exact ⟨h0.trans (Cert.DMIdeal.Value.final2_block m c), k0, k1⟩
  · obtain ⟨h0, k0, k1⟩ := h c
    obtain ⟨a0, a1⟩ := hagree c
    rw [a0, a1] at h0
    exact ⟨h0.trans ((Cert.DMReferenceIdeal.Read.val_main_v2_eq _ _).trans ((funext fun i => Cert.DMReferenceIdeal.Read.prod_eq (m ((c : Thread Cert.DMIdeal.nD Cert.DMIdeal.τ).loc Cert.DMIdeal.main_arg0)) (m ((c : Thread Cert.DMIdeal.nD Cert.DMIdeal.τ).loc Cert.DMIdeal.main_arg1)) i))), k0, k1⟩

end Cert.DMEq
-- ==== Proof.GwOEq.lean ====
/- The gradient of the output projection's weights: what the kernel leaves, what its reference leaves, and their equality over the extended reals. -/
module

public import proofs.«01_k».proof.Defs
public import proofs.«01_k».proof.Proof.Blocks
public import proofs.«01_k».proof.Proof.Gen.GwOIdeal.Value
public import proofs.«01_k».proof.Proof.Gen.GwOReferenceIdeal.Run
public import proofs.«01_k».proof.Proof.Gen.GwOReferenceIdeal.Read
public import Idealize.ShloMosaic.Lib.StableHlo.ReadAt
public import Idealize.ShloMosaic.Lib.Pointwise

@[expose] public section

set_option maxRecDepth 16384

noncomputable section

namespace Cert.GwOIdeal.Value

open Cert.GwOIdeal Cert.GwOIdeal.Gen Cert.Blocks Idealize.ShloMosaic Idealize.ShloMosaic.TcCoe Idealize.SL.Sem
open Idealize.ShloMosaic.Pipeline (Dat)

variable (m : (ℓ : Loc nD τ sig) → Buf (Elt Ideal) ℓ)

/-- The gradient of the output projection's weights: the sum over the positions of the merged branches times the incoming gradient. -/
def G (A : S2176x2048.Idx → EReal) (W : S2176x2048.Idx → EReal) (i : S2048x2048.Idx) : EReal :=
  tn A W (i 0) (i 1)

/-- The body's product at an element of the result's block. -/
theorem prod_apply (P0 : Vec Ideal S2176x2048 .bf16) (P1 : Vec Ideal S2176x512 .bf16) (y : S2048x512.Idx) :
    k0_pay1 P0 P1 y = tn (K := 2176) P0 P1 (y 0) (y 1) := by
  unfold k0_pay1 tn
  pointwise

/-- The first operand at the region's entry: the first argument. -/
theorem V_l (c : Dev nD) (i : S2176x2048.Idx) : V m c main_v0 i = m ((c : Thread nD τ).loc main_arg0) i := by
  unfold V
  after_reads_at

/-- The second operand at the region's entry: the second argument. -/
theorem V_r (c : Dev nD) (i : S2176x2048.Idx) : V m c main_v1 i = m ((c : Thread nD τ).loc main_arg1) i := by
  unfold V
  after_reads_at

/-- The printed index maps, decided over the grid. -/
theorem maps : ∀ t : Fin cfg0.N, win0_0.index t (0 : Fin 2) = 0
    ∧ win0_0.index t (1 : Fin 2) = 0
    ∧ win0_1.index t (0 : Fin 2) = 0
    ∧ win0_1.index t (1 : Fin 2) = t.val
    ∧ win0_2.index t (0 : Fin 2) = 0
    ∧ win0_2.index t (1 : Fin 2) = t.val
    ∧ win0_3.index t (0 : Fin 2) = 0
    ∧ win0_3.index t (1 : Fin 2) = t.val :=
  (by decide +kernel : ∀ t : Fin grid0.N, _)

/-- Every point writes its blocks back. -/
theorem writes : ∀ t : Fin cfg0.N, (cfg0.win 2).flush t = true ∧ (cfg0.win 3).flush t = true :=
  (by decide +kernel : ∀ t : Fin grid0.N, win0_2.flush t = true ∧ win0_3.flush t = true)

/-- One point's sum, read at the place that its block has in the result. -/
theorem sum_block (c : Dev nD) (t : Fin cfg0.N) (y : S2048x512.Idx) (i : S2048x2048.Idx) (h0 : (i 0).val = (0) * 2048 + 1 * (y 0).val) (h1 : (i 1).val = (t.val) * 512 + 1 * (y 1).val) :
    tn (K := 2176) (iblk m c 0 t : Vec Ideal S2176x2048 .bf16) (iblk m c 1 t : Vec Ideal S2176x512 .bf16) (y 0) (y 1) = G (m ((c : Thread nD τ).loc main_arg0)) (m ((c : Thread nD τ).loc main_arg1)) i := by
  obtain ⟨e0, e1, e2, e3, e4, e5, e6, e7⟩ := maps t
  have hy0 : (y 0).val < 2048 := (y 0).isLt
  have hy1 : (y 1).val < 512 := (y 1).isLt
  unfold G tn
  refine sum_mul_congr (fun k => ?_) (fun k => ?_)
  · exact (V_l m c _).trans (congrArg (m ((c : Thread nD τ).loc main_arg0)) (idx2_ext _ _
      (show win0_0.index t (0 : Fin 2) * 2176 + 1 * k.val = k.val by omega)
      (show win0_0.index t (1 : Fin 2) * 2048 + 1 * (y 0).val = (i 0).val by omega)))
  · exact (V_r m c _).trans (congrArg (m ((c : Thread nD τ).loc main_arg1)) (idx2_ext _ _
      (show win0_1.index t (0 : Fin 2) * 2176 + 1 * k.val = k.val by omega)
      (show win0_1.index t (1 : Fin 2) * 512 + 1 * (y 1).val = (i 1).val by omega)))

/-- What a point writes back of output 2 is its block of the sums. -/
theorem flushed2_block (c : Dev nD) (t : Fin cfg0.N) : (dats m 0 c).flushed 2 t = ((cfg0.win 2).blk t).view.read (Elt Ideal) (G (m ((c : Thread nD τ).loc main_arg0)) (m ((c : Thread nD τ).loc main_arg1))) := by
  rw [flushed2]
  funext y
  obtain ⟨e0, e1, e2, e3, e4, e5, e6, e7⟩ := maps t
  show out0_2 (iblk m c 0 t) (iblk m c 1 t) y = (G (m ((c : Thread nD τ).loc main_arg0)) (m ((c : Thread nD τ).loc main_arg1))) (((cfg0.win 2).blk t).view.emb y)
  unfold out0_2
  rw [View.ld_unit_zero (zero2 : (_ : Fin S2176x2048.rank → ℕ) = _), View.ld_unit_zero (zero2 : (_ : Fin S2176x512.rank → ℕ) = _)]
  refine (congrFun (canon_whole (S := S2048x512) (e := .f32) (o := ![0, 0]) (k0_pay1 (iblk m c 0 t) (iblk m c 1 t)) (fun a => congrFun zero2 a) _) y).trans ?_
  exact (prod_apply _ _ y).trans (sum_block m c t y (((cfg0.win 2).blk t).view.emb y) (congrArg (fun n => n * 2048 + 1 * (y 0).val) (show win0_2.index t (0 : Fin 2) = 0 from e4)) (congrArg (fun n => n * 512 + 1 * (y 1).val) (show win0_2.index t (1 : Fin 2) = t.val from e5)))

/-- Output 2 after the run. -/
theorem final2_block (c : Dev nD) : (dats m 0 c).arrAt 2 cfg0.N = (G (m ((c : Thread nD τ).loc main_arg0)) (m ((c : Thread nD τ).loc main_arg1))) := by
  refine (dats m 0 c).arrAt_eq_of_cover 2 _ (fun t _ => flushed2_block m c t) (fun (i : S2048x2048.Idx) => ?_)
  have hi0 : (i 0).val < 2048 := (i 0).isLt
  have hi1 : (i 1).val < 2048 := (i 1).isLt
  have hN : cfg0.N = 4 := rfl
  obtain ⟨t, ht⟩ : ∃ t : Fin cfg0.N, t.val = (i 1).val / 512 := ⟨⟨(i 1).val / 512, by omega⟩, rfl⟩
  obtain ⟨e0, e1, e2, e3, e4, e5, e6, e7⟩ := maps t
  refine ⟨t, (writes t).1, ?_⟩
  show i ∈ ((View.whole main_v2_0).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- What a point writes back of output 3 is its block of the sums. -/
theorem flushed3_block (c : Dev nD) (t : Fin cfg0.N) : (dats m 0 c).flushed 3 t = ((cfg0.win 3).blk t).view.read (Elt Ideal) (G (m ((c : Thread nD τ).loc main_arg0)) (m ((c : Thread nD τ).loc main_arg1))) := by
  rw [flushed3]
  funext y
  obtain ⟨e0, e1, e2, e3, e4, e5, e6, e7⟩ := maps t
  show out0_3 (iblk m c 0 t) (iblk m c 1 t) y = (G (m ((c : Thread nD τ).loc main_arg0)) (m ((c : Thread nD τ).loc main_arg1))) (((cfg0.win 3).blk t).view.emb y)
  unfold out0_3
  rw [View.ld_unit_zero (zero2 : (_ : Fin S2176x2048.rank → ℕ) = _), View.ld_unit_zero (zero2 : (_ : Fin S2176x512.rank → ℕ) = _)]
  refine (congrFun (canon_whole (S := S2048x512) (e := .bf16) (o := ![0, 0]) (k0_pay2 (iblk m c 0 t) (iblk m c 1 t)) (fun a => congrFun zero2 a) _) y).trans ?_
  exact (prod_apply _ _ y).trans (sum_block m c t y (((cfg0.win 3).blk t).view.emb y) (congrArg (fun n => n * 2048 + 1 * (y 0).val) (show win0_3.index t (0 : Fin 2) = 0 from e6)) (congrArg (fun n => n * 512 + 1 * (y 1).val) (show win0_3.index t (1 : Fin 2) = t.val from e7)))

/-- Output 3 after the run. -/
theorem final3_block (c : Dev nD) : (dats m 0 c).arrAt 3 cfg0.N = (G (m ((c : Thread nD τ).loc main_arg0)) (m ((c : Thread nD τ).loc main_arg1))) := by
  refine (dats m 0 c).arrAt_eq_of_cover 3 _ (fun t _ => flushed3_block m c t) (fun (i : S2048x2048.Idx) => ?_)
  have hi0 : (i 0).val < 2048 := (i 0).isLt
  have hi1 : (i 1).val < 2048 := (i 1).isLt
  have hN : cfg0.N = 4 := rfl
  obtain ⟨t, ht⟩ : ∃ t : Fin cfg0.N, t.val = (i 1).val / 512 := ⟨⟨(i 1).val / 512, by omega⟩, rfl⟩
  obtain ⟨e0, e1, e2, e3, e4, e5, e6, e7⟩ := maps t
  refine ⟨t, (writes t).2, ?_⟩
  show i ∈ ((View.whole main_v2_1).slice (win0_3.rect t)).set
  rw [View.set_slice_whole, Rect.mem_set_unit]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

end Cert.GwOIdeal.Value

namespace Cert.GwOReferenceIdeal.Read

open Cert.GwOReferenceIdeal Cert.GwOReferenceIdeal.Gen Cert.Blocks Idealize.ShloMosaic Idealize.ShloMosaic.TcCoe

/-- The reference's product, read: the same sum. -/
theorem prod_eq (A : (⟨S2176x2048, .f32⟩ : BufTy).Contents (Elt Ideal)) (W : (⟨S2176x2048, .f32⟩ : BufTy).Contents (Elt Ideal)) (i : S2048x2048.Idx) :
    val_main_v3 (F := Ideal) A W i = Cert.GwOIdeal.Value.G A W i := by
  rw [val_main_v3_apply, val_main_v2_apply]
  unfold Cert.GwOIdeal.Value.G tn
  refine sum_mul_comm_congr (fun k => congrArg A (idx2_ext _ _ rfl rfl)) (fun k => congrArg W (idx2_ext _ _ rfl rfl))

end Cert.GwOReferenceIdeal.Read

namespace Cert.GwOEq

open Idealize.ShloMosaic Idealize.ShloMosaic.TcCoe Idealize.SL.Sem

/-- The kernel and its reference leave equal results and keep their arguments. -/
theorem algebraic : Cert.algebraic_GwOIdeal_GwOReferenceIdeal := by
  intro m g m' g' _ hagree
  refine ⟨fun c => Cert.GwOIdeal.Value.G (m ((c : Thread Cert.GwOIdeal.nD Cert.GwOIdeal.τ).loc Cert.GwOIdeal.main_arg0)) (m ((c : Thread Cert.GwOIdeal.nD Cert.GwOIdeal.τ).loc Cert.GwOIdeal.main_arg1)),
    fun c => Cert.GwOIdeal.Value.G (m ((c : Thread Cert.GwOIdeal.nD Cert.GwOIdeal.τ).loc Cert.GwOIdeal.main_arg0)) (m ((c : Thread Cert.GwOIdeal.nD Cert.GwOIdeal.τ).loc Cert.GwOIdeal.main_arg1)),
    (θ_run Cert.GwOIdeal.defs _ _).mono (fun r h c => ?_) (Cert.GwOIdeal.Value.run_blocks m g),
    (θ_run Cert.GwOReferenceIdeal.defs _ _).mono (fun r h c => ?_) (Cert.GwOReferenceIdeal.Value.run m' g')⟩
  · obtain ⟨h0, h1, k0, k1⟩ := h c
    exact ⟨h0.trans (Cert.GwOIdeal.Value.final2_block m c), h1.trans (Cert.GwOIdeal.Value.final3_block m c), k0, k1⟩
  · obtain ⟨h0, h1, k0, k1⟩ := h c
    obtain ⟨a0, a1⟩ := hagree c
    rw [a0, a1] at h0 h1
    exact ⟨h0.trans ((Cert.GwOReferenceIdeal.Read.val_main_v3_eq _ _).trans ((funext fun i => Cert.GwOReferenceIdeal.Read.prod_eq (m ((c : Thread Cert.GwOIdeal.nD Cert.GwOIdeal.τ).loc Cert.GwOIdeal.main_arg0)) (m ((c : Thread Cert.GwOIdeal.nD Cert.GwOIdeal.τ).loc Cert.GwOIdeal.main_arg1)) i))),
      h1.trans ((Cert.GwOReferenceIdeal.Read.val_main_v4_eq _ _).trans ((funext fun i => Cert.GwOReferenceIdeal.Read.prod_eq (m ((c : Thread Cert.GwOIdeal.nD Cert.GwOIdeal.τ).loc Cert.GwOIdeal.main_arg0)) (m ((c : Thread Cert.GwOIdeal.nD Cert.GwOIdeal.τ).loc Cert.GwOIdeal.main_arg1)) i))), k0, k1⟩

end Cert.GwOEq
-- ==== Proof.DActEq.lean ====
/- The gradient of a branch before its pointwise weights and its reference, read: every element of the kernel's result is the sum over the contracted axis, gathered in four steps. -/
module

public import proofs.«01_k».proof.Defs
public import proofs.«01_k».proof.Proof.Gen.DActIdeal.Value
public import proofs.«01_k».proof.Proof.Gen.DActReferenceIdeal.Run
public import proofs.«01_k».proof.Proof.Gen.DActReferenceIdeal.Read
public import proofs.«01_k».proof.Proof.Blocks

@[expose] public section

set_option maxRecDepth 16384

noncomputable section

namespace Cert.DActIdeal.Value

open Cert.DActIdeal Cert.DActIdeal.Gen Idealize.ShloMosaic Idealize.ShloMosaic.TcCoe Idealize.SL.Sem Cert.Blocks
open Idealize.ShloMosaic.Pipeline (Dat)

variable (m : (ℓ : Loc nD τ sig) → Buf (Elt Ideal) ℓ) (ρ : Dev nD → PrngReg)

/-- One product of the sum. -/
def prodAt (A : S2176x2048.Idx → EReal) (W : S1024x2048.Idx → EReal) (i : S2176x1024.Idx) (k : Fin 2048) : EReal :=
  A (ix2 (i 0) k) * W (ix2 (i 1) k)

/-- The gradient of a branch before its pointwise weights: element `(r, d)` sums over the 2048 channels the incoming gradient times the weight. -/
def G (A : S2176x2048.Idx → EReal) (W : S1024x2048.Idx → EReal) (i : S2176x1024.Idx) : EReal :=
  ∑ k : Fin 2048, prodAt A W i k

/-- The first step's product. -/
theorem pay2_apply (x0 : Vec Ideal S2176x512 .bf16) (x1 : Vec Ideal S1x512x512 .bf16) (y : S2176x512.Idx) :
    k0_pay2 x0 x1 y = ∑ k : Fin 512, x0 (ix2 (y 0) k) * x1 (ix3 0 (y 1) k) := by
  unfold k0_pay2 k0_pay1
  pointwise

/-- A middle step's product added to what was gathered. -/
theorem pay3_apply (x0 : Vec Ideal S2176x512 .bf16) (x1 : Vec Ideal S1x512x512 .bf16) (v : Vec Ideal S2176x512 .f32) (y : S2176x512.Idx) :
    k0_pay3 x0 x1 v y = v y + ∑ k : Fin 512, x0 (ix2 (y 0) k) * x1 (ix3 0 (y 1) k) := by
  unfold k0_pay3 k0_pay1
  pointwise

/-- The last step's product added to what was gathered. -/
theorem pay4_apply (x0 : Vec Ideal S2176x512 .bf16) (x1 : Vec Ideal S1x512x512 .bf16) (v : Vec Ideal S2176x512 .f32) (y : S2176x512.Idx) :
    k0_pay4 x0 x1 v y = v y + ∑ k : Fin 512, x0 (ix2 (y 0) k) * x1 (ix3 0 (y 1) k) := by
  unfold k0_pay4 k0_pay1
  pointwise

/-- What the body leaves, case A: one whole block. -/
theorem leftA (c : Dev nD) (i : grid0.Coords) (arg3 : Memref sig .tc .vmem S2176x512 .bf16) (harg3 : arg3.IsWhole) (arg4 : Memref sig .tc .vmem S1x512x512 .bf16) (harg4 : arg4.IsWhole) (arg5 : Memref sig .tc .vmem S2176x512 .f32) (harg5 : arg5.IsWhole) (arg6 : Memref sig .tc .vmem S2176x512 .f32) (harg6 : arg6.IsWhole) (hc0 : cond0_0 i) (hc1 : ¬cond0_1 i) (hc2 : ¬cond0_2 i) (x0 : Vec Ideal S2176x512 .bf16) (x1 : Vec Ideal S1x512x512 .bf16) :
    sout0_A_0 (F := Ideal) c i arg3 harg3 arg4 harg4 arg5 harg5 arg6 harg6 hc0 hc1 hc2 x0 x1 = k0_pay2 x0 x1 := by
  unfold sout0_A_0
  rw [View.read_writes_junk_eq_canon]
  unfold kernelRun0_A
  dsimp only
  refine (canon_whole _ (congrFun zero2) _).trans ?_
  rw [whole_read arg3 harg3 x0 (congrFun zero2), whole_read arg4 harg4 x1 (congrFun zero3)]

/-- What the body leaves, case B: one whole block. -/
theorem leftB (c : Dev nD) (i : grid0.Coords) (arg3 : Memref sig .tc .vmem S2176x512 .bf16) (harg3 : arg3.IsWhole) (arg4 : Memref sig .tc .vmem S1x512x512 .bf16) (harg4 : arg4.IsWhole) (arg5 : Memref sig .tc .vmem S2176x512 .f32) (harg5 : arg5.IsWhole) (arg6 : Memref sig .tc .vmem S2176x512 .f32) (harg6 : arg6.IsWhole) (hc0 : ¬cond0_0 i) (hc1 : cond0_1 i) (hc2 : ¬cond0_2 i) (x0 : Vec Ideal S2176x512 .bf16) (x1 : Vec Ideal S1x512x512 .bf16) (xs0 : Vec Ideal S2176x512 .f32) :
    sout0_B_0 (F := Ideal) c i arg3 harg3 arg4 harg4 arg5 harg5 arg6 harg6 hc0 hc1 hc2 x0 x1 xs0 = k0_pay3 x0 x1 xs0 := by
  unfold sout0_B_0
  rw [View.read_writes_junk_eq_canon]
  unfold kernelRun0_B
  dsimp only
  refine (canon_whole _ (congrFun zero2) _).trans ?_
  rw [whole_read arg3 harg3 x0 (congrFun zero2), whole_read arg4 harg4 x1 (congrFun zero3), whole_read arg6 harg6 xs0 (congrFun zero2)]

/-- What the body leaves, case C: one whole block. -/
theorem leftC (c : Dev nD) (i : grid0.Coords) (arg3 : Memref sig .tc .vmem S2176x512 .bf16) (harg3 : arg3.IsWhole) (arg4 : Memref sig .tc .vmem S1x512x512 .bf16) (harg4 : arg4.IsWhole) (arg5 : Memref sig .tc .vmem S2176x512 .f32) (harg5 : arg5.IsWhole) (arg6 : Memref sig .tc .vmem S2176x512 .f32) (harg6 : arg6.IsWhole) (hc0 : ¬cond0_0 i) (hc1 : ¬cond0_1 i) (hc2 : cond0_2 i) (x0 : Vec Ideal S2176x512 .bf16) (x1 : Vec Ideal S1x512x512 .bf16) (xs0 : Vec Ideal S2176x512 .f32) :
    out0_C_2 (F := Ideal) c i arg3 harg3 arg4 harg4 arg5 harg5 arg6 harg6 hc0 hc1 hc2 x0 x1 xs0 = k0_pay4 x0 x1 xs0 := by
  unfold out0_C_2
  rw [View.read_writes_junk_eq_canon]
  unfold kernelRun0_C
  dsimp only
  refine (canon_whole _ (congrFun zero2) _).trans ?_
  rw [whole_read arg3 harg3 x0 (congrFun zero2), whole_read arg4 harg4 x1 (congrFun zero3), whole_read arg6 harg6 xs0 (congrFun zero2)]

/-- One step's product at a point. -/
def part (c : Dev nD) (t : Fin cfg0.N) (y : S2176x512.Idx) (k : Fin 512) : EReal :=
  let x0 : Vec Ideal S2176x512 .bf16 := iblk m c 0 t
  let x1 : Vec Ideal S1x512x512 .bf16 := iblk m c 1 t
  x0 (ix2 (y 0) k) * x1 (ix3 0 (y 1) k)

/-- The scratch after a first step. -/
theorem first (c : Dev nD) (t : Fin cfg0.N) (h : t.val % 4 = 0) (y : S2176x512.Idx) :
    (outsAt0 m c t.val t.isLt).2 y = ∑ k : Fin 512, part m c t y k := by
  rw [outsAt0_A m c t h (by omega) (by omega)]
  dsimp only
  rw [leftA]
  exact pay2_apply _ _ y

/-- The scratch after a middle step. -/
theorem middle (c : Dev nD) (t : Fin cfg0.N) (h : 1 ≤ t.val % 4 ∧ t.val % 4 ≤ 2) (y : S2176x512.Idx) :
    (outsAt0 m c t.val t.isLt).2 y = (outsAt0 m c (t.val - 1) (Nat.lt_of_le_of_lt (Nat.sub_le _ _) t.isLt)).2 y + ∑ k : Fin 512, part m c t y k := by
  rw [outsAt0_B m c t (by omega) h (by omega)]
  dsimp only
  rw [leftB]
  exact pay3_apply _ _ _ y

/-- The result's block after a last step. -/
theorem last (c : Dev nD) (t : Fin cfg0.N) (h : t.val % 4 = 3) (y : S2176x512.Idx) :
    (outsAt0 m c t.val t.isLt).1 y = (outsAt0 m c (t.val - 1) (Nat.lt_of_le_of_lt (Nat.sub_le _ _) t.isLt)).2 y + ∑ k : Fin 512, part m c t y k := by
  rw [outsAt0_C m c t (by omega) (by omega) h]
  dsimp only
  rw [leftC]
  exact pay4_apply _ _ _ y

/-- The four steps of a block, added up. -/
theorem steps (c : Dev nD) (q : ℕ) (h3 : 4 * q + 3 < cfg0.N) (y : S2176x512.Idx) :
    (outsAt0 m c (4 * q + 3) h3).1 y = (∑ k : Fin 512, part m c ⟨4 * q, by omega⟩ y k + ∑ k : Fin 512, part m c ⟨4 * q + 1, by omega⟩ y k) + ∑ k : Fin 512, part m c ⟨4 * q + 2, by omega⟩ y k + ∑ k : Fin 512, part m c ⟨4 * q + 3, h3⟩ y k := by
  have e3 := last m c ⟨4 * q + 3, h3⟩ (by show (4 * q + 3) % 4 = 3; omega) y
  have e2 := middle m c ⟨4 * q + 2, by omega⟩ (by show 1 ≤ (4 * q + 2) % 4 ∧ (4 * q + 2) % 4 ≤ 2; omega) y
  have e1 := middle m c ⟨4 * q + 1, by omega⟩ (by show 1 ≤ (4 * q + 1) % 4 ∧ (4 * q + 1) % 4 ≤ 2; omega) y
  have e0 := first m c ⟨4 * q, by omega⟩ (by show (4 * q) % 4 = 0; omega) y
  exact e3.trans (congrArg (· + _) (e2.trans (congrArg (· + _) (e1.trans (congrArg (· + _) e0)))))

/-- The first operand at the region's entry. -/
theorem V_l (c : Dev nD) (i : S2176x2048.Idx) : V m c main_v0 i = m ((c : Thread nD τ).loc main_arg0) i := by
  unfold V
  after_reads_at

/-- The second operand at the region's entry: the weights cut into four pieces of columns. -/
theorem V_r (c : Dev nD) (i : S4x1024x512.Idx) : V m c main_v3 i = m ((c : Thread nD τ).loc main_arg1) (ix2 (i 1) (col rfl i)) := by
  unfold V
  after_reads_at
  rfl

/-- The printed index maps, decided over the grid: point `t` takes piece `t % 4` of the contracted axis and block `t / 4` of the result's columns. -/
theorem maps : ∀ t : Fin cfg0.N, win0_2.index t (0 : Fin 2) = 0 ∧ win0_2.index t (1 : Fin 2) = t.val / 4 ∧ win0_0.index t (0 : Fin 2) = 0 ∧ win0_0.index t (1 : Fin 2) = t.val % 4
    ∧ win0_1.index t (0 : Fin 3) = t.val % 4 ∧ win0_1.index t (1 : Fin 3) = win0_2.index t (1 : Fin 2) ∧ win0_1.index t (2 : Fin 3) = 0 :=
  (by decide +kernel : ∀ t : Fin grid0.N, _)

/-- Every block of the result is some point's, and that point writes it back. -/
theorem onto : ∀ q : Fin 2, ∃ t : Fin cfg0.N, (cfg0.win 2).flush t = true ∧ win0_2.index t (1 : Fin 2) = q.val :=
  (by decide +kernel : ∀ q : Fin 2, ∃ t : Fin grid0.N, win0_2.flush t = true ∧ win0_2.index t (1 : Fin 2) = q.val)

/-- One step's product, in the arrays. -/
theorem part_eq (c : Dev nD) (t : Fin cfg0.N) (y : S2176x512.Idx) (k : Fin 512) (i : S2176x1024.Idx) (h0 : (i 0).val = (y 0).val) (h1 : (i 1).val = (t.val / 4) * 512 + (y 1).val) :
    part m c t y k = at0 2048 (prodAt (m ((c : Thread nD τ).loc main_arg0)) (m ((c : Thread nD τ).loc main_arg1)) i) (512 * (t.val % 4) + k.val) := by
  obtain ⟨-, e1, e2, e3, e4, e5, e6⟩ := maps t
  have hk : k.val < 512 := k.isLt
  have h4 : t.val % 4 < 4 := Nat.mod_lt _ (by omega)
  unfold at0
  rw [dif_pos (by omega)]
  unfold part prodAt
  refine congrArg₂ HMul.hMul ?_ ?_
  · exact (V_l m c _).trans (congrArg (m ((c : Thread nD τ).loc main_arg0)) (idx2_ext _ _
      (show win0_0.index t (0 : Fin 2) * 2176 + 1 * (y 0).val = (i 0).val by omega)
      (show win0_0.index t (1 : Fin 2) * 512 + 1 * k.val = 512 * (t.val % 4) + k.val by omega)))
  · exact (V_r m c _).trans (congrArg (m ((c : Thread nD τ).loc main_arg1)) (idx2_ext _ _
      (show win0_1.index t (1 : Fin 3) * 512 + 1 * (y 1).val = (i 1).val by omega)
      (show (win0_1.index t (0 : Fin 3) * 1 + 1 * 0) * 512 + (win0_1.index t (2 : Fin 3) * 512 + 1 * k.val) = 512 * (t.val % 4) + k.val by omega)))

/-- What a last step writes back is its block of the products. -/
theorem flushedG_eq (c : Dev nD) (t : Fin cfg0.N) (hf : (cfg0.win 2).flush t = true) :
    (dats m 0 c).flushed 2 t = ((cfg0.win 2).blk t).view.read (Elt Ideal) (G (m ((c : Thread nD τ).loc main_arg0)) (m ((c : Thread nD τ).loc main_arg1))) := by
  have h3 : t.val % 4 = 3 := (flush0_2 t).mp hf
  obtain ⟨e0, e1, -⟩ := maps t
  obtain ⟨n, hn⟩ := t
  obtain ⟨q, rfl⟩ : ∃ q, n = 4 * q + 3 := ⟨n / 4, by have h3' : n % 4 = 3 := h3; omega⟩
  have hq : (4 * q + 3) / 4 = q := by omega
  have e1' : win0_2.index ⟨4 * q + 3, hn⟩ (1 : Fin 2) = q := e1.trans hq
  show (cfg0.win 2).cut (grid0.coords ⟨4 * q + 3, hn⟩) ((dats m 0 c).after 2 ⟨4 * q + 3, hn⟩) = _
  rw [after0_2]
  funext y
  show (outsAt0 m c (4 * q + 3) hn).1 y = (G (m ((c : Thread nD τ).loc main_arg0)) (m ((c : Thread nD τ).loc main_arg1))) (((cfg0.win 2).blk ⟨4 * q + 3, hn⟩).view.emb y)
  refine (steps m c q hn y).trans ?_
  have i0 : (((cfg0.win 2).blk ⟨4 * q + 3, hn⟩).view.emb y 0).val = (y 0).val := by
    show win0_2.index ⟨4 * q + 3, hn⟩ (0 : Fin 2) * 2176 + 1 * (y 0).val = (y 0).val
    omega
  have i1 : (((cfg0.win 2).blk ⟨4 * q + 3, hn⟩).view.emb y 1).val = q * 512 + (y 1).val := by
    show win0_2.index ⟨4 * q + 3, hn⟩ (1 : Fin 2) * 512 + 1 * (y 1).val = _
    omega
  have hp : ∀ (p : Fin 4), 4 * q + p.val < cfg0.N := fun p => by have := p.isLt; omega
  refine sum_four_fin 512 2048 rfl (prodAt (m ((c : Thread nD τ).loc main_arg0)) (m ((c : Thread nD τ).loc main_arg1)) (((cfg0.win 2).blk ⟨4 * q + 3, hn⟩).view.emb y))
    (fun p => part m c ⟨4 * q + p.val, hp p⟩ y) (fun p k => ?_)
  have hp4 := p.isLt
  have hd : (4 * q + p.val) / 4 = q := by omega
  have hm : (4 * q + p.val) % 4 = p.val := by omega
  refine (part_eq m c ⟨4 * q + p.val, hp p⟩ y k (((cfg0.win 2).blk ⟨4 * q + 3, hn⟩).view.emb y) i0 ?_).trans ?_
  · exact i1.trans (congrArg (fun n => n * 512 + (y 1).val) hd.symm)
  · exact congrArg (fun n => at0 2048 (prodAt (m ((c : Thread nD τ).loc main_arg0)) (m ((c : Thread nD τ).loc main_arg1)) (((cfg0.win 2).blk ⟨4 * q + 3, hn⟩).view.emb y)) (512 * n + k.val)) hm

/-- The result after the run. -/
theorem finalG (c : Dev nD) : (dats m 0 c).arrAt 2 cfg0.N = (G (m ((c : Thread nD τ).loc main_arg0)) (m ((c : Thread nD τ).loc main_arg1))) := by
  refine (dats m 0 c).arrAt_eq_of_cover 2 _ (fun t hf => flushedG_eq m c t hf) (fun (i : S2176x1024.Idx) => ?_)
  have hi0 : (i 0).val < 2176 := (i 0).isLt
  have hi1 : (i 1).val < 1024 := (i 1).isLt
  obtain ⟨t, hf, ht⟩ := onto ⟨(i 1).val / 512, by omega⟩
  obtain ⟨e0, -⟩ := maps t
  have ht' : win0_2.index t (1 : Fin 2) = (i 1).val / 512 := ht
  refine ⟨t, hf, ?_⟩
  show i ∈ ((View.whole main_v4).slice (win0_2.rect t)).set
  rw [View.set_slice_whole, Rect.mem_set_unit]
  intro a
  match a with
  | ⟨0, _⟩ => show win0_2.index t (0 : Fin 2) * 2176 ≤ (i 0).val ∧ (i 0).val < win0_2.index t (0 : Fin 2) * 2176 + 2176; omega
  | ⟨1, _⟩ => show win0_2.index t (1 : Fin 2) * 512 ≤ (i 1).val ∧ (i 1).val < win0_2.index t (1 : Fin 2) * 512 + 512; omega

end Cert.DActIdeal.Value

namespace Cert.DActReferenceIdeal.Read

open Cert.Blocks Idealize.ShloMosaic Idealize.ShloMosaic.TcCoe

/-- The reference's product, read: the same sum. -/
theorem val_eq (A : (⟨S2176x2048, .f32⟩ : BufTy).Contents (Elt Ideal)) (B : (⟨S1024x2048, .f32⟩ : BufTy).Contents (Elt Ideal)) :
    val_main_v2 (F := Ideal) A B = Cert.DActIdeal.Value.G A B := by
  funext i
  rw [val_main_v2_apply]
  unfold Cert.DActIdeal.Value.G Cert.DActIdeal.Value.prodAt
  exact sum_mul_congr (fun k => congrArg A (idx2_ext _ _ rfl rfl)) (fun k => congrArg B (idx2_ext _ _ rfl rfl))

end Cert.DActReferenceIdeal.Read

namespace Cert.DActEq

open Idealize.ShloMosaic Idealize.ShloMosaic.TcCoe Idealize.SL.Sem

/-- The kernel and its reference leave equal results and keep their arguments. -/
theorem algebraic : Cert.algebraic_DActIdeal_DActReferenceIdeal := by
  intro m g m' g' _ hagree
  refine ⟨fun c => Cert.DActIdeal.Value.G (m ((c : Thread Cert.DActIdeal.nD Cert.DActIdeal.τ).loc Cert.DActIdeal.main_arg0)) (m ((c : Thread Cert.DActIdeal.nD Cert.DActIdeal.τ).loc Cert.DActIdeal.main_arg1)),
    (θ_run Cert.DActIdeal.defs _ _).mono (fun r h c => ?_) (Cert.DActIdeal.Value.run_blocks m g),
    (θ_run Cert.DActReferenceIdeal.defs _ _).mono (fun r h c => ?_) (Cert.DActReferenceIdeal.Value.run m' g')⟩
  · obtain ⟨h0, k0, k1⟩ := h c
    exact ⟨h0.trans (Cert.DActIdeal.Value.finalG m c), k0, k1⟩
  · obtain ⟨h0, k0, k1⟩ := h c
    obtain ⟨a0, a1⟩ := hagree c
    rw [a0, a1] at h0
    exact ⟨h0.trans ((Cert.DActReferenceIdeal.Read.val_main_v2_eq _ _).trans (Cert.DActReferenceIdeal.Read.val_eq (m ((c : Thread Cert.DActIdeal.nD Cert.DActIdeal.τ).loc Cert.DActIdeal.main_arg0)) (m ((c : Thread Cert.DActIdeal.nD Cert.DActIdeal.τ).loc Cert.DActIdeal.main_arg1)))), k0, k1⟩

end Cert.DActEq
-- ==== Proof.GwPwEq.lean ====
/- The gradient of a branch's pointwise weights: what the kernel leaves, what its reference leaves, and their equality over the extended reals. -/
module

public import proofs.«01_k».proof.Defs
public import proofs.«01_k».proof.Proof.Blocks
public import proofs.«01_k».proof.Proof.Gen.GwPwIdeal.Value
public import proofs.«01_k».proof.Proof.Gen.GwPwReferenceIdeal.Run
public import proofs.«01_k».proof.Proof.Gen.GwPwReferenceIdeal.Read
public import Idealize.ShloMosaic.Lib.StableHlo.ReadAt
public import Idealize.ShloMosaic.Lib.Pointwise

@[expose] public section

set_option maxRecDepth 16384

noncomputable section

namespace Cert.GwPwIdeal.Value

open Cert.GwPwIdeal Cert.GwPwIdeal.Gen Cert.Blocks Idealize.ShloMosaic Idealize.ShloMosaic.TcCoe Idealize.SL.Sem
open Idealize.ShloMosaic.Pipeline (Dat)

variable (m : (ℓ : Loc nD τ sig) → Buf (Elt Ideal) ℓ)

/-- The gradient of a branch's pointwise weights, in four pieces of columns: the sum over the positions of the activation times the incoming gradient. -/
def G (A : S2176x1024.Idx → EReal) (W : S2176x2048.Idx → EReal) (i : S4x1024x512.Idx) : EReal :=
  tn A W (i 1) (col (n := 2048) rfl i)

/-- The body's product at an element of the result's block. -/
theorem prod_apply (P0 : Vec Ideal S2176x1024 .bf16) (P1 : Vec Ideal S2176x512 .bf16) (y : S1024x512.Idx) :
    k0_pay1 P0 P1 y = tn (K := 2176) P0 P1 (y 0) (y 1) := by
  unfold k0_pay1 tn
  pointwise

/-- The first operand at the region's entry: the first argument. -/
theorem V_l (c : Dev nD) (i : S2176x1024.Idx) : V m c main_v0 i = m ((c : Thread nD τ).loc main_arg0) i := by
  unfold V
  after_reads_at

/-- The second operand at the region's entry: the second argument. -/
theorem V_r (c : Dev nD) (i : S2176x2048.Idx) : V m c main_v1 i = m ((c : Thread nD τ).loc main_arg1) i := by
  unfold V
  after_reads_at

/-- The printed index maps, decided over the grid. -/
theorem maps : ∀ t : Fin cfg0.N, win0_0.index t (0 : Fin 2) = 0
    ∧ win0_0.index t (1 : Fin 2) = 0
    ∧ win0_1.index t (0 : Fin 2) = 0
    ∧ win0_1.index t (1 : Fin 2) = t.val
    ∧ win0_2.index t (0 : Fin 3) = t.val / 1
    ∧ win0_2.index t (1 : Fin 3) = 0
    ∧ win0_2.index t (2 : Fin 3) = t.val % 1
    ∧ win0_3.index t (0 : Fin 3) = t.val / 1
    ∧ win0_3.index t (1 : Fin 3) = 0
    ∧ win0_3.index t (2 : Fin 3) = t.val % 1 :=
  (by decide +kernel : ∀ t : Fin grid0.N, _)

/-- Every point writes its blocks back. -/
theorem writes : ∀ t : Fin cfg0.N, (cfg0.win 2).flush t = true ∧ (cfg0.win 3).flush t = true :=
  (by decide +kernel : ∀ t : Fin grid0.N, win0_2.flush t = true ∧ win0_3.flush t = true)

/-- One point's sum, read at the place that its block has in the result. -/
theorem sum_block (c : Dev nD) (t : Fin cfg0.N) (y : S1x1024x512.Idx) (i : S4x1024x512.Idx) (h0 : (i 0).val = (t.val / 1) * 1 + 1 * (y 0).val) (h1 : (i 1).val = (0) * 1024 + 1 * (y 1).val) (h2 : (i 2).val = (t.val % 1) * 512 + 1 * (y 2).val) :
    tn (K := 2176) (iblk m c 0 t : Vec Ideal S2176x1024 .bf16) (iblk m c 1 t : Vec Ideal S2176x512 .bf16) (y 1) (y 2) = G (m ((c : Thread nD τ).loc main_arg0)) (m ((c : Thread nD τ).loc main_arg1)) i := by
  obtain ⟨e0, e1, e2, e3, e4, e5, e6, e7, e8, e9⟩ := maps t
  have hy0 : (y 0).val < 1 := (y 0).isLt
  have hy1 : (y 1).val < 1024 := (y 1).isLt
  have hy2 : (y 2).val < 512 := (y 2).isLt
  unfold G tn
  refine sum_mul_congr (fun k => ?_) (fun k => ?_)
  · exact (V_l m c _).trans (congrArg (m ((c : Thread nD τ).loc main_arg0)) (idx2_ext _ _
      (show win0_0.index t (0 : Fin 2) * 2176 + 1 * k.val = k.val by omega)
      (show win0_0.index t (1 : Fin 2) * 1024 + 1 * (y 1).val = (i 1).val by omega)))
  · exact (V_r m c _).trans (congrArg (m ((c : Thread nD τ).loc main_arg1)) (idx2_ext _ _
      (show win0_1.index t (0 : Fin 2) * 2176 + 1 * k.val = k.val by omega)
      (show win0_1.index t (1 : Fin 2) * 512 + 1 * (y 2).val = ((i 0).val * 512 + (i 2).val) by omega)))

/-- What a point writes back of output 2 is its block of the sums. -/
theorem flushed2_block (c : Dev nD) (t : Fin cfg0.N) : (dats m 0 c).flushed 2 t = ((cfg0.win 2).blk t).view.read (Elt Ideal) (G (m ((c : Thread nD τ).loc main_arg0)) (m ((c : Thread nD τ).loc main_arg1))) := by
  rw [flushed2]
  funext y
  obtain ⟨e0, e1, e2, e3, e4, e5, e6, e7, e8, e9⟩ := maps t
  show out0_2 (iblk m c 0 t) (iblk m c 1 t) y = (G (m ((c : Thread nD τ).loc main_arg0)) (m ((c : Thread nD τ).loc main_arg1))) (((cfg0.win 2).blk t).view.emb y)
  unfold out0_2
  rw [View.ld_unit_zero (zero2 : (_ : Fin S2176x1024.rank → ℕ) = _), View.ld_unit_zero (zero2 : (_ : Fin S2176x512.rank → ℕ) = _)]
  rw [canon2_eq]
  exact (prod_apply _ _ (ix2_0 y)).trans (sum_block m c t y (((cfg0.win 2).blk t).view.emb y) (congrArg (fun n => n * 1 + 1 * (y 0).val) (show win0_2.index t (0 : Fin 3) = t.val / 1 from e4)) (congrArg (fun n => n * 1024 + 1 * (y 1).val) (show win0_2.index t (1 : Fin 3) = 0 from e5)) (congrArg (fun n => n * 512 + 1 * (y 2).val) (show win0_2.index t (2 : Fin 3) = t.val % 1 from e6)))

/-- Output 2 after the run. -/
theorem final2_block (c : Dev nD) : (dats m 0 c).arrAt 2 cfg0.N = (G (m ((c : Thread nD τ).loc main_arg0)) (m ((c : Thread nD τ).loc main_arg1))) := by
  refine (dats m 0 c).arrAt_eq_of_cover 2 _ (fun t _ => flushed2_block m c t) (fun (i : S4x1024x512.Idx) => ?_)
  have hi0 : (i 0).val < 4 := (i 0).isLt
  have hi1 : (i 1).val < 1024 := (i 1).isLt
  have hi2 : (i 2).val < 512 := (i 2).isLt
  have hN : cfg0.N = 4 := rfl
  obtain ⟨t, ht⟩ : ∃ t : Fin cfg0.N, t.val = (i 0).val * 1 + (i 2).val / 512 := ⟨⟨(i 0).val * 1 + (i 2).val / 512, by omega⟩, rfl⟩
  obtain ⟨e0, e1, e2, e3, e4, e5, e6, e7, e8, e9⟩ := maps t
  refine ⟨t, (writes t).1, ?_⟩
  show i ∈ ((View.whole main_v2_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 512 ≤ (i 2).val ∧ (i 2).val < win0_2.index t (2 : Fin 3) * 512 + 512; omega

/-- What a point writes back of output 3 is its block of the sums. -/
theorem flushed3_block (c : Dev nD) (t : Fin cfg0.N) : (dats m 0 c).flushed 3 t = ((cfg0.win 3).blk t).view.read (Elt Ideal) (G (m ((c : Thread nD τ).loc main_arg0)) (m ((c : Thread nD τ).loc main_arg1))) := by
  rw [flushed3]
  funext y
  obtain ⟨e0, e1, e2, e3, e4, e5, e6, e7, e8, e9⟩ := maps t
  show out0_3 (iblk m c 0 t) (iblk m c 1 t) y = (G (m ((c : Thread nD τ).loc main_arg0)) (m ((c : Thread nD τ).loc main_arg1))) (((cfg0.win 3).blk t).view.emb y)
  unfold out0_3
  rw [View.ld_unit_zero (zero2 : (_ : Fin S2176x1024.rank → ℕ) = _), View.ld_unit_zero (zero2 : (_ : Fin S2176x512.rank → ℕ) = _)]
  rw [canon3_eq]
  exact (prod_apply _ _ (ix2_0 y)).trans (sum_block m c t y (((cfg0.win 3).blk t).view.emb y) (congrArg (fun n => n * 1 + 1 * (y 0).val) (show win0_3.index t (0 : Fin 3) = t.val / 1 from e7)) (congrArg (fun n => n * 1024 + 1 * (y 1).val) (show win0_3.index t (1 : Fin 3) = 0 from e8)) (congrArg (fun n => n * 512 + 1 * (y 2).val) (show win0_3.index t (2 : Fin 3) = t.val % 1 from e9)))

/-- Output 3 after the run. -/
theorem final3_block (c : Dev nD) : (dats m 0 c).arrAt 3 cfg0.N = (G (m ((c : Thread nD τ).loc main_arg0)) (m ((c : Thread nD τ).loc main_arg1))) := by
  refine (dats m 0 c).arrAt_eq_of_cover 3 _ (fun t _ => flushed3_block m c t) (fun (i : S4x1024x512.Idx) => ?_)
  have hi0 : (i 0).val < 4 := (i 0).isLt
  have hi1 : (i 1).val < 1024 := (i 1).isLt
  have hi2 : (i 2).val < 512 := (i 2).isLt
  have hN : cfg0.N = 4 := rfl
  obtain ⟨t, ht⟩ : ∃ t : Fin cfg0.N, t.val = (i 0).val * 1 + (i 2).val / 512 := ⟨⟨(i 0).val * 1 + (i 2).val / 512, by omega⟩, rfl⟩
  obtain ⟨e0, e1, e2, e3, e4, e5, e6, e7, e8, e9⟩ := maps t
  refine ⟨t, (writes t).2, ?_⟩
  show i ∈ ((View.whole main_v2_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 512 ≤ (i 2).val ∧ (i 2).val < win0_3.index t (2 : Fin 3) * 512 + 512; omega

end Cert.GwPwIdeal.Value

namespace Cert.GwPwReferenceIdeal.Read

open Cert.GwPwReferenceIdeal Cert.GwPwReferenceIdeal.Gen Cert.Blocks Idealize.ShloMosaic Idealize.ShloMosaic.TcCoe

/-- The reference's product, read: the same sum. -/
theorem prod_eq (A : (⟨S2176x1024, .f32⟩ : BufTy).Contents (Elt Ideal)) (W : (⟨S2176x2048, .f32⟩ : BufTy).Contents (Elt Ideal)) (i : S4x1024x512.Idx) :
    val_main_v5 (F := Ideal) A W i = Cert.GwPwIdeal.Value.G A W i := by
  have h0 : (i 0).val < 4 := (i 0).isLt
  have h1 : (i 1).val < 1024 := (i 1).isLt
  have h2 : (i 2).val < 512 := (i 2).isLt
  rw [val_main_v5_apply, val_main_v4_apply, val_main_v3_apply, val_main_v2_apply]
  unfold Cert.GwPwIdeal.Value.G tn
  refine sum_mul_comm_congr (fun k => congrArg A (idx2_ext _ _ rfl (show (((i 1).val * 4 + (i 0).val) * 512 + (i 2).val) / 2048 = (i 1).val by omega))) (fun k => congrArg W (idx2_ext _ _ rfl (show (((i 1).val * 4 + (i 0).val) * 512 + (i 2).val) % 2048 = (i 0).val * 512 + (i 2).val by omega)))

end Cert.GwPwReferenceIdeal.Read

namespace Cert.GwPwEq

open Idealize.ShloMosaic Idealize.ShloMosaic.TcCoe Idealize.SL.Sem

/-- The kernel and its reference leave equal results and keep their arguments. -/
theorem algebraic : Cert.algebraic_GwPwIdeal_GwPwReferenceIdeal := by
  intro m g m' g' _ hagree
  refine ⟨fun c => Cert.GwPwIdeal.Value.G (m ((c : Thread Cert.GwPwIdeal.nD Cert.GwPwIdeal.τ).loc Cert.GwPwIdeal.main_arg0)) (m ((c : Thread Cert.GwPwIdeal.nD Cert.GwPwIdeal.τ).loc Cert.GwPwIdeal.main_arg1)),
    fun c => Cert.GwPwIdeal.Value.G (m ((c : Thread Cert.GwPwIdeal.nD Cert.GwPwIdeal.τ).loc Cert.GwPwIdeal.main_arg0)) (m ((c : Thread Cert.GwPwIdeal.nD Cert.GwPwIdeal.τ).loc Cert.GwPwIdeal.main_arg1)),
    (θ_run Cert.GwPwIdeal.defs _ _).mono (fun r h c => ?_) (Cert.GwPwIdeal.Value.run_blocks m g),
    (θ_run Cert.GwPwReferenceIdeal.defs _ _).mono (fun r h c => ?_) (Cert.GwPwReferenceIdeal.Value.run m' g')⟩
  · obtain ⟨h0, h1, k0, k1⟩ := h c
    exact ⟨h0.trans (Cert.GwPwIdeal.Value.final2_block m c), h1.trans (Cert.GwPwIdeal.Value.final3_block m c), k0, k1⟩
  · obtain ⟨h0, h1, k0, k1⟩ := h c
    obtain ⟨a0, a1⟩ := hagree c
    rw [a0, a1] at h0 h1
    exact ⟨h0.trans ((Cert.GwPwReferenceIdeal.Read.val_main_v5_eq _ _).trans ((funext fun i => Cert.GwPwReferenceIdeal.Read.prod_eq (m ((c : Thread Cert.GwPwIdeal.nD Cert.GwPwIdeal.τ).loc Cert.GwPwIdeal.main_arg0)) (m ((c : Thread Cert.GwPwIdeal.nD Cert.GwPwIdeal.τ).loc Cert.GwPwIdeal.main_arg1)) i))),
      h1.trans ((Cert.GwPwReferenceIdeal.Read.val_main_v6_eq _ _).trans ((funext fun i => Cert.GwPwReferenceIdeal.Read.prod_eq (m ((c : Thread Cert.GwPwIdeal.nD Cert.GwPwIdeal.τ).loc Cert.GwPwIdeal.main_arg0)) (m ((c : Thread Cert.GwPwIdeal.nD Cert.GwPwIdeal.τ).loc Cert.GwPwIdeal.main_arg1)) i))), k0, k1⟩

end Cert.GwPwEq
-- ==== Proof.ProjEq.lean ====
/- The input projection: what the kernel leaves, what its reference leaves, and their equality over the extended reals. -/
module

public import proofs.«01_k».proof.Defs
public import proofs.«01_k».proof.Proof.Blocks
public import proofs.«01_k».proof.Proof.Gen.ProjIdeal.Value
public import proofs.«01_k».proof.Proof.Gen.ProjReferenceIdeal.Run
public import proofs.«01_k».proof.Proof.Gen.ProjReferenceIdeal.Read
public import Idealize.ShloMosaic.Lib.StableHlo.ReadAt
public import Idealize.ShloMosaic.Lib.Pointwise

@[expose] public section

set_option maxRecDepth 16384

noncomputable section

namespace Cert.ProjIdeal.Value

open Cert.ProjIdeal Cert.ProjIdeal.Gen Cert.Blocks Idealize.ShloMosaic Idealize.ShloMosaic.TcCoe Idealize.SL.Sem
open Idealize.ShloMosaic.Pipeline (Dat)

variable (m : (ℓ : Loc nD τ sig) → Buf (Elt Ideal) ℓ)

/-- The projected element: the sum over the input channels of the normalised input times the weight. -/
def G (A : S2176x2048.Idx → EReal) (W : S2048x9216.Idx → EReal) (i : S2176x9216.Idx) : EReal :=
  nn A W (i 0) (i 1)

/-- The body's product at an element of the result's block. -/
theorem prod_apply (P0 : Vec Ideal S2176x2048 .bf16) (P1 : Vec Ideal S1x2048x768 .bf16) (y : S2176x768.Idx) :
    k0_pay1 P0 P1 y = nn (K := 2048) P0 (one P1) (y 0) (y 1) := by
  unfold k0_pay1 nn one
  pointwise

/-- The first operand at the region's entry: the first argument. -/
theorem V_l (c : Dev nD) (i : S2176x2048.Idx) : V m c main_v0 i = m ((c : Thread nD τ).loc main_arg0) i := by
  unfold V
  after_reads_at

/-- The second operand at the region's entry: the weights, in four pieces of columns. -/
theorem V_r (c : Dev nD) (i : S4x2048x2304.Idx) : V m c main_v3 i = m ((c : Thread nD τ).loc main_arg1) (ix2 (i 1) (col rfl i)) := by
  unfold V
  after_reads_at
  rfl

/-- The printed index maps, decided over the grid. -/
theorem maps : ∀ t : Fin cfg0.N, win0_0.index t (0 : Fin 2) = 0
    ∧ win0_0.index t (1 : Fin 2) = 0
    ∧ win0_1.index t (0 : Fin 3) = t.val / 3
    ∧ win0_1.index t (1 : Fin 3) = 0
    ∧ win0_1.index t (2 : Fin 3) = t.val % 3
    ∧ win0_2.index t (0 : Fin 2) = 0
    ∧ win0_2.index t (1 : Fin 2) = t.val :=
  (by decide +kernel : ∀ t : Fin grid0.N, _)

/-- Every point writes its blocks back. -/
theorem writes : ∀ t : Fin cfg0.N, (cfg0.win 2).flush t = true :=
  (by decide +kernel : ∀ t : Fin grid0.N, win0_2.flush t = true)

/-- One point's sum, read at the place that its block has in the result. -/
theorem sum_block (c : Dev nD) (t : Fin cfg0.N) (y : S2176x768.Idx) (i : S2176x9216.Idx) (h0 : (i 0).val = (0) * 2176 + 1 * (y 0).val) (h1 : (i 1).val = (t.val) * 768 + 1 * (y 1).val) :
    nn (K := 2048) (iblk m c 0 t : Vec Ideal S2176x2048 .bf16) (one (iblk m c 1 t : Vec Ideal S1x2048x768 .bf16)) (y 0) (y 1) = G (m ((c : Thread nD τ).loc main_arg0)) (m ((c : Thread nD τ).loc main_arg1)) i := by
  obtain ⟨e0, e1, e2, e3, e4, e5, e6⟩ := maps t
  have hy0 : (y 0).val < 2176 := (y 0).isLt
  have hy1 : (y 1).val < 768 := (y 1).isLt
  unfold G nn
  refine sum_mul_congr (fun k => ?_) (fun k => ?_)
  · exact (V_l m c _).trans (congrArg (m ((c : Thread nD τ).loc main_arg0)) (idx2_ext _ _
      (show win0_0.index t (0 : Fin 2) * 2176 + 1 * (y 0).val = (i 0).val by omega)
      (show win0_0.index t (1 : Fin 2) * 2048 + 1 * k.val = k.val by omega)))
  · exact (V_r m c _).trans (congrArg (m ((c : Thread nD τ).loc main_arg1)) (idx2_ext _ _
      (show win0_1.index t (1 : Fin 3) * 2048 + 1 * k.val = k.val by omega)
      (show (win0_1.index t (0 : Fin 3) * 1 + 1 * 0) * 2304 + (win0_1.index t (2 : Fin 3) * 768 + 1 * (y 1).val) = (i 1).val by omega)))

/-- What a point writes back of output 2 is its block of the sums. -/
theorem flushed2_block (c : Dev nD) (t : Fin cfg0.N) : (dats m 0 c).flushed 2 t = ((cfg0.win 2).blk t).view.read (Elt Ideal) (G (m ((c : Thread nD τ).loc main_arg0)) (m ((c : Thread nD τ).loc main_arg1))) := by
  rw [flushed2]
  funext y
  obtain ⟨e0, e1, e2, e3, e4, e5, e6⟩ := maps t
  show out0_2 (iblk m c 0 t) (iblk m c 1 t) y = (G (m ((c : Thread nD τ).loc main_arg0)) (m ((c : Thread nD τ).loc main_arg1))) (((cfg0.win 2).blk t).view.emb y)
  unfold out0_2
  rw [View.ld_unit_zero (zero2 : (_ : Fin S2176x2048.rank → ℕ) = _), View.ld_unit_zero (zero3 : (_ : Fin S1x2048x768.rank → ℕ) = _)]
  refine (congrFun (canon_whole (S := S2176x768) (e := .f32) (o := ![0, 0]) (k0_pay1 (iblk m c 0 t) (iblk m c 1 t)) (fun a => congrFun zero2 a) _) y).trans ?_
  exact (prod_apply _ _ y).trans (sum_block m c t y (((cfg0.win 2).blk t).view.emb y) (congrArg (fun n => n * 2176 + 1 * (y 0).val) (show win0_2.index t (0 : Fin 2) = 0 from e5)) (congrArg (fun n => n * 768 + 1 * (y 1).val) (show win0_2.index t (1 : Fin 2) = t.val from e6)))

/-- Output 2 after the run. -/
theorem final2_block (c : Dev nD) : (dats m 0 c).arrAt 2 cfg0.N = (G (m ((c : Thread nD τ).loc main_arg0)) (m ((c : Thread nD τ).loc main_arg1))) := by
  refine (dats m 0 c).arrAt_eq_of_cover 2 _ (fun t _ => flushed2_block m c t) (fun (i : S2176x9216.Idx) => ?_)
  have hi0 : (i 0).val < 2176 := (i 0).isLt
  have hi1 : (i 1).val < 9216 := (i 1).isLt
  have hN : cfg0.N = 12 := rfl
  obtain ⟨t, ht⟩ : ∃ t : Fin cfg0.N, t.val = (i 1).val / 768 := ⟨⟨(i 1).val / 768, by omega⟩, rfl⟩
  obtain ⟨e0, e1, e2, e3, e4, e5, e6⟩ := maps t
  refine ⟨t, writes t, ?_⟩
  show i ∈ ((View.whole main_v4).slice (win0_2.rect t)).set
  rw [View.set_slice_whole, Rect.mem_set_unit]
  intro a
  match a with
  | ⟨0, _⟩ => show win0_2.index t (0 : Fin 2) * 2176 ≤ (i 0).val ∧ (i 0).val < win0_2.index t (0 : Fin 2) * 2176 + 2176; omega
  | ⟨1, _⟩ => show win0_2.index t (1 : Fin 2) * 768 ≤ (i 1).val ∧ (i 1).val < win0_2.index t (1 : Fin 2) * 768 + 768; omega

end Cert.ProjIdeal.Value

namespace Cert.ProjReferenceIdeal.Read

open Cert.ProjReferenceIdeal Cert.ProjReferenceIdeal.Gen Cert.Blocks Idealize.ShloMosaic Idealize.ShloMosaic.TcCoe

/-- The reference's product, read: the same sum. -/
theorem prod_eq (A : (⟨S2176x2048, .f32⟩ : BufTy).Contents (Elt Ideal)) (W : (⟨S2048x9216, .f32⟩ : BufTy).Contents (Elt Ideal)) (i : S2176x9216.Idx) :
    val_main_v0 (F := Ideal) A W i = Cert.ProjIdeal.Value.G A W i := by
  rw [val_main_v0_apply]
  unfold Cert.ProjIdeal.Value.G nn
  refine sum_mul_congr (fun k => congrArg A (idx2_ext _ _ rfl rfl)) (fun k => congrArg W (idx2_ext _ _ rfl rfl))

end Cert.ProjReferenceIdeal.Read

namespace Cert.ProjEq

open Idealize.ShloMosaic Idealize.ShloMosaic.TcCoe Idealize.SL.Sem

/-- The kernel and its reference leave equal results and keep their arguments. -/
theorem algebraic : Cert.algebraic_ProjIdeal_ProjReferenceIdeal := by
  intro m g m' g' _ hagree
  refine ⟨fun c => Cert.ProjIdeal.Value.G (m ((c : Thread Cert.ProjIdeal.nD Cert.ProjIdeal.τ).loc Cert.ProjIdeal.main_arg0)) (m ((c : Thread Cert.ProjIdeal.nD Cert.ProjIdeal.τ).loc Cert.ProjIdeal.main_arg1)),
    (θ_run Cert.ProjIdeal.defs _ _).mono (fun r h c => ?_) (Cert.ProjIdeal.Value.run_blocks m g),
    (θ_run Cert.ProjReferenceIdeal.defs _ _).mono (fun r h c => ?_) (Cert.ProjReferenceIdeal.Value.run m' g')⟩
  · obtain ⟨h0, k0, k1⟩ := h c
    exact ⟨h0.trans (Cert.ProjIdeal.Value.final2_block m c), k0, k1⟩
  · obtain ⟨h0, k0, k1⟩ := h c
    obtain ⟨a0, a1⟩ := hagree c
    rw [a0, a1] at h0
    exact ⟨h0.trans ((Cert.ProjReferenceIdeal.Read.val_main_v0_eq _ _).trans ((funext fun i => Cert.ProjReferenceIdeal.Read.prod_eq (m ((c : Thread Cert.ProjIdeal.nD Cert.ProjIdeal.τ).loc Cert.ProjIdeal.main_arg0)) (m ((c : Thread Cert.ProjIdeal.nD Cert.ProjIdeal.τ).loc Cert.ProjIdeal.main_arg1)) i))), k0, k1⟩

end Cert.ProjEq
-- ==== Proof.YAEq.lean ====
/- A branch's pointwise product: what the kernel leaves, what its reference leaves, and their equality over the extended reals. -/
module

public import proofs.«01_k».proof.Defs
public import proofs.«01_k».proof.Proof.Blocks
public import proofs.«01_k».proof.Proof.Gen.YAIdeal.Value
public import proofs.«01_k».proof.Proof.Gen.YAReferenceIdeal.Run
public import proofs.«01_k».proof.Proof.Gen.YAReferenceIdeal.Read
public import Idealize.ShloMosaic.Lib.StableHlo.ReadAt
public import Idealize.ShloMosaic.Lib.Pointwise

@[expose] public section

set_option maxRecDepth 16384

noncomputable section

namespace Cert.YAIdeal.Value

open Cert.YAIdeal Cert.YAIdeal.Gen Cert.Blocks Idealize.ShloMosaic Idealize.ShloMosaic.TcCoe Idealize.SL.Sem
open Idealize.ShloMosaic.Pipeline (Dat)

variable (m : (ℓ : Loc nD τ sig) → Buf (Elt Ideal) ℓ)

/-- A branch's output: the sum over its channels of the activation times the weight. -/
def G (A : S2176x1024.Idx → EReal) (W : S1024x2048.Idx → EReal) (i : S2176x2048.Idx) : EReal :=
  nn A W (i 0) (i 1)

/-- The body's product at an element of the result's block. -/
theorem prod_apply (P0 : Vec Ideal S2176x1024 .bf16) (P1 : Vec Ideal S1x1024x512 .bf16) (y : S2176x512.Idx) :
    k0_pay1 P0 P1 y = nn (K := 1024) P0 (one P1) (y 0) (y 1) := by
  unfold k0_pay1 nn one
  pointwise

/-- The first operand at the region's entry: the first argument. -/
theorem V_l (c : Dev nD) (i : S2176x1024.Idx) : V m c main_v0 i = m ((c : Thread nD τ).loc main_arg0) i := by
  unfold V
  after_reads_at

/-- The second operand at the region's entry: the weights, in four pieces of columns. -/
theorem V_r (c : Dev nD) (i : S4x1024x512.Idx) : V m c main_v3 i = m ((c : Thread nD τ).loc main_arg1) (ix2 (i 1) (col rfl i)) := by
  unfold V
  after_reads_at
  rfl

/-- The printed index maps, decided over the grid. -/
theorem maps : ∀ t : Fin cfg0.N, win0_0.index t (0 : Fin 2) = 0
    ∧ win0_0.index t (1 : Fin 2) = 0
    ∧ win0_1.index t (0 : Fin 3) = t.val / 1
    ∧ win0_1.index t (1 : Fin 3) = 0
    ∧ win0_1.index t (2 : Fin 3) = t.val % 1
    ∧ win0_2.index t (0 : Fin 2) = 0
    ∧ win0_2.index t (1 : Fin 2) = t.val :=
  (by decide +kernel : ∀ t : Fin grid0.N, _)

/-- Every point writes its blocks back. -/
theorem writes : ∀ t : Fin cfg0.N, (cfg0.win 2).flush t = true :=
  (by decide +kernel : ∀ t : Fin grid0.N, win0_2.flush t = true)

/-- One point's sum, read at the place that its block has in the result. -/
theorem sum_block (c : Dev nD) (t : Fin cfg0.N) (y : S2176x512.Idx) (i : S2176x2048.Idx) (h0 : (i 0).val = (0) * 2176 + 1 * (y 0).val) (h1 : (i 1).val = (t.val) * 512 + 1 * (y 1).val) :
    nn (K := 1024) (iblk m c 0 t : Vec Ideal S2176x1024 .bf16) (one (iblk m c 1 t : Vec Ideal S1x1024x512 .bf16)) (y 0) (y 1) = G (m ((c : Thread nD τ).loc main_arg0)) (m ((c : Thread nD τ).loc main_arg1)) i := by
  obtain ⟨e0, e1, e2, e3, e4, e5, e6⟩ := maps t
  have hy0 : (y 0).val < 2176 := (y 0).isLt
  have hy1 : (y 1).val < 512 := (y 1).isLt
  unfold G nn
  refine sum_mul_congr (fun k => ?_) (fun k => ?_)
  · exact (V_l m c _).trans (congrArg (m ((c : Thread nD τ).loc main_arg0)) (idx2_ext _ _
      (show win0_0.index t (0 : Fin 2) * 2176 + 1 * (y 0).val = (i 0).val by omega)
      (show win0_0.index t (1 : Fin 2) * 1024 + 1 * k.val = k.val by omega)))
  · exact (V_r m c _).trans (congrArg (m ((c : Thread nD τ).loc main_arg1)) (idx2_ext _ _
      (show win0_1.index t (1 : Fin 3) * 1024 + 1 * k.val = k.val by omega)
      (show (win0_1.index t (0 : Fin 3) * 1 + 1 * 0) * 512 + (win0_1.index t (2 : Fin 3) * 512 + 1 * (y 1).val) = (i 1).val by omega)))

/-- What a point writes back of output 2 is its block of the sums. -/
theorem flushed2_block (c : Dev nD) (t : Fin cfg0.N) : (dats m 0 c).flushed 2 t = ((cfg0.win 2).blk t).view.read (Elt Ideal) (G (m ((c : Thread nD τ).loc main_arg0)) (m ((c : Thread nD τ).loc main_arg1))) := by
  rw [flushed2]
  funext y
  obtain ⟨e0, e1, e2, e3, e4, e5, e6⟩ := maps t
  show out0_2 (iblk m c 0 t) (iblk m c 1 t) y = (G (m ((c : Thread nD τ).loc main_arg0)) (m ((c : Thread nD τ).loc main_arg1))) (((cfg0.win 2).blk t).view.emb y)
  unfold out0_2
  rw [View.ld_unit_zero (zero2 : (_ : Fin S2176x1024.rank → ℕ) = _), View.ld_unit_zero (zero3 : (_ : Fin S1x1024x512.rank → ℕ) = _)]
  refine (congrFun (canon_whole (S := S2176x512) (e := .f32) (o := ![0, 0]) (k0_pay1 (iblk m c 0 t) (iblk m c 1 t)) (fun a => congrFun zero2 a) _) y).trans ?_
  exact (prod_apply _ _ y).trans (sum_block m c t y (((cfg0.win 2).blk t).view.emb y) (congrArg (fun n => n * 2176 + 1 * (y 0).val) (show win0_2.index t (0 : Fin 2) = 0 from e5)) (congrArg (fun n => n * 512 + 1 * (y 1).val) (show win0_2.index t (1 : Fin 2) = t.val from e6)))

/-- Output 2 after the run. -/
theorem final2_block (c : Dev nD) : (dats m 0 c).arrAt 2 cfg0.N = (G (m ((c : Thread nD τ).loc main_arg0)) (m ((c : Thread nD τ).loc main_arg1))) := by
  refine (dats m 0 c).arrAt_eq_of_cover 2 _ (fun t _ => flushed2_block m c t) (fun (i : S2176x2048.Idx) => ?_)
  have hi0 : (i 0).val < 2176 := (i 0).isLt
  have hi1 : (i 1).val < 2048 := (i 1).isLt
  have hN : cfg0.N = 4 := rfl
  obtain ⟨t, ht⟩ : ∃ t : Fin cfg0.N, t.val = (i 1).val / 512 := ⟨⟨(i 1).val / 512, by omega⟩, rfl⟩
  obtain ⟨e0, e1, e2, e3, e4, e5, e6⟩ := maps t
  refine ⟨t, writes t, ?_⟩
  show i ∈ ((View.whole main_v4).slice (win0_2.rect t)).set
  rw [View.set_slice_whole, Rect.mem_set_unit]
  intro a
  match a with
  | ⟨0, _⟩ => show win0_2.index t (0 : Fin 2) * 2176 ≤ (i 0).val ∧ (i 0).val < win0_2.index t (0 : Fin 2) * 2176 + 2176; omega
  | ⟨1, _⟩ => show win0_2.index t (1 : Fin 2) * 512 ≤ (i 1).val ∧ (i 1).val < win0_2.index t (1 : Fin 2) * 512 + 512; omega

end Cert.YAIdeal.Value

namespace Cert.YAReferenceIdeal.Read

open Cert.YAReferenceIdeal Cert.YAReferenceIdeal.Gen Cert.Blocks Idealize.ShloMosaic Idealize.ShloMosaic.TcCoe

/-- The reference's product, read: the same sum. -/
theorem prod_eq (A : (⟨S2176x1024, .f32⟩ : BufTy).Contents (Elt Ideal)) (W : (⟨S1024x2048, .f32⟩ : BufTy).Contents (Elt Ideal)) (i : S2176x2048.Idx) :
    val_main_v0 (F := Ideal) A W i = Cert.YAIdeal.Value.G A W i := by
  rw [val_main_v0_apply]
  unfold Cert.YAIdeal.Value.G nn
  refine sum_mul_congr (fun k => congrArg A (idx2_ext _ _ rfl rfl)) (fun k => congrArg W (idx2_ext _ _ rfl rfl))

end Cert.YAReferenceIdeal.Read

namespace Cert.YAEq

open Idealize.ShloMosaic Idealize.ShloMosaic.TcCoe Idealize.SL.Sem

/-- The kernel and its reference leave equal results and keep their arguments. -/
theorem algebraic : Cert.algebraic_YAIdeal_YAReferenceIdeal := by
  intro m g m' g' _ hagree
  refine ⟨fun c => Cert.YAIdeal.Value.G (m ((c : Thread Cert.YAIdeal.nD Cert.YAIdeal.τ).loc Cert.YAIdeal.main_arg0)) (m ((c : Thread Cert.YAIdeal.nD Cert.YAIdeal.τ).loc Cert.YAIdeal.main_arg1)),
    (θ_run Cert.YAIdeal.defs _ _).mono (fun r h c => ?_) (Cert.YAIdeal.Value.run_blocks m g),
    (θ_run Cert.YAReferenceIdeal.defs _ _).mono (fun r h c => ?_) (Cert.YAReferenceIdeal.Value.run m' g')⟩
  · obtain ⟨h0, k0, k1⟩ := h c
    exact ⟨h0.trans (Cert.YAIdeal.Value.final2_block m c), k0, k1⟩
  · obtain ⟨h0, k0, k1⟩ := h c
    obtain ⟨a0, a1⟩ := hagree c
    rw [a0, a1] at h0
    exact ⟨h0.trans ((Cert.YAReferenceIdeal.Read.val_main_v0_eq _ _).trans ((funext fun i => Cert.YAReferenceIdeal.Read.prod_eq (m ((c : Thread Cert.YAIdeal.nD Cert.YAIdeal.τ).loc Cert.YAIdeal.main_arg0)) (m ((c : Thread Cert.YAIdeal.nD Cert.YAIdeal.τ).loc Cert.YAIdeal.main_arg1)) i))), k0, k1⟩

end Cert.YAEq
-- ==== Proof.MixEq.lean ====
/- The output projection: what the kernel leaves, what its reference leaves, and their equality over the extended reals. -/
module

public import proofs.«01_k».proof.Defs
public import proofs.«01_k».proof.Proof.Blocks
public import proofs.«01_k».proof.Proof.Gen.MixIdeal.Value
public import proofs.«01_k».proof.Proof.Gen.MixReferenceIdeal.Run
public import proofs.«01_k».proof.Proof.Gen.MixReferenceIdeal.Read
public import Idealize.ShloMosaic.Lib.StableHlo.ReadAt
public import Idealize.ShloMosaic.Lib.Pointwise

@[expose] public section

set_option maxRecDepth 16384

noncomputable section

namespace Cert.MixIdeal.Value

open Cert.MixIdeal Cert.MixIdeal.Gen Cert.Blocks Idealize.ShloMosaic Idealize.ShloMosaic.TcCoe Idealize.SL.Sem
open Idealize.ShloMosaic.Pipeline (Dat)

variable (m : (ℓ : Loc nD τ sig) → Buf (Elt Ideal) ℓ)

/-- The output projection: the sum over the channels of the merged branches times the weight. -/
def G (A : S2176x2048.Idx → EReal) (W : S2048x2048.Idx → EReal) (i : S2176x2048.Idx) : EReal :=
  nn A W (i 0) (i 1)

/-- The body's product at an element of the result's block. -/
theorem prod_apply (P0 : Vec Ideal S2176x2048 .bf16) (P1 : Vec Ideal S2048x1024 .bf16) (y : S2176x1024.Idx) :
    k0_pay1 P0 P1 y = nn (K := 2048) P0 P1 (y 0) (y 1) := by
  unfold k0_pay1 nn
  pointwise

/-- The first operand at the region's entry: the first argument. -/
theorem V_l (c : Dev nD) (i : S2176x2048.Idx) : V m c main_v0 i = m ((c : Thread nD τ).loc main_arg0) i := by
  unfold V
  after_reads_at

/-- The second operand at the region's entry: the second argument. -/
theorem V_r (c : Dev nD) (i : S2048x2048.Idx) : V m c main_v1 i = m ((c : Thread nD τ).loc main_arg1) i := by
  unfold V
  after_reads_at

/-- The printed index maps, decided over the grid. -/
theorem maps : ∀ t : Fin cfg0.N, win0_0.index t (0 : Fin 2) = 0
    ∧ win0_0.index t (1 : Fin 2) = 0
    ∧ win0_1.index t (0 : Fin 2) = 0
    ∧ win0_1.index t (1 : Fin 2) = t.val
    ∧ win0_2.index t (0 : Fin 2) = 0
    ∧ win0_2.index t (1 : Fin 2) = t.val :=
  (by decide +kernel : ∀ t : Fin grid0.N, _)

/-- Every point writes its blocks back. -/
theorem writes : ∀ t : Fin cfg0.N, (cfg0.win 2).flush t = true :=
  (by decide +kernel : ∀ t : Fin grid0.N, win0_2.flush t = true)

/-- One point's sum, read at the place that its block has in the result. -/
theorem sum_block (c : Dev nD) (t : Fin cfg0.N) (y : S2176x1024.Idx) (i : S2176x2048.Idx) (h0 : (i 0).val = (0) * 2176 + 1 * (y 0).val) (h1 : (i 1).val = (t.val) * 1024 + 1 * (y 1).val) :
    nn (K := 2048) (iblk m c 0 t : Vec Ideal S2176x2048 .bf16) (iblk m c 1 t : Vec Ideal S2048x1024 .bf16) (y 0) (y 1) = G (m ((c : Thread nD τ).loc main_arg0)) (m ((c : Thread nD τ).loc main_arg1)) i := by
  obtain ⟨e0, e1, e2, e3, e4, e5⟩ := maps t
  have hy0 : (y 0).val < 2176 := (y 0).isLt
  have hy1 : (y 1).val < 1024 := (y 1).isLt
  unfold G nn
  refine sum_mul_congr (fun k => ?_) (fun k => ?_)
  · exact (V_l m c _).trans (congrArg (m ((c : Thread nD τ).loc main_arg0)) (idx2_ext _ _
      (show win0_0.index t (0 : Fin 2) * 2176 + 1 * (y 0).val = (i 0).val by omega)
      (show win0_0.index t (1 : Fin 2) * 2048 + 1 * k.val = k.val by omega)))
  · exact (V_r m c _).trans (congrArg (m ((c : Thread nD τ).loc main_arg1)) (idx2_ext _ _
      (show win0_1.index t (0 : Fin 2) * 2048 + 1 * k.val = k.val by omega)
      (show win0_1.index t (1 : Fin 2) * 1024 + 1 * (y 1).val = (i 1).val by omega)))

/-- What a point writes back of output 2 is its block of the sums. -/
theorem flushed2_block (c : Dev nD) (t : Fin cfg0.N) : (dats m 0 c).flushed 2 t = ((cfg0.win 2).blk t).view.read (Elt Ideal) (G (m ((c : Thread nD τ).loc main_arg0)) (m ((c : Thread nD τ).loc main_arg1))) := by
  rw [flushed2]
  funext y
  obtain ⟨e0, e1, e2, e3, e4, e5⟩ := maps t
  show out0_2 (iblk m c 0 t) (iblk m c 1 t) y = (G (m ((c : Thread nD τ).loc main_arg0)) (m ((c : Thread nD τ).loc main_arg1))) (((cfg0.win 2).blk t).view.emb y)
  unfold out0_2
  rw [View.ld_unit_zero (zero2 : (_ : Fin S2176x2048.rank → ℕ) = _), View.ld_unit_zero (zero2 : (_ : Fin S2048x1024.rank → ℕ) = _)]
  refine (congrFun (canon_whole (S := S2176x1024) (e := .f32) (o := ![0, 0]) (k0_pay1 (iblk m c 0 t) (iblk m c 1 t)) (fun a => congrFun zero2 a) _) y).trans ?_
  exact (prod_apply _ _ y).trans (sum_block m c t y (((cfg0.win 2).blk t).view.emb y) (congrArg (fun n => n * 2176 + 1 * (y 0).val) (show win0_2.index t (0 : Fin 2) = 0 from e4)) (congrArg (fun n => n * 1024 + 1 * (y 1).val) (show win0_2.index t (1 : Fin 2) = t.val from e5)))

/-- Output 2 after the run. -/
theorem final2_block (c : Dev nD) : (dats m 0 c).arrAt 2 cfg0.N = (G (m ((c : Thread nD τ).loc main_arg0)) (m ((c : Thread nD τ).loc main_arg1))) := by
  refine (dats m 0 c).arrAt_eq_of_cover 2 _ (fun t _ => flushed2_block m c t) (fun (i : S2176x2048.Idx) => ?_)
  have hi0 : (i 0).val < 2176 := (i 0).isLt
  have hi1 : (i 1).val < 2048 := (i 1).isLt
  have hN : cfg0.N = 2 := rfl
  obtain ⟨t, ht⟩ : ∃ t : Fin cfg0.N, t.val = (i 1).val / 1024 := ⟨⟨(i 1).val / 1024, by omega⟩, rfl⟩
  obtain ⟨e0, e1, e2, e3, e4, e5⟩ := maps t
  refine ⟨t, writes t, ?_⟩
  show i ∈ ((View.whole main_v2).slice (win0_2.rect t)).set
  rw [View.set_slice_whole, Rect.mem_set_unit]
  intro a
  match a with
  | ⟨0, _⟩ => show win0_2.index t (0 : Fin 2) * 2176 ≤ (i 0).val ∧ (i 0).val < win0_2.index t (0 : Fin 2) * 2176 + 2176; omega
  | ⟨1, _⟩ => show win0_2.index t (1 : Fin 2) * 1024 ≤ (i 1).val ∧ (i 1).val < win0_2.index t (1 : Fin 2) * 1024 + 1024; omega

end Cert.MixIdeal.Value

namespace Cert.MixReferenceIdeal.Read

open Cert.MixReferenceIdeal Cert.MixReferenceIdeal.Gen Cert.Blocks Idealize.ShloMosaic Idealize.ShloMosaic.TcCoe

/-- The reference's product, read: the same sum. -/
theorem prod_eq (A : (⟨S2176x2048, .f32⟩ : BufTy).Contents (Elt Ideal)) (W : (⟨S2048x2048, .f32⟩ : BufTy).Contents (Elt Ideal)) (i : S2176x2048.Idx) :
    val_main_v0 (F := Ideal) A W i = Cert.MixIdeal.Value.G A W i := by
  rw [val_main_v0_apply]
  unfold Cert.MixIdeal.Value.G nn
  refine sum_mul_congr (fun k => congrArg A (idx2_ext _ _ rfl rfl)) (fun k => congrArg W (idx2_ext _ _ rfl rfl))

end Cert.MixReferenceIdeal.Read

namespace Cert.MixEq

open Idealize.ShloMosaic Idealize.ShloMosaic.TcCoe Idealize.SL.Sem

/-- The kernel and its reference leave equal results and keep their arguments. -/
theorem algebraic : Cert.algebraic_MixIdeal_MixReferenceIdeal := by
  intro m g m' g' _ hagree
  refine ⟨fun c => Cert.MixIdeal.Value.G (m ((c : Thread Cert.MixIdeal.nD Cert.MixIdeal.τ).loc Cert.MixIdeal.main_arg0)) (m ((c : Thread Cert.MixIdeal.nD Cert.MixIdeal.τ).loc Cert.MixIdeal.main_arg1)),
    (θ_run Cert.MixIdeal.defs _ _).mono (fun r h c => ?_) (Cert.MixIdeal.Value.run_blocks m g),
    (θ_run Cert.MixReferenceIdeal.defs _ _).mono (fun r h c => ?_) (Cert.MixReferenceIdeal.Value.run m' g')⟩
  · obtain ⟨h0, k0, k1⟩ := h c
    exact ⟨h0.trans (Cert.MixIdeal.Value.final2_block m c), k0, k1⟩
  · obtain ⟨h0, k0, k1⟩ := h c
    obtain ⟨a0, a1⟩ := hagree c
    rw [a0, a1] at h0
    exact ⟨h0.trans ((Cert.MixReferenceIdeal.Read.val_main_v0_eq _ _).trans ((funext fun i => Cert.MixReferenceIdeal.Read.prod_eq (m ((c : Thread Cert.MixIdeal.nD Cert.MixIdeal.τ).loc Cert.MixIdeal.main_arg0)) (m ((c : Thread Cert.MixIdeal.nD Cert.MixIdeal.τ).loc Cert.MixIdeal.main_arg1)) i))), k0, k1⟩

end Cert.MixEq
-- ==== Proof.UpEq.lean ====
/- The first MLP product and its squared positive part: what the kernel leaves, what its reference leaves, and their equality over the extended reals. -/
module

public import proofs.«01_k».proof.Defs
public import proofs.«01_k».proof.Proof.Blocks
public import proofs.«01_k».proof.Proof.Gen.UpIdeal.Value
public import proofs.«01_k».proof.Proof.Gen.UpReferenceIdeal.Run
public import proofs.«01_k».proof.Proof.Gen.UpReferenceIdeal.Read
public import Idealize.ShloMosaic.Lib.StableHlo.ReadAt
public import Idealize.ShloMosaic.Lib.Pointwise

@[expose] public section

set_option maxRecDepth 16384

noncomputable section

namespace Cert.UpIdeal.Value

open Cert.UpIdeal Cert.UpIdeal.Gen Cert.Blocks Idealize.ShloMosaic Idealize.ShloMosaic.TcCoe Idealize.SL.Sem
open Idealize.ShloMosaic.Pipeline (Dat)

variable (m : (ℓ : Loc nD τ sig) → Buf (Elt Ideal) ℓ)

/-- The first MLP product: the sum over the channels of the normalised input times the weight. -/
def G (A : S2176x2048.Idx → EReal) (W : S2048x8192.Idx → EReal) (i : S2176x8192.Idx) : EReal :=
  nn A W (i 0) (i 1)

/-- The kernel's second result: the square of the sum's positive part. -/
def GX (A : S2176x2048.Idx → EReal) (W : S2048x8192.Idx → EReal) (i : S2176x8192.Idx) : EReal :=
  max (G A W i) (FloatOps.ofBits (F := Ideal) .f32 0x00000000#32) * max (G A W i) (FloatOps.ofBits (F := Ideal) .f32 0x00000000#32)

/-- The body's product at an element of the result's block. -/
theorem prod_apply (P0 : Vec Ideal S2176x2048 .bf16) (P1 : Vec Ideal S1x2048x512 .bf16) (y : S2176x512.Idx) :
    k0_pay1 P0 P1 y = nn (K := 2048) P0 (one P1) (y 0) (y 1) := by
  unfold k0_pay1 nn one
  pointwise

/-- The body's second result at an element: the square of the product's positive part. -/
theorem sq_apply (P0 : Vec Ideal S2176x2048 .bf16) (P1 : Vec Ideal S1x2048x512 .bf16) (y : S2176x512.Idx) :
    k0_pay2 P0 P1 y = max (k0_pay1 P0 P1 y) (FloatOps.ofBits (F := Ideal) .f32 0x00000000#32) * max (k0_pay1 P0 P1 y) (FloatOps.ofBits (F := Ideal) .f32 0x00000000#32) := rfl

/-- The first operand at the region's entry: the first argument. -/
theorem V_l (c : Dev nD) (i : S2176x2048.Idx) : V m c main_v0 i = m ((c : Thread nD τ).loc main_arg0) i := by
  unfold V
  after_reads_at

/-- The second operand at the region's entry: the weights, in four pieces of columns. -/
theorem V_r (c : Dev nD) (i : S4x2048x2048.Idx) : V m c main_v3 i = m ((c : Thread nD τ).loc main_arg1) (ix2 (i 1) (col rfl i)) := by
  unfold V
  after_reads_at
  rfl

/-- The printed index maps, decided over the grid. -/
theorem maps : ∀ t : Fin cfg0.N, win0_0.index t (0 : Fin 2) = 0
    ∧ win0_0.index t (1 : Fin 2) = 0
    ∧ win0_1.index t (0 : Fin 3) = t.val / 4
    ∧ win0_1.index t (1 : Fin 3) = 0
    ∧ win0_1.index t (2 : Fin 3) = t.val % 4
    ∧ win0_2.index t (0 : Fin 2) = 0
    ∧ win0_2.index t (1 : Fin 2) = t.val
    ∧ win0_3.index t (0 : Fin 2) = 0
    ∧ win0_3.index t (1 : Fin 2) = t.val :=
  (by decide +kernel : ∀ t : Fin grid0.N, _)

/-- Every point writes its blocks back. -/
theorem writes : ∀ t : Fin cfg0.N, (cfg0.win 2).flush t = true ∧ (cfg0.win 3).flush t = true :=
  (by decide +kernel : ∀ t : Fin grid0.N, win0_2.flush t = true ∧ win0_3.flush t = true)

/-- One point's sum, read at the place that its block has in the result. -/
theorem sum_block (c : Dev nD) (t : Fin cfg0.N) (y : S2176x512.Idx) (i : S2176x8192.Idx) (h0 : (i 0).val = (0) * 2176 + 1 * (y 0).val) (h1 : (i 1).val = (t.val) * 512 + 1 * (y 1).val) :
    nn (K := 2048) (iblk m c 0 t : Vec Ideal S2176x2048 .bf16) (one (iblk m c 1 t : Vec Ideal S1x2048x512 .bf16)) (y 0) (y 1) = G (m ((c : Thread nD τ).loc main_arg0)) (m ((c : Thread nD τ).loc main_arg1)) i := by
  obtain ⟨e0, e1, e2, e3, e4, e5, e6, e7, e8⟩ := maps t
  have hy0 : (y 0).val < 2176 := (y 0).isLt
  have hy1 : (y 1).val < 512 := (y 1).isLt
  unfold G nn
  refine sum_mul_congr (fun k => ?_) (fun k => ?_)
  · exact (V_l m c _).trans (congrArg (m ((c : Thread nD τ).loc main_arg0)) (idx2_ext _ _
      (show win0_0.index t (0 : Fin 2) * 2176 + 1 * (y 0).val = (i 0).val by omega)
      (show win0_0.index t (1 : Fin 2) * 2048 + 1 * k.val = k.val by omega)))
  · exact (V_r m c _).trans (congrArg (m ((c : Thread nD τ).loc main_arg1)) (idx2_ext _ _
      (show win0_1.index t (1 : Fin 3) * 2048 + 1 * k.val = k.val by omega)
      (show (win0_1.index t (0 : Fin 3) * 1 + 1 * 0) * 2048 + (win0_1.index t (2 : Fin 3) * 512 + 1 * (y 1).val) = (i 1).val by omega)))

/-- What a point writes back of output 2 is its block of the sums. -/
theorem flushed2_block (c : Dev nD) (t : Fin cfg0.N) : (dats m 0 c).flushed 2 t = ((cfg0.win 2).blk t).view.read (Elt Ideal) (G (m ((c : Thread nD τ).loc main_arg0)) (m ((c : Thread nD τ).loc main_arg1))) := by
  rw [flushed2]
  funext y
  obtain ⟨e0, e1, e2, e3, e4, e5, e6, e7, e8⟩ := maps t
  show out0_2 (iblk m c 0 t) (iblk m c 1 t) y = (G (m ((c : Thread nD τ).loc main_arg0)) (m ((c : Thread nD τ).loc main_arg1))) (((cfg0.win 2).blk t).view.emb y)
  unfold out0_2
  rw [View.ld_unit_zero (zero2 : (_ : Fin S2176x2048.rank → ℕ) = _), View.ld_unit_zero (zero3 : (_ : Fin S1x2048x512.rank → ℕ) = _)]
  refine (congrFun (canon_whole (S := S2176x512) (e := .f32) (o := ![0, 0]) (k0_pay1 (iblk m c 0 t) (iblk m c 1 t)) (fun a => congrFun zero2 a) _) y).trans ?_
  exact (prod_apply _ _ y).trans (sum_block m c t y (((cfg0.win 2).blk t).view.emb y) (congrArg (fun n => n * 2176 + 1 * (y 0).val) (show win0_2.index t (0 : Fin 2) = 0 from e5)) (congrArg (fun n => n * 512 + 1 * (y 1).val) (show win0_2.index t (1 : Fin 2) = t.val from e6)))

/-- Output 2 after the run. -/
theorem final2_block (c : Dev nD) : (dats m 0 c).arrAt 2 cfg0.N = (G (m ((c : Thread nD τ).loc main_arg0)) (m ((c : Thread nD τ).loc main_arg1))) := by
  refine (dats m 0 c).arrAt_eq_of_cover 2 _ (fun t _ => flushed2_block m c t) (fun (i : S2176x8192.Idx) => ?_)
  have hi0 : (i 0).val < 2176 := (i 0).isLt
  have hi1 : (i 1).val < 8192 := (i 1).isLt
  have hN : cfg0.N = 16 := rfl
  obtain ⟨t, ht⟩ : ∃ t : Fin cfg0.N, t.val = (i 1).val / 512 := ⟨⟨(i 1).val / 512, by omega⟩, rfl⟩
  obtain ⟨e0, e1, e2, e3, e4, e5, e6, e7, e8⟩ := maps t
  refine ⟨t, (writes t).1, ?_⟩
  show i ∈ ((View.whole main_v4_0).slice (win0_2.rect t)).set
  rw [View.set_slice_whole, Rect.mem_set_unit]
  intro a
  match a with
  | ⟨0, _⟩ => show win0_2.index t (0 : Fin 2) * 2176 ≤ (i 0).val ∧ (i 0).val < win0_2.index t (0 : Fin 2) * 2176 + 2176; omega
  | ⟨1, _⟩ => show win0_2.index t (1 : Fin 2) * 512 ≤ (i 1).val ∧ (i 1).val < win0_2.index t (1 : Fin 2) * 512 + 512; omega

/-- What a point writes back of output 3 is its block of the sums. -/
theorem flushed3_block (c : Dev nD) (t : Fin cfg0.N) : (dats m 0 c).flushed 3 t = ((cfg0.win 3).blk t).view.read (Elt Ideal) (GX (m ((c : Thread nD τ).loc main_arg0)) (m ((c : Thread nD τ).loc main_arg1))) := by
  rw [flushed3]
  funext y
  obtain ⟨e0, e1, e2, e3, e4, e5, e6, e7, e8⟩ := maps t
  show out0_3 (iblk m c 0 t) (iblk m c 1 t) y = (GX (m ((c : Thread nD τ).loc main_arg0)) (m ((c : Thread nD τ).loc main_arg1))) (((cfg0.win 3).blk t).view.emb y)
  unfold out0_3
  rw [View.ld_unit_zero (zero2 : (_ : Fin S2176x2048.rank → ℕ) = _), View.ld_unit_zero (zero3 : (_ : Fin S1x2048x512.rank → ℕ) = _)]
  refine (congrFun (canon_whole (S := S2176x512) (e := .bf16) (o := ![0, 0]) (k0_pay2 (iblk m c 0 t) (iblk m c 1 t)) (fun a => congrFun zero2 a) _) y).trans ?_
  refine (sq_apply _ _ y).trans (congrArg (fun z => max z (FloatOps.ofBits (F := Ideal) .f32 0x00000000#32) * max z (FloatOps.ofBits (F := Ideal) .f32 0x00000000#32)) ?_)
  exact (prod_apply _ _ y).trans (sum_block m c t y (((cfg0.win 3).blk t).view.emb y) (congrArg (fun n => n * 2176 + 1 * (y 0).val) (show win0_3.index t (0 : Fin 2) = 0 from e7)) (congrArg (fun n => n * 512 + 1 * (y 1).val) (show win0_3.index t (1 : Fin 2) = t.val from e8)))

/-- Output 3 after the run. -/
theorem final3_block (c : Dev nD) : (dats m 0 c).arrAt 3 cfg0.N = (GX (m ((c : Thread nD τ).loc main_arg0)) (m ((c : Thread nD τ).loc main_arg1))) := by
  refine (dats m 0 c).arrAt_eq_of_cover 3 _ (fun t _ => flushed3_block m c t) (fun (i : S2176x8192.Idx) => ?_)
  have hi0 : (i 0).val < 2176 := (i 0).isLt
  have hi1 : (i 1).val < 8192 := (i 1).isLt
  have hN : cfg0.N = 16 := rfl
  obtain ⟨t, ht⟩ : ∃ t : Fin cfg0.N, t.val = (i 1).val / 512 := ⟨⟨(i 1).val / 512, by omega⟩, rfl⟩
  obtain ⟨e0, e1, e2, e3, e4, e5, e6, e7, e8⟩ := maps t
  refine ⟨t, (writes t).2, ?_⟩
  show i ∈ ((View.whole main_v4_1).slice (win0_3.rect t)).set
  rw [View.set_slice_whole, Rect.mem_set_unit]
  intro a
  match a with
  | ⟨0, _⟩ => show win0_3.index t (0 : Fin 2) * 2176 ≤ (i 0).val ∧ (i 0).val < win0_3.index t (0 : Fin 2) * 2176 + 2176; omega
  | ⟨1, _⟩ => show win0_3.index t (1 : Fin 2) * 512 ≤ (i 1).val ∧ (i 1).val < win0_3.index t (1 : Fin 2) * 512 + 512; omega

end Cert.UpIdeal.Value

namespace Cert.UpReferenceIdeal.Read

open Cert.UpReferenceIdeal Cert.UpReferenceIdeal.Gen Cert.Blocks Idealize.ShloMosaic Idealize.ShloMosaic.TcCoe

/-- The reference's product, read: the same sum. -/
theorem prod_eq (A : (⟨S2176x2048, .f32⟩ : BufTy).Contents (Elt Ideal)) (W : (⟨S2048x8192, .f32⟩ : BufTy).Contents (Elt Ideal)) (i : S2176x8192.Idx) :
    val_main_v0 (F := Ideal) A W i = Cert.UpIdeal.Value.G A W i := by
  rw [val_main_v0_apply]
  unfold Cert.UpIdeal.Value.G nn
  refine sum_mul_congr (fun k => congrArg A (idx2_ext _ _ rfl rfl)) (fun k => congrArg W (idx2_ext _ _ rfl rfl))

/-- The reference's second result: the square of the sum's positive part. -/
theorem sq_eq (A : (⟨S2176x2048, .f32⟩ : BufTy).Contents (Elt Ideal)) (W : (⟨S2048x8192, .f32⟩ : BufTy).Contents (Elt Ideal)) : val_main_v3 (F := Ideal) A W = Cert.UpIdeal.Value.GX A W := by
  funext i
  have e : val_main_v1 (F := Ideal) A W i = max (Cert.UpIdeal.Value.G A W i) (FloatOps.ofBits (F := Ideal) .f32 0x00000000#32) := by
    rw [← prod_eq A W i, val_main_v1_apply, val_main_call0_v0_apply, val_main_call0_cst_apply]
    rfl
  show val_main_v1 (F := Ideal) A W i * val_main_v1 (F := Ideal) A W i = _
  rw [e]
  rfl

end Cert.UpReferenceIdeal.Read

namespace Cert.UpEq

open Idealize.ShloMosaic Idealize.ShloMosaic.TcCoe Idealize.SL.Sem

/-- The kernel and its reference leave equal results and keep their arguments. -/
theorem algebraic : Cert.algebraic_UpIdeal_UpReferenceIdeal := by
  intro m g m' g' _ hagree
  refine ⟨fun c => Cert.UpIdeal.Value.G (m ((c : Thread Cert.UpIdeal.nD Cert.UpIdeal.τ).loc Cert.UpIdeal.main_arg0)) (m ((c : Thread Cert.UpIdeal.nD Cert.UpIdeal.τ).loc Cert.UpIdeal.main_arg1)),
    fun c => Cert.UpIdeal.Value.GX (m ((c : Thread Cert.UpIdeal.nD Cert.UpIdeal.τ).loc Cert.UpIdeal.main_arg0)) (m ((c : Thread Cert.UpIdeal.nD Cert.UpIdeal.τ).loc Cert.UpIdeal.main_arg1)),
    (θ_run Cert.UpIdeal.defs _ _).mono (fun r h c => ?_) (Cert.UpIdeal.Value.run_blocks m g),
    (θ_run Cert.UpReferenceIdeal.defs _ _).mono (fun r h c => ?_) (Cert.UpReferenceIdeal.Value.run m' g')⟩
  · obtain ⟨h0, h1, k0, k1⟩ := h c
    exact ⟨h0.trans (Cert.UpIdeal.Value.final2_block m c), h1.trans (Cert.UpIdeal.Value.final3_block m c), k0, k1⟩
  · obtain ⟨h0, h1, k0, k1⟩ := h c
    obtain ⟨a0, a1⟩ := hagree c
    rw [a0, a1] at h0 h1
    exact ⟨h0.trans ((Cert.UpReferenceIdeal.Read.val_main_v0_eq _ _).trans ((funext fun i => Cert.UpReferenceIdeal.Read.prod_eq (m ((c : Thread Cert.UpIdeal.nD Cert.UpIdeal.τ).loc Cert.UpIdeal.main_arg0)) (m ((c : Thread Cert.UpIdeal.nD Cert.UpIdeal.τ).loc Cert.UpIdeal.main_arg1)) i))),
      h1.trans ((Cert.UpReferenceIdeal.Read.val_main_v3_eq _ _).trans (Cert.UpReferenceIdeal.Read.sq_eq (m ((c : Thread Cert.UpIdeal.nD Cert.UpIdeal.τ).loc Cert.UpIdeal.main_arg0)) (m ((c : Thread Cert.UpIdeal.nD Cert.UpIdeal.τ).loc Cert.UpIdeal.main_arg1)))), k0, k1⟩

end Cert.UpEq
-- ==== Proof.DownEq.lean ====
/- The second MLP product and its reference, read: every element of the kernel's result is the sum over the contracted axis, gathered in four steps. -/
module

public import proofs.«01_k».proof.Defs
public import proofs.«01_k».proof.Proof.Gen.DownIdeal.Value
public import proofs.«01_k».proof.Proof.Gen.DownReferenceIdeal.Run
public import proofs.«01_k».proof.Proof.Gen.DownReferenceIdeal.Read
public import proofs.«01_k».proof.Proof.Blocks

@[expose] public section

set_option maxRecDepth 16384

noncomputable section

namespace Cert.DownIdeal.Value

open Cert.DownIdeal Cert.DownIdeal.Gen Idealize.ShloMosaic Idealize.ShloMosaic.TcCoe Idealize.SL.Sem Cert.Blocks
open Idealize.ShloMosaic.Pipeline (Dat)

variable (m : (ℓ : Loc nD τ sig) → Buf (Elt Ideal) ℓ) (ρ : Dev nD → PrngReg)

/-- One product of the sum. -/
def prodAt (A : S2176x8192.Idx → EReal) (W : S8192x2048.Idx → EReal) (i : S2176x2048.Idx) (k : Fin 8192) : EReal :=
  A (ix2 (i 0) k) * W (ix2 k (i 1))

/-- The second MLP product: element `(r, d)` sums over the 8192 hidden channels the activation times the weight. -/
def G (A : S2176x8192.Idx → EReal) (W : S8192x2048.Idx → EReal) (i : S2176x2048.Idx) : EReal :=
  ∑ k : Fin 8192, prodAt A W i k

/-- The first step's product. -/
theorem pay2_apply (x0 : Vec Ideal S2176x2048 .bf16) (x1 : Vec Ideal S2048x512 .bf16) (y : S2176x512.Idx) :
    k0_pay2 x0 x1 y = ∑ k : Fin 2048, x0 (ix2 (y 0) k) * x1 (ix2 k (y 1)) := by
  unfold k0_pay2 k0_pay1
  pointwise

/-- A middle step's product added to what was gathered. -/
theorem pay3_apply (x0 : Vec Ideal S2176x2048 .bf16) (x1 : Vec Ideal S2048x512 .bf16) (v : Vec Ideal S2176x512 .f32) (y : S2176x512.Idx) :
    k0_pay3 x0 x1 v y = v y + ∑ k : Fin 2048, x0 (ix2 (y 0) k) * x1 (ix2 k (y 1)) := by
  unfold k0_pay3 k0_pay1
  pointwise

/-- The last step's product added to what was gathered. -/
theorem pay4_apply (x0 : Vec Ideal S2176x2048 .bf16) (x1 : Vec Ideal S2048x512 .bf16) (v : Vec Ideal S2176x512 .f32) (y : S2176x512.Idx) :
    k0_pay4 x0 x1 v y = v y + ∑ k : Fin 2048, x0 (ix2 (y 0) k) * x1 (ix2 k (y 1)) := by
  unfold k0_pay4 k0_pay1
  pointwise

/-- What the body leaves, case A: one whole block. -/
theorem leftA (c : Dev nD) (i : grid0.Coords) (arg3 : Memref sig .tc .vmem S2176x2048 .bf16) (harg3 : arg3.IsWhole) (arg4 : Memref sig .tc .vmem S2048x512 .bf16) (harg4 : arg4.IsWhole) (arg5 : Memref sig .tc .vmem S2176x512 .f32) (harg5 : arg5.IsWhole) (arg6 : Memref sig .tc .vmem S2176x512 .f32) (harg6 : arg6.IsWhole) (hc0 : cond0_0 i) (hc1 : ¬cond0_1 i) (hc2 : ¬cond0_2 i) (x0 : Vec Ideal S2176x2048 .bf16) (x1 : Vec Ideal S2048x512 .bf16) :
    sout0_A_0 (F := Ideal) c i arg3 harg3 arg4 harg4 arg5 harg5 arg6 harg6 hc0 hc1 hc2 x0 x1 = k0_pay2 x0 x1 := by
  unfold sout0_A_0
  rw [View.read_writes_junk_eq_canon]
  unfold kernelRun0_A
  dsimp only
  refine (canon_whole _ (congrFun zero2) _).trans ?_
  rw [whole_read arg3 harg3 x0 (congrFun zero2), whole_read arg4 harg4 x1 (congrFun zero2)]

/-- What the body leaves, case B: one whole block. -/
theorem leftB (c : Dev nD) (i : grid0.Coords) (arg3 : Memref sig .tc .vmem S2176x2048 .bf16) (harg3 : arg3.IsWhole) (arg4 : Memref sig .tc .vmem S2048x512 .bf16) (harg4 : arg4.IsWhole) (arg5 : Memref sig .tc .vmem S2176x512 .f32) (harg5 : arg5.IsWhole) (arg6 : Memref sig .tc .vmem S2176x512 .f32) (harg6 : arg6.IsWhole) (hc0 : ¬cond0_0 i) (hc1 : cond0_1 i) (hc2 : ¬cond0_2 i) (x0 : Vec Ideal S2176x2048 .bf16) (x1 : Vec Ideal S2048x512 .bf16) (xs0 : Vec Ideal S2176x512 .f32) :
    sout0_B_0 (F := Ideal) c i arg3 harg3 arg4 harg4 arg5 harg5 arg6 harg6 hc0 hc1 hc2 x0 x1 xs0 = k0_pay3 x0 x1 xs0 := by
  unfold sout0_B_0
  rw [View.read_writes_junk_eq_canon]
  unfold kernelRun0_B
  dsimp only
  refine (canon_whole _ (congrFun zero2) _).trans ?_
  rw [whole_read arg3 harg3 x0 (congrFun zero2), whole_read arg4 harg4 x1 (congrFun zero2), whole_read arg6 harg6 xs0 (congrFun zero2)]

/-- What the body leaves, case C: one whole block. -/
theorem leftC (c : Dev nD) (i : grid0.Coords) (arg3 : Memref sig .tc .vmem S2176x2048 .bf16) (harg3 : arg3.IsWhole) (arg4 : Memref sig .tc .vmem S2048x512 .bf16) (harg4 : arg4.IsWhole) (arg5 : Memref sig .tc .vmem S2176x512 .f32) (harg5 : arg5.IsWhole) (arg6 : Memref sig .tc .vmem S2176x512 .f32) (harg6 : arg6.IsWhole) (hc0 : ¬cond0_0 i) (hc1 : ¬cond0_1 i) (hc2 : cond0_2 i) (x0 : Vec Ideal S2176x2048 .bf16) (x1 : Vec Ideal S2048x512 .bf16) (xs0 : Vec Ideal S2176x512 .f32) :
    out0_C_2 (F := Ideal) c i arg3 harg3 arg4 harg4 arg5 harg5 arg6 harg6 hc0 hc1 hc2 x0 x1 xs0 = k0_pay4 x0 x1 xs0 := by
  unfold out0_C_2
  rw [View.read_writes_junk_eq_canon]
  unfold kernelRun0_C
  dsimp only
  refine (canon_whole _ (congrFun zero2) _).trans ?_
  rw [whole_read arg3 harg3 x0 (congrFun zero2), whole_read arg4 harg4 x1 (congrFun zero2), whole_read arg6 harg6 xs0 (congrFun zero2)]

/-- One step's product at a point. -/
def part (c : Dev nD) (t : Fin cfg0.N) (y : S2176x512.Idx) (k : Fin 2048) : EReal :=
  let x0 : Vec Ideal S2176x2048 .bf16 := iblk m c 0 t
  let x1 : Vec Ideal S2048x512 .bf16 := iblk m c 1 t
  x0 (ix2 (y 0) k) * x1 (ix2 k (y 1))

/-- The scratch after a first step. -/
theorem first (c : Dev nD) (t : Fin cfg0.N) (h : t.val % 4 = 0) (y : S2176x512.Idx) :
    (outsAt0 m c t.val t.isLt).2 y = ∑ k : Fin 2048, part m c t y k := by
  rw [outsAt0_A m c t h (by omega) (by omega)]
  dsimp only
  rw [leftA]
  exact pay2_apply _ _ y

/-- The scratch after a middle step. -/
theorem middle (c : Dev nD) (t : Fin cfg0.N) (h : 1 ≤ t.val % 4 ∧ t.val % 4 ≤ 2) (y : S2176x512.Idx) :
    (outsAt0 m c t.val t.isLt).2 y = (outsAt0 m c (t.val - 1) (Nat.lt_of_le_of_lt (Nat.sub_le _ _) t.isLt)).2 y + ∑ k : Fin 2048, part m c t y k := by
  rw [outsAt0_B m c t (by omega) h (by omega)]
  dsimp only
  rw [leftB]
  exact pay3_apply _ _ _ y

/-- The result's block after a last step. -/
theorem last (c : Dev nD) (t : Fin cfg0.N) (h : t.val % 4 = 3) (y : S2176x512.Idx) :
    (outsAt0 m c t.val t.isLt).1 y = (outsAt0 m c (t.val - 1) (Nat.lt_of_le_of_lt (Nat.sub_le _ _) t.isLt)).2 y + ∑ k : Fin 2048, part m c t y k := by
  rw [outsAt0_C m c t (by omega) (by omega) h]
  dsimp only
  rw [leftC]
  exact pay4_apply _ _ _ y

/-- The four steps of a block, added up. -/
theorem steps (c : Dev nD) (q : ℕ) (h3 : 4 * q + 3 < cfg0.N) (y : S2176x512.Idx) :
    (outsAt0 m c (4 * q + 3) h3).1 y = (∑ k : Fin 2048, part m c ⟨4 * q, by omega⟩ y k + ∑ k : Fin 2048, part m c ⟨4 * q + 1, by omega⟩ y k) + ∑ k : Fin 2048, part m c ⟨4 * q + 2, by omega⟩ y k + ∑ k : Fin 2048, part m c ⟨4 * q + 3, h3⟩ y k := by
  have e3 := last m c ⟨4 * q + 3, h3⟩ (by show (4 * q + 3) % 4 = 3; omega) y
  have e2 := middle m c ⟨4 * q + 2, by omega⟩ (by show 1 ≤ (4 * q + 2) % 4 ∧ (4 * q + 2) % 4 ≤ 2; omega) y
  have e1 := middle m c ⟨4 * q + 1, by omega⟩ (by show 1 ≤ (4 * q + 1) % 4 ∧ (4 * q + 1) % 4 ≤ 2; omega) y
  have e0 := first m c ⟨4 * q, by omega⟩ (by show (4 * q) % 4 = 0; omega) y
  exact e3.trans (congrArg (· + _) (e2.trans (congrArg (· + _) (e1.trans (congrArg (· + _) e0)))))

/-- The first operand at the region's entry. -/
theorem V_l (c : Dev nD) (i : S2176x8192.Idx) : V m c main_v0 i = m ((c : Thread nD τ).loc main_arg0) i := by
  unfold V
  after_reads_at

/-- The second operand at the region's entry: the weights. -/
theorem V_r (c : Dev nD) (i : S8192x2048.Idx) : V m c main_v1 i = m ((c : Thread nD τ).loc main_arg1) i := by
  unfold V
  after_reads_at

/-- The printed index maps, decided over the grid: point `t` takes piece `t % 4` of the contracted axis and block `t / 4` of the result's columns. -/
theorem maps : ∀ t : Fin cfg0.N, win0_2.index t (0 : Fin 2) = 0 ∧ win0_2.index t (1 : Fin 2) = t.val / 4 ∧ win0_0.index t (0 : Fin 2) = 0 ∧ win0_0.index t (1 : Fin 2) = t.val % 4
    ∧ win0_1.index t (0 : Fin 2) = t.val % 4 ∧ win0_1.index t (1 : Fin 2) = win0_2.index t (1 : Fin 2) :=
  (by decide +kernel : ∀ t : Fin grid0.N, _)

/-- Every block of the result is some point's, and that point writes it back. -/
theorem onto : ∀ q : Fin 4, ∃ t : Fin cfg0.N, (cfg0.win 2).flush t = true ∧ win0_2.index t (1 : Fin 2) = q.val :=
  (by decide +kernel : ∀ q : Fin 4, ∃ t : Fin grid0.N, win0_2.flush t = true ∧ win0_2.index t (1 : Fin 2) = q.val)

/-- One step's product, in the arrays. -/
theorem part_eq (c : Dev nD) (t : Fin cfg0.N) (y : S2176x512.Idx) (k : Fin 2048) (i : S2176x2048.Idx) (h0 : (i 0).val = (y 0).val) (h1 : (i 1).val = (t.val / 4) * 512 + (y 1).val) :
    part m c t y k = at0 8192 (prodAt (m ((c : Thread nD τ).loc main_arg0)) (m ((c : Thread nD τ).loc main_arg1)) i) (2048 * (t.val % 4) + k.val) := by
  obtain ⟨-, e1, e2, e3, e4, e5⟩ := maps t
  have hk : k.val < 2048 := k.isLt
  have h4 : t.val % 4 < 4 := Nat.mod_lt _ (by omega)
  unfold at0
  rw [dif_pos (by omega)]
  unfold part prodAt
  refine congrArg₂ HMul.hMul ?_ ?_
  · exact (V_l m c _).trans (congrArg (m ((c : Thread nD τ).loc main_arg0)) (idx2_ext _ _
      (show win0_0.index t (0 : Fin 2) * 2176 + 1 * (y 0).val = (i 0).val by omega)
      (show win0_0.index t (1 : Fin 2) * 2048 + 1 * k.val = 2048 * (t.val % 4) + k.val by omega)))
  · exact (V_r m c _).trans (congrArg (m ((c : Thread nD τ).loc main_arg1)) (idx2_ext _ _
      (show win0_1.index t (0 : Fin 2) * 2048 + 1 * k.val = 2048 * (t.val % 4) + k.val by omega)
      (show win0_1.index t (1 : Fin 2) * 512 + 1 * (y 1).val = (i 1).val by omega)))

/-- What a last step writes back is its block of the products. -/
theorem flushedG_eq (c : Dev nD) (t : Fin cfg0.N) (hf : (cfg0.win 2).flush t = true) :
    (dats m 0 c).flushed 2 t = ((cfg0.win 2).blk t).view.read (Elt Ideal) (G (m ((c : Thread nD τ).loc main_arg0)) (m ((c : Thread nD τ).loc main_arg1))) := by
  have h3 : t.val % 4 = 3 := (flush0_2 t).mp hf
  obtain ⟨e0, e1, -⟩ := maps t
  obtain ⟨n, hn⟩ := t
  obtain ⟨q, rfl⟩ : ∃ q, n = 4 * q + 3 := ⟨n / 4, by have h3' : n % 4 = 3 := h3; omega⟩
  have hq : (4 * q + 3) / 4 = q := by omega
  have e1' : win0_2.index ⟨4 * q + 3, hn⟩ (1 : Fin 2) = q := e1.trans hq
  show (cfg0.win 2).cut (grid0.coords ⟨4 * q + 3, hn⟩) ((dats m 0 c).after 2 ⟨4 * q + 3, hn⟩) = _
  rw [after0_2]
  funext y
  show (outsAt0 m c (4 * q + 3) hn).1 y = (G (m ((c : Thread nD τ).loc main_arg0)) (m ((c : Thread nD τ).loc main_arg1))) (((cfg0.win 2).blk ⟨4 * q + 3, hn⟩).view.emb y)
  refine (steps m c q hn y).trans ?_
  have i0 : (((cfg0.win 2).blk ⟨4 * q + 3, hn⟩).view.emb y 0).val = (y 0).val := by
    show win0_2.index ⟨4 * q + 3, hn⟩ (0 : Fin 2) * 2176 + 1 * (y 0).val = (y 0).val
    omega
  have i1 : (((cfg0.win 2).blk ⟨4 * q + 3, hn⟩).view.emb y 1).val = q * 512 + (y 1).val := by
    show win0_2.index ⟨4 * q + 3, hn⟩ (1 : Fin 2) * 512 + 1 * (y 1).val = _
    omega
  have hp : ∀ (p : Fin 4), 4 * q + p.val < cfg0.N := fun p => by have := p.isLt; omega
  refine sum_four_fin 2048 8192 rfl (prodAt (m ((c : Thread nD τ).loc main_arg0)) (m ((c : Thread nD τ).loc main_arg1)) (((cfg0.win 2).blk ⟨4 * q + 3, hn⟩).view.emb y))
    (fun p => part m c ⟨4 * q + p.val, hp p⟩ y) (fun p k => ?_)
  have hp4 := p.isLt
  have hd : (4 * q + p.val) / 4 = q := by omega
  have hm : (4 * q + p.val) % 4 = p.val := by omega
  refine (part_eq m c ⟨4 * q + p.val, hp p⟩ y k (((cfg0.win 2).blk ⟨4 * q + 3, hn⟩).view.emb y) i0 ?_).trans ?_
  · exact i1.trans (congrArg (fun n => n * 512 + (y 1).val) hd.symm)
  · exact congrArg (fun n => at0 8192 (prodAt (m ((c : Thread nD τ).loc main_arg0)) (m ((c : Thread nD τ).loc main_arg1)) (((cfg0.win 2).blk ⟨4 * q + 3, hn⟩).view.emb y)) (2048 * n + k.val)) hm

/-- The result after the run. -/
theorem finalG (c : Dev nD) : (dats m 0 c).arrAt 2 cfg0.N = (G (m ((c : Thread nD τ).loc main_arg0)) (m ((c : Thread nD τ).loc main_arg1))) := by
  refine (dats m 0 c).arrAt_eq_of_cover 2 _ (fun t hf => flushedG_eq m c t hf) (fun (i : S2176x2048.Idx) => ?_)
  have hi0 : (i 0).val < 2176 := (i 0).isLt
  have hi1 : (i 1).val < 2048 := (i 1).isLt
  obtain ⟨t, hf, ht⟩ := onto ⟨(i 1).val / 512, by omega⟩
  obtain ⟨e0, -⟩ := maps t
  have ht' : win0_2.index t (1 : Fin 2) = (i 1).val / 512 := ht
  refine ⟨t, hf, ?_⟩
  show i ∈ ((View.whole main_v2).slice (win0_2.rect t)).set
  rw [View.set_slice_whole, Rect.mem_set_unit]
  intro a
  match a with
  | ⟨0, _⟩ => show win0_2.index t (0 : Fin 2) * 2176 ≤ (i 0).val ∧ (i 0).val < win0_2.index t (0 : Fin 2) * 2176 + 2176; omega
  | ⟨1, _⟩ => show win0_2.index t (1 : Fin 2) * 512 ≤ (i 1).val ∧ (i 1).val < win0_2.index t (1 : Fin 2) * 512 + 512; omega

end Cert.DownIdeal.Value

namespace Cert.DownReferenceIdeal.Read

open Cert.Blocks Idealize.ShloMosaic Idealize.ShloMosaic.TcCoe

/-- The reference's product, read: the same sum. -/
theorem val_eq (A : (⟨S2176x8192, .f32⟩ : BufTy).Contents (Elt Ideal)) (B : (⟨S8192x2048, .f32⟩ : BufTy).Contents (Elt Ideal)) :
    val_main_v0 (F := Ideal) A B = Cert.DownIdeal.Value.G A B := by
  funext i
  rw [val_main_v0_apply]
  unfold Cert.DownIdeal.Value.G Cert.DownIdeal.Value.prodAt
  exact sum_mul_congr (fun k => congrArg A (idx2_ext _ _ rfl rfl)) (fun k => congrArg B (idx2_ext _ _ rfl rfl))

end Cert.DownReferenceIdeal.Read

namespace Cert.DownEq

open Idealize.ShloMosaic Idealize.ShloMosaic.TcCoe Idealize.SL.Sem

/-- The kernel and its reference leave equal results and keep their arguments. -/
theorem algebraic : Cert.algebraic_DownIdeal_DownReferenceIdeal := by
  intro m g m' g' _ hagree
  refine ⟨fun c => Cert.DownIdeal.Value.G (m ((c : Thread Cert.DownIdeal.nD Cert.DownIdeal.τ).loc Cert.DownIdeal.main_arg0)) (m ((c : Thread Cert.DownIdeal.nD Cert.DownIdeal.τ).loc Cert.DownIdeal.main_arg1)),
    (θ_run Cert.DownIdeal.defs _ _).mono (fun r h c => ?_) (Cert.DownIdeal.Value.run_blocks m g),
    (θ_run Cert.DownReferenceIdeal.defs _ _).mono (fun r h c => ?_) (Cert.DownReferenceIdeal.Value.run m' g')⟩
  · obtain ⟨h0, k0, k1⟩ := h c
    exact ⟨h0.trans (Cert.DownIdeal.Value.finalG m c), k0, k1⟩
  · obtain ⟨h0, k0, k1⟩ := h c
    obtain ⟨a0, a1⟩ := hagree c
    rw [a0, a1] at h0
    exact ⟨h0.trans ((Cert.DownReferenceIdeal.Read.val_main_v0_eq _ _).trans (Cert.DownReferenceIdeal.Read.val_eq (m ((c : Thread Cert.DownIdeal.nD Cert.DownIdeal.τ).loc Cert.DownIdeal.main_arg0)) (m ((c : Thread Cert.DownIdeal.nD Cert.DownIdeal.τ).loc Cert.DownIdeal.main_arg1)))), k0, k1⟩

end Cert.DownEq
-- ==== Proof.Rows.lean ====
/- Blocks of 272 rows worked on sixteen rows at a time: shared by the calls that go over the rows. -/
module

public import Idealize.ShloMosaic.Lib.StableHlo.ReadAt
public import Idealize.ShloMosaic.Lib.Pointwise
public import Idealize.ShloMosaic.Lib.Pipeline
public import proofs.«01_k».proof.Proof.Blocks

@[expose] public section

noncomputable section

namespace Cert.Rows

open Idealize.ShloMosaic Idealize.ShloMosaic.TcCoe Idealize.SL.Sem Cert.Blocks

/-- A block of 272 rows. -/
abbrev Blk (C : ℕ) : Shape := ⟨2, ![272, C]⟩

/-- Sixteen rows. -/
abbrev Chunk (C : ℕ) : Shape := ⟨2, ![16, C]⟩

/-- Chunk `r` lies in the block. -/
theorem chunk_inb (C : ℕ) (r : Fin 17) : ∀ a : Fin 2, (![16 * r.val, 0] : Fin 2 → ℕ) a + (![16, C] : Fin 2 → ℕ) a ≤ (![272, C] : Fin 2 → ℕ) a := fun a => by
  have hr : r.val < 17 := r.isLt
  match a with
  | ⟨0, _⟩ => show 16 * r.val + 16 ≤ 272; omega
  | ⟨1, _⟩ => show 0 + C ≤ C; omega

/-- The rectangle of chunk `r`. -/
abbrev chunk (C : ℕ) (r : Fin 17) : Rect (Blk C) := Rect.unit (s := Blk C) ![16 * r.val, 0] ![16, C] (chunk_inb C r)

/-- Row `p` of chunk `r`, in the block. -/
def at16 (r : Fin 17) (p : Fin 16) : Fin 272 := ⟨16 * r.val + p.val, by have := r.isLt; have := p.isLt; omega⟩

/-- A chunk's place in the block. -/
theorem chunk_emb {C : ℕ} (r : Fin 17) (x : (Chunk C).Idx) : (chunk C r).emb x = ix2 (at16 r (x 0)) (x 1) := by
  refine idx2_ext _ _ ?_ ?_
  · show 16 * r.val + 1 * (x 0).val = 16 * r.val + (x 0).val
    omega
  · show 0 + 1 * (x 1).val = (x 1).val
    omega

/-- A chunk read. -/
theorem chunk_ld {C : ℕ} {e : EltTy} (X : Vec Ideal (Blk C) e) (r : Fin 17) (x : (Chunk C).Idx) : View.ld (Val := Elt Ideal) X (chunk C r) x = X (ix2 (at16 r (x 0)) (x 1)) :=
  congrArg X (chunk_emb r x)

/-- The chunks, last first. -/
def order : List (Fin 17) := [16, 15, 14, 13, 12, 11, 10, 9, 8, 7, 6, 5, 4, 3, 2, 1, 0]

/-- Every chunk is there. -/
theorem mem_order : ∀ r : Fin 17, r ∈ order := by decide

/-- A block stored chunk by chunk is the function its chunks agree with. -/
theorem canon_chunks {C : ℕ} {e : EltTy} (E : Vec Ideal (Blk C) e) (g : (r : Fin 17) → Vec Ideal (Chunk C) e) (h : ∀ r (p : Fin 16) (q : Fin C), g r (ix2 p q) = E (ix2 (at16 r p) q)) :
    View.canon (Val := Elt Ideal) (e := e) (order.map fun r => (⟨chunk C r, g r⟩ : View.Piece (Elt Ideal) (Blk C) e)) = E := by
  funext y
  refine View.canon_apply_of_pieces (Val := Elt Ideal) (e := e) E _ ?_ y ?_
  · intro p hp x
    obtain ⟨r, -, rfl⟩ := List.mem_map.mp hp
    refine (congrArg (g r) (idx2_ext x (ix2 (x 0) (x 1)) rfl rfl)).trans ((h r (x 0) (x 1)).trans (congrArg E (chunk_emb r x).symm))
  · have hy : (y 0).val < 272 := (y 0).isLt
    have hy1 : (y 1).val < C := (y 1).isLt
    refine ⟨_, List.mem_map.mpr ⟨⟨(y 0).val / 16, by omega⟩, mem_order _, rfl⟩, ?_⟩
    show y ∈ (Rect.unit (s := Blk C) ![16 * ((y 0).val / 16), 0] ![16, C] (chunk_inb C ⟨(y 0).val / 16, by omega⟩)).set
    rw [Rect.mem_set_unit]
    intro a
    match a with
    | ⟨0, _⟩ => show 16 * ((y 0).val / 16) ≤ (y 0).val ∧ (y 0).val < 16 * ((y 0).val / 16) + 16; omega
    | ⟨1, _⟩ => show 0 ≤ (y 1).val ∧ (y 1).val < 0 + C; omega

/-- A row, as a function of the column. -/
def row {R C : ℕ} (X : (⟨2, ![R, C]⟩ : Shape).Idx → EReal) (p : Fin R) (k : Fin C) : EReal := X (ix2 p k)

/-- A row of a chunk is a row of its block. -/
theorem row_chunk {C : ℕ} (X : Vec Ideal (Blk C) .f32) (r : Fin 17) (p : Fin 16) : row (R := 16) (View.ld (Val := Elt Ideal) (e' := .f32) X (chunk C r)) p = row (R := 272) X (at16 r p) :=
  funext fun k => chunk_ld (e := .f32) X r (ix2 p k)

/-- Row `p` of block `t`, in the array. -/
def at272 (t : Fin 8) (p : Fin 272) : Fin 2176 := ⟨t.val * 272 + p.val, by have := t.isLt; have := p.isLt; omega⟩

/-- Arrays with two axes agree if their elements do. -/
theorem ext2 {R C : ℕ} {f g : (⟨2, ![R, C]⟩ : Shape).Idx → EReal} (h : ∀ p q, f (ix2 p q) = g (ix2 p q)) : f = g :=
  funext fun i => (congrArg f (idx2_ext i (ix2 (i 0) (i 1)) rfl rfl)).trans ((h (i 0) (i 1)).trans (congrArg g (idx2_ext i (ix2 (i 0) (i 1)) rfl rfl).symm))

/-- A block of rows holds the places of its rows. -/
theorem mem_rows {C : ℕ} (i : (⟨2, ![2176, C]⟩ : Shape).Idx) (o : Fin 2 → ℕ) (inb) (h0 : o 0 = (i 0).val / 272 * 272) (h1 : o 1 = 0) :
    i ∈ (Rect.unit (s := (⟨2, ![2176, C]⟩ : Shape)) o ![272, C] inb).set := by
  rw [Rect.mem_set_unit]
  have hi1 : (i 1).val < C := (i 1).isLt
  intro a
  match a with
  | ⟨0, _⟩ => show o 0 ≤ (i 0).val ∧ (i 0).val < o 0 + 272; omega
  | ⟨1, _⟩ => show o 1 ≤ (i 1).val ∧ (i 1).val < o 1 + C; omega

/-- The root-mean-square norm of a row of 2048. -/
def rms (x w : Fin 2048 → EReal) (q : Fin 2048) : EReal :=
  x q * Ideal.rsqrt (Ideal.div (∑ k, x k * x k) (Ideal.ofBits .f32 0x45000000#32) + Ideal.ofBits .f32 0x358637BD#32) * w q

/-- The layer norm of a row of 1024: its mean taken off, divided by its spread, scaled and shifted. -/
def layer (x w b : Fin 1024 → EReal) (q : Fin 1024) : EReal :=
  (x q - Ideal.div (∑ k, x k) (Ideal.ofBits .f32 0x44800000#32)) * Ideal.rsqrt (Ideal.div (∑ k, (x k - Ideal.div (∑ l, x l) (Ideal.ofBits .f32 0x44800000#32)) * (x k - Ideal.div (∑ l, x l) (Ideal.ofBits .f32 0x44800000#32))) (Ideal.ofBits .f32 0x44800000#32) + Ideal.ofBits .f32 0x3727C5AC#32) * w q + b q

/-- The logistic function. -/
def sgm (z : EReal) : EReal := Ideal.div 1 (1 + Ideal.exp (-z))

/-- Columns of a row from a given one on. -/
def from_ {C : ℕ} (o D : ℕ) (h : o + D ≤ C) (x : Fin C → EReal) (q : Fin D) : EReal := x ⟨o + q.val, by have := q.isLt; omega⟩

/-- Two rows of 1024, end to end. -/
def cat (x y : Fin 1024 → EReal) (q : Fin 2048) : EReal := if h : q.val < 1024 then x ⟨q.val, h⟩ else y ⟨q.val - 1024, by have := q.isLt; omega⟩

/-- Two stretches of a row, end to end, are one. -/
theorem cat_from {C : ℕ} (o : ℕ) (h : o + 2048 ≤ C) (x : Fin C → EReal) : cat (from_ o 1024 (by omega) x) (from_ (o + 1024) 1024 (by omega) x) = from_ o 2048 h x := by
  funext q
  have hq := q.isLt
  unfold cat from_
  by_cases hc : q.val < 1024
  · rw [dif_pos hc]
  · rw [dif_neg hc]
    exact congrArg x (Fin.ext (show o + 1024 + (q.val - 1024) = o + q.val by omega))

end Cert.Rows
-- ==== Proof.Gathered.lean ====
/- Sums over the rows gathered in eight rows of scratch: shared by the calls that give sums over all rows. -/
module

public import proofs.«01_k».proof.Proof.Rows

@[expose] public section

noncomputable section

namespace Cert.Gathered

open Idealize.ShloMosaic Idealize.ShloMosaic.TcCoe Idealize.SL.Sem Cert.Blocks Cert.Rows

/-- Eight rows of scratch. -/
abbrev Tile (C : ℕ) : Shape := ⟨2, ![8, C]⟩

/-- The whole scratch lies in it. -/
theorem all_inb (C : ℕ) : ∀ a : Fin 2, (![0, 0] : Fin 2 → ℕ) a + (![8, C] : Fin 2 → ℕ) a ≤ (![8, C] : Fin 2 → ℕ) a := fun a => by
  match a with
  | ⟨0, _⟩ => show 0 + 8 ≤ 8; omega
  | ⟨1, _⟩ => show 0 + C ≤ C; omega

/-- The whole scratch, as a rectangle. -/
abbrev all (C : ℕ) : Rect (Tile C) := Rect.unit (s := Tile C) ![0, 0] ![8, C] (all_inb C)

variable {sig : RefSig} {C : ℕ}

/-- A chunk of a staged block. -/
def rd (A : Memref sig .tc .vmem (Blk C) .f32) (hA : A.IsWhole) (x : Vec Ideal (Blk C) .f32) (r : Fin 17) : Vec Ideal (Chunk C) .f32 :=
  View.readAt (Elt Ideal) A.view (chunk C r).toLoadRect (hA.unread x)

/-- A row of a chunk of a staged block is a row of the block. -/
theorem row_rd (A : Memref sig .tc .vmem (Blk C) .f32) (hA : A.IsWhole) (x : Vec Ideal (Blk C) .f32) (r : Fin 17) (p : Fin 16) :
    row (R := 16) (C := C) (rd A hA x r) p = row (R := 272) x (at16 r p) := by
  have h : rd A hA x r = View.ld (Val := Elt Ideal) (e' := .f32) x (chunk C r) := congrArg (fun z => View.ld (Val := Elt Ideal) (e' := .f32) z (chunk C r)) (hA.read_unread x)
  rw [h]
  exact row_chunk x r p

/-- What the scratch was stored, chunk by chunk, last first: each store adds to what the last one left. -/
def held (A : Memref sig .tc .vmem (Tile C) .f32) (f : Fin 17 → Vec Ideal (Tile C) .f32 → Vec Ideal (Tile C) .f32) (L : List (View.Piece (Elt Ideal) (Tile C) .f32)) :
    List (Fin 17) → List (View.Piece (Elt Ideal) (Tile C) .f32)
  | [] => L
  | r :: rs => (⟨all C, f r (A.view.readCov (held A f L rs) (all C).toLoadRect)⟩ : View.Piece (Elt Ideal) (Tile C) .f32) :: held A f L rs

/-- One more chunk added to the scratch. -/
theorem held_step {A : Memref sig .tc .vmem (Tile C) .f32} {f : Fin 17 → Vec Ideal (Tile C) .f32 → Vec Ideal (Tile C) .f32} {L X Y : List (View.Piece (Elt Ideal) (Tile C) .f32)} {P : View.Piece (Elt Ideal) (Tile C) .f32} {r : Fin 17} {rs : List (Fin 17)}
    (h : X = P :: Y) (hp : P = ⟨all C, f r (A.view.readCov Y (all C).toLoadRect)⟩) (ih : Y = held A f L rs) : X = held A f L (r :: rs) := by
  rw [h, hp, ih]
  rfl

/-- A scratch stored whole reads as what was stored last. -/
theorem readCov_all (A : Memref sig .tc .vmem (Tile C) .f32) (p : Vec Ideal (Tile C) .f32) (L : List (View.Piece (Elt Ideal) (Tile C) .f32)) :
    A.view.readCov ((⟨all C, p⟩ : View.Piece (Elt Ideal) (Tile C) .f32) :: L) (all C).toLoadRect = p := by
  have h : View.canon (Val := Elt Ideal) (e := .f32) ((⟨all C, p⟩ : View.Piece (Elt Ideal) (Tile C) .f32) :: L) = p := View.canon_cons_unit_zero zero2 _ p L
  refine (congrArg (fun z => View.ld (Val := Elt Ideal) (e' := .f32) z (all C)) ((View.read_writes_junk_eq_canon (Val := Elt Ideal) A.view _).trans h)).trans ?_
  exact View.ld_unit_zero zero2 _ p

/-- The scratch after the chunks. -/
theorem held_eq (A : Memref sig .tc .vmem (Tile C) .f32) (f : Fin 17 → Vec Ideal (Tile C) .f32 → Vec Ideal (Tile C) .f32) (p : Vec Ideal (Tile C) .f32) (L : List (View.Piece (Elt Ideal) (Tile C) .f32)) (rs : List (Fin 17)) :
    ∃ L', held A f ((⟨all C, p⟩ : View.Piece (Elt Ideal) (Tile C) .f32) :: L) rs = (⟨all C, rs.foldr f p⟩ : View.Piece (Elt Ideal) (Tile C) .f32) :: L' := by
  induction rs with
  | nil => exact ⟨L, rfl⟩
  | cons r rs ih =>
    obtain ⟨L', h⟩ := ih
    refine ⟨held A f ((⟨all C, p⟩ : View.Piece (Elt Ideal) (Tile C) .f32) :: L) rs, ?_⟩
    show (⟨all C, f r (A.view.readCov (held A f ((⟨all C, p⟩ : View.Piece (Elt Ideal) (Tile C) .f32) :: L) rs) (all C).toLoadRect)⟩ : View.Piece (Elt Ideal) (Tile C) .f32) :: _ = _
    rw [h, readCov_all]
    rfl

/-- The scratch after the chunks, read back. -/
theorem canon_held (A : Memref sig .tc .vmem (Tile C) .f32) (f : Fin 17 → Vec Ideal (Tile C) .f32 → Vec Ideal (Tile C) .f32) (p : Vec Ideal (Tile C) .f32) (L : List (View.Piece (Elt Ideal) (Tile C) .f32)) (rs : List (Fin 17)) :
    View.canon (Val := Elt Ideal) (e := .f32) (held A f ((⟨all C, p⟩ : View.Piece (Elt Ideal) (Tile C) .f32) :: L) rs) = rs.foldr f p := by
  obtain ⟨L', h⟩ := held_eq A f p L rs
  rw [h]
  exact View.canon_cons_unit_zero zero2 _ _ L'

/-- The scratch after the chunks, loaded. -/
theorem readCov_held (A : Memref sig .tc .vmem (Tile C) .f32) (f : Fin 17 → Vec Ideal (Tile C) .f32 → Vec Ideal (Tile C) .f32) (p : Vec Ideal (Tile C) .f32) (L : List (View.Piece (Elt Ideal) (Tile C) .f32)) (rs : List (Fin 17)) :
    A.view.readCov (held A f ((⟨all C, p⟩ : View.Piece (Elt Ideal) (Tile C) .f32) :: L) rs) (all C).toLoadRect = rs.foldr f p := by
  obtain ⟨L', h⟩ := held_eq A f p L rs
  rw [h]
  exact readCov_all A _ L'

/-- Adding chunk by chunk adds up. -/
theorem foldr_apply (f : Fin 17 → Vec Ideal (Tile C) .f32 → Vec Ideal (Tile C) .f32) (part : Fin 17 → Fin 8 → Fin C → EReal)
    (h : ∀ r (a : Vec Ideal (Tile C) .f32) p q, f r a (ix2 p q) = a (ix2 p q) + part r p q) (a : Vec Ideal (Tile C) .f32) (p : Fin 8) (q : Fin C) :
    order.foldr f a (ix2 p q) = a (ix2 p q) + ∑ r, part r p q := by
  have gen : ∀ rs : List (Fin 17), rs.foldr f a (ix2 p q) = a (ix2 p q) + (rs.map fun r => part r p q).sum := fun rs => by
    induction rs with
    | nil => exact (add_zero (M := EReal) _).symm
    | cons r rs ih =>
      refine (h r _ p q).trans ?_
      rw [ih, List.map_cons, List.sum_cons, add_assoc (G := EReal), add_comm (G := EReal) (part r p q)]
  refine (gen order).trans (congrArg (a (ix2 p q) + ·) ?_)
  rw [← List.sum_toFinset _ (by decide : order.Nodup), (by decide : order.toFinset = Finset.univ)]

/-- A sum taken block by block. -/
theorem sum_blocks {a b n : ℕ} (hn : n = a * b) (f : Fin n → EReal) (place : Fin a → Fin b → Fin n) (h : ∀ i j, (place i j).val = i.val * b + j.val) :
    ∑ i, ∑ j, f (place i j) = ∑ k, f k := by
  subst hn
  rw [← Fintype.sum_prod_type' (f := fun i j => f (place i j)), ← finProdFinEquiv.sum_comp f]
  refine Finset.sum_congr (M := EReal) rfl fun x _ => congrArg f (Fin.ext ?_)
  rw [h]
  show x.1.val * b + x.2.val = x.2.val + b * x.1.val
  rw [Nat.mul_comm, Nat.add_comm]

/-- One of the first eight rows of a chunk. -/
def lo (p : Fin 8) : Fin 16 := ⟨p.val, by have := p.isLt; omega⟩

/-- One of the last eight rows of a chunk. -/
def hi (p : Fin 8) : Fin 16 := ⟨8 + p.val, by have := p.isLt; omega⟩

/-- What a point adds to a row of the scratch: from each chunk of its block, two rows. -/
def share (E : Fin 272 → EReal) (p : Fin 8) : EReal := ∑ r, (E (at16 r (lo p)) + E (at16 r (hi p)))

/-- The rows of a block, gathered. -/
theorem sum_share (E : Fin 272 → EReal) : ∑ p, share E p = ∑ i, E i := by
  unfold share
  rw [Finset.sum_comm, ← sum_blocks (a := 17) (b := 16) rfl E at16 (fun i j => by show 16 * i.val + j.val = _; omega)]
  refine Finset.sum_congr (M := EReal) rfl fun r _ => ?_
  rw [Finset.sum_add_distrib (M := EReal)]
  exact (Fin.sum_univ_add (a := 8) (b := 8) (f := fun k : Fin (8 + 8) => E (at16 r k))).symm

/-- All rows, gathered point by point. -/
theorem gather (E : Fin 2176 → EReal) : ∑ p : Fin 8, ∑ t : Fin 8, share (fun i => E (at272 t i)) p = ∑ i, E i := by
  rw [Finset.sum_comm, ← sum_blocks (a := 8) (b := 272) rfl E at272 (fun i j => rfl)]
  exact Finset.sum_congr (M := EReal) rfl fun t _ => sum_share fun i => E (at272 t i)

/-- What the scratch holds after each point, from what it held after the point before. -/
theorem upto (h : ℕ → EReal) (S : Fin 8 → EReal) (h0 : h 0 = S 0) (hs : ∀ n (hn : n + 1 < 7), h (n + 1) = h n + S ⟨n + 1, by omega⟩) (z : EReal) (hz : z = h 6 + S 7) : z = ∑ t, S t := by
  rw [hz, hs 5 (by omega), hs 4 (by omega), hs 3 (by omega), hs 2 (by omega), hs 1 (by omega), hs 0 (by omega), h0]
  exact (Fin.sum_univ_eight (M := EReal) S).symm

/-- The same, at the last point. -/
theorem gathered (o : (n : ℕ) → n < 8 → EReal) (S : Fin 8 → EReal) (h0 : o 0 (by omega) = S 0)
    (hs : ∀ n (hn : n + 1 < 7), o (n + 1) (by omega) = o n (by omega) + S ⟨n + 1, by omega⟩) (t : Fin 8) (ht : t.val = 7) (h : t.val - 1 < 8) : o (t.val - 1) h + S t = ∑ t, S t := by
  obtain ⟨n, hn⟩ := t
  dsimp only at ht
  subst ht
  refine upto (fun n => if h : n < 8 then o n h else 0) S h0 (fun n hn => ?_) _ ?_
  · rw [dif_pos (by omega), dif_pos (by omega)]
    exact hs n hn
  · dsimp only
    rw [dif_pos (by omega)]
    rfl

/-- One row, as a rectangle. -/
theorem one_inb (C : ℕ) : ∀ a : Fin 2, (![0, 0] : Fin 2 → ℕ) a + (![1, C] : Fin 2 → ℕ) a ≤ (![1, C] : Fin 2 → ℕ) a := fun a => by
  match a with
  | ⟨0, _⟩ => show 0 + 1 ≤ 1; omega
  | ⟨1, _⟩ => show 0 + C ≤ C; omega

/-- One row, whole. -/
abbrev one (C : ℕ) : Rect (⟨2, ![1, C]⟩ : Shape) := Rect.unit (s := (⟨2, ![1, C]⟩ : Shape)) ![0, 0] ![1, C] (one_inb C)

/-- A staged row, read whole. -/
def rd1 (A : Memref sig .tc .vmem ⟨2, ![1, C]⟩ .f32) (hA : A.IsWhole) (x : Vec Ideal ⟨2, ![1, C]⟩ .f32) : Vec Ideal ⟨2, ![1, C]⟩ .f32 :=
  View.readAt (Elt Ideal) A.view (one C).toLoadRect (hA.unread x)

/-- It reads as it was staged. -/
theorem rd1_eq (A : Memref sig .tc .vmem ⟨2, ![1, C]⟩ .f32) (hA : A.IsWhole) (x : Vec Ideal ⟨2, ![1, C]⟩ .f32) : rd1 A hA x = x :=
  whole_read A hA x (fun a => by match a with | ⟨0, _⟩ => rfl | ⟨1, _⟩ => rfl) _

/-- A staged scratch, read whole. -/
def rd8 (A : Memref sig .tc .vmem (Tile C) .f32) (hA : A.IsWhole) (x : Vec Ideal (Tile C) .f32) : Vec Ideal (Tile C) .f32 :=
  View.readAt (Elt Ideal) A.view (all C).toLoadRect (hA.unread x)

/-- It reads as it was staged. -/
theorem rd8_eq (A : Memref sig .tc .vmem (Tile C) .f32) (hA : A.IsWhole) (x : Vec Ideal (Tile C) .f32) : rd8 A hA x = x :=
  whole_read A hA x (fun a => by match a with | ⟨0, _⟩ => rfl | ⟨1, _⟩ => rfl) _

/-- One row stored whole reads as it was stored. -/
theorem canon_one (v : Vec Ideal ⟨2, ![1, C]⟩ .f32) : View.canon (Val := Elt Ideal) (e := .f32) [(⟨one C, v⟩ : View.Piece (Elt Ideal) ⟨2, ![1, C]⟩ .f32)] = v :=
  View.canon_cons_unit_zero zero2 _ v []

/-- A point of the grid is the first, the last or between. -/
theorem kinds (n : ℕ) : (n % 8 = 0 ∧ ¬n % 8 = 7) ∨ (¬n % 8 = 0 ∧ ¬n % 8 = 7) ∨ (¬n % 8 = 0 ∧ n % 8 = 7) := by omega

/-- A block index, at a place. -/
abbrev Sits (f : Fin 2 → ℕ) (a b : ℕ) : Prop := f 0 = a ∧ f 1 = b

/-- The block a row lies in. -/
theorem block_of {n : ℕ} (h : n < 2176) : ∃ t : Fin 8, t.val = n / 272 := ⟨⟨n / 272, by omega⟩, rfl⟩

/-- A place of an array of one row. -/
theorem one_row (y : (⟨2, ![1, C]⟩ : Shape).Idx) : ∃ q : Fin C, y = ix2 0 q :=
  ⟨y 1, idx2_ext _ _ (by have : (y 0).val < 1 := (y 0).isLt; show (y 0).val = 0; omega) rfl⟩

variable (A : Memref sig .tc .vmem (Tile C) .f32) (hA : A.IsWhole) (add : Fin 17 → Vec Ideal (Tile C) .f32 → Vec Ideal (Tile C) .f32) (E : Fin 272 → Fin C → EReal)
  (hadd : ∀ a p q, order.foldr add a (ix2 p q) = a (ix2 p q) + share (fun i => E i q) p) {L : List (View.Piece (Elt Ideal) (Tile C) .f32)}

include hadd in
/-- What a scratch set to zero holds after a point. -/
theorem first_held {z : Vec Ideal (Tile C) .f32} (hz : ∀ p q, z (ix2 p q) = 0) (h : L = held A add [⟨all C, z⟩] order) (p : Fin 8) (q : Fin C) :
    View.canon L (ix2 p q) = share (fun i => E i q) p := by
  rw [h, canon_held, hadd, hz, zero_add (M := EReal)]

/-- The chunks after the first, in the order of their pieces. -/
def later : List (Fin 17) := [16, 15, 14, 13, 12, 11, 10, 9, 8, 7, 6, 5, 4, 3, 2, 1]

include hadd in
/-- What a scratch carried over holds after a point. -/
theorem next_held (x : Vec Ideal (Tile C) .f32) (h : L = held A add [⟨all C, add 0 (rd8 A hA x)⟩] later) (p : Fin 8) (q : Fin C) :
    View.canon L (ix2 p q) = x (ix2 p q) + share (fun i => E i q) p := by
  rw [h, canon_held]
  refine (hadd (rd8 A hA x) p q).trans ?_
  rw [rd8_eq]

include hadd in
/-- What the last point sums. -/
theorem last_held (x : Vec Ideal (Tile C) .f32) {fin : Vec Ideal (Tile C) .f32 → Vec Ideal ⟨2, ![1, C]⟩ .f32} (hfin : ∀ a q, fin a (ix2 0 q) = ∑ p : Fin 8, a (ix2 p q))
    {L' : List (View.Piece (Elt Ideal) ⟨2, ![1, C]⟩ .f32)}
    (h : L' = [⟨one C, fin (A.view.readCov (held A add [⟨all C, add 0 (rd8 A hA x)⟩] later) (all C).toLoadRect)⟩]) (q : Fin C) :
    View.canon L' (ix2 0 q) = ∑ p, (x (ix2 p q) + share (fun i => E i q) p) := by
  rw [h, canon_one, readCov_held, hfin]
  refine Finset.sum_congr (M := EReal) rfl fun p _ => ?_
  refine (hadd (rd8 A hA x) p q).trans ?_
  rw [rd8_eq]

/-- The last point's piece, from the scratch's. -/
theorem last_step (fin : Vec Ideal (Tile C) .f32 → Vec Ideal ⟨2, ![1, C]⟩ .f32) {L' : List (View.Piece (Elt Ideal) (Tile C) .f32)} (h : L = L') :
    [(⟨one C, fin (A.view.readCov L (all C).toLoadRect)⟩ : View.Piece (Elt Ideal) ⟨2, ![1, C]⟩ .f32)] = [⟨one C, fin (A.view.readCov L' (all C).toLoadRect)⟩] := by
  rw [h]

/-- All rows, gathered over the points in a scratch and summed at the last. -/
theorem summed (o : Fin 8 → (n : ℕ) → n < 8 → EReal) (E : Fin 2176 → EReal) (h0 : ∀ p, o p 0 (by omega) = share (fun i => E (at272 0 i)) p)
    (hs : ∀ p n (hn : n + 1 < 7), o p (n + 1) (by omega) = o p n (by omega) + share (fun i => E (at272 ⟨n + 1, by omega⟩ i)) p) (t : Fin 8) (ht : t.val = 7) (h : t.val - 1 < 8) :
    ∑ p, (o p (t.val - 1) h + share (fun i => E (at272 t i)) p) = ∑ i, E i :=
  (Finset.sum_congr (M := EReal) rfl fun p _ => gathered (o p) (fun t => share (fun i => E (at272 t i)) p) (h0 p) (hs p) t ht h).trans (gather E)

/-- One row stored whole holds every place. -/
theorem mem_row {C : ℕ} (i : (⟨2, ![1, C]⟩ : Shape).Idx) (o : Fin 2 → ℕ) (inb) (h0 : o 0 = 0) (h1 : o 1 = 0) :
    i ∈ (Rect.unit (s := (⟨2, ![1, C]⟩ : Shape)) o ![1, C] inb).set := by
  rw [Rect.mem_set_unit]
  have hi0 : (i 0).val < 1 := (i 0).isLt
  have hi1 : (i 1).val < C := (i 1).isLt
  intro a
  match a with
  | ⟨0, _⟩ => show o 0 ≤ (i 0).val ∧ (i 0).val < o 0 + 1; omega
  | ⟨1, _⟩ => show o 1 ≤ (i 1).val ∧ (i 1).val < o 1 + C; omega

/-- Two rows of 2048, end to end. -/
def cat2 (x y : Fin 2048 → EReal) (q : Fin 4096) : EReal := if h : q.val < 2048 then x ⟨q.val, h⟩ else y ⟨q.val - 2048, by have := q.isLt; omega⟩

end Cert.Gathered

end
-- ==== Proof.RmsBwd.lean ====
/- The backward pass of the root-mean-square norm: the kernel's form and the derivative's are one. -/
module

public import proofs.«01_k».proof.Proof.Rows

@[expose] public section

noncomputable section

namespace Cert.RmsBwd

open Idealize.ShloMosaic Idealize.ShloMosaic.TcCoe Cert.Blocks Cert.Rows

/-- The mean square of a row, kept off zero. -/
def spread (x : Fin 2048 → EReal) : EReal := Ideal.div (∑ k, x k * x k) (Ideal.ofBits .f32 0x45000000#32) + Ideal.ofBits .f32 0x358637BD#32

/-- What a row is multiplied by. -/
def rinv (x : Fin 2048 → EReal) : EReal := Ideal.rsqrt (spread x)

/-- The cotangent of a row, as the kernel forms it. -/
def rmsb (x g d : Fin 2048 → EReal) (q : Fin 2048) : EReal :=
  rinv x * (d q * g q - x q * rinv x * Ideal.div (∑ k, d k * g k * (x k * rinv x)) (Ideal.ofBits .f32 0x45000000#32))

/-- What reaches a row through its scale, as the derivative forms it. -/
def through (x g d : Fin 2048 → EReal) : EReal :=
  Ideal.div ((∑ k, x k * (d k * g k)) * (Ideal.ofBits .f32 0xBF000000#32 * Ideal.div (rinv x) (spread x))) (Ideal.ofBits .f32 0x45000000#32)

/-- The length of a row. -/
theorem n_eq : Ideal.ofBits .f32 0x45000000#32 = ((2048 : ℝ) : EReal) := by
  simp [Ideal.ofBits, Ideal.ieee]
  rw [← EReal.coe_mul]
  norm_num

/-- The derivative's constant. -/
theorem h_eq : Ideal.ofBits .f32 0xBF000000#32 = ((-(1 / 2) : ℝ) : EReal) := by
  simp [Ideal.ofBits, Ideal.ieee]
  rw [← EReal.coe_mul]
  norm_num

/-- What keeps the mean square off zero is a positive real. -/
theorem e_pos : ∃ e : ℝ, 0 < e ∧ Ideal.ofBits .f32 0x358637BD#32 = (e : EReal) := by
  refine ⟨8796093 * (1 / 8796093022208), by norm_num, ?_⟩
  simp [Ideal.ofBits, Ideal.ieee]
  norm_num

/-- A square is not negative. -/
theorem sq_nonneg' (x : EReal) : 0 ≤ x * x := by
  induction x with
  | bot => simp
  | top => simp
  | coe r => exact_mod_cast mul_self_nonneg r

/-- The mean square kept off zero is a positive real, or infinite. -/
theorem spread_cases (x : Fin 2048 → EReal) : spread x = ⊤ ∨ ∃ u : ℝ, 0 < u ∧ spread x = (u : EReal) := by
  obtain ⟨e, he, h⟩ := e_pos
  unfold spread
  rw [h, n_eq, Ideal.div_coe (by norm_num)]
  have hs : 0 ≤ ∑ k, x k * x k := Finset.sum_nonneg fun k _ => sq_nonneg' (x k)
  generalize ∑ k, x k * x k = s at hs
  induction s with
  | bot => exact absurd hs (by simp)
  | top =>
    left
    rw [EReal.top_mul_coe_of_pos (by norm_num)]
    rfl
  | coe r =>
    right
    have hr : 0 ≤ r := by exact_mod_cast hs
    exact ⟨r * (1 / 2048) + e, by positivity, by norm_cast⟩

/-- A real factor that is not negative goes into a sum. -/
theorem sum_mul_real {n : ℕ} (f : Fin n → EReal) (r : ℝ) (hr : 0 ≤ r) : ∑ k, f k * (r : EReal) = (∑ k, f k) * (r : EReal) := by
  have gen : ∀ s : Finset (Fin n), ∑ k ∈ s, f k * (r : EReal) = (∑ k ∈ s, f k) * (r : EReal) := fun s => by
    induction s using Finset.induction_on with
    | empty => simp
    | insert a s ha ih => rw [Finset.sum_insert ha, Finset.sum_insert ha, ih, EReal.right_distrib_of_nonneg_of_ne_top (by exact_mod_cast hr) (EReal.coe_ne_top r)]
  exact gen _

/-- Twice. -/
theorem add_self (a : EReal) : a + a = ((2 : ℝ) : EReal) * a := by
  induction a with
  | bot => rw [EReal.coe_mul_bot_of_pos (by norm_num)]; rfl
  | top => rw [EReal.coe_mul_top_of_pos (by norm_num)]; rfl
  | coe r => norm_cast; ring

/-- The kernel's form is the derivative's, at the infinities too. -/
theorem rmsb_eq (x g d : Fin 2048 → EReal) (q : Fin 2048) : rmsb x g d q = d q * g q * rinv x + (x q * through x g d + through x g d * x q) := by
  unfold rmsb through rinv
  rcases spread_cases x with h | ⟨u, hu, h⟩
  · rw [h, Ideal.rsqrt_top, n_eq, Ideal.div_coe (by norm_num)]
    simp [Ideal.div]
  · have hs : 0 < Real.sqrt u := Real.sqrt_pos.mpr hu
    rw [h, Ideal.rsqrt_coe, if_neg (by linarith), if_neg (by linarith), n_eq, h_eq]
    have hr : 0 ≤ (Real.sqrt u)⁻¹ := by positivity
    generalize hρ : (Real.sqrt u)⁻¹ = ρ at hr
    have hw : (1 / u : ℝ) = ρ * ρ := by
      rw [← hρ, ← mul_inv, Real.mul_self_sqrt hu.le, one_div]
    rw [Ideal.div_coe (by norm_num), Ideal.div_coe (by norm_num), Ideal.div_coe hu.ne', hw]
    have e1 : ∑ k, d k * g k * (x k * (ρ : EReal)) = (∑ k, x k * (d k * g k)) * (ρ : EReal) := by
      rw [← sum_mul_real _ ρ hr]
      refine Finset.sum_congr (M := EReal) rfl fun k _ => ?_
      rw [← mul_assoc (G := EReal), mul_comm (G := EReal) (d k * g k)]
    rw [e1]
    generalize ∑ k, x k * (d k * g k) = S
    rw [sub_eq_add_neg, EReal.left_distrib_of_nonneg_of_ne_top (by exact_mod_cast hr) (EReal.coe_ne_top ρ), mul_comm (G := EReal) (ρ : EReal) (d q * g q)]
    refine congrArg (d q * g q * (ρ : EReal) + ·) ?_
    rw [mul_comm (G := EReal) (S * _ * _) (x q), add_self]
    have t1 : (ρ : EReal) * -(x q * (ρ : EReal) * (S * (ρ : EReal) * ((1 / 2048 : ℝ) : EReal))) = x q * S * ((-(ρ * ρ * ρ * (1 / 2048)) : ℝ) : EReal) := by
      rw [EReal.coe_neg, mul_neg (α := EReal), mul_neg (α := EReal)]
      refine congrArg (- ·) ?_
      push_cast
      ac_rfl
    have t2 : ((2 : ℝ) : EReal) * (x q * (S * (((-(1 / 2) : ℝ) : EReal) * ((ρ : EReal) * ((ρ * ρ : ℝ) : EReal))) * ((1 / 2048 : ℝ) : EReal))) = x q * S * ((2 * (-(1 / 2)) * (ρ * (ρ * ρ)) * (1 / 2048) : ℝ) : EReal) := by
      simp only [EReal.coe_mul]
      ac_rfl
    rw [t1, t2]
    refine congrArg (fun z : ℝ => x q * S * (z : EReal)) ?_
    ring

/-- A cotangent that goes past the norm, and the one that comes back through it. -/
def pass (d0 d x g : Fin 2048 → EReal) (q : Fin 2048) : EReal := d0 q + rmsb x g d q

/-- What a row adds to the gradient of the norm's scale. -/
def scale (d x : Fin 2048 → EReal) (q : Fin 2048) : EReal := d q * (x q * rinv x)

/-- The derivative adds it up from the left. -/
theorem pass_eq (d0 d x g : Fin 2048 → EReal) (q : Fin 2048) : pass d0 d x g q = d0 q + d q * g q * rinv x + x q * through x g d + through x g d * x q := by
  unfold pass
  rw [rmsb_eq, ← add_assoc (G := EReal), ← add_assoc (G := EReal)]

/-- The same, with nothing beside. -/
theorem rmsb_add (x g d : Fin 2048 → EReal) (q : Fin 2048) : rmsb x g d q = d q * g q * rinv x + x q * through x g d + through x g d * x q := by
  rw [rmsb_eq, ← add_assoc (G := EReal)]

end Cert.RmsBwd

end
-- ==== Proof.GateBwdEq.lean ====
/- The gates' backward call: its arrays, and that its reference leaves the same. -/
module

public import proofs.«01_k».proof.Defs
public import proofs.«01_k».proof.Proof.Gen.GateBwdIdeal.Value
public import proofs.«01_k».proof.Proof.Gen.GateBwdReferenceIdeal.Run
public import proofs.«01_k».proof.Proof.Gen.GateBwdReferenceIdeal.Read
public import proofs.«01_k».proof.Proof.Gathered
public import proofs.«01_k».proof.Proof.RmsBwd

@[expose] public section

set_option maxRecDepth 16384

noncomputable section

namespace Cert.GateBwdIdeal.Value

open Cert.GateBwdIdeal Cert.GateBwdIdeal.Gen Idealize.ShloMosaic Idealize.ShloMosaic.TcCoe Idealize.SL.Sem Cert.Blocks Cert.Rows Cert.Gathered Cert.RmsBwd
open Idealize.ShloMosaic.Pipeline (Dat)

/-- A branch's cotangent: the merged one times the branch's gate. -/
def dy (d z b : Fin 2048 → EReal) (q : Fin 2048) : EReal := d q * sgm (z q + b q)

/-- A gate's cotangent, through the logistic function. -/
def dgate (d y z b : Fin 2048 → EReal) (q : Fin 2048) : EReal := d q * y q * sgm (z q + b q) * (1 - sgm (z q + b q))

/-- The gates' cotangents of a row, from the parts of it that a block holds. -/
def dgs (d a b : Fin 2048 → EReal) (z0 z1 z2 z3 : Fin 1024 → EReal) (w : Fin 4096 → EReal) : Fin 4096 → EReal :=
  cat2 (dgate d a (cat z0 z1) (from_ 0 2048 (by omega) w)) (dgate d b (cat z2 z3) (from_ 2048 2048 (by omega) w))

/-- The first branch's cotangent, of one chunk. -/
theorem pay8_apply (x0 : Vec Ideal S16x2048 .f32) (x3 x4 : Vec Ideal S16x1024 .f32) (w : Vec Ideal S1x4096 .f32) (p : Fin 16) (q : Fin 2048) :
    k0_pay8 x0 (k0_pay4 x3 x4 w) (ix2 p q) = dy (row x0 p) (cat (row x3 p) (row x4 p)) (from_ 0 2048 (by omega) (row w 0)) q := by
  unfold k0_pay8 k0_pay4 dy cat from_ row sgm
  pointwise
  simp only [zero_sub, Nat.zero_add]

/-- The second branch's cotangent, of one chunk. -/
theorem pay9_apply (x0 : Vec Ideal S16x2048 .f32) (x5 x6 : Vec Ideal S16x1024 .f32) (w : Vec Ideal S1x4096 .f32) (p : Fin 16) (q : Fin 2048) :
    k0_pay9 x0 (k0_pay5 x5 x6 w) (ix2 p q) = dy (row x0 p) (cat (row x5 p) (row x6 p)) (from_ 2048 2048 (by omega) (row w 0)) q := by
  unfold k0_pay9 k0_pay5 dy cat from_ row sgm
  pointwise
  simp only [zero_sub]

/-- The gates' cotangents, of one chunk. -/
theorem pay7_apply (x0 x1 x2 : Vec Ideal S16x2048 .f32) (x3 x4 x5 x6 : Vec Ideal S16x1024 .f32) (w : Vec Ideal S1x4096 .f32) (p : Fin 16) (q : Fin 4096) :
    k0_pay7 x0 x2 (k0_pay4 x3 x4 w) (k0_pay5 x5 x6 w) (k0_pay6 x0 x1) (ix2 p q) = dgs (row x0 p) (row x1 p) (row x2 p) (row x3 p) (row x4 p) (row x5 p) (row x6 p) (row w 0) q := by
  unfold k0_pay7 k0_pay4 k0_pay5 k0_pay6 dgs cat2 dgate cat from_ row sgm
  pointwise
  simp only [zero_sub, Nat.zero_add]

/-- What a chunk adds to the scratch: two of its rows. -/
theorem pay11_apply (x0 x1 x2 : Vec Ideal S16x2048 .f32) (x3 x4 x5 x6 : Vec Ideal S16x1024 .f32) (w : Vec Ideal S1x4096 .f32) (a : Vec Ideal S8x4096 .f32) (p : Fin 8) (q : Fin 4096) :
    k0_pay11 x0 x2 (k0_pay4 x3 x4 w) (k0_pay5 x5 x6 w) (k0_pay6 x0 x1) a (ix2 p q) = a (ix2 p q) + (dgs (row x0 (lo p)) (row x1 (lo p)) (row x2 (lo p)) (row x3 (lo p)) (row x4 (lo p)) (row x5 (lo p)) (row x6 (lo p)) (row w 0) q
      + dgs (row x0 (hi p)) (row x1 (hi p)) (row x2 (hi p)) (row x3 (hi p)) (row x4 (hi p)) (row x5 (hi p)) (row x6 (hi p)) (row w 0) q) := by
  rw [← pay7_apply x0 x1 x2 x3 x4 x5 x6 w (lo p) q, ← pay7_apply x0 x1 x2 x3 x4 x5 x6 w (hi p) q]
  unfold k0_pay11 lo hi
  pointwise

/-- The scratch's eight rows, added. -/
theorem pay2_apply (a : Vec Ideal S8x4096 .f32) (q : Fin 4096) : k0_pay2 a (ix2 0 q) = ∑ p : Fin 8, a (ix2 p q) := by
  unfold k0_pay2
  pointwise

/-- The scratch starts at zero. -/
theorem pay3_apply (p : Fin 8) (q : Fin 4096) : k0_pay3 (F := Ideal) (ix2 p q) = 0 := by
  unfold k0_pay3
  pointwise

/-- The first branch's cotangent. -/
def T8 (a0 : S2176x2048.Idx → EReal) (a3 : S2176x9216.Idx → EReal) (a4 : S1x4096.Idx → EReal) (i : S2176x2048.Idx) : EReal := dy (row a0 (i 0)) (cat (from_ 5120 1024 (by omega) (row a3 (i 0))) (from_ 6144 1024 (by omega) (row a3 (i 0)))) (from_ 0 2048 (by omega) (row a4 0)) (i 1)

/-- The second branch's cotangent. -/
def T9 (a0 : S2176x2048.Idx → EReal) (a3 : S2176x9216.Idx → EReal) (a4 : S1x4096.Idx → EReal) (i : S2176x2048.Idx) : EReal := dy (row a0 (i 0)) (cat (from_ 7168 1024 (by omega) (row a3 (i 0))) (from_ 8192 1024 (by omega) (row a3 (i 0)))) (from_ 2048 2048 (by omega) (row a4 0)) (i 1)

/-- The gates' cotangents. -/
def T10 (a0 a1 a2 : S2176x2048.Idx → EReal) (a3 : S2176x9216.Idx → EReal) (a4 : S1x4096.Idx → EReal) (i : S2176x4096.Idx) : EReal := dgs (row a0 (i 0)) (row a1 (i 0)) (row a2 (i 0)) (from_ 5120 1024 (by omega) (row a3 (i 0))) (from_ 6144 1024 (by omega) (row a3 (i 0))) (from_ 7168 1024 (by omega) (row a3 (i 0))) (from_ 8192 1024 (by omega) (row a3 (i 0))) (row a4 0) (i 1)

/-- The gates' biases' gradient: the sum over the rows. -/
def T11 (a0 a1 a2 : S2176x2048.Idx → EReal) (a3 : S2176x9216.Idx → EReal) (a4 : S1x4096.Idx → EReal) (i : S1x4096.Idx) : EReal := ∑ p, dgs (row a0 p) (row a1 p) (row a2 p) (from_ 5120 1024 (by omega) (row a3 p)) (from_ 6144 1024 (by omega) (row a3 p)) (from_ 7168 1024 (by omega) (row a3 p)) (from_ 8192 1024 (by omega) (row a3 p)) (row a4 0) (i 1)

section Body

variable (c : Dev nD) (i : grid0.Coords) {arg1 : Memref sig .tc .vmem S272x2048 .f32} (harg1 : arg1.IsWhole) {arg2 : Memref sig .tc .vmem S272x2048 .f32} (harg2 : arg2.IsWhole) {arg3 : Memref sig .tc .vmem S272x2048 .f32} (harg3 : arg3.IsWhole) {arg4 : Memref sig .tc .vmem S272x1024 .f32} (harg4 : arg4.IsWhole) {arg5 : Memref sig .tc .vmem S272x1024 .f32} (harg5 : arg5.IsWhole) {arg6 : Memref sig .tc .vmem S272x1024 .f32} (harg6 : arg6.IsWhole) {arg7 : Memref sig .tc .vmem S272x1024 .f32} (harg7 : arg7.IsWhole) {arg8 : Memref sig .tc .vmem S1x4096 .f32} (harg8 : arg8.IsWhole) {arg9 : Memref sig .tc .vmem S272x2048 .bf16} (harg9 : arg9.IsWhole) {arg10 : Memref sig .tc .vmem S272x2048 .bf16} (harg10 : arg10.IsWhole) {arg11 : Memref sig .tc .vmem S272x4096 .bf16} (harg11 : arg11.IsWhole) {arg12 : Memref sig .tc .vmem S1x4096 .f32} (harg12 : arg12.IsWhole) {arg13 : Memref sig .tc .vmem S8x4096 .f32} (harg13 : arg13.IsWhole)
variable (x0 x1 x2 : Vec Ideal S272x2048 .f32) (x3 x4 x5 x6 : Vec Ideal S272x1024 .f32) (x7 : Vec Ideal S1x4096 .f32) (xs0 : Vec Ideal S8x4096 .f32)

/-- The first branch's cotangent, in a block. -/
def B8 : Vec Ideal S272x2048 .bf16 := fun y => dy (row x0 (y 0)) (cat (row x3 (y 0)) (row x4 (y 0))) (from_ 0 2048 (by omega) (row x7 0)) (y 1)

/-- Its value in a chunk. -/
def P8 (r : Fin 17) : Vec Ideal S16x2048 .bf16 := k0_pay8 (rd _ harg1 x0 r) (k0_pay4 (rd _ harg4 x3 r) (rd _ harg5 x4 r) (rd1 _ harg8 x7))

/-- The chunks make it up. -/
theorem canon8 : View.canon (Val := Elt Ideal) (e := .bf16) (order.map fun r => ⟨chunk 2048 r, P8 harg1 harg4 harg5 harg8 x0 x3 x4 x7 r⟩) = B8 x0 x3 x4 x7 := by
  refine canon_chunks (e := .bf16) _ (P8 harg1 harg4 harg5 harg8 x0 x3 x4 x7) fun r p q => ?_
  refine (pay8_apply (rd _ harg1 x0 r) (rd _ harg4 x3 r) (rd _ harg5 x4 r) (rd1 _ harg8 x7) p q).trans ?_
  simp only [row_rd, rd1_eq]
  rfl

/-- The second branch's cotangent, in a block. -/
def B9 : Vec Ideal S272x2048 .bf16 := fun y => dy (row x0 (y 0)) (cat (row x5 (y 0)) (row x6 (y 0))) (from_ 2048 2048 (by omega) (row x7 0)) (y 1)

/-- Its value in a chunk. -/
def P9 (r : Fin 17) : Vec Ideal S16x2048 .bf16 := k0_pay9 (rd _ harg1 x0 r) (k0_pay5 (rd _ harg6 x5 r) (rd _ harg7 x6 r) (rd1 _ harg8 x7))

/-- The chunks make it up. -/
theorem canon9 : View.canon (Val := Elt Ideal) (e := .bf16) (order.map fun r => ⟨chunk 2048 r, P9 harg1 harg6 harg7 harg8 x0 x5 x6 x7 r⟩) = B9 x0 x5 x6 x7 := by
  refine canon_chunks (e := .bf16) _ (P9 harg1 harg6 harg7 harg8 x0 x5 x6 x7) fun r p q => ?_
  refine (pay9_apply (rd _ harg1 x0 r) (rd _ harg6 x5 r) (rd _ harg7 x6 r) (rd1 _ harg8 x7) p q).trans ?_
  simp only [row_rd, rd1_eq]
  rfl

/-- The gates' cotangents, in a block. -/
def B10 : Vec Ideal S272x4096 .bf16 := fun y => dgs (row x0 (y 0)) (row x1 (y 0)) (row x2 (y 0)) (row x3 (y 0)) (row x4 (y 0)) (row x5 (y 0)) (row x6 (y 0)) (row x7 0) (y 1)

/-- Its value in a chunk. -/
def P10 (r : Fin 17) : Vec Ideal S16x4096 .bf16 := k0_pay10 (rd _ harg1 x0 r) (rd _ harg3 x2 r) (k0_pay4 (rd _ harg4 x3 r) (rd _ harg5 x4 r) (rd1 _ harg8 x7)) (k0_pay5 (rd _ harg6 x5 r) (rd _ harg7 x6 r) (rd1 _ harg8 x7)) (k0_pay6 (rd _ harg1 x0 r) (rd _ harg2 x1 r))

/-- The chunks make it up. -/
theorem canon10 : View.canon (Val := Elt Ideal) (e := .bf16) (order.map fun r => ⟨chunk 4096 r, P10 harg1 harg2 harg3 harg4 harg5 harg6 harg7 harg8 x0 x1 x2 x3 x4 x5 x6 x7 r⟩) = B10 x0 x1 x2 x3 x4 x5 x6 x7 := by
  refine canon_chunks (e := .bf16) _ (P10 harg1 harg2 harg3 harg4 harg5 harg6 harg7 harg8 x0 x1 x2 x3 x4 x5 x6 x7) fun r p q => ?_
  refine (pay7_apply (rd _ harg1 x0 r) (rd _ harg2 x1 r) (rd _ harg3 x2 r) (rd _ harg4 x3 r) (rd _ harg5 x4 r) (rd _ harg6 x5 r) (rd _ harg7 x6 r) (rd1 _ harg8 x7) p q).trans ?_
  simp only [row_rd, rd1_eq]
  rfl

/-- The gates' biases' gradient: what a row adds. -/
def E0 (i : Fin 272) : Fin 4096 → EReal := dgs (row x0 i) (row x1 i) (row x2 i) (row x3 i) (row x4 i) (row x5 i) (row x6 i) (row x7 0)

/-- The scratch after a chunk. -/
def add0 (r : Fin 17) (a : Vec Ideal S8x4096 .f32) : Vec Ideal S8x4096 .f32 := k0_pay11 (rd _ harg1 x0 r) (rd _ harg3 x2 r) (k0_pay4 (rd _ harg4 x3 r) (rd _ harg5 x4 r) (rd1 _ harg8 x7)) (k0_pay5 (rd _ harg6 x5 r) (rd _ harg7 x6 r) (rd1 _ harg8 x7)) (k0_pay6 (rd _ harg1 x0 r) (rd _ harg2 x1 r)) a

/-- What a point adds to the scratch. -/
theorem fold0 (a : Vec Ideal S8x4096 .f32) (p : Fin 8) (q : Fin 4096) : order.foldr (add0 harg1 harg2 harg3 harg4 harg5 harg6 harg7 harg8 x0 x1 x2 x3 x4 x5 x6 x7) a (ix2 p q) = a (ix2 p q) + share (fun i => E0 x0 x1 x2 x3 x4 x5 x6 x7 i q) p :=
  foldr_apply _ (fun r p q => E0 x0 x1 x2 x3 x4 x5 x6 x7 (at16 r (lo p)) q + E0 x0 x1 x2 x3 x4 x5 x6 x7 (at16 r (hi p)) q) (fun r a p q => by
    refine (pay11_apply (rd _ harg1 x0 r) (rd _ harg2 x1 r) (rd _ harg3 x2 r) (rd _ harg4 x3 r) (rd _ harg5 x4 r) (rd _ harg6 x5 r) (rd _ harg7 x6 r) (rd1 _ harg8 x7) a p q).trans ?_
    simp only [row_rd, rd1_eq]
    rfl) a p q

/-- What the first point leaves. -/
theorem left_A (hc0 : cond0_0 i) (hc1 : ¬cond0_1 i) : out0_A_8 (F := Ideal) c i _ harg1 _ harg2 _ harg3 _ harg4 _ harg5 _ harg6 _ harg7 _ harg8 _ harg9 _ harg10 _ harg11 _ harg12 _ harg13 hc0 hc1 x0 x1 x2 x3 x4 x5 x6 x7 = B8 x0 x3 x4 x7 ∧ out0_A_9 (F := Ideal) c i _ harg1 _ harg2 _ harg3 _ harg4 _ harg5 _ harg6 _ harg7 _ harg8 _ harg9 _ harg10 _ harg11 _ harg12 _ harg13 hc0 hc1 x0 x1 x2 x3 x4 x5 x6 x7 = B9 x0 x5 x6 x7 ∧ out0_A_10 (F := Ideal) c i _ harg1 _ harg2 _ harg3 _ harg4 _ harg5 _ harg6 _ harg7 _ harg8 _ harg9 _ harg10 _ harg11 _ harg12 _ harg13 hc0 hc1 x0 x1 x2 x3 x4 x5 x6 x7 = B10 x0 x1 x2 x3 x4 x5 x6 x7 ∧ (∀ p q, sout0_A_0 (F := Ideal) c i _ harg1 _ harg2 _ harg3 _ harg4 _ harg5 _ harg6 _ harg7 _ harg8 _ harg9 _ harg10 _ harg11 _ harg12 _ harg13 hc0 hc1 x0 x1 x2 x3 x4 x5 x6 x7 (ix2 p q) = share (fun i => E0 x0 x1 x2 x3 x4 x5 x6 x7 i q) p) := by
  refine ⟨?_, ?_, ?_, fun p q => ?_⟩
  · unfold out0_A_8
    rw [View.read_writes_junk_eq_canon, ← canon8 harg1 harg4 harg5 harg8]
    unfold kernelRun0_A P8
    rfl
  · unfold out0_A_9
    rw [View.read_writes_junk_eq_canon, ← canon9 harg1 harg6 harg7 harg8]
    unfold kernelRun0_A P9
    rfl
  · unfold out0_A_10
    rw [View.read_writes_junk_eq_canon, ← canon10 harg1 harg2 harg3 harg4 harg5 harg6 harg7 harg8]
    unfold kernelRun0_A P10
    rfl
  · unfold sout0_A_0
    rw [View.read_writes_junk_eq_canon]
    refine first_held arg13 (add0 harg1 harg2 harg3 harg4 harg5 harg6 harg7 harg8 x0 x1 x2 x3 x4 x5 x6 x7) _ (fold0 harg1 harg2 harg3 harg4 harg5 harg6 harg7 harg8 x0 x1 x2 x3 x4 x5 x6 x7) pay3_apply ?_ p q
    unfold kernelRun0_A
    iterate 17 refine held_step rfl rfl ?_
    rfl

/-- What a point between leaves. -/
theorem left_B (hc0 : ¬cond0_0 i) (hc1 : ¬cond0_1 i) : out0_B_8 (F := Ideal) c i _ harg1 _ harg2 _ harg3 _ harg4 _ harg5 _ harg6 _ harg7 _ harg8 _ harg9 _ harg10 _ harg11 _ harg12 _ harg13 hc0 hc1 x0 x1 x2 x3 x4 x5 x6 x7 xs0 = B8 x0 x3 x4 x7 ∧ out0_B_9 (F := Ideal) c i _ harg1 _ harg2 _ harg3 _ harg4 _ harg5 _ harg6 _ harg7 _ harg8 _ harg9 _ harg10 _ harg11 _ harg12 _ harg13 hc0 hc1 x0 x1 x2 x3 x4 x5 x6 x7 xs0 = B9 x0 x5 x6 x7 ∧ out0_B_10 (F := Ideal) c i _ harg1 _ harg2 _ harg3 _ harg4 _ harg5 _ harg6 _ harg7 _ harg8 _ harg9 _ harg10 _ harg11 _ harg12 _ harg13 hc0 hc1 x0 x1 x2 x3 x4 x5 x6 x7 xs0 = B10 x0 x1 x2 x3 x4 x5 x6 x7 ∧ (∀ p q, sout0_B_0 (F := Ideal) c i _ harg1 _ harg2 _ harg3 _ harg4 _ harg5 _ harg6 _ harg7 _ harg8 _ harg9 _ harg10 _ harg11 _ harg12 _ harg13 hc0 hc1 x0 x1 x2 x3 x4 x5 x6 x7 xs0 (ix2 p q) = xs0 (ix2 p q) + share (fun i => E0 x0 x1 x2 x3 x4 x5 x6 x7 i q) p) := by
  refine ⟨?_, ?_, ?_, fun p q => ?_⟩
  · unfold out0_B_8
    rw [View.read_writes_junk_eq_canon, ← canon8 harg1 harg4 harg5 harg8]
    unfold kernelRun0_B P8
    rfl
  · unfold out0_B_9
    rw [View.read_writes_junk_eq_canon, ← canon9 harg1 harg6 harg7 harg8]
    unfold kernelRun0_B P9
    rfl
  · unfold out0_B_10
    rw [View.read_writes_junk_eq_canon, ← canon10 harg1 harg2 harg3 harg4 harg5 harg6 harg7 harg8]
    unfold kernelRun0_B P10
    rfl
  · unfold sout0_B_0
    rw [View.read_writes_junk_eq_canon]
    refine next_held arg13 harg13 (add0 harg1 harg2 harg3 harg4 harg5 harg6 harg7 harg8 x0 x1 x2 x3 x4 x5 x6 x7) _ (fold0 harg1 harg2 harg3 harg4 harg5 harg6 harg7 harg8 x0 x1 x2 x3 x4 x5 x6 x7) xs0 ?_ p q
    unfold kernelRun0_B
    iterate 16 refine held_step rfl rfl ?_
    rfl

/-- What the last point leaves. -/
theorem left_C (hc0 : ¬cond0_0 i) (hc1 : cond0_1 i) : out0_C_8 (F := Ideal) c i _ harg1 _ harg2 _ harg3 _ harg4 _ harg5 _ harg6 _ harg7 _ harg8 _ harg9 _ harg10 _ harg11 _ harg12 _ harg13 hc0 hc1 x0 x1 x2 x3 x4 x5 x6 x7 xs0 = B8 x0 x3 x4 x7 ∧ out0_C_9 (F := Ideal) c i _ harg1 _ harg2 _ harg3 _ harg4 _ harg5 _ harg6 _ harg7 _ harg8 _ harg9 _ harg10 _ harg11 _ harg12 _ harg13 hc0 hc1 x0 x1 x2 x3 x4 x5 x6 x7 xs0 = B9 x0 x5 x6 x7 ∧ out0_C_10 (F := Ideal) c i _ harg1 _ harg2 _ harg3 _ harg4 _ harg5 _ harg6 _ harg7 _ harg8 _ harg9 _ harg10 _ harg11 _ harg12 _ harg13 hc0 hc1 x0 x1 x2 x3 x4 x5 x6 x7 xs0 = B10 x0 x1 x2 x3 x4 x5 x6 x7 ∧ (∀ q, out0_C_11 (F := Ideal) c i _ harg1 _ harg2 _ harg3 _ harg4 _ harg5 _ harg6 _ harg7 _ harg8 _ harg9 _ harg10 _ harg11 _ harg12 _ harg13 hc0 hc1 x0 x1 x2 x3 x4 x5 x6 x7 xs0 (ix2 0 q) = ∑ p, (xs0 (ix2 p q) + share (fun i => E0 x0 x1 x2 x3 x4 x5 x6 x7 i q) p)) := by
  refine ⟨?_, ?_, ?_, fun q => ?_⟩
  · unfold out0_C_8
    rw [View.read_writes_junk_eq_canon, ← canon8 harg1 harg4 harg5 harg8]
    unfold kernelRun0_C P8
    rfl
  · unfold out0_C_9
    rw [View.read_writes_junk_eq_canon, ← canon9 harg1 harg6 harg7 harg8]
    unfold kernelRun0_C P9
    rfl
  · unfold out0_C_10
    rw [View.read_writes_junk_eq_canon, ← canon10 harg1 harg2 harg3 harg4 harg5 harg6 harg7 harg8]
    unfold kernelRun0_C P10
    rfl
  · unfold out0_C_11
    rw [View.read_writes_junk_eq_canon]
    refine last_held arg13 harg13 (add0 harg1 harg2 harg3 harg4 harg5 harg6 harg7 harg8 x0 x1 x2 x3 x4 x5 x6 x7) _ (fold0 harg1 harg2 harg3 harg4 harg5 harg6 harg7 harg8 x0 x1 x2 x3 x4 x5 x6 x7) xs0 pay2_apply ?_ q
    unfold kernelRun0_C
    refine last_step _ _ ?_
    iterate 16 refine held_step rfl rfl ?_
    rfl

end Body

variable (m : (ℓ : Loc nD τ sig) → Buf (Elt Ideal) ℓ) (ρ : Dev nD → PrngReg)

/-- Argument 0. -/
abbrev A0 (c : Dev nD) : S2176x2048.Idx → EReal := m ((c : Thread nD τ).loc main_arg0)

/-- Argument 1. -/
abbrev A1 (c : Dev nD) : S2176x2048.Idx → EReal := m ((c : Thread nD τ).loc main_arg1)

/-- Argument 2. -/
abbrev A2 (c : Dev nD) : S2176x2048.Idx → EReal := m ((c : Thread nD τ).loc main_arg2)

/-- Argument 3. -/
abbrev A3 (c : Dev nD) : S2176x9216.Idx → EReal := m ((c : Thread nD τ).loc main_arg3)

/-- Argument 4. -/
abbrev A4 (c : Dev nD) : S1x4096.Idx → EReal := m ((c : Thread nD τ).loc main_arg4)

/-- The printed index maps, decided over the grid. -/
theorem maps : ∀ t : Fin cfg0.N, Sits (win0_0.index t) t.val 0 ∧ Sits (win0_1.index t) t.val 0 ∧ Sits (win0_2.index t) t.val 0 ∧ Sits (win0_3.index t) t.val 5 ∧ Sits (win0_4.index t) t.val 6 ∧ Sits (win0_5.index t) t.val 7 ∧ Sits (win0_6.index t) t.val 8 ∧ Sits (win0_7.index t) 0 0 ∧ Sits (win0_8.index t) t.val 0 ∧ Sits (win0_9.index t) t.val 0 ∧ Sits (win0_10.index t) t.val 0 ∧ Sits (win0_11.index t) 0 0 :=
  (by decide +kernel : ∀ t : Fin grid0.N, Sits (win0_0.index t) t.val 0 ∧ Sits (win0_1.index t) t.val 0 ∧ Sits (win0_2.index t) t.val 0 ∧ Sits (win0_3.index t) t.val 5 ∧ Sits (win0_4.index t) t.val 6 ∧ Sits (win0_5.index t) t.val 7 ∧ Sits (win0_6.index t) t.val 8 ∧ Sits (win0_7.index t) 0 0 ∧ Sits (win0_8.index t) t.val 0 ∧ Sits (win0_9.index t) t.val 0 ∧ Sits (win0_10.index t) t.val 0 ∧ Sits (win0_11.index t) 0 0)

/-- The row windows write at every point, the sums' at the last. -/
theorem flushes : ∀ t : Fin cfg0.N, (cfg0.win 8).flush t = true ∧ (cfg0.win 9).flush t = true ∧ (cfg0.win 10).flush t = true ∧ ((cfg0.win 11).flush t = true ↔ t.val = 7) :=
  (by decide +kernel : ∀ t : Fin grid0.N, win0_8.flush t = true ∧ win0_9.flush t = true ∧ win0_10.flush t = true ∧ (win0_11.flush t = true ↔ t.val = 7))

/-- A row of the block of window 0. -/
theorem row0 (c : Dev nD) (t : Fin cfg0.N) (p : Fin 272) : row (R := 272) (C := 2048) (iblk m c 0 t) p = row (A0 m c) (at272 t p) := by
  obtain ⟨⟨h0, h1⟩, -⟩ := maps t
  exact funext fun k => congrArg (A0 m c) (idx2_ext _ _
    (show win0_0.index t (0 : Fin 2) * 272 + 1 * p.val = t.val * 272 + p.val by omega) (show win0_0.index t (1 : Fin 2) * 2048 + 1 * k.val = k.val by omega))

/-- A row of the block of window 1. -/
theorem row1 (c : Dev nD) (t : Fin cfg0.N) (p : Fin 272) : row (R := 272) (C := 2048) (iblk m c 1 t) p = row (A1 m c) (at272 t p) := by
  obtain ⟨-, ⟨h0, h1⟩, -⟩ := maps t
  exact funext fun k => congrArg (A1 m c) (idx2_ext _ _
    (show win0_1.index t (0 : Fin 2) * 272 + 1 * p.val = t.val * 272 + p.val by omega) (show win0_1.index t (1 : Fin 2) * 2048 + 1 * k.val = k.val by omega))

/-- A row of the block of window 2. -/
theorem row2 (c : Dev nD) (t : Fin cfg0.N) (p : Fin 272) : row (R := 272) (C := 2048) (iblk m c 2 t) p = row (A2 m c) (at272 t p) := by
  obtain ⟨-, -, ⟨h0, h1⟩, -⟩ := maps t
  exact funext fun k => congrArg (A2 m c) (idx2_ext _ _
    (show win0_2.index t (0 : Fin 2) * 272 + 1 * p.val = t.val * 272 + p.val by omega) (show win0_2.index t (1 : Fin 2) * 2048 + 1 * k.val = k.val by omega))

/-- A row of the block of window 3. -/
theorem row3 (c : Dev nD) (t : Fin cfg0.N) (p : Fin 272) : row (R := 272) (C := 1024) (iblk m c 3 t) p = from_ 5120 1024 (by omega) (row (A3 m c) (at272 t p)) := by
  obtain ⟨-, -, -, ⟨h0, h1⟩, -⟩ := maps t
  exact funext fun k => congrArg (A3 m c) (idx2_ext _ _
    (show win0_3.index t (0 : Fin 2) * 272 + 1 * p.val = t.val * 272 + p.val by omega) (show win0_3.index t (1 : Fin 2) * 1024 + 1 * k.val = 5120 + k.val by omega))

/-- A row of the block of window 4. -/
theorem row4 (c : Dev nD) (t : Fin cfg0.N) (p : Fin 272) : row (R := 272) (C := 1024) (iblk m c 4 t) p = from_ 6144 1024 (by omega) (row (A3 m c) (at272 t p)) := by
  obtain ⟨-, -, -, -, ⟨h0, h1⟩, -⟩ := maps t
  exact funext fun k => congrArg (A3 m c) (idx2_ext _ _
    (show win0_4.index t (0 : Fin 2) * 272 + 1 * p.val = t.val * 272 + p.val by omega) (show win0_4.index t (1 : Fin 2) * 1024 + 1 * k.val = 6144 + k.val by omega))

/-- A row of the block of window 5. -/
theorem row5 (c : Dev nD) (t : Fin cfg0.N) (p : Fin 272) : row (R := 272) (C := 1024) (iblk m c 5 t) p = from_ 7168 1024 (by omega) (row (A3 m c) (at272 t p)) := by
  obtain ⟨-, -, -, -, -, ⟨h0, h1⟩, -⟩ := maps t
  exact funext fun k => congrArg (A3 m c) (idx2_ext _ _
    (show win0_5.index t (0 : Fin 2) * 272 + 1 * p.val = t.val * 272 + p.val by omega) (show win0_5.index t (1 : Fin 2) * 1024 + 1 * k.val = 7168 + k.val by omega))

/-- A row of the block of window 6. -/
theorem row6 (c : Dev nD) (t : Fin cfg0.N) (p : Fin 272) : row (R := 272) (C := 1024) (iblk m c 6 t) p = from_ 8192 1024 (by omega) (row (A3 m c) (at272 t p)) := by
  obtain ⟨-, -, -, -, -, -, ⟨h0, h1⟩, -⟩ := maps t
  exact funext fun k => congrArg (A3 m c) (idx2_ext _ _
    (show win0_6.index t (0 : Fin 2) * 272 + 1 * p.val = t.val * 272 + p.val by omega) (show win0_6.index t (1 : Fin 2) * 1024 + 1 * k.val = 8192 + k.val by omega))

/-- The row of window 7. -/
theorem row7 (c : Dev nD) (t : Fin cfg0.N) : row (R := 1) (C := 4096) (iblk m c 7 t) 0 = row (A4 m c) 0 := by
  obtain ⟨-, -, -, -, -, -, -, ⟨h0, h1⟩, -⟩ := maps t
  exact funext fun k => congrArg (A4 m c) (idx2_ext _ _
    (show win0_7.index t (0 : Fin 2) * 1 + 1 * 0 = 0 by omega) (show win0_7.index t (1 : Fin 2) * 4096 + 1 * k.val = k.val by omega))

/-- What a point leaves in window 8. -/
theorem outs8 (c : Dev nD) (t : Fin cfg0.N) : (outsAt0 m c t.val t.isLt).1 = B8 (iblk m c 0 t) (iblk m c 3 t) (iblk m c 4 t) (iblk m c 7 t) := by
  rcases kinds t.val with ⟨h0, h1⟩ | ⟨h0, h1⟩ | ⟨h0, h1⟩
  · rw [outsAt0_A m c t h0 h1]
    dsimp only
    exact (left_A _ _ _ _ _ _ _ _ _ _ _ _ _ _ _ _ _ _ _ _ _ _ _ _ _).1
  · rw [outsAt0_B m c t h0 h1]
    dsimp only
    exact (left_B _ _ _ _ _ _ _ _ _ _ _ _ _ _ _ _ _ _ _ _ _ _ _ _ _ _).1
  · rw [outsAt0_C m c t h0 h1]
    dsimp only
    exact (left_C _ _ _ _ _ _ _ _ _ _ _ _ _ _ _ _ _ _ _ _ _ _ _ _ _ _).1

/-- The array of window 8 after the run. -/
theorem end8 (c : Dev nD) : (dats m 0 c).arrAt 8 cfg0.N = T8 (A0 m c) (A3 m c) (A4 m c) := by
  refine (dats m 0 c).arrAt_eq_of_cover 8 _ (fun t _ => ?_) (fun (i : S2176x2048.Idx) => ?_)
  · obtain ⟨-, -, -, -, -, -, -, -, ⟨h0, h1⟩, -⟩ := maps t
    refine (flushed8 m c t).trans ?_
    rw [outs8 m c t]
    funext y
    have ey : ((cfg0.win 8).blk t).view.emb y = ix2 (at272 t (y 0)) (y 1) := idx2_ext _ _
      (show win0_8.index t (0 : Fin 2) * 272 + 1 * (y 0).val = t.val * 272 + (y 0).val by omega)
      (show win0_8.index t (1 : Fin 2) * 2048 + 1 * (y 1).val = (y 1).val by omega)
    refine Eq.trans ?_ (congrArg (T8 (A0 m c) (A3 m c) (A4 m c)) ey.symm)
    refine Eq.trans (b := dy (row (R := 272) (iblk m c 0 t) (y 0)) (cat (row (R := 272) (iblk m c 3 t) (y 0)) (row (R := 272) (iblk m c 4 t) (y 0))) (from_ 0 2048 (by omega) (row (R := 1) (iblk m c 7 t) 0)) (y 1)) rfl ?_
    rw [row0 m c t (y 0), row3 m c t (y 0), row4 m c t (y 0), row7 m c t]
    rfl
  · obtain ⟨t, ht⟩ : ∃ t : Fin cfg0.N, t.val = (i 0).val / 272 := block_of (i 0).isLt
    obtain ⟨-, -, -, -, -, -, -, -, ⟨h0, h1⟩, -⟩ := maps t
    obtain ⟨f, -⟩ := flushes t
    refine ⟨t, f, ?_⟩
    show i ∈ ((View.whole main_v0_0).slice (win0_8.rect t)).set
    rw [View.set_slice_whole]
    exact mem_rows i _ _ (show win0_8.index t (0 : Fin 2) * 272 = _ by rw [h0, ht]) (show win0_8.index t (1 : Fin 2) * 2048 = 0 by rw [h1])

/-- What a point leaves in window 9. -/
theorem outs9 (c : Dev nD) (t : Fin cfg0.N) : (outsAt0 m c t.val t.isLt).2.1 = B9 (iblk m c 0 t) (iblk m c 5 t) (iblk m c 6 t) (iblk m c 7 t) := by
  rcases kinds t.val with ⟨h0, h1⟩ | ⟨h0, h1⟩ | ⟨h0, h1⟩
  · rw [outsAt0_A m c t h0 h1]
    dsimp only
    exact (left_A _ _ _ _ _ _ _ _ _ _ _ _ _ _ _ _ _ _ _ _ _ _ _ _ _).2.1
  · rw [outsAt0_B m c t h0 h1]
    dsimp only
    exact (left_B _ _ _ _ _ _ _ _ _ _ _ _ _ _ _ _ _ _ _ _ _ _ _ _ _ _).2.1
  · rw [outsAt0_C m c t h0 h1]
    dsimp only
    exact (left_C _ _ _ _ _ _ _ _ _ _ _ _ _ _ _ _ _ _ _ _ _ _ _ _ _ _).2.1

/-- The array of window 9 after the run. -/
theorem end9 (c : Dev nD) : (dats m 0 c).arrAt 9 cfg0.N = T9 (A0 m c) (A3 m c) (A4 m c) := by
  refine (dats m 0 c).arrAt_eq_of_cover 9 _ (fun t _ => ?_) (fun (i : S2176x2048.Idx) => ?_)
  · obtain ⟨-, -, -, -, -, -, -, -, -, ⟨h0, h1⟩, -⟩ := maps t
    refine (flushed9 m c t).trans ?_
    rw [outs9 m c t]
    funext y
    have ey : ((cfg0.win 9).blk t).view.emb y = ix2 (at272 t (y 0)) (y 1) := idx2_ext _ _
      (show win0_9.index t (0 : Fin 2) * 272 + 1 * (y 0).val = t.val * 272 + (y 0).val by omega)
      (show win0_9.index t (1 : Fin 2) * 2048 + 1 * (y 1).val = (y 1).val by omega)
    refine Eq.trans ?_ (congrArg (T9 (A0 m c) (A3 m c) (A4 m c)) ey.symm)
    refine Eq.trans (b := dy (row (R := 272) (iblk m c 0 t) (y 0)) (cat (row (R := 272) (iblk m c 5 t) (y 0)) (row (R := 272) (iblk m c 6 t) (y 0))) (from_ 2048 2048 (by omega) (row (R := 1) (iblk m c 7 t) 0)) (y 1)) rfl ?_
    rw [row0 m c t (y 0), row5 m c t (y 0), row6 m c t (y 0), row7 m c t]
    rfl
  · obtain ⟨t, ht⟩ : ∃ t : Fin cfg0.N, t.val = (i 0).val / 272 := block_of (i 0).isLt
    obtain ⟨-, -, -, -, -, -, -, -, -, ⟨h0, h1⟩, -⟩ := maps t
    obtain ⟨-, f, -⟩ := flushes t
    refine ⟨t, f, ?_⟩
    show i ∈ ((View.whole main_v0_1).slice (win0_9.rect t)).set
    rw [View.set_slice_whole]
    exact mem_rows i _ _ (show win0_9.index t (0 : Fin 2) * 272 = _ by rw [h0, ht]) (show win0_9.index t (1 : Fin 2) * 2048 = 0 by rw [h1])

/-- What a point leaves in window 10. -/
theorem outs10 (c : Dev nD) (t : Fin cfg0.N) : (outsAt0 m c t.val t.isLt).2.2.1 = B10 (iblk m c 0 t) (iblk m c 1 t) (iblk m c 2 t) (iblk m c 3 t) (iblk m c 4 t) (iblk m c 5 t) (iblk m c 6 t) (iblk m c 7 t) := by
  rcases kinds t.val with ⟨h0, h1⟩ | ⟨h0, h1⟩ | ⟨h0, h1⟩
  · rw [outsAt0_A m c t h0 h1]
    dsimp only
    exact (left_A _ _ _ _ _ _ _ _ _ _ _ _ _ _ _ _ _ _ _ _ _ _ _ _ _).2.2.1
  · rw [outsAt0_B m c t h0 h1]
    dsimp only
    exact (left_B _ _ _ _ _ _ _ _ _ _ _ _ _ _ _ _ _ _ _ _ _ _ _ _ _ _).2.2.1
  · rw [outsAt0_C m c t h0 h1]
    dsimp only
    exact (left_C _ _ _ _ _ _ _ _ _ _ _ _ _ _ _ _ _ _ _ _ _ _ _ _ _ _).2.2.1

/-- The array of window 10 after the run. -/
theorem end10 (c : Dev nD) : (dats m 0 c).arrAt 10 cfg0.N = T10 (A0 m c) (A1 m c) (A2 m c) (A3 m c) (A4 m c) := by
  refine (dats m 0 c).arrAt_eq_of_cover 10 _ (fun t _ => ?_) (fun (i : S2176x4096.Idx) => ?_)
  · obtain ⟨-, -, -, -, -, -, -, -, -, -, ⟨h0, h1⟩, -⟩ := maps t
    refine (flushed10 m c t).trans ?_
    rw [outs10 m c t]
    funext y
    have ey : ((cfg0.win 10).blk t).view.emb y = ix2 (at272 t (y 0)) (y 1) := idx2_ext _ _
      (show win0_10.index t (0 : Fin 2) * 272 + 1 * (y 0).val = t.val * 272 + (y 0).val by omega)
      (show win0_10.index t (1 : Fin 2) * 4096 + 1 * (y 1).val = (y 1).val by omega)
    refine Eq.trans ?_ (congrArg (T10 (A0 m c) (A1 m c) (A2 m c) (A3 m c) (A4 m c)) ey.symm)
    refine Eq.trans (b := dgs (row (R := 272) (iblk m c 0 t) (y 0)) (row (R := 272) (iblk m c 1 t) (y 0)) (row (R := 272) (iblk m c 2 t) (y 0)) (row (R := 272) (iblk m c 3 t) (y 0)) (row (R := 272) (iblk m c 4 t) (y 0)) (row (R := 272) (iblk m c 5 t) (y 0)) (row (R := 272) (iblk m c 6 t) (y 0)) (row (R := 1) (iblk m c 7 t) 0) (y 1)) rfl ?_
    rw [row0 m c t (y 0), row1 m c t (y 0), row2 m c t (y 0), row3 m c t (y 0), row4 m c t (y 0), row5 m c t (y 0), row6 m c t (y 0), row7 m c t]
    rfl
  · obtain ⟨t, ht⟩ : ∃ t : Fin cfg0.N, t.val = (i 0).val / 272 := block_of (i 0).isLt
    obtain ⟨-, -, -, -, -, -, -, -, -, -, ⟨h0, h1⟩, -⟩ := maps t
    obtain ⟨-, -, f, -⟩ := flushes t
    refine ⟨t, f, ?_⟩
    show i ∈ ((View.whole main_v0_2).slice (win0_10.rect t)).set
    rw [View.set_slice_whole]
    exact mem_rows i _ _ (show win0_10.index t (0 : Fin 2) * 272 = _ by rw [h0, ht]) (show win0_10.index t (1 : Fin 2) * 4096 = 0 by rw [h1])

/-- What a point adds to scratch 0, from the arrays. -/
theorem part0 (c : Dev nD) (p : Fin 8) (q : Fin 4096) (t : Fin cfg0.N) : share (fun i => E0 (iblk m c 0 t) (iblk m c 1 t) (iblk m c 2 t) (iblk m c 3 t) (iblk m c 4 t) (iblk m c 5 t) (iblk m c 6 t) (iblk m c 7 t) i q) p = share (fun i => dgs (row (A0 m c) (at272 t i)) (row (A1 m c) (at272 t i)) (row (A2 m c) (at272 t i)) (from_ 5120 1024 (by omega) (row (A3 m c) (at272 t i))) (from_ 6144 1024 (by omega) (row (A3 m c) (at272 t i))) (from_ 7168 1024 (by omega) (row (A3 m c) (at272 t i))) (from_ 8192 1024 (by omega) (row (A3 m c) (at272 t i))) (row (A4 m c) 0) q) p :=
  congrArg (fun f => share f p) (funext fun i => by
    unfold E0
    rw [row0 m c t i, row1 m c t i, row2 m c t i, row3 m c t i, row4 m c t i, row5 m c t i, row6 m c t i, row7 m c t])

/-- The array of window 11 after the run. -/
theorem end11 (c : Dev nD) : (dats m 0 c).arrAt 11 cfg0.N = T11 (A0 m c) (A1 m c) (A2 m c) (A3 m c) (A4 m c) := by
  refine (dats m 0 c).arrAt_eq_of_cover 11 _ (fun t hf => ?_) (fun (i : S1x4096.Idx) => ?_)
  · obtain ⟨-, -, -, -, -, -, -, -, -, -, -, ⟨h0, h1⟩⟩ := maps t
    obtain ⟨-, -, -, f⟩ := flushes t
    have ht : t.val = 7 := f.mp hf
    refine (flushed11_C m c t (by omega) (by omega)).trans ?_
    funext y
    obtain ⟨q, hq⟩ : ∃ q : Fin 4096, y = (ix2 0 q : S1x4096.Idx) := one_row y
    have ey : ((cfg0.win 11).blk t).view.emb (ix2 0 q : S1x4096.Idx) = (ix2 0 q : S1x4096.Idx) := idx2_ext _ _
      (show win0_11.index t (0 : Fin 2) * 1 + 1 * 0 = 0 by omega)
      (show win0_11.index t (1 : Fin 2) * 4096 + 1 * q.val = q.val by omega)
    rw [hq]
    refine Eq.trans ?_ (congrArg (T11 (A0 m c) (A1 m c) (A2 m c) (A3 m c) (A4 m c)) ey.symm)
    refine ((left_C _ _ _ _ _ _ _ _ _ _ _ _ _ _ _ _ _ _ _ _ _ _ _ _ _ _).2.2.2 q).trans ?_
    refine (Finset.sum_congr (M := EReal) rfl fun p _ => congrArg (_ + ·) (part0 m c p q t)).trans ?_
    refine summed (fun p n h => (outsAt0 m c n h).2.2.2.2 (ix2 p q)) (fun i => dgs (row (A0 m c) i) (row (A1 m c) i) (row (A2 m c) i) (from_ 5120 1024 (by omega) (row (A3 m c) i)) (from_ 6144 1024 (by omega) (row (A3 m c) i)) (from_ 7168 1024 (by omega) (row (A3 m c) i)) (from_ 8192 1024 (by omega) (row (A3 m c) i)) (row (A4 m c) 0) q) (fun p => ?_) (fun p n hn => ?_) t ht _
    · have e := outsAt0_A m c ⟨0, Nat.zero_lt_succ 7⟩ (show 0 % 8 = 0 from rfl) (show ¬0 % 8 = 7 by omega)
      dsimp only at e ⊢
      rw [e]
      dsimp only
      exact ((left_A _ _ _ _ _ _ _ _ _ _ _ _ _ _ _ _ _ _ _ _ _ _ _ _ _).2.2.2 p q).trans (part0 m c p q _)
    · have h : n + 1 < cfg0.N := show n + 1 < 8 by omega
      have e := outsAt0_B m c ⟨n + 1, h⟩ (show ¬(n + 1) % 8 = 0 by omega) (show ¬(n + 1) % 8 = 7 by omega)
      dsimp only at e ⊢
      rw [e]
      dsimp only
      exact ((left_B _ _ _ _ _ _ _ _ _ _ _ _ _ _ _ _ _ _ _ _ _ _ _ _ _ _).2.2.2 p q).trans (congrArg (_ + ·) (part0 m c p q _))
  · obtain ⟨t, ht⟩ : ∃ t : Fin cfg0.N, t.val = 7 := ⟨(7 : Fin 8), rfl⟩
    obtain ⟨-, -, -, -, -, -, -, -, -, -, -, ⟨h0, h1⟩⟩ := maps t
    obtain ⟨-, -, -, f⟩ := flushes t
    refine ⟨t, f.mpr ht, ?_⟩
    show i ∈ ((View.whole main_v0_3).slice (win0_11.rect t)).set
    rw [View.set_slice_whole]
    exact mem_row i _ _ (show win0_11.index t (0 : Fin 2) * 1 = 0 by rw [h0]) (show win0_11.index t (1 : Fin 2) * 4096 = 0 by rw [h1])

end Cert.GateBwdIdeal.Value

namespace Cert.GateBwdReferenceIdeal.Read

open Cert.GateBwdIdeal.Value Cert.Blocks Cert.Rows Cert.Gathered Idealize.ShloMosaic Idealize.ShloMosaic.TcCoe

/-- The gates' cotangents in the reference, read. -/
theorem val26_apply (D A B : (⟨S2176x2048, .f32⟩ : BufTy).Contents (Elt Ideal)) (P : (⟨S2176x9216, .f32⟩ : BufTy).Contents (Elt Ideal)) (b : (⟨S1x4096, .f32⟩ : BufTy).Contents (Elt Ideal)) (p : Fin 2176) (q : Fin 4096) :
    val_main_v26 (F := Ideal) D A B P b (ix2 p q) = dgs (row D p) (row A p) (row B p) (from_ 5120 1024 (by omega) (row P p)) (from_ 6144 1024 (by omega) (row P p)) (from_ 7168 1024 (by omega) (row P p)) (from_ 8192 1024 (by omega) (row P p)) (row b 0) q := by
  simp only [val_main_v26, val_main_v25, val_main_v24, val_main_cst_3, val_main_v23, val_main_v21, val_main_cst_2, val_main_v20, val_main_v18, val_main_v17, val_main_v11, val_main_v10, val_main_v9, val_main_cst_1, val_main_v8, val_main_v7, val_main_cst_0, val_main_v6, val_main_v5, val_main_cst, val_main_v4, val_main_v3, val_main_v2, val_main_v1, val_main_v0]
  unfold dgs
  rw [cat_from 5120 (by omega), cat_from 7168 (by omega)]
  unfold cat2 dgate from_ row sgm
  pointwise
  have hq := q.isLt
  by_cases hc : q.val < 2048
  · rw [dif_neg (by omega), dif_pos hc, dif_pos hc, zero_add (M := EReal), mul_assoc (G := EReal) _ (Ideal.div _ _)]
  · have e1 : 7168 + (q.val - 2048) = 5120 + q.val := by omega
    have e2 : 2048 + (q.val - 2048) = q.val := by omega
    rw [dif_pos (by omega), dif_neg hc, dif_neg hc, add_zero (M := EReal), mul_assoc (G := EReal) _ (Ideal.div _ _)]
    simp only [e1, e2]

/-- The first branch's cotangent in the reference, read. -/
theorem v29_eq (D : (⟨S2176x2048, .f32⟩ : BufTy).Contents (Elt Ideal)) (P : (⟨S2176x9216, .f32⟩ : BufTy).Contents (Elt Ideal)) (b : (⟨S1x4096, .f32⟩ : BufTy).Contents (Elt Ideal)) :
    val_main_v29 (F := Ideal) D P b = T8 D P b := by
  refine ext2 fun p q => ?_
  simp only [val_main_v29, val_main_v22, val_main_v17, val_main_v12, val_main_v8, val_main_v7, val_main_cst_0, val_main_v6, val_main_v5, val_main_cst, val_main_v4, val_main_v3, val_main_v2, val_main_v1, val_main_v0]
  unfold T8
  rw [cat_from 5120 (by omega)]
  unfold dy from_ row sgm
  pointwise
  exact mul_comm (G := EReal) _ _

/-- The second branch's cotangent in the reference, read. -/
theorem v30_eq (D : (⟨S2176x2048, .f32⟩ : BufTy).Contents (Elt Ideal)) (P : (⟨S2176x9216, .f32⟩ : BufTy).Contents (Elt Ideal)) (b : (⟨S1x4096, .f32⟩ : BufTy).Contents (Elt Ideal)) :
    val_main_v30 (F := Ideal) D P b = T9 D P b := by
  refine ext2 fun p q => ?_
  simp only [val_main_v30, val_main_v19, val_main_v18, val_main_v14, val_main_v8, val_main_v7, val_main_cst_0, val_main_v6, val_main_v5, val_main_cst, val_main_v4, val_main_v3, val_main_v2, val_main_v1, val_main_v0]
  unfold T9
  rw [cat_from 7168 (by omega)]
  unfold dy from_ row sgm
  pointwise
  simp only [← Nat.add_assoc, Nat.reduceAdd]
  exact mul_comm (G := EReal) _ _

/-- The gates' cotangents, rounded. -/
theorem v31_eq (D A B : (⟨S2176x2048, .f32⟩ : BufTy).Contents (Elt Ideal)) (P : (⟨S2176x9216, .f32⟩ : BufTy).Contents (Elt Ideal)) (b : (⟨S1x4096, .f32⟩ : BufTy).Contents (Elt Ideal)) :
    val_main_v31 (F := Ideal) D A B P b = T10 D A B P b := by
  refine ext2 fun p q => ?_
  exact val26_apply D A B P b p q

/-- Their sums over the rows. -/
theorem v28_eq (D A B : (⟨S2176x2048, .f32⟩ : BufTy).Contents (Elt Ideal)) (P : (⟨S2176x9216, .f32⟩ : BufTy).Contents (Elt Ideal)) (b : (⟨S1x4096, .f32⟩ : BufTy).Contents (Elt Ideal)) :
    val_main_v28 (F := Ideal) D A B P b = T11 D A B P b := by
  refine ext2 fun p q => ?_
  simp only [val_main_v28, val_main_v27, val_main_cst_4]
  unfold T11
  pointwise
  exact Finset.sum_congr (M := EReal) rfl fun k _ => val26_apply D A B P b k q

end Cert.GateBwdReferenceIdeal.Read

namespace Cert.GateBwdEq

open Idealize.ShloMosaic Idealize.ShloMosaic.TcCoe Idealize.SL.Sem Cert.GateBwdIdeal.Value

/-- The kernel and its reference leave equal results and keep their arguments. -/
theorem algebraic : Cert.algebraic_GateBwdIdeal_GateBwdReferenceIdeal := by
  intro m g m' g' _ hagree
  refine ⟨fun c => T8 (A0 m c) (A3 m c) (A4 m c), fun c => T9 (A0 m c) (A3 m c) (A4 m c), fun c => T10 (A0 m c) (A1 m c) (A2 m c) (A3 m c) (A4 m c), fun c => T11 (A0 m c) (A1 m c) (A2 m c) (A3 m c) (A4 m c),
    (θ_run Cert.GateBwdIdeal.defs _ _).mono (fun r h c => ?_) (Cert.GateBwdIdeal.Value.run_blocks m g),
    (θ_run Cert.GateBwdReferenceIdeal.defs _ _).mono (fun r h c => ?_) (Cert.GateBwdReferenceIdeal.Value.run m' g')⟩
  · obtain ⟨h0, h1, h2, h3, k⟩ := h c
    exact ⟨h0.trans (end8 m c), h1.trans (end9 m c), h2.trans (end10 m c), h3.trans (end11 m c), k⟩
  · obtain ⟨h0, h1, h2, h3, k⟩ := h c
    obtain ⟨a0, a1, a2, a3, a4⟩ := hagree c
    rw [a0, a3, a4] at h0
    rw [a0, a3, a4] at h1
    rw [a0, a1, a2, a3, a4] at h2
    rw [a0, a1, a2, a3, a4] at h3
    exact ⟨h0.trans ((Cert.GateBwdReferenceIdeal.Read.val_main_v29_eq _ _ _).trans (Cert.GateBwdReferenceIdeal.Read.v29_eq _ _ _)), h1.trans ((Cert.GateBwdReferenceIdeal.Read.val_main_v30_eq _ _ _).trans (Cert.GateBwdReferenceIdeal.Read.v30_eq _ _ _)), h2.trans ((Cert.GateBwdReferenceIdeal.Read.val_main_v31_eq _ _ _ _ _).trans (Cert.GateBwdReferenceIdeal.Read.v31_eq _ _ _ _ _)), h3.trans ((Cert.GateBwdReferenceIdeal.Read.val_main_v28_eq _ _ _ _ _).trans (Cert.GateBwdReferenceIdeal.Read.v28_eq _ _ _ _ _)), k⟩

end Cert.GateBwdEq

end
-- ==== Proof.GateEq.lean ====
/- The merged branches and their reference, read: each branch's output times the logistic function of its gate, added up. -/
module

public import proofs.«01_k».proof.Defs
public import proofs.«01_k».proof.Proof.Gen.GateIdeal.Value
public import proofs.«01_k».proof.Proof.Gen.GateReferenceIdeal.Run
public import proofs.«01_k».proof.Proof.Gen.GateReferenceIdeal.Read
public import proofs.«01_k».proof.Proof.Rows

@[expose] public section

set_option maxRecDepth 16384

noncomputable section

namespace Cert.GateIdeal.Value

open Cert.GateIdeal Cert.GateIdeal.Gen Idealize.ShloMosaic Idealize.ShloMosaic.TcCoe Idealize.SL.Sem Cert.Blocks Cert.Rows
open Idealize.ShloMosaic.Pipeline (Dat)

variable (m : (ℓ : Loc nD τ sig) → Buf (Elt Ideal) ℓ) (ρ : Dev nD → PrngReg)

/-- One row of the merged branches: each branch's output times the logistic function of its gate. -/
def merge (ga gb ba bb ya yb : Fin 2048 → EReal) (q : Fin 2048) : EReal := sgm (ga q + ba q) * ya q + sgm (gb q + bb q) * yb q

/-- The merged branches; the gates are the projection's columns from 5120 on. -/
def G (A B : S2176x2048.Idx → EReal) (P : S2176x9216.Idx → EReal) (b : S1x4096.Idx → EReal) (i : S2176x2048.Idx) : EReal :=
  merge (from_ 5120 2048 (by omega) (row P (i 0))) (from_ 7168 2048 (by omega) (row P (i 0))) (from_ 0 2048 (by omega) (row b 0)) (from_ 2048 2048 (by omega) (row b 0)) (row A (i 0)) (row B (i 0)) (i 1)

/-- One chunk of the merge. -/
theorem pay_apply (x0 x1 : Vec Ideal S16x2048 .f32) (x2 x3 x4 x5 : Vec Ideal S16x1024 .f32) (w : Vec Ideal S1x4096 .f32) (p : Fin 16) (q : Fin 2048) :
    k0_pay2 x0 x1 x2 x3 x4 x5 w (ix2 p q) = merge (cat (row x2 p) (row x3 p)) (cat (row x4 p) (row x5 p)) (from_ 0 2048 (by omega) (row w 0)) (from_ 2048 2048 (by omega) (row w 0)) (row x0 p) (row x1 p) q := by
  unfold k0_pay2 merge cat from_ row sgm
  pointwise
  simp only [zero_sub, Nat.zero_add]

/-- What the body leaves: the merge of the block's rows. -/
theorem out_eq (x0 x1 : Vec Ideal S272x2048 .f32) (x2 x3 x4 x5 : Vec Ideal S272x1024 .f32) (w : Vec Ideal S1x4096 .f32) :
    out0_7 x0 x1 x2 x3 x4 x5 w = fun y : S272x2048.Idx => merge (cat (row x2 (y 0)) (row x3 (y 0))) (cat (row x4 (y 0)) (row x5 (y 0))) (from_ 0 2048 (by omega) (row w 0)) (from_ 2048 2048 (by omega) (row w 0)) (row x0 (y 0)) (row x1 (y 0)) (y 1) := by
  have hw : View.ld (Val := Elt Ideal) w r0_2 = w := View.ld_unit_zero zero2 _ w
  refine canon_chunks (e := .bf16) _ (fun r => k0_pay2 (View.ld (Val := Elt Ideal) x0 (chunk 2048 r)) (View.ld (Val := Elt Ideal) x1 (chunk 2048 r)) (View.ld (Val := Elt Ideal) x2 (chunk 1024 r)) (View.ld (Val := Elt Ideal) x3 (chunk 1024 r)) (View.ld (Val := Elt Ideal) x4 (chunk 1024 r)) (View.ld (Val := Elt Ideal) x5 (chunk 1024 r)) (View.ld (Val := Elt Ideal) w r0_2)) fun r p q => ?_
  rw [hw, pay_apply]
  exact congrFun (congr (congrArg₂ (fun f g => merge f g (from_ 0 2048 (by omega) (row w 0)) (from_ 2048 2048 (by omega) (row w 0))) (congrArg₂ cat (row_chunk x2 r p) (row_chunk x3 r p)) (congrArg₂ cat (row_chunk x4 r p) (row_chunk x5 r p)) |> fun h => congr h (row_chunk x0 r p)) (row_chunk x1 r p)) q

/-- The printed index maps, decided over the grid: point `t` takes block `t` of the rows, and the gates' columns are the blocks five to eight. -/
theorem maps : ∀ t : Fin cfg0.N, (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 5) ∧ (win0_3.index t (0 : Fin 2) = t.val ∧ win0_3.index t (1 : Fin 2) = 6)
    ∧ (win0_4.index t (0 : Fin 2) = t.val ∧ win0_4.index t (1 : Fin 2) = 7) ∧ (win0_5.index t (0 : Fin 2) = t.val ∧ win0_5.index t (1 : Fin 2) = 8)
    ∧ (win0_6.index t (0 : Fin 2) = 0 ∧ win0_6.index t (1 : Fin 2) = 0) ∧ (win0_7.index t (0 : Fin 2) = t.val ∧ win0_7.index t (1 : Fin 2) = 0) ∧ (cfg0.win 7).flush t = true :=
  (by decide +kernel : ∀ t : Fin grid0.N, (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 5) ∧ (win0_3.index t (0 : Fin 2) = t.val ∧ win0_3.index t (1 : Fin 2) = 6)
    ∧ (win0_4.index t (0 : Fin 2) = t.val ∧ win0_4.index t (1 : Fin 2) = 7) ∧ (win0_5.index t (0 : Fin 2) = t.val ∧ win0_5.index t (1 : Fin 2) = 8)
    ∧ (win0_6.index t (0 : Fin 2) = 0 ∧ win0_6.index t (1 : Fin 2) = 0) ∧ (win0_7.index t (0 : Fin 2) = t.val ∧ win0_7.index t (1 : Fin 2) = 0) ∧ win0_7.flush t = true)

/-- A row of the first branch's block. -/
theorem row0 (c : Dev nD) (t : Fin cfg0.N) (p : Fin 272) : row (R := 272) (C := 2048) (iblk m c 0 t) p = row (m ((c : Thread nD τ).loc main_arg0)) (at272 t p) := by
  obtain ⟨⟨h0, h1⟩, -⟩ := maps t
  exact funext fun k => congrArg (m ((c : Thread nD τ).loc main_arg0)) (idx2_ext _ _
    (show win0_0.index t (0 : Fin 2) * 272 + 1 * p.val = t.val * 272 + p.val by omega) (show win0_0.index t (1 : Fin 2) * 2048 + 1 * k.val = k.val by omega))

/-- A row of the second branch's block. -/
theorem row1 (c : Dev nD) (t : Fin cfg0.N) (p : Fin 272) : row (R := 272) (C := 2048) (iblk m c 1 t) p = row (m ((c : Thread nD τ).loc main_arg1)) (at272 t p) := by
  obtain ⟨-, ⟨h0, h1⟩, -⟩ := maps t
  exact funext fun k => congrArg (m ((c : Thread nD τ).loc main_arg1)) (idx2_ext _ _
    (show win0_1.index t (0 : Fin 2) * 272 + 1 * p.val = t.val * 272 + p.val by omega) (show win0_1.index t (1 : Fin 2) * 2048 + 1 * k.val = k.val by omega))

/-- A row of the first gate's first columns. -/
theorem row2 (c : Dev nD) (t : Fin cfg0.N) (p : Fin 272) : row (R := 272) (C := 1024) (iblk m c 2 t) p = from_ 5120 1024 (by omega) (row (m ((c : Thread nD τ).loc main_arg2)) (at272 t p)) := by
  obtain ⟨-, -, ⟨h0, h1⟩, -⟩ := maps t
  exact funext fun k => congrArg (m ((c : Thread nD τ).loc main_arg2)) (idx2_ext _ _
    (show win0_2.index t (0 : Fin 2) * 272 + 1 * p.val = t.val * 272 + p.val by omega) (show win0_2.index t (1 : Fin 2) * 1024 + 1 * k.val = 5120 + k.val by omega))

/-- A row of the first gate's last columns. -/
theorem row3 (c : Dev nD) (t : Fin cfg0.N) (p : Fin 272) : row (R := 272) (C := 1024) (iblk m c 3 t) p = from_ 6144 1024 (by omega) (row (m ((c : Thread nD τ).loc main_arg2)) (at272 t p)) := by
  obtain ⟨-, -, -, ⟨h0, h1⟩, -⟩ := maps t
  exact funext fun k => congrArg (m ((c : Thread nD τ).loc main_arg2)) (idx2_ext _ _
    (show win0_3.index t (0 : Fin 2) * 272 + 1 * p.val = t.val * 272 + p.val by omega) (show win0_3.index t (1 : Fin 2) * 1024 + 1 * k.val = 6144 + k.val by omega))

/-- A row of the second gate's first columns. -/
theorem row4 (c : Dev nD) (t : Fin cfg0.N) (p : Fin 272) : row (R := 272) (C := 1024) (iblk m c 4 t) p = from_ 7168 1024 (by omega) (row (m ((c : Thread nD τ).loc main_arg2)) (at272 t p)) := by
  obtain ⟨-, -, -, -, ⟨h0, h1⟩, -⟩ := maps t
  exact funext fun k => congrArg (m ((c : Thread nD τ).loc main_arg2)) (idx2_ext _ _
    (show win0_4.index t (0 : Fin 2) * 272 + 1 * p.val = t.val * 272 + p.val by omega) (show win0_4.index t (1 : Fin 2) * 1024 + 1 * k.val = 7168 + k.val by omega))

/-- A row of the second gate's last columns. -/
theorem row5 (c : Dev nD) (t : Fin cfg0.N) (p : Fin 272) : row (R := 272) (C := 1024) (iblk m c 5 t) p = from_ 8192 1024 (by omega) (row (m ((c : Thread nD τ).loc main_arg2)) (at272 t p)) := by
  obtain ⟨-, -, -, -, -, ⟨h0, h1⟩, -⟩ := maps t
  exact funext fun k => congrArg (m ((c : Thread nD τ).loc main_arg2)) (idx2_ext _ _
    (show win0_5.index t (0 : Fin 2) * 272 + 1 * p.val = t.val * 272 + p.val by omega) (show win0_5.index t (1 : Fin 2) * 1024 + 1 * k.val = 8192 + k.val by omega))

/-- The gates' biases. -/
theorem row6 (c : Dev nD) (t : Fin cfg0.N) : row (R := 1) (C := 4096) (iblk m c 6 t) 0 = row (m ((c : Thread nD τ).loc main_arg3)) 0 := by
  obtain ⟨-, -, -, -, -, -, ⟨h0, h1⟩, -⟩ := maps t
  exact funext fun k => congrArg (m ((c : Thread nD τ).loc main_arg3)) (idx2_ext _ _
    (show win0_6.index t (0 : Fin 2) * 1 + 1 * 0 = 0 by omega) (show win0_6.index t (1 : Fin 2) * 4096 + 1 * k.val = k.val by omega))

/-- The first gate's row. -/
theorem gateA (c : Dev nD) (t : Fin cfg0.N) (p : Fin 272) : cat (row (R := 272) (C := 1024) (iblk m c 2 t) p) (row (R := 272) (C := 1024) (iblk m c 3 t) p) = from_ 5120 2048 (by omega) (row (m ((c : Thread nD τ).loc main_arg2)) (at272 t p)) :=
  (congrArg₂ cat (row2 m c t p) (row3 m c t p)).trans (cat_from 5120 (by omega) _)

/-- The second gate's row. -/
theorem gateB (c : Dev nD) (t : Fin cfg0.N) (p : Fin 272) : cat (row (R := 272) (C := 1024) (iblk m c 4 t) p) (row (R := 272) (C := 1024) (iblk m c 5 t) p) = from_ 7168 2048 (by omega) (row (m ((c : Thread nD τ).loc main_arg2)) (at272 t p)) :=
  (congrArg₂ cat (row4 m c t p) (row5 m c t p)).trans (cat_from 7168 (by omega) _)

/-- What a point writes back is its block of the merge. -/
theorem flushed_eq (c : Dev nD) (t : Fin cfg0.N) :
    (dats m 0 c).flushed 7 t = ((cfg0.win 7).blk t).view.read (Elt Ideal) (G (m ((c : Thread nD τ).loc main_arg0)) (m ((c : Thread nD τ).loc main_arg1)) (m ((c : Thread nD τ).loc main_arg2)) (m ((c : Thread nD τ).loc main_arg3))) := by
  obtain ⟨-, -, -, -, -, -, -, ⟨h0, h1⟩, -⟩ := maps t
  refine (flushed7 m c t).trans ?_
  funext y
  refine (congrFun (out_eq (iblk m c 0 t) (iblk m c 1 t) (iblk m c 2 t) (iblk m c 3 t) (iblk m c 4 t) (iblk m c 5 t) (iblk m c 6 t)) y).trans ?_
  have ey : ((cfg0.win 7).blk t).view.emb y = ix2 (at272 t (y 0)) (y 1) := idx2_ext _ _
    (show win0_7.index t (0 : Fin 2) * 272 + 1 * (y 0).val = t.val * 272 + (y 0).val by omega)
    (show win0_7.index t (1 : Fin 2) * 2048 + 1 * (y 1).val = (y 1).val by omega)
  refine Eq.trans ?_ (congrArg (G (m ((c : Thread nD τ).loc main_arg0)) (m ((c : Thread nD τ).loc main_arg1)) (m ((c : Thread nD τ).loc main_arg2)) (m ((c : Thread nD τ).loc main_arg3))) ey.symm)
  exact congrFun (congr (congr (congr (congr (congrArg₂ merge (gateA m c t (y 0)) (gateB m c t (y 0))) (congrArg (from_ 0 2048 (by omega)) (row6 m c t))) (congrArg (from_ 2048 2048 (by omega)) (row6 m c t))) (row0 m c t (y 0))) (row1 m c t (y 0))) (y 1)

/-- The merged branches after the run. -/
theorem final (c : Dev nD) : (dats m 0 c).arrAt 7 cfg0.N = G (m ((c : Thread nD τ).loc main_arg0)) (m ((c : Thread nD τ).loc main_arg1)) (m ((c : Thread nD τ).loc main_arg2)) (m ((c : Thread nD τ).loc main_arg3)) := by
  refine (dats m 0 c).arrAt_eq_of_cover 7 _ (fun t _ => flushed_eq m c t) (fun (i : S2176x2048.Idx) => ?_)
  have hi0 : (i 0).val < 2176 := (i 0).isLt
  obtain ⟨t, ht⟩ : ∃ t : Fin cfg0.N, t.val = (i 0).val / 272 := ⟨⟨(i 0).val / 272, by show (i 0).val / 272 < 8; omega⟩, rfl⟩
  obtain ⟨-, -, -, -, -, -, -, ⟨h0, h1⟩, hf⟩ := maps t
  refine ⟨t, hf, ?_⟩
  show i ∈ ((View.whole main_v0).slice (win0_7.rect t)).set
  rw [View.set_slice_whole]
  exact mem_rows i _ _ (show win0_7.index t (0 : Fin 2) * 272 = _ by rw [h0, ht]) (show win0_7.index t (1 : Fin 2) * 2048 = 0 by rw [h1])

end Cert.GateIdeal.Value

namespace Cert.GateReferenceIdeal.Read

open Cert.GateIdeal.Value Cert.Blocks Cert.Rows Idealize.ShloMosaic Idealize.ShloMosaic.TcCoe

/-- The reference's merge, read: the same. -/
theorem val_eq (A B : (⟨S2176x2048, .f32⟩ : BufTy).Contents (Elt Ideal)) (P : (⟨S2176x9216, .f32⟩ : BufTy).Contents (Elt Ideal)) (b : (⟨S1x4096, .f32⟩ : BufTy).Contents (Elt Ideal)) :
    val_main_v14 (F := Ideal) A B P b = G A B P b := by
  refine ext2 fun p q => ?_
  simp only [val_main_v14, val_main_v13, val_main_v12, val_main_v11, val_main_v10, val_main_v9, val_main_v8, val_main_v7, val_main_v6, val_main_v5, val_main_v4, val_main_v3, val_main_v2, val_main_v1, val_main_v0, val_main_cst, val_main_cst_0]
  unfold G merge from_ row sgm
  pointwise
  simp only [← Nat.add_assoc, Nat.zero_add, Nat.reduceAdd]

end Cert.GateReferenceIdeal.Read

namespace Cert.GateEq

open Idealize.ShloMosaic Idealize.ShloMosaic.TcCoe Idealize.SL.Sem Cert.GateIdeal.Value

/-- The kernel and its reference leave equal results and keep their arguments. -/
theorem algebraic : Cert.algebraic_GateIdeal_GateReferenceIdeal := by
  intro m g m' g' _ hagree
  refine ⟨fun c => G (m ((c : Thread Cert.GateIdeal.nD Cert.GateIdeal.τ).loc Cert.GateIdeal.main_arg0)) (m ((c : Thread Cert.GateIdeal.nD Cert.GateIdeal.τ).loc Cert.GateIdeal.main_arg1)) (m ((c : Thread Cert.GateIdeal.nD Cert.GateIdeal.τ).loc Cert.GateIdeal.main_arg2)) (m ((c : Thread Cert.GateIdeal.nD Cert.GateIdeal.τ).loc Cert.GateIdeal.main_arg3)),
    (θ_run Cert.GateIdeal.defs _ _).mono (fun r h c => ?_) (Cert.GateIdeal.Value.run_blocks m g),
    (θ_run Cert.GateReferenceIdeal.defs _ _).mono (fun r h c => ?_) (Cert.GateReferenceIdeal.Value.run m' g')⟩
  · obtain ⟨h0, k⟩ := h c
    exact ⟨h0.trans (final m c), k⟩
  · obtain ⟨h0, k⟩ := h c
    obtain ⟨a0, a1, a2, a3⟩ := hagree c
    rw [a0, a1, a2, a3] at h0
    exact ⟨h0.trans ((Cert.GateReferenceIdeal.Read.val_main_v14_eq _ _ _ _).trans (Cert.GateReferenceIdeal.Read.val_eq _ _ _ _)), k⟩

end Cert.GateEq

end
-- ==== Proof.NormInEq.lean ====
/- The normalised input and its reference, read: every element is its row's root-mean-square norm at that column. -/
module

public import proofs.«01_k».proof.Defs
public import proofs.«01_k».proof.Proof.Gen.NormInIdeal.Value
public import proofs.«01_k».proof.Proof.Gen.NormInReferenceIdeal.Run
public import proofs.«01_k».proof.Proof.Gen.NormInReferenceIdeal.Read
public import proofs.«01_k».proof.Proof.Rows

@[expose] public section

set_option maxRecDepth 16384

noncomputable section

namespace Cert.NormInIdeal.Value

open Cert.NormInIdeal Cert.NormInIdeal.Gen Idealize.ShloMosaic Idealize.ShloMosaic.TcCoe Idealize.SL.Sem Cert.Blocks Cert.Rows
open Idealize.ShloMosaic.Pipeline (Dat)

variable (m : (ℓ : Loc nD τ sig) → Buf (Elt Ideal) ℓ) (ρ : Dev nD → PrngReg)

/-- The result: the norm of the row. -/
def G (A : S2176x2048.Idx → EReal) (W : S1x2048.Idx → EReal) (i : S2176x2048.Idx) : EReal :=
  rms (row A (i 0)) (row W 0) (i 1)

/-- One chunk's norms. -/
theorem pay_apply (x : Vec Ideal S16x2048 .f32) (w : Vec Ideal S1x2048 .f32) (p : Fin 16) (q : Fin 2048) :
    k0_pay2 x w (ix2 p q) = rms (row x p) (row w 0) q := by
  unfold k0_pay2 rms row
  pointwise

/-- What the body leaves: the norms of the block's rows. -/
theorem out_eq (x : Vec Ideal S272x2048 .f32) (w : Vec Ideal S1x2048 .f32) :
    out0_2 x w = fun y : S272x2048.Idx => rms (row x (y 0)) (row w 0) (y 1) := by
  have hw : View.ld (Val := Elt Ideal) w r0_1 = w := View.ld_unit_zero zero2 _ w
  refine (canon_chunks (e := .bf16) _ (fun r => k0_pay2 (View.ld (Val := Elt Ideal) x (chunk 2048 r)) (View.ld (Val := Elt Ideal) w r0_1)) fun r p q => ?_)
  rw [hw, pay_apply]
  exact congrArg (fun f => rms f (row w 0) q) (row_chunk x r p)

/-- The printed index maps, decided over the grid: point `t` takes block `t` of the rows. -/
theorem maps : ∀ t : Fin cfg0.N, win0_0.index t (0 : Fin 2) = t.val ∧ win0_0.index t (1 : Fin 2) = 0 ∧ win0_1.index t (0 : Fin 2) = 0 ∧ win0_1.index t (1 : Fin 2) = 0 ∧ win0_2.index t (0 : Fin 2) = t.val ∧ win0_2.index t (1 : Fin 2) = 0 ∧ (cfg0.win 2).flush t = true :=
  (by decide +kernel : ∀ t : Fin grid0.N, win0_0.index t (0 : Fin 2) = t.val ∧ win0_0.index t (1 : Fin 2) = 0 ∧ win0_1.index t (0 : Fin 2) = 0 ∧ win0_1.index t (1 : Fin 2) = 0 ∧ win0_2.index t (0 : Fin 2) = t.val ∧ win0_2.index t (1 : Fin 2) = 0 ∧ win0_2.flush t = true)

/-- What a point writes back is its block of the norms. -/
theorem flushed_eq (c : Dev nD) (t : Fin cfg0.N) :
    (dats m 0 c).flushed 2 t = ((cfg0.win 2).blk t).view.read (Elt Ideal) (G (m ((c : Thread nD τ).loc main_arg0)) (m ((c : Thread nD τ).loc main_arg1))) := by
  obtain ⟨a0, a1, b0, b1, c0, c1, -⟩ := maps t
  refine (flushed2 m c t).trans ?_
  funext y
  refine (congrFun (out_eq (iblk m c 0 t) (iblk m c 1 t)) y).trans ?_
  have ey : ((cfg0.win 2).blk t).view.emb y = ix2 (at272 t (y 0)) (y 1) := idx2_ext _ _
    (show win0_2.index t (0 : Fin 2) * 272 + 1 * (y 0).val = t.val * 272 + (y 0).val by omega)
    (show win0_2.index t (1 : Fin 2) * 2048 + 1 * (y 1).val = (y 1).val by omega)
  refine Eq.trans ?_ (congrArg (G (m ((c : Thread nD τ).loc main_arg0)) (m ((c : Thread nD τ).loc main_arg1))) ey.symm)
  refine congrArg₂ (fun f g => rms f g (y 1)) (funext fun k => ?_) (funext fun k => ?_)
  · exact congrArg (m ((c : Thread nD τ).loc main_arg0)) (idx2_ext _ _
      (show win0_0.index t (0 : Fin 2) * 272 + 1 * (y 0).val = t.val * 272 + (y 0).val by omega)
      (show win0_0.index t (1 : Fin 2) * 2048 + 1 * k.val = k.val by omega))
  · exact congrArg (m ((c : Thread nD τ).loc main_arg1)) (idx2_ext _ _
      (show win0_1.index t (0 : Fin 2) * 1 + 1 * 0 = 0 by omega)
      (show win0_1.index t (1 : Fin 2) * 2048 + 1 * k.val = k.val by omega))

/-- The result after the run. -/
theorem final (c : Dev nD) : (dats m 0 c).arrAt 2 cfg0.N = G (m ((c : Thread nD τ).loc main_arg0)) (m ((c : Thread nD τ).loc main_arg1)) := by
  refine (dats m 0 c).arrAt_eq_of_cover 2 _ (fun t hf => flushed_eq m c t) (fun (i : S2176x2048.Idx) => ?_)
  have hi0 : (i 0).val < 2176 := (i 0).isLt
  obtain ⟨t, ht⟩ : ∃ t : Fin cfg0.N, t.val = (i 0).val / 272 := ⟨⟨(i 0).val / 272, by show (i 0).val / 272 < 8; omega⟩, rfl⟩
  obtain ⟨-, -, -, -, c0, c1, hf⟩ := maps t
  refine ⟨t, hf, ?_⟩
  show i ∈ ((View.whole main_v0).slice (win0_2.rect t)).set
  rw [View.set_slice_whole]
  exact mem_rows i _ _ (show win0_2.index t (0 : Fin 2) * 272 = _ by rw [c0, ht]) (show win0_2.index t (1 : Fin 2) * 2048 = 0 by rw [c1])

end Cert.NormInIdeal.Value

namespace Cert.NormInReferenceIdeal.Read

open Cert.Blocks Cert.Rows Idealize.ShloMosaic Idealize.ShloMosaic.TcCoe

/-- The reference, read: the same norms. -/
theorem val_eq (A : (⟨S2176x2048, .f32⟩ : BufTy).Contents (Elt Ideal)) (W : (⟨S1x2048, .f32⟩ : BufTy).Contents (Elt Ideal)) :
    val_main_v12 (F := Ideal) A W = Cert.NormInIdeal.Value.G A W := by
  refine ext2 fun p q => ?_
  simp only [val_main_v12, val_main_v11, val_main_v10, val_main_v9, val_main_v8, val_main_v7, val_main_v6, val_main_v5, val_main_v4, val_main_v3, val_main_v2, val_main_v1, val_main_v0, val_main_cst, val_main_cst_0, val_main_cst_1]
  unfold Cert.NormInIdeal.Value.G rms row
  pointwise

end Cert.NormInReferenceIdeal.Read

namespace Cert.NormInEq

open Idealize.ShloMosaic Idealize.ShloMosaic.TcCoe Idealize.SL.Sem

/-- The kernel and its reference leave equal results and keep their arguments. -/
theorem algebraic : Cert.algebraic_NormInIdeal_NormInReferenceIdeal := by
  intro m g m' g' _ hagree
  refine ⟨fun c => Cert.NormInIdeal.Value.G (m ((c : Thread Cert.NormInIdeal.nD Cert.NormInIdeal.τ).loc Cert.NormInIdeal.main_arg0)) (m ((c : Thread Cert.NormInIdeal.nD Cert.NormInIdeal.τ).loc Cert.NormInIdeal.main_arg1)),
    (θ_run Cert.NormInIdeal.defs _ _).mono (fun r h c => ?_) (Cert.NormInIdeal.Value.run_blocks m g),
    (θ_run Cert.NormInReferenceIdeal.defs _ _).mono (fun r h c => ?_) (Cert.NormInReferenceIdeal.Value.run m' g')⟩
  · obtain ⟨h0, k0, k1⟩ := h c
    exact ⟨h0.trans (Cert.NormInIdeal.Value.final m c), k0, k1⟩
  · obtain ⟨h0, k0, k1⟩ := h c
    obtain ⟨a0, a1⟩ := hagree c
    rw [a0, a1] at h0
    exact ⟨h0.trans ((Cert.NormInReferenceIdeal.Read.val_main_v12_eq _ _).trans (Cert.NormInReferenceIdeal.Read.val_eq _ _)), k0, k1⟩

end Cert.NormInEq

end
-- ==== Proof.PostMixEq.lean ====
/- The state after the mixing branch, its norm and their reference, read: every element from its row. -/
module

public import proofs.«01_k».proof.Defs
public import proofs.«01_k».proof.Proof.Gen.PostMixIdeal.Value
public import proofs.«01_k».proof.Proof.Gen.PostMixReferenceIdeal.Run
public import proofs.«01_k».proof.Proof.Gen.PostMixReferenceIdeal.Read
public import proofs.«01_k».proof.Proof.Rows

@[expose] public section

set_option maxRecDepth 16384

noncomputable section

namespace Cert.PostMixIdeal.Value

open Cert.PostMixIdeal Cert.PostMixIdeal.Gen Idealize.ShloMosaic Idealize.ShloMosaic.TcCoe Idealize.SL.Sem Cert.Blocks Cert.Rows
open Idealize.ShloMosaic.Pipeline (Dat)

variable (m : (ℓ : Loc nD τ sig) → Buf (Elt Ideal) ℓ) (ρ : Dev nD → PrngReg)

/-- One row of the state after the mixing branch: the row before it plus the branch's norm. -/
def mid (h x : Fin 2048 → EReal) (w : Fin 2048 → EReal) (q : Fin 2048) : EReal := h q + rms x w q

/-- The state after the mixing branch. -/
def G4 (H X : S2176x2048.Idx → EReal) (W : S1x2048.Idx → EReal) (i : S2176x2048.Idx) : EReal :=
  mid (row H (i 0)) (row X (i 0)) (row W 0) (i 1)

/-- Its norm. -/
def G5 (H X : S2176x2048.Idx → EReal) (W W' : S1x2048.Idx → EReal) (i : S2176x2048.Idx) : EReal :=
  rms (mid (row H (i 0)) (row X (i 0)) (row W 0)) (row W' 0) (i 1)

/-- One chunk of the state. -/
theorem pay4_apply (h x : Vec Ideal S16x2048 .f32) (w : Vec Ideal S1x2048 .f32) (p : Fin 16) (q : Fin 2048) :
    k0_pay3 h x w (ix2 p q) = mid (row h p) (row x p) (row w 0) q := by
  unfold k0_pay3 mid rms row
  pointwise

/-- One chunk of its norm. -/
theorem pay5_apply (h x : Vec Ideal S16x2048 .f32) (w w' : Vec Ideal S1x2048 .f32) (p : Fin 16) (q : Fin 2048) :
    k0_pay4 h x w w' (ix2 p q) = rms (mid (row h p) (row x p) (row w 0)) (row w' 0) q := by
  unfold k0_pay4 k0_pay3 mid rms row
  pointwise

/-- What the body leaves of the state. -/
theorem out4_eq (h x : Vec Ideal S272x2048 .f32) (w w' : Vec Ideal S1x2048 .f32) :
    out0_4 h x w w' = fun y : S272x2048.Idx => mid (row h (y 0)) (row x (y 0)) (row w 0) (y 1) := by
  have hw : View.ld (Val := Elt Ideal) w r0_1 = w := View.ld_unit_zero zero2 _ w
  refine canon_chunks (e := .f32) _ (fun r => k0_pay3 (View.ld (Val := Elt Ideal) h (chunk 2048 r)) (View.ld (Val := Elt Ideal) x (chunk 2048 r)) (View.ld (Val := Elt Ideal) w r0_1)) fun r p q => ?_
  rw [hw, pay4_apply]
  exact congrArg₂ (fun f g => mid f g (row w 0) q) (row_chunk h r p) (row_chunk x r p)

/-- What the body leaves of its norm. -/
theorem out5_eq (h x : Vec Ideal S272x2048 .f32) (w w' : Vec Ideal S1x2048 .f32) :
    out0_5 h x w w' = fun y : S272x2048.Idx => rms (mid (row h (y 0)) (row x (y 0)) (row w 0)) (row w' 0) (y 1) := by
  have hw : View.ld (Val := Elt Ideal) w r0_1 = w := View.ld_unit_zero zero2 _ w
  have hw' : View.ld (Val := Elt Ideal) w' r0_1 = w' := View.ld_unit_zero zero2 _ w'
  refine canon_chunks (e := .bf16) _ (fun r => k0_pay4 (View.ld (Val := Elt Ideal) h (chunk 2048 r)) (View.ld (Val := Elt Ideal) x (chunk 2048 r)) (View.ld (Val := Elt Ideal) w r0_1) (View.ld (Val := Elt Ideal) w' r0_1)) fun r p q => ?_
  rw [hw, hw', pay5_apply]
  exact congrArg₂ (fun f g => rms (mid f g (row w 0)) (row w' 0) q) (row_chunk h r p) (row_chunk x r p)

/-- The printed index maps, decided over the grid: point `t` takes block `t` of the rows. -/
theorem maps : ∀ t : Fin cfg0.N, (win0_0.index t (0 : Fin 2) = t.val ∧ win0_0.index t (1 : Fin 2) = 0) ∧ (win0_1.index t (0 : Fin 2) = t.val ∧ win0_1.index t (1 : Fin 2) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0) :=
  (by decide +kernel : ∀ t : Fin grid0.N, _)

/-- Every point writes back. -/
theorem flushes : ∀ t : Fin cfg0.N, (cfg0.win 4).flush t = true ∧ (cfg0.win 5).flush t = true :=
  (by decide +kernel : ∀ t : Fin grid0.N, win0_4.flush t = true ∧ win0_5.flush t = true)

/-- A row of the first operand's block. -/
theorem row0 (c : Dev nD) (t : Fin cfg0.N) (p : Fin 272) : row (R := 272) (C := 2048) (iblk m c 0 t) p = row (m ((c : Thread nD τ).loc main_arg0)) (at272 t p) := by
  obtain ⟨⟨h0, h1⟩, -⟩ := maps t
  exact funext fun k => congrArg (m ((c : Thread nD τ).loc main_arg0)) (idx2_ext _ _
    (show win0_0.index t (0 : Fin 2) * 272 + 1 * p.val = t.val * 272 + p.val by omega) (show win0_0.index t (1 : Fin 2) * 2048 + 1 * k.val = k.val by omega))

/-- A row of the second operand's block. -/
theorem row1 (c : Dev nD) (t : Fin cfg0.N) (p : Fin 272) : row (R := 272) (C := 2048) (iblk m c 1 t) p = row (m ((c : Thread nD τ).loc main_arg1)) (at272 t p) := by
  obtain ⟨-, ⟨h0, h1⟩, -⟩ := maps t
  exact funext fun k => congrArg (m ((c : Thread nD τ).loc main_arg1)) (idx2_ext _ _
    (show win0_1.index t (0 : Fin 2) * 272 + 1 * p.val = t.val * 272 + p.val by omega) (show win0_1.index t (1 : Fin 2) * 2048 + 1 * k.val = k.val by omega))

/-- The first scale's row. -/
theorem row2 (c : Dev nD) (t : Fin cfg0.N) : row (R := 1) (C := 2048) (iblk m c 2 t) 0 = row (m ((c : Thread nD τ).loc main_arg2)) 0 := by
  obtain ⟨-, -, ⟨h0, h1⟩, -⟩ := maps t
  exact funext fun k => congrArg (m ((c : Thread nD τ).loc main_arg2)) (idx2_ext _ _
    (show win0_2.index t (0 : Fin 2) * 1 + 1 * 0 = 0 by omega) (show win0_2.index t (1 : Fin 2) * 2048 + 1 * k.val = k.val by omega))

/-- The second scale's row. -/
theorem row3 (c : Dev nD) (t : Fin cfg0.N) : row (R := 1) (C := 2048) (iblk m c 3 t) 0 = row (m ((c : Thread nD τ).loc main_arg3)) 0 := by
  obtain ⟨-, -, -, ⟨h0, h1⟩, -⟩ := maps t
  exact funext fun k => congrArg (m ((c : Thread nD τ).loc main_arg3)) (idx2_ext _ _
    (show win0_3.index t (0 : Fin 2) * 1 + 1 * 0 = 0 by omega) (show win0_3.index t (1 : Fin 2) * 2048 + 1 * k.val = k.val by omega))

/-- What a point writes back of the state is its block. -/
theorem flushed4_eq (c : Dev nD) (t : Fin cfg0.N) :
    (dats m 0 c).flushed 4 t = ((cfg0.win 4).blk t).view.read (Elt Ideal) (G4 (m ((c : Thread nD τ).loc main_arg0)) (m ((c : Thread nD τ).loc main_arg1)) (m ((c : Thread nD τ).loc main_arg2))) := by
  obtain ⟨-, -, -, -, ⟨h0, h1⟩, -⟩ := maps t
  refine (flushed4 m c t).trans ?_
  funext y
  refine (congrFun (out4_eq (iblk m c 0 t) (iblk m c 1 t) (iblk m c 2 t) (iblk m c 3 t)) y).trans ?_
  have ey : ((cfg0.win 4).blk t).view.emb y = ix2 (at272 t (y 0)) (y 1) := idx2_ext _ _
    (show win0_4.index t (0 : Fin 2) * 272 + 1 * (y 0).val = t.val * 272 + (y 0).val by omega)
    (show win0_4.index t (1 : Fin 2) * 2048 + 1 * (y 1).val = (y 1).val by omega)
  refine Eq.trans ?_ (congrArg (G4 (m ((c : Thread nD τ).loc main_arg0)) (m ((c : Thread nD τ).loc main_arg1)) (m ((c : Thread nD τ).loc main_arg2))) ey.symm)
  exact congrArg₂ (fun (f : Fin 2048 → EReal) g => f + g) (row0 m c t (y 0)) (congrArg₂ rms (row1 m c t (y 0)) (row2 m c t)) |> fun h => congrFun h (y 1)

/-- What a point writes back of its norm is its block. -/
theorem flushed5_eq (c : Dev nD) (t : Fin cfg0.N) :
    (dats m 0 c).flushed 5 t = ((cfg0.win 5).blk t).view.read (Elt Ideal) (G5 (m ((c : Thread nD τ).loc main_arg0)) (m ((c : Thread nD τ).loc main_arg1)) (m ((c : Thread nD τ).loc main_arg2)) (m ((c : Thread nD τ).loc main_arg3))) := by
  obtain ⟨-, -, -, -, -, ⟨h0, h1⟩⟩ := maps t
  refine (flushed5 m c t).trans ?_
  funext y
  refine (congrFun (out5_eq (iblk m c 0 t) (iblk m c 1 t) (iblk m c 2 t) (iblk m c 3 t)) y).trans ?_
  have ey : ((cfg0.win 5).blk t).view.emb y = ix2 (at272 t (y 0)) (y 1) := idx2_ext _ _
    (show win0_5.index t (0 : Fin 2) * 272 + 1 * (y 0).val = t.val * 272 + (y 0).val by omega)
    (show win0_5.index t (1 : Fin 2) * 2048 + 1 * (y 1).val = (y 1).val by omega)
  refine Eq.trans ?_ (congrArg (G5 (m ((c : Thread nD τ).loc main_arg0)) (m ((c : Thread nD τ).loc main_arg1)) (m ((c : Thread nD τ).loc main_arg2)) (m ((c : Thread nD τ).loc main_arg3))) ey.symm)
  exact congrFun (congrArg₂ rms (congrArg₂ (fun (f : Fin 2048 → EReal) g => f + g) (row0 m c t (y 0)) (congrArg₂ rms (row1 m c t (y 0)) (row2 m c t))) (row3 m c t)) (y 1)

/-- The state after the run. -/
theorem final4 (c : Dev nD) : (dats m 0 c).arrAt 4 cfg0.N = G4 (m ((c : Thread nD τ).loc main_arg0)) (m ((c : Thread nD τ).loc main_arg1)) (m ((c : Thread nD τ).loc main_arg2)) := by
  refine (dats m 0 c).arrAt_eq_of_cover 4 _ (fun t _ => flushed4_eq m c t) (fun (i : S2176x2048.Idx) => ?_)
  have hi0 : (i 0).val < 2176 := (i 0).isLt
  obtain ⟨t, ht⟩ : ∃ t : Fin cfg0.N, t.val = (i 0).val / 272 := ⟨⟨(i 0).val / 272, by show (i 0).val / 272 < 8; omega⟩, rfl⟩
  obtain ⟨-, -, -, -, ⟨h0, h1⟩, -⟩ := maps t
  refine ⟨t, (flushes t).1, ?_⟩
  show i ∈ ((View.whole main_v0_0).slice (win0_4.rect t)).set
  rw [View.set_slice_whole]
  exact mem_rows i _ _ (show win0_4.index t (0 : Fin 2) * 272 = _ by rw [h0, ht]) (show win0_4.index t (1 : Fin 2) * 2048 = 0 by rw [h1])

/-- Its norm after the run. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) := by
  refine (dats m 0 c).arrAt_eq_of_cover 5 _ (fun t _ => flushed5_eq m c t) (fun (i : S2176x2048.Idx) => ?_)
  have hi0 : (i 0).val < 2176 := (i 0).isLt
  obtain ⟨t, ht⟩ : ∃ t : Fin cfg0.N, t.val = (i 0).val / 272 := ⟨⟨(i 0).val / 272, by show (i 0).val / 272 < 8; omega⟩, rfl⟩
  obtain ⟨-, -, -, -, -, ⟨h0, h1⟩⟩ := maps t
  refine ⟨t, (flushes t).2, ?_⟩
  show i ∈ ((View.whole main_v0_1).slice (win0_5.rect t)).set
  rw [View.set_slice_whole]
  exact mem_rows i _ _ (show win0_5.index t (0 : Fin 2) * 272 = _ by rw [h0, ht]) (show win0_5.index t (1 : Fin 2) * 2048 = 0 by rw [h1])

end Cert.PostMixIdeal.Value

namespace Cert.PostMixReferenceIdeal.Read

open Cert.PostMixIdeal.Value Cert.Blocks Cert.Rows Idealize.ShloMosaic Idealize.ShloMosaic.TcCoe

/-- The reference's state, read: the same. -/
theorem val4_eq (H X : (⟨S2176x2048, .f32⟩ : BufTy).Contents (Elt Ideal)) (W : (⟨S1x2048, .f32⟩ : BufTy).Contents (Elt Ideal)) :
    val_main_v12 (F := Ideal) H X W = G4 H X W := by
  refine ext2 fun p q => ?_
  simp only [val_main_v12, val_main_v11, val_main_v10, val_main_v9, val_main_v8, val_main_v7, val_main_v6, val_main_v5, val_main_v4, val_main_v3, val_main_v2, val_main_v1, val_main_v0, val_main_cst, val_main_cst_0, val_main_cst_1]
  unfold G4 mid rms row
  pointwise

/-- The reference's norm of it, read: the same. -/
theorem val5_eq (H X : (⟨S2176x2048, .f32⟩ : BufTy).Contents (Elt Ideal)) (W W' : (⟨S1x2048, .f32⟩ : BufTy).Contents (Elt Ideal)) :
    val_main_v25 (F := Ideal) H X W W' = G5 H X W W' := by
  refine ext2 fun p q => ?_
  simp only [val_main_v25, val_main_v24, val_main_v23, val_main_v22, val_main_v21, val_main_v20, val_main_v19, val_main_v18, val_main_v17, val_main_v16, val_main_v15, val_main_v14, val_main_v13, val4_eq, val_main_cst_2, val_main_cst_3, val_main_cst_4]
  unfold G5 rms
  pointwise
  rfl

end Cert.PostMixReferenceIdeal.Read

namespace Cert.PostMixEq

open Idealize.ShloMosaic Idealize.ShloMosaic.TcCoe Idealize.SL.Sem Cert.PostMixIdeal.Value

/-- The kernel and its reference leave equal results and keep their arguments. -/
theorem algebraic : Cert.algebraic_PostMixIdeal_PostMixReferenceIdeal := by
  intro m g m' g' _ hagree
  refine ⟨fun c => G4 (m ((c : Thread Cert.PostMixIdeal.nD Cert.PostMixIdeal.τ).loc Cert.PostMixIdeal.main_arg0)) (m ((c : Thread Cert.PostMixIdeal.nD Cert.PostMixIdeal.τ).loc Cert.PostMixIdeal.main_arg1)) (m ((c : Thread Cert.PostMixIdeal.nD Cert.PostMixIdeal.τ).loc Cert.PostMixIdeal.main_arg2)),
    fun c => G5 (m ((c : Thread Cert.PostMixIdeal.nD Cert.PostMixIdeal.τ).loc Cert.PostMixIdeal.main_arg0)) (m ((c : Thread Cert.PostMixIdeal.nD Cert.PostMixIdeal.τ).loc Cert.PostMixIdeal.main_arg1)) (m ((c : Thread Cert.PostMixIdeal.nD Cert.PostMixIdeal.τ).loc Cert.PostMixIdeal.main_arg2)) (m ((c : Thread Cert.PostMixIdeal.nD Cert.PostMixIdeal.τ).loc Cert.PostMixIdeal.main_arg3)),
    (θ_run Cert.PostMixIdeal.defs _ _).mono (fun r h c => ?_) (Cert.PostMixIdeal.Value.run_blocks m g),
    (θ_run Cert.PostMixReferenceIdeal.defs _ _).mono (fun r h c => ?_) (Cert.PostMixReferenceIdeal.Value.run m' g')⟩
  · obtain ⟨h0, h1, k⟩ := h c
    exact ⟨h0.trans (final4 m c), h1.trans (final5 m c), k⟩
  · obtain ⟨h0, h1, k⟩ := h c
    obtain ⟨a0, a1, a2, a3⟩ := hagree c
    rw [a0, a1, a2] at h0
    rw [a0, a1, a2, a3] at h1
    exact ⟨h0.trans ((Cert.PostMixReferenceIdeal.Read.val_main_v12_eq _ _ _).trans (Cert.PostMixReferenceIdeal.Read.val4_eq _ _ _)), h1.trans ((Cert.PostMixReferenceIdeal.Read.val_main_v25_eq _ _ _ _).trans (Cert.PostMixReferenceIdeal.Read.val5_eq _ _ _ _)), k⟩

end Cert.PostMixEq

end
-- ==== Proof.BranchActEq.lean ====
/- The two branches' activations and their reference, read: the layer norm of the first convolution times its logistic function, and the second convolution times its gate. -/
module

public import proofs.«01_k».proof.Defs
public import proofs.«01_k».proof.Proof.Gen.BranchActIdeal.Value
public import proofs.«01_k».proof.Proof.Gen.BranchActReferenceIdeal.Run
public import proofs.«01_k».proof.Proof.Gen.BranchActReferenceIdeal.Read
public import proofs.«01_k».proof.Proof.Rows

@[expose] public section

set_option maxRecDepth 16384

noncomputable section

namespace Cert.BranchActIdeal.Value

open Cert.BranchActIdeal Cert.BranchActIdeal.Gen Idealize.ShloMosaic Idealize.ShloMosaic.TcCoe Idealize.SL.Sem Cert.Blocks Cert.Rows
open Idealize.ShloMosaic.Pipeline (Dat)

variable (m : (ℓ : Loc nD τ sig) → Buf (Elt Ideal) ℓ) (ρ : Dev nD → PrngReg)

/-- One row of the first branch: the layer norm times its logistic function. -/
def act (x w b : Fin 1024 → EReal) (q : Fin 1024) : EReal := layer x w b q * sgm (layer x w b q)

/-- One row of the second branch: the convolution times its gate. -/
def gated (x g : Fin 1024 → EReal) (q : Fin 1024) : EReal := g q * x q

/-- The first branch. -/
def G5 (X : S2176x1024.Idx → EReal) (W B : S1x1024.Idx → EReal) (i : S2176x1024.Idx) : EReal :=
  act (row X (i 0)) (row W 0) (row B 0) (i 1)

/-- The second branch; its gate is the projection's columns from 2048 on. -/
def G6 (X : S2176x1024.Idx → EReal) (P : S2176x9216.Idx → EReal) (i : S2176x1024.Idx) : EReal :=
  gated (row X (i 0)) (from_ 2048 1024 (by omega) (row P (i 0))) (i 1)

/-- One chunk of the first branch. -/
theorem pay5_apply (x : Vec Ideal S16x1024 .f32) (w b : Vec Ideal S1x1024 .f32) (p : Fin 16) (q : Fin 1024) :
    k0_pay3 x w b (ix2 p q) = act (row x p) (row w 0) (row b 0) q := by
  unfold k0_pay3 act sgm layer row
  pointwise
  simp only [zero_sub]

/-- One chunk of the second branch. -/
theorem pay6_apply (x g : Vec Ideal S16x1024 .f32) (p : Fin 16) (q : Fin 1024) :
    k0_pay4 x g (ix2 p q) = gated (row x p) (row g p) q := by
  unfold k0_pay4 gated row
  pointwise

/-- What the body leaves of the first branch. -/
theorem out5_eq (x0 x1 x2 : Vec Ideal S272x1024 .f32) (w b : Vec Ideal S1x1024 .f32) :
    out0_5 x0 x1 x2 w b = fun y : S272x1024.Idx => act (row x0 (y 0)) (row w 0) (row b 0) (y 1) := by
  have hw : View.ld (Val := Elt Ideal) w r0_1 = w := View.ld_unit_zero zero2 _ w
  have hb : View.ld (Val := Elt Ideal) b r0_1 = b := View.ld_unit_zero zero2 _ b
  refine canon_chunks (e := .bf16) _ (fun r => k0_pay3 (View.ld (Val := Elt Ideal) x0 (chunk 1024 r)) (View.ld (Val := Elt Ideal) w r0_1) (View.ld (Val := Elt Ideal) b r0_1)) fun r p q => ?_
  rw [hw, hb, pay5_apply]
  exact congrArg (fun f => act f (row w 0) (row b 0) q) (row_chunk x0 r p)

/-- What the body leaves of the second branch. -/
theorem out6_eq (x0 x1 x2 : Vec Ideal S272x1024 .f32) (w b : Vec Ideal S1x1024 .f32) :
    out0_6 x0 x1 x2 w b = fun y : S272x1024.Idx => gated (row x1 (y 0)) (row x2 (y 0)) (y 1) := by
  refine canon_chunks (e := .bf16) _ (fun r => k0_pay4 (View.ld (Val := Elt Ideal) x1 (chunk 1024 r)) (View.ld (Val := Elt Ideal) x2 (chunk 1024 r))) fun r p q => ?_
  rw [pay6_apply]
  exact congrArg₂ (fun f g => gated f g q) (row_chunk x1 r p) (row_chunk x2 r p)

/-- The printed index maps, decided over the grid: point `t` takes block `t` of the rows, and the gate's columns are block two. -/
theorem maps : ∀ t : Fin cfg0.N, (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 2) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Every point writes back. -/
theorem flushes : ∀ t : Fin cfg0.N, (cfg0.win 5).flush t = true ∧ (cfg0.win 6).flush t = true :=
  (by decide +kernel : ∀ t : Fin grid0.N, win0_5.flush t = true ∧ win0_6.flush t = true)

/-- A row of the first convolution's block. -/
theorem row0 (c : Dev nD) (t : Fin cfg0.N) (p : Fin 272) : row (R := 272) (C := 1024) (iblk m c 0 t) p = row (m ((c : Thread nD τ).loc main_arg0)) (at272 t p) := by
  obtain ⟨⟨h0, h1⟩, -⟩ := maps t
  exact funext fun k => congrArg (m ((c : Thread nD τ).loc main_arg0)) (idx2_ext _ _
    (show win0_0.index t (0 : Fin 2) * 272 + 1 * p.val = t.val * 272 + p.val by omega) (show win0_0.index t (1 : Fin 2) * 1024 + 1 * k.val = k.val by omega))

/-- A row of the second convolution's block. -/
theorem row1 (c : Dev nD) (t : Fin cfg0.N) (p : Fin 272) : row (R := 272) (C := 1024) (iblk m c 1 t) p = row (m ((c : Thread nD τ).loc main_arg1)) (at272 t p) := by
  obtain ⟨-, ⟨h0, h1⟩, -⟩ := maps t
  exact funext fun k => congrArg (m ((c : Thread nD τ).loc main_arg1)) (idx2_ext _ _
    (show win0_1.index t (0 : Fin 2) * 272 + 1 * p.val = t.val * 272 + p.val by omega) (show win0_1.index t (1 : Fin 2) * 1024 + 1 * k.val = k.val by omega))

/-- A row of the gate's block. -/
theorem row2 (c : Dev nD) (t : Fin cfg0.N) (p : Fin 272) : row (R := 272) (C := 1024) (iblk m c 2 t) p = from_ 2048 1024 (by omega) (row (m ((c : Thread nD τ).loc main_arg2)) (at272 t p)) := by
  obtain ⟨-, -, ⟨h0, h1⟩, -⟩ := maps t
  exact funext fun k => congrArg (m ((c : Thread nD τ).loc main_arg2)) (idx2_ext _ _
    (show win0_2.index t (0 : Fin 2) * 272 + 1 * p.val = t.val * 272 + p.val by omega) (show win0_2.index t (1 : Fin 2) * 1024 + 1 * k.val = 2048 + k.val by omega))

/-- The norm's scales. -/
theorem row3 (c : Dev nD) (t : Fin cfg0.N) : row (R := 1) (C := 1024) (iblk m c 3 t) 0 = row (m ((c : Thread nD τ).loc main_arg3)) 0 := by
  obtain ⟨-, -, -, ⟨h0, h1⟩, -⟩ := maps t
  exact funext fun k => congrArg (m ((c : Thread nD τ).loc main_arg3)) (idx2_ext _ _
    (show win0_3.index t (0 : Fin 2) * 1 + 1 * 0 = 0 by omega) (show win0_3.index t (1 : Fin 2) * 1024 + 1 * k.val = k.val by omega))

/-- The norm's shifts. -/
theorem row4 (c : Dev nD) (t : Fin cfg0.N) : row (R := 1) (C := 1024) (iblk m c 4 t) 0 = row (m ((c : Thread nD τ).loc main_arg4)) 0 := by
  obtain ⟨-, -, -, -, ⟨h0, h1⟩, -⟩ := maps t
  exact funext fun k => congrArg (m ((c : Thread nD τ).loc main_arg4)) (idx2_ext _ _
    (show win0_4.index t (0 : Fin 2) * 1 + 1 * 0 = 0 by omega) (show win0_4.index t (1 : Fin 2) * 1024 + 1 * k.val = k.val by omega))

/-- What a point writes back of the first branch is its block. -/
theorem flushed5_eq (c : Dev nD) (t : Fin cfg0.N) :
    (dats m 0 c).flushed 5 t = ((cfg0.win 5).blk t).view.read (Elt Ideal) (G5 (m ((c : Thread nD τ).loc main_arg0)) (m ((c : Thread nD τ).loc main_arg3)) (m ((c : Thread nD τ).loc main_arg4))) := by
  obtain ⟨-, -, -, -, -, ⟨h0, h1⟩, -⟩ := maps t
  refine (flushed5 m c t).trans ?_
  funext y
  refine (congrFun (out5_eq (iblk m c 0 t) (iblk m c 1 t) (iblk m c 2 t) (iblk m c 3 t) (iblk m c 4 t)) y).trans ?_
  have ey : ((cfg0.win 5).blk t).view.emb y = ix2 (at272 t (y 0)) (y 1) := idx2_ext _ _
    (show win0_5.index t (0 : Fin 2) * 272 + 1 * (y 0).val = t.val * 272 + (y 0).val by omega)
    (show win0_5.index t (1 : Fin 2) * 1024 + 1 * (y 1).val = (y 1).val by omega)
  refine Eq.trans ?_ (congrArg (G5 (m ((c : Thread nD τ).loc main_arg0)) (m ((c : Thread nD τ).loc main_arg3)) (m ((c : Thread nD τ).loc main_arg4))) ey.symm)
  exact congrFun (congr (congrArg₂ act (row0 m c t (y 0)) (row3 m c t)) (row4 m c t)) (y 1)

/-- What a point writes back of the second branch is its block. -/
theorem flushed6_eq (c : Dev nD) (t : Fin cfg0.N) :
    (dats m 0 c).flushed 6 t = ((cfg0.win 6).blk t).view.read (Elt Ideal) (G6 (m ((c : Thread nD τ).loc main_arg1)) (m ((c : Thread nD τ).loc main_arg2))) := by
  obtain ⟨-, -, -, -, -, -, ⟨h0, h1⟩⟩ := maps t
  refine (flushed6 m c t).trans ?_
  funext y
  refine (congrFun (out6_eq (iblk m c 0 t) (iblk m c 1 t) (iblk m c 2 t) (iblk m c 3 t) (iblk m c 4 t)) y).trans ?_
  have ey : ((cfg0.win 6).blk t).view.emb y = ix2 (at272 t (y 0)) (y 1) := idx2_ext _ _
    (show win0_6.index t (0 : Fin 2) * 272 + 1 * (y 0).val = t.val * 272 + (y 0).val by omega)
    (show win0_6.index t (1 : Fin 2) * 1024 + 1 * (y 1).val = (y 1).val by omega)
  refine Eq.trans ?_ (congrArg (G6 (m ((c : Thread nD τ).loc main_arg1)) (m ((c : Thread nD τ).loc main_arg2))) ey.symm)
  exact congrFun (congrArg₂ gated (row1 m c t (y 0)) (row2 m c t (y 0))) (y 1)

/-- The first branch after the run. -/
theorem final5 (c : Dev nD) : (dats m 0 c).arrAt 5 cfg0.N = G5 (m ((c : Thread nD τ).loc main_arg0)) (m ((c : Thread nD τ).loc main_arg3)) (m ((c : Thread nD τ).loc main_arg4)) := by
  refine (dats m 0 c).arrAt_eq_of_cover 5 _ (fun t _ => flushed5_eq m c t) (fun (i : S2176x1024.Idx) => ?_)
  have hi0 : (i 0).val < 2176 := (i 0).isLt
  obtain ⟨t, ht⟩ : ∃ t : Fin cfg0.N, t.val = (i 0).val / 272 := ⟨⟨(i 0).val / 272, by show (i 0).val / 272 < 8; omega⟩, rfl⟩
  obtain ⟨-, -, -, -, -, ⟨h0, h1⟩, -⟩ := maps t
  refine ⟨t, (flushes t).1, ?_⟩
  show i ∈ ((View.whole main_v0_0).slice (win0_5.rect t)).set
  rw [View.set_slice_whole]
  exact mem_rows i _ _ (show win0_5.index t (0 : Fin 2) * 272 = _ by rw [h0, ht]) (show win0_5.index t (1 : Fin 2) * 1024 = 0 by rw [h1])

/-- The second branch after the run. -/
theorem final6 (c : Dev nD) : (dats m 0 c).arrAt 6 cfg0.N = G6 (m ((c : Thread nD τ).loc main_arg1)) (m ((c : Thread nD τ).loc main_arg2)) := by
  refine (dats m 0 c).arrAt_eq_of_cover 6 _ (fun t _ => flushed6_eq m c t) (fun (i : S2176x1024.Idx) => ?_)
  have hi0 : (i 0).val < 2176 := (i 0).isLt
  obtain ⟨t, ht⟩ : ∃ t : Fin cfg0.N, t.val = (i 0).val / 272 := ⟨⟨(i 0).val / 272, by show (i 0).val / 272 < 8; omega⟩, rfl⟩
  obtain ⟨-, -, -, -, -, -, ⟨h0, h1⟩⟩ := maps t
  refine ⟨t, (flushes t).2, ?_⟩
  show i ∈ ((View.whole main_v0_1).slice (win0_6.rect t)).set
  rw [View.set_slice_whole]
  exact mem_rows i _ _ (show win0_6.index t (0 : Fin 2) * 272 = _ by rw [h0, ht]) (show win0_6.index t (1 : Fin 2) * 1024 = 0 by rw [h1])

end Cert.BranchActIdeal.Value

namespace Cert.BranchActReferenceIdeal.Read

open Cert.BranchActIdeal.Value Cert.Blocks Cert.Rows Idealize.ShloMosaic Idealize.ShloMosaic.TcCoe

/-- The reference's first branch, read: the same. -/
theorem val5_eq (X : (⟨S2176x1024, .f32⟩ : BufTy).Contents (Elt Ideal)) (W B : (⟨S1x1024, .f32⟩ : BufTy).Contents (Elt Ideal)) :
    val_main_v25 (F := Ideal) X W B = G5 X W B := by
  refine ext2 fun p q => ?_
  simp only [val_main_v25, val_main_v23, val_main_call0_v5, val_main_call0_v4, val_main_call0_cst_0, val_main_call0_v3, val_main_call0_v2, val_main_call0_cst, val_main_call0_v1, val_main_call0_v0, val_main_v22, val_main_v21, val_main_v20, val_main_v19, val_main_v18, val_main_v17, val_main_v16, val_main_v15, val_main_v14, val_main_cst_3, val_main_v13, val_main_v12, val_main_v11, val_main_v10, val_main_cst_2, val_main_v9, val_main_v8, val_main_cst_1, val_main_v7, val_main_v6, val_main_v5, val_main_v4, val_main_v3, val_main_cst_0, val_main_v2, val_main_v1, val_main_cst]
  unfold G5 act sgm layer row
  pointwise

/-- The reference's second branch, read: the same. -/
theorem val6_eq (X : (⟨S2176x1024, .f32⟩ : BufTy).Contents (Elt Ideal)) (P : (⟨S2176x9216, .f32⟩ : BufTy).Contents (Elt Ideal)) :
    val_main_v26 (F := Ideal) X P = G6 X P := by
  refine ext2 fun p q => ?_
  simp only [val_main_v26, val_main_v24, val_main_v0]
  unfold G6 gated from_ row
  pointwise

end Cert.BranchActReferenceIdeal.Read

namespace Cert.BranchActEq

open Idealize.ShloMosaic Idealize.ShloMosaic.TcCoe Idealize.SL.Sem Cert.BranchActIdeal.Value

/-- The kernel and its reference leave equal results and keep their arguments. -/
theorem algebraic : Cert.algebraic_BranchActIdeal_BranchActReferenceIdeal := by
  intro m g m' g' _ hagree
  refine ⟨fun c => G5 (m ((c : Thread Cert.BranchActIdeal.nD Cert.BranchActIdeal.τ).loc Cert.BranchActIdeal.main_arg0)) (m ((c : Thread Cert.BranchActIdeal.nD Cert.BranchActIdeal.τ).loc Cert.BranchActIdeal.main_arg3)) (m ((c : Thread Cert.BranchActIdeal.nD Cert.BranchActIdeal.τ).loc Cert.BranchActIdeal.main_arg4)),
    fun c => G6 (m ((c : Thread Cert.BranchActIdeal.nD Cert.BranchActIdeal.τ).loc Cert.BranchActIdeal.main_arg1)) (m ((c : Thread Cert.BranchActIdeal.nD Cert.BranchActIdeal.τ).loc Cert.BranchActIdeal.main_arg2)),
    (θ_run Cert.BranchActIdeal.defs _ _).mono (fun r h c => ?_) (Cert.BranchActIdeal.Value.run_blocks m g),
    (θ_run Cert.BranchActReferenceIdeal.defs _ _).mono (fun r h c => ?_) (Cert.BranchActReferenceIdeal.Value.run m' g')⟩
  · obtain ⟨h0, h1, k⟩ := h c
    exact ⟨h0.trans (final5 m c), h1.trans (final6 m c), k⟩
  · obtain ⟨h0, h1, k⟩ := h c
    obtain ⟨a0, a1, a2, a3, a4⟩ := hagree c
    rw [a0, a3, a4] at h0
    rw [a1, a2] at h1
    exact ⟨h0.trans ((Cert.BranchActReferenceIdeal.Read.val_main_v25_eq _ _ _).trans (Cert.BranchActReferenceIdeal.Read.val5_eq _ _ _)), h1.trans ((Cert.BranchActReferenceIdeal.Read.val_main_v26_eq _ _).trans (Cert.BranchActReferenceIdeal.Read.val6_eq _ _)), k⟩

end Cert.BranchActEq

end
-- ==== Proof.BwdMidEq.lean ====
/- The backward call between the mixer and the gated layer: its arrays, and that its reference leaves the same. -/
module

public import proofs.«01_k».proof.Defs
public import proofs.«01_k».proof.Proof.Gen.BwdMidIdeal.Value
public import proofs.«01_k».proof.Proof.Gen.BwdMidReferenceIdeal.Run
public import proofs.«01_k».proof.Proof.Gen.BwdMidReferenceIdeal.Read
public import proofs.«01_k».proof.Proof.Gathered
public import proofs.«01_k».proof.Proof.RmsBwd

@[expose] public section

set_option maxRecDepth 16384

noncomputable section

namespace Cert.BwdMidIdeal.Value

open Cert.BwdMidIdeal Cert.BwdMidIdeal.Gen Idealize.ShloMosaic Idealize.ShloMosaic.TcCoe Idealize.SL.Sem Cert.Blocks Cert.Rows Cert.Gathered Cert.RmsBwd
open Idealize.ShloMosaic.Pipeline (Dat)

/-- The mixed rows' cotangent, of one chunk. -/
theorem pay10_apply (x0 x1 x2 : Vec Ideal S16x2048 .f32) (w : Vec Ideal S1x2048 .f32) (p : Fin 16) (q : Fin 2048) :
    k0_pay10 x0 x1 x2 w (ix2 p q) = pass (row x0 p) (row x1 p) (row x2 p) (row w 0) q := by
  unfold k0_pay10 k0_pay8 k0_pay7 pass rmsb rinv spread row
  pointwise

/-- The mixer's cotangent, of one chunk. -/
theorem pay15_apply (x0 x1 x2 x3 : Vec Ideal S16x2048 .f32) (v w : Vec Ideal S1x2048 .f32) (p : Fin 16) (q : Fin 2048) :
    k0_pay15 x3 v (k0_pay10 x0 x1 x2 w) (k0_pay11 x3) (k0_pay12 (F := Ideal)) (ix2 p q) = rmsb (row x3 p) (row v 0) (pass (row x0 p) (row x1 p) (row x2 p) (row w 0)) q := by
  rw [← (funext fun k => pay10_apply x0 x1 x2 w p k : row (k0_pay10 x0 x1 x2 w) p = _)]
  generalize k0_pay10 x0 x1 x2 w = d
  unfold k0_pay15 k0_pay14 k0_pay13 k0_pay12 k0_pay11 rmsb rinv spread row
  pointwise

/-- What a chunk adds to the first scratch: two of its rows. -/
theorem pay16_apply (x1 x2 : Vec Ideal S16x2048 .f32) (a : Vec Ideal S8x2048 .f32) (p : Fin 8) (q : Fin 2048) :
    k0_pay16 (k0_pay9 x1 x2) a (ix2 p q) = a (ix2 p q) + (scale (row x1 (lo p)) (row x2 (lo p)) q + scale (row x1 (hi p)) (row x2 (hi p)) q) := by
  unfold k0_pay16 k0_pay9 k0_pay8 k0_pay7 lo hi scale rinv spread row
  pointwise

/-- What a chunk adds to the second. -/
theorem pay17_apply (x0 x1 x2 x3 : Vec Ideal S16x2048 .f32) (w : Vec Ideal S1x2048 .f32) (a : Vec Ideal S8x2048 .f32) (p : Fin 8) (q : Fin 2048) :
    k0_pay17 x3 (k0_pay10 x0 x1 x2 w) (k0_pay11 x3) (k0_pay12 (F := Ideal)) a (ix2 p q) = a (ix2 p q) + (scale (pass (row x0 (lo p)) (row x1 (lo p)) (row x2 (lo p)) (row w 0)) (row x3 (lo p)) q
      + scale (pass (row x0 (hi p)) (row x1 (hi p)) (row x2 (hi p)) (row w 0)) (row x3 (hi p)) q) := by
  unfold scale
  rw [← pay10_apply x0 x1 x2 w (lo p) q, ← pay10_apply x0 x1 x2 w (hi p) q]
  generalize k0_pay10 x0 x1 x2 w = d
  unfold k0_pay17 k0_pay14 k0_pay13 k0_pay12 k0_pay11 lo hi rinv spread row
  pointwise

/-- The first scratch's eight rows, added. -/
theorem pay3_apply (a : Vec Ideal S8x2048 .f32) (q : Fin 2048) : k0_pay3 a (ix2 0 q) = ∑ p : Fin 8, a (ix2 p q) := by
  unfold k0_pay3
  pointwise

/-- The second's. -/
theorem pay4_apply (a : Vec Ideal S8x2048 .f32) (q : Fin 2048) : k0_pay4 a (ix2 0 q) = ∑ p : Fin 8, a (ix2 p q) := pay3_apply a q

/-- The first scratch starts at zero. -/
theorem pay5_apply (p : Fin 8) (q : Fin 2048) : k0_pay5 (F := Ideal) (ix2 p q) = 0 := by
  unfold k0_pay5
  pointwise

/-- The second too. -/
theorem pay6_apply (p : Fin 8) (q : Fin 2048) : k0_pay6 (F := Ideal) (ix2 p q) = 0 := pay5_apply p q

/-- The mixed rows' cotangent. -/
def T6 (a0 a1 a2 : S2176x2048.Idx → EReal) (a5 : S1x2048.Idx → EReal) (i : S2176x2048.Idx) : EReal := pass (row a0 (i 0)) (row a1 (i 0)) (row a2 (i 0)) (row a5 0) (i 1)

/-- The mixer's cotangent. -/
def T7 (a0 a1 a2 a3 : S2176x2048.Idx → EReal) (a4 a5 : S1x2048.Idx → EReal) (i : S2176x2048.Idx) : EReal := rmsb (row a3 (i 0)) (row a4 0) (pass (row a0 (i 0)) (row a1 (i 0)) (row a2 (i 0)) (row a5 0)) (i 1)

/-- The gated layer's norm's scale's gradient: the sum over the rows. -/
def T8 (a1 a2 : S2176x2048.Idx → EReal) (i : S1x2048.Idx) : EReal := ∑ p, scale (row a1 p) (row a2 p) (i 1)

/-- The mixer's norm's scale's gradient: the sum over the rows. -/
def T9 (a0 a1 a2 a3 : S2176x2048.Idx → EReal) (a5 : S1x2048.Idx → EReal) (i : S1x2048.Idx) : EReal := ∑ p, scale (pass (row a0 p) (row a1 p) (row a2 p) (row a5 0)) (row a3 p) (i 1)

section Body

variable (c : Dev nD) (i : grid0.Coords) {arg1 : Memref sig .tc .vmem S272x2048 .f32} (harg1 : arg1.IsWhole) {arg2 : Memref sig .tc .vmem S272x2048 .f32} (harg2 : arg2.IsWhole) {arg3 : Memref sig .tc .vmem S272x2048 .f32} (harg3 : arg3.IsWhole) {arg4 : Memref sig .tc .vmem S272x2048 .f32} (harg4 : arg4.IsWhole) {arg5 : Memref sig .tc .vmem S1x2048 .f32} (harg5 : arg5.IsWhole) {arg6 : Memref sig .tc .vmem S1x2048 .f32} (harg6 : arg6.IsWhole) {arg7 : Memref sig .tc .vmem S272x2048 .f32} (harg7 : arg7.IsWhole) {arg8 : Memref sig .tc .vmem S272x2048 .bf16} (harg8 : arg8.IsWhole) {arg9 : Memref sig .tc .vmem S1x2048 .f32} (harg9 : arg9.IsWhole) {arg10 : Memref sig .tc .vmem S1x2048 .f32} (harg10 : arg10.IsWhole) {arg11 : Memref sig .tc .vmem S8x2048 .f32} (harg11 : arg11.IsWhole) {arg12 : Memref sig .tc .vmem S8x2048 .f32} (harg12 : arg12.IsWhole)
variable (x0 x1 x2 x3 : Vec Ideal S272x2048 .f32) (x4 x5 : Vec Ideal S1x2048 .f32) (xs0 xs1 : Vec Ideal S8x2048 .f32)

/-- The mixed rows' cotangent, in a block. -/
def B6 : Vec Ideal S272x2048 .f32 := fun y => pass (row x0 (y 0)) (row x1 (y 0)) (row x2 (y 0)) (row x5 0) (y 1)

/-- Its value in a chunk. -/
def P6 (r : Fin 17) : Vec Ideal S16x2048 .f32 := k0_pay10 (rd _ harg1 x0 r) (rd _ harg2 x1 r) (rd _ harg3 x2 r) (rd1 _ harg6 x5)

/-- The chunks make it up. -/
theorem canon6 : View.canon (Val := Elt Ideal) (e := .f32) (order.map fun r => ⟨chunk 2048 r, P6 harg1 harg2 harg3 harg6 x0 x1 x2 x5 r⟩) = B6 x0 x1 x2 x5 := by
  refine canon_chunks (e := .f32) _ (P6 harg1 harg2 harg3 harg6 x0 x1 x2 x5) fun r p q => ?_
  refine (pay10_apply (rd _ harg1 x0 r) (rd _ harg2 x1 r) (rd _ harg3 x2 r) (rd1 _ harg6 x5) p q).trans ?_
  simp only [row_rd, rd1_eq]
  rfl

/-- The mixer's cotangent, in a block. -/
def B7 : Vec Ideal S272x2048 .bf16 := fun y => rmsb (row x3 (y 0)) (row x4 0) (pass (row x0 (y 0)) (row x1 (y 0)) (row x2 (y 0)) (row x5 0)) (y 1)

/-- Its value in a chunk. -/
def P7 (r : Fin 17) : Vec Ideal S16x2048 .bf16 := k0_pay15 (rd _ harg4 x3 r) (rd1 _ harg5 x4) (k0_pay10 (rd _ harg1 x0 r) (rd _ harg2 x1 r) (rd _ harg3 x2 r) (rd1 _ harg6 x5)) (k0_pay11 (rd _ harg4 x3 r)) (k0_pay12 (F := Ideal))

/-- The chunks make it up. -/
theorem canon7 : View.canon (Val := Elt Ideal) (e := .bf16) (order.map fun r => ⟨chunk 2048 r, P7 harg1 harg2 harg3 harg4 harg5 harg6 x0 x1 x2 x3 x4 x5 r⟩) = B7 x0 x1 x2 x3 x4 x5 := by
  refine canon_chunks (e := .bf16) _ (P7 harg1 harg2 harg3 harg4 harg5 harg6 x0 x1 x2 x3 x4 x5) fun r p q => ?_
  refine (pay15_apply (rd _ harg1 x0 r) (rd _ harg2 x1 r) (rd _ harg3 x2 r) (rd _ harg4 x3 r) (rd1 _ harg5 x4) (rd1 _ harg6 x5) p q).trans ?_
  simp only [row_rd, rd1_eq]
  rfl

/-- The gated layer's norm's scale's gradient: what a row adds. -/
def E0 (i : Fin 272) : Fin 2048 → EReal := scale (row x1 i) (row x2 i)

/-- The scratch after a chunk. -/
def add0 (r : Fin 17) (a : Vec Ideal S8x2048 .f32) : Vec Ideal S8x2048 .f32 := k0_pay16 (k0_pay9 (rd _ harg2 x1 r) (rd _ harg3 x2 r)) a

/-- What a point adds to the scratch. -/
theorem fold0 (a : Vec Ideal S8x2048 .f32) (p : Fin 8) (q : Fin 2048) : order.foldr (add0 harg2 harg3 x1 x2) a (ix2 p q) = a (ix2 p q) + share (fun i => E0 x1 x2 i q) p :=
  foldr_apply _ (fun r p q => E0 x1 x2 (at16 r (lo p)) q + E0 x1 x2 (at16 r (hi p)) q) (fun r a p q => by
    refine (pay16_apply (rd _ harg2 x1 r) (rd _ harg3 x2 r) a p q).trans ?_
    simp only [row_rd, rd1_eq]
    rfl) a p q

/-- The mixer's norm's scale's gradient: what a row adds. -/
def E1 (i : Fin 272) : Fin 2048 → EReal := scale (pass (row x0 i) (row x1 i) (row x2 i) (row x5 0)) (row x3 i)

/-- The scratch after a chunk. -/
def add1 (r : Fin 17) (a : Vec Ideal S8x2048 .f32) : Vec Ideal S8x2048 .f32 := k0_pay17 (rd _ harg4 x3 r) (k0_pay10 (rd _ harg1 x0 r) (rd _ harg2 x1 r) (rd _ harg3 x2 r) (rd1 _ harg6 x5)) (k0_pay11 (rd _ harg4 x3 r)) (k0_pay12 (F := Ideal)) a

/-- What a point adds to the scratch. -/
theorem fold1 (a : Vec Ideal S8x2048 .f32) (p : Fin 8) (q : Fin 2048) : order.foldr (add1 harg1 harg2 harg3 harg4 harg6 x0 x1 x2 x3 x5) a (ix2 p q) = a (ix2 p q) + share (fun i => E1 x0 x1 x2 x3 x5 i q) p :=
  foldr_apply _ (fun r p q => E1 x0 x1 x2 x3 x5 (at16 r (lo p)) q + E1 x0 x1 x2 x3 x5 (at16 r (hi p)) q) (fun r a p q => by
    refine (pay17_apply (rd _ harg1 x0 r) (rd _ harg2 x1 r) (rd _ harg3 x2 r) (rd _ harg4 x3 r) (rd1 _ harg6 x5) a p q).trans ?_
    simp only [row_rd, rd1_eq]
    rfl) a p q

/-- What the first point leaves. -/
theorem left_A (hc0 : cond0_0 i) (hc1 : ¬cond0_1 i) : out0_A_6 (F := Ideal) c i _ harg1 _ harg2 _ harg3 _ harg4 _ harg5 _ harg6 _ harg7 _ harg8 _ harg9 _ harg10 _ harg11 _ harg12 hc0 hc1 x0 x1 x2 x3 x4 x5 = B6 x0 x1 x2 x5 ∧ out0_A_7 (F := Ideal) c i _ harg1 _ harg2 _ harg3 _ harg4 _ harg5 _ harg6 _ harg7 _ harg8 _ harg9 _ harg10 _ harg11 _ harg12 hc0 hc1 x0 x1 x2 x3 x4 x5 = B7 x0 x1 x2 x3 x4 x5 ∧ (∀ p q, sout0_A_0 (F := Ideal) c i _ harg1 _ harg2 _ harg3 _ harg4 _ harg5 _ harg6 _ harg7 _ harg8 _ harg9 _ harg10 _ harg11 _ harg12 hc0 hc1 x0 x1 x2 x3 x4 x5 (ix2 p q) = share (fun i => E0 x1 x2 i q) p) ∧ (∀ p q, sout0_A_1 (F := Ideal) c i _ harg1 _ harg2 _ harg3 _ harg4 _ harg5 _ harg6 _ harg7 _ harg8 _ harg9 _ harg10 _ harg11 _ harg12 hc0 hc1 x0 x1 x2 x3 x4 x5 (ix2 p q) = share (fun i => E1 x0 x1 x2 x3 x5 i q) p) := by
  refine ⟨?_, ?_, fun p q => ?_, fun p q => ?_⟩
  · unfold out0_A_6
    rw [View.read_writes_junk_eq_canon, ← canon6 harg1 harg2 harg3 harg6]
    unfold kernelRun0_A P6
    rfl
  · unfold out0_A_7
    rw [View.read_writes_junk_eq_canon, ← canon7 harg1 harg2 harg3 harg4 harg5 harg6]
    unfold kernelRun0_A P7
    rfl
  · unfold sout0_A_0
    rw [View.read_writes_junk_eq_canon]
    refine first_held arg11 (add0 harg2 harg3 x1 x2) _ (fold0 harg2 harg3 x1 x2) pay5_apply ?_ p q
    unfold kernelRun0_A
    iterate 17 refine held_step rfl rfl ?_
    rfl
  · unfold sout0_A_1
    rw [View.read_writes_junk_eq_canon]
    refine first_held arg12 (add1 harg1 harg2 harg3 harg4 harg6 x0 x1 x2 x3 x5) _ (fold1 harg1 harg2 harg3 harg4 harg6 x0 x1 x2 x3 x5) pay6_apply ?_ p q
    unfold kernelRun0_A
    iterate 17 refine held_step rfl rfl ?_
    rfl

/-- What a point between leaves. -/
theorem left_B (hc0 : ¬cond0_0 i) (hc1 : ¬cond0_1 i) : out0_B_6 (F := Ideal) c i _ harg1 _ harg2 _ harg3 _ harg4 _ harg5 _ harg6 _ harg7 _ harg8 _ harg9 _ harg10 _ harg11 _ harg12 hc0 hc1 x0 x1 x2 x3 x4 x5 xs0 xs1 = B6 x0 x1 x2 x5 ∧ out0_B_7 (F := Ideal) c i _ harg1 _ harg2 _ harg3 _ harg4 _ harg5 _ harg6 _ harg7 _ harg8 _ harg9 _ harg10 _ harg11 _ harg12 hc0 hc1 x0 x1 x2 x3 x4 x5 xs0 xs1 = B7 x0 x1 x2 x3 x4 x5 ∧ (∀ p q, sout0_B_0 (F := Ideal) c i _ harg1 _ harg2 _ harg3 _ harg4 _ harg5 _ harg6 _ harg7 _ harg8 _ harg9 _ harg10 _ harg11 _ harg12 hc0 hc1 x0 x1 x2 x3 x4 x5 xs0 xs1 (ix2 p q) = xs0 (ix2 p q) + share (fun i => E0 x1 x2 i q) p) ∧ (∀ p q, sout0_B_1 (F := Ideal) c i _ harg1 _ harg2 _ harg3 _ harg4 _ harg5 _ harg6 _ harg7 _ harg8 _ harg9 _ harg10 _ harg11 _ harg12 hc0 hc1 x0 x1 x2 x3 x4 x5 xs0 xs1 (ix2 p q) = xs1 (ix2 p q) + share (fun i => E1 x0 x1 x2 x3 x5 i q) p) := by
  refine ⟨?_, ?_, fun p q => ?_, fun p q => ?_⟩
  · unfold out0_B_6
    rw [View.read_writes_junk_eq_canon, ← canon6 harg1 harg2 harg3 harg6]
    unfold kernelRun0_B P6
    rfl
  · unfold out0_B_7
    rw [View.read_writes_junk_eq_canon, ← canon7 harg1 harg2 harg3 harg4 harg5 harg6]
    unfold kernelRun0_B P7
    rfl
  · unfold sout0_B_0
    rw [View.read_writes_junk_eq_canon]
    refine next_held arg11 harg11 (add0 harg2 harg3 x1 x2) _ (fold0 harg2 harg3 x1 x2) xs0 ?_ p q
    unfold kernelRun0_B
    iterate 16 refine held_step rfl rfl ?_
    rfl
  · unfold sout0_B_1
    rw [View.read_writes_junk_eq_canon]
    refine next_held arg12 harg12 (add1 harg1 harg2 harg3 harg4 harg6 x0 x1 x2 x3 x5) _ (fold1 harg1 harg2 harg3 harg4 harg6 x0 x1 x2 x3 x5) xs1 ?_ p q
    unfold kernelRun0_B
    iterate 16 refine held_step rfl rfl ?_
    rfl

/-- What the last point leaves. -/
theorem left_C (hc0 : ¬cond0_0 i) (hc1 : cond0_1 i) : out0_C_6 (F := Ideal) c i _ harg1 _ harg2 _ harg3 _ harg4 _ harg5 _ harg6 _ harg7 _ harg8 _ harg9 _ harg10 _ harg11 _ harg12 hc0 hc1 x0 x1 x2 x3 x4 x5 xs0 xs1 = B6 x0 x1 x2 x5 ∧ out0_C_7 (F := Ideal) c i _ harg1 _ harg2 _ harg3 _ harg4 _ harg5 _ harg6 _ harg7 _ harg8 _ harg9 _ harg10 _ harg11 _ harg12 hc0 hc1 x0 x1 x2 x3 x4 x5 xs0 xs1 = B7 x0 x1 x2 x3 x4 x5 ∧ (∀ q, out0_C_8 (F := Ideal) c i _ harg1 _ harg2 _ harg3 _ harg4 _ harg5 _ harg6 _ harg7 _ harg8 _ harg9 _ harg10 _ harg11 _ harg12 hc0 hc1 x0 x1 x2 x3 x4 x5 xs0 xs1 (ix2 0 q) = ∑ p, (xs0 (ix2 p q) + share (fun i => E0 x1 x2 i q) p)) ∧ (∀ q, out0_C_9 (F := Ideal) c i _ harg1 _ harg2 _ harg3 _ harg4 _ harg5 _ harg6 _ harg7 _ harg8 _ harg9 _ harg10 _ harg11 _ harg12 hc0 hc1 x0 x1 x2 x3 x4 x5 xs0 xs1 (ix2 0 q) = ∑ p, (xs1 (ix2 p q) + share (fun i => E1 x0 x1 x2 x3 x5 i q) p)) := by
  refine ⟨?_, ?_, fun q => ?_, fun q => ?_⟩
  · unfold out0_C_6
    rw [View.read_writes_junk_eq_canon, ← canon6 harg1 harg2 harg3 harg6]
    unfold kernelRun0_C P6
    rfl
  · unfold out0_C_7
    rw [View.read_writes_junk_eq_canon, ← canon7 harg1 harg2 harg3 harg4 harg5 harg6]
    unfold kernelRun0_C P7
    rfl
  · unfold out0_C_8
    rw [View.read_writes_junk_eq_canon]
    refine last_held arg11 harg11 (add0 harg2 harg3 x1 x2) _ (fold0 harg2 harg3 x1 x2) xs0 pay3_apply ?_ q
    unfold kernelRun0_C
    refine last_step _ _ ?_
    iterate 16 refine held_step rfl rfl ?_
    rfl
  · unfold out0_C_9
    rw [View.read_writes_junk_eq_canon]
    refine last_held arg12 harg12 (add1 harg1 harg2 harg3 harg4 harg6 x0 x1 x2 x3 x5) _ (fold1 harg1 harg2 harg3 harg4 harg6 x0 x1 x2 x3 x5) xs1 pay4_apply ?_ q
    unfold kernelRun0_C
    refine last_step _ _ ?_
    iterate 16 refine held_step rfl rfl ?_
    rfl

end Body

variable (m : (ℓ : Loc nD τ sig) → Buf (Elt Ideal) ℓ) (ρ : Dev nD → PrngReg)

/-- Argument 0. -/
abbrev A0 (c : Dev nD) : S2176x2048.Idx → EReal := m ((c : Thread nD τ).loc main_arg0)

/-- Argument 1. -/
abbrev A1 (c : Dev nD) : S2176x2048.Idx → EReal := m ((c : Thread nD τ).loc main_arg1)

/-- Argument 2. -/
abbrev A2 (c : Dev nD) : S2176x2048.Idx → EReal := m ((c : Thread nD τ).loc main_arg2)

/-- Argument 3. -/
abbrev A3 (c : Dev nD) : S2176x2048.Idx → EReal := m ((c : Thread nD τ).loc main_arg3)

/-- Argument 4. -/
abbrev A4 (c : Dev nD) : S1x2048.Idx → EReal := m ((c : Thread nD τ).loc main_arg4)

/-- Argument 5. -/
abbrev A5 (c : Dev nD) : S1x2048.Idx → EReal := m ((c : Thread nD τ).loc main_arg5)

/-- The printed index maps, decided over the grid. -/
theorem maps : ∀ t : Fin cfg0.N, Sits (win0_0.index t) t.val 0 ∧ Sits (win0_1.index t) t.val 0 ∧ Sits (win0_2.index t) t.val 0 ∧ Sits (win0_3.index t) t.val 0 ∧ Sits (win0_4.index t) 0 0 ∧ Sits (win0_5.index t) 0 0 ∧ Sits (win0_6.index t) t.val 0 ∧ Sits (win0_7.index t) t.val 0 ∧ Sits (win0_8.index t) 0 0 ∧ Sits (win0_9.index t) 0 0 :=
  (by decide +kernel : ∀ t : Fin grid0.N, Sits (win0_0.index t) t.val 0 ∧ Sits (win0_1.index t) t.val 0 ∧ Sits (win0_2.index t) t.val 0 ∧ Sits (win0_3.index t) t.val 0 ∧ Sits (win0_4.index t) 0 0 ∧ Sits (win0_5.index t) 0 0 ∧ Sits (win0_6.index t) t.val 0 ∧ Sits (win0_7.index t) t.val 0 ∧ Sits (win0_8.index t) 0 0 ∧ Sits (win0_9.index t) 0 0)

/-- The row windows write at every point, the sums' at the last. -/
theorem flushes : ∀ t : Fin cfg0.N, (cfg0.win 6).flush t = true ∧ (cfg0.win 7).flush t = true ∧ ((cfg0.win 8).flush t = true ↔ t.val = 7) ∧ ((cfg0.win 9).flush t = true ↔ t.val = 7) :=
  (by decide +kernel : ∀ t : Fin grid0.N, win0_6.flush t = true ∧ win0_7.flush t = true ∧ (win0_8.flush t = true ↔ t.val = 7) ∧ (win0_9.flush t = true ↔ t.val = 7))

/-- A row of the block of window 0. -/
theorem row0 (c : Dev nD) (t : Fin cfg0.N) (p : Fin 272) : row (R := 272) (C := 2048) (iblk m c 0 t) p = row (A0 m c) (at272 t p) := by
  obtain ⟨⟨h0, h1⟩, -⟩ := maps t
  exact funext fun k => congrArg (A0 m c) (idx2_ext _ _
    (show win0_0.index t (0 : Fin 2) * 272 + 1 * p.val = t.val * 272 + p.val by omega) (show win0_0.index t (1 : Fin 2) * 2048 + 1 * k.val = k.val by omega))

/-- A row of the block of window 1. -/
theorem row1 (c : Dev nD) (t : Fin cfg0.N) (p : Fin 272) : row (R := 272) (C := 2048) (iblk m c 1 t) p = row (A1 m c) (at272 t p) := by
  obtain ⟨-, ⟨h0, h1⟩, -⟩ := maps t
  exact funext fun k => congrArg (A1 m c) (idx2_ext _ _
    (show win0_1.index t (0 : Fin 2) * 272 + 1 * p.val = t.val * 272 + p.val by omega) (show win0_1.index t (1 : Fin 2) * 2048 + 1 * k.val = k.val by omega))

/-- A row of the block of window 2. -/
theorem row2 (c : Dev nD) (t : Fin cfg0.N) (p : Fin 272) : row (R := 272) (C := 2048) (iblk m c 2 t) p = row (A2 m c) (at272 t p) := by
  obtain ⟨-, -, ⟨h0, h1⟩, -⟩ := maps t
  exact funext fun k => congrArg (A2 m c) (idx2_ext _ _
    (show win0_2.index t (0 : Fin 2) * 272 + 1 * p.val = t.val * 272 + p.val by omega) (show win0_2.index t (1 : Fin 2) * 2048 + 1 * k.val = k.val by omega))

/-- A row of the block of window 3. -/
theorem row3 (c : Dev nD) (t : Fin cfg0.N) (p : Fin 272) : row (R := 272) (C := 2048) (iblk m c 3 t) p = row (A3 m c) (at272 t p) := by
  obtain ⟨-, -, -, ⟨h0, h1⟩, -⟩ := maps t
  exact funext fun k => congrArg (A3 m c) (idx2_ext _ _
    (show win0_3.index t (0 : Fin 2) * 272 + 1 * p.val = t.val * 272 + p.val by omega) (show win0_3.index t (1 : Fin 2) * 2048 + 1 * k.val = k.val by omega))

/-- The row of window 4. -/
theorem row4 (c : Dev nD) (t : Fin cfg0.N) : row (R := 1) (C := 2048) (iblk m c 4 t) 0 = row (A4 m c) 0 := by
  obtain ⟨-, -, -, -, ⟨h0, h1⟩, -⟩ := maps t
  exact funext fun k => congrArg (A4 m c) (idx2_ext _ _
    (show win0_4.index t (0 : Fin 2) * 1 + 1 * 0 = 0 by omega) (show win0_4.index t (1 : Fin 2) * 2048 + 1 * k.val = k.val by omega))

/-- The row of window 5. -/
theorem row5 (c : Dev nD) (t : Fin cfg0.N) : row (R := 1) (C := 2048) (iblk m c 5 t) 0 = row (A5 m c) 0 := by
  obtain ⟨-, -, -, -, -, ⟨h0, h1⟩, -⟩ := maps t
  exact funext fun k => congrArg (A5 m c) (idx2_ext _ _
    (show win0_5.index t (0 : Fin 2) * 1 + 1 * 0 = 0 by omega) (show win0_5.index t (1 : Fin 2) * 2048 + 1 * k.val = k.val by omega))

/-- What a point leaves in window 6. -/
theorem outs6 (c : Dev nD) (t : Fin cfg0.N) : (outsAt0 m c t.val t.isLt).1 = B6 (iblk m c 0 t) (iblk m c 1 t) (iblk m c 2 t) (iblk m c 5 t) := by
  rcases kinds t.val with ⟨h0, h1⟩ | ⟨h0, h1⟩ | ⟨h0, h1⟩
  · rw [outsAt0_A m c t h0 h1]
    dsimp only
    exact (left_A _ _ _ _ _ _ _ _ _ _ _ _ _ _ _ _ _ _ _ _ _ _).1
  · rw [outsAt0_B m c t h0 h1]
    dsimp only
    exact (left_B _ _ _ _ _ _ _ _ _ _ _ _ _ _ _ _ _ _ _ _ _ _ _ _).1
  · rw [outsAt0_C m c t h0 h1]
    dsimp only
    exact (left_C _ _ _ _ _ _ _ _ _ _ _ _ _ _ _ _ _ _ _ _ _ _ _ _).1

/-- The array of window 6 after the run. -/
theorem end6 (c : Dev nD) : (dats m 0 c).arrAt 6 cfg0.N = T6 (A0 m c) (A1 m c) (A2 m c) (A5 m c) := by
  refine (dats m 0 c).arrAt_eq_of_cover 6 _ (fun t _ => ?_) (fun (i : S2176x2048.Idx) => ?_)
  · obtain ⟨-, -, -, -, -, -, ⟨h0, h1⟩, -⟩ := maps t
    refine (flushed6 m c t).trans ?_
    rw [outs6 m c t]
    funext y
    have ey : ((cfg0.win 6).blk t).view.emb y = ix2 (at272 t (y 0)) (y 1) := idx2_ext _ _
      (show win0_6.index t (0 : Fin 2) * 272 + 1 * (y 0).val = t.val * 272 + (y 0).val by omega)
      (show win0_6.index t (1 : Fin 2) * 2048 + 1 * (y 1).val = (y 1).val by omega)
    refine Eq.trans ?_ (congrArg (T6 (A0 m c) (A1 m c) (A2 m c) (A5 m c)) ey.symm)
    refine Eq.trans (b := pass (row (R := 272) (iblk m c 0 t) (y 0)) (row (R := 272) (iblk m c 1 t) (y 0)) (row (R := 272) (iblk m c 2 t) (y 0)) (row (R := 1) (iblk m c 5 t) 0) (y 1)) rfl ?_
    rw [row0 m c t (y 0), row1 m c t (y 0), row2 m c t (y 0), row5 m c t]
    rfl
  · obtain ⟨t, ht⟩ : ∃ t : Fin cfg0.N, t.val = (i 0).val / 272 := block_of (i 0).isLt
    obtain ⟨-, -, -, -, -, -, ⟨h0, h1⟩, -⟩ := maps t
    obtain ⟨f, -⟩ := flushes t
    refine ⟨t, f, ?_⟩
    show i ∈ ((View.whole main_v0_0).slice (win0_6.rect t)).set
    rw [View.set_slice_whole]
    exact mem_rows i _ _ (show win0_6.index t (0 : Fin 2) * 272 = _ by rw [h0, ht]) (show win0_6.index t (1 : Fin 2) * 2048 = 0 by rw [h1])

/-- What a point leaves in window 7. -/
theorem outs7 (c : Dev nD) (t : Fin cfg0.N) : (outsAt0 m c t.val t.isLt).2.1 = B7 (iblk m c 0 t) (iblk m c 1 t) (iblk m c 2 t) (iblk m c 3 t) (iblk m c 4 t) (iblk m c 5 t) := by
  rcases kinds t.val with ⟨h0, h1⟩ | ⟨h0, h1⟩ | ⟨h0, h1⟩
  · rw [outsAt0_A m c t h0 h1]
    dsimp only
    exact (left_A _ _ _ _ _ _ _ _ _ _ _ _ _ _ _ _ _ _ _ _ _ _).2.1
  · rw [outsAt0_B m c t h0 h1]
    dsimp only
    exact (left_B _ _ _ _ _ _ _ _ _ _ _ _ _ _ _ _ _ _ _ _ _ _ _ _).2.1
  · rw [outsAt0_C m c t h0 h1]
    dsimp only
    exact (left_C _ _ _ _ _ _ _ _ _ _ _ _ _ _ _ _ _ _ _ _ _ _ _ _).2.1

/-- The array of window 7 after the run. -/
theorem end7 (c : Dev nD) : (dats m 0 c).arrAt 7 cfg0.N = T7 (A0 m c) (A1 m c) (A2 m c) (A3 m c) (A4 m c) (A5 m c) := by
  refine (dats m 0 c).arrAt_eq_of_cover 7 _ (fun t _ => ?_) (fun (i : S2176x2048.Idx) => ?_)
  · obtain ⟨-, -, -, -, -, -, -, ⟨h0, h1⟩, -⟩ := maps t
    refine (flushed7 m c t).trans ?_
    rw [outs7 m c t]
    funext y
    have ey : ((cfg0.win 7).blk t).view.emb y = ix2 (at272 t (y 0)) (y 1) := idx2_ext _ _
      (show win0_7.index t (0 : Fin 2) * 272 + 1 * (y 0).val = t.val * 272 + (y 0).val by omega)
      (show win0_7.index t (1 : Fin 2) * 2048 + 1 * (y 1).val = (y 1).val by omega)
    refine Eq.trans ?_ (congrArg (T7 (A0 m c) (A1 m c) (A2 m c) (A3 m c) (A4 m c) (A5 m c)) ey.symm)
    refine Eq.trans (b := rmsb (row (R := 272) (iblk m c 3 t) (y 0)) (row (R := 1) (iblk m c 4 t) 0) (pass (row (R := 272) (iblk m c 0 t) (y 0)) (row (R := 272) (iblk m c 1 t) (y 0)) (row (R := 272) (iblk m c 2 t) (y 0)) (row (R := 1) (iblk m c 5 t) 0)) (y 1)) rfl ?_
    rw [row0 m c t (y 0), row1 m c t (y 0), row2 m c t (y 0), row3 m c t (y 0), row4 m c t, row5 m c t]
    rfl
  · obtain ⟨t, ht⟩ : ∃ t : Fin cfg0.N, t.val = (i 0).val / 272 := block_of (i 0).isLt
    obtain ⟨-, -, -, -, -, -, -, ⟨h0, h1⟩, -⟩ := maps t
    obtain ⟨-, f, -⟩ := flushes t
    refine ⟨t, f, ?_⟩
    show i ∈ ((View.whole main_v0_1).slice (win0_7.rect t)).set
    rw [View.set_slice_whole]
    exact mem_rows i _ _ (show win0_7.index t (0 : Fin 2) * 272 = _ by rw [h0, ht]) (show win0_7.index t (1 : Fin 2) * 2048 = 0 by rw [h1])

/-- What a point adds to scratch 0, from the arrays. -/
theorem part0 (c : Dev nD) (p : Fin 8) (q : Fin 2048) (t : Fin cfg0.N) : share (fun i => E0 (iblk m c 1 t) (iblk m c 2 t) i q) p = share (fun i => scale (row (A1 m c) (at272 t i)) (row (A2 m c) (at272 t i)) q) p :=
  congrArg (fun f => share f p) (funext fun i => by
    unfold E0
    rw [row1 m c t i, row2 m c t i])

/-- The array of window 8 after the run. -/
theorem end8 (c : Dev nD) : (dats m 0 c).arrAt 8 cfg0.N = T8 (A1 m c) (A2 m c) := by
  refine (dats m 0 c).arrAt_eq_of_cover 8 _ (fun t hf => ?_) (fun (i : S1x2048.Idx) => ?_)
  · obtain ⟨-, -, -, -, -, -, -, -, ⟨h0, h1⟩, -⟩ := maps t
    obtain ⟨-, -, f, -⟩ := flushes t
    have ht : t.val = 7 := f.mp hf
    refine (flushed8_C m c t (by omega) (by omega)).trans ?_
    funext y
    obtain ⟨q, hq⟩ : ∃ q : Fin 2048, y = (ix2 0 q : S1x2048.Idx) := one_row y
    have ey : ((cfg0.win 8).blk t).view.emb (ix2 0 q : S1x2048.Idx) = (ix2 0 q : S1x2048.Idx) := idx2_ext _ _
      (show win0_8.index t (0 : Fin 2) * 1 + 1 * 0 = 0 by omega)
      (show win0_8.index t (1 : Fin 2) * 2048 + 1 * q.val = q.val by omega)
    rw [hq]
    refine Eq.trans ?_ (congrArg (T8 (A1 m c) (A2 m c)) ey.symm)
    refine ((left_C _ _ _ _ _ _ _ _ _ _ _ _ _ _ _ _ _ _ _ _ _ _ _ _).2.2.1 q).trans ?_
    refine (Finset.sum_congr (M := EReal) rfl fun p _ => congrArg (_ + ·) (part0 m c p q t)).trans ?_
    refine summed (fun p n h => (outsAt0 m c n h).2.2.2.2.1 (ix2 p q)) (fun i => scale (row (A1 m c) i) (row (A2 m c) i) q) (fun p => ?_) (fun p n hn => ?_) t ht _
    · have e := outsAt0_A m c ⟨0, Nat.zero_lt_succ 7⟩ (show 0 % 8 = 0 from rfl) (show ¬0 % 8 = 7 by omega)
      dsimp only at e ⊢
      rw [e]
      dsimp only
      exact ((left_A _ _ _ _ _ _ _ _ _ _ _ _ _ _ _ _ _ _ _ _ _ _).2.2.1 p q).trans (part0 m c p q _)
    · have h : n + 1 < cfg0.N := show n + 1 < 8 by omega
      have e := outsAt0_B m c ⟨n + 1, h⟩ (show ¬(n + 1) % 8 = 0 by omega) (show ¬(n + 1) % 8 = 7 by omega)
      dsimp only at e ⊢
      rw [e]
      dsimp only
      exact ((left_B _ _ _ _ _ _ _ _ _ _ _ _ _ _ _ _ _ _ _ _ _ _ _ _).2.2.1 p q).trans (congrArg (_ + ·) (part0 m c p q _))
  · obtain ⟨t, ht⟩ : ∃ t : Fin cfg0.N, t.val = 7 := ⟨(7 : Fin 8), rfl⟩
    obtain ⟨-, -, -, -, -, -, -, -, ⟨h0, h1⟩, -⟩ := maps t
    obtain ⟨-, -, f, -⟩ := flushes t
    refine ⟨t, f.mpr ht, ?_⟩
    show i ∈ ((View.whole main_v0_2).slice (win0_8.rect t)).set
    rw [View.set_slice_whole]
    exact mem_row i _ _ (show win0_8.index t (0 : Fin 2) * 1 = 0 by rw [h0]) (show win0_8.index t (1 : Fin 2) * 2048 = 0 by rw [h1])

/-- What a point adds to scratch 1, from the arrays. -/
theorem part1 (c : Dev nD) (p : Fin 8) (q : Fin 2048) (t : Fin cfg0.N) : share (fun i => E1 (iblk m c 0 t) (iblk m c 1 t) (iblk m c 2 t) (iblk m c 3 t) (iblk m c 5 t) i q) p = share (fun i => scale (pass (row (A0 m c) (at272 t i)) (row (A1 m c) (at272 t i)) (row (A2 m c) (at272 t i)) (row (A5 m c) 0)) (row (A3 m c) (at272 t i)) q) p :=
  congrArg (fun f => share f p) (funext fun i => by
    unfold E1
    rw [row0 m c t i, row1 m c t i, row2 m c t i, row3 m c t i, row5 m c t])

/-- The array of window 9 after the run. -/
theorem end9 (c : Dev nD) : (dats m 0 c).arrAt 9 cfg0.N = T9 (A0 m c) (A1 m c) (A2 m c) (A3 m c) (A5 m c) := by
  refine (dats m 0 c).arrAt_eq_of_cover 9 _ (fun t hf => ?_) (fun (i : S1x2048.Idx) => ?_)
  · obtain ⟨-, -, -, -, -, -, -, -, -, ⟨h0, h1⟩⟩ := maps t
    obtain ⟨-, -, -, f⟩ := flushes t
    have ht : t.val = 7 := f.mp hf
    refine (flushed9_C m c t (by omega) (by omega)).trans ?_
    funext y
    obtain ⟨q, hq⟩ : ∃ q : Fin 2048, y = (ix2 0 q : S1x2048.Idx) := one_row y
    have ey : ((cfg0.win 9).blk t).view.emb (ix2 0 q : S1x2048.Idx) = (ix2 0 q : S1x2048.Idx) := idx2_ext _ _
      (show win0_9.index t (0 : Fin 2) * 1 + 1 * 0 = 0 by omega)
      (show win0_9.index t (1 : Fin 2) * 2048 + 1 * q.val = q.val by omega)
    rw [hq]
    refine Eq.trans ?_ (congrArg (T9 (A0 m c) (A1 m c) (A2 m c) (A3 m c) (A5 m c)) ey.symm)
    refine ((left_C _ _ _ _ _ _ _ _ _ _ _ _ _ _ _ _ _ _ _ _ _ _ _ _).2.2.2 q).trans ?_
    refine (Finset.sum_congr (M := EReal) rfl fun p _ => congrArg (_ + ·) (part1 m c p q t)).trans ?_
    refine summed (fun p n h => (outsAt0 m c n h).2.2.2.2.2 (ix2 p q)) (fun i => scale (pass (row (A0 m c) i) (row (A1 m c) i) (row (A2 m c) i) (row (A5 m c) 0)) (row (A3 m c) i) q) (fun p => ?_) (fun p n hn => ?_) t ht _
    · have e := outsAt0_A m c ⟨0, Nat.zero_lt_succ 7⟩ (show 0 % 8 = 0 from rfl) (show ¬0 % 8 = 7 by omega)
      dsimp only at e ⊢
      rw [e]
      dsimp only
      exact ((left_A _ _ _ _ _ _ _ _ _ _ _ _ _ _ _ _ _ _ _ _ _ _).2.2.2 p q).trans (part1 m c p q _)
    · have h : n + 1 < cfg0.N := show n + 1 < 8 by omega
      have e := outsAt0_B m c ⟨n + 1, h⟩ (show ¬(n + 1) % 8 = 0 by omega) (show ¬(n + 1) % 8 = 7 by omega)
      dsimp only at e ⊢
      rw [e]
      dsimp only
      exact ((left_B _ _ _ _ _ _ _ _ _ _ _ _ _ _ _ _ _ _ _ _ _ _ _ _).2.2.2 p q).trans (congrArg (_ + ·) (part1 m c p q _))
  · obtain ⟨t, ht⟩ : ∃ t : Fin cfg0.N, t.val = 7 := ⟨(7 : Fin 8), rfl⟩
    obtain ⟨-, -, -, -, -, -, -, -, -, ⟨h0, h1⟩⟩ := maps t
    obtain ⟨-, -, -, f⟩ := flushes t
    refine ⟨t, f.mpr ht, ?_⟩
    show i ∈ ((View.whole main_v0_3).slice (win0_9.rect t)).set
    rw [View.set_slice_whole]
    exact mem_row i _ _ (show win0_9.index t (0 : Fin 2) * 1 = 0 by rw [h0]) (show win0_9.index t (1 : Fin 2) * 2048 = 0 by rw [h1])

end Cert.BwdMidIdeal.Value

namespace Cert.BwdMidReferenceIdeal.Read

open Cert.BwdMidIdeal.Value Cert.Blocks Cert.Rows Cert.RmsBwd Idealize.ShloMosaic Idealize.ShloMosaic.TcCoe

/-- The mixed rows' cotangent in the reference, read. -/
theorem v34_eq (D0 D1 X : (⟨S2176x2048, .f32⟩ : BufTy).Contents (Elt Ideal)) (w : (⟨S1x2048, .f32⟩ : BufTy).Contents (Elt Ideal)) : val_main_v34 (F := Ideal) D0 D1 X w = T6 D0 D1 X w := by
  refine ext2 fun p q => ?_
  simp only [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v10, val_main_v9, val_main_v8, val_main_v7, val_main_v6, val_main_v5, val_main_v4, val_main_v3, val_main_v2, val_main_v1, val_main_cst_5, val_main_cst_4, val_main_cst_2, val_main_cst_1, val_main_cst_0, val_main_v0, val_main_cst, val_main_cst_6]
  refine Eq.trans ?_ (pass_eq (row D0 p) (row D1 p) (row X p) (row w 0) q).symm
  unfold through rinv spread row
  pointwise
  simp only [Fin.sum_univ_one (M := EReal)]

/-- The first scale's gradient in the reference, read. -/
theorem v17_eq (D1 X : (⟨S2176x2048, .f32⟩ : BufTy).Contents (Elt Ideal)) : val_main_v17 (F := Ideal) D1 X = T8 D1 X := by
  refine ext2 fun p q => ?_
  simp only [val_main_v17, val_main_v16, val_main_v15, val_main_v12, val_main_v11, val_main_v7, val_main_v6, val_main_v5, val_main_v4, val_main_v3, val_main_v2, val_main_v1, val_main_cst_1, val_main_cst_0, val_main_v0, val_main_cst, val_main_cst_3]
  unfold T8 scale rinv spread row
  pointwise
  exact Finset.sum_congr (M := EReal) rfl fun k _ => mul_comm (G := EReal) _ _

/-- The mixer's cotangent in the reference, read. -/
theorem v69_eq (D0 D1 X M : (⟨S2176x2048, .f32⟩ : BufTy).Contents (Elt Ideal)) (v w : (⟨S1x2048, .f32⟩ : BufTy).Contents (Elt Ideal)) : val_main_v69 (F := Ideal) D0 D1 X M v w = T7 D0 D1 X M v w := by
  refine ext2 fun p q => ?_
  simp only [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v45, val_main_v44, val_main_v43, val_main_v42, val_main_v41, val_main_v40, val_main_v39, val_main_v38, val_main_v37, val_main_v36, val_main_v35, val_main_cst_13, val_main_cst_12, val_main_cst_10, val_main_cst_9, val_main_cst_8, val_main_cst_7, val_main_cst_14, v34_eq]
  refine Eq.trans ?_ (rmsb_add (row M p) (row v 0) (row (T6 D0 D1 X w) p) q).symm
  generalize T6 D0 D1 X w = d
  unfold through rinv spread row
  pointwise
  simp only [Fin.sum_univ_one (M := EReal)]

/-- The second scale's gradient in the reference, read. -/
theorem v52_eq (D0 D1 X M : (⟨S2176x2048, .f32⟩ : BufTy).Contents (Elt Ideal)) (w : (⟨S1x2048, .f32⟩ : BufTy).Contents (Elt Ideal)) : val_main_v52 (F := Ideal) D0 D1 X M w = T9 D0 D1 X M w := by
  refine ext2 fun p q => ?_
  simp only [val_main_v52, val_main_v51, val_main_v50, val_main_v47, val_main_v46, val_main_v42, val_main_v41, val_main_v40, val_main_v39, val_main_v38, val_main_v37, val_main_v36, val_main_v35, val_main_cst_9, val_main_cst_8, val_main_cst_7, val_main_cst_11, v34_eq]
  refine Eq.trans (b := ∑ k, scale (row (T6 D0 D1 X w) k) (row M k) q) ?_ rfl
  generalize T6 D0 D1 X w = d
  unfold scale rinv spread row
  pointwise
  exact Finset.sum_congr (M := EReal) rfl fun k _ => mul_comm (G := EReal) _ _

end Cert.BwdMidReferenceIdeal.Read

namespace Cert.BwdMidEq

open Idealize.ShloMosaic Idealize.ShloMosaic.TcCoe Idealize.SL.Sem Cert.BwdMidIdeal.Value

/-- The kernel and its reference leave equal results and keep their arguments. -/
theorem algebraic : Cert.algebraic_BwdMidIdeal_BwdMidReferenceIdeal := by
  intro m g m' g' _ hagree
  refine ⟨fun c => T6 (A0 m c) (A1 m c) (A2 m c) (A5 m c), fun c => T7 (A0 m c) (A1 m c) (A2 m c) (A3 m c) (A4 m c) (A5 m c), fun c => T8 (A1 m c) (A2 m c), fun c => T9 (A0 m c) (A1 m c) (A2 m c) (A3 m c) (A5 m c),
    (θ_run Cert.BwdMidIdeal.defs _ _).mono (fun r h c => ?_) (Cert.BwdMidIdeal.Value.run_blocks m g),
    (θ_run Cert.BwdMidReferenceIdeal.defs _ _).mono (fun r h c => ?_) (Cert.BwdMidReferenceIdeal.Value.run m' g')⟩
  · obtain ⟨h0, h1, h2, h3, k⟩ := h c
    exact ⟨h0.trans (end6 m c), h1.trans (end7 m c), h2.trans (end8 m c), h3.trans (end9 m c), k⟩
  · obtain ⟨h0, h1, h2, h3, k⟩ := h c
    obtain ⟨a0, a1, a2, a3, a4, a5⟩ := hagree c
    rw [a0, a1, a2, a5] at h0
    rw [Cert.BwdMidReferenceIdeal.Read.val_main_v69_eq, a0, a1, a2, a3, a4, a5] at h1
    rw [a1, a2] at h2
    rw [Cert.BwdMidReferenceIdeal.Read.val_main_v52_eq, a0, a1, a2, a3, a5] at h3
    exact ⟨h0.trans ((Cert.BwdMidReferenceIdeal.Read.val_main_v34_eq _ _ _ _).trans (Cert.BwdMidReferenceIdeal.Read.v34_eq _ _ _ _)), h1.trans (Cert.BwdMidReferenceIdeal.Read.v69_eq _ _ _ _ _ _), h2.trans ((Cert.BwdMidReferenceIdeal.Read.val_main_v17_eq _ _).trans (Cert.BwdMidReferenceIdeal.Read.v17_eq _ _)), h3.trans (Cert.BwdMidReferenceIdeal.Read.v52_eq _ _ _ _ _), k⟩

end Cert.BwdMidEq

end
-- ==== Proof.BwdInEq.lean ====
/- The backward call of the layer's input norm: its arrays, and that its reference leaves the same. -/
module

public import proofs.«01_k».proof.Defs
public import proofs.«01_k».proof.Proof.Gen.BwdInIdeal.Value
public import proofs.«01_k».proof.Proof.Gen.BwdInReferenceIdeal.Run
public import proofs.«01_k».proof.Proof.Gen.BwdInReferenceIdeal.Read
public import proofs.«01_k».proof.Proof.Gathered
public import proofs.«01_k».proof.Proof.RmsBwd

@[expose] public section

set_option maxRecDepth 16384

noncomputable section

namespace Cert.BwdInIdeal.Value

open Cert.BwdInIdeal Cert.BwdInIdeal.Gen Idealize.ShloMosaic Idealize.ShloMosaic.TcCoe Idealize.SL.Sem Cert.Blocks Cert.Rows Cert.Gathered Cert.RmsBwd
open Idealize.ShloMosaic.Pipeline (Dat)

/-- The input's cotangent, of one chunk. -/
theorem pay7_apply (x0 x1 x2 : Vec Ideal S16x2048 .f32) (w : Vec Ideal S1x2048 .f32) (p : Fin 16) (q : Fin 2048) :
    k0_pay7 x0 x1 x2 w (ix2 p q) = pass (row x0 p) (row x1 p) (row x2 p) (row w 0) q := by
  unfold k0_pay7 k0_pay6 k0_pay5 pass rmsb rinv spread row
  pointwise

/-- What a chunk adds to the scratch: two of its rows. -/
theorem pay2_apply (x1 x2 : Vec Ideal S16x2048 .f32) (a : Vec Ideal S8x2048 .f32) (p : Fin 8) (q : Fin 2048) :
    k0_pay2 x1 (k0_pay6 x2) a (ix2 p q) = a (ix2 p q) + (scale (row x1 (lo p)) (row x2 (lo p)) q + scale (row x1 (hi p)) (row x2 (hi p)) q) := by
  unfold k0_pay2 k0_pay6 k0_pay5 lo hi scale rinv spread row
  pointwise

/-- The scratch's eight rows, added. -/
theorem pay3_apply (a : Vec Ideal S8x2048 .f32) (q : Fin 2048) : k0_pay3 a (ix2 0 q) = ∑ p : Fin 8, a (ix2 p q) := by
  unfold k0_pay3
  pointwise

/-- The scratch starts at zero. -/
theorem pay4_apply (p : Fin 8) (q : Fin 2048) : k0_pay4 (F := Ideal) (ix2 p q) = 0 := by
  unfold k0_pay4
  pointwise

/-- The input's cotangent. -/
def T4 (a0 a1 a2 : S2176x2048.Idx → EReal) (a3 : S1x2048.Idx → EReal) (i : S2176x2048.Idx) : EReal := pass (row a0 (i 0)) (row a1 (i 0)) (row a2 (i 0)) (row a3 0) (i 1)

/-- The norm's scale's gradient: the sum over the rows. -/
def T5 (a1 a2 : S2176x2048.Idx → EReal) (i : S1x2048.Idx) : EReal := ∑ p, scale (row a1 p) (row a2 p) (i 1)

section Body

variable (c : Dev nD) (i : grid0.Coords) {arg1 : Memref sig .tc .vmem S272x2048 .f32} (harg1 : arg1.IsWhole) {arg2 : Memref sig .tc .vmem S272x2048 .f32} (harg2 : arg2.IsWhole) {arg3 : Memref sig .tc .vmem S272x2048 .f32} (harg3 : arg3.IsWhole) {arg4 : Memref sig .tc .vmem S1x2048 .f32} (harg4 : arg4.IsWhole) {arg5 : Memref sig .tc .vmem S272x2048 .f32} (harg5 : arg5.IsWhole) {arg6 : Memref sig .tc .vmem S1x2048 .f32} (harg6 : arg6.IsWhole) {arg7 : Memref sig .tc .vmem S8x2048 .f32} (harg7 : arg7.IsWhole)
variable (x0 x1 x2 : Vec Ideal S272x2048 .f32) (x3 : Vec Ideal S1x2048 .f32) (xs0 : Vec Ideal S8x2048 .f32)

/-- The input's cotangent, in a block. -/
def B4 : Vec Ideal S272x2048 .f32 := fun y => pass (row x0 (y 0)) (row x1 (y 0)) (row x2 (y 0)) (row x3 0) (y 1)

/-- Its value in a chunk. -/
def P4 (r : Fin 17) : Vec Ideal S16x2048 .f32 := k0_pay7 (rd _ harg1 x0 r) (rd _ harg2 x1 r) (rd _ harg3 x2 r) (rd1 _ harg4 x3)

/-- The chunks make it up. -/
theorem canon4 : View.canon (Val := Elt Ideal) (e := .f32) (order.map fun r => ⟨chunk 2048 r, P4 harg1 harg2 harg3 harg4 x0 x1 x2 x3 r⟩) = B4 x0 x1 x2 x3 := by
  refine canon_chunks (e := .f32) _ (P4 harg1 harg2 harg3 harg4 x0 x1 x2 x3) fun r p q => ?_
  refine (pay7_apply (rd _ harg1 x0 r) (rd _ harg2 x1 r) (rd _ harg3 x2 r) (rd1 _ harg4 x3) p q).trans ?_
  simp only [row_rd, rd1_eq]
  rfl

/-- The norm's scale's gradient: what a row adds. -/
def E0 (i : Fin 272) : Fin 2048 → EReal := scale (row x1 i) (row x2 i)

/-- The scratch after a chunk. -/
def add0 (r : Fin 17) (a : Vec Ideal S8x2048 .f32) : Vec Ideal S8x2048 .f32 := k0_pay2 (rd _ harg2 x1 r) (k0_pay6 (rd _ harg3 x2 r)) a

/-- What a point adds to the scratch. -/
theorem fold0 (a : Vec Ideal S8x2048 .f32) (p : Fin 8) (q : Fin 2048) : order.foldr (add0 harg2 harg3 x1 x2) a (ix2 p q) = a (ix2 p q) + share (fun i => E0 x1 x2 i q) p :=
  foldr_apply _ (fun r p q => E0 x1 x2 (at16 r (lo p)) q + E0 x1 x2 (at16 r (hi p)) q) (fun r a p q => by
    refine (pay2_apply (rd _ harg2 x1 r) (rd _ harg3 x2 r) a p q).trans ?_
    simp only [row_rd, rd1_eq]
    rfl) a p q

/-- What the first point leaves. -/
theorem left_A (hc0 : cond0_0 i) (hc1 : ¬cond0_1 i) : out0_A_4 (F := Ideal) c i _ harg1 _ harg2 _ harg3 _ harg4 _ harg5 _ harg6 _ harg7 hc0 hc1 x0 x1 x2 x3 = B4 x0 x1 x2 x3 ∧ (∀ p q, sout0_A_0 (F := Ideal) c i _ harg1 _ harg2 _ harg3 _ harg4 _ harg5 _ harg6 _ harg7 hc0 hc1 x0 x1 x2 x3 (ix2 p q) = share (fun i => E0 x1 x2 i q) p) := by
  refine ⟨?_, fun p q => ?_⟩
  · unfold out0_A_4
    rw [View.read_writes_junk_eq_canon, ← canon4 harg1 harg2 harg3 harg4]
    unfold kernelRun0_A P4
    rfl
  · unfold sout0_A_0
    rw [View.read_writes_junk_eq_canon]
    refine first_held arg7 (add0 harg2 harg3 x1 x2) _ (fold0 harg2 harg3 x1 x2) pay4_apply ?_ p q
    unfold kernelRun0_A
    iterate 17 refine held_step rfl rfl ?_
    rfl

/-- What a point between leaves. -/
theorem left_B (hc0 : ¬cond0_0 i) (hc1 : ¬cond0_1 i) : out0_B_4 (F := Ideal) c i _ harg1 _ harg2 _ harg3 _ harg4 _ harg5 _ harg6 _ harg7 hc0 hc1 x0 x1 x2 x3 xs0 = B4 x0 x1 x2 x3 ∧ (∀ p q, sout0_B_0 (F := Ideal) c i _ harg1 _ harg2 _ harg3 _ harg4 _ harg5 _ harg6 _ harg7 hc0 hc1 x0 x1 x2 x3 xs0 (ix2 p q) = xs0 (ix2 p q) + share (fun i => E0 x1 x2 i q) p) := by
  refine ⟨?_, fun p q => ?_⟩
  · unfold out0_B_4
    rw [View.read_writes_junk_eq_canon, ← canon4 harg1 harg2 harg3 harg4]
    unfold kernelRun0_B P4
    rfl
  · unfold sout0_B_0
    rw [View.read_writes_junk_eq_canon]
    refine next_held arg7 harg7 (add0 harg2 harg3 x1 x2) _ (fold0 harg2 harg3 x1 x2) xs0 ?_ p q
    unfold kernelRun0_B
    iterate 16 refine held_step rfl rfl ?_
    rfl

/-- What the last point leaves. -/
theorem left_C (hc0 : ¬cond0_0 i) (hc1 : cond0_1 i) : out0_C_4 (F := Ideal) c i _ harg1 _ harg2 _ harg3 _ harg4 _ harg5 _ harg6 _ harg7 hc0 hc1 x0 x1 x2 x3 xs0 = B4 x0 x1 x2 x3 ∧ (∀ q, out0_C_5 (F := Ideal) c i _ harg1 _ harg2 _ harg3 _ harg4 _ harg5 _ harg6 _ harg7 hc0 hc1 x0 x1 x2 x3 xs0 (ix2 0 q) = ∑ p, (xs0 (ix2 p q) + share (fun i => E0 x1 x2 i q) p)) := by
  refine ⟨?_, fun q => ?_⟩
  · unfold out0_C_4
    rw [View.read_writes_junk_eq_canon, ← canon4 harg1 harg2 harg3 harg4]
    unfold kernelRun0_C P4
    rfl
  · unfold out0_C_5
    rw [View.read_writes_junk_eq_canon]
    refine last_held arg7 harg7 (add0 harg2 harg3 x1 x2) _ (fold0 harg2 harg3 x1 x2) xs0 pay3_apply ?_ q
    unfold kernelRun0_C
    refine last_step _ _ ?_
    iterate 16 refine held_step rfl rfl ?_
    rfl

end Body

variable (m : (ℓ : Loc nD τ sig) → Buf (Elt Ideal) ℓ) (ρ : Dev nD → PrngReg)

/-- Argument 0. -/
abbrev A0 (c : Dev nD) : S2176x2048.Idx → EReal := m ((c : Thread nD τ).loc main_arg0)

/-- Argument 1. -/
abbrev A1 (c : Dev nD) : S2176x2048.Idx → EReal := m ((c : Thread nD τ).loc main_arg1)

/-- Argument 2. -/
abbrev A2 (c : Dev nD) : S2176x2048.Idx → EReal := m ((c : Thread nD τ).loc main_arg2)

/-- Argument 3. -/
abbrev A3 (c : Dev nD) : S1x2048.Idx → EReal := m ((c : Thread nD τ).loc main_arg3)

/-- The printed index maps, decided over the grid. -/
theorem maps : ∀ t : Fin cfg0.N, Sits (win0_0.index t) t.val 0 ∧ Sits (win0_1.index t) t.val 0 ∧ Sits (win0_2.index t) t.val 0 ∧ Sits (win0_3.index t) 0 0 ∧ Sits (win0_4.index t) t.val 0 ∧ Sits (win0_5.index t) 0 0 :=
  (by decide +kernel : ∀ t : Fin grid0.N, Sits (win0_0.index t) t.val 0 ∧ Sits (win0_1.index t) t.val 0 ∧ Sits (win0_2.index t) t.val 0 ∧ Sits (win0_3.index t) 0 0 ∧ Sits (win0_4.index t) t.val 0 ∧ Sits (win0_5.index t) 0 0)

/-- The row windows write at every point, the sums' at the last. -/
theorem flushes : ∀ t : Fin cfg0.N, (cfg0.win 4).flush t = true ∧ ((cfg0.win 5).flush t = true ↔ t.val = 7) :=
  (by decide +kernel : ∀ t : Fin grid0.N, win0_4.flush t = true ∧ (win0_5.flush t = true ↔ t.val = 7))

/-- A row of the block of window 0. -/
theorem row0 (c : Dev nD) (t : Fin cfg0.N) (p : Fin 272) : row (R := 272) (C := 2048) (iblk m c 0 t) p = row (A0 m c) (at272 t p) := by
  obtain ⟨⟨h0, h1⟩, -⟩ := maps t
  exact funext fun k => congrArg (A0 m c) (idx2_ext _ _
    (show win0_0.index t (0 : Fin 2) * 272 + 1 * p.val = t.val * 272 + p.val by omega) (show win0_0.index t (1 : Fin 2) * 2048 + 1 * k.val = k.val by omega))

/-- A row of the block of window 1. -/
theorem row1 (c : Dev nD) (t : Fin cfg0.N) (p : Fin 272) : row (R := 272) (C := 2048) (iblk m c 1 t) p = row (A1 m c) (at272 t p) := by
  obtain ⟨-, ⟨h0, h1⟩, -⟩ := maps t
  exact funext fun k => congrArg (A1 m c) (idx2_ext _ _
    (show win0_1.index t (0 : Fin 2) * 272 + 1 * p.val = t.val * 272 + p.val by omega) (show win0_1.index t (1 : Fin 2) * 2048 + 1 * k.val = k.val by omega))

/-- A row of the block of window 2. -/
theorem row2 (c : Dev nD) (t : Fin cfg0.N) (p : Fin 272) : row (R := 272) (C := 2048) (iblk m c 2 t) p = row (A2 m c) (at272 t p) := by
  obtain ⟨-, -, ⟨h0, h1⟩, -⟩ := maps t
  exact funext fun k => congrArg (A2 m c) (idx2_ext _ _
    (show win0_2.index t (0 : Fin 2) * 272 + 1 * p.val = t.val * 272 + p.val by omega) (show win0_2.index t (1 : Fin 2) * 2048 + 1 * k.val = k.val by omega))

/-- The row of window 3. -/
theorem row3 (c : Dev nD) (t : Fin cfg0.N) : row (R := 1) (C := 2048) (iblk m c 3 t) 0 = row (A3 m c) 0 := by
  obtain ⟨-, -, -, ⟨h0, h1⟩, -⟩ := maps t
  exact funext fun k => congrArg (A3 m c) (idx2_ext _ _
    (show win0_3.index t (0 : Fin 2) * 1 + 1 * 0 = 0 by omega) (show win0_3.index t (1 : Fin 2) * 2048 + 1 * k.val = k.val by omega))

/-- What a point leaves in window 4. -/
theorem outs4 (c : Dev nD) (t : Fin cfg0.N) : (outsAt0 m c t.val t.isLt).1 = B4 (iblk m c 0 t) (iblk m c 1 t) (iblk m c 2 t) (iblk m c 3 t) := by
  rcases kinds t.val with ⟨h0, h1⟩ | ⟨h0, h1⟩ | ⟨h0, h1⟩
  · rw [outsAt0_A m c t h0 h1]
    dsimp only
    exact (left_A _ _ _ _ _ _ _ _ _ _ _ _ _ _ _).1
  · rw [outsAt0_B m c t h0 h1]
    dsimp only
    exact (left_B _ _ _ _ _ _ _ _ _ _ _ _ _ _ _ _).1
  · rw [outsAt0_C m c t h0 h1]
    dsimp only
    exact (left_C _ _ _ _ _ _ _ _ _ _ _ _ _ _ _ _).1

/-- The array of window 4 after the run. -/
theorem end4 (c : Dev nD) : (dats m 0 c).arrAt 4 cfg0.N = T4 (A0 m c) (A1 m c) (A2 m c) (A3 m c) := by
  refine (dats m 0 c).arrAt_eq_of_cover 4 _ (fun t _ => ?_) (fun (i : S2176x2048.Idx) => ?_)
  · obtain ⟨-, -, -, -, ⟨h0, h1⟩, -⟩ := maps t
    refine (flushed4 m c t).trans ?_
    rw [outs4 m c t]
    funext y
    have ey : ((cfg0.win 4).blk t).view.emb y = ix2 (at272 t (y 0)) (y 1) := idx2_ext _ _
      (show win0_4.index t (0 : Fin 2) * 272 + 1 * (y 0).val = t.val * 272 + (y 0).val by omega)
      (show win0_4.index t (1 : Fin 2) * 2048 + 1 * (y 1).val = (y 1).val by omega)
    refine Eq.trans ?_ (congrArg (T4 (A0 m c) (A1 m c) (A2 m c) (A3 m c)) ey.symm)
    refine Eq.trans (b := pass (row (R := 272) (iblk m c 0 t) (y 0)) (row (R := 272) (iblk m c 1 t) (y 0)) (row (R := 272) (iblk m c 2 t) (y 0)) (row (R := 1) (iblk m c 3 t) 0) (y 1)) rfl ?_
    rw [row0 m c t (y 0), row1 m c t (y 0), row2 m c t (y 0), row3 m c t]
    rfl
  · obtain ⟨t, ht⟩ : ∃ t : Fin cfg0.N, t.val = (i 0).val / 272 := block_of (i 0).isLt
    obtain ⟨-, -, -, -, ⟨h0, h1⟩, -⟩ := maps t
    obtain ⟨f, -⟩ := flushes t
    refine ⟨t, f, ?_⟩
    show i ∈ ((View.whole main_v0_0).slice (win0_4.rect t)).set
    rw [View.set_slice_whole]
    exact mem_rows i _ _ (show win0_4.index t (0 : Fin 2) * 272 = _ by rw [h0, ht]) (show win0_4.index t (1 : Fin 2) * 2048 = 0 by rw [h1])

/-- What a point adds to scratch 0, from the arrays. -/
theorem part0 (c : Dev nD) (p : Fin 8) (q : Fin 2048) (t : Fin cfg0.N) : share (fun i => E0 (iblk m c 1 t) (iblk m c 2 t) i q) p = share (fun i => scale (row (A1 m c) (at272 t i)) (row (A2 m c) (at272 t i)) q) p :=
  congrArg (fun f => share f p) (funext fun i => by
    unfold E0
    rw [row1 m c t i, row2 m c t i])

/-- The array of window 5 after the run. -/
theorem end5 (c : Dev nD) : (dats m 0 c).arrAt 5 cfg0.N = T5 (A1 m c) (A2 m c) := by
  refine (dats m 0 c).arrAt_eq_of_cover 5 _ (fun t hf => ?_) (fun (i : S1x2048.Idx) => ?_)
  · obtain ⟨-, -, -, -, -, ⟨h0, h1⟩⟩ := maps t
    obtain ⟨-, f⟩ := flushes t
    have ht : t.val = 7 := f.mp hf
    refine (flushed5_C m c t (by omega) (by omega)).trans ?_
    funext y
    obtain ⟨q, hq⟩ : ∃ q : Fin 2048, y = (ix2 0 q : S1x2048.Idx) := one_row y
    have ey : ((cfg0.win 5).blk t).view.emb (ix2 0 q : S1x2048.Idx) = (ix2 0 q : S1x2048.Idx) := idx2_ext _ _
      (show win0_5.index t (0 : Fin 2) * 1 + 1 * 0 = 0 by omega)
      (show win0_5.index t (1 : Fin 2) * 2048 + 1 * q.val = q.val by omega)
    rw [hq]
    refine Eq.trans ?_ (congrArg (T5 (A1 m c) (A2 m c)) ey.symm)
    refine ((left_C _ _ _ _ _ _ _ _ _ _ _ _ _ _ _ _).2 q).trans ?_
    refine (Finset.sum_congr (M := EReal) rfl fun p _ => congrArg (_ + ·) (part0 m c p q t)).trans ?_
    refine summed (fun p n h => (outsAt0 m c n h).2.2 (ix2 p q)) (fun i => scale (row (A1 m c) i) (row (A2 m c) i) q) (fun p => ?_) (fun p n hn => ?_) t ht _
    · have e := outsAt0_A m c ⟨0, Nat.zero_lt_succ 7⟩ (show 0 % 8 = 0 from rfl) (show ¬0 % 8 = 7 by omega)
      dsimp only at e ⊢
      rw [e]
      dsimp only
      exact ((left_A _ _ _ _ _ _ _ _ _ _ _ _ _ _ _).2 p q).trans (part0 m c p q _)
    · have h : n + 1 < cfg0.N := show n + 1 < 8 by omega
      have e := outsAt0_B m c ⟨n + 1, h⟩ (show ¬(n + 1) % 8 = 0 by omega) (show ¬(n + 1) % 8 = 7 by omega)
      dsimp only at e ⊢
      rw [e]
      dsimp only
      exact ((left_B _ _ _ _ _ _ _ _ _ _ _ _ _ _ _ _).2 p q).trans (congrArg (_ + ·) (part0 m c p q _))
  · obtain ⟨t, ht⟩ : ∃ t : Fin cfg0.N, t.val = 7 := ⟨(7 : Fin 8), rfl⟩
    obtain ⟨-, -, -, -, -, ⟨h0, h1⟩⟩ := maps t
    obtain ⟨-, f⟩ := flushes t
    refine ⟨t, f.mpr ht, ?_⟩
    show i ∈ ((View.whole main_v0_1).slice (win0_5.rect t)).set
    rw [View.set_slice_whole]
    exact mem_row i _ _ (show win0_5.index t (0 : Fin 2) * 1 = 0 by rw [h0]) (show win0_5.index t (1 : Fin 2) * 2048 = 0 by rw [h1])

end Cert.BwdInIdeal.Value

namespace Cert.BwdInReferenceIdeal.Read

open Cert.BwdInIdeal.Value Cert.Blocks Cert.Rows Cert.RmsBwd Idealize.ShloMosaic Idealize.ShloMosaic.TcCoe

/-- The input's cotangent in the reference, read. -/
theorem v34_eq (D0 D1 X : (⟨S2176x2048, .f32⟩ : BufTy).Contents (Elt Ideal)) (w : (⟨S1x2048, .f32⟩ : BufTy).Contents (Elt Ideal)) : val_main_v34 (F := Ideal) D0 D1 X w = T4 D0 D1 X w := by
  refine ext2 fun p q => ?_
  simp only [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v10, val_main_v9, val_main_v8, val_main_v7, val_main_v6, val_main_v5, val_main_v4, val_main_v3, val_main_v2, val_main_v1, val_main_cst_5, val_main_cst_4, val_main_cst_2, val_main_cst_1, val_main_cst_0, val_main_v0, val_main_cst, val_main_cst_6]
  refine Eq.trans ?_ (pass_eq (row D0 p) (row D1 p) (row X p) (row w 0) q).symm
  unfold through rinv spread row
  pointwise
  simp only [Fin.sum_univ_one (M := EReal)]

/-- The scale's gradient in the reference, read. -/
theorem v17_eq (D1 X : (⟨S2176x2048, .f32⟩ : BufTy).Contents (Elt Ideal)) : val_main_v17 (F := Ideal) D1 X = T5 D1 X := by
  refine ext2 fun p q => ?_
  simp only [val_main_v17, val_main_v16, val_main_v15, val_main_v12, val_main_v11, val_main_v7, val_main_v6, val_main_v5, val_main_v4, val_main_v3, val_main_v2, val_main_v1, val_main_cst_1, val_main_cst_0, val_main_v0, val_main_cst, val_main_cst_3]
  unfold T5 scale rinv spread row
  pointwise
  exact Finset.sum_congr (M := EReal) rfl fun k _ => mul_comm (G := EReal) _ _

end Cert.BwdInReferenceIdeal.Read

namespace Cert.BwdInEq

open Idealize.ShloMosaic Idealize.ShloMosaic.TcCoe Idealize.SL.Sem Cert.BwdInIdeal.Value

/-- The kernel and its reference leave equal results and keep their arguments. -/
theorem algebraic : Cert.algebraic_BwdInIdeal_BwdInReferenceIdeal := by
  intro m g m' g' _ hagree
  refine ⟨fun c => T4 (A0 m c) (A1 m c) (A2 m c) (A3 m c), fun c => T5 (A1 m c) (A2 m c),
    (θ_run Cert.BwdInIdeal.defs _ _).mono (fun r h c => ?_) (Cert.BwdInIdeal.Value.run_blocks m g),
    (θ_run Cert.BwdInReferenceIdeal.defs _ _).mono (fun r h c => ?_) (Cert.BwdInReferenceIdeal.Value.run m' g')⟩
  · obtain ⟨h0, h1, k⟩ := h c
    exact ⟨h0.trans (end4 m c), h1.trans (end5 m c), k⟩
  · obtain ⟨h0, h1, k⟩ := h c
    obtain ⟨a0, a1, a2, a3⟩ := hagree c
    rw [a0, a1, a2, a3] at h0
    rw [a1, a2] at h1
    exact ⟨h0.trans ((Cert.BwdInReferenceIdeal.Read.val_main_v34_eq _ _ _ _).trans (Cert.BwdInReferenceIdeal.Read.v34_eq _ _ _ _)), h1.trans ((Cert.BwdInReferenceIdeal.Read.val_main_v17_eq _ _).trans (Cert.BwdInReferenceIdeal.Read.v17_eq _ _)), k⟩

end Cert.BwdInEq

end
-- ==== Proof.LnBwd.lean ====
/- The backward pass of the layer norm and the gate after it: the kernel's form and the derivative's are one. -/
module

public import proofs.«01_k».proof.Proof.RmsBwd

@[expose] public section

noncomputable section

namespace Cert.LnBwd

open Idealize.ShloMosaic Idealize.ShloMosaic.TcCoe Cert.Blocks Cert.Rows Cert.RmsBwd

/-- The mean of a row. -/
def mean (x : Fin 1024 → EReal) : EReal := Ideal.div (∑ k, x k) (Ideal.ofBits .f32 0x44800000#32)

/-- The variance of a row, kept off zero. -/
def vr (x : Fin 1024 → EReal) : EReal := Ideal.div (∑ k, (x k - mean x) * (x k - mean x)) (Ideal.ofBits .f32 0x44800000#32) + Ideal.ofBits .f32 0x3727C5AC#32

/-- What a row, its mean taken off, is multiplied by. -/
def lr (x : Fin 1024 → EReal) : EReal := Ideal.rsqrt (vr x)

/-- The normalized row. -/
def hat (x : Fin 1024 → EReal) (q : Fin 1024) : EReal := (x q - mean x) * lr x

/-- The cotangent of the normalized row scaled and shifted, as the kernel forms it. -/
def dal (x w b d : Fin 1024 → EReal) (q : Fin 1024) : EReal :=
  d q * (sgm (layer x w b q) * (1 + layer x w b q * (1 - sgm (layer x w b q))))

/-- The same, as the derivative forms it. -/
def rdal (x w b d : Fin 1024 → EReal) (q : Fin 1024) : EReal :=
  d q * sgm (layer x w b q) + layer x w b q * d q * (sgm (layer x w b q) * (1 - sgm (layer x w b q)))

/-- The cotangent of the row from that, as the kernel forms it. -/
def back (x w e : Fin 1024 → EReal) (q : Fin 1024) : EReal :=
  lr x * (e q * w q - Ideal.div (∑ k, e k * w k) (Ideal.ofBits .f32 0x44800000#32) - hat x q * Ideal.div (∑ k, e k * w k * hat x k) (Ideal.ofBits .f32 0x44800000#32))

/-- What reaches the row through its variance, as the derivative forms it. -/
def byvar (x w e : Fin 1024 → EReal) : EReal :=
  Ideal.div ((∑ k, (x k - mean x) * (e k * w k)) * (Ideal.ofBits .f32 0xBF000000#32 * Ideal.div (lr x) (vr x))) (Ideal.ofBits .f32 0x44800000#32)

/-- The cotangent of the row, as the derivative forms it. -/
def rback (x w e : Fin 1024 → EReal) (q : Fin 1024) : EReal :=
  e q * w q * lr x + byvar x w e * (Ideal.ofBits .f32 0x40000000#32 * (x q - mean x))
    + Ideal.div ((∑ k, -(e k * w k * lr x)) + ∑ k, -(byvar x w e * (Ideal.ofBits .f32 0x40000000#32 * (x k - mean x)))) (Ideal.ofBits .f32 0x44800000#32)

/-- The cotangent of the row, from the cotangent past the gate. -/
def lnb (x w b d : Fin 1024 → EReal) (q : Fin 1024) : EReal := back x w (dal x w b d) q

/-- The length of a row. -/
theorem len_eq : Ideal.ofBits .f32 0x44800000#32 = ((1024 : ℝ) : EReal) := by
  simp [Ideal.ofBits, Ideal.ieee]
  rw [← EReal.coe_mul]
  norm_num

/-- The derivative's other constant. -/
theorem two_eq : Ideal.ofBits .f32 0x40000000#32 = ((2 : ℝ) : EReal) := by
  simp [Ideal.ofBits, Ideal.ieee]
  rw [← EReal.coe_mul]
  norm_num

/-- What keeps the variance off zero is a positive real. -/
theorem eps_pos : ∃ e : ℝ, 0 < e ∧ Ideal.ofBits .f32 0x3727C5AC#32 = (e : EReal) := by
  refine ⟨10995116 * (1 / 1099511627776), by norm_num, ?_⟩
  simp [Ideal.ofBits, Ideal.ieee]
  norm_num

/-- A sum of reals. -/
theorem sum_coe {n : ℕ} (f : Fin n → ℝ) : ∑ k, (f k : EReal) = ((∑ k, f k : ℝ) : EReal) := by
  have gen : ∀ s : Finset (Fin n), ∑ k ∈ s, (f k : EReal) = ((∑ k ∈ s, f k : ℝ) : EReal) := fun s => by
    induction s using Finset.induction_on with
    | empty => simp
    | insert a s ha ih => rw [Finset.sum_insert ha, Finset.sum_insert ha, ih, EReal.coe_add]
  exact gen _

/-- A number that, taken from itself, leaves zero is real. -/
theorem real_of_sub {a : EReal} (h : a - a = 0) : ∃ r : ℝ, a = (r : EReal) := by
  induction a with
  | bot => exact absurd h (by simp)
  | top => exact absurd h (by simp)
  | coe r => exact ⟨r, rfl⟩

/-- A difference that is real is one of reals. -/
theorem real_sub {a b : EReal} {r : ℝ} (h : a - b = (r : EReal)) : ∃ s t : ℝ, a = (s : EReal) ∧ b = (t : EReal) := by
  induction b with
  | bot => induction a <;> simp at h
  | top => induction a <;> simp at h
  | coe t =>
    induction a with
    | bot => simp at h
    | top => simp at h
    | coe s => exact ⟨s, t, rfl, rfl⟩

/-- The two forms of the gate's cotangent are one, and it is real, whatever the gate is at. -/
theorem gate_eq (z : EReal) (d : ℝ) : ∃ r : ℝ, (d : EReal) * (sgm z * (1 + z * (1 - sgm z))) = (r : EReal)
    ∧ (d : EReal) * sgm z + z * (d : EReal) * (sgm z * (1 - sgm z)) = (r : EReal) := by
  have h1 : (1 : EReal) = ((1 : ℝ) : EReal) := rfl
  have h11 : (1 : EReal) - 1 = 0 := by rw [h1, ← EReal.coe_sub]; simp
  induction z with
  | bot =>
    have hs : sgm ⊥ = 0 := by
      unfold sgm
      rw [EReal.neg_bot, Ideal.exp_top, h1, EReal.coe_add_top]
      simp [Ideal.div]
    exact ⟨0, by rw [hs]; simp, by rw [hs]; simp⟩
  | top =>
    have hs : sgm ⊤ = 1 := by
      unfold sgm
      rw [EReal.neg_top, Ideal.exp_bot, add_zero, h1, Ideal.div_coe one_ne_zero]
      norm_num
    exact ⟨d, by rw [hs, h11]; simp, by rw [hs, h11]; simp⟩
  | coe z =>
    have hp : (1 + Real.exp (-z)) ≠ 0 := by positivity
    obtain ⟨s, hs⟩ : ∃ s : ℝ, sgm (z : EReal) = (s : EReal) := ⟨1 / (1 + Real.exp (-z)), by
      unfold sgm
      rw [← EReal.coe_neg, Ideal.exp_coe, h1, ← EReal.coe_add, Ideal.div_coe hp, ← EReal.coe_mul, one_mul]⟩
    refine ⟨d * (s * (1 + z * (1 - s))), ?_, ?_⟩
    · rw [hs, h1]
      norm_cast
    · rw [hs, h1]
      norm_cast
      ring

/-- The kernel's cotangent past the gate is the derivative's, where what comes in is real; it is real. -/
theorem dal_eq (x w b d : Fin 1024 → EReal) (q : Fin 1024) (hd : ∃ r : ℝ, d q = (r : EReal)) : rdal x w b d q = dal x w b d q ∧ ∃ r : ℝ, dal x w b d q = (r : EReal) := by
  obtain ⟨r, h⟩ := hd
  obtain ⟨e, h1, h2⟩ := gate_eq (layer x w b q) r
  unfold rdal dal
  rw [h]
  exact ⟨h2.trans h1.symm, e, h1⟩

/-- The variance kept off zero is infinite, or the row is real with its mean, and what is left of it adds up to zero. -/
theorem vr_cases (x : Fin 1024 → EReal) : vr x = ⊤ ∨ ∃ (u : ℝ) (c : Fin 1024 → ℝ), 0 < u ∧ vr x = (u : EReal) ∧ (∀ k, x k - mean x = (c k : EReal)) ∧ ∑ k, c k = 0 := by
  obtain ⟨e, he, h⟩ := eps_pos
  have hn : ∀ k, 0 ≤ (x k - mean x) * (x k - mean x) := fun k => sq_nonneg' _
  have hs : 0 ≤ ∑ k, (x k - mean x) * (x k - mean x) := Finset.sum_nonneg fun k _ => hn k
  have hle : ∀ k, (x k - mean x) * (x k - mean x) ≤ ∑ k, (x k - mean x) * (x k - mean x) := fun k =>
    Finset.single_le_sum (f := fun k => (x k - mean x) * (x k - mean x)) (fun k _ => hn k) (Finset.mem_univ k)
  unfold vr
  rw [h, len_eq, Ideal.div_coe (by norm_num)]
  generalize ∑ k, (x k - mean x) * (x k - mean x) = s at hs hle
  induction s with
  | bot => exact absurd hs (by simp)
  | top =>
    left
    rw [EReal.top_mul_coe_of_pos (by norm_num)]
    rfl
  | coe r =>
    right
    have hr : 0 ≤ r := by exact_mod_cast hs
    have hc : ∀ k, ∃ c : ℝ, x k - mean x = (c : EReal) := fun k => by
      have h := hle k
      generalize x k - mean x = y at h
      induction y with
      | bot => simp at h
      | top => simp at h
      | coe c => exact ⟨c, rfl⟩
    choose c hc using hc
    have hx : ∀ k, ∃ s : ℝ, x k = (s : EReal) := fun k => by
      obtain ⟨s, t, h, -⟩ := real_sub (hc k)
      exact ⟨s, h⟩
    choose X hX using hx
    have hm : mean x = (((∑ k, X k) * (1 / 1024) : ℝ) : EReal) := by
      unfold mean
      rw [len_eq, Ideal.div_coe (by norm_num), EReal.coe_mul, ← sum_coe]
      simp only [hX]
    refine ⟨r * (1 / 1024) + e, c, by positivity, by norm_cast, hc, ?_⟩
    have hck : ∀ k, c k = X k - (∑ k, X k) * (1 / 1024) := fun k => by
      have h := hc k
      rw [hX, hm, ← EReal.coe_sub] at h
      exact_mod_cast h.symm
    simp only [hck, Finset.sum_sub_distrib, Finset.sum_const, Finset.card_univ, Fintype.card_fin, nsmul_eq_mul]
    push_cast
    ring

/-- The kernel's cotangent of the row is the derivative's, where what comes in past the scale is real. -/
theorem back_eq (x w e : Fin 1024 → EReal) (q : Fin 1024) (D : Fin 1024 → ℝ) (hD : ∀ k, e k * w k = (D k : EReal)) : rback x w e q = back x w e q := by
  unfold rback back byvar hat lr
  simp only [hD]
  rcases vr_cases x with h | ⟨u, c, hu, h, hc, h0⟩
  · rw [h, Ideal.rsqrt_top, len_eq, Ideal.div_coe (by norm_num)]
    simp [Ideal.div]
  · have hs : 0 < Real.sqrt u := Real.sqrt_pos.mpr hu
    simp only [hc]
    rw [h, Ideal.rsqrt_coe, if_neg (by linarith), if_neg (by linarith), len_eq, h_eq, two_eq]
    generalize hρ : (Real.sqrt u)⁻¹ = ρ
    have hw : (1 / u : ℝ) = ρ * ρ := by
      rw [← hρ, ← mul_inv, Real.mul_self_sqrt hu.le, one_div]
    rw [Ideal.div_coe hu.ne', hw]
    simp only [Ideal.div_coe (show (1024 : ℝ) ≠ 0 by norm_num)]
    simp only [← EReal.coe_mul, ← EReal.coe_neg, sum_coe, ← EReal.coe_add, ← EReal.coe_sub]
    refine congrArg _ ?_
    have e1 : ∑ k, D k * (c k * ρ) = (∑ k, c k * D k) * ρ := by
      rw [Finset.sum_mul]
      exact Finset.sum_congr rfl fun k _ => by ring
    have e2 : ∑ k, -(D k * ρ) = -((∑ k, D k) * ρ) := by rw [Finset.sum_neg_distrib, Finset.sum_mul]
    rw [e1, e2]
    generalize ∑ k, c k * D k = S
    have e3 : ∀ t : ℝ, ∑ k, -(t * (2 * c k)) = 0 := fun t => by
      rw [Finset.sum_neg_distrib, ← Finset.mul_sum, ← Finset.mul_sum, h0]
      ring
    rw [e3]
    ring

/-- The kernel's cotangent of the row is the derivative's, from real cotangents past the gate and a real scale. -/
theorem lnb_eq (x w b d : Fin 1024 → EReal) (q : Fin 1024) (hd : ∀ k, ∃ r : ℝ, d k = (r : EReal)) (hw : ∀ k, ∃ r : ℝ, w k = (r : EReal)) :
    rback x w (rdal x w b d) q = lnb x w b d q := by
  have h : rdal x w b d = dal x w b d := funext fun k => (dal_eq x w b d k (hd k)).1
  choose W hW using hw
  choose E hE using fun k => (dal_eq x w b d k (hd k)).2
  rw [h]
  exact back_eq x w (dal x w b d) q (fun k => E k * W k) fun k => by rw [hE, hW, ← EReal.coe_mul]

end Cert.LnBwd

end
-- ==== Proof.BranchBwdEq.lean ====
/- The backward call of the branches: its arrays, and that its reference leaves the same, from real cotangents and a real scale. -/
module

public import proofs.«01_k».proof.Defs
public import proofs.«01_k».proof.Proof.Gen.BranchBwdIdeal.Value
public import proofs.«01_k».proof.Proof.Gen.BranchBwdReferenceIdeal.Run
public import proofs.«01_k».proof.Proof.Gen.BranchBwdReferenceIdeal.Read
public import proofs.«01_k».proof.Proof.Gathered
public import proofs.«01_k».proof.Proof.LnBwd

@[expose] public section

set_option maxRecDepth 16384

noncomputable section

namespace Cert.BranchBwdIdeal.Value

open Cert.BranchBwdIdeal Cert.BranchBwdIdeal.Gen Idealize.ShloMosaic Idealize.ShloMosaic.TcCoe Idealize.SL.Sem Cert.Blocks Cert.Rows Cert.Gathered Cert.LnBwd
open Idealize.ShloMosaic.Pipeline (Dat)

/-- Two rows, multiplied. -/
def mul2 (x y : Fin 1024 → EReal) (q : Fin 1024) : EReal := x q * y q

/-- A row of the cotangent past the gate, of one chunk. -/
theorem pay12_row (x0 x2 : Vec Ideal S16x1024 .f32) (w b : Vec Ideal S1x1024 .f32) (p : Fin 16) : row (k0_pay12 x0 (k0_pay10 x2 w b) (k0_pay11 x2 w b)) p = dal (row x2 p) (row w 0) (row b 0) (row x0 p) := funext fun q => by
  refine Eq.trans (b := (k0_pay12 x0 (k0_pay10 x2 w b) (k0_pay11 x2 w b)) (ix2 p q)) rfl ?_
  unfold k0_pay12 k0_pay11 k0_pay10 k0_pay9 k0_pay8 k0_pay7 dal sgm layer row
  pointwise
  simp only [zero_sub]

/-- A normalized row, of one chunk. -/
theorem pay9_row (x2 : Vec Ideal S16x1024 .f32) (p : Fin 16) : row (k0_pay9 x2) p = hat (row x2 p) := funext fun q => by
  refine Eq.trans (b := k0_pay9 x2 (ix2 p q)) rfl ?_
  unfold k0_pay9 k0_pay8 k0_pay7 hat lr vr mean row
  pointwise

/-- What a row is multiplied by, of one chunk. -/
theorem pay8_at (x2 : Vec Ideal S16x1024 .f32) (p : Fin 16) : k0_pay8 x2 (ix2 p 0) = lr (row x2 p) := by
  unfold k0_pay8 k0_pay7 lr vr mean row
  pointwise

/-- The convolution's cotangent, of one chunk. -/
theorem pay13_apply (x0 x2 : Vec Ideal S16x1024 .f32) (w b : Vec Ideal S1x1024 .f32) (p : Fin 16) (q : Fin 1024) : k0_pay13 x0 w (k0_pay8 x2) (k0_pay9 x2) (k0_pay10 x2 w b) (k0_pay11 x2 w b) (ix2 p q) = lnb (row x2 p) (row w 0) (row b 0) (row x0 p) q := by
  unfold lnb back
  rw [← pay12_row, ← pay9_row, ← pay8_at]
  unfold k0_pay13
  generalize k0_pay9 x2 = h
  generalize k0_pay8 x2 = r
  generalize (k0_pay12 x0 (k0_pay10 x2 w b) (k0_pay11 x2 w b)) = e
  unfold row
  pointwise

/-- The other branch's cotangent, of one chunk. -/
theorem pay14_apply (x1 x4 : Vec Ideal S16x1024 .f32) (p : Fin 16) (q : Fin 1024) : k0_pay14 x1 x4 (ix2 p q) = mul2 (row x1 p) (row x4 p) q := by
  unfold k0_pay14 mul2 row
  pointwise

/-- Its gate's cotangent, of one chunk. -/
theorem pay15_apply (x1 x3 : Vec Ideal S16x1024 .f32) (p : Fin 16) (q : Fin 1024) : k0_pay15 x1 x3 (ix2 p q) = mul2 (row x1 p) (row x3 p) q := by
  unfold k0_pay15 mul2 row
  pointwise

/-- What a chunk adds to the first scratch: two of its rows. -/
theorem pay17_apply (x0 x2 : Vec Ideal S16x1024 .f32) (w b : Vec Ideal S1x1024 .f32) (a : Vec Ideal S8x1024 .f32) (p : Fin 8) (q : Fin 1024) :
    k0_pay17 (k0_pay16 x0 (k0_pay9 x2) (k0_pay10 x2 w b) (k0_pay11 x2 w b) a) (ix2 p q) = a (ix2 p q) + (mul2 (dal (row x2 (lo p)) (row w 0) (row b 0) (row x0 (lo p))) (hat (row x2 (lo p))) q + mul2 (dal (row x2 (hi p)) (row w 0) (row b 0) (row x0 (hi p))) (hat (row x2 (hi p))) q) := by
  rw [← pay12_row, ← pay12_row, ← pay9_row, ← pay9_row]
  unfold k0_pay17 k0_pay16
  generalize k0_pay9 x2 = h
  generalize (k0_pay12 x0 (k0_pay10 x2 w b) (k0_pay11 x2 w b)) = e
  unfold mul2 lo hi row
  pointwise

/-- What a chunk adds to the second. -/
theorem pay18_apply (x0 x2 : Vec Ideal S16x1024 .f32) (w b : Vec Ideal S1x1024 .f32) (a : Vec Ideal S8x1024 .f32) (p : Fin 8) (q : Fin 1024) :
    k0_pay18 (k0_pay12 x0 (k0_pay10 x2 w b) (k0_pay11 x2 w b)) a (ix2 p q) = a (ix2 p q) + (dal (row x2 (lo p)) (row w 0) (row b 0) (row x0 (lo p)) q + dal (row x2 (hi p)) (row w 0) (row b 0) (row x0 (hi p)) q) := by
  rw [← pay12_row, ← pay12_row]
  unfold k0_pay18
  generalize (k0_pay12 x0 (k0_pay10 x2 w b) (k0_pay11 x2 w b)) = e
  unfold lo hi row
  pointwise

/-- What a chunk adds to the third. -/
theorem pay19_apply (x0 x2 : Vec Ideal S16x1024 .f32) (w b : Vec Ideal S1x1024 .f32) (a : Vec Ideal S8x1024 .f32) (p : Fin 8) (q : Fin 1024) :
    k0_pay19 (k0_pay13 x0 w (k0_pay8 x2) (k0_pay9 x2) (k0_pay10 x2 w b) (k0_pay11 x2 w b)) a (ix2 p q) = a (ix2 p q) + (lnb (row x2 (lo p)) (row w 0) (row b 0) (row x0 (lo p)) q + lnb (row x2 (hi p)) (row w 0) (row b 0) (row x0 (hi p)) q) := by
  rw [← pay13_apply, ← pay13_apply]
  unfold k0_pay19
  generalize k0_pay13 x0 w (k0_pay8 x2) (k0_pay9 x2) (k0_pay10 x2 w b) (k0_pay11 x2 w b) = e
  unfold lo hi
  pointwise

/-- A scratch's eight rows, added. -/
theorem pay1_apply (a : Vec Ideal S8x1024 .f32) (q : Fin 1024) : k0_pay1 a (ix2 0 q) = ∑ p : Fin 8, a (ix2 p q) := by
  unfold k0_pay1
  pointwise

/-- A scratch's eight rows, added. -/
theorem pay2_apply (a : Vec Ideal S8x1024 .f32) (q : Fin 1024) : k0_pay2 a (ix2 0 q) = ∑ p : Fin 8, a (ix2 p q) := by
  unfold k0_pay2
  pointwise

/-- A scratch's eight rows, added. -/
theorem pay3_apply (a : Vec Ideal S8x1024 .f32) (q : Fin 1024) : k0_pay3 a (ix2 0 q) = ∑ p : Fin 8, a (ix2 p q) := by
  unfold k0_pay3
  pointwise

/-- A scratch starts at zero. -/
theorem pay4_apply (p : Fin 8) (q : Fin 1024) : k0_pay4 (F := Ideal) (ix2 p q) = 0 := by
  unfold k0_pay4
  pointwise

/-- A scratch starts at zero. -/
theorem pay5_apply (p : Fin 8) (q : Fin 1024) : k0_pay5 (F := Ideal) (ix2 p q) = 0 := by
  unfold k0_pay5
  pointwise

/-- A scratch starts at zero. -/
theorem pay6_apply (p : Fin 8) (q : Fin 1024) : k0_pay6 (F := Ideal) (ix2 p q) = 0 := by
  unfold k0_pay6
  pointwise

/-- The convolution's cotangent. -/
def T7 (a0 a2 : S2176x1024.Idx → EReal) (a5 a6 : S1x1024.Idx → EReal) (i : S2176x1024.Idx) : EReal := lnb (row a2 (i 0)) (row a5 0) (row a6 0) (row a0 (i 0)) (i 1)

/-- The other branch's cotangent. -/
def T8 (a1 : S2176x1024.Idx → EReal) (a4 : S2176x9216.Idx → EReal) (i : S2176x1024.Idx) : EReal := mul2 (row a1 (i 0)) (from_ 2048 1024 (by omega) (row a4 (i 0))) (i 1)

/-- Its gate's cotangent. -/
def T9 (a1 a3 : S2176x1024.Idx → EReal) (i : S2176x1024.Idx) : EReal := mul2 (row a1 (i 0)) (row a3 (i 0)) (i 1)

/-- The norm's scale's gradient: the sum over the rows. -/
def T10 (a0 a2 : S2176x1024.Idx → EReal) (a5 a6 : S1x1024.Idx → EReal) (i : S1x1024.Idx) : EReal := ∑ p, mul2 (dal (row a2 p) (row a5 0) (row a6 0) (row a0 p)) (hat (row a2 p)) (i 1)

/-- The norm's shift's gradient: the sum over the rows. -/
def T11 (a0 a2 : S2176x1024.Idx → EReal) (a5 a6 : S1x1024.Idx → EReal) (i : S1x1024.Idx) : EReal := ∑ p, dal (row a2 p) (row a5 0) (row a6 0) (row a0 p) (i 1)

/-- The convolution's bias's gradient: the sum over the rows. -/
def T12 (a0 a2 : S2176x1024.Idx → EReal) (a5 a6 : S1x1024.Idx → EReal) (i : S1x1024.Idx) : EReal := ∑ p, lnb (row a2 p) (row a5 0) (row a6 0) (row a0 p) (i 1)

section Body

variable (c : Dev nD) (i : grid0.Coords) {arg1 : Memref sig .tc .vmem S272x1024 .f32} (harg1 : arg1.IsWhole) {arg2 : Memref sig .tc .vmem S272x1024 .f32} (harg2 : arg2.IsWhole) {arg3 : Memref sig .tc .vmem S272x1024 .f32} (harg3 : arg3.IsWhole) {arg4 : Memref sig .tc .vmem S272x1024 .f32} (harg4 : arg4.IsWhole) {arg5 : Memref sig .tc .vmem S272x1024 .f32} (harg5 : arg5.IsWhole) {arg6 : Memref sig .tc .vmem S1x1024 .f32} (harg6 : arg6.IsWhole) {arg7 : Memref sig .tc .vmem S1x1024 .f32} (harg7 : arg7.IsWhole) {arg8 : Memref sig .tc .vmem S272x1024 .f32} (harg8 : arg8.IsWhole) {arg9 : Memref sig .tc .vmem S272x1024 .f32} (harg9 : arg9.IsWhole) {arg10 : Memref sig .tc .vmem S272x1024 .bf16} (harg10 : arg10.IsWhole) {arg11 : Memref sig .tc .vmem S1x1024 .f32} (harg11 : arg11.IsWhole) {arg12 : Memref sig .tc .vmem S1x1024 .f32} (harg12 : arg12.IsWhole) {arg13 : Memref sig .tc .vmem S1x1024 .f32} (harg13 : arg13.IsWhole) {arg14 : Memref sig .tc .vmem S8x1024 .f32} (harg14 : arg14.IsWhole) {arg15 : Memref sig .tc .vmem S8x1024 .f32} (harg15 : arg15.IsWhole) {arg16 : Memref sig .tc .vmem S8x1024 .f32} (harg16 : arg16.IsWhole)
variable (x0 x1 x2 x3 x4 : Vec Ideal S272x1024 .f32) (x5 x6 : Vec Ideal S1x1024 .f32) (xs0 xs1 xs2 : Vec Ideal S8x1024 .f32)

/-- The convolution's cotangent, in a block. -/
def B7 : Vec Ideal S272x1024 .f32 := fun y => lnb (row x2 (y 0)) (row x5 0) (row x6 0) (row x0 (y 0)) (y 1)

/-- Its value in a chunk. -/
def P7 (r : Fin 17) : Vec Ideal S16x1024 .f32 := k0_pay13 (rd _ harg1 x0 r) (rd1 _ harg6 x5) (k0_pay8 (rd _ harg3 x2 r)) (k0_pay9 (rd _ harg3 x2 r)) (k0_pay10 (rd _ harg3 x2 r) (rd1 _ harg6 x5) (rd1 _ harg7 x6)) (k0_pay11 (rd _ harg3 x2 r) (rd1 _ harg6 x5) (rd1 _ harg7 x6))

/-- The chunks make it up. -/
theorem canon7 : View.canon (Val := Elt Ideal) (e := .f32) (order.map fun r => ⟨chunk 1024 r, P7 harg1 harg3 harg6 harg7 x0 x2 x5 x6 r⟩) = B7 x0 x2 x5 x6 := by
  refine canon_chunks (e := .f32) _ (P7 harg1 harg3 harg6 harg7 x0 x2 x5 x6) fun r p q => ?_
  refine (pay13_apply (rd _ harg1 x0 r) (rd _ harg3 x2 r) (rd1 _ harg6 x5) (rd1 _ harg7 x6) p q).trans ?_
  simp only [row_rd, rd1_eq]
  rfl

/-- The other branch's cotangent, in a block. -/
def B8 : Vec Ideal S272x1024 .f32 := fun y => mul2 (row x1 (y 0)) (row x4 (y 0)) (y 1)

/-- Its value in a chunk. -/
def P8 (r : Fin 17) : Vec Ideal S16x1024 .f32 := k0_pay14 (rd _ harg2 x1 r) (rd _ harg5 x4 r)

/-- The chunks make it up. -/
theorem canon8 : View.canon (Val := Elt Ideal) (e := .f32) (order.map fun r => ⟨chunk 1024 r, P8 harg2 harg5 x1 x4 r⟩) = B8 x1 x4 := by
  refine canon_chunks (e := .f32) _ (P8 harg2 harg5 x1 x4) fun r p q => ?_
  refine (pay14_apply (rd _ harg2 x1 r) (rd _ harg5 x4 r) p q).trans ?_
  simp only [row_rd, rd1_eq]
  rfl

/-- Its gate's cotangent, in a block. -/
def B9 : Vec Ideal S272x1024 .bf16 := fun y => mul2 (row x1 (y 0)) (row x3 (y 0)) (y 1)

/-- Its value in a chunk. -/
def P9 (r : Fin 17) : Vec Ideal S16x1024 .bf16 := k0_pay15 (rd _ harg2 x1 r) (rd _ harg4 x3 r)

/-- The chunks make it up. -/
theorem canon9 : View.canon (Val := Elt Ideal) (e := .bf16) (order.map fun r => ⟨chunk 1024 r, P9 harg2 harg4 x1 x3 r⟩) = B9 x1 x3 := by
  refine canon_chunks (e := .bf16) _ (P9 harg2 harg4 x1 x3) fun r p q => ?_
  refine (pay15_apply (rd _ harg2 x1 r) (rd _ harg4 x3 r) p q).trans ?_
  simp only [row_rd, rd1_eq]
  rfl

/-- The norm's scale's gradient: what a row adds. -/
def E0 (i : Fin 272) : Fin 1024 → EReal := mul2 (dal (row x2 i) (row x5 0) (row x6 0) (row x0 i)) (hat (row x2 i))

/-- The scratch after a chunk. -/
def add0 (r : Fin 17) (a : Vec Ideal S8x1024 .f32) : Vec Ideal S8x1024 .f32 := k0_pay17 (k0_pay16 (rd _ harg1 x0 r) (k0_pay9 (rd _ harg3 x2 r)) (k0_pay10 (rd _ harg3 x2 r) (rd1 _ harg6 x5) (rd1 _ harg7 x6)) (k0_pay11 (rd _ harg3 x2 r) (rd1 _ harg6 x5) (rd1 _ harg7 x6)) a)

/-- What a point adds to the scratch. -/
theorem fold0 (a : Vec Ideal S8x1024 .f32) (p : Fin 8) (q : Fin 1024) : order.foldr (add0 harg1 harg3 harg6 harg7 x0 x2 x5 x6) a (ix2 p q) = a (ix2 p q) + share (fun i => E0 x0 x2 x5 x6 i q) p :=
  foldr_apply _ (fun r p q => E0 x0 x2 x5 x6 (at16 r (lo p)) q + E0 x0 x2 x5 x6 (at16 r (hi p)) q) (fun r a p q => by
    refine (pay17_apply (rd _ harg1 x0 r) (rd _ harg3 x2 r) (rd1 _ harg6 x5) (rd1 _ harg7 x6) a p q).trans ?_
    simp only [row_rd, rd1_eq]
    rfl) a p q

/-- The norm's shift's gradient: what a row adds. -/
def E1 (i : Fin 272) : Fin 1024 → EReal := dal (row x2 i) (row x5 0) (row x6 0) (row x0 i)

/-- The scratch after a chunk. -/
def add1 (r : Fin 17) (a : Vec Ideal S8x1024 .f32) : Vec Ideal S8x1024 .f32 := k0_pay18 (k0_pay12 (rd _ harg1 x0 r) (k0_pay10 (rd _ harg3 x2 r) (rd1 _ harg6 x5) (rd1 _ harg7 x6)) (k0_pay11 (rd _ harg3 x2 r) (rd1 _ harg6 x5) (rd1 _ harg7 x6))) a

/-- What a point adds to the scratch. -/
theorem fold1 (a : Vec Ideal S8x1024 .f32) (p : Fin 8) (q : Fin 1024) : order.foldr (add1 harg1 harg3 harg6 harg7 x0 x2 x5 x6) a (ix2 p q) = a (ix2 p q) + share (fun i => E1 x0 x2 x5 x6 i q) p :=
  foldr_apply _ (fun r p q => E1 x0 x2 x5 x6 (at16 r (lo p)) q + E1 x0 x2 x5 x6 (at16 r (hi p)) q) (fun r a p q => by
    refine (pay18_apply (rd _ harg1 x0 r) (rd _ harg3 x2 r) (rd1 _ harg6 x5) (rd1 _ harg7 x6) a p q).trans ?_
    simp only [row_rd, rd1_eq]
    rfl) a p q

/-- The convolution's bias's gradient: what a row adds. -/
def E2 (i : Fin 272) : Fin 1024 → EReal := lnb (row x2 i) (row x5 0) (row x6 0) (row x0 i)

/-- The scratch after a chunk. -/
def add2 (r : Fin 17) (a : Vec Ideal S8x1024 .f32) : Vec Ideal S8x1024 .f32 := k0_pay19 (k0_pay13 (rd _ harg1 x0 r) (rd1 _ harg6 x5) (k0_pay8 (rd _ harg3 x2 r)) (k0_pay9 (rd _ harg3 x2 r)) (k0_pay10 (rd _ harg3 x2 r) (rd1 _ harg6 x5) (rd1 _ harg7 x6)) (k0_pay11 (rd _ harg3 x2 r) (rd1 _ harg6 x5) (rd1 _ harg7 x6))) a

/-- What a point adds to the scratch. -/
theorem fold2 (a : Vec Ideal S8x1024 .f32) (p : Fin 8) (q : Fin 1024) : order.foldr (add2 harg1 harg3 harg6 harg7 x0 x2 x5 x6) a (ix2 p q) = a (ix2 p q) + share (fun i => E2 x0 x2 x5 x6 i q) p :=
  foldr_apply _ (fun r p q => E2 x0 x2 x5 x6 (at16 r (lo p)) q + E2 x0 x2 x5 x6 (at16 r (hi p)) q) (fun r a p q => by
    refine (pay19_apply (rd _ harg1 x0 r) (rd _ harg3 x2 r) (rd1 _ harg6 x5) (rd1 _ harg7 x6) a p q).trans ?_
    simp only [row_rd, rd1_eq]
    rfl) a p q

/-- What the first point leaves. -/
theorem left_A (hc0 : cond0_0 i) (hc1 : ¬cond0_1 i) : out0_A_7 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 = B7 x0 x2 x5 x6 ∧ out0_A_8 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 = B8 x1 x4 ∧ out0_A_9 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 = B9 x1 x3 ∧ (∀ p q, sout0_A_0 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 (ix2 p q) = share (fun i => E0 x0 x2 x5 x6 i q) p) ∧ (∀ p q, sout0_A_1 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 (ix2 p q) = share (fun i => E1 x0 x2 x5 x6 i q) p) ∧ (∀ p q, sout0_A_2 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 (ix2 p q) = share (fun i => E2 x0 x2 x5 x6 i q) p) := by
  refine ⟨?_, ?_, ?_, fun p q => ?_, fun p q => ?_, fun p q => ?_⟩
  · unfold out0_A_7
    rw [View.read_writes_junk_eq_canon, ← canon7 harg1 harg3 harg6 harg7]
    unfold kernelRun0_A P7
    rfl
  · unfold out0_A_8
    rw [View.read_writes_junk_eq_canon, ← canon8 harg2 harg5]
    unfold kernelRun0_A P8
    rfl
  · unfold out0_A_9
    rw [View.read_writes_junk_eq_canon, ← canon9 harg2 harg4]
    unfold kernelRun0_A P9
    rfl
  · unfold sout0_A_0
    rw [View.read_writes_junk_eq_canon]
    refine first_held arg14 (add0 harg1 harg3 harg6 harg7 x0 x2 x5 x6) _ (fold0 harg1 harg3 harg6 harg7 x0 x2 x5 x6) pay4_apply ?_ p q
    unfold kernelRun0_A
    iterate 17 refine held_step rfl rfl ?_
    rfl
  · unfold sout0_A_1
    rw [View.read_writes_junk_eq_canon]
    refine first_held arg15 (add1 harg1 harg3 harg6 harg7 x0 x2 x5 x6) _ (fold1 harg1 harg3 harg6 harg7 x0 x2 x5 x6) pay5_apply ?_ p q
    unfold kernelRun0_A
    iterate 17 refine held_step rfl rfl ?_
    rfl
  · unfold sout0_A_2
    rw [View.read_writes_junk_eq_canon]
    refine first_held arg16 (add2 harg1 harg3 harg6 harg7 x0 x2 x5 x6) _ (fold2 harg1 harg3 harg6 harg7 x0 x2 x5 x6) pay6_apply ?_ p q
    unfold kernelRun0_A
    iterate 17 refine held_step rfl rfl ?_
    rfl

/-- What a point between leaves. -/
theorem left_B (hc0 : ¬cond0_0 i) (hc1 : ¬cond0_1 i) : out0_B_7 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 xs0 xs1 xs2 = B7 x0 x2 x5 x6 ∧ out0_B_8 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 xs0 xs1 xs2 = B8 x1 x4 ∧ out0_B_9 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 xs0 xs1 xs2 = B9 x1 x3 ∧ (∀ p q, sout0_B_0 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 xs0 xs1 xs2 (ix2 p q) = xs0 (ix2 p q) + share (fun i => E0 x0 x2 x5 x6 i q) p) ∧ (∀ p q, sout0_B_1 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 xs0 xs1 xs2 (ix2 p q) = xs1 (ix2 p q) + share (fun i => E1 x0 x2 x5 x6 i q) p) ∧ (∀ p q, sout0_B_2 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 xs0 xs1 xs2 (ix2 p q) = xs2 (ix2 p q) + share (fun i => E2 x0 x2 x5 x6 i q) p) := by
  refine ⟨?_, ?_, ?_, fun p q => ?_, fun p q => ?_, fun p q => ?_⟩
  · unfold out0_B_7
    rw [View.read_writes_junk_eq_canon, ← canon7 harg1 harg3 harg6 harg7]
    unfold kernelRun0_B P7
    rfl
  · unfold out0_B_8
    rw [View.read_writes_junk_eq_canon, ← canon8 harg2 harg5]
    unfold kernelRun0_B P8
    rfl
  · unfold out0_B_9
    rw [View.read_writes_junk_eq_canon, ← canon9 harg2 harg4]
    unfold kernelRun0_B P9
    rfl
  · unfold sout0_B_0
    rw [View.read_writes_junk_eq_canon]
    refine next_held arg14 harg14 (add0 harg1 harg3 harg6 harg7 x0 x2 x5 x6) _ (fold0 harg1 harg3 harg6 harg7 x0 x2 x5 x6) xs0 ?_ p q
    unfold kernelRun0_B
    iterate 16 refine held_step rfl rfl ?_
    rfl
  · unfold sout0_B_1
    rw [View.read_writes_junk_eq_canon]
    refine next_held arg15 harg15 (add1 harg1 harg3 harg6 harg7 x0 x2 x5 x6) _ (fold1 harg1 harg3 harg6 harg7 x0 x2 x5 x6) xs1 ?_ p q
    unfold kernelRun0_B
    iterate 16 refine held_step rfl rfl ?_
    rfl
  · unfold sout0_B_2
    rw [View.read_writes_junk_eq_canon]
    refine next_held arg16 harg16 (add2 harg1 harg3 harg6 harg7 x0 x2 x5 x6) _ (fold2 harg1 harg3 harg6 harg7 x0 x2 x5 x6) xs2 ?_ p q
    unfold kernelRun0_B
    iterate 16 refine held_step rfl rfl ?_
    rfl

/-- What the last point leaves. -/
theorem left_C (hc0 : ¬cond0_0 i) (hc1 : cond0_1 i) : out0_C_7 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 xs0 xs1 xs2 = B7 x0 x2 x5 x6 ∧ out0_C_8 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 xs0 xs1 xs2 = B8 x1 x4 ∧ out0_C_9 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 xs0 xs1 xs2 = B9 x1 x3 ∧ (∀ q, out0_C_10 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 xs0 xs1 xs2 (ix2 0 q) = ∑ p, (xs0 (ix2 p q) + share (fun i => E0 x0 x2 x5 x6 i q) p)) ∧ (∀ q, out0_C_11 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 xs0 xs1 xs2 (ix2 0 q) = ∑ p, (xs1 (ix2 p q) + share (fun i => E1 x0 x2 x5 x6 i q) p)) ∧ (∀ q, out0_C_12 (F := Ideal) c i _ harg1 _ harg2 _ harg3 _ harg4 _ harg5 _ harg6 _ harg7 _ harg8 _ harg9 _ harg10 _ harg11 _ harg12 _ harg13 _ harg14 _ harg15 _ harg16 hc0 hc1 x0 x1 x2 x3 x4 x5 x6 xs0 xs1 xs2 (ix2 0 q) = ∑ p, (xs2 (ix2 p q) + share (fun i => E2 x0 x2 x5 x6 i q) p)) := by
  refine ⟨?_, ?_, ?_, fun q => ?_, fun q => ?_, fun q => ?_⟩
  · unfold out0_C_7
    rw [View.read_writes_junk_eq_canon, ← canon7 harg1 harg3 harg6 harg7]
    unfold kernelRun0_C P7
    rfl
  · unfold out0_C_8
    rw [View.read_writes_junk_eq_canon, ← canon8 harg2 harg5]
    unfold kernelRun0_C P8
    rfl
  · unfold out0_C_9
    rw [View.read_writes_junk_eq_canon, ← canon9 harg2 harg4]
    unfold kernelRun0_C P9
    rfl
  · unfold out0_C_10
    rw [View.read_writes_junk_eq_canon]
    refine last_held arg14 harg14 (add0 harg1 harg3 harg6 harg7 x0 x2 x5 x6) _ (fold0 harg1 harg3 harg6 harg7 x0 x2 x5 x6) xs0 pay1_apply ?_ q
    unfold kernelRun0_C
    refine last_step _ _ ?_
    iterate 16 refine held_step rfl rfl ?_
    rfl
  · unfold out0_C_11
    rw [View.read_writes_junk_eq_canon]
    refine last_held arg15 harg15 (add1 harg1 harg3 harg6 harg7 x0 x2 x5 x6) _ (fold1 harg1 harg3 harg6 harg7 x0 x2 x5 x6) xs1 pay2_apply ?_ q
    unfold kernelRun0_C
    refine last_step _ _ ?_
    iterate 16 refine held_step rfl rfl ?_
    rfl
  · unfold out0_C_12
    rw [View.read_writes_junk_eq_canon]
    refine last_held arg16 harg16 (add2 harg1 harg3 harg6 harg7 x0 x2 x5 x6) _ (fold2 harg1 harg3 harg6 harg7 x0 x2 x5 x6) xs2 pay3_apply ?_ q
    unfold kernelRun0_C
    refine last_step _ _ ?_
    iterate 16 refine held_step rfl rfl ?_
    rfl

end Body

variable (m : (ℓ : Loc nD τ sig) → Buf (Elt Ideal) ℓ) (ρ : Dev nD → PrngReg)

/-- Argument 0. -/
abbrev A0 (c : Dev nD) : S2176x1024.Idx → EReal := m ((c : Thread nD τ).loc main_arg0)

/-- Argument 1. -/
abbrev A1 (c : Dev nD) : S2176x1024.Idx → EReal := m ((c : Thread nD τ).loc main_arg1)

/-- Argument 2. -/
abbrev A2 (c : Dev nD) : S2176x1024.Idx → EReal := m ((c : Thread nD τ).loc main_arg2)

/-- Argument 3. -/
abbrev A3 (c : Dev nD) : S2176x1024.Idx → EReal := m ((c : Thread nD τ).loc main_arg3)

/-- Argument 4. -/
abbrev A4 (c : Dev nD) : S2176x9216.Idx → EReal := m ((c : Thread nD τ).loc main_arg4)

/-- Argument 5. -/
abbrev A5 (c : Dev nD) : S1x1024.Idx → EReal := m ((c : Thread nD τ).loc main_arg5)

/-- Argument 6. -/
abbrev A6 (c : Dev nD) : S1x1024.Idx → EReal := m ((c : Thread nD τ).loc main_arg6)

/-- The printed index maps, decided over the grid. -/
theorem maps : ∀ t : Fin cfg0.N, Sits (win0_0.index t) t.val 0 ∧ Sits (win0_1.index t) t.val 0 ∧ Sits (win0_2.index t) t.val 0 ∧ Sits (win0_3.index t) t.val 0 ∧ Sits (win0_4.index t) t.val 2 ∧ Sits (win0_5.index t) 0 0 ∧ Sits (win0_6.index t) 0 0 ∧ Sits (win0_7.index t) t.val 0 ∧ Sits (win0_8.index t) t.val 0 ∧ Sits (win0_9.index t) t.val 0 ∧ Sits (win0_10.index t) 0 0 ∧ Sits (win0_11.index t) 0 0 ∧ Sits (win0_12.index t) 0 0 :=
  (by decide +kernel : ∀ t : Fin grid0.N, Sits (win0_0.index t) t.val 0 ∧ Sits (win0_1.index t) t.val 0 ∧ Sits (win0_2.index t) t.val 0 ∧ Sits (win0_3.index t) t.val 0 ∧ Sits (win0_4.index t) t.val 2 ∧ Sits (win0_5.index t) 0 0 ∧ Sits (win0_6.index t) 0 0 ∧ Sits (win0_7.index t) t.val 0 ∧ Sits (win0_8.index t) t.val 0 ∧ Sits (win0_9.index t) t.val 0 ∧ Sits (win0_10.index t) 0 0 ∧ Sits (win0_11.index t) 0 0 ∧ Sits (win0_12.index t) 0 0)

/-- The row windows write at every point, the sums' at the last. -/
theorem flushes : ∀ t : Fin cfg0.N, (cfg0.win 7).flush t = true ∧ (cfg0.win 8).flush t = true ∧ (cfg0.win 9).flush t = true ∧ ((cfg0.win 10).flush t = true ↔ t.val = 7) ∧ ((cfg0.win 11).flush t = true ↔ t.val = 7) ∧ ((cfg0.win 12).flush t = true ↔ t.val = 7) :=
  (by decide +kernel : ∀ t : Fin grid0.N, win0_7.flush t = true ∧ win0_8.flush t = true ∧ win0_9.flush t = true ∧ (win0_10.flush t = true ↔ t.val = 7) ∧ (win0_11.flush t = true ↔ t.val = 7) ∧ (win0_12.flush t = true ↔ t.val = 7))

/-- A row of the block of window 0. -/
theorem row0 (c : Dev nD) (t : Fin cfg0.N) (p : Fin 272) : row (R := 272) (C := 1024) (iblk m c 0 t) p = row (A0 m c) (at272 t p) := by
  obtain ⟨⟨h0, h1⟩, -⟩ := maps t
  exact funext fun k => congrArg (A0 m c) (idx2_ext _ _
    (show win0_0.index t (0 : Fin 2) * 272 + 1 * p.val = t.val * 272 + p.val by omega) (show win0_0.index t (1 : Fin 2) * 1024 + 1 * k.val = k.val by omega))

/-- A row of the block of window 1. -/
theorem row1 (c : Dev nD) (t : Fin cfg0.N) (p : Fin 272) : row (R := 272) (C := 1024) (iblk m c 1 t) p = row (A1 m c) (at272 t p) := by
  obtain ⟨-, ⟨h0, h1⟩, -⟩ := maps t
  exact funext fun k => congrArg (A1 m c) (idx2_ext _ _
    (show win0_1.index t (0 : Fin 2) * 272 + 1 * p.val = t.val * 272 + p.val by omega) (show win0_1.index t (1 : Fin 2) * 1024 + 1 * k.val = k.val by omega))

/-- A row of the block of window 2. -/
theorem row2 (c : Dev nD) (t : Fin cfg0.N) (p : Fin 272) : row (R := 272) (C := 1024) (iblk m c 2 t) p = row (A2 m c) (at272 t p) := by
  obtain ⟨-, -, ⟨h0, h1⟩, -⟩ := maps t
  exact funext fun k => congrArg (A2 m c) (idx2_ext _ _
    (show win0_2.index t (0 : Fin 2) * 272 + 1 * p.val = t.val * 272 + p.val by omega) (show win0_2.index t (1 : Fin 2) * 1024 + 1 * k.val = k.val by omega))

/-- A row of the block of window 3. -/
theorem row3 (c : Dev nD) (t : Fin cfg0.N) (p : Fin 272) : row (R := 272) (C := 1024) (iblk m c 3 t) p = row (A3 m c) (at272 t p) := by
  obtain ⟨-, -, -, ⟨h0, h1⟩, -⟩ := maps t
  exact funext fun k => congrArg (A3 m c) (idx2_ext _ _
    (show win0_3.index t (0 : Fin 2) * 272 + 1 * p.val = t.val * 272 + p.val by omega) (show win0_3.index t (1 : Fin 2) * 1024 + 1 * k.val = k.val by omega))

/-- A row of the block of window 4. -/
theorem row4 (c : Dev nD) (t : Fin cfg0.N) (p : Fin 272) : row (R := 272) (C := 1024) (iblk m c 4 t) p = from_ 2048 1024 (by omega) (row (A4 m c) (at272 t p)) := by
  obtain ⟨-, -, -, -, ⟨h0, h1⟩, -⟩ := maps t
  exact funext fun k => congrArg (A4 m c) (idx2_ext _ _
    (show win0_4.index t (0 : Fin 2) * 272 + 1 * p.val = t.val * 272 + p.val by omega) (show win0_4.index t (1 : Fin 2) * 1024 + 1 * k.val = 2048 + k.val by omega))

/-- The row of window 5. -/
theorem row5 (c : Dev nD) (t : Fin cfg0.N) : row (R := 1) (C := 1024) (iblk m c 5 t) 0 = row (A5 m c) 0 := by
  obtain ⟨-, -, -, -, -, ⟨h0, h1⟩, -⟩ := maps t
  exact funext fun k => congrArg (A5 m c) (idx2_ext _ _
    (show win0_5.index t (0 : Fin 2) * 1 + 1 * 0 = 0 by omega) (show win0_5.index t (1 : Fin 2) * 1024 + 1 * k.val = k.val by omega))

/-- The row of window 6. -/
theorem row6 (c : Dev nD) (t : Fin cfg0.N) : row (R := 1) (C := 1024) (iblk m c 6 t) 0 = row (A6 m c) 0 := by
  obtain ⟨-, -, -, -, -, -, ⟨h0, h1⟩, -⟩ := maps t
  exact funext fun k => congrArg (A6 m c) (idx2_ext _ _
    (show win0_6.index t (0 : Fin 2) * 1 + 1 * 0 = 0 by omega) (show win0_6.index t (1 : Fin 2) * 1024 + 1 * k.val = k.val by omega))

/-- What a point leaves in window 7. -/
theorem outs7 (c : Dev nD) (t : Fin cfg0.N) : (outsAt0 m c t.val t.isLt).1 = B7 (iblk m c 0 t) (iblk m c 2 t) (iblk m c 5 t) (iblk m c 6 t) := by
  rcases kinds t.val with ⟨h0, h1⟩ | ⟨h0, h1⟩ | ⟨h0, h1⟩
  · rw [outsAt0_A m c t h0 h1]
    dsimp only
    exact (left_A _ _ _ _ _ _ _ _ _ _ _ _ _ _ _ _ _ _ _ _ _ _ _ _ _ _ _).1
  · rw [outsAt0_B m c t h0 h1]
    dsimp only
    exact (left_B _ _ _ _ _ _ _ _ _ _ _ _ _ _ _ _ _ _ _ _ _ _ _ _ _ _ _ _ _ _).1
  · rw [outsAt0_C m c t h0 h1]
    dsimp only
    exact (left_C _ _ _ _ _ _ _ _ _ _ _ _ _ _ _ _ _ _ _ _ _ _ _ _ _ _ _ _ _ _).1

/-- The array of window 7 after the run. -/
theorem end7 (c : Dev nD) : (dats m 0 c).arrAt 7 cfg0.N = T7 (A0 m c) (A2 m c) (A5 m c) (A6 m c) := by
  refine (dats m 0 c).arrAt_eq_of_cover 7 _ (fun t _ => ?_) (fun (i : S2176x1024.Idx) => ?_)
  · obtain ⟨-, -, -, -, -, -, -, ⟨h0, h1⟩, -⟩ := maps t
    refine (flushed7 m c t).trans ?_
    rw [outs7 m c t]
    funext y
    have ey : ((cfg0.win 7).blk t).view.emb y = ix2 (at272 t (y 0)) (y 1) := idx2_ext _ _
      (show win0_7.index t (0 : Fin 2) * 272 + 1 * (y 0).val = t.val * 272 + (y 0).val by omega)
      (show win0_7.index t (1 : Fin 2) * 1024 + 1 * (y 1).val = (y 1).val by omega)
    refine Eq.trans ?_ (congrArg (T7 (A0 m c) (A2 m c) (A5 m c) (A6 m c)) ey.symm)
    refine Eq.trans (b := lnb (row (R := 272) (iblk m c 2 t) (y 0)) (row (R := 1) (iblk m c 5 t) 0) (row (R := 1) (iblk m c 6 t) 0) (row (R := 272) (iblk m c 0 t) (y 0)) (y 1)) rfl ?_
    rw [row0 m c t (y 0), row2 m c t (y 0), row5 m c t, row6 m c t]
    rfl
  · obtain ⟨t, ht⟩ : ∃ t : Fin cfg0.N, t.val = (i 0).val / 272 := block_of (i 0).isLt
    obtain ⟨-, -, -, -, -, -, -, ⟨h0, h1⟩, -⟩ := maps t
    obtain ⟨f, -⟩ := flushes t
    refine ⟨t, f, ?_⟩
    show i ∈ ((View.whole main_v0_0).slice (win0_7.rect t)).set
    rw [View.set_slice_whole]
    exact mem_rows i _ _ (show win0_7.index t (0 : Fin 2) * 272 = _ by rw [h0, ht]) (show win0_7.index t (1 : Fin 2) * 1024 = 0 by rw [h1])

/-- What a point leaves in window 8. -/
theorem outs8 (c : Dev nD) (t : Fin cfg0.N) : (outsAt0 m c t.val t.isLt).2.1 = B8 (iblk m c 1 t) (iblk m c 4 t) := by
  rcases kinds t.val with ⟨h0, h1⟩ | ⟨h0, h1⟩ | ⟨h0, h1⟩
  · rw [outsAt0_A m c t h0 h1]
    dsimp only
    exact (left_A _ _ _ _ _ _ _ _ _ _ _ _ _ _ _ _ _ _ _ _ _ _ _ _ _ _ _).2.1
  · rw [outsAt0_B m c t h0 h1]
    dsimp only
    exact (left_B _ _ _ _ _ _ _ _ _ _ _ _ _ _ _ _ _ _ _ _ _ _ _ _ _ _ _ _ _ _).2.1
  · rw [outsAt0_C m c t h0 h1]
    dsimp only
    exact (left_C _ _ _ _ _ _ _ _ _ _ _ _ _ _ _ _ _ _ _ _ _ _ _ _ _ _ _ _ _ _).2.1

/-- The array of window 8 after the run. -/
theorem end8 (c : Dev nD) : (dats m 0 c).arrAt 8 cfg0.N = T8 (A1 m c) (A4 m c) := by
  refine (dats m 0 c).arrAt_eq_of_cover 8 _ (fun t _ => ?_) (fun (i : S2176x1024.Idx) => ?_)
  · obtain ⟨-, -, -, -, -, -, -, -, ⟨h0, h1⟩, -⟩ := maps t
    refine (flushed8 m c t).trans ?_
    rw [outs8 m c t]
    funext y
    have ey : ((cfg0.win 8).blk t).view.emb y = ix2 (at272 t (y 0)) (y 1) := idx2_ext _ _
      (show win0_8.index t (0 : Fin 2) * 272 + 1 * (y 0).val = t.val * 272 + (y 0).val by omega)
      (show win0_8.index t (1 : Fin 2) * 1024 + 1 * (y 1).val = (y 1).val by omega)
    refine Eq.trans ?_ (congrArg (T8 (A1 m c) (A4 m c)) ey.symm)
    refine Eq.trans (b := mul2 (row (R := 272) (iblk m c 1 t) (y 0)) (row (R := 272) (iblk m c 4 t) (y 0)) (y 1)) rfl ?_
    rw [row1 m c t (y 0), row4 m c t (y 0)]
    rfl
  · obtain ⟨t, ht⟩ : ∃ t : Fin cfg0.N, t.val = (i 0).val / 272 := block_of (i 0).isLt
    obtain ⟨-, -, -, -, -, -, -, -, ⟨h0, h1⟩, -⟩ := maps t
    obtain ⟨-, f, -⟩ := flushes t
    refine ⟨t, f, ?_⟩
    show i ∈ ((View.whole main_v0_1).slice (win0_8.rect t)).set
    rw [View.set_slice_whole]
    exact mem_rows i _ _ (show win0_8.index t (0 : Fin 2) * 272 = _ by rw [h0, ht]) (show win0_8.index t (1 : Fin 2) * 1024 = 0 by rw [h1])

/-- What a point leaves in window 9. -/
theorem outs9 (c : Dev nD) (t : Fin cfg0.N) : (outsAt0 m c t.val t.isLt).2.2.1 = B9 (iblk m c 1 t) (iblk m c 3 t) := by
  rcases kinds t.val with ⟨h0, h1⟩ | ⟨h0, h1⟩ | ⟨h0, h1⟩
  · rw [outsAt0_A m c t h0 h1]
    dsimp only
    exact (left_A _ _ _ _ _ _ _ _ _ _ _ _ _ _ _ _ _ _ _ _ _ _ _ _ _ _ _).2.2.1
  · rw [outsAt0_B m c t h0 h1]
    dsimp only
    exact (left_B _ _ _ _ _ _ _ _ _ _ _ _ _ _ _ _ _ _ _ _ _ _ _ _ _ _ _ _ _ _).2.2.1
  · rw [outsAt0_C m c t h0 h1]
    dsimp only
    exact (left_C _ _ _ _ _ _ _ _ _ _ _ _ _ _ _ _ _ _ _ _ _ _ _ _ _ _ _ _ _ _).2.2.1

/-- The array of window 9 after the run. -/
theorem end9 (c : Dev nD) : (dats m 0 c).arrAt 9 cfg0.N = T9 (A1 m c) (A3 m c) := by
  refine (dats m 0 c).arrAt_eq_of_cover 9 _ (fun t _ => ?_) (fun (i : S2176x1024.Idx) => ?_)
  · obtain ⟨-, -, -, -, -, -, -, -, -, ⟨h0, h1⟩, -⟩ := maps t
    refine (flushed9 m c t).trans ?_
    rw [outs9 m c t]
    funext y
    have ey : ((cfg0.win 9).blk t).view.emb y = ix2 (at272 t (y 0)) (y 1) := idx2_ext _ _
      (show win0_9.index t (0 : Fin 2) * 272 + 1 * (y 0).val = t.val * 272 + (y 0).val by omega)
      (show win0_9.index t (1 : Fin 2) * 1024 + 1 * (y 1).val = (y 1).val by omega)
    refine Eq.trans ?_ (congrArg (T9 (A1 m c) (A3 m c)) ey.symm)
    refine Eq.trans (b := mul2 (row (R := 272) (iblk m c 1 t) (y 0)) (row (R := 272) (iblk m c 3 t) (y 0)) (y 1)) rfl ?_
    rw [row1 m c t (y 0), row3 m c t (y 0)]
    rfl
  · obtain ⟨t, ht⟩ : ∃ t : Fin cfg0.N, t.val = (i 0).val / 272 := block_of (i 0).isLt
    obtain ⟨-, -, -, -, -, -, -, -, -, ⟨h0, h1⟩, -⟩ := maps t
    obtain ⟨-, -, f, -⟩ := flushes t
    refine ⟨t, f, ?_⟩
    show i ∈ ((View.whole main_v0_2).slice (win0_9.rect t)).set
    rw [View.set_slice_whole]
    exact mem_rows i _ _ (show win0_9.index t (0 : Fin 2) * 272 = _ by rw [h0, ht]) (show win0_9.index t (1 : Fin 2) * 1024 = 0 by rw [h1])

/-- What a point adds to scratch 0, from the arrays. -/
theorem part0 (c : Dev nD) (p : Fin 8) (q : Fin 1024) (t : Fin cfg0.N) : share (fun i => E0 (iblk m c 0 t) (iblk m c 2 t) (iblk m c 5 t) (iblk m c 6 t) i q) p = share (fun i => mul2 (dal (row (A2 m c) (at272 t i)) (row (A5 m c) 0) (row (A6 m c) 0) (row (A0 m c) (at272 t i))) (hat (row (A2 m c) (at272 t i))) q) p :=
  congrArg (fun f => share f p) (funext fun i => by
    unfold E0
    rw [row0 m c t i, row2 m c t i, row5 m c t, row6 m c t])

/-- The array of window 10 after the run. -/
theorem end10 (c : Dev nD) : (dats m 0 c).arrAt 10 cfg0.N = T10 (A0 m c) (A2 m c) (A5 m c) (A6 m c) := by
  refine (dats m 0 c).arrAt_eq_of_cover 10 _ (fun t hf => ?_) (fun (i : S1x1024.Idx) => ?_)
  · obtain ⟨-, -, -, -, -, -, -, -, -, -, ⟨h0, h1⟩, -⟩ := maps t
    obtain ⟨-, -, -, f, -⟩ := flushes t
    have ht : t.val = 7 := f.mp hf
    refine (flushed10_C m c t (by omega) (by omega)).trans ?_
    funext y
    obtain ⟨q, hq⟩ : ∃ q : Fin 1024, y = (ix2 0 q : S1x1024.Idx) := one_row y
    have ey : ((cfg0.win 10).blk t).view.emb (ix2 0 q : S1x1024.Idx) = (ix2 0 q : S1x1024.Idx) := idx2_ext _ _
      (show win0_10.index t (0 : Fin 2) * 1 + 1 * 0 = 0 by omega)
      (show win0_10.index t (1 : Fin 2) * 1024 + 1 * q.val = q.val by omega)
    rw [hq]
    refine Eq.trans ?_ (congrArg (T10 (A0 m c) (A2 m c) (A5 m c) (A6 m c)) ey.symm)
    refine ((left_C _ _ _ _ _ _ _ _ _ _ _ _ _ _ _ _ _ _ _ _ _ _ _ _ _ _ _ _ _ _).2.2.2.1 q).trans ?_
    refine (Finset.sum_congr (M := EReal) rfl fun p _ => congrArg (_ + ·) (part0 m c p q t)).trans ?_
    refine summed (fun p n h => (outsAt0 m c n h).2.2.2.2.2.2.1 (ix2 p q)) (fun i => mul2 (dal (row (A2 m c) i) (row (A5 m c) 0) (row (A6 m c) 0) (row (A0 m c) i)) (hat (row (A2 m c) i)) q) (fun p => ?_) (fun p n hn => ?_) t ht _
    · have e := outsAt0_A m c ⟨0, Nat.zero_lt_succ 7⟩ (show 0 % 8 = 0 from rfl) (show ¬0 % 8 = 7 by omega)
      dsimp only at e ⊢
      rw [e]
      dsimp only
      exact ((left_A _ _ _ _ _ _ _ _ _ _ _ _ _ _ _ _ _ _ _ _ _ _ _ _ _ _ _).2.2.2.1 p q).trans (part0 m c p q _)
    · have h : n + 1 < cfg0.N := show n + 1 < 8 by omega
      have e := outsAt0_B m c ⟨n + 1, h⟩ (show ¬(n + 1) % 8 = 0 by omega) (show ¬(n + 1) % 8 = 7 by omega)
      dsimp only at e ⊢
      rw [e]
      dsimp only
      exact ((left_B _ _ _ _ _ _ _ _ _ _ _ _ _ _ _ _ _ _ _ _ _ _ _ _ _ _ _ _ _ _).2.2.2.1 p q).trans (congrArg (_ + ·) (part0 m c p q _))
  · obtain ⟨t, ht⟩ : ∃ t : Fin cfg0.N, t.val = 7 := ⟨(7 : Fin 8), rfl⟩
    obtain ⟨-, -, -, -, -, -, -, -, -, -, ⟨h0, h1⟩, -⟩ := maps t
    obtain ⟨-, -, -, f, -⟩ := flushes t
    refine ⟨t, f.mpr ht, ?_⟩
    show i ∈ ((View.whole main_v0_3).slice (win0_10.rect t)).set
    rw [View.set_slice_whole]
    exact mem_row i _ _ (show win0_10.index t (0 : Fin 2) * 1 = 0 by rw [h0]) (show win0_10.index t (1 : Fin 2) * 1024 = 0 by rw [h1])

/-- What a point adds to scratch 1, from the arrays. -/
theorem part1 (c : Dev nD) (p : Fin 8) (q : Fin 1024) (t : Fin cfg0.N) : share (fun i => E1 (iblk m c 0 t) (iblk m c 2 t) (iblk m c 5 t) (iblk m c 6 t) i q) p = share (fun i => dal (row (A2 m c) (at272 t i)) (row (A5 m c) 0) (row (A6 m c) 0) (row (A0 m c) (at272 t i)) q) p :=
  congrArg (fun f => share f p) (funext fun i => by
    unfold E1
    rw [row0 m c t i, row2 m c t i, row5 m c t, row6 m c t])

/-- The array of window 11 after the run. -/
theorem end11 (c : Dev nD) : (dats m 0 c).arrAt 11 cfg0.N = T11 (A0 m c) (A2 m c) (A5 m c) (A6 m c) := by
  refine (dats m 0 c).arrAt_eq_of_cover 11 _ (fun t hf => ?_) (fun (i : S1x1024.Idx) => ?_)
  · obtain ⟨-, -, -, -, -, -, -, -, -, -, -, ⟨h0, h1⟩, -⟩ := maps t
    obtain ⟨-, -, -, -, f, -⟩ := flushes t
    have ht : t.val = 7 := f.mp hf
    refine (flushed11_C m c t (by omega) (by omega)).trans ?_
    funext y
    obtain ⟨q, hq⟩ : ∃ q : Fin 1024, y = (ix2 0 q : S1x1024.Idx) := one_row y
    have ey : ((cfg0.win 11).blk t).view.emb (ix2 0 q : S1x1024.Idx) = (ix2 0 q : S1x1024.Idx) := idx2_ext _ _
      (show win0_11.index t (0 : Fin 2) * 1 + 1 * 0 = 0 by omega)
      (show win0_11.index t (1 : Fin 2) * 1024 + 1 * q.val = q.val by omega)
    rw [hq]
    refine Eq.trans ?_ (congrArg (T11 (A0 m c) (A2 m c) (A5 m c) (A6 m c)) ey.symm)
    refine ((left_C _ _ _ _ _ _ _ _ _ _ _ _ _ _ _ _ _ _ _ _ _ _ _ _ _ _ _ _ _ _).2.2.2.2.1 q).trans ?_
    refine (Finset.sum_congr (M := EReal) rfl fun p _ => congrArg (_ + ·) (part1 m c p q t)).trans ?_
    refine summed (fun p n h => (outsAt0 m c n h).2.2.2.2.2.2.2.1 (ix2 p q)) (fun i => dal (row (A2 m c) i) (row (A5 m c) 0) (row (A6 m c) 0) (row (A0 m c) i) q) (fun p => ?_) (fun p n hn => ?_) t ht _
    · have e := outsAt0_A m c ⟨0, Nat.zero_lt_succ 7⟩ (show 0 % 8 = 0 from rfl) (show ¬0 % 8 = 7 by omega)
      dsimp only at e ⊢
      rw [e]
      dsimp only
      exact ((left_A _ _ _ _ _ _ _ _ _ _ _ _ _ _ _ _ _ _ _ _ _ _ _ _ _ _ _).2.2.2.2.1 p q).trans (part1 m c p q _)
    · have h : n + 1 < cfg0.N := show n + 1 < 8 by omega
      have e := outsAt0_B m c ⟨n + 1, h⟩ (show ¬(n + 1) % 8 = 0 by omega) (show ¬(n + 1) % 8 = 7 by omega)
      dsimp only at e ⊢
      rw [e]
      dsimp only
      exact ((left_B _ _ _ _ _ _ _ _ _ _ _ _ _ _ _ _ _ _ _ _ _ _ _ _ _ _ _ _ _ _).2.2.2.2.1 p q).trans (congrArg (_ + ·) (part1 m c p q _))
  · obtain ⟨t, ht⟩ : ∃ t : Fin cfg0.N, t.val = 7 := ⟨(7 : Fin 8), rfl⟩
    obtain ⟨-, -, -, -, -, -, -, -, -, -, -, ⟨h0, h1⟩, -⟩ := maps t
    obtain ⟨-, -, -, -, f, -⟩ := flushes t
    refine ⟨t, f.mpr ht, ?_⟩
    show i ∈ ((View.whole main_v0_4).slice (win0_11.rect t)).set
    rw [View.set_slice_whole]
    exact mem_row i _ _ (show win0_11.index t (0 : Fin 2) * 1 = 0 by rw [h0]) (show win0_11.index t (1 : Fin 2) * 1024 = 0 by rw [h1])

/-- What a point adds to scratch 2, from the arrays. -/
theorem part2 (c : Dev nD) (p : Fin 8) (q : Fin 1024) (t : Fin cfg0.N) : share (fun i => E2 (iblk m c 0 t) (iblk m c 2 t) (iblk m c 5 t) (iblk m c 6 t) i q) p = share (fun i => lnb (row (A2 m c) (at272 t i)) (row (A5 m c) 0) (row (A6 m c) 0) (row (A0 m c) (at272 t i)) q) p :=
  congrArg (fun f => share f p) (funext fun i => by
    unfold E2
    rw [row0 m c t i, row2 m c t i, row5 m c t, row6 m c t])

/-- The array of window 12 after the run. -/
theorem end12 (c : Dev nD) : (dats m 0 c).arrAt 12 cfg0.N = T12 (A0 m c) (A2 m c) (A5 m c) (A6 m c) := by
  refine (dats m 0 c).arrAt_eq_of_cover 12 _ (fun t hf => ?_) (fun (i : S1x1024.Idx) => ?_)
  · obtain ⟨-, -, -, -, -, -, -, -, -, -, -, -, ⟨h0, h1⟩⟩ := maps t
    obtain ⟨-, -, -, -, -, f⟩ := flushes t
    have ht : t.val = 7 := f.mp hf
    refine (flushed12_C m c t (by omega) (by omega)).trans ?_
    funext y
    obtain ⟨q, hq⟩ : ∃ q : Fin 1024, y = (ix2 0 q : S1x1024.Idx) := one_row y
    have ey : ((cfg0.win 12).blk t).view.emb (ix2 0 q : S1x1024.Idx) = (ix2 0 q : S1x1024.Idx) := idx2_ext _ _
      (show win0_12.index t (0 : Fin 2) * 1 + 1 * 0 = 0 by omega)
      (show win0_12.index t (1 : Fin 2) * 1024 + 1 * q.val = q.val by omega)
    rw [hq]
    refine Eq.trans ?_ (congrArg (T12 (A0 m c) (A2 m c) (A5 m c) (A6 m c)) ey.symm)
    refine ((left_C _ _ _ _ _ _ _ _ _ _ _ _ _ _ _ _ _ _ _ _ _ _ _ _ _ _ _ _ _ _).2.2.2.2.2 q).trans ?_
    refine (Finset.sum_congr (M := EReal) rfl fun p _ => congrArg (_ + ·) (part2 m c p q t)).trans ?_
    refine summed (fun p n h => (outsAt0 m c n h).2.2.2.2.2.2.2.2 (ix2 p q)) (fun i => lnb (row (A2 m c) i) (row (A5 m c) 0) (row (A6 m c) 0) (row (A0 m c) i) q) (fun p => ?_) (fun p n hn => ?_) t ht _
    · have e := outsAt0_A m c ⟨0, Nat.zero_lt_succ 7⟩ (show 0 % 8 = 0 from rfl) (show ¬0 % 8 = 7 by omega)
      dsimp only at e ⊢
      rw [e]
      dsimp only
      exact ((left_A _ _ _ _ _ _ _ _ _ _ _ _ _ _ _ _ _ _ _ _ _ _ _ _ _ _ _).2.2.2.2.2 p q).trans (part2 m c p q _)
    · have h : n + 1 < cfg0.N := show n + 1 < 8 by omega
      have e := outsAt0_B m c ⟨n + 1, h⟩ (show ¬(n + 1) % 8 = 0 by omega) (show ¬(n + 1) % 8 = 7 by omega)
      dsimp only at e ⊢
      rw [e]
      dsimp only
      exact ((left_B _ _ _ _ _ _ _ _ _ _ _ _ _ _ _ _ _ _ _ _ _ _ _ _ _ _ _ _ _ _).2.2.2.2.2 p q).trans (congrArg (_ + ·) (part2 m c p q _))
  · obtain ⟨t, ht⟩ : ∃ t : Fin cfg0.N, t.val = 7 := ⟨(7 : Fin 8), rfl⟩
    obtain ⟨-, -, -, -, -, -, -, -, -, -, -, -, ⟨h0, h1⟩⟩ := maps t
    obtain ⟨-, -, -, -, -, f⟩ := flushes t
    refine ⟨t, f.mpr ht, ?_⟩
    show i ∈ ((View.whole main_v0_5).slice (win0_12.rect t)).set
    rw [View.set_slice_whole]
    exact mem_row i _ _ (show win0_12.index t (0 : Fin 2) * 1 = 0 by rw [h0]) (show win0_12.index t (1 : Fin 2) * 1024 = 0 by rw [h1])

end Cert.BranchBwdIdeal.Value

namespace Cert.BranchBwdReferenceIdeal.Read

open Cert.BranchBwdIdeal.Value Cert.Blocks Cert.Rows Cert.LnBwd Idealize.ShloMosaic Idealize.ShloMosaic.TcCoe

/-- The cotangent past the gate in the reference, read. -/
theorem v32_row (D X : (⟨S2176x1024, .f32⟩ : BufTy).Contents (Elt Ideal)) (w b : (⟨S1x1024, .f32⟩ : BufTy).Contents (Elt Ideal)) (p : Fin 2176) : row (val_main_v32 (F := Ideal) D X w b) p = rdal (row X p) (row w 0) (row b 0) (row D p) := funext fun q => by
  refine Eq.trans (b := val_main_v32 (F := Ideal) D X w b (ix2 p q)) rfl ?_
  simp only [val_main_v32, val_main_v27, val_main_v26, val_main_v25, val_main_v24, val_main_v23, val_main_v22, val_main_v18, val_main_v17, val_main_v16, val_main_v15, val_main_v14, val_main_v13, val_main_v12, val_main_v11, val_main_v10, val_main_v7, val_main_v6, val_main_v5, val_main_v4, val_main_v3, val_main_v2, val_main_v1, val_main_call1_v2, val_main_v28_1, val_main_v28_2, val_main_call0_v4, val_main_call0_cst_0, val_main_call0_v3, val_main_call0_v2, val_main_call0_cst, val_main_call0_v1, val_main_call0_v0, val_main_cst_4, val_main_cst_3, val_main_cst_0, val_main_cst, val_main_cst_2, val_main_call0_v7, val_main_call0_v6, val_main_call0_cst_1, val_main_call1_v0, val_main_call1_v1]
  unfold rdal sgm layer row
  pointwise

/-- The normalized rows in the reference, read. -/
theorem v23_row (X : (⟨S2176x1024, .f32⟩ : BufTy).Contents (Elt Ideal)) (p : Fin 2176) : row (val_main_v23 (F := Ideal) X) p = hat (row X p) := funext fun q => by
  refine Eq.trans (b := val_main_v23 (F := Ideal) X (ix2 p q)) rfl ?_
  simp only [val_main_v23, val_main_v22, val_main_v18, val_main_v17, val_main_v16, val_main_v15, val_main_v14, val_main_v13, val_main_v12, val_main_v11, val_main_v10, val_main_v7, val_main_v6, val_main_v5, val_main_v4, val_main_v3, val_main_v2, val_main_v1, val_main_cst_4, val_main_cst_3, val_main_cst_0, val_main_cst, val_main_cst_2]
  unfold hat lr vr mean row
  pointwise

/-- The cotangent of the rows in the reference, read. -/
theorem v63_row (D X : (⟨S2176x1024, .f32⟩ : BufTy).Contents (Elt Ideal)) (w b : (⟨S1x1024, .f32⟩ : BufTy).Contents (Elt Ideal)) (p : Fin 2176) (q : Fin 1024) : val_main_v63 (F := Ideal) D X w b (ix2 p q) = rback (row X p) (row w 0) (rdal (row X p) (row w 0) (row b 0) (row D p)) q := by
  rw [← v32_row]
  simp only [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst_13, val_main_cst_1, val_main_cst_0, val_main_cst, val_main_cst_10, val_main_cst_4, val_main_cst_3, val_main_cst_2, val_main_cst_8, val_main_cst_5, val_main_cst_11, val_main_cst_12, val_main_cst_9, val_main_cst_14]
  generalize val_main_v32 (F := Ideal) D X w b = E
  unfold rback byvar lr vr mean row
  pointwise
  simp only [Fin.sum_univ_one (M := EReal)]

/-- The convolution's cotangent in the reference, read. -/
theorem v63_eq (D X : (⟨S2176x1024, .f32⟩ : BufTy).Contents (Elt Ideal)) (w b : (⟨S1x1024, .f32⟩ : BufTy).Contents (Elt Ideal)) (hd : ∀ p q, ∃ r : ℝ, D (ix2 p q) = (r : EReal)) (hw : ∀ q, ∃ r : ℝ, w (ix2 0 q) = (r : EReal)) : val_main_v63 (F := Ideal) D X w b = T7 D X w b :=
  ext2 fun p q => (v63_row D X w b p q).trans (lnb_eq _ _ _ _ q (hd p) hw)

/-- The other branch's cotangent in the reference, read. -/
theorem v30_eq (D : (⟨S2176x1024, .f32⟩ : BufTy).Contents (Elt Ideal)) (P : (⟨S2176x9216, .f32⟩ : BufTy).Contents (Elt Ideal)) : val_main_v30 (F := Ideal) D P = T8 D P := by
  refine ext2 fun p q => ?_
  simp only [val_main_v30, val_main_v0]
  unfold T8 mul2 from_ row
  pointwise
  exact mul_comm (G := EReal) _ _

/-- Its gate's cotangent in the reference, read. -/
theorem v66_eq (D C : (⟨S2176x1024, .f32⟩ : BufTy).Contents (Elt Ideal)) : val_main_v66 (F := Ideal) D C = T9 D C := by
  refine ext2 fun p q => ?_
  simp only [val_main_v66, val_main_v31]
  unfold T9 mul2 row
  pointwise

/-- The scale's gradient in the reference, read. -/
theorem v37_eq (D X : (⟨S2176x1024, .f32⟩ : BufTy).Contents (Elt Ideal)) (w b : (⟨S1x1024, .f32⟩ : BufTy).Contents (Elt Ideal)) (hd : ∀ p q, ∃ r : ℝ, D (ix2 p q) = (r : EReal)) : val_main_v37 (F := Ideal) D X w b = T10 D X w b := by
  refine ext2 fun p q => ?_
  simp only [val_main_v37, val_main_v36, val_main_cst_7, val_main_v35]
  refine Eq.trans (b := ∑ k, row (val_main_v23 (F := Ideal) X) k q * row (val_main_v32 (F := Ideal) D X w b) k q) ?_ ?_
  · generalize val_main_v23 (F := Ideal) X = H
    generalize val_main_v32 (F := Ideal) D X w b = E
    unfold row
    pointwise
  · refine Finset.sum_congr (M := EReal) rfl fun k _ => ?_
    rw [v23_row, v32_row, (dal_eq _ _ _ _ q (hd k q)).1, mul_comm (G := EReal)]
    rfl

/-- The shift's gradient in the reference, read. -/
theorem v34_eq (D X : (⟨S2176x1024, .f32⟩ : BufTy).Contents (Elt Ideal)) (w b : (⟨S1x1024, .f32⟩ : BufTy).Contents (Elt Ideal)) (hd : ∀ p q, ∃ r : ℝ, D (ix2 p q) = (r : EReal)) : val_main_v34 (F := Ideal) D X w b = T11 D X w b := by
  refine ext2 fun p q => ?_
  simp only [val_main_v34, val_main_v33, val_main_cst_6]
  refine Eq.trans (b := ∑ k, row (val_main_v32 (F := Ideal) D X w b) k q) ?_ ?_
  · generalize val_main_v32 (F := Ideal) D X w b = E
    unfold row
    pointwise
  · refine Finset.sum_congr (M := EReal) rfl fun k _ => ?_
    rw [v32_row, (dal_eq _ _ _ _ q (hd k q)).1]
    rfl

/-- The convolution's bias's gradient in the reference, read. -/
theorem v65_eq (D X : (⟨S2176x1024, .f32⟩ : BufTy).Contents (Elt Ideal)) (w b : (⟨S1x1024, .f32⟩ : BufTy).Contents (Elt Ideal)) (hd : ∀ p q, ∃ r : ℝ, D (ix2 p q) = (r : EReal)) (hw : ∀ q, ∃ r : ℝ, w (ix2 0 q) = (r : EReal)) : val_main_v65 (F := Ideal) D X w b = T12 D X w b := by
  refine ext2 fun p q => ?_
  simp only [val_main_v65, val_main_v64, val_main_cst_15]
  refine Eq.trans (b := ∑ k : Fin 2176, val_main_v63 (F := Ideal) D X w b (ix2 k q)) ?_ ?_
  · generalize val_main_v63 (F := Ideal) D X w b = E
    pointwise
  · refine Finset.sum_congr (M := EReal) rfl fun k _ => ?_
    rw [v63_eq D X w b hd hw]
    rfl

end Cert.BranchBwdReferenceIdeal.Read

namespace Cert.Pre_finite_rows

open Idealize.ShloMosaic Cert.Blocks Facts

/-- The precondition's side conditions. -/
instance facts : Facts := ⟨by decide, by decide, by decide⟩

/-- The precondition at a place: the cotangent and the scale there leave zero when taken from themselves. -/
theorem at_ (a0 a1 a2 a3 : FVec Ideal S2176x1024 .f32) (a4 : FVec Ideal S2176x9216 .f32) (a5 a6 : FVec Ideal S1x1024 .f32) (h : fn (F := Ideal) a0 a1 a2 a3 a4 a5 a6 = fun _ => 1#1) (p : Fin 2176) (q : Fin 1024) :
    (∃ r : ℝ, a0 (ix2 p q) = (r : EReal)) ∧ ∃ r : ℝ, a5 (ix2 0 q) = (r : EReal) := by
  have h := congrFun h (ix2 p q)
  unfold fn at h
  simp only [andi, cmpf, subf] at h
  rw [broadcastInDim_apply ![0, 1] bcast_S1x1024_S2176x1024_0_1 _ (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])] at h
  have hc : ∀ a : BitVec 1, ∀ b : BitVec 1, IntOp.andi a b = 1#1 → a = 1#1 ∧ b = 1#1 := by decide
  have hz : ∀ x : EReal, Ideal.cmp .oeq (x - x) (Ideal.ofBits .f32 0x00000000#32) = 1#1 → ∃ r : ℝ, x = (r : EReal) := fun x h => by
    refine Cert.LnBwd.real_of_sub ?_
    by_contra hn
    have h0 : Ideal.ofBits .f32 0x00000000#32 = 0 := by simp [Ideal.ofBits, Ideal.ieee]
    rw [h0] at h
    simp [Ideal.cmp, hn] at h
  obtain ⟨h1, h2⟩ := hc _ _ h
  exact ⟨hz _ h1, hz _ h2⟩

end Cert.Pre_finite_rows

namespace Cert.BranchBwdEq

open Idealize.ShloMosaic Idealize.ShloMosaic.TcCoe Idealize.SL.Sem Cert.BranchBwdIdeal.Value

/-- The kernel and its reference leave equal results and keep their arguments, from real cotangents and a real scale. -/
theorem algebraic : Cert.algebraic_BranchBwdIdeal_BranchBwdReferenceIdeal_pre_finite_rows := by
  intro m g m' g' hpre hagree
  refine ⟨fun c => T7 (A0 m c) (A2 m c) (A5 m c) (A6 m c), fun c => T8 (A1 m c) (A4 m c), fun c => T9 (A1 m c) (A3 m c), fun c => T10 (A0 m c) (A2 m c) (A5 m c) (A6 m c), fun c => T11 (A0 m c) (A2 m c) (A5 m c) (A6 m c), fun c => T12 (A0 m c) (A2 m c) (A5 m c) (A6 m c),
    (θ_run Cert.BranchBwdIdeal.defs _ _).mono (fun r h c => ?_) (Cert.BranchBwdIdeal.Value.run_blocks m g),
    (θ_run Cert.BranchBwdReferenceIdeal.defs _ _).mono (fun r h c => ?_) (Cert.BranchBwdReferenceIdeal.Value.run m' g')⟩
  · obtain ⟨h0, h1, h2, h3, h4, h5, k⟩ := h c
    exact ⟨h0.trans (end7 m c), h1.trans (end8 m c), h2.trans (end9 m c), h3.trans (end10 m c), h4.trans (end11 m c), h5.trans (end12 m c), k⟩
  · obtain ⟨h0, h1, h2, h3, h4, h5, k⟩ := h c
    have hd : ∀ p q, ∃ r : ℝ, A0 m c (ix2 p q) = (r : EReal) := fun p q => (Cert.Pre_finite_rows.at_ _ _ _ _ _ _ _ (hpre c) p q).1
    have hw : ∀ q, ∃ r : ℝ, A5 m c (ix2 0 q) = (r : EReal) := fun q => (Cert.Pre_finite_rows.at_ _ _ _ _ _ _ _ (hpre c) 0 q).2
    obtain ⟨a0, a1, a2, a3, a4, a5, a6⟩ := hagree c
    rw [Cert.BranchBwdReferenceIdeal.Read.val_main_v63_eq, a0, a2, a5, a6] at h0
    rw [a1, a4] at h1
    rw [a1, a3] at h2
    rw [Cert.BranchBwdReferenceIdeal.Read.val_main_v37_eq, a0, a2, a5, a6] at h3
    rw [Cert.BranchBwdReferenceIdeal.Read.val_main_v34_eq, a0, a2, a5, a6] at h4
    rw [Cert.BranchBwdReferenceIdeal.Read.val_main_v65_eq, a0, a2, a5, a6] at h5
    exact ⟨h0.trans (Cert.BranchBwdReferenceIdeal.Read.v63_eq _ _ _ _ hd hw), h1.trans ((Cert.BranchBwdReferenceIdeal.Read.val_main_v30_eq _ _).trans (Cert.BranchBwdReferenceIdeal.Read.v30_eq _ _)), h2.trans ((Cert.BranchBwdReferenceIdeal.Read.val_main_v66_eq _ _).trans (Cert.BranchBwdReferenceIdeal.Read.v66_eq _ _)), h3.trans (Cert.BranchBwdReferenceIdeal.Read.v37_eq _ _ _ _ hd), h4.trans (Cert.BranchBwdReferenceIdeal.Read.v34_eq _ _ _ _ hd), h5.trans (Cert.BranchBwdReferenceIdeal.Read.v65_eq _ _ _ _ hd hw), k⟩

end Cert.BranchBwdEq

end
-- ==== Proof.ConvFwdOut.lean ====
/- The forward convolutions' body, read: its two outputs at an index, as functions of the blocks it is handed. -/
module

public import proofs.«01_k».proof.Proof.Gen.ConvFwdIdeal.Frame
public import proofs.«01_k».proof.Proof.ConvPad

@[expose] public section

set_option maxRecDepth 16384

noncomputable section

namespace Cert.ConvFwdIdeal.Gen

open Idealize.ShloMosaic Idealize.ShloMosaic.TcCoe Idealize.SL.Sem
open Cert.KernelIdeal.Gen (ext ext_apply padTop canon_top sg arr)

/-- A causal convolution: the taps' products, the first tap reading `o` rows further on. -/
def cvF {n N : ℕ} (W : (⟨2, ![n, 128]⟩ : Shape).Idx → EReal) (P : (⟨2, ![N, 128]⟩ : Shape).Idx → EReal) (o r : ℕ) (l : Fin 128) : EReal :=
  ∑ j ∈ Finset.range n, ext P (r + (j + o)) l * ext W j l

/-- The rectangle of the 64 rows one trip writes. -/
abbrev rectD (k : Fin k0_t1_loop.trips) : Rect S2176x128 := Rect.unit (k0_off2 k) S64x128.size (k0_off2_inb k)

/-- The 64 rows of a padded operand one trip reads, `o` rows further on. -/
def ldP (A : Memref sig .tc .vmem S2208x128 .f32) (X : BufTy.Contents (Elt Ideal) A.view.ty) (k : Fin k0_t1_loop.trips) (o : Fin 31) : Vec Ideal S64x128 .f32 :=
  View.readAt (Elt Ideal) A.view (Rect.unit (s := S2208x128) (k0_off1 k (BitVec.ofNat 32 (2 + o.val))) S64x128.size (k0_off1_inb k o)).toLoadRect X

/-- Those rows at an index. -/
theorem ldP_apply (A : Memref sig .tc .vmem S2208x128 .f32) (X : BufTy.Contents (Elt Ideal) A.view.ty) (k : Fin k0_t1_loop.trips) (o : Fin 31) (y : S64x128.Idx) :
    ldP A X k o y = ext (A.view.read (Elt Ideal) X) (64 * k.val + (y 0).val + (o.val + 2)) (y 1) := by
  refine ext_apply (A.view.read (Elt Ideal) X) _ ?_ ?_
  · show k0_off1 k (BitVec.ofNat 32 (2 + o.val)) 0 + 1 * (y 0).val = _
    rw [k0_off1_eq]
    show 64 * k.val + o.val + 2 + 1 * (y 0).val = _
    omega
  · show k0_off1 k (BitVec.ofNat 32 (2 + o.val)) 1 + 1 * (y 1).val = _
    rw [k0_off1_eq]
    show 0 + 1 * (y 1).val = _
    omega

/-- A row of an array of `n` rows. -/
def ldW {n : ℕ} (A : Memref sig .tc .vmem (⟨2, ![n, 128]⟩ : Shape) .f32) (X : BufTy.Contents (Elt Ideal) A.view.ty) (j : Fin n) : Vec Ideal S1x128 .f32 :=
  View.readAt (Elt Ideal) A.view (Rect.unit (s := (⟨2, ![n, 128]⟩ : Shape)) ![j.val, 0] S1x128.size (by have hj := j.isLt; intro a; match a with | ⟨0, _⟩ => exact (by omega : j.val + 1 ≤ n) | ⟨1, _⟩ => exact (by omega : 0 + 128 ≤ 128))).toLoadRect X

/-- The row at a lane. -/
theorem ldW_apply {n : ℕ} (A : Memref sig .tc .vmem (⟨2, ![n, 128]⟩ : Shape) .f32) (X : BufTy.Contents (Elt Ideal) A.view.ty) (j : Fin n) (l : Fin 128) :
    ldW A X j (ix2 (n0 := 1) (n1 := 128) 0 l) = ext (A.view.read (Elt Ideal) X) j.val l := by
  refine ext_apply (A.view.read (Elt Ideal) X) _ ?_ ?_
  · show j.val + 1 * 0 = j.val
    omega
  · show 0 + 1 * l.val = l.val
    omega

/-- What a trip writes of the long convolution, at an index. -/
theorem long_pay (P : Fin 31 → Vec Ideal S64x128 .f32) (W : Fin 31 → Vec Ideal S1x128 .f32) (b : Vec Ideal S1x128 .f32) (y : S64x128.Idx) :
    k0_pay14 (k0_pay13 (k0_pay11 (k0_pay10 (k0_pay8 (k0_pay7 b (P 0) (W 0) (P 1) (W 1) (P 2) (W 2) (P 3) (W 3)) (P 4) (W 4) (P 5) (W 5) (P 6) (W 6) (P 7) (W 7) (P 8) (W 8)) (k0_pay9 (P 9) (W 9)) (P 10) (W 10) (P 11) (W 11) (P 12) (W 12) (P 13) (W 13) (P 14) (W 14)) (P 15) (W 15) (P 16) (W 16) (P 17) (W 17) (P 18) (W 18) (P 19) (W 19)) (P 20) (k0_pay12 (W 20)) (P 21) (W 21) (P 22) (W 22) (P 23) (W 23) (P 24) (W 24) (P 25) (W 25)) (P 26) (W 26) (P 27) (W 27) (P 28) (W 28) (P 29) (W 29) (P 30) (W 30) y
      = b (ix2 (n0 := 1) (n1 := 128) 0 (y 1)) + ∑ j : Fin 31, P j y * W j (ix2 (n0 := 1) (n1 := 128) 0 (y 1)) := by
  unfold k0_pay14 k0_pay13 k0_pay12 k0_pay11 k0_pay10 k0_pay9 k0_pay8 k0_pay7
  simp only [Fin.sum_univ_succ, Fin.sum_univ_zero, add_zero, ← add_assoc]
  pointwise
  rfl

/-- What a trip writes of the short convolution, at an index. -/
theorem short_pay (P : Fin 3 → Vec Ideal S64x128 .f32) (W : Fin 3 → Vec Ideal S1x128 .f32) (y : S64x128.Idx) :
    k0_pay6 k0_pay15 (P 0) (W 0) (P 1) (W 1) (P 2) (W 2) y = ∑ j : Fin 3, P j y * W j (ix2 (n0 := 1) (n1 := 128) 0 (y 1)) := by
  unfold k0_pay6 k0_pay15
  simp only [Fin.sum_univ_succ, Fin.sum_univ_zero, add_zero, ← add_assoc]
  pointwise
  rfl

/-- Every piece of a list holds one array's values. -/
def Holds (f : ℕ → Fin 128 → EReal) (L : List (View.Piece (Elt Ideal) S2176x128 .f32)) : Prop :=
  ∀ p ∈ L, ∀ x : p.1.shape.Idx, p.2 x = arr f (p.1.emb x)

/-- One more piece. -/
theorem Holds.cons {f : ℕ → Fin 128 → EReal} {L : List (View.Piece (Elt Ideal) S2176x128 .f32)} (h : Holds f L) (k : Fin k0_t1_loop.trips) (w : Vec Ideal S64x128 .f32)
    (hw : ∀ x : S64x128.Idx, w x = f (64 * k.val + (x 0).val) (x 1)) : Holds f ([⟨rectD k, w⟩] ++ L) := by
  intro p hp x
  rcases List.mem_append.mp hp with hp | hp
  · obtain rfl := List.mem_singleton.mp hp
    refine (hw x).trans (congrArg₂ f ?_ (Fin.ext ?_))
    · show _ = k0_off2 k 0 + 1 * (x 0).val
      rw [k0_off2_eq]
      show _ = 64 * k.val + 1 * (x 0).val
      omega
    · show _ = k0_off2 k 1 + 1 * (x 1).val
      rw [k0_off2_eq]
      show _ = 0 + 1 * (x 1).val
      omega
  · exact h p hp x

section
variable (𝒱 : Variants) (c : Dev nD) (bd : Option 𝒱.V) (i : grid0.Coords) (arg1 : Memref sig .tc .vmem S2176x128 .f32) (harg1 : arg1.IsWhole) (arg2 : Memref sig .tc .vmem S2176x128 .f32) (harg2 : arg2.IsWhole) (arg3 : Memref sig .tc .vmem S2176x128 .f32) (harg3 : arg3.IsWhole) (arg4 : Memref sig .tc .vmem S2176x128 .f32) (harg4 : arg4.IsWhole) (arg5 : Memref sig .tc .vmem S31x128 .f32) (harg5 : arg5.IsWhole) (arg6 : Memref sig .tc .vmem S1x128 .f32) (harg6 : arg6.IsWhole) (arg7 : Memref sig .tc .vmem S3x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2208x128 .f32) (harg10 : arg10.IsWhole) (arg11 : Memref sig .tc .vmem S2208x128 .f32) (harg11 : arg11.IsWhole) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (X_arg11 : BufTy.Contents (Elt Ideal) arg11.view.ty)

/-- What a trip writes into the two outputs. -/
theorem trip_pieces (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 X_arg5 X_arg6 X_arg7 X_arg10 X_arg11 k
      = ([⟨rectD k, k0_pay14 (k0_pay13 (k0_pay11 (k0_pay10 (k0_pay8 (k0_pay7 (ldW arg6 X_arg6 0) (ldP arg10 X_arg10 k 0) (ldW arg5 X_arg5 0) (ldP arg10 X_arg10 k 1) (ldW arg5 X_arg5 1) (ldP arg10 X_arg10 k 2) (ldW arg5 X_arg5 2) (ldP arg10 X_arg10 k 3) (ldW arg5 X_arg5 3)) (ldP arg10 X_arg10 k 4) (ldW arg5 X_arg5 4) (ldP arg10 X_arg10 k 5) (ldW arg5 X_arg5 5) (ldP arg10 X_arg10 k 6) (ldW arg5 X_arg5 6) (ldP arg10 X_arg10 k 7) (ldW arg5 X_arg5 7) (ldP arg10 X_arg10 k 8) (ldW arg5 X_arg5 8)) (k0_pay9 (ldP arg10 X_arg10 k 9) (ldW arg5 X_arg5 9)) (ldP arg10 X_arg10 k 10) (ldW arg5 X_arg5 10) (ldP arg10 X_arg10 k 11) (ldW arg5 X_arg5 11) (ldP arg10 X_arg10 k 12) (ldW arg5 X_arg5 12) (ldP arg10 X_arg10 k 13) (ldW arg5 X_arg5 13) (ldP arg10 X_arg10 k 14) (ldW arg5 X_arg5 14)) (ldP arg10 X_arg10 k 15) (ldW arg5 X_arg5 15) (ldP arg10 X_arg10 k 16) (ldW arg5 X_arg5 16) (ldP arg10 X_arg10 k 17) (ldW arg5 X_arg5 17) (ldP arg10 X_arg10 k 18) (ldW arg5 X_arg5 18) (ldP arg10 X_arg10 k 19) (ldW arg5 X_arg5 19)) (ldP arg10 X_arg10 k 20) (k0_pay12 (ldW arg5 X_arg5 20)) (ldP arg10 X_arg10 k 21) (ldW arg5 X_arg5 21) (ldP arg10 X_arg10 k 22) (ldW arg5 X_arg5 22) (ldP arg10 X_arg10 k 23) (ldW arg5 X_arg5 23) (ldP arg10 X_arg10 k 24) (ldW arg5 X_arg5 24) (ldP arg10 X_arg10 k 25) (ldW arg5 X_arg5 25)) (ldP arg10 X_arg10 k 26) (ldW arg5 X_arg5 26) (ldP arg10 X_arg10 k 27) (ldW arg5 X_arg5 27) (ldP arg10 X_arg10 k 28) (ldW arg5 X_arg5 28) (ldP arg10 X_arg10 k 29) (ldW arg5 X_arg5 29) (ldP arg10 X_arg10 k 30) (ldW arg5 X_arg5 30)⟩],
        [⟨rectD k, k0_pay6 k0_pay15 (ldP arg11 X_arg11 k 28) (ldW arg7 X_arg7 0) (ldP arg11 X_arg11 k 29) (ldW arg7 X_arg7 1) (ldP arg11 X_arg11 k 30) (ldW arg7 X_arg7 2)⟩]) := by
  unfold tripL_k0_t1 trip_k0_t1
  dsimp only
  rfl

/-- Before trip `n` both outputs hold their values in every piece written. -/
theorem pb_holds : ∀ n : ℕ, n ≤ 34 →
    Holds (fun r l => ext (arg6.view.read (Elt Ideal) X_arg6) 0 l + cvF (arg5.view.read (Elt Ideal) X_arg5) (arg10.view.read (Elt Ideal) X_arg10) 2 r l) (pb_k0_t1 (F := Ideal) 𝒱 c bd i arg1 harg1 arg2 harg2 arg3 harg3 arg4 harg4 arg5 harg5 arg6 harg6 arg7 harg7 arg8 harg8 arg9 harg9 arg10 harg10 arg11 harg11 X_arg5 X_arg6 X_arg7 X_arg10 X_arg11 n).1
    ∧ Holds (cvF (arg7.view.read (Elt Ideal) X_arg7) (arg11.view.read (Elt Ideal) X_arg11) 30) (pb_k0_t1 (F := Ideal) 𝒱 c bd i arg1 harg1 arg2 harg2 arg3 harg3 arg4 harg4 arg5 harg5 arg6 harg6 arg7 harg7 arg8 harg8 arg9 harg9 arg10 harg10 arg11 harg11 X_arg5 X_arg6 X_arg7 X_arg10 X_arg11 n).2
  | 0, _ => ⟨fun p hp => absurd hp List.not_mem_nil, fun p hp => absurd hp List.not_mem_nil⟩
  | n + 1, hn => by
    obtain ⟨h1, h2⟩ := pb_holds n (Nat.le_of_succ_le hn)
    rw [pb_k0_t1_succ 𝒱 c bd i arg1 harg1 arg2 harg2 arg3 harg3 arg4 harg4 arg5 harg5 arg6 harg6 arg7 harg7 arg8 harg8 arg9 harg9 arg10 harg10 arg11 harg11 X_arg5 X_arg6 X_arg7 X_arg10 X_arg11 (⟨n, hn⟩ : Fin k0_t1_loop.trips), trip_pieces]
    refine ⟨h1.cons ⟨n, hn⟩ _ fun x => ?_, h2.cons ⟨n, hn⟩ _ fun x => ?_⟩
    · refine (long_pay (fun o => ldP arg10 X_arg10 ⟨n, hn⟩ o) (fun j => ldW arg5 X_arg5 j) _ x).trans ?_
      unfold cvF
      rw [Finset.sum_range]
      exact congrArg₂ HAdd.hAdd (ldW_apply arg6 X_arg6 0 (x 1)) (Finset.sum_congr rfl fun j _ => congrArg₂ HMul.hMul (ldP_apply ..) (ldW_apply arg5 X_arg5 j (x 1)))
    · refine (short_pay (fun o => ldP arg11 X_arg11 ⟨n, hn⟩ ⟨28 + o.val, by omega⟩) (fun j => ldW arg7 X_arg7 j) x).trans ?_
      unfold cvF
      rw [Finset.sum_range]
      refine Finset.sum_congr rfl fun j _ => congrArg₂ HMul.hMul ((ldP_apply ..).trans (congrFun (congrArg _ ?_) _)) (ldW_apply arg7 X_arg7 j (x 1))
      show 64 * n + (x 0).val + (28 + j.val + 2) = 64 * n + (x 0).val + (j.val + 30)
      omega
end

/-- The zeros at the head of a padded operand. -/
theorem pay2_apply (y : S32x128.Idx) : k0_pay2 (F := Ideal) y = 0 := by
  unfold k0_pay2 k0_pay1
  pointwise

/-- The gated operand of the long convolution. -/
theorem pay4_apply (a g : Vec Ideal S2176x128 .f32) (y : S2176x128.Idx) : k0_pay4 (F := Ideal) a g y = a y * sg (g y) := by
  unfold k0_pay4 sg
  pointwise

/-- The operand of the short convolution. -/
theorem pay5_apply (a g : Vec Ideal S2176x128 .f32) (y : S2176x128.Idx) : k0_pay5 (F := Ideal) a g y = a y * g y := by
  unfold k0_pay5
  pointwise

/-- A whole block read back is the block. -/
theorem whole_read (A : Memref sig .tc .vmem S2176x128 .f32) (hA : A.IsWhole) (x : Vec Ideal S2176x128 .f32) :
    View.readAt (Elt Ideal) A.view (Rect.unit (s := S2176x128) ![0, 0] S2176x128.size inb_S2176x128_S2176x128_0_0).toLoadRect (hA.unread x) = x := by
  funext y
  refine Eq.trans (b := A.view.read (Elt Ideal) (hA.unread x) y) ?_ (congrFun (hA.read_unread x) y)
  show A.view.read (Elt Ideal) (hA.unread x) _ = _
  congr 1
  funext a
  apply Fin.ext
  match a with
  | ⟨0, _⟩ => show 0 + 1 * (y 0).val = (y 0).val; omega
  | ⟨1, _⟩ => show 0 + 1 * (y 1).val = (y 1).val; omega

variable (c : Dev nD) (i : grid0.Coords) (arg1 : Memref sig .tc .vmem S2176x128 .f32) (harg1 : arg1.IsWhole) (arg2 : Memref sig .tc .vmem S2176x128 .f32) (harg2 : arg2.IsWhole) (arg3 : Memref sig .tc .vmem S2176x128 .f32) (harg3 : arg3.IsWhole) (arg4 : Memref sig .tc .vmem S2176x128 .f32) (harg4 : arg4.IsWhole) (arg5 : Memref sig .tc .vmem S31x128 .f32) (harg5 : arg5.IsWhole) (arg6 : Memref sig .tc .vmem S1x128 .f32) (harg6 : arg6.IsWhole) (arg7 : Memref sig .tc .vmem S3x128 .f32) (harg7 : arg7.IsWhole) (arg8 : Memref sig .tc .vmem S2176x128 .f32) (harg8 : arg8.IsWhole) (arg9 : Memref sig .tc .vmem S2176x128 .f32) (harg9 : arg9.IsWhole) (arg10 : Memref sig .tc .vmem S2208x128 .f32) (harg10 : arg10.IsWhole) (arg11 : Memref sig .tc .vmem S2208x128 .f32) (harg11 : arg11.IsWhole) (x0 : Vec Ideal S2176x128 .f32) (x1 : Vec Ideal S2176x128 .f32) (x2 : Vec Ideal S2176x128 .f32) (x3 : Vec Ideal S2176x128 .f32) (x4 : Vec Ideal S31x128 .f32) (x5 : Vec Ideal S1x128 .f32) (x6 : Vec Ideal S3x128 .f32)

/-- The long convolution's padded operand as the loop reads it. -/
theorem pad0_eq : arg10.view.read (Elt Ideal) (arg10.view.writes (Elt Ideal) arg10.view.junk (kernelRun0_A.sl.HS0_2 c arg1 harg1 arg2 harg2 x0 x1)) = padTop (fun r l => ext x0 r l * sg (ext x1 r l)) := by
  rw [View.read_writes_junk_eq_canon]
  unfold kernelRun0_A.sl.HS0_2
  rw [whole_read arg1 harg1 x0, whole_read arg2 harg2 x1]
  exact canon_top _ _ _ (fun y => (pay4_apply _ _ y).trans (congrArg₂ HMul.hMul (ext_apply x0 y rfl rfl) (congrArg sg (ext_apply x1 y rfl rfl)))) (fun y => pay2_apply y)

/-- The short convolution's padded operand as the loop reads it. -/
theorem pad1_eq : arg11.view.read (Elt Ideal) (arg11.view.writes (Elt Ideal) arg11.view.junk (kernelRun0_A.sl.HS1_2 c arg3 harg3 arg4 harg4 x2 x3)) = padTop (fun r l => ext x2 r l * ext x3 r l) := by
  rw [View.read_writes_junk_eq_canon]
  unfold kernelRun0_A.sl.HS1_2
  rw [whole_read arg3 harg3 x2, whole_read arg4 harg4 x3]
  exact canon_top _ _ _ (fun y => (pay5_apply _ _ y).trans (congrArg₂ HMul.hMul (ext_apply x2 y rfl rfl) (ext_apply x3 y rfl rfl))) (fun y => pay2_apply y)

/-- The long convolution of a block with its bias. -/
def acF (a g : Vec Ideal S2176x128 .f32) (w : Vec Ideal S31x128 .f32) (b : Vec Ideal S1x128 .f32) (r : ℕ) (l : Fin 128) : EReal :=
  ext b 0 l + cvF w (padTop (fun r l => ext a r l * sg (ext g r l))) 2 r l

/-- The short convolution of a block. -/
def c3F (a v : Vec Ideal S2176x128 .f32) (w : Vec Ideal S3x128 .f32) (r : ℕ) (l : Fin 128) : EReal :=
  cvF w (padTop (fun r l => ext a r l * ext v r l)) 30 r l

/-- After the last trip both outputs hold their values in every piece written. -/
theorem last_holds :
    Holds (acF x0 x1 x4 x5) (pb_k0_t1 (F := Ideal) Variants.none c none i arg1 harg1 arg2 harg2 arg3 harg3 arg4 harg4 arg5 harg5 arg6 harg6 arg7 harg7 arg8 harg8 arg9 harg9 arg10 harg10 arg11 harg11 (harg5.unread x4) (harg6.unread x5) (harg7.unread x6) (arg10.view.writes (Elt Ideal) arg10.view.junk (kernelRun0_A.sl.HS0_2 c arg1 harg1 arg2 harg2 x0 x1)) (arg11.view.writes (Elt Ideal) arg11.view.junk (kernelRun0_A.sl.HS1_2 c arg3 harg3 arg4 harg4 x2 x3)) 34).1
    ∧ Holds (c3F x2 x3 x6) (pb_k0_t1 (F := Ideal) Variants.none c none i arg1 harg1 arg2 harg2 arg3 harg3 arg4 harg4 arg5 harg5 arg6 harg6 arg7 harg7 arg8 harg8 arg9 harg9 arg10 harg10 arg11 harg11 (harg5.unread x4) (harg6.unread x5) (harg7.unread x6) (arg10.view.writes (Elt Ideal) arg10.view.junk (kernelRun0_A.sl.HS0_2 c arg1 harg1 arg2 harg2 x0 x1)) (arg11.view.writes (Elt Ideal) arg11.view.junk (kernelRun0_A.sl.HS1_2 c arg3 harg3 arg4 harg4 x2 x3)) 34).2 := by
  have h := pb_holds Variants.none c none i arg1 harg1 arg2 harg2 arg3 harg3 arg4 harg4 arg5 harg5 arg6 harg6 arg7 harg7 arg8 harg8 arg9 harg9 arg10 harg10 arg11 harg11 (harg5.unread x4) (harg6.unread x5) (harg7.unread x6) (arg10.view.writes (Elt Ideal) arg10.view.junk (kernelRun0_A.sl.HS0_2 c arg1 harg1 arg2 harg2 x0 x1)) (arg11.view.writes (Elt Ideal) arg11.view.junk (kernelRun0_A.sl.HS1_2 c arg3 harg3 arg4 harg4 x2 x3)) 34 le_rfl
  rw [harg5.read_unread, harg6.read_unread, harg7.read_unread, pad0_eq c arg1 harg1 arg2 harg2 arg10 x0 x1, pad1_eq c arg3 harg3 arg4 harg4 arg11 x2 x3] at h
  exact h

/-- The long convolution's block, at an index. -/
theorem out7_apply (y : S2176x128.Idx) : out0_A_7 c i arg1 harg1 arg2 harg2 arg3 harg3 arg4 harg4 arg5 harg5 arg6 harg6 arg7 harg7 arg8 harg8 arg9 harg9 arg10 harg10 arg11 harg11 x0 x1 x2 x3 x4 x5 x6 y = arr (acF x0 x1 x4 x5) y := by
  unfold out0_A_7
  rw [View.read_writes_junk_eq_canon]
  exact View.canon_apply_of_pieces (Val := Elt Ideal) (e := .f32) (arr (acF x0 x1 x4 x5)) _ (last_holds ..).1 y (cover0_A_7 ..)

/-- The short convolution's block, at an index. -/
theorem out8_apply (y : S2176x128.Idx) : out0_A_8 c i arg1 harg1 arg2 harg2 arg3 harg3 arg4 harg4 arg5 harg5 arg6 harg6 arg7 harg7 arg8 harg8 arg9 harg9 arg10 harg10 arg11 harg11 x0 x1 x2 x3 x4 x5 x6 y = arr (c3F x2 x3 x6) y := by
  unfold out0_A_8
  rw [View.read_writes_junk_eq_canon]
  exact View.canon_apply_of_pieces (Val := Elt Ideal) (e := .f32) (arr (c3F x2 x3 x6)) _ (last_holds ..).2 y (cover0_A_8 ..)

end Cert.ConvFwdIdeal.Gen
-- ==== Proof.ConvFwdEq.lean ====
/- The forward convolutions against their reference: the two runs leave the same two arrays. -/
module

public import proofs.«01_k».proof.Defs
public import proofs.«01_k».proof.Proof.ConvFwdOut
public import proofs.«01_k».proof.Proof.ConvRef
public import proofs.«01_k».proof.Proof.Gen.ConvFwdIdeal.Value
public import proofs.«01_k».proof.Proof.Gen.ConvFwdReferenceIdeal.Run
public import proofs.«01_k».proof.Proof.Gen.ConvFwdReferenceIdeal.Read

@[expose] public section

set_option maxRecDepth 16384

noncomputable section

namespace Cert.ConvFwdIdeal.Value

open Cert.ConvFwdIdeal Cert.ConvFwdIdeal.Gen Idealize.ShloMosaic Idealize.ShloMosaic.TcCoe Idealize.SL.Sem
open Cert.KernelIdeal.Gen (ext padTop sg arr)
open Cert.KernelIdeal.Value (ex ext_ex col pAv pAg pCg pV ext_padTop)

/-- The long convolution with its bias. -/
def hAc (P : (⟨2, ![2176, 9216]⟩ : Shape).Idx → EReal) (W : (⟨2, ![31, 1024]⟩ : Shape).Idx → EReal) (B : (⟨2, ![1, 1024]⟩ : Shape).Idx → EReal) (i : S2176x1024.Idx) : EReal :=
  ex B 0 (i 1) + ∑ j ∈ Finset.range 31, (if (i 0).val + (j + 2) < 32 then 0 else pAv P ((i 0).val + (j + 2) - 32) (i 1) * sg (pAg P ((i 0).val + (j + 2) - 32) (i 1))) * ex W j (i 1)

/-- The short convolution. -/
def hC3 (P : (⟨2, ![2176, 9216]⟩ : Shape).Idx → EReal) (W : (⟨2, ![3, 1024]⟩ : Shape).Idx → EReal) (i : S2176x1024.Idx) : EReal :=
  ∑ j ∈ Finset.range 3, (if (i 0).val + (j + 30) < 32 then 0 else pCg P ((i 0).val + (j + 30) - 32) (i 1) * pV P ((i 0).val + (j + 30) - 32) (i 1)) * ex W j (i 1)

variable (m : (ℓ : Loc nD τ sig) → Buf (Elt Ideal) ℓ) (ρ : Dev nD → PrngReg)

/-- The printed index maps, decided over the grid: point `t` takes the `t`-th block of columns of every operand and result. -/
theorem maps : ∀ t : Fin cfg0.N, (win0_0.index t (0 : Fin 2) = 0 ∧ win0_0.index t (1 : Fin 2) = 0 + win0_7.index t (1 : Fin 2))
    ∧ (win0_1.index t (0 : Fin 2) = 0 ∧ win0_1.index t (1 : Fin 2) = 8 + win0_7.index t (1 : Fin 2))
    ∧ (win0_2.index t (0 : Fin 2) = 0 ∧ win0_2.index t (1 : Fin 2) = 24 + win0_7.index t (1 : Fin 2))
    ∧ (win0_3.index t (0 : Fin 2) = 0 ∧ win0_3.index t (1 : Fin 2) = 32 + win0_7.index t (1 : Fin 2))
    ∧ (win0_4.index t (0 : Fin 2) = 0 ∧ win0_4.index t (1 : Fin 2) = 0 + win0_7.index t (1 : Fin 2))
    ∧ (win0_5.index t (0 : Fin 2) = 0 ∧ win0_5.index t (1 : Fin 2) = 0 + win0_7.index t (1 : Fin 2))
    ∧ (win0_6.index t (0 : Fin 2) = 0 ∧ win0_6.index t (1 : Fin 2) = 0 + win0_7.index t (1 : Fin 2))
    ∧ (win0_7.index t (0 : Fin 2) = 0 ∧ win0_7.index t (1 : Fin 2) = 0 + win0_7.index t (1 : Fin 2))
    ∧ (win0_8.index t (0 : Fin 2) = 0 ∧ win0_8.index t (1 : Fin 2) = 0 + win0_7.index t (1 : Fin 2))
    ∧ win0_7.index t (1 : Fin 2) ≤ 7 :=
  (by decide +kernel : ∀ t : Fin grid0.N, _)

/-- Every block of columns is some point's, and that point writes both results back. -/
theorem onto : ∀ q : Fin 8, ∃ t : Fin cfg0.N, (cfg0.win 7).flush t = true ∧ (cfg0.win 8).flush t = true ∧ win0_7.index t (1 : Fin 2) = q.val :=
  (by decide +kernel : ∀ q : Fin 8, ∃ t : Fin grid0.N, win0_7.flush t = true ∧ win0_8.flush t = true ∧ win0_7.index t (1 : Fin 2) = q.val)

/-- The column of the arrays a point's lane stands for. -/
def lane (t : Fin cfg0.N) (l : Fin 128) : Fin 1024 := ⟨win0_7.index t (1 : Fin 2) * 128 + l.val, by
  obtain ⟨-, -, -, -, -, -, -, -, -, h⟩ := maps t
  have hl := l.isLt
  omega⟩

/-- The first factor at a point, read at a row and a lane. -/
theorem blk0 (c : Dev nD) (t : Fin cfg0.N) (r : ℕ) (l : Fin 128) : ext (n := 2176) (iblk m c 0 t) r l = pAv (m ((c : Thread nD τ).loc main_arg0)) r (lane t l) := by
  obtain ⟨⟨e0, e1⟩, -⟩ := maps t
  exact ext_ex (n := 2176) (V m c main_arg0) ((cfg0.win 0).blk t).view.emb _ l r (fun y => by show win0_0.index t (0 : Fin 2) * 2176 + 1 * (y 0).val = _; omega)
    (fun y hy => by subst hy; show win0_0.index t (1 : Fin 2) * 128 + 1 * (y 1).val = 0 + (win0_7.index t (1 : Fin 2) * 128 + (y 1).val); omega)

/-- The gate at a point, read at a row and a lane. -/
theorem blk1 (c : Dev nD) (t : Fin cfg0.N) (r : ℕ) (l : Fin 128) : ext (n := 2176) (iblk m c 1 t) r l = pAg (m ((c : Thread nD τ).loc main_arg0)) r (lane t l) := by
  obtain ⟨-, ⟨e0, e1⟩, -⟩ := maps t
  exact ext_ex (n := 2176) (V m c main_arg0) ((cfg0.win 1).blk t).view.emb _ l r (fun y => by show win0_1.index t (0 : Fin 2) * 2176 + 1 * (y 0).val = _; omega)
    (fun y hy => by subst hy; show win0_1.index t (1 : Fin 2) * 128 + 1 * (y 1).val = 1024 + (win0_7.index t (1 : Fin 2) * 128 + (y 1).val); omega)

/-- The short branch's first factor at a point, read at a row and a lane. -/
theorem blk2 (c : Dev nD) (t : Fin cfg0.N) (r : ℕ) (l : Fin 128) : ext (n := 2176) (iblk m c 2 t) r l = pCg (m ((c : Thread nD τ).loc main_arg0)) r (lane t l) := by
  obtain ⟨-, -, ⟨e0, e1⟩, -⟩ := maps t
  exact ext_ex (n := 2176) (V m c main_arg0) ((cfg0.win 2).blk t).view.emb _ l r (fun y => by show win0_2.index t (0 : Fin 2) * 2176 + 1 * (y 0).val = _; omega)
    (fun y hy => by subst hy; show win0_2.index t (1 : Fin 2) * 128 + 1 * (y 1).val = 3072 + (win0_7.index t (1 : Fin 2) * 128 + (y 1).val); omega)

/-- The short branch's second factor at a point, read at a row and a lane. -/
theorem blk3 (c : Dev nD) (t : Fin cfg0.N) (r : ℕ) (l : Fin 128) : ext (n := 2176) (iblk m c 3 t) r l = pV (m ((c : Thread nD τ).loc main_arg0)) r (lane t l) := by
  obtain ⟨-, -, -, ⟨e0, e1⟩, -⟩ := maps t
  exact ext_ex (n := 2176) (V m c main_arg0) ((cfg0.win 3).blk t).view.emb _ l r (fun y => by show win0_3.index t (0 : Fin 2) * 2176 + 1 * (y 0).val = _; omega)
    (fun y hy => by subst hy; show win0_3.index t (1 : Fin 2) * 128 + 1 * (y 1).val = 4096 + (win0_7.index t (1 : Fin 2) * 128 + (y 1).val); omega)

/-- The long convolution's weights at a point, read at a row and a lane. -/
theorem blk4 (c : Dev nD) (t : Fin cfg0.N) (r : ℕ) (l : Fin 128) : ext (n := 31) (iblk m c 4 t) r l = ex (m ((c : Thread nD τ).loc main_arg1)) r (lane t l) := by
  obtain ⟨-, -, -, -, ⟨e0, e1⟩, -⟩ := maps t
  exact ext_ex (n := 31) (V m c main_arg1) ((cfg0.win 4).blk t).view.emb _ l r (fun y => by show win0_4.index t (0 : Fin 2) * 31 + 1 * (y 0).val = _; omega)
    (fun y hy => by subst hy; show win0_4.index t (1 : Fin 2) * 128 + 1 * (y 1).val = win0_7.index t (1 : Fin 2) * 128 + (y 1).val; omega)

/-- The bias at a point, read at a row and a lane. -/
theorem blk5 (c : Dev nD) (t : Fin cfg0.N) (r : ℕ) (l : Fin 128) : ext (n := 1) (iblk m c 5 t) r l = ex (m ((c : Thread nD τ).loc main_arg2)) r (lane t l) := by
  obtain ⟨-, -, -, -, -, ⟨e0, e1⟩, -⟩ := maps t
  exact ext_ex (n := 1) (V m c main_arg2) ((cfg0.win 5).blk t).view.emb _ l r (fun y => by show win0_5.index t (0 : Fin 2) * 1 + 1 * (y 0).val = _; omega)
    (fun y hy => by subst hy; show win0_5.index t (1 : Fin 2) * 128 + 1 * (y 1).val = win0_7.index t (1 : Fin 2) * 128 + (y 1).val; omega)

/-- The short convolution's weights at a point, read at a row and a lane. -/
theorem blk6 (c : Dev nD) (t : Fin cfg0.N) (r : ℕ) (l : Fin 128) : ext (n := 3) (iblk m c 6 t) r l = ex (m ((c : Thread nD τ).loc main_arg3)) r (lane t l) := by
  obtain ⟨-, -, -, -, -, -, ⟨e0, e1⟩, -⟩ := maps t
  exact ext_ex (n := 3) (V m c main_arg3) ((cfg0.win 6).blk t).view.emb _ l r (fun y => by show win0_6.index t (0 : Fin 2) * 3 + 1 * (y 0).val = _; omega)
    (fun y hy => by subst hy; show win0_6.index t (1 : Fin 2) * 128 + 1 * (y 1).val = win0_7.index t (1 : Fin 2) * 128 + (y 1).val; omega)

/-- The long convolution of a point's blocks, at an index of the array. -/
theorem ac_blk (c : Dev nD) (t : Fin cfg0.N) (r : ℕ) (l : Fin 128) (i : S2176x1024.Idx) (h0 : (i 0).val = r) (h1 : i 1 = lane t l) :
    acF (iblk m c 0 t) (iblk m c 1 t) (iblk m c 4 t) (iblk m c 5 t) r l = hAc (m ((c : Thread nD τ).loc main_arg0)) (m ((c : Thread nD τ).loc main_arg1)) (m ((c : Thread nD τ).loc main_arg2)) i := by
  have hr : (i 0).val < 2176 := (i 0).isLt
  unfold acF cvF hAc
  rw [blk5, h0, h1]
  refine congrArg (ex _ 0 _ + ·) (Finset.sum_congr rfl fun j hj => ?_)
  have := Finset.mem_range.mp hj
  rw [ext_padTop _ _ _ (by omega), blk0, blk1, blk4]

/-- The short convolution of a point's blocks, at an index of the array. -/
theorem c3_blk (c : Dev nD) (t : Fin cfg0.N) (r : ℕ) (l : Fin 128) (i : S2176x1024.Idx) (h0 : (i 0).val = r) (h1 : i 1 = lane t l) :
    c3F (iblk m c 2 t) (iblk m c 3 t) (iblk m c 6 t) r l = hC3 (m ((c : Thread nD τ).loc main_arg0)) (m ((c : Thread nD τ).loc main_arg3)) i := by
  have hr : (i 0).val < 2176 := (i 0).isLt
  unfold c3F cvF hC3
  rw [h0, h1]
  refine Finset.sum_congr rfl fun j hj => ?_
  have := Finset.mem_range.mp hj
  rw [ext_padTop _ _ _ (by omega), blk2, blk3, blk6]

/-- The long convolution's array after the run. -/
theorem final7 (c : Dev nD) : (dats m 0 c).arrAt 7 cfg0.N = (hAc (m ((c : Thread nD τ).loc main_arg0)) (m ((c : Thread nD τ).loc main_arg1)) (m ((c : Thread nD τ).loc main_arg2))) := by
  refine (dats m 0 c).arrAt_eq_of_cover 7 _ (fun t _ => ?_) (fun (i : S2176x1024.Idx) => ?_)
  · rw [flushed7_A]
    obtain ⟨-, -, -, -, -, -, -, ⟨e0, e1⟩, -⟩ := maps t
    funext y
    refine (out7_apply (y := y) ..).trans (ac_blk m c t _ _ _ ?_ (Fin.ext ?_))
    · show win0_7.index t (0 : Fin 2) * 2176 + 1 * (y 0).val = (y 0).val
      omega
    · show win0_7.index t (1 : Fin 2) * 128 + 1 * (y 1).val = win0_7.index t (1 : Fin 2) * 128 + (y 1).val
      omega
  · have hi0 : (i 0).val < 2176 := (i 0).isLt
    have hi1 : (i 1).val < 1024 := (i 1).isLt
    obtain ⟨t, hf, -, ht⟩ := onto ⟨(i 1).val / 128, by omega⟩
    obtain ⟨-, -, -, -, -, -, -, ⟨e0, e1⟩, -⟩ := maps t
    have ht' : win0_7.index t (1 : Fin 2) = (i 1).val / 128 := ht
    refine ⟨t, hf, ?_⟩
    show i ∈ ((View.whole main_v0_0).slice (win0_7.rect t)).set
    rw [View.set_slice_whole, Rect.mem_set_unit]
    intro a
    match a with
    | ⟨0, _⟩ => show win0_7.index t (0 : Fin 2) * 2176 ≤ (i 0).val ∧ (i 0).val < win0_7.index t (0 : Fin 2) * 2176 + 2176; omega
    | ⟨1, _⟩ => show win0_7.index t (1 : Fin 2) * 128 ≤ (i 1).val ∧ (i 1).val < win0_7.index t (1 : Fin 2) * 128 + 128; omega

/-- The short convolution's array after the run. -/
theorem final8 (c : Dev nD) : (dats m 0 c).arrAt 8 cfg0.N = (hC3 (m ((c : Thread nD τ).loc main_arg0)) (m ((c : Thread nD τ).loc main_arg3))) := by
  refine (dats m 0 c).arrAt_eq_of_cover 8 _ (fun t _ => ?_) (fun (i : S2176x1024.Idx) => ?_)
  · rw [flushed8_A]
    obtain ⟨-, -, -, -, -, -, -, -, ⟨e0, e1⟩, -⟩ := maps t
    funext y
    refine (out8_apply (y := y) ..).trans (c3_blk m c t _ _ _ ?_ (Fin.ext ?_))
    · show win0_8.index t (0 : Fin 2) * 2176 + 1 * (y 0).val = (y 0).val
      omega
    · show win0_8.index t (1 : Fin 2) * 128 + 1 * (y 1).val = win0_7.index t (1 : Fin 2) * 128 + (y 1).val
      omega
  · have hi0 : (i 0).val < 2176 := (i 0).isLt
    have hi1 : (i 1).val < 1024 := (i 1).isLt
    obtain ⟨t, -, hf, ht⟩ := onto ⟨(i 1).val / 128, by omega⟩
    obtain ⟨-, -, -, -, -, -, -, -, ⟨e0, e1⟩, -⟩ := maps t
    have ht' : win0_7.index t (1 : Fin 2) = (i 1).val / 128 := ht
    refine ⟨t, hf, ?_⟩
    show i ∈ ((View.whole main_v0_1).slice (win0_8.rect t)).set
    rw [View.set_slice_whole, Rect.mem_set_unit]
    intro a
    match a with
    | ⟨0, _⟩ => show win0_8.index t (0 : Fin 2) * 2176 ≤ (i 0).val ∧ (i 0).val < win0_8.index t (0 : Fin 2) * 2176 + 2176; omega
    | ⟨1, _⟩ => show win0_8.index t (1 : Fin 2) * 128 ≤ (i 1).val ∧ (i 1).val < win0_8.index t (1 : Fin 2) * 128 + 128; omega

end Cert.ConvFwdIdeal.Value

namespace Cert.ConvFwdReferenceIdeal.Read

open Cert.ConvFwdReferenceIdeal Cert.ConvFwdReferenceIdeal.Gen Idealize.ShloMosaic Idealize.ShloMosaic.TcCoe
open Idealize.ShloMosaic.ValueIdx hiding ix2
open Cert.KernelIdeal.Value (ex)
open Cert.ConvFwdIdeal.Value (hAc hC3)
open Cert.ReferenceIdeal.Read (ex_at rows wrow addFirst addStep catA catC)

/-- One tap: the rows `k` further on, times the tap's weights. -/
theorem tap {N n : ℕ} (k : ℕ) (hk : k < n) (X : (⟨2, ![N, 1024]⟩ : Shape).Idx → EReal) (W : (⟨2, ![n, 1024]⟩ : Shape).Idx → EReal)
    (hx : Shape.Slices (⟨2, ![N, 1024]⟩ : Shape) ![k, 0] S2176x1024) (hw : Shape.Slices (⟨2, ![n, 1024]⟩ : Shape) ![k, 0] S1x1024) (hb : S1x1024.BroadcastsInDim S2176x1024 ![0, 1]) (i : S2176x1024.Idx) :
    mulf (F := Ideal) (φ := .f32) (extractStridedSlice S2176x1024 ![k, 0] X hx) (broadcastInDim S2176x1024 ![0, 1] hb (extractStridedSlice S1x1024 ![k, 0] W hw)) i
      = ex X (k + (i 0).val) (i 1) * ex W k (i 1) :=
  congrArg₂ HMul.hMul (rows k X hx i) (wrow k hk W hw hb i)

/-- The long convolution before its bias: the taps' sum. -/
theorem long_sum (x0 : (⟨S2176x9216, .f32⟩ : BufTy).Contents (Elt Ideal)) (x1 : (⟨S31x1024, .f32⟩ : BufTy).Contents (Elt Ideal)) (i : S2176x1024.Idx) :
    val_main_v166 (F := Ideal) x0 x1 i = ∑ j ∈ Finset.range 31, ex (val_main_v12 (F := Ideal) x0) (j + (i 0).val) (i 1) * ex x1 j (i 1) :=
  addStep _ 30 (addStep _ 29 (addStep _ 28 (addStep _ 27 (addStep _ 26 (addStep _ 25 (addStep _ 24 (addStep _ 23 (addStep _ 22 (addStep _ 21 (addStep _ 20 (addStep _ 19 (addStep _ 18 (addStep _ 17 (addStep _ 16 (addStep _ 15 (addStep _ 14 (addStep _ 13 (addStep _ 12 (addStep _ 11 (addStep _ 10 (addStep _ 9 (addStep _ 8 (addStep _ 7 (addStep _ 6 (addStep _ 5 (addStep _ 4 (addStep _ 3 (addStep _ 2 (addStep _ 1 (addFirst _ (tap (n := 31) 0 (by omega) _ _ _ _ _ i)) (tap (n := 31) 1 (by omega) _ _ _ _ _ i)) (tap (n := 31) 2 (by omega) _ _ _ _ _ i)) (tap (n := 31) 3 (by omega) _ _ _ _ _ i)) (tap (n := 31) 4 (by omega) _ _ _ _ _ i)) (tap (n := 31) 5 (by omega) _ _ _ _ _ i)) (tap (n := 31) 6 (by omega) _ _ _ _ _ i)) (tap (n := 31) 7 (by omega) _ _ _ _ _ i)) (tap (n := 31) 8 (by omega) _ _ _ _ _ i)) (tap (n := 31) 9 (by omega) _ _ _ _ _ i)) (tap (n := 31) 10 (by omega) _ _ _ _ _ i)) (tap (n := 31) 11 (by omega) _ _ _ _ _ i)) (tap (n := 31) 12 (by omega) _ _ _ _ _ i)) (tap (n := 31) 13 (by omega) _ _ _ _ _ i)) (tap (n := 31) 14 (by omega) _ _ _ _ _ i)) (tap (n := 31) 15 (by omega) _ _ _ _ _ i)) (tap (n := 31) 16 (by omega) _ _ _ _ _ i)) (tap (n := 31) 17 (by omega) _ _ _ _ _ i)) (tap (n := 31) 18 (by omega) _ _ _ _ _ i)) (tap (n := 31) 19 (by omega) _ _ _ _ _ i)) (tap (n := 31) 20 (by omega) _ _ _ _ _ i)) (tap (n := 31) 21 (by omega) _ _ _ _ _ i)) (tap (n := 31) 22 (by omega) _ _ _ _ _ i)) (tap (n := 31) 23 (by omega) _ _ _ _ _ i)) (tap (n := 31) 24 (by omega) _ _ _ _ _ i)) (tap (n := 31) 25 (by omega) _ _ _ _ _ i)) (tap (n := 31) 26 (by omega) _ _ _ _ _ i)) (tap (n := 31) 27 (by omega) _ _ _ _ _ i)) (tap (n := 31) 28 (by omega) _ _ _ _ _ i)) (tap (n := 31) 29 (by omega) _ _ _ _ _ i)) (tap (n := 31) 30 (by omega) _ _ _ _ _ i)

/-- The short convolution: the taps' sum. -/
theorem short_sum (x0 : (⟨S2176x9216, .f32⟩ : BufTy).Contents (Elt Ideal)) (x3 : (⟨S3x1024, .f32⟩ : BufTy).Contents (Elt Ideal)) (i : S2176x1024.Idx) :
    val_main_v183 (F := Ideal) x0 x3 i = ∑ j ∈ Finset.range 3, ex (val_main_v169 (F := Ideal) x0) (j + (i 0).val) (i 1) * ex x3 j (i 1) :=
  addStep _ 2 (addStep _ 1 (addFirst _ (tap (n := 3) 0 (by omega) _ _ _ _ _ i)) (tap (n := 3) 1 (by omega) _ _ _ _ _ i)) (tap (n := 3) 2 (by omega) _ _ _ _ _ i)

/-- The reference's long convolution. -/
theorem rAc (x0 : (⟨S2176x9216, .f32⟩ : BufTy).Contents (Elt Ideal)) (x1 : (⟨S31x1024, .f32⟩ : BufTy).Contents (Elt Ideal)) (x2 : (⟨S1x1024, .f32⟩ : BufTy).Contents (Elt Ideal)) : val_main_v185 (F := Ideal) x0 x1 x2 = hAc x0 x1 x2 := by
  funext i
  rw [val_main_v185_apply, long_sum, val_main_v184_apply, ex_at x2 0 (i 1) _ rfl rfl]
  refine (add_comm _ _).trans (congrArg (ex x2 0 (i 1) + ·) (Finset.sum_congr rfl fun j hj => ?_))
  exact congrArg (· * ex x1 j (i 1)) (catA x0 j _ _ (i 0).isLt (by have := Finset.mem_range.mp hj; omega))

/-- The reference's short convolution. -/
theorem rC3 (x0 : (⟨S2176x9216, .f32⟩ : BufTy).Contents (Elt Ideal)) (x3 : (⟨S3x1024, .f32⟩ : BufTy).Contents (Elt Ideal)) : val_main_v183 (F := Ideal) x0 x3 = hC3 x0 x3 := by
  funext i
  rw [short_sum]
  refine Finset.sum_congr rfl fun j hj => ?_
  exact congrArg (· * ex x3 j (i 1)) (catC x0 j _ _ (i 0).isLt (by have := Finset.mem_range.mp hj; omega))

end Cert.ConvFwdReferenceIdeal.Read

namespace Cert.ConvFwdEq

open Idealize.ShloMosaic Idealize.ShloMosaic.TcCoe Idealize.SL.Sem

/-- The kernel of the forward convolutions and its reference leave equal results and keep their arguments. -/
theorem algebraic : Cert.algebraic_ConvFwdIdeal_ConvFwdReferenceIdeal := by
  intro m g m' g' _ hagree
  refine ⟨fun c => Cert.ConvFwdIdeal.Value.hAc (m ((c : Thread Cert.ConvFwdIdeal.nD Cert.ConvFwdIdeal.τ).loc Cert.ConvFwdIdeal.main_arg0)) (m ((c : Thread Cert.ConvFwdIdeal.nD Cert.ConvFwdIdeal.τ).loc Cert.ConvFwdIdeal.main_arg1)) (m ((c : Thread Cert.ConvFwdIdeal.nD Cert.ConvFwdIdeal.τ).loc Cert.ConvFwdIdeal.main_arg2)),
    fun c => Cert.ConvFwdIdeal.Value.hC3 (m ((c : Thread Cert.ConvFwdIdeal.nD Cert.ConvFwdIdeal.τ).loc Cert.ConvFwdIdeal.main_arg0)) (m ((c : Thread Cert.ConvFwdIdeal.nD Cert.ConvFwdIdeal.τ).loc Cert.ConvFwdIdeal.main_arg3)),
    (θ_run Cert.ConvFwdIdeal.defs _ _).mono (fun r h c => ?_) (Cert.ConvFwdIdeal.Value.run_blocks m g),
    (θ_run Cert.ConvFwdReferenceIdeal.defs _ _).mono (fun r h c => ?_) (Cert.ConvFwdReferenceIdeal.Value.run m' g')⟩
  · obtain ⟨h0, h1, k⟩ := h c
    exact ⟨h0.trans (Cert.ConvFwdIdeal.Value.final7 m c), h1.trans (Cert.ConvFwdIdeal.Value.final8 m c), k⟩
  · obtain ⟨h0, h1, k⟩ := h c
    obtain ⟨a0, a1, a2, a3⟩ := hagree c
    refine ⟨(h0.trans (Cert.ConvFwdReferenceIdeal.Read.val_main_v185_eq _)).trans ((Cert.ConvFwdReferenceIdeal.Read.rAc _ _ _).trans ?_), (h1.trans (Cert.ConvFwdReferenceIdeal.Read.val_main_v183_eq _)).trans ((Cert.ConvFwdReferenceIdeal.Read.rC3 _ _).trans ?_), k⟩
    · exact congr (congr (congrArg _ a0) a1) a2
    · exact congr (congrArg _ a0) a3

end Cert.ConvFwdEq
-- ==== Proof.lean ====
module

public import proofs.«01_k».proof.Defs
public import proofs.«01_k».proof.Proof.Gen.ConvFwd.Frame
public import proofs.«01_k».proof.Proof.Gen.ConvFwdIdeal.Frame
public import proofs.«01_k».proof.Proof.Gen.BranchBwd.Frame
public import proofs.«01_k».proof.Proof.Gen.BranchBwdIdeal.Frame
public import proofs.«01_k».proof.Proof.Gen.Kernel.Frame
public import proofs.«01_k».proof.Proof.Gen.KernelIdeal.Frame
public import proofs.«01_k».proof.Proof.Gen.GwIn.Frame
public import proofs.«01_k».proof.Proof.Gen.GwInIdeal.Frame
public import proofs.«01_k».proof.Proof.Gen.DN.Frame
public import proofs.«01_k».proof.Proof.Gen.DNIdeal.Frame
public import proofs.«01_k».proof.Proof.Gen.GwUp.Frame
public import proofs.«01_k».proof.Proof.Gen.GwUpIdeal.Frame
public import proofs.«01_k».proof.Proof.Gen.GwDown.Frame
public import proofs.«01_k».proof.Proof.Gen.GwDownIdeal.Frame
public import proofs.«01_k».proof.Proof.Gen.DUp.Frame
public import proofs.«01_k».proof.Proof.Gen.DUpIdeal.Frame
public import proofs.«01_k».proof.Proof.Gen.DNTwo.Frame
public import proofs.«01_k».proof.Proof.Gen.DNTwoIdeal.Frame
public import proofs.«01_k».proof.Proof.Gen.DM.Frame
public import proofs.«01_k».proof.Proof.Gen.DMIdeal.Frame
public import proofs.«01_k».proof.Proof.Gen.GwO.Frame
public import proofs.«01_k».proof.Proof.Gen.GwOIdeal.Frame
public import proofs.«01_k».proof.Proof.Gen.DAct.Frame
public import proofs.«01_k».proof.Proof.Gen.DActIdeal.Frame
public import proofs.«01_k».proof.Proof.Gen.GwPw.Frame
public import proofs.«01_k».proof.Proof.Gen.GwPwIdeal.Frame
public import proofs.«01_k».proof.Proof.Gen.Proj.Frame
public import proofs.«01_k».proof.Proof.Gen.ProjIdeal.Frame
public import proofs.«01_k».proof.Proof.Gen.YA.Frame
public import proofs.«01_k».proof.Proof.Gen.YAIdeal.Frame
public import proofs.«01_k».proof.Proof.Gen.Mix.Frame
public import proofs.«01_k».proof.Proof.Gen.MixIdeal.Frame
public import proofs.«01_k».proof.Proof.Gen.Up.Frame
public import proofs.«01_k».proof.Proof.Gen.UpIdeal.Frame
public import proofs.«01_k».proof.Proof.Gen.Down.Frame
public import proofs.«01_k».proof.Proof.Gen.DownIdeal.Frame
public import proofs.«01_k».proof.Proof.Gen.GateBwd.Frame
public import proofs.«01_k».proof.Proof.Gen.GateBwdIdeal.Frame
public import proofs.«01_k».proof.Proof.Gen.Gate.Frame
public import proofs.«01_k».proof.Proof.Gen.GateIdeal.Frame
public import proofs.«01_k».proof.Proof.Gen.NormIn.Frame
public import proofs.«01_k».proof.Proof.Gen.NormInIdeal.Frame
public import proofs.«01_k».proof.Proof.Gen.PostMix.Frame
public import proofs.«01_k».proof.Proof.Gen.PostMixIdeal.Frame
public import proofs.«01_k».proof.Proof.Gen.BranchAct.Frame
public import proofs.«01_k».proof.Proof.Gen.BranchActIdeal.Frame
public import proofs.«01_k».proof.Proof.Gen.BwdMid.Frame
public import proofs.«01_k».proof.Proof.Gen.BwdMidIdeal.Frame
public import proofs.«01_k».proof.Proof.Gen.BwdIn.Frame
public import proofs.«01_k».proof.Proof.Gen.BwdInIdeal.Frame
public import Idealize.ShloMosaic.Adequacy
public import Idealize.ShloMosaic.Init
public import proofs.«01_k».proof.Proof.ConvEq
public import proofs.«01_k».proof.Proof.GwInEq
public import proofs.«01_k».proof.Proof.DNEq
public import proofs.«01_k».proof.Proof.GwUpEq
public import proofs.«01_k».proof.Proof.GwDownEq
public import proofs.«01_k».proof.Proof.DUpEq
public import proofs.«01_k».proof.Proof.DNTwoEq
public import proofs.«01_k».proof.Proof.DMEq
public import proofs.«01_k».proof.Proof.GwOEq
public import proofs.«01_k».proof.Proof.DActEq
public import proofs.«01_k».proof.Proof.GwPwEq
public import proofs.«01_k».proof.Proof.ProjEq
public import proofs.«01_k».proof.Proof.YAEq
public import proofs.«01_k».proof.Proof.MixEq
public import proofs.«01_k».proof.Proof.UpEq
public import proofs.«01_k».proof.Proof.DownEq
public import proofs.«01_k».proof.Proof.GateBwdEq
public import proofs.«01_k».proof.Proof.GateEq
public import proofs.«01_k».proof.Proof.NormInEq
public import proofs.«01_k».proof.Proof.PostMixEq
public import proofs.«01_k».proof.Proof.BranchActEq
public import proofs.«01_k».proof.Proof.BwdMidEq
public import proofs.«01_k».proof.Proof.BwdInEq
public import proofs.«01_k».proof.Proof.BranchBwdEq
public import proofs.«01_k».proof.Proof.ConvFwdEq

@[expose] public section

set_option maxRecDepth 16384

noncomputable section

namespace Cert.Proof

open Idealize.ShloMosaic Idealize.SL.Sem

/-- The reference `ReferenceIdeal` keeps its arguments: its run, read at them; it declares no semaphore. -/
theorem frame_ReferenceIdeal : Cert.quiescent_ReferenceIdeal := fun m ρ _ =>
  (θ_run Cert.ReferenceIdeal.defs _ _).mono (fun r h => ⟨fun c => (h c).2.2.2.2.2.2, sem_eq_zero_of_no_sems (by decide) r.2⟩) (Cert.ReferenceIdeal.Value.run (F := Ideal) m ρ)

/-- The reference `GwInReferenceIdeal` keeps its arguments: its run, read at them; it declares no semaphore. -/
theorem frame_GwInReferenceIdeal : Cert.quiescent_GwInReferenceIdeal := fun m ρ _ =>
  (θ_run Cert.GwInReferenceIdeal.defs _ _).mono (fun r h => ⟨fun c => (h c).2.2, sem_eq_zero_of_no_sems (by decide) r.2⟩) (Cert.GwInReferenceIdeal.Value.run (F := Ideal) m ρ)

/-- The reference `DNReferenceIdeal` keeps its arguments: its run, read at them; it declares no semaphore. -/
theorem frame_DNReferenceIdeal : Cert.quiescent_DNReferenceIdeal := fun m ρ _ =>
  (θ_run Cert.DNReferenceIdeal.defs _ _).mono (fun r h => ⟨fun c => (h c).2, sem_eq_zero_of_no_sems (by decide) r.2⟩) (Cert.DNReferenceIdeal.Value.run (F := Ideal) m ρ)

/-- The reference `GwUpReferenceIdeal` keeps its arguments: its run, read at them; it declares no semaphore. -/
theorem frame_GwUpReferenceIdeal : Cert.quiescent_GwUpReferenceIdeal := fun m ρ _ =>
  (θ_run Cert.GwUpReferenceIdeal.defs _ _).mono (fun r h => ⟨fun c => (h c).2.2, sem_eq_zero_of_no_sems (by decide) r.2⟩) (Cert.GwUpReferenceIdeal.Value.run (F := Ideal) m ρ)

/-- The reference `GwDownReferenceIdeal` keeps its arguments: its run, read at them; it declares no semaphore. -/
theorem frame_GwDownReferenceIdeal : Cert.quiescent_GwDownReferenceIdeal := fun m ρ _ =>
  (θ_run Cert.GwDownReferenceIdeal.defs _ _).mono (fun r h => ⟨fun c => (h c).2.2, sem_eq_zero_of_no_sems (by decide) r.2⟩) (Cert.GwDownReferenceIdeal.Value.run (F := Ideal) m ρ)

/-- The reference `DUpReferenceIdeal` keeps its arguments: its run, read at them; it declares no semaphore. -/
theorem frame_DUpReferenceIdeal : Cert.quiescent_DUpReferenceIdeal := fun m ρ _ =>
  (θ_run Cert.DUpReferenceIdeal.defs _ _).mono (fun r h => ⟨fun c => (h c).2, sem_eq_zero_of_no_sems (by decide) r.2⟩) (Cert.DUpReferenceIdeal.Value.run (F := Ideal) m ρ)

/-- The reference `DNTwoReferenceIdeal` keeps its arguments: its run, read at them; it declares no semaphore. -/
theorem frame_DNTwoReferenceIdeal : Cert.quiescent_DNTwoReferenceIdeal := fun m ρ _ =>
  (θ_run Cert.DNTwoReferenceIdeal.defs _ _).mono (fun r h => ⟨fun c => (h c).2, sem_eq_zero_of_no_sems (by decide) r.2⟩) (Cert.DNTwoReferenceIdeal.Value.run (F := Ideal) m ρ)

/-- The reference `DMReferenceIdeal` keeps its arguments: its run, read at them; it declares no semaphore. -/
theorem frame_DMReferenceIdeal : Cert.quiescent_DMReferenceIdeal := fun m ρ _ =>
  (θ_run Cert.DMReferenceIdeal.defs _ _).mono (fun r h => ⟨fun c => (h c).2, sem_eq_zero_of_no_sems (by decide) r.2⟩) (Cert.DMReferenceIdeal.Value.run (F := Ideal) m ρ)

/-- The reference `GwOReferenceIdeal` keeps its arguments: its run, read at them; it declares no semaphore. -/
theorem frame_GwOReferenceIdeal : Cert.quiescent_GwOReferenceIdeal := fun m ρ _ =>
  (θ_run Cert.GwOReferenceIdeal.defs _ _).mono (fun r h => ⟨fun c => (h c).2.2, sem_eq_zero_of_no_sems (by decide) r.2⟩) (Cert.GwOReferenceIdeal.Value.run (F := Ideal) m ρ)

/-- The reference `DActReferenceIdeal` keeps its arguments: its run, read at them; it declares no semaphore. -/
theorem frame_DActReferenceIdeal : Cert.quiescent_DActReferenceIdeal := fun m ρ _ =>
  (θ_run Cert.DActReferenceIdeal.defs _ _).mono (fun r h => ⟨fun c => (h c).2, sem_eq_zero_of_no_sems (by decide) r.2⟩) (Cert.DActReferenceIdeal.Value.run (F := Ideal) m ρ)

/-- The reference `GwPwReferenceIdeal` keeps its arguments: its run, read at them; it declares no semaphore. -/
theorem frame_GwPwReferenceIdeal : Cert.quiescent_GwPwReferenceIdeal := fun m ρ _ =>
  (θ_run Cert.GwPwReferenceIdeal.defs _ _).mono (fun r h => ⟨fun c => (h c).2.2, sem_eq_zero_of_no_sems (by decide) r.2⟩) (Cert.GwPwReferenceIdeal.Value.run (F := Ideal) m ρ)

/-- The reference `ProjReferenceIdeal` keeps its arguments: its run, read at them; it declares no semaphore. -/
theorem frame_ProjReferenceIdeal : Cert.quiescent_ProjReferenceIdeal := fun m ρ _ =>
  (θ_run Cert.ProjReferenceIdeal.defs _ _).mono (fun r h => ⟨fun c => (h c).2, sem_eq_zero_of_no_sems (by decide) r.2⟩) (Cert.ProjReferenceIdeal.Value.run (F := Ideal) m ρ)

/-- The reference `YAReferenceIdeal` keeps its arguments: its run, read at them; it declares no semaphore. -/
theorem frame_YAReferenceIdeal : Cert.quiescent_YAReferenceIdeal := fun m ρ _ =>
  (θ_run Cert.YAReferenceIdeal.defs _ _).mono (fun r h => ⟨fun c => (h c).2, sem_eq_zero_of_no_sems (by decide) r.2⟩) (Cert.YAReferenceIdeal.Value.run (F := Ideal) m ρ)

/-- The reference `MixReferenceIdeal` keeps its arguments: its run, read at them; it declares no semaphore. -/
theorem frame_MixReferenceIdeal : Cert.quiescent_MixReferenceIdeal := fun m ρ _ =>
  (θ_run Cert.MixReferenceIdeal.defs _ _).mono (fun r h => ⟨fun c => (h c).2, sem_eq_zero_of_no_sems (by decide) r.2⟩) (Cert.MixReferenceIdeal.Value.run (F := Ideal) m ρ)

/-- The reference `UpReferenceIdeal` keeps its arguments: its run, read at them; it declares no semaphore. -/
theorem frame_UpReferenceIdeal : Cert.quiescent_UpReferenceIdeal := fun m ρ _ =>
  (θ_run Cert.UpReferenceIdeal.defs _ _).mono (fun r h => ⟨fun c => (h c).2.2, sem_eq_zero_of_no_sems (by decide) r.2⟩) (Cert.UpReferenceIdeal.Value.run (F := Ideal) m ρ)

/-- The reference `DownReferenceIdeal` keeps its arguments: its run, read at them; it declares no semaphore. -/
theorem frame_DownReferenceIdeal : Cert.quiescent_DownReferenceIdeal := fun m ρ _ =>
  (θ_run Cert.DownReferenceIdeal.defs _ _).mono (fun r h => ⟨fun c => (h c).2, sem_eq_zero_of_no_sems (by decide) r.2⟩) (Cert.DownReferenceIdeal.Value.run (F := Ideal) m ρ)

/-- The reference `GateBwdReferenceIdeal` keeps its arguments: its run, read at them; it declares no semaphore. -/
theorem frame_GateBwdReferenceIdeal : Cert.quiescent_GateBwdReferenceIdeal := fun m ρ _ =>
  (θ_run Cert.GateBwdReferenceIdeal.defs _ _).mono (fun r h => ⟨fun c => (h c).2.2.2.2, sem_eq_zero_of_no_sems (by decide) r.2⟩) (Cert.GateBwdReferenceIdeal.Value.run (F := Ideal) m ρ)

/-- The reference `GateReferenceIdeal` keeps its arguments: its run, read at them; it declares no semaphore. -/
theorem frame_GateReferenceIdeal : Cert.quiescent_GateReferenceIdeal := fun m ρ _ =>
  (θ_run Cert.GateReferenceIdeal.defs _ _).mono (fun r h => ⟨fun c => (h c).2, sem_eq_zero_of_no_sems (by decide) r.2⟩) (Cert.GateReferenceIdeal.Value.run (F := Ideal) m ρ)

/-- The reference `NormInReferenceIdeal` keeps its arguments: its run, read at them; it declares no semaphore. -/
theorem frame_NormInReferenceIdeal : Cert.quiescent_NormInReferenceIdeal := fun m ρ _ =>
  (θ_run Cert.NormInReferenceIdeal.defs _ _).mono (fun r h => ⟨fun c => (h c).2, sem_eq_zero_of_no_sems (by decide) r.2⟩) (Cert.NormInReferenceIdeal.Value.run (F := Ideal) m ρ)

/-- The reference `PostMixReferenceIdeal` keeps its arguments: its run, read at them; it declares no semaphore. -/
theorem frame_PostMixReferenceIdeal : Cert.quiescent_PostMixReferenceIdeal := fun m ρ _ =>
  (θ_run Cert.PostMixReferenceIdeal.defs _ _).mono (fun r h => ⟨fun c => (h c).2.2, sem_eq_zero_of_no_sems (by decide) r.2⟩) (Cert.PostMixReferenceIdeal.Value.run (F := Ideal) m ρ)

/-- The reference `BranchActReferenceIdeal` keeps its arguments: its run, read at them; it declares no semaphore. -/
theorem frame_BranchActReferenceIdeal : Cert.quiescent_BranchActReferenceIdeal := fun m ρ _ =>
  (θ_run Cert.BranchActReferenceIdeal.defs _ _).mono (fun r h => ⟨fun c => (h c).2.2, sem_eq_zero_of_no_sems (by decide) r.2⟩) (Cert.BranchActReferenceIdeal.Value.run (F := Ideal) m ρ)

/-- The reference `BranchBwdReferenceIdeal` keeps its arguments: its run, read at them; it declares no semaphore. -/
theorem frame_BranchBwdReferenceIdeal : Cert.quiescent_BranchBwdReferenceIdeal := fun m ρ _ =>
  (θ_run Cert.BranchBwdReferenceIdeal.defs _ _).mono (fun r h => ⟨fun c => (h c).2.2.2.2.2.2, sem_eq_zero_of_no_sems (by decide) r.2⟩) (Cert.BranchBwdReferenceIdeal.Value.run (F := Ideal) m ρ)

/-- The reference `BwdMidReferenceIdeal` keeps its arguments: its run, read at them; it declares no semaphore. -/
theorem frame_BwdMidReferenceIdeal : Cert.quiescent_BwdMidReferenceIdeal := fun m ρ _ =>
  (θ_run Cert.BwdMidReferenceIdeal.defs _ _).mono (fun r h => ⟨fun c => (h c).2.2.2.2, sem_eq_zero_of_no_sems (by decide) r.2⟩) (Cert.BwdMidReferenceIdeal.Value.run (F := Ideal) m ρ)

/-- The reference `BwdInReferenceIdeal` keeps its arguments: its run, read at them; it declares no semaphore. -/
theorem frame_BwdInReferenceIdeal : Cert.quiescent_BwdInReferenceIdeal := fun m ρ _ =>
  (θ_run Cert.BwdInReferenceIdeal.defs _ _).mono (fun r h => ⟨fun c => (h c).2.2, sem_eq_zero_of_no_sems (by decide) r.2⟩) (Cert.BwdInReferenceIdeal.Value.run (F := Ideal) m ρ)

/-- The reference `ConvFwdReferenceIdeal` keeps its arguments: its run, read at them; it declares no semaphore. -/
theorem frame_ConvFwdReferenceIdeal : Cert.quiescent_ConvFwdReferenceIdeal := fun m ρ _ =>
  (θ_run Cert.ConvFwdReferenceIdeal.defs _ _).mono (fun r h => ⟨fun c => (h c).2.2, sem_eq_zero_of_no_sems (by decide) r.2⟩) (Cert.ConvFwdReferenceIdeal.Value.run (F := Ideal) m ρ)

/-- Every claim of the certificate. -/
theorem claim : Cert.Claim := ⟨Cert.Kernel.Gen.facts, Cert.KernelIdeal.Gen.facts, Cert.ReferenceIdeal.Gen.facts, Cert.GwIn.Gen.facts, Cert.GwInIdeal.Gen.facts, Cert.GwInReferenceIdeal.Gen.facts, Cert.DN.Gen.facts, Cert.DNIdeal.Gen.facts, Cert.DNReferenceIdeal.Gen.facts, Cert.GwUp.Gen.facts, Cert.GwUpIdeal.Gen.facts, Cert.GwUpReferenceIdeal.Gen.facts, Cert.GwDown.Gen.facts, Cert.GwDownIdeal.Gen.facts, Cert.GwDownReferenceIdeal.Gen.facts, Cert.DUp.Gen.facts, Cert.DUpIdeal.Gen.facts, Cert.DUpReferenceIdeal.Gen.facts, Cert.DNTwo.Gen.facts, Cert.DNTwoIdeal.Gen.facts, Cert.DNTwoReferenceIdeal.Gen.facts, Cert.DM.Gen.facts, Cert.DMIdeal.Gen.facts, Cert.DMReferenceIdeal.Gen.facts, Cert.GwO.Gen.facts, Cert.GwOIdeal.Gen.facts, Cert.GwOReferenceIdeal.Gen.facts, Cert.DAct.Gen.facts, Cert.DActIdeal.Gen.facts, Cert.DActReferenceIdeal.Gen.facts, Cert.GwPw.Gen.facts, Cert.GwPwIdeal.Gen.facts, Cert.GwPwReferenceIdeal.Gen.facts, Cert.Proj.Gen.facts, Cert.ProjIdeal.Gen.facts, Cert.ProjReferenceIdeal.Gen.facts, Cert.YA.Gen.facts, Cert.YAIdeal.Gen.facts, Cert.YAReferenceIdeal.Gen.facts, Cert.Mix.Gen.facts, Cert.MixIdeal.Gen.facts, Cert.MixReferenceIdeal.Gen.facts, Cert.Up.Gen.facts, Cert.UpIdeal.Gen.facts, Cert.UpReferenceIdeal.Gen.facts, Cert.Down.Gen.facts, Cert.DownIdeal.Gen.facts, Cert.DownReferenceIdeal.Gen.facts, Cert.GateBwd.Gen.facts, Cert.GateBwdIdeal.Gen.facts, Cert.GateBwdReferenceIdeal.Gen.facts, Cert.Gate.Gen.facts, Cert.GateIdeal.Gen.facts, Cert.GateReferenceIdeal.Gen.facts, Cert.NormIn.Gen.facts, Cert.NormInIdeal.Gen.facts, Cert.NormInReferenceIdeal.Gen.facts, Cert.PostMix.Gen.facts, Cert.PostMixIdeal.Gen.facts, Cert.PostMixReferenceIdeal.Gen.facts, Cert.BranchAct.Gen.facts, Cert.BranchActIdeal.Gen.facts, Cert.BranchActReferenceIdeal.Gen.facts, Cert.BranchBwd.Gen.facts, Cert.BranchBwdIdeal.Gen.facts, Cert.BranchBwdReferenceIdeal.Gen.facts, Cert.BwdMid.Gen.facts, Cert.BwdMidIdeal.Gen.facts, Cert.BwdMidReferenceIdeal.Gen.facts, Cert.BwdIn.Gen.facts, Cert.BwdInIdeal.Gen.facts, Cert.BwdInReferenceIdeal.Gen.facts, Cert.ConvFwd.Gen.facts, Cert.ConvFwdIdeal.Gen.facts, Cert.ConvFwdReferenceIdeal.Gen.facts, Cert.Pre_finite_rows.facts,
  fun m ρ _ => Cert.Kernel.Gen.frame m ρ,
  fun m ρ _ => Cert.KernelIdeal.Gen.frame m ρ,
  frame_ReferenceIdeal,
  fun m ρ _ => Cert.GwIn.Gen.frame m ρ,
  fun m ρ _ => Cert.GwInIdeal.Gen.frame m ρ,
  frame_GwInReferenceIdeal,
  fun m ρ _ => Cert.DN.Gen.frame m ρ,
  fun m ρ _ => Cert.DNIdeal.Gen.frame m ρ,
  frame_DNReferenceIdeal,
  fun m ρ _ => Cert.GwUp.Gen.frame m ρ,
  fun m ρ _ => Cert.GwUpIdeal.Gen.frame m ρ,
  frame_GwUpReferenceIdeal,
  fun m ρ _ => Cert.GwDown.Gen.frame m ρ,
  fun m ρ _ => Cert.GwDownIdeal.Gen.frame m ρ,
  frame_GwDownReferenceIdeal,
  fun m ρ _ => Cert.DUp.Gen.frame m ρ,
  fun m ρ _ => Cert.DUpIdeal.Gen.frame m ρ,
  frame_DUpReferenceIdeal,
  fun m ρ _ => Cert.DNTwo.Gen.frame m ρ,
  fun m ρ _ => Cert.DNTwoIdeal.Gen.frame m ρ,
  frame_DNTwoReferenceIdeal,
  fun m ρ _ => Cert.DM.Gen.frame m ρ,
  fun m ρ _ => Cert.DMIdeal.Gen.frame m ρ,
  frame_DMReferenceIdeal,
  fun m ρ _ => Cert.GwO.Gen.frame m ρ,
  fun m ρ _ => Cert.GwOIdeal.Gen.frame m ρ,
  frame_GwOReferenceIdeal,
  fun m ρ _ => Cert.DAct.Gen.frame m ρ,
  fun m ρ _ => Cert.DActIdeal.Gen.frame m ρ,
  frame_DActReferenceIdeal,
  fun m ρ _ => Cert.GwPw.Gen.frame m ρ,
  fun m ρ _ => Cert.GwPwIdeal.Gen.frame m ρ,
  frame_GwPwReferenceIdeal,
  fun m ρ _ => Cert.Proj.Gen.frame m ρ,
  fun m ρ _ => Cert.ProjIdeal.Gen.frame m ρ,
  frame_ProjReferenceIdeal,
  fun m ρ _ => Cert.YA.Gen.frame m ρ,
  fun m ρ _ => Cert.YAIdeal.Gen.frame m ρ,
  frame_YAReferenceIdeal,
  fun m ρ _ => Cert.Mix.Gen.frame m ρ,
  fun m ρ _ => Cert.MixIdeal.Gen.frame m ρ,
  frame_MixReferenceIdeal,
  fun m ρ _ => Cert.Up.Gen.frame m ρ,
  fun m ρ _ => Cert.UpIdeal.Gen.frame m ρ,
  frame_UpReferenceIdeal,
  fun m ρ _ => Cert.Down.Gen.frame m ρ,
  fun m ρ _ => Cert.DownIdeal.Gen.frame m ρ,
  frame_DownReferenceIdeal,
  fun m ρ _ => Cert.GateBwd.Gen.frame m ρ,
  fun m ρ _ => Cert.GateBwdIdeal.Gen.frame m ρ,
  frame_GateBwdReferenceIdeal,
  fun m ρ _ => Cert.Gate.Gen.frame m ρ,
  fun m ρ _ => Cert.GateIdeal.Gen.frame m ρ,
  frame_GateReferenceIdeal,
  fun m ρ _ => Cert.NormIn.Gen.frame m ρ,
  fun m ρ _ => Cert.NormInIdeal.Gen.frame m ρ,
  frame_NormInReferenceIdeal,
  fun m ρ _ => Cert.PostMix.Gen.frame m ρ,
  fun m ρ _ => Cert.PostMixIdeal.Gen.frame m ρ,
  frame_PostMixReferenceIdeal,
  fun m ρ _ => Cert.BranchAct.Gen.frame m ρ,
  fun m ρ _ => Cert.BranchActIdeal.Gen.frame m ρ,
  frame_BranchActReferenceIdeal,
  fun m ρ _ => Cert.BranchBwd.Gen.frame m ρ,
  fun m ρ _ => Cert.BranchBwdIdeal.Gen.frame m ρ,
  fun m ρ _ => Cert.BranchBwdIdeal.Gen.frame m ρ,
  frame_BranchBwdReferenceIdeal,
  fun m ρ _ => frame_BranchBwdReferenceIdeal m ρ trivial,
  fun m ρ _ => Cert.BwdMid.Gen.frame m ρ,
  fun m ρ _ => Cert.BwdMidIdeal.Gen.frame m ρ,
  frame_BwdMidReferenceIdeal,
  fun m ρ _ => Cert.BwdIn.Gen.frame m ρ,
  fun m ρ _ => Cert.BwdInIdeal.Gen.frame m ρ,
  frame_BwdInReferenceIdeal,
  fun m ρ _ => Cert.ConvFwd.Gen.frame m ρ,
  fun m ρ _ => Cert.ConvFwdIdeal.Gen.frame m ρ,
  frame_ConvFwdReferenceIdeal,
  trivial,
  Cert.ConvEq.algebraic,
  trivial,
  Cert.GwInEq.algebraic,
  trivial,
  Cert.DNEq.algebraic,
  trivial,
  Cert.GwUpEq.algebraic,
  trivial,
  Cert.GwDownEq.algebraic,
  trivial,
  Cert.DUpEq.algebraic,
  trivial,
  Cert.DNTwoEq.algebraic,
  trivial,
  Cert.DMEq.algebraic,
  trivial,
  Cert.GwOEq.algebraic,
  trivial,
  Cert.DActEq.algebraic,
  trivial,
  Cert.GwPwEq.algebraic,
  trivial,
  Cert.ProjEq.algebraic,
  trivial,
  Cert.YAEq.algebraic,
  trivial,
  Cert.MixEq.algebraic,
  trivial,
  Cert.UpEq.algebraic,
  trivial,
  Cert.DownEq.algebraic,
  trivial,
  Cert.GateBwdEq.algebraic,
  trivial,
  Cert.GateEq.algebraic,
  trivial,
  Cert.NormInEq.algebraic,
  trivial,
  Cert.PostMixEq.algebraic,
  trivial,
  Cert.BranchActEq.algebraic,
  trivial,
  Cert.BranchBwdEq.algebraic,
  trivial,
  Cert.BwdMidEq.algebraic,
  trivial,
  Cert.BwdInEq.algebraic,
  trivial,
  Cert.ConvFwdEq.algebraic⟩

end Cert.Proof

end
